-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite21 [hPre_finite21 : Cert.Pre_finite21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).1 = (fun _ => 1#1)
    ∧ (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2.1 = (fun _ => 1#1)
    ∧ (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2.2.1 = (fun _ => 1#1)
    ∧ (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2.2.2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite21 [hPre_finite21 : Cert.Pre_finite21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).1 = (fun _ => 1#1)
    ∧ (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2.1 = (fun _ => 1#1)
    ∧ (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2.2.1 = (fun _ => 1#1)
    ∧ (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Kernel21Ideal_pre_finite21 [hKernel21Ideal : Cert.Kernel21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite21 m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Reference21Ideal_pre_finite21 [hReference21Ideal : Cert.Reference21Ideal.Facts] [hPre_finite21 : Cert.Pre_finite21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  IdealRules.named_const.Statement Cert.Kernel20Ideal.κ "log2e" .f32 0x3FB8AA3B#32 (((Real.log 2)⁻¹ : ℝ) : EReal)
  ∧ IdealRules.named_const.Statement Cert.Kernel20Ideal.κ "log2e_scale" .f32 0x3E0293EE#32 (((Real.log 2)⁻¹ * (Real.sqrt 128)⁻¹ : ℝ) : EReal)
  ∧ IdealRules.named_const.Statement Cert.Kernel20Ideal.κ "mask" .f32 0xF149F2CA#32 ⊥

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v43) = v0 c
          ∧ r.2.mem ((c.tc : Thread Cert.Reference20Ideal.nD Cert.Reference20Ideal.τ).loc Cert.Reference20Ideal.main_v48) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  IdealRules.named_const.Statement Cert.Kernel21Ideal.κ "log2e" .f32 0x3FB8AA3B#32 (((Real.log 2)⁻¹ : ℝ) : EReal)
  ∧ IdealRules.named_const.Statement Cert.Kernel21Ideal.κ "log2e_scale" .f32 0x3E0293EE#32 (((Real.log 2)⁻¹ * (Real.sqrt 128)⁻¹ : ℝ) : EReal)
  ∧ IdealRules.named_const.Statement Cert.Kernel21Ideal.κ "mask" .f32 0xF149F2CA#32 ⊥
  ∧ IdealRules.named_const.Statement Cert.Kernel21Ideal.κ "scale" .f32 0x3DB504F3#32 (((Real.sqrt 128)⁻¹ : ℝ) : EReal)

def algebraic_Kernel21Ideal_Reference21Ideal_pre_finite21 [hKernel21Ideal : Cert.Kernel21Ideal.Facts] [hReference21Ideal : Cert.Reference21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite21 m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v54_0)) (v1 : (c : Dev Cert.Kernel21Ideal.nD) → Buf (Elt Ideal) ((c.tc : Thread Cert.Kernel21Ideal.nD Cert.Kernel21Ideal.τ).loc Cert.Kernel21Ideal.main_v54_1)) (v2 : (c : Dev Cert.Kernel21Ideal.nD) → Buf (Elt Ideal) ((c.tc : Thread Cert.Kernel21Ideal.nD Cert.Kernel21Ideal.τ).loc Cert.Kernel21Ideal.main_v54_2)) (v3 : (c : Dev Cert.Kernel21Ideal.nD) → Buf (Elt Ideal) ((c.tc : Thread Cert.Kernel21Ideal.nD Cert.Kernel21Ideal.τ).loc Cert.Kernel21Ideal.main_v54_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v54_0) = v0 c
          ∧ r.2.mem ((c.tc : Thread Cert.Kernel21Ideal.nD Cert.Kernel21Ideal.τ).loc Cert.Kernel21Ideal.main_v54_1) = v1 c
          ∧ r.2.mem ((c.tc : Thread Cert.Kernel21Ideal.nD Cert.Kernel21Ideal.τ).loc Cert.Kernel21Ideal.main_v54_2) = v2 c
          ∧ r.2.mem ((c.tc : Thread Cert.Kernel21Ideal.nD Cert.Kernel21Ideal.τ).loc Cert.Kernel21Ideal.main_v54_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v108) = v0 c
          ∧ r.2.mem ((c.tc : Thread Cert.Reference21Ideal.nD Cert.Reference21Ideal.τ).loc Cert.Reference21Ideal.main_v109) = v1 c
          ∧ r.2.mem ((c.tc : Thread Cert.Reference21Ideal.nD Cert.Reference21Ideal.τ).loc Cert.Reference21Ideal.main_v89) = v2 c
          ∧ r.2.mem ((c.tc : Thread Cert.Reference21Ideal.nD Cert.Reference21Ideal.τ).loc Cert.Reference21Ideal.main_v87) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite20 : Cert.Pre_finite20.Facts) (hPre_finite21 : Cert.Pre_finite21.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Kernel21Ideal_pre_finite21 (hKernel21Ideal := hKernel21Ideal) (hPre_finite21 := hPre_finite21)
    ∧ quiescent_Reference21Ideal (hReference21Ideal := hReference21Ideal)
    ∧ quiescent_Reference21Ideal_pre_finite21 (hReference21Ideal := hReference21Ideal) (hPre_finite21 := hPre_finite21)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal_pre_finite21 (hKernel21Ideal := hKernel21Ideal) (hReference21Ideal := hReference21Ideal) (hPre_finite21 := hPre_finite21)
-- ==== Pre_finite.lean ====
abbrev S8320x13312 : Shape := ⟨2, ![8320, 13312]⟩
abbrev S8320x512 : Shape := ⟨2, ![8320, 512]⟩
abbrev S1x1024 : Shape := ⟨2, ![1, 1024]⟩
abbrev S8320x1024 : Shape := ⟨2, ![8320, 1024]⟩
abbrev S8320x16384 : Shape := ⟨2, ![8320, 16384]⟩
abbrev S8320x3072 : Shape := ⟨2, ![8320, 3072]⟩
abbrev S_ : Shape := ⟨0, ![]⟩

class Facts : Prop where
  slices_S8320x13312_S8320x3072_0_3072 : S8320x13312.Slices ![0, 3072] S8320x3072
  bcast_S_S8320x3072 : S_.BroadcastsInDim S8320x3072 (![] : Fin 0 → Fin S8320x3072.rank)
  bcast_S_S8320x512 : S_.BroadcastsInDim S8320x512 (![] : Fin 0 → Fin S8320x512.rank)
  bcast_S_S1x1024 : S_.BroadcastsInDim S1x1024 (![] : Fin 0 → Fin S1x1024.rank)
  bcast_S_S8320x1024 : S_.BroadcastsInDim S8320x1024 (![] : Fin 0 → Fin S8320x1024.rank)

variable [Facts]

def fn {F : FTy → Type} [FloatOps F] (main_arg0 : FVec F S8320x13312 .f32) (main_arg1 : FVec F S8320x512 .f32) (main_arg2 : FVec F S1x1024 .f32) (main_arg3 : FVec F S8320x1024 .f32) (main_arg4 : FVec F S8320x16384 .bf16) : IVec S8320x3072 1 × IVec S8320x512 1 × IVec S1x1024 1 × IVec S8320x1024 1 :=
  let main_v0 : FVec F S8320x3072 .f32 := (extractStridedSlice S8320x3072 ![0, 3072] · slices_S8320x13312_S8320x3072_0_3072) main_arg0
  let main_v1 : FVec F S8320x3072 .f32 := Host.absf main_v0
  let main_cst : FVec F S_ .f32 := constant S_ .f32 0x7F800000#32
  let main_v2 : FVec F S8320x3072 .f32 := broadcastInDim S8320x3072 ![] bcast_S_S8320x3072 main_cst
  let main_v3 : IVec S8320x3072 1 := cmpf .olt main_v1 main_v2
  let main_v4 : FVec F S8320x512 .f32 := Host.absf main_arg1
  let main_cst_0 : FVec F S_ .f32 := constant S_ .f32 0x7F800000#32
  let main_v5 : FVec F S8320x512 .f32 := broadcastInDim S8320x512 ![] bcast_S_S8320x512 main_cst_0
  let main_v6 : IVec S8320x512 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S8320x1024 .f32 := Host.absf main_arg3
  let main_cst_2 : FVec F S_ .f32 := constant S_ .f32 0x7F800000#32
  let main_v11 : FVec F S8320x1024 .f32 := broadcastInDim S8320x1024 ![] bcast_S_S8320x1024 main_cst_2
  let main_v12 : IVec S8320x1024 1 := cmpf .olt main_v10 main_v11
  (main_v3, main_v6, main_v9, main_v12)
-- ==== Pre_finite20.lean ====
abbrev S8320x3072 : Shape := ⟨2, ![8320, 3072]⟩
abbrev S8x8320x1 : Shape := ⟨3, ![8, 8320, 1]⟩
abbrev S8x1x8320 : Shape := ⟨3, ![8, 1, 8320]⟩
abbrev S_ : Shape := ⟨0, ![]⟩

class Facts : Prop where
  bcast_S_S8320x3072 : S_.BroadcastsInDim S8320x3072 (![] : Fin 0 → Fin S8320x3072.rank)
  bcast_S_S8x8320x1 : S_.BroadcastsInDim S8x8320x1 (![] : Fin 0 → Fin S8x8320x1.rank)
  bcast_S_S8x1x8320 : S_.BroadcastsInDim S8x1x8320 (![] : Fin 0 → Fin S8x1x8320.rank)

variable [Facts]

def fn {F : FTy → Type} [FloatOps F] (main_arg0 : FVec F S8320x3072 .bf16) (main_arg1 : FVec F S8x8320x1 .f32) (main_arg2 : FVec F S8x1x8320 .f32) : IVec S8320x3072 1 × IVec S8x8320x1 1 × IVec S8x1x8320 1 :=
  let main_v0 : FVec F S8320x3072 .bf16 := Host.absf main_arg0
  let main_cst : FVec F S_ .bf16 := constant S_ .bf16 0x7F80#16
  let main_v1 : FVec F S8320x3072 .bf16 := broadcastInDim S8320x3072 ![] bcast_S_S8320x3072 main_cst
  let main_v2 : IVec S8320x3072 1 := cmpf .olt main_v0 main_v1
  let main_v3 : FVec F S8x8320x1 .f32 := Host.absf main_arg1
  let main_cst_0 : FVec F S_ .f32 := constant S_ .f32 0x7F800000#32
  let main_v4 : FVec F S8x8320x1 .f32 := broadcastInDim S8x8320x1 ![] bcast_S_S8x8320x1 main_cst_0
  let main_v5 : IVec S8x8320x1 1 := cmpf .olt main_v3 main_v4
  let main_v6 : FVec F S8x1x8320 .f32 := Host.absf main_arg2
  let main_cst_1 : FVec F S_ .f32 := constant S_ .f32 0x7F800000#32
  let main_v7 : FVec F S8x1x8320 .f32 := broadcastInDim S8x1x8320 ![] bcast_S_S8x1x8320 main_cst_1
  let main_v8 : IVec S8x1x8320 1 := cmpf .olt main_v6 main_v7
  (main_v2, main_v5, main_v8)
-- ==== Pre_finite21.lean ====
abbrev S8320x3072 : Shape := ⟨2, ![8320, 3072]⟩
abbrev S8x8320x1 : Shape := ⟨3, ![8, 8320, 1]⟩
abbrev S8x1x8320 : Shape := ⟨3, ![8, 1, 8320]⟩
abbrev S8320x1024 : Shape := ⟨2, ![8320, 1024]⟩
abbrev S_ : Shape := ⟨0, ![]⟩

class Facts : Prop where
  bcast_S_S8320x3072 : S_.BroadcastsInDim S8320x3072 (![] : Fin 0 → Fin S8320x3072.rank)
  bcast_S_S8x8320x1 : S_.BroadcastsInDim S8x8320x1 (![] : Fin 0 → Fin S8x8320x1.rank)
  bcast_S_S8x1x8320 : S_.BroadcastsInDim S8x1x8320 (![] : Fin 0 → Fin S8x1x8320.rank)
  bcast_S_S8320x1024 : S_.BroadcastsInDim S8320x1024 (![] : Fin 0 → Fin S8320x1024.rank)

variable [Facts]

def fn {F : FTy → Type} [FloatOps F] (main_arg0 : FVec F S8320x3072 .bf16) (main_arg1 : FVec F S8x8320x1 .f32) (main_arg2 : FVec F S8x1x8320 .f32) (main_arg3 : FVec F S8320x1024 .bf16) : IVec S8320x3072 1 × IVec S8x8320x1 1 × IVec S8x1x8320 1 × IVec S8320x1024 1 :=
  let main_v0 : FVec F S8320x3072 .bf16 := Host.absf main_arg0
  let main_cst : FVec F S_ .bf16 := constant S_ .bf16 0x7F80#16
  let main_v1 : FVec F S8320x3072 .bf16 := broadcastInDim S8320x3072 ![] bcast_S_S8320x3072 main_cst
  let main_v2 : IVec S8320x3072 1 := cmpf .olt main_v0 main_v1
  let main_v3 : FVec F S8x8320x1 .f32 := Host.absf main_arg1
  let main_cst_0 : FVec F S_ .f32 := constant S_ .f32 0x7F800000#32
  let main_v4 : FVec F S8x8320x1 .f32 := broadcastInDim S8x8320x1 ![] bcast_S_S8x8320x1 main_cst_0
  let main_v5 : IVec S8x8320x1 1 := cmpf .olt main_v3 main_v4
  let main_v6 : FVec F S8x1x8320 .f32 := Host.absf main_arg2
  let main_cst_1 : FVec F S_ .f32 := constant S_ .f32 0x7F800000#32
  let main_v7 : FVec F S8x1x8320 .f32 := broadcastInDim S8x1x8320 ![] bcast_S_S8x1x8320 main_cst_1
  let main_v8 : IVec S8x1x8320 1 := cmpf .olt main_v6 main_v7
  let main_v9 : FVec F S8320x1024 .bf16 := Host.absf main_arg3
  let main_cst_2 : FVec F S_ .bf16 := constant S_ .bf16 0x7F80#16
  let main_v10 : FVec F S8320x1024 .bf16 := broadcastInDim S8320x1024 ![] bcast_S_S8320x1024 main_cst_2
  let main_v11 : IVec S8320x1024 1 := cmpf .olt main_v9 main_v10
  (main_v2, main_v5, main_v8, main_v11)
-- ==== Kernel.lean ====
abbrev S8320x13312 : Shape := ⟨2, ![8320, 13312]⟩
abbrev S8320x512 : Shape := ⟨2, ![8320, 512]⟩
abbrev S1x1024 : Shape := ⟨2, ![1, 1024]⟩
abbrev S8320x1024 : Shape := ⟨2, ![8320, 1024]⟩
abbrev S8320x16384 : Shape := ⟨2, ![8320, 16384]⟩
abbrev S8320x3072 : Shape := ⟨2, ![8320, 3072]⟩
abbrev S8320x4x768 : Shape := ⟨3, ![8320, 4, 768]⟩
abbrev S8320x4x128 : Shape := ⟨3, ![8320, 4, 128]⟩
abbrev S_ : Shape := ⟨0, ![]⟩
abbrev S8320x4x256 : Shape := ⟨3, ![8320, 4, 256]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S8320x8320x1x1 : Shape := ⟨4, ![8320, 8320, 1, 1]⟩
abbrev S8320x1x4x128 : Shape := ⟨4, ![8320, 1, 4, 128]⟩
abbrev S1x8320x4x128 : Shape := ⟨4, ![1, 8320, 4, 128]⟩
abbrev S8320x8320x4x128 : Shape := ⟨4, ![8320, 8320, 4, 128]⟩
abbrev S8320x8320x4 : Shape := ⟨3, ![8320, 8320, 4]⟩
abbrev S4x8320x256 : Shape := ⟨3, ![4, 8320, 256]⟩
abbrev S65 : Shape := ⟨1, ![65]⟩
abbrev S65x1 : Shape := ⟨2, ![65, 1]⟩
abbrev S65x8320 : Shape := ⟨2, ![65, 8320]⟩
abbrev S65x8320x1x1 : Shape := ⟨4, ![65, 8320, 1, 1]⟩
abbrev S1x4x128 : Shape := ⟨3, ![1, 4, 128]⟩
abbrev S64x4x128 : Shape := ⟨3, ![64, 4, 128]⟩
abbrev S65x4x128 : Shape := ⟨3, ![65, 4, 128]⟩
abbrev S65x1x4x128 : Shape := ⟨4, ![65, 1, 4, 128]⟩
abbrev S65x8320x4x128 : Shape := ⟨4, ![65, 8320, 4, 128]⟩
abbrev S4x256x65x128 : Shape := ⟨4, ![4, 256, 65, 128]⟩
abbrev S4x65x256x128 : Shape := ⟨4, ![4, 65, 256, 128]⟩
abbrev S128x3072 : Shape := ⟨2, ![128, 3072]⟩
abbrev S128x512 : Shape := ⟨2, ![128, 512]⟩
abbrev S4x1x256x128 : Shape := ⟨4, ![4, 1, 256, 128]⟩
abbrev S128x1024 : Shape := ⟨2, ![128, 1024]⟩
abbrev S4x256x128 : Shape := ⟨3, ![4, 256, 128]⟩
abbrev S128x768 : Shape := ⟨2, ![128, 768]⟩
abbrev S128x128 : Shape := ⟨2, ![128, 128]⟩
abbrev S128x256 : Shape := ⟨2, ![128, 256]⟩
abbrev S1x128 : Shape := ⟨2, ![1, 128]⟩
abbrev S1x1x256x128 : Shape := ⟨4, ![1, 1, 256, 128]⟩
abbrev S256x128 : Shape := ⟨2, ![256, 128]⟩
abbrev S1x256x128 : Shape := ⟨3, ![1, 256, 128]⟩
abbrev S1x256 : Shape := ⟨2, ![1, 256]⟩
abbrev S128 : Shape := ⟨1, ![128]⟩
abbrev S128x1 : Shape := ⟨2, ![128, 1]⟩
abbrev S256 : Shape := ⟨1, ![256]⟩

abbrev nBuf : Space → Nat
  | .hbm => 79
  | .vmem => 17
  | .smem => 0
  | _ => 0

abbrev bufTy : (tb : Table) → Fin (tcTables nBuf tb) → BufTy
  | .hbm, ⟨0, _⟩ => ⟨S8320x13312, .f32⟩
  | .hbm, ⟨1, _⟩ => ⟨S8320x512, .f32⟩
  | .hbm, ⟨2, _⟩ => ⟨S1x1024, .f32⟩
  | .hbm, ⟨3, _⟩ => ⟨S8320x1024, .f32⟩
  | .hbm, ⟨4, _⟩ => ⟨S8320x16384, .bf16⟩
  | .hbm, ⟨5, _⟩ => ⟨S8320x3072, .f32⟩
  | .hbm, ⟨6, _⟩ => ⟨S8320x4x768, .f32⟩
  | .hbm, ⟨7, _⟩ => ⟨S8320x4x128, .f32⟩
  | .hbm, ⟨8, _⟩ => ⟨S_, .f32⟩
  | .hbm, ⟨9, _⟩ => ⟨S8320x4x128, .f32⟩
  | .hbm, ⟨10, _⟩ => ⟨S8320x4x128, .f32⟩
  | .hbm, ⟨11, _⟩ => ⟨S8320x4x128, .f32⟩
  | .hbm, ⟨12, _⟩ => ⟨S8320x4x256, .f32⟩
  | .hbm, ⟨13, _⟩ => ⟨S_, .f32⟩
  | .hbm, ⟨14, _⟩ => ⟨S_, .f32⟩
  | .hbm, ⟨15, _⟩ => ⟨S8320x512, .f32⟩
  | .hbm, ⟨16, _⟩ => ⟨S8320x4x128, .f32⟩
  | .hbm, ⟨17, _⟩ => ⟨S8320, .i32⟩
  | .hbm, ⟨18, _⟩ => ⟨S1x8320, .i32⟩
  | .hbm, ⟨19, _⟩ => ⟨S8320x1, .i32⟩
  | .hbm, ⟨20, _⟩ => ⟨S8320x8320, .i32⟩
  | .hbm, ⟨21, _⟩ => ⟨S8320x8320, .i32⟩
  | .hbm, ⟨22, _⟩ => ⟨S8320x8320, .i1⟩
  | .hbm, ⟨23, _⟩ => ⟨S8320x8320x1x1, .i1⟩
  | .hbm, ⟨24, _⟩ => ⟨S8320x1x4x128, .f32⟩
  | .hbm, ⟨25, _⟩ => ⟨S1x8320x4x128, .f32⟩
  | .hbm, ⟨26, _⟩ => ⟨S8320x8320x4x128, .f32⟩
  | .hbm, ⟨27, _⟩ => ⟨S8320x8320x4x128, .f32⟩
  | .hbm, ⟨28, _⟩ => ⟨S8320x8320x4x128, .f32⟩
  | .hbm, ⟨29, _⟩ => ⟨S_, .f32⟩
  | .hbm, ⟨30, _⟩ => ⟨S_, .f32⟩
  | .hbm, ⟨31, _⟩ => ⟨S8320x8320x4x128, .i1⟩
  | .hbm, ⟨32, _⟩ => ⟨S8320x8320x4x128, .f32⟩
  | .hbm, ⟨33, _⟩ => ⟨S8320x8320x4x128, .f32⟩
  | .hbm, ⟨34, _⟩ => ⟨S8320x8320x4x128, .f32⟩
  | .hbm, ⟨35, _⟩ => ⟨S8320x1x4x128, .f32⟩
  | .hbm, ⟨36, _⟩ => ⟨S1x8320x4x128, .f32⟩
  | .hbm, ⟨37, _⟩ => ⟨S8320x8320x4x128, .f32⟩
  | .hbm, ⟨38, _⟩ => ⟨S8320x8320x4x128, .f32⟩
  | .hbm, ⟨39, _⟩ => ⟨S8320x8320x4x128, .f32⟩
  | .hbm, ⟨40, _⟩ => ⟨S8320x8320x4x128, .f32⟩
  | .hbm, ⟨41, _⟩ => ⟨S_, .f32⟩
  | .hbm, ⟨42, _⟩ => ⟨S8320x8320x4, .f32⟩
  | .hbm, ⟨43, _⟩ => ⟨S4x8320x256, .f32⟩
  | .hbm, ⟨44, _⟩ => ⟨S8320x4x256, .f32⟩
  | .hbm, ⟨45, _⟩ => ⟨S65, .i32⟩
  | .hbm, ⟨46, _⟩ => ⟨S1x8320, .i32⟩
  | .hbm, ⟨47, _⟩ => ⟨S65x1, .i32⟩
  | .hbm, ⟨48, _⟩ => ⟨S_, .i32⟩
  | .hbm, ⟨49, _⟩ => ⟨S65x1, .i32⟩
  | .hbm, ⟨50, _⟩ => ⟨S65x1, .i32⟩
  | .hbm, ⟨51, _⟩ => ⟨S65x8320, .i32⟩
  | .hbm, ⟨52, _⟩ => ⟨S65x8320, .i32⟩
  | .hbm, ⟨53, _⟩ => ⟨S65x8320, .i1⟩
  | .hbm, ⟨54, _⟩ => ⟨S65x8320x1x1, .i1⟩
  | .hbm, ⟨55, _⟩ => ⟨S_, .f32⟩
  | .hbm, ⟨56, _⟩ => ⟨S1x4x128, .f32⟩
  | .hbm, ⟨57, _⟩ => ⟨S64x4x128, .f32⟩
  | .hbm, ⟨58, _⟩ => ⟨S65x4x128, .f32⟩
  | .hbm, ⟨59, _⟩ => ⟨S65x1x4x128, .f32⟩
  | .hbm, ⟨60, _⟩ => ⟨S1x8320x4x128, .f32⟩
  | .hbm, ⟨61, _⟩ => ⟨S65x8320x4x128, .f32⟩
  | .hbm, ⟨62, _⟩ => ⟨S65x8320x4x128, .f32⟩
  | .hbm, ⟨63, _⟩ => ⟨S65x8320x4x128, .f32⟩
  | .hbm, ⟨64, _⟩ => ⟨S_, .f32⟩
  | .hbm, ⟨65, _⟩ => ⟨S_, .f32⟩
  | .hbm, ⟨66, _⟩ => ⟨S65x8320x4x128, .i1⟩
  | .hbm, ⟨67, _⟩ => ⟨S65x8320x4x128, .f32⟩
  | .hbm, ⟨68, _⟩ => ⟨S65x8320x4x128, .f32⟩
  | .hbm, ⟨69, _⟩ => ⟨S65x8320x4x128, .f32⟩
  | .hbm, ⟨70, _⟩ => ⟨S1x8320x4x128, .f32⟩
  | .hbm, ⟨71, _⟩ => ⟨S65x8320x4x128, .f32⟩
  | .hbm, ⟨72, _⟩ => ⟨S65x8320x4x128, .f32⟩
  | .hbm, ⟨73, _⟩ => ⟨S4x256x65x128, .f32⟩
  | .hbm, ⟨74, _⟩ => ⟨S4x65x256x128, .f32⟩
  | .hbm, ⟨75, _⟩ => ⟨S8320x1024, .f32⟩
  | .hbm, ⟨76, _⟩ => ⟨S8320x16384, .bf16⟩
  | .hbm, ⟨77, _⟩ => ⟨S8320x512, .f32⟩
  | .hbm, ⟨78, _⟩ => ⟨S1x1024, .f32⟩
  | .local _ .vmem, ⟨0, _⟩ => ⟨S128x3072, .f32⟩
  | .local _ .vmem, ⟨1, _⟩ => ⟨S128x3072, .f32⟩
  | .local _ .vmem, ⟨2, _⟩ => ⟨S128x512, .f32⟩
  | .local _ .vmem, ⟨3, _⟩ => ⟨S128x512, .f32⟩
  | .local _ .vmem, ⟨4, _⟩ => ⟨S4x1x256x128, .f32⟩
  | .local _ .vmem, ⟨5, _⟩ => ⟨S4x1x256x128, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x1024, .f32⟩
  | .local _ .vmem, ⟨11, _⟩ => ⟨S128x3072, .bf16⟩
  | .local _ .vmem, ⟨12, _⟩ => ⟨S128x3072, .bf16⟩
  | .local _ .vmem, ⟨13, _⟩ => ⟨S128x512, .f32⟩
  | .local _ .vmem, ⟨14, _⟩ => ⟨S128x512, .f32⟩
  | .local _ .vmem, ⟨15, _⟩ => ⟨S1x1024, .f32⟩
  | .local _ .vmem, ⟨16, _⟩ => ⟨S4x256x128, .f32⟩
  | _, _ => ⟨S8320x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_call0_cst : Ref sig .tc := ⟨.hbm, 13, rfl⟩
abbrev main_call0_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c64_i32 : BitVec 32 := 64#32
  let v0 : BitVec 32 := Scalar.subi c64_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c64_i32 : BitVec 32 := 64#32
  let v0 : BitVec 32 := Scalar.subi c64_i32 arg0
  let c2_i32 : BitVec 32 := 2#32
  let c0_i32 : BitVec 32 := 0#32
  ![v0.toNat, c2_i32.toNat]

def cc0_transform_8 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8320x13312 : Shape := ⟨2, ![8320, 13312]⟩
abbrev S8320x512 : Shape := ⟨2, ![8320, 512]⟩
abbrev S1x1024 : Shape := ⟨2, ![1, 1024]⟩
abbrev S8320x1024 : Shape := ⟨2, ![8320, 1024]⟩
abbrev S8320x16384 : Shape := ⟨2, ![8320, 16384]⟩
abbrev S8320x3072 : Shape := ⟨2, ![8320, 3072]⟩
abbrev S8320x4x768 : Shape := ⟨3, ![8320, 4, 768]⟩
abbrev S8320x4x128 : Shape := ⟨3, ![8320, 4, 128]⟩
abbrev S8320x4x256 : Shape := ⟨3, ![8320, 4, 256]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S8320x8320x1x1 : Shape := ⟨4, ![8320, 8320, 1, 1]⟩
abbrev S8320x1x4x128 : Shape := ⟨4, ![8320, 1, 4, 128]⟩
abbrev S1x8320x4x128 : Shape := ⟨4, ![1, 8320, 4, 128]⟩
abbrev S8320x8320x4x128 : Shape := ⟨4, ![8320, 8320, 4, 128]⟩
abbrev S8320x8320x4 : Shape := ⟨3, ![8320, 8320, 4]⟩
abbrev S4x8320x256 : Shape := ⟨3, ![4, 8320, 256]⟩
abbrev S8320x4 : Shape := ⟨2, ![8320, 4]⟩
abbrev S8320x4x1 : Shape := ⟨3, ![8320, 4, 1]⟩
abbrev S4x256 : Shape := ⟨2, ![4, 256]⟩
abbrev S1x4x256 : Shape := ⟨3, ![1, 4, 256]⟩
abbrev S4x256x8320 : Shape := ⟨3, ![4, 256, 8320]⟩
abbrev S4x8320x8320 : Shape := ⟨3, ![4, 8320, 8320]⟩
abbrev S8320x6144 : Shape := ⟨2, ![8320, 6144]⟩
abbrev S8320x7168 : Shape := ⟨2, ![8320, 7168]⟩

abbrev nBuf : Space → Nat
  | .hbm => 170
  | .vmem => 0
  | .smem => 0
  | _ => 0

abbrev hbmTy0_0 (i : Nat) : BufTy := match i % 128 with
  | 0 => ⟨S8320x13312, .f32⟩
  | 1 => ⟨S8320x512, .f32⟩
  | 2 => ⟨S1x1024, .f32⟩
  | 3 => ⟨S8320x1024, .f32⟩
  | 4 => ⟨S8320x16384, .bf16⟩
  | 5 => ⟨S8320x3072, .f32⟩
  | 6 => ⟨S8320x4x768, .f32⟩
  | 7 => ⟨S8320x4x128, .f32⟩
  | 8 => ⟨S8320x4x128, .f32⟩
  | 9 => ⟨S8320x4x256, .f32⟩
  | 10 => ⟨S8320x4x256, .f32⟩
  | 11 => ⟨S_, .f32⟩
  | 12 => ⟨S8320x4x128, .f32⟩
  | 13 => ⟨S8320x4x128, .f32⟩
  | 14 => ⟨S_, .f32⟩
  | 15 => ⟨S_, .f32⟩
  | 16 => ⟨S8320x512, .f32⟩
  | 17 => ⟨S8320x4x128, .f32⟩
  | 18 => ⟨S8320, .i32⟩
  | 19 => ⟨S1x8320, .i32⟩
  | 20 => ⟨S8320x1, .i32⟩
  | 21 => ⟨S8320x8320, .i32⟩
  | 22 => ⟨S8320x8320, .i32⟩
  | 23 => ⟨S8320x8320, .i1⟩
  | 24 => ⟨S8320x8320x1x1, .i1⟩
  | 25 => ⟨S8320x1x4x128, .f32⟩
  | 26 => ⟨S1x8320x4x128, .f32⟩
  | 27 => ⟨S8320x8320x4x128, .f32⟩
  | 28 => ⟨S8320x8320x4x128, .f32⟩
  | 29 => ⟨S8320x8320x4x128, .f32⟩
  | 30 => ⟨S_, .f32⟩
  | 31 => ⟨S_, .f32⟩
  | 32 => ⟨S8320x8320x4x128, .i1⟩
  | 33 => ⟨S8320x8320x4x128, .f32⟩
  | 34 => ⟨S8320x8320x4x128, .f32⟩
  | 35 => ⟨S_, .f32⟩
  | 36 => ⟨S8320x8320x4x128, .f32⟩
  | 37 => ⟨S8320x8320x4x128, .f32⟩
  | 38 => ⟨S8320x1x4x128, .f32⟩
  | 39 => ⟨S1x8320x4x128, .f32⟩
  | 40 => ⟨S8320x8320x4x128, .f32⟩
  | 41 => ⟨S8320x8320x4x128, .f32⟩
  | 42 => ⟨S8320x8320x4x128, .f32⟩
  | 43 => ⟨S8320x8320x4x128, .f32⟩
  | 44 => ⟨S_, .f32⟩
  | 45 => ⟨S8320x8320x4, .f32⟩
  | 46 => ⟨S4x8320x256, .f32⟩
  | 47 => ⟨S8320x4x256, .f32⟩
  | 48 => ⟨S8320x4x256, .f32⟩
  | 49 => ⟨S_, .f32⟩
  | 50 => ⟨S8320x4, .f32⟩
  | 51 => ⟨S8320x4x1, .f32⟩
  | 52 => ⟨S_, .f32⟩
  | 53 => ⟨S8320x4x1, .f32⟩
  | 54 => ⟨S8320x4x1, .f32⟩
  | 55 => ⟨S_, .f32⟩
  | 56 => ⟨S8320x4x1, .f32⟩
  | 57 => ⟨S8320x4x1, .f32⟩
  | 58 => ⟨S8320x4x1, .f32⟩
  | 59 => ⟨S8320x4x1, .f32⟩
  | 60 => ⟨S_, .f32⟩
  | 61 => ⟨S8320x4x1, .f32⟩
  | 62 => ⟨S8320x4x1, .f32⟩
  | 63 => ⟨S8320x4x256, .f32⟩
  | 64 => ⟨S8320x4x256, .f32⟩
  | 65 => ⟨S4x256, .f32⟩
  | 66 => ⟨S1x4x256, .f32⟩
  | 67 => ⟨S8320x4x256, .f32⟩
  | 68 => ⟨S8320x4x256, .f32⟩
  | 69 => ⟨S8320x1024, .f32⟩
  | 70 => ⟨S8320x1024, .f32⟩
  | 71 => ⟨S8320x1024, .f32⟩
  | 72 => ⟨S8320x1024, .f32⟩
  | 73 => ⟨S_, .f32⟩
  | 74 => ⟨S8320x1024, .f32⟩
  | 75 => ⟨S8320x1024, .f32⟩
  | 76 => ⟨S_, .f32⟩
  | 77 => ⟨S8320x1024, .f32⟩
  | 78 => ⟨S8320x1024, .f32⟩
  | 79 => ⟨S_, .f32⟩
  | 80 => ⟨S8320x1024, .f32⟩
  | 81 => ⟨S8320x1024, .f32⟩
  | 82 => ⟨S8320x1024, .f32⟩
  | 83 => ⟨S8320x1024, .f32⟩
  | 84 => ⟨S8320x1024, .f32⟩
  | 85 => ⟨S8320x1024, .f32⟩
  | 86 => ⟨S8320x1024, .f32⟩
  | 87 => ⟨S8320x1024, .f32⟩
  | 88 => ⟨S8320x1024, .f32⟩
  | 89 => ⟨S8320x1024, .f32⟩
  | 90 => ⟨S8320x1024, .f32⟩
  | 91 => ⟨S8320x4x256, .f32⟩
  | 92 => ⟨S8320x4x256, .f32⟩
  | 93 => ⟨S8320x4x256, .f32⟩
  | 94 => ⟨S_, .f32⟩
  | 95 => ⟨S4x256, .f32⟩
  | 96 => ⟨S1x4x256, .f32⟩
  | 97 => ⟨S8320x4x256, .f32⟩
  | 98 => ⟨S8320x4x256, .f32⟩
  | 99 => ⟨S_, .f32⟩
  | 100 => ⟨S4x256, .f32⟩
  | 101 => ⟨S1x1024, .f32⟩
  | 102 => ⟨S8320x4x256, .f32⟩
  | 103 => ⟨S_, .f32⟩
  | 104 => ⟨S8320x4, .f32⟩
  | 105 => ⟨S8320x4x1, .f32⟩
  | 106 => ⟨S8320x4x256, .f32⟩
  | 107 => ⟨S8320x4x256, .f32⟩
  | 108 => ⟨S8320x4x1, .f32⟩
  | 109 => ⟨S_, .f32⟩
  | 110 => ⟨S8320x4x1, .f32⟩
  | 111 => ⟨S8320x4x1, .f32⟩
  | 112 => ⟨S_, .f32⟩
  | 113 => ⟨S8320x4, .f32⟩
  | 114 => ⟨S8320x4x256, .f32⟩
  | 115 => ⟨S8320x4x256, .f32⟩
  | 116 => ⟨S8320x4x256, .f32⟩
  | 117 => ⟨S8320x4x256, .f32⟩
  | 118 => ⟨S8320x4x256, .f32⟩
  | 119 => ⟨S4x8320x256, .f32⟩
  | 120 => ⟨S4x256x8320, .f32⟩
  | 121 => ⟨S8320x4x256, .f32⟩
  | 122 => ⟨S4x8320x8320, .f32⟩
  | 123 => ⟨S8320x8320x4, .f32⟩
  | 124 => ⟨S8320x8320x4x128, .f32⟩
  | 125 => ⟨S8320x8320x4x128, .f32⟩
  | 126 => ⟨S8320x8320x4x128, .f32⟩
  | 127 => ⟨S8320x8320x4x128, .f32⟩
  | _ => ⟨S8320x13312, .f32⟩

abbrev hbmTy0_1 (i : Nat) : BufTy := match i % 128 with
  | 0 => ⟨S8320x8320x4x128, .f32⟩
  | 1 => ⟨S_, .f32⟩
  | 2 => ⟨S8320x4x128, .f32⟩
  | 3 => ⟨S1x8320x4x128, .f32⟩
  | 4 => ⟨S8320x8320x4x128, .f32⟩
  | 5 => ⟨S8320x8320x4x128, .f32⟩
  | 6 => ⟨S_, .f32⟩
  | 7 => ⟨S8320x4x128, .f32⟩
  | 8 => ⟨S8320x1x4x128, .f32⟩
  | 9 => ⟨S_, .f32⟩
  | 10 => ⟨S8320x4x128, .f32⟩
  | 11 => ⟨S_, .f32⟩
  | 12 => ⟨S8320x4x128, .f32⟩
  | 13 => ⟨S8320x8320x4x128, .f32⟩
  | 14 => ⟨S_, .f32⟩
  | 15 => ⟨S8320x8320x4x128, .f32⟩
  | 16 => ⟨S8320x8320x4x128, .f32⟩
  | 17 => ⟨S_, .f32⟩
  | 18 => ⟨S8320x4x128, .f32⟩
  | 19 => ⟨S8320x1x4x128, .f32⟩
  | 20 => ⟨S8320x8320x4x128, .f32⟩
  | 21 => ⟨S_, .f32⟩
  | 22 => ⟨S8320x4x128, .f32⟩
  | 23 => ⟨S1x8320x4x128, .f32⟩
  | 24 => ⟨S_, .f32⟩
  | 25 => ⟨S8320x4x128, .f32⟩
  | 26 => ⟨S_, .f32⟩
  | 27 => ⟨S8320x4x128, .f32⟩
  | 28 => ⟨S8320x4x128, .f32⟩
  | 29 => ⟨S8320x512, .f32⟩
  | 30 => ⟨S_, .f32⟩
  | 31 => ⟨S_, .f32⟩
  | 32 => ⟨S8320x512, .f32⟩
  | 33 => ⟨S_, .f32⟩
  | 34 => ⟨S8320x4x128, .f32⟩
  | 35 => ⟨S8320x4x128, .f32⟩
  | 36 => ⟨S8320x4x768, .f32⟩
  | 37 => ⟨S8320x3072, .f32⟩
  | 38 => ⟨S8320x6144, .bf16⟩
  | 39 => ⟨S8320x3072, .bf16⟩
  | 40 => ⟨S8320x7168, .bf16⟩
  | 41 => ⟨S8320x16384, .bf16⟩
  | _ => ⟨S8320x13312, .f32⟩

abbrev hbmTy (i : Nat) : BufTy := match i / 128 with
  | 0 => hbmTy0_0 i
  | 1 => hbmTy0_1 i
  | _ => ⟨S8320x13312, .f32⟩

abbrev bufTy : (tb : Table) → Fin (tcTables nBuf tb) → BufTy
  | .hbm, ⟨i, _⟩ => hbmTy i
  | _, _ => ⟨S8320x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_call0_call0_cst : Ref sig .tc := ⟨.hbm, 14, rfl⟩
abbrev main_call0_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_call1_v0 : Ref sig .tc := ⟨.hbm, 31, rfl⟩
abbrev main_v22_1 : Ref sig .tc := ⟨.hbm, 32, rfl⟩
abbrev main_call1_v2 : Ref sig .tc := ⟨.hbm, 33, rfl⟩
abbrev main_v22_0 : Ref sig .tc := ⟨.hbm, 34, rfl⟩
abbrev main_call1_cst : Ref sig .tc := ⟨.hbm, 35, rfl⟩
abbrev main_v22_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_v52_2 : Ref sig .tc := ⟨.hbm, 78, rfl⟩
abbrev main_call2_cst_1 : Ref sig .tc := ⟨.hbm, 79, rfl⟩
abbrev main_call2_v6 : Ref sig .tc := ⟨.hbm, 80, rfl⟩
abbrev main_call2_v7 : Ref sig .tc := ⟨.hbm, 81, rfl⟩
abbrev main_v52_1 : Ref sig .tc := ⟨.hbm, 82, rfl⟩
abbrev main_v52_0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_6 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_7 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_8 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_9 : Ref sig .tc := ⟨.hbm, 109, rfl⟩
abbrev main_v72 : Ref sig .tc := ⟨.hbm, 110, rfl⟩
abbrev main_v73 : Ref sig .tc := ⟨.hbm, 111, rfl⟩
abbrev main_cst_10 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_11 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_12 : Ref sig .tc := ⟨.hbm, 134, rfl⟩
abbrev main_v94 : Ref sig .tc := ⟨.hbm, 135, rfl⟩
abbrev main_v95 : Ref sig .tc := ⟨.hbm, 136, rfl⟩
abbrev main_cst_13 : Ref sig .tc := ⟨.hbm, 137, rfl⟩
abbrev main_v96 : Ref sig .tc := ⟨.hbm, 138, rfl⟩
abbrev main_cst_14 : Ref sig .tc := ⟨.hbm, 139, rfl⟩
abbrev main_v97 : Ref sig .tc := ⟨.hbm, 140, rfl⟩
abbrev main_v98 : Ref sig .tc := ⟨.hbm, 141, rfl⟩
abbrev main_call4_cst : Ref sig .tc := ⟨.hbm, 142, rfl⟩
abbrev main_call4_v0 : Ref sig .tc := ⟨.hbm, 143, rfl⟩
abbrev main_v99 : Ref sig .tc := ⟨.hbm, 144, rfl⟩
abbrev main_cst_15 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_16 : Ref sig .tc := ⟨.hbm, 149, rfl⟩
abbrev main_v103 : Ref sig .tc := ⟨.hbm, 150, rfl⟩
abbrev main_v104 : Ref sig .tc := ⟨.hbm, 151, rfl⟩
abbrev main_cst_17 : Ref sig .tc := ⟨.hbm, 152, rfl⟩
abbrev main_v105 : Ref sig .tc := ⟨.hbm, 153, rfl⟩
abbrev main_cst_18 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_call5_call0_cst : Ref sig .tc := ⟨.hbm, 158, rfl⟩
abbrev main_call5_call0_v0 : Ref sig .tc := ⟨.hbm, 159, rfl⟩
abbrev main_v109 : Ref sig .tc := ⟨.hbm, 160, rfl⟩
abbrev main_cst_19 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩

abbrev nD : Nat := 1
abbrev τ : Topo := Topo.v7x

variable {F : FTy → Type} [FloatOps F]
-- ==== Kernel2.lean ====
abbrev S8320x2048 : Shape := ⟨2, ![8320, 2048]⟩
abbrev S8320x16384 : Shape := ⟨2, ![8320, 16384]⟩
abbrev S2048x16384 : Shape := ⟨2, ![2048, 16384]⟩
abbrev S1664x2048 : Shape := ⟨2, ![1664, 2048]⟩
abbrev S1664x1024 : Shape := ⟨2, ![1664, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x16384, .bf16⟩
  | .hbm, ⟨2, _⟩ => ⟨S2048x16384, .bf16⟩
  | .local _ .vmem, ⟨0, _⟩ => ⟨S1664x2048, .bf16⟩
  | .local _ .vmem, ⟨1, _⟩ => ⟨S1664x2048, .bf16⟩
  | .local _ .vmem, ⟨2, _⟩ => ⟨S1664x1024, .bf16⟩
  | .local _ .vmem, ⟨3, _⟩ => ⟨S1664x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8320x2048 : Shape := ⟨2, ![8320, 2048]⟩
abbrev S8320x16384 : Shape := ⟨2, ![8320, 16384]⟩
abbrev S_ : Shape := ⟨0, ![]⟩
abbrev S2048x16384 : Shape := ⟨2, ![2048, 16384]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x16384, .bf16⟩
  | .hbm, ⟨2, _⟩ => ⟨S_, .f32⟩
  | .hbm, ⟨3, _⟩ => ⟨S2048x16384, .f32⟩
  | .hbm, ⟨4, _⟩ => ⟨S8320x2048, .f32⟩
  | .hbm, ⟨5, _⟩ => ⟨S8320x16384, .f32⟩
  | .hbm, ⟨6, _⟩ => ⟨S8320x16384, .f32⟩
  | .hbm, ⟨7, _⟩ => ⟨S16384x2048, .f32⟩
  | .hbm, ⟨8, _⟩ => ⟨S2048x16384, .f32⟩
  | .hbm, ⟨9, _⟩ => ⟨S2048x16384, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8320x16384 : Shape := ⟨2, ![8320, 16384]⟩
abbrev S2048x16384 : Shape := ⟨2, ![2048, 16384]⟩
abbrev S8320x2048 : Shape := ⟨2, ![8320, 2048]⟩
abbrev S640x2048 : Shape := ⟨2, ![640, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x16384, .bf16⟩
  | .hbm, ⟨1, _⟩ => ⟨S2048x16384, .bf16⟩
  | .hbm, ⟨2, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S2048x2048, .bf16⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | _, _ => ⟨S8320x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x16384 : Shape := ⟨2, ![8320, 16384]⟩
abbrev S2048x16384 : Shape := ⟨2, ![2048, 16384]⟩
abbrev S_ : Shape := ⟨0, ![]⟩
abbrev S8320x2048 : Shape := ⟨2, ![8320, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x16384, .bf16⟩
  | .hbm, ⟨1, _⟩ => ⟨S2048x16384, .bf16⟩
  | .hbm, ⟨2, _⟩ => ⟨S_, .f32⟩
  | .hbm, ⟨3, _⟩ => ⟨S8320x2048, .f32⟩
  | .hbm, ⟨4, _⟩ => ⟨S2048x16384, .f32⟩
  | .hbm, ⟨5, _⟩ => ⟨S8320x16384, .f32⟩
  | .hbm, ⟨6, _⟩ => ⟨S8320x16384, .f32⟩
  | .hbm, ⟨7, _⟩ => ⟨S8320x2048, .f32⟩
  | _, _ => ⟨S8320x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8320x2048 : Shape := ⟨2, ![8320, 2048]⟩
abbrev S8320x5632 : Shape := ⟨2, ![8320, 5632]⟩
abbrev S2048x5632 : Shape := ⟨2, ![2048, 5632]⟩
abbrev S1664x2048 : Shape := ⟨2, ![1664, 2048]⟩
abbrev S1664x512 : Shape := ⟨2, ![1664, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x5632, .bf16⟩
  | .hbm, ⟨2, _⟩ => ⟨S2048x5632, .bf16⟩
  | .local _ .vmem, ⟨0, _⟩ => ⟨S1664x2048, .bf16⟩
  | .local _ .vmem, ⟨1, _⟩ => ⟨S1664x2048, .bf16⟩
  | .local _ .vmem, ⟨2, _⟩ => ⟨S1664x512, .bf16⟩
  | .local _ .vmem, ⟨3, _⟩ => ⟨S1664x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x2048 : Shape := ⟨2, ![8320, 2048]⟩
abbrev S8320x5632 : Shape := ⟨2, ![8320, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x5632, .bf16⟩
  | .hbm, ⟨2, _⟩ => ⟨S_, .f32⟩
  | .hbm, ⟨3, _⟩ => ⟨S2048x5632, .f32⟩
  | .hbm, ⟨4, _⟩ => ⟨S8320x2048, .f32⟩
  | .hbm, ⟨5, _⟩ => ⟨S8320x5632, .f32⟩
  | .hbm, ⟨6, _⟩ => ⟨S8320x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8320x5632 : Shape := ⟨2, ![8320, 5632]⟩
abbrev S8320x2048 : Shape := ⟨2, ![8320, 2048]⟩
abbrev S5632x2048 : Shape := ⟨2, ![5632, 2048]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .f32⟩
  | .hbm, ⟨2, _⟩ => ⟨S5632x2048, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .f32⟩
  | .local _ .vmem, ⟨3, _⟩ => ⟨S1664x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x5632 : Shape := ⟨2, ![8320, 5632]⟩
abbrev S8320x2048 : Shape := ⟨2, ![8320, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .f32⟩
  | .hbm, ⟨2, _⟩ => ⟨S_, .f32⟩
  | .hbm, ⟨3, _⟩ => ⟨S5632x2048, .f32⟩
  | .hbm, ⟨4, _⟩ => ⟨S8320x5632, .f32⟩
  | .hbm, ⟨5, _⟩ => ⟨S8320x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8320x2048 : Shape := ⟨2, ![8320, 2048]⟩
abbrev S5632x2048 : Shape := ⟨2, ![5632, 2048]⟩
abbrev S8320x5632 : Shape := ⟨2, ![8320, 5632]⟩
abbrev S640x2048 : Shape := ⟨2, ![640, 2048]⟩
abbrev S1408x2048 : Shape := ⟨2, ![1408, 2048]⟩
abbrev S640x1408 : Shape := ⟨2, ![640, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S5632x2048, .bf16⟩
  | .hbm, ⟨2, _⟩ => ⟨S8320x5632, .bf16⟩
  | .local _ .vmem, ⟨0, _⟩ => ⟨S640x2048, .f32⟩
  | .local _ .vmem, ⟨1, _⟩ => ⟨S640x2048, .f32⟩
  | .local _ .vmem, ⟨2, _⟩ => ⟨S1408x2048, .bf16⟩
  | .local _ .vmem, ⟨3, _⟩ => ⟨S1408x2048, .bf16⟩
  | .local _ .vmem, ⟨4, _⟩ => ⟨S640x1408, .bf16⟩
  | .local _ .vmem, ⟨5, _⟩ => ⟨S640x1408, .bf16⟩
  | .local _ .vmem, ⟨6, _⟩ => ⟨S8x128, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8320x2048 : Shape := ⟨2, ![8320, 2048]⟩
abbrev S5632x2048 : Shape := ⟨2, ![5632, 2048]⟩
abbrev S_ : Shape := ⟨0, ![]⟩
abbrev S8320x5632 : Shape := ⟨2, ![8320, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S5632x2048, .bf16⟩
  | .hbm, ⟨2, _⟩ => ⟨S_, .f32⟩
  | .hbm, ⟨3, _⟩ => ⟨S8320x5632, .f32⟩
  | .hbm, ⟨4, _⟩ => ⟨S5632x2048, .f32⟩
  | .hbm, ⟨5, _⟩ => ⟨S8320x2048, .f32⟩
  | .hbm, ⟨6, _⟩ => ⟨S8320x5632, .f32⟩
  | .hbm, ⟨7, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8320x5632 : Shape := ⟨2, ![8320, 5632]⟩
abbrev S2048x11264 : Shape := ⟨2, ![2048, 11264]⟩
abbrev S8320x2048 : Shape := ⟨2, ![8320, 2048]⟩
abbrev S640x1408 : Shape := ⟨2, ![640, 1408]⟩
abbrev S2048x1408 : Shape := ⟨2, ![2048, 1408]⟩
abbrev S640x2048 : Shape := ⟨2, ![640, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S2048x11264, .bf16⟩
  | .hbm, ⟨2, _⟩ => ⟨S8320x2048, .f32⟩
  | .local _ .vmem, ⟨0, _⟩ => ⟨S640x1408, .bf16⟩
  | .local _ .vmem, ⟨1, _⟩ => ⟨S640x1408, .bf16⟩
  | .local _ .vmem, ⟨2, _⟩ => ⟨S2048x1408, .bf16⟩
  | .local _ .vmem, ⟨3, _⟩ => ⟨S2048x1408, .bf16⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8320x5632 : Shape := ⟨2, ![8320, 5632]⟩
abbrev S2048x11264 : Shape := ⟨2, ![2048, 11264]⟩
abbrev S_ : Shape := ⟨0, ![]⟩
abbrev S8320x2048 : Shape := ⟨2, ![8320, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S2048x11264, .bf16⟩
  | .hbm, ⟨2, _⟩ => ⟨S_, .f32⟩
  | .hbm, ⟨3, _⟩ => ⟨S8320x2048, .f32⟩
  | .hbm, ⟨4, _⟩ => ⟨S2048x5632, .bf16⟩
  | .hbm, ⟨5, _⟩ => ⟨S2048x5632, .f32⟩
  | .hbm, ⟨6, _⟩ => ⟨S8320x5632, .f32⟩
  | .hbm, ⟨7, _⟩ => ⟨S8320x5632, .f32⟩
  | .hbm, ⟨8, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8320x5632 : Shape := ⟨2, ![8320, 5632]⟩
abbrev S2048x11264 : Shape := ⟨2, ![2048, 11264]⟩
abbrev S8320x2048 : Shape := ⟨2, ![8320, 2048]⟩
abbrev S640x1408 : Shape := ⟨2, ![640, 1408]⟩
abbrev S2048x1408 : Shape := ⟨2, ![2048, 1408]⟩
abbrev S640x2048 : Shape := ⟨2, ![640, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8320x5632, .bf16⟩
  | .hbm, ⟨1, _⟩ => ⟨S2048x11264, .bf16⟩
  | .hbm, ⟨2, _⟩ => ⟨S8320x2048, .f32⟩
  | .hbm, ⟨3, _⟩ => ⟨S8320x2048, .f32⟩
  | .local _ .vmem, ⟨0, _⟩ => ⟨S640x1408, .bf16⟩
  | .local _ .vmem, ⟨1, _⟩ => ⟨S640x1408, .bf16⟩
  | .local _ .vmem, ⟨2, _⟩ => ⟨S2048x1408, .bf16⟩
  | .local _ .vmem, ⟨3, _⟩ => ⟨S2048x1408, .bf16⟩
  | .local _ .vmem, ⟨4, _⟩ => ⟨S640x2048, .f32⟩
  | .local _ .vmem, ⟨5, _⟩ => ⟨S640x2048, .f32⟩
  | .local _ .vmem, ⟨6, _⟩ => ⟨S640x2048, .f32⟩
  | .local _ .vmem, ⟨7, _⟩ => ⟨S640x2048, .f32⟩
  | .local _ .vmem, ⟨8, _⟩ => ⟨S640x2048, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8320x5632 : Shape := ⟨2, ![8320, 5632]⟩
abbrev S2048x11264 : Shape := ⟨2, ![2048, 11264]⟩
abbrev S8320x2048 : Shape := ⟨2, ![8320, 2048]⟩
abbrev S_ : Shape := ⟨0, ![]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S2048x11264, .bf16⟩
  | .hbm, ⟨2, _⟩ => ⟨S8320x2048, .f32⟩
  | .hbm, ⟨3, _⟩ => ⟨S_, .f32⟩
  | .hbm, ⟨4, _⟩ => ⟨S8320x2048, .f32⟩
  | .hbm, ⟨5, _⟩ => ⟨S2048x5632, .bf16⟩
  | .hbm, ⟨6, _⟩ => ⟨S2048x5632, .f32⟩
  | .hbm, ⟨7, _⟩ => ⟨S8320x5632, .f32⟩
  | .hbm, ⟨8, _⟩ => ⟨S8320x5632, .f32⟩
  | .hbm, ⟨9, _⟩ => ⟨S8320x2048, .f32⟩
  | .hbm, ⟨10, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S8320x2048 : Shape := ⟨2, ![8320, 2048]⟩
abbrev S2048x2048 : Shape := ⟨2, ![2048, 2048]⟩
abbrev S1664x2048 : Shape := ⟨2, ![1664, 2048]⟩
abbrev S1664x1024 : Shape := ⟨2, ![1664, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .f32⟩
  | .hbm, ⟨2, _⟩ => ⟨S2048x2048, .bf16⟩
  | .local _ .vmem, ⟨0, _⟩ => ⟨S1664x2048, .bf16⟩
  | .local _ .vmem, ⟨1, _⟩ => ⟨S1664x2048, .bf16⟩
  | .local _ .vmem, ⟨2, _⟩ => ⟨S1664x1024, .f32⟩
  | .local _ .vmem, ⟨3, _⟩ => ⟨S1664x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8320x2048 : Shape := ⟨2, ![8320, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .f32⟩
  | .hbm, ⟨2, _⟩ => ⟨S_, .f32⟩
  | .hbm, ⟨3, _⟩ => ⟨S2048x2048, .f32⟩
  | .hbm, ⟨4, _⟩ => ⟨S8320x2048, .f32⟩
  | .hbm, ⟨5, _⟩ => ⟨S8320x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8320x2048 : Shape := ⟨2, ![8320, 2048]⟩
abbrev S2048x2048 : Shape := ⟨2, ![2048, 2048]⟩
abbrev S640x2048 : Shape := ⟨2, ![640, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x2048, .bf16⟩
  | .hbm, ⟨2, _⟩ => ⟨S8320x2048, .bf16⟩
  | .local _ .vmem, ⟨0, _⟩ => ⟨S640x2048, .f32⟩
  | .local _ .vmem, ⟨1, _⟩ => ⟨S640x2048, .f32⟩
  | .local _ .vmem, ⟨2, _⟩ => ⟨S2048x2048, .bf16⟩
  | .local _ .vmem, ⟨3, _⟩ => ⟨S640x2048, .bf16⟩
  | .local _ .vmem, ⟨4, _⟩ => ⟨S640x2048, .bf16⟩
  | .local _ .vmem, ⟨5, _⟩ => ⟨S8x128, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x2048 : Shape := ⟨2, ![8320, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x2048, .bf16⟩
  | .hbm, ⟨2, _⟩ => ⟨S_, .f32⟩
  | .hbm, ⟨3, _⟩ => ⟨S8320x2048, .f32⟩
  | .hbm, ⟨4, _⟩ => ⟨S2048x2048, .f32⟩
  | .hbm, ⟨5, _⟩ => ⟨S8320x2048, .f32⟩
  | .hbm, ⟨6, _⟩ => ⟨S8320x2048, .f32⟩
  | .hbm, ⟨7, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8320x1024 : Shape := ⟨2, ![8320, 1024]⟩
abbrev S8320x2048 : Shape := ⟨2, ![8320, 2048]⟩
abbrev S1024x2048 : Shape := ⟨2, ![1024, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S1024x2048, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8320x1024 : Shape := ⟨2, ![8320, 1024]⟩
abbrev S8320x2048 : Shape := ⟨2, ![8320, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S_, .f32⟩
  | .hbm, ⟨3, _⟩ => ⟨S1024x2048, .f32⟩
  | .hbm, ⟨4, _⟩ => ⟨S8320x1024, .f32⟩
  | .hbm, ⟨5, _⟩ => ⟨S8320x2048, .f32⟩
  | .hbm, ⟨6, _⟩ => ⟨S8320x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8320x2048 : Shape := ⟨2, ![8320, 2048]⟩
abbrev S1024x2048 : Shape := ⟨2, ![1024, 2048]⟩
abbrev S8320x1024 : Shape := ⟨2, ![8320, 1024]⟩
abbrev S640x2048 : Shape := ⟨2, ![640, 2048]⟩
abbrev S640x1024 : Shape := ⟨2, ![640, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S1024x2048, .bf16⟩
  | .hbm, ⟨2, _⟩ => ⟨S8320x1024, .bf16⟩
  | .local _ .vmem, ⟨0, _⟩ => ⟨S640x2048, .bf16⟩
  | .local _ .vmem, ⟨1, _⟩ => ⟨S640x2048, .bf16⟩
  | .local _ .vmem, ⟨2, _⟩ => ⟨S1024x2048, .bf16⟩
  | .local _ .vmem, ⟨3, _⟩ => ⟨S640x1024, .bf16⟩
  | .local _ .vmem, ⟨4, _⟩ => ⟨S640x1024, .bf16⟩
  | .local _ .vmem, ⟨5, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8320x2048 : Shape := ⟨2, ![8320, 2048]⟩
abbrev S1024x2048 : Shape := ⟨2, ![1024, 2048]⟩
abbrev S_ : Shape := ⟨0, ![]⟩
abbrev S8320x1024 : Shape := ⟨2, ![8320, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1024x2048, .bf16⟩
  | .hbm, ⟨2, _⟩ => ⟨S_, .f32⟩
  | .hbm, ⟨3, _⟩ => ⟨S8320x1024, .f32⟩
  | .hbm, ⟨4, _⟩ => ⟨S1024x2048, .f32⟩
  | .hbm, ⟨5, _⟩ => ⟨S8320x2048, .f32⟩
  | .hbm, ⟨6, _⟩ => ⟨S8320x2048, .f32⟩
  | .hbm, ⟨7, _⟩ => ⟨S8320x1024, .f32⟩
  | .hbm, ⟨8, _⟩ => ⟨S8320x1024, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8320x2048 : Shape := ⟨2, ![8320, 2048]⟩
abbrev S1024x2048 : Shape := ⟨2, ![1024, 2048]⟩
abbrev S8320x1024 : Shape := ⟨2, ![8320, 1024]⟩
abbrev S640x2048 : Shape := ⟨2, ![640, 2048]⟩
abbrev S640x1024 : Shape := ⟨2, ![640, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S1024x2048, .bf16⟩
  | .hbm, ⟨2, _⟩ => ⟨S8320x1024, .f32⟩
  | .local _ .vmem, ⟨0, _⟩ => ⟨S640x2048, .bf16⟩
  | .local _ .vmem, ⟨1, _⟩ => ⟨S640x2048, .bf16⟩
  | .local _ .vmem, ⟨2, _⟩ => ⟨S1024x2048, .bf16⟩
  | .local _ .vmem, ⟨3, _⟩ => ⟨S640x1024, .f32⟩
  | .local _ .vmem, ⟨4, _⟩ => ⟨S640x1024, .f32⟩
  | .local _ .vmem, ⟨5, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8320x2048 : Shape := ⟨2, ![8320, 2048]⟩
abbrev S1024x2048 : Shape := ⟨2, ![1024, 2048]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1024x2048, .bf16⟩
  | .hbm, ⟨2, _⟩ => ⟨S_, .f32⟩
  | .hbm, ⟨3, _⟩ => ⟨S8320x1024, .f32⟩
  | .hbm, ⟨4, _⟩ => ⟨S1024x2048, .f32⟩
  | .hbm, ⟨5, _⟩ => ⟨S8320x2048, .f32⟩
  | .hbm, ⟨6, _⟩ => ⟨S8320x2048, .f32⟩
  | .hbm, ⟨7, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8320x2048 : Shape := ⟨2, ![8320, 2048]⟩
abbrev S2048x16384 : Shape := ⟨2, ![2048, 16384]⟩
abbrev S8320x3072 : Shape := ⟨2, ![8320, 3072]⟩
abbrev S1664x2048 : Shape := ⟨2, ![1664, 2048]⟩
abbrev S2048x512 : Shape := ⟨2, ![2048, 512]⟩
abbrev S1664x512 : Shape := ⟨2, ![1664, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x16384, .bf16⟩
  | .hbm, ⟨2, _⟩ => ⟨S8320x3072, .bf16⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1664x512, .bf16⟩
  | .local _ .vmem, ⟨5, _⟩ => ⟨S1664x512, .bf16⟩
  | .local _ .vmem, ⟨6, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x2048 : Shape := ⟨2, ![8320, 2048]⟩
abbrev S2048x16384 : Shape := ⟨2, ![2048, 16384]⟩
abbrev S2048x3072 : Shape := ⟨2, ![2048, 3072]⟩
abbrev S8320x3072 : Shape := ⟨2, ![8320, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x16384, .bf16⟩
  | .hbm, ⟨2, _⟩ => ⟨S8320x2048, .f32⟩
  | .hbm, ⟨3, _⟩ => ⟨S2048x3072, .bf16⟩
  | .hbm, ⟨4, _⟩ => ⟨S2048x3072, .f32⟩
  | .hbm, ⟨5, _⟩ => ⟨S8320x3072, .f32⟩
  | .hbm, ⟨6, _⟩ => ⟨S8320x3072, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S8320x2048 : Shape := ⟨2, ![8320, 2048]⟩
abbrev S2048x16384 : Shape := ⟨2, ![2048, 16384]⟩
abbrev S8320x13312 : Shape := ⟨2, ![8320, 13312]⟩
abbrev S1664x2048 : Shape := ⟨2, ![1664, 2048]⟩
abbrev S2048x512 : Shape := ⟨2, ![2048, 512]⟩
abbrev S1664x512 : Shape := ⟨2, ![1664, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x16384, .bf16⟩
  | .hbm, ⟨2, _⟩ => ⟨S8320x13312, .f32⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1664x512, .f32⟩
  | .local _ .vmem, ⟨5, _⟩ => ⟨S1664x512, .f32⟩
  | .local _ .vmem, ⟨6, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8320x2048 : Shape := ⟨2, ![8320, 2048]⟩
abbrev S2048x16384 : Shape := ⟨2, ![2048, 16384]⟩
abbrev S2048x13312 : Shape := ⟨2, ![2048, 13312]⟩
abbrev S8320x13312 : Shape := ⟨2, ![8320, 13312]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x16384, .bf16⟩
  | .hbm, ⟨2, _⟩ => ⟨S8320x2048, .f32⟩
  | .hbm, ⟨3, _⟩ => ⟨S2048x13312, .bf16⟩
  | .hbm, ⟨4, _⟩ => ⟨S2048x13312, .f32⟩
  | .hbm, ⟨5, _⟩ => ⟨S8320x13312, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8320x1024 : Shape := ⟨2, ![8320, 1024]⟩
abbrev S1024x2048 : Shape := ⟨2, ![1024, 2048]⟩
abbrev S8320x2048 : Shape := ⟨2, ![8320, 2048]⟩
abbrev S1664x1024 : Shape := ⟨2, ![1664, 1024]⟩
abbrev S1024x512 : Shape := ⟨2, ![1024, 512]⟩
abbrev S1664x512 : Shape := ⟨2, ![1664, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x2048, .bf16⟩
  | .hbm, ⟨2, _⟩ => ⟨S8320x2048, .bf16⟩
  | .local _ .vmem, ⟨0, _⟩ => ⟨S1664x1024, .bf16⟩
  | .local _ .vmem, ⟨1, _⟩ => ⟨S1664x1024, .bf16⟩
  | .local _ .vmem, ⟨2, _⟩ => ⟨S1024x512, .bf16⟩
  | .local _ .vmem, ⟨3, _⟩ => ⟨S1024x512, .bf16⟩
  | .local _ .vmem, ⟨4, _⟩ => ⟨S1664x512, .bf16⟩
  | .local _ .vmem, ⟨5, _⟩ => ⟨S1664x512, .bf16⟩
  | .local _ .vmem, ⟨6, _⟩ => ⟨S8x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8320x1024 : Shape := ⟨2, ![8320, 1024]⟩
abbrev S1024x2048 : Shape := ⟨2, ![1024, 2048]⟩
abbrev S8320x2048 : Shape := ⟨2, ![8320, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x2048, .bf16⟩
  | .hbm, ⟨2, _⟩ => ⟨S8320x1024, .f32⟩
  | .hbm, ⟨3, _⟩ => ⟨S1024x2048, .f32⟩
  | .hbm, ⟨4, _⟩ => ⟨S8320x2048, .f32⟩
  | .hbm, ⟨5, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8320x2048 : Shape := ⟨2, ![8320, 2048]⟩
abbrev S2048x2048 : Shape := ⟨2, ![2048, 2048]⟩
abbrev S1664x2048 : Shape := ⟨2, ![1664, 2048]⟩
abbrev S2048x512 : Shape := ⟨2, ![2048, 512]⟩
abbrev S1664x512 : Shape := ⟨2, ![1664, 512]⟩
abbrev S8x128 : Shape := ⟨2, ![8, 128]⟩
abbrev S1664x1 : Shape := ⟨2, ![1664, 1]⟩

abbrev nBuf : Space → Nat
  | .hbm => 4
  | .vmem => 9
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S8320x2048, .f32⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | .local _ .vmem, ⟨7, _⟩ => ⟨S1664x512, .f32⟩
  | .local _ .vmem, ⟨8, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8320x2048 : Shape := ⟨2, ![8320, 2048]⟩
abbrev S2048x2048 : Shape := ⟨2, ![2048, 2048]⟩
abbrev S8320 : Shape := ⟨1, ![8320]⟩
abbrev S8320x1 : Shape := ⟨2, ![8320, 1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S8320, .i32⟩
  | .hbm, ⟨4, _⟩ => ⟨S8320x1, .i32⟩
  | .hbm, ⟨5, _⟩ => ⟨S_, .i32⟩
  | .hbm, ⟨6, _⟩ => ⟨S8320x1, .i32⟩
  | .hbm, ⟨7, _⟩ => ⟨S8320x1, .i1⟩
  | .hbm, ⟨8, _⟩ => ⟨S8320x2048, .f32⟩
  | .hbm, ⟨9, _⟩ => ⟨S2048x2048, .f32⟩
  | .hbm, ⟨10, _⟩ => ⟨S8320x2048, .f32⟩
  | .hbm, ⟨11, _⟩ => ⟨S_, .f32⟩
  | .hbm, ⟨12, _⟩ => ⟨S_, .f32⟩
  | .hbm, ⟨13, _⟩ => ⟨S8320x2048, .i1⟩
  | .hbm, ⟨14, _⟩ => ⟨S8320x2048, .f32⟩
  | .hbm, ⟨15, _⟩ => ⟨S8320x2048, .f32⟩
  | .hbm, ⟨16, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel18.lean ====
abbrev S8320x2048 : Shape := ⟨2, ![8320, 2048]⟩
abbrev S2048x11264 : Shape := ⟨2, ![2048, 11264]⟩
abbrev S8320x11264 : Shape := ⟨2, ![8320, 11264]⟩
abbrev S1664x2048 : Shape := ⟨2, ![1664, 2048]⟩
abbrev S2048x512 : Shape := ⟨2, ![2048, 512]⟩
abbrev S1664x512 : Shape := ⟨2, ![1664, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x11264, .bf16⟩
  | .local _ .vmem, ⟨0, _⟩ => ⟨S1664x2048, .bf16⟩
  | .local _ .vmem, ⟨1, _⟩ => ⟨S1664x2048, .bf16⟩
  | .local _ .vmem, ⟨2, _⟩ => ⟨S2048x512, .bf16⟩
  | .local _ .vmem, ⟨3, _⟩ => ⟨S2048x512, .bf16⟩
  | .local _ .vmem, ⟨4, _⟩ => ⟨S1664x512, .bf16⟩
  | .local _ .vmem, ⟨5, _⟩ => ⟨S1664x512, .bf16⟩
  | .local _ .vmem, ⟨6, _⟩ => ⟨S8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8320x2048 : Shape := ⟨2, ![8320, 2048]⟩
abbrev S2048x11264 : Shape := ⟨2, ![2048, 11264]⟩
abbrev S8320x11264 : Shape := ⟨2, ![8320, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S8320x2048, .f32⟩
  | .hbm, ⟨3, _⟩ => ⟨S2048x11264, .f32⟩
  | .hbm, ⟨4, _⟩ => ⟨S8320x11264, .f32⟩
  | .hbm, ⟨5, _⟩ => ⟨S8320x11264, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S8320x5632 : Shape := ⟨2, ![8320, 5632]⟩
abbrev S5632x2048 : Shape := ⟨2, ![5632, 2048]⟩
abbrev S8320x2048 : Shape := ⟨2, ![8320, 2048]⟩
abbrev S1664x1408 : Shape := ⟨2, ![1664, 1408]⟩
abbrev S1408x512 : Shape := ⟨2, ![1408, 512]⟩
abbrev S1664x512 : Shape := ⟨2, ![1664, 512]⟩
abbrev S1664x1 : Shape := ⟨2, ![1664, 1]⟩

abbrev nBuf : Space → Nat
  | .hbm => 4
  | .vmem => 9
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S8320x2048, .f32⟩
  | .local _ .vmem, ⟨0, _⟩ => ⟨S1664x1408, .bf16⟩
  | .local _ .vmem, ⟨1, _⟩ => ⟨S1664x1408, .bf16⟩
  | .local _ .vmem, ⟨2, _⟩ => ⟨S1408x512, .bf16⟩
  | .local _ .vmem, ⟨3, _⟩ => ⟨S1408x512, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | .local _ .vmem, ⟨7, _⟩ => ⟨S1664x512, .f32⟩
  | .local _ .vmem, ⟨8, _⟩ => ⟨S1664x512, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S8320x5632 : Shape := ⟨2, ![8320, 5632]⟩
abbrev S5632x2048 : Shape := ⟨2, ![5632, 2048]⟩
abbrev S8320x2048 : Shape := ⟨2, ![8320, 2048]⟩
abbrev S8320 : Shape := ⟨1, ![8320]⟩
abbrev S8320x1 : Shape := ⟨2, ![8320, 1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S8320, .i32⟩
  | .hbm, ⟨4, _⟩ => ⟨S8320x1, .i32⟩
  | .hbm, ⟨5, _⟩ => ⟨S_, .i32⟩
  | .hbm, ⟨6, _⟩ => ⟨S8320x1, .i32⟩
  | .hbm, ⟨7, _⟩ => ⟨S8320x1, .i1⟩
  | .hbm, ⟨8, _⟩ => ⟨S8320x5632, .f32⟩
  | .hbm, ⟨9, _⟩ => ⟨S5632x2048, .f32⟩
  | .hbm, ⟨10, _⟩ => ⟨S8320x2048, .f32⟩
  | .hbm, ⟨11, _⟩ => ⟨S_, .f32⟩
  | .hbm, ⟨12, _⟩ => ⟨S_, .f32⟩
  | .hbm, ⟨13, _⟩ => ⟨S8320x2048, .i1⟩
  | .hbm, ⟨14, _⟩ => ⟨S8320x2048, .f32⟩
  | .hbm, ⟨15, _⟩ => ⟨S8320x2048, .f32⟩
  | .hbm, ⟨16, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel20.lean ====
abbrev S8320x3072 : Shape := ⟨2, ![8320, 3072]⟩
abbrev S8x8320x1 : Shape := ⟨3, ![8, 8320, 1]⟩
abbrev S8x1x8320 : Shape := ⟨3, ![8, 1, 8320]⟩
abbrev S8320x1024 : Shape := ⟨2, ![8320, 1024]⟩
abbrev S640x512 : Shape := ⟨2, ![640, 512]⟩
abbrev S640x1024 : Shape := ⟨2, ![640, 1024]⟩
abbrev S4x640x1 : Shape := ⟨3, ![4, 640, 1]⟩
abbrev S4x1x640 : Shape := ⟨3, ![4, 1, 640]⟩
abbrev S1x640x1 : Shape := ⟨3, ![1, 640, 1]⟩
abbrev S640x1 : Shape := ⟨2, ![640, 1]⟩
abbrev S640x128 : Shape := ⟨2, ![640, 128]⟩
abbrev S1x1x640 : Shape := ⟨3, ![1, 1, 640]⟩
abbrev S1x640 : Shape := ⟨2, ![1, 640]⟩
abbrev S640x640 : Shape := ⟨2, ![640, 640]⟩
abbrev S640 : Shape := ⟨1, ![640]⟩

abbrev nBuf : Space → Nat
  | .hbm => 5
  | .vmem => 15
  | .smem => 0
  | _ => 0

abbrev bufTy : (tb : Table) → Fin (tcTables nBuf tb) → BufTy
  | .hbm, ⟨0, _⟩ => ⟨S8320x3072, .bf16⟩
  | .hbm, ⟨1, _⟩ => ⟨S8x8320x1, .f32⟩
  | .hbm, ⟨2, _⟩ => ⟨S8x1x8320, .f32⟩
  | .hbm, ⟨3, _⟩ => ⟨S8320x1024, .bf16⟩
  | .hbm, ⟨4, _⟩ => ⟨S8x8320x1, .f32⟩
  | .local _ .vmem, ⟨0, _⟩ => ⟨S640x512, .bf16⟩
  | .local _ .vmem, ⟨1, _⟩ => ⟨S640x512, .bf16⟩
  | .local _ .vmem, ⟨2, _⟩ => ⟨S640x1024, .bf16⟩
  | .local _ .vmem, ⟨3, _⟩ => ⟨S640x1024, .bf16⟩
  | .local _ .vmem, ⟨4, _⟩ => ⟨S4x640x1, .f32⟩
  | .local _ .vmem, ⟨5, _⟩ => ⟨S4x640x1, .f32⟩
  | .local _ .vmem, ⟨6, _⟩ => ⟨S4x1x640, .f32⟩
  | .local _ .vmem, ⟨7, _⟩ => ⟨S4x1x640, .f32⟩
  | .local _ .vmem, ⟨8, _⟩ => ⟨S640x512, .bf16⟩
  | .local _ .vmem, ⟨9, _⟩ => ⟨S640x512, .bf16⟩
  | .local _ .vmem, ⟨10, _⟩ => ⟨S4x640x1, .f32⟩
  | .local _ .vmem, ⟨11, _⟩ => ⟨S4x640x1, .f32⟩
  | .local _ .vmem, ⟨12, _⟩ => ⟨S4x640x1, .f32⟩
  | .local _ .vmem, ⟨13, _⟩ => ⟨S4x640x1, .f32⟩
  | .local _ .vmem, ⟨14, _⟩ => ⟨S640x512, .f32⟩
  | _, _ => ⟨S8320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 13, 13], ![false, false, false]⟩

def k0_cond4 (i : grid0.Coords) : BitVec 1 :=
  let arg2 : BitVec 32 := BitVec.ofNat 32 (i 2).val
  let c12_i32 : BitVec 32 := 12#32
  let v9 : BitVec 1 := Scalar.cmpi .eq arg2 c12_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let v1 : BitVec 32 := Scalar.addi c1_i32 arg0
  let c0_i32 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x640x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4x640x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Kernel20Ideal.lean ====
variable {F : FTy → Type} [FloatOps F] [Named F]
def κ : String → Option EReal := fun
  | "log2e" => some (((Real.log 2)⁻¹ : ℝ) : EReal)
  | "log2e_scale" => some (((Real.log 2)⁻¹ * (Real.sqrt 128)⁻¹ : ℝ) : EReal)
  | "mask" => some ⊥
  | _ => none
-- ==== Reference20Ideal.lean ====
abbrev S8320x3072 : Shape := ⟨2, ![8320, 3072]⟩
abbrev S8x8320x1 : Shape := ⟨3, ![8, 8320, 1]⟩
abbrev S8x1x8320 : Shape := ⟨3, ![8, 1, 8320]⟩
abbrev S8320x1024 : Shape := ⟨2, ![8320, 1024]⟩
abbrev S8320x8x128 : Shape := ⟨3, ![8320, 8, 128]⟩
abbrev S8320x2048 : Shape := ⟨2, ![8320, 2048]⟩
abbrev S8320x8x2x128 : Shape := ⟨4, ![8320, 8, 2, 128]⟩
abbrev S8320x8x1x128 : Shape := ⟨4, ![8320, 8, 1, 128]⟩
abbrev S8x8320x8320 : Shape := ⟨3, ![8, 8320, 8320]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S8x8320 : Shape := ⟨2, ![8, 8320]⟩
abbrev S8x128x8320 : Shape := ⟨3, ![8, 128, 8320]⟩

abbrev nBuf : Space → Nat
  | .hbm => 65
  | .vmem => 0
  | .smem => 0
  | _ => 0

abbrev bufTy : (tb : Table) → Fin (tcTables nBuf tb) → BufTy
  | .hbm, ⟨0, _⟩ => ⟨S8320x3072, .bf16⟩
  | .hbm, ⟨1, _⟩ => ⟨S8x8320x1, .f32⟩
  | .hbm, ⟨2, _⟩ => ⟨S8x1x8320, .f32⟩
  | .hbm, ⟨3, _⟩ => ⟨S8320x1024, .bf16⟩
  | .hbm, ⟨4, _⟩ => ⟨S8320x8x128, .bf16⟩
  | .hbm, ⟨5, _⟩ => ⟨S8320x8x128, .f32⟩
  | .hbm, ⟨6, _⟩ => ⟨S8320x2048, .bf16⟩
  | .hbm, ⟨7, _⟩ => ⟨S8320x8x2x128, .bf16⟩
  | .hbm, ⟨8, _⟩ => ⟨S8320x8x2x128, .f32⟩
  | .hbm, ⟨9, _⟩ => ⟨S8320x8x1x128, .f32⟩
  | .hbm, ⟨10, _⟩ => ⟨S8320x8x128, .f32⟩
  | .hbm, ⟨11, _⟩ => ⟨S8320x8x1x128, .f32⟩
  | .hbm, ⟨12, _⟩ => ⟨S8320x8x128, .f32⟩
  | .hbm, ⟨13, _⟩ => ⟨S8x8320x8320, .f32⟩
  | .hbm, ⟨14, _⟩ => ⟨S_, .f32⟩
  | .hbm, ⟨15, _⟩ => ⟨S_, .f32⟩
  | .hbm, ⟨16, _⟩ => ⟨S8x8320x8320, .f32⟩
  | .hbm, ⟨17, _⟩ => ⟨S8x8320x8320, .f32⟩
  | .hbm, ⟨18, _⟩ => ⟨S8x8320x8320, .f32⟩
  | .hbm, ⟨19, _⟩ => ⟨S8x8320x8320, .f32⟩
  | .hbm, ⟨20, _⟩ => ⟨S8x8320x8320, .f32⟩
  | .hbm, ⟨21, _⟩ => ⟨S8x8320x8320, .f32⟩
  | .hbm, ⟨22, _⟩ => ⟨S8320, .i32⟩
  | .hbm, ⟨23, _⟩ => ⟨S1x8320, .i32⟩
  | .hbm, ⟨24, _⟩ => ⟨S8320x1, .i32⟩
  | .hbm, ⟨25, _⟩ => ⟨S8320x8320, .i32⟩
  | .hbm, ⟨26, _⟩ => ⟨S8320x8320, .i32⟩
  | .hbm, ⟨27, _⟩ => ⟨S8320x8320, .i1⟩
  | .hbm, ⟨28, _⟩ => ⟨S_, .f32⟩
  | .hbm, ⟨29, _⟩ => ⟨S_, .f32⟩
  | .hbm, ⟨30, _⟩ => ⟨S8x8320x8320, .i1⟩
  | .hbm, ⟨31, _⟩ => ⟨S8x8320x8320, .f32⟩
  | .hbm, ⟨32, _⟩ => ⟨S8x8320x8320, .f32⟩
  | .hbm, ⟨33, _⟩ => ⟨S_, .f32⟩
  | .hbm, ⟨34, _⟩ => ⟨S8x8320, .f32⟩
  | .hbm, ⟨35, _⟩ => ⟨S8x8320x1, .f32⟩
  | .hbm, ⟨36, _⟩ => ⟨S8x8320x8320, .f32⟩
  | .hbm, ⟨37, _⟩ => ⟨S8x8320x8320, .f32⟩
  | .hbm, ⟨38, _⟩ => ⟨S8x8320x8320, .f32⟩
  | .hbm, ⟨39, _⟩ => ⟨S_, .f32⟩
  | .hbm, ⟨40, _⟩ => ⟨S8x8320, .f32⟩
  | .hbm, ⟨41, _⟩ => ⟨S8x8320x1, .f32⟩
  | .hbm, ⟨42, _⟩ => ⟨S8x8320x8320, .f32⟩
  | .hbm, ⟨43, _⟩ => ⟨S8x8320x8320, .f32⟩
  | .hbm, ⟨44, _⟩ => ⟨S8x8320x8320, .bf16⟩
  | .hbm, ⟨45, _⟩ => ⟨S8x8320x8320, .f32⟩
  | .hbm, ⟨46, _⟩ => ⟨S8x128x8320, .f32⟩
  | .hbm, ⟨47, _⟩ => ⟨S8320x8x128, .f32⟩
  | .hbm, ⟨48, _⟩ => ⟨S8320x1024, .f32⟩
  | .hbm, ⟨49, _⟩ => ⟨S8320x1, .i32⟩
  | .hbm, ⟨50, _⟩ => ⟨S_, .i32⟩
  | .hbm, ⟨51, _⟩ => ⟨S8320x1, .i32⟩
  | .hbm, ⟨52, _⟩ => ⟨S8320x1, .i1⟩
  | .hbm, ⟨53, _⟩ => ⟨S_, .f32⟩
  | .hbm, ⟨54, _⟩ => ⟨S_, .f32⟩
  | .hbm, ⟨55, _⟩ => ⟨S8320x1024, .i1⟩
  | .hbm, ⟨56, _⟩ => ⟨S8320x1024, .f32⟩
  | .hbm, ⟨57, _⟩ => ⟨S8320x1024, .f32⟩
  | .hbm, ⟨58, _⟩ => ⟨S8320x1024, .bf16⟩
  | .hbm, ⟨59, _⟩ => ⟨S8x8320x1, .f32⟩
  | .hbm, ⟨60, _⟩ => ⟨S8x8320x1, .f32⟩
  | .hbm, ⟨61, _⟩ => ⟨S_, .f32⟩
  | .hbm, ⟨62, _⟩ => ⟨S_, .f32⟩
  | .hbm, ⟨63, _⟩ => ⟨S8x8320x1, .f32⟩
  | .hbm, ⟨64, _⟩ => ⟨S8x8320x1, .f32⟩
  | _, _ => ⟨S8320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel21.lean ====
abbrev S8320x3072 : Shape := ⟨2, ![8320, 3072]⟩
abbrev S8x8320x1 : Shape := ⟨3, ![8, 8320, 1]⟩
abbrev S8x1x8320 : Shape := ⟨3, ![8, 1, 8320]⟩
abbrev S8320x1024 : Shape := ⟨2, ![8320, 1024]⟩
abbrev S8320x8x128 : Shape := ⟨3, ![8320, 8, 128]⟩
abbrev S8320x2048 : Shape := ⟨2, ![8320, 2048]⟩
abbrev S8320x8x2x128 : Shape := ⟨4, ![8320, 8, 2, 128]⟩
abbrev S8320x8x1x128 : Shape := ⟨4, ![8320, 8, 1, 128]⟩
abbrev S8x8320x8320 : Shape := ⟨3, ![8, 8320, 8320]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S8x8320 : Shape := ⟨2, ![8, 8320]⟩
abbrev S8x128x8320 : Shape := ⟨3, ![8, 128, 8320]⟩
abbrev S640x256 : Shape := ⟨2, ![640, 256]⟩
abbrev S640x512 : Shape := ⟨2, ![640, 512]⟩
abbrev S2x640x1 : Shape := ⟨3, ![2, 640, 1]⟩
abbrev S2x1x640 : Shape := ⟨3, ![2, 1, 640]⟩
abbrev S8320x256 : Shape := ⟨2, ![8320, 256]⟩
abbrev S2x8320x1 : Shape := ⟨3, ![2, 8320, 1]⟩
abbrev S1x1x640 : Shape := ⟨3, ![1, 1, 640]⟩
abbrev S1x640 : Shape := ⟨2, ![1, 640]⟩
abbrev S1x640x1 : Shape := ⟨3, ![1, 640, 1]⟩
abbrev S640x1 : Shape := ⟨2, ![640, 1]⟩
abbrev S640x128 : Shape := ⟨2, ![640, 128]⟩
abbrev S640 : Shape := ⟨1, ![640]⟩
abbrev S640x640 : Shape := ⟨2, ![640, 640]⟩

abbrev nBuf : Space → Nat
  | .hbm => 80
  | .vmem => 26
  | .smem => 0
  | _ => 0

abbrev bufTy : (tb : Table) → Fin (tcTables nBuf tb) → BufTy
  | .hbm, ⟨0, _⟩ => ⟨S8320x3072, .bf16⟩
  | .hbm, ⟨1, _⟩ => ⟨S8x8320x1, .f32⟩
  | .hbm, ⟨2, _⟩ => ⟨S8x1x8320, .f32⟩
  | .hbm, ⟨3, _⟩ => ⟨S8320x1024, .bf16⟩
  | .hbm, ⟨4, _⟩ => ⟨S8320x1024, .bf16⟩
  | .hbm, ⟨5, _⟩ => ⟨S8320x8x128, .bf16⟩
  | .hbm, ⟨6, _⟩ => ⟨S8320x8x128, .f32⟩
  | .hbm, ⟨7, _⟩ => ⟨S8320x2048, .bf16⟩
  | .hbm, ⟨8, _⟩ => ⟨S8320x8x2x128, .bf16⟩
  | .hbm, ⟨9, _⟩ => ⟨S8320x8x2x128, .f32⟩
  | .hbm, ⟨10, _⟩ => ⟨S8320x8x1x128, .f32⟩
  | .hbm, ⟨11, _⟩ => ⟨S8320x8x128, .f32⟩
  | .hbm, ⟨12, _⟩ => ⟨S8320x8x1x128, .f32⟩
  | .hbm, ⟨13, _⟩ => ⟨S8320x8x128, .f32⟩
  | .hbm, ⟨14, _⟩ => ⟨S8x8320x8320, .f32⟩
  | .hbm, ⟨15, _⟩ => ⟨S_, .f32⟩
  | .hbm, ⟨16, _⟩ => ⟨S_, .f32⟩
  | .hbm, ⟨17, _⟩ => ⟨S8x8320x8320, .f32⟩
  | .hbm, ⟨18, _⟩ => ⟨S8x8320x8320, .f32⟩
  | .hbm, ⟨19, _⟩ => ⟨S8x8320x8320, .f32⟩
  | .hbm, ⟨20, _⟩ => ⟨S8x8320x8320, .f32⟩
  | .hbm, ⟨21, _⟩ => ⟨S8x8320x8320, .f32⟩
  | .hbm, ⟨22, _⟩ => ⟨S8x8320x8320, .f32⟩
  | .hbm, ⟨23, _⟩ => ⟨S8320, .i32⟩
  | .hbm, ⟨24, _⟩ => ⟨S1x8320, .i32⟩
  | .hbm, ⟨25, _⟩ => ⟨S8320x1, .i32⟩
  | .hbm, ⟨26, _⟩ => ⟨S8320x8320, .i32⟩
  | .hbm, ⟨27, _⟩ => ⟨S8320x8320, .i32⟩
  | .hbm, ⟨28, _⟩ => ⟨S8320x8320, .i1⟩
  | .hbm, ⟨29, _⟩ => ⟨S_, .f32⟩
  | .hbm, ⟨30, _⟩ => ⟨S_, .f32⟩
  | .hbm, ⟨31, _⟩ => ⟨S8x8320x8320, .i1⟩
  | .hbm, ⟨32, _⟩ => ⟨S8x8320x8320, .f32⟩
  | .hbm, ⟨33, _⟩ => ⟨S8x8320x8320, .f32⟩
  | .hbm, ⟨34, _⟩ => ⟨S_, .f32⟩
  | .hbm, ⟨35, _⟩ => ⟨S8x8320, .f32⟩
  | .hbm, ⟨36, _⟩ => ⟨S8x8320x1, .f32⟩
  | .hbm, ⟨37, _⟩ => ⟨S8x8320x8320, .f32⟩
  | .hbm, ⟨38, _⟩ => ⟨S8x8320x8320, .f32⟩
  | .hbm, ⟨39, _⟩ => ⟨S8x8320x8320, .f32⟩
  | .hbm, ⟨40, _⟩ => ⟨S_, .f32⟩
  | .hbm, ⟨41, _⟩ => ⟨S8x8320, .f32⟩
  | .hbm, ⟨42, _⟩ => ⟨S8x8320x1, .f32⟩
  | .hbm, ⟨43, _⟩ => ⟨S8x8320x8320, .f32⟩
  | .hbm, ⟨44, _⟩ => ⟨S8x8320x8320, .f32⟩
  | .hbm, ⟨45, _⟩ => ⟨S8x8320x8320, .bf16⟩
  | .hbm, ⟨46, _⟩ => ⟨S8x8320x8320, .f32⟩
  | .hbm, ⟨47, _⟩ => ⟨S8x128x8320, .f32⟩
  | .hbm, ⟨48, _⟩ => ⟨S8320x8x128, .f32⟩
  | .hbm, ⟨49, _⟩ => ⟨S8320x1024, .f32⟩
  | .hbm, ⟨50, _⟩ => ⟨S8320x1, .i32⟩
  | .hbm, ⟨51, _⟩ => ⟨S_, .i32⟩
  | .hbm, ⟨52, _⟩ => ⟨S8320x1, .i32⟩
  | .hbm, ⟨53, _⟩ => ⟨S8320x1, .i1⟩
  | .hbm, ⟨54, _⟩ => ⟨S_, .f32⟩
  | .hbm, ⟨55, _⟩ => ⟨S_, .f32⟩
  | .hbm, ⟨56, _⟩ => ⟨S8320x1024, .i1⟩
  | .hbm, ⟨57, _⟩ => ⟨S8320x1024, .f32⟩
  | .hbm, ⟨58, _⟩ => ⟨S8320x1024, .f32⟩
  | .hbm, ⟨59, _⟩ => ⟨S8320x1024, .bf16⟩
  | .hbm, ⟨60, _⟩ => ⟨S8x8320x1, .f32⟩
  | .hbm, ⟨61, _⟩ => ⟨S8x8320x1, .f32⟩
  | .hbm, ⟨62, _⟩ => ⟨S_, .f32⟩
  | .hbm, ⟨63, _⟩ => ⟨S_, .f32⟩
  | .hbm, ⟨64, _⟩ => ⟨S8x8320x1, .f32⟩
  | .hbm, ⟨65, _⟩ => ⟨S8x8320x1, .f32⟩
  | .hbm, ⟨66, _⟩ => ⟨S8320, .i32⟩
  | .hbm, ⟨67, _⟩ => ⟨S8320x1, .i32⟩
  | .hbm, ⟨68, _⟩ => ⟨S_, .i32⟩
  | .hbm, ⟨69, _⟩ => ⟨S8320x1, .i32⟩
  | .hbm, ⟨70, _⟩ => ⟨S8320x1, .i1⟩
  | .hbm, ⟨71, _⟩ => ⟨S_, .i32⟩
  | .hbm, ⟨72, _⟩ => ⟨S_, .bf16⟩
  | .hbm, ⟨73, _⟩ => ⟨S8320x1024, .i1⟩
  | .hbm, ⟨74, _⟩ => ⟨S8320x1024, .bf16⟩
  | .hbm, ⟨75, _⟩ => ⟨S8320x1024, .bf16⟩
  | .hbm, ⟨76, _⟩ => ⟨S8320x1024, .bf16⟩
  | .hbm, ⟨77, _⟩ => ⟨S8320x2048, .bf16⟩
  | .hbm, ⟨78, _⟩ => ⟨S8x8320x1, .f32⟩
  | .hbm, ⟨79, _⟩ => ⟨S8x1x8320, .f32⟩
  | .local _ .vmem, ⟨0, _⟩ => ⟨S640x256, .bf16⟩
  | .local _ .vmem, ⟨1, _⟩ => ⟨S640x256, .bf16⟩
  | .local _ .vmem, ⟨2, _⟩ => ⟨S640x512, .bf16⟩
  | .local _ .vmem, ⟨3, _⟩ => ⟨S640x512, .bf16⟩
  | .local _ .vmem, ⟨4, _⟩ => ⟨S640x256, .bf16⟩
  | .local _ .vmem, ⟨5, _⟩ => ⟨S640x256, .bf16⟩
  | .local _ .vmem, ⟨6, _⟩ => ⟨S640x256, .bf16⟩
  | .local _ .vmem, ⟨7, _⟩ => ⟨S640x256, .bf16⟩
  | .local _ .vmem, ⟨8, _⟩ => ⟨S2x640x1, .f32⟩
  | .local _ .vmem, ⟨9, _⟩ => ⟨S2x640x1, .f32⟩
  | .local _ .vmem, ⟨10, _⟩ => ⟨S2x640x1, .f32⟩
  | .local _ .vmem, ⟨11, _⟩ => ⟨S2x640x1, .f32⟩
  | .local _ .vmem, ⟨12, _⟩ => ⟨S2x1x640, .f32⟩
  | .local _ .vmem, ⟨13, _⟩ => ⟨S2x1x640, .f32⟩
  | .local _ .vmem, ⟨14, _⟩ => ⟨S8320x256, .bf16⟩
  | .local _ .vmem, ⟨15, _⟩ => ⟨S8320x256, .bf16⟩
  | .local _ .vmem, ⟨16, _⟩ => ⟨S640x512, .bf16⟩
  | .local _ .vmem, ⟨17, _⟩ => ⟨S640x512, .bf16⟩
  | .local _ .vmem, ⟨18, _⟩ => ⟨S2x8320x1, .f32⟩
  | .local _ .vmem, ⟨19, _⟩ => ⟨S2x8320x1, .f32⟩
  | .local _ .vmem, ⟨20, _⟩ => ⟨S2x1x640, .f32⟩
  | .local _ .vmem, ⟨21, _⟩ => ⟨S2x1x640, .f32⟩
  | .local _ .vmem, ⟨22, _⟩ => ⟨S640x256, .f32⟩
  | .local _ .vmem, ⟨23, _⟩ => ⟨S640x256, .f32⟩
  | .local _ .vmem, ⟨24, _⟩ => ⟨S8320x256, .f32⟩
  | .local _ .vmem, ⟨25, _⟩ => ⟨S2x8320x1, .f32⟩
  | _, _ => ⟨S8320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_5 : Ref sig .tc := ⟨.hbm, 68, rfl⟩
abbrev main_v51 : Ref sig .tc := ⟨.hbm, 69, rfl⟩
abbrev main_v52 : Ref sig .tc := ⟨.hbm, 70, rfl⟩
abbrev main_c_6 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v53 : Ref sig .tc := ⟨.hbm, 75, rfl⟩
abbrev main_v54_0 : Ref sig .tc := ⟨.hbm, 76, rfl⟩
abbrev main_v54_1 : Ref sig .tc := ⟨.hbm, 77, rfl⟩
abbrev main_v54_2 : Ref sig .tc := ⟨.hbm, 78, rfl⟩
abbrev main_v54_3 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 13, 13], ![false, false, false]⟩

def k0_mult1 (i : grid0.Coords) : BitVec 32 :=
  let arg2 : BitVec 32 := BitVec.ofNat 32 (i 2).val
  let c640_i32 : BitVec 32 := 640#32
  let v0 : BitVec 32 := Scalar.muli arg2 c640_i32
  v0
def k0_cond3 (i : grid0.Coords) : BitVec 1 :=
  let arg1 : BitVec 32 := BitVec.ofNat 32 (i 1).val
  let arg2 : BitVec 32 := BitVec.ofNat 32 (i 2).val
  let v10 : BitVec 1 := Scalar.cmpi .slt arg1 arg2
  let v11 : BitVec 32 := Scalar.extui v10
  let c0_i32_4 : BitVec 32 := 0#32
  let v12 : BitVec 1 := Scalar.cmpi .ne v11 c0_i32_4
  v12

def k0_off1 (i : grid0.Coords) : Fin 3 → Nat :=
  let c0_14 : Index := 0#32
  let arg2 : BitVec 32 := BitVec.ofNat 32 (i 2).val
  let c640_i32 : BitVec 32 := 640#32
  let v0 : BitVec 32 := Scalar.muli arg2 c640_i32
  let v1 : BitVec 32 := v0
  let v28 : Index := Scalar.indexCast v1
  let c0_15 : Index := 0#32
  ![0, v28.toNat, 0]
def k0_off2 (i : grid0.Coords) : Fin 3 → Nat :=
  let c1_16 : Index := 1#32
  let arg2 : BitVec 32 := BitVec.ofNat 32 (i 2).val
  let c640_i32 : BitVec 32 := 640#32
  let v0 : BitVec 32 := Scalar.muli arg2 c640_i32
  let v1 : BitVec 32 := v0
  let v31 : Index := Scalar.indexCast v1
  let c0_17 : Index := 0#32
  ![1, v31.toNat, 0]
def k0_off3 (i : grid0.Coords) : Fin 2 → Nat :=
  let arg2 : BitVec 32 := BitVec.ofNat 32 (i 2).val
  let c640_i32 : BitVec 32 := 640#32
  let v0 : BitVec 32 := Scalar.muli arg2 c640_i32
  let v1 : BitVec 32 := v0
  let v38 : Index := Scalar.indexCast v1
  let c0_25 : Index := 0#32
  ![v38.toNat, 0]
def k0_off4 (i : grid0.Coords) : Fin 2 → Nat :=
  let arg2 : BitVec 32 := BitVec.ofNat 32 (i 2).val
  let c640_i32 : BitVec 32 := 640#32
  let v0 : BitVec 32 := Scalar.muli arg2 c640_i32
  let v1 : BitVec 32 := v0
  let v40 : Index := Scalar.indexCast v1
  let c128_26 : Index := 128#32
  ![v40.toNat, 128]
def k0_cond4 (i : grid0.Coords) : BitVec 1 :=
  let arg1 : BitVec 32 := BitVec.ofNat 32 (i 1).val
  let arg2 : BitVec 32 := BitVec.ofNat 32 (i 2).val
  let v13 : BitVec 1 := Scalar.cmpi .eq arg1 arg2
  let v14 : BitVec 32 := Scalar.extui v13
  let c0_i32_5 : BitVec 32 := 0#32
  let v15 : BitVec 1 := Scalar.cmpi .ne v14 c0_i32_5
  v15

def k0_off5 (i : grid0.Coords) : Fin 3 → Nat :=
  let c0_14 : Index := 0#32
  let arg2 : BitVec 32 := BitVec.ofNat 32 (i 2).val
  let c640_i32 : BitVec 32 := 640#32
  let v0 : BitVec 32 := Scalar.muli arg2 c640_i32
  let v1 : BitVec 32 := v0
  let v28 : Index := Scalar.indexCast v1
  let c0_15 : Index := 0#32
  ![0, v28.toNat, 0]
def k0_off6 (i : grid0.Coords) : Fin 3 → Nat :=
  let c1_16 : Index := 1#32
  let arg2 : BitVec 32 := BitVec.ofNat 32 (i 2).val
  let c640_i32 : BitVec 32 := 640#32
  let v0 : BitVec 32 := Scalar.muli arg2 c640_i32
  let v1 : BitVec 32 := v0
  let v31 : Index := Scalar.indexCast v1
  let c0_17 : Index := 0#32
  ![1, v31.toNat, 0]
def k0_off7 (i : grid0.Coords) : Fin 2 → Nat :=
  let arg2 : BitVec 32 := BitVec.ofNat 32 (i 2).val
  let c640_i32 : BitVec 32 := 640#32
  let v0 : BitVec 32 := Scalar.muli arg2 c640_i32
  let v1 : BitVec 32 := v0
  let v38 : Index := Scalar.indexCast v1
  let c0_25 : Index := 0#32
  ![v38.toNat, 0]
def k0_off8 (i : grid0.Coords) : Fin 2 → Nat :=
  let arg2 : BitVec 32 := BitVec.ofNat 32 (i 2).val
  let c640_i32 : BitVec 32 := 640#32
  let v0 : BitVec 32 := Scalar.muli arg2 c640_i32
  let v1 : BitVec 32 := v0
  let v40 : Index := Scalar.indexCast v1
  let c128_26 : Index := 128#32
  ![v40.toNat, 128]
def k0_cond6 (i : grid0.Coords) : BitVec 1 :=
  let arg2 : BitVec 32 := BitVec.ofNat 32 (i 2).val
  let c12_i32_7 : BitVec 32 := 12#32
  let v19 : BitVec 1 := Scalar.cmpi .eq arg2 c12_i32_7
  let arg1 : BitVec 32 := BitVec.ofNat 32 (i 1).val
  let c12_i32_8 : BitVec 32 := 12#32
  let v20 : BitVec 1 := Scalar.cmpi .eq arg1 c12_i32_8
  let v21 : BitVec 1 := Scalar.andi v19 v20
  let v22 : BitVec 32 := Scalar.extui v21
  let c0_i32_9 : BitVec 32 := 0#32
  let v23 : BitVec 1 := Scalar.cmpi .ne v22 c0_i32_9
  v23

def k0_cond5 (i : grid0.Coords) : BitVec 1 :=
  let arg2 : BitVec 32 := BitVec.ofNat 32 (i 2).val
  let c12_i32 : BitVec 32 := 12#32
  let v16 : BitVec 1 := Scalar.cmpi .eq arg2 c12_i32
  let v17 : BitVec 32 := Scalar.extui v16
  let c0_i32_6 : BitVec 32 := 0#32
  let v18 : BitVec 1 := Scalar.cmpi .ne v17 c0_i32_6
  v18

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x640x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x640x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2x1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8320x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S640x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2x8320x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S2x1x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Kernel21Ideal.lean ====
variable {F : FTy → Type} [FloatOps F] [Named F]
def κ : String → Option EReal := fun
  | "log2e" => some (((Real.log 2)⁻¹ : ℝ) : EReal)
  | "log2e_scale" => some (((Real.log 2)⁻¹ * (Real.sqrt 128)⁻¹ : ℝ) : EReal)
  | "mask" => some ⊥
  | "scale" => some (((Real.sqrt 128)⁻¹ : ℝ) : EReal)
  | _ => none
-- ==== Reference21Ideal.lean ====
abbrev S8320x3072 : Shape := ⟨2, ![8320, 3072]⟩
abbrev S8x8320x1 : Shape := ⟨3, ![8, 8320, 1]⟩
abbrev S8x1x8320 : Shape := ⟨3, ![8, 1, 8320]⟩
abbrev S8320x1024 : Shape := ⟨2, ![8320, 1024]⟩
abbrev S8320x8x128 : Shape := ⟨3, ![8320, 8, 128]⟩
abbrev S8320x2048 : Shape := ⟨2, ![8320, 2048]⟩
abbrev S8320x8x2x128 : Shape := ⟨4, ![8320, 8, 2, 128]⟩
abbrev S8320x8x1x128 : Shape := ⟨4, ![8320, 8, 1, 128]⟩
abbrev S8x8320x8320 : Shape := ⟨3, ![8, 8320, 8320]⟩
abbrev S_ : Shape := ⟨0, ![]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S8x8320 : Shape := ⟨2, ![8, 8320]⟩
abbrev S8x128x8320 : Shape := ⟨3, ![8, 128, 8320]⟩
abbrev S8x8320x128 : Shape := ⟨3, ![8, 8320, 128]⟩

abbrev nBuf : Space → Nat
  | .hbm => 150
  | .vmem => 0
  | .smem => 0
  | _ => 0

abbrev hbmTy0_0 (i : Nat) : BufTy := match i % 128 with
  | 0 => ⟨S8320x3072, .bf16⟩
  | 1 => ⟨S8x8320x1, .f32⟩
  | 2 => ⟨S8x1x8320, .f32⟩
  | 3 => ⟨S8320x1024, .bf16⟩
  | 4 => ⟨S8320x1024, .bf16⟩
  | 5 => ⟨S8320x8x128, .bf16⟩
  | 6 => ⟨S8320x8x128, .f32⟩
  | 7 => ⟨S8320x2048, .bf16⟩
  | 8 => ⟨S8320x8x2x128, .bf16⟩
  | 9 => ⟨S8320x8x2x128, .f32⟩
  | 10 => ⟨S8320x8x1x128, .f32⟩
  | 11 => ⟨S8320x8x128, .f32⟩
  | 12 => ⟨S8320x8x1x128, .f32⟩
  | 13 => ⟨S8320x8x128, .f32⟩
  | 14 => ⟨S8x8320x8320, .f32⟩
  | 15 => ⟨S_, .f32⟩
  | 16 => ⟨S_, .f32⟩
  | 17 => ⟨S8x8320x8320, .f32⟩
  | 18 => ⟨S8x8320x8320, .f32⟩
  | 19 => ⟨S8x8320x8320, .f32⟩
  | 20 => ⟨S8x8320x8320, .f32⟩
  | 21 => ⟨S8x8320x8320, .f32⟩
  | 22 => ⟨S8x8320x8320, .f32⟩
  | 23 => ⟨S8320, .i32⟩
  | 24 => ⟨S1x8320, .i32⟩
  | 25 => ⟨S8320x1, .i32⟩
  | 26 => ⟨S8320x8320, .i32⟩
  | 27 => ⟨S8320x8320, .i32⟩
  | 28 => ⟨S8320x8320, .i1⟩
  | 29 => ⟨S_, .f32⟩
  | 30 => ⟨S_, .f32⟩
  | 31 => ⟨S8x8320x8320, .i1⟩
  | 32 => ⟨S8x8320x8320, .f32⟩
  | 33 => ⟨S8x8320x8320, .f32⟩
  | 34 => ⟨S_, .f32⟩
  | 35 => ⟨S8x8320x8320, .f32⟩
  | 36 => ⟨S_, .f32⟩
  | 37 => ⟨S8x8320, .f32⟩
  | 38 => ⟨S8x8320x1, .f32⟩
  | 39 => ⟨S8x8320x8320, .f32⟩
  | 40 => ⟨S8x8320x8320, .i1⟩
  | 41 => ⟨S8x8320x8320, .f32⟩
  | 42 => ⟨S_, .f32⟩
  | 43 => ⟨S8x8320, .f32⟩
  | 44 => ⟨S_, .f32⟩
  | 45 => ⟨S8x8320, .f32⟩
  | 46 => ⟨S8x8320, .f32⟩
  | 47 => ⟨S_, .f32⟩
  | 48 => ⟨S8x8320, .f32⟩
  | 49 => ⟨S8x8320, .i1⟩
  | 50 => ⟨S_, .f32⟩
  | 51 => ⟨S8x8320, .f32⟩
  | 52 => ⟨S8x8320, .i1⟩
  | 53 => ⟨S_, .f32⟩
  | 54 => ⟨S8x8320, .f32⟩
  | 55 => ⟨S_, .f32⟩
  | 56 => ⟨S8x8320, .f32⟩
  | 57 => ⟨S_, .f32⟩
  | 58 => ⟨S8x8320, .f32⟩
  | 59 => ⟨S8x8320, .f32⟩
  | 60 => ⟨S8x8320, .f32⟩
  | 61 => ⟨S8x8320x1, .f32⟩
  | 62 => ⟨S8x8320x8320, .f32⟩
  | 63 => ⟨S8x8320x8320, .f32⟩
  | 64 => ⟨S8x8320x8320, .f32⟩
  | 65 => ⟨S_, .f32⟩
  | 66 => ⟨S8x8320, .f32⟩
  | 67 => ⟨S8x8320x1, .f32⟩
  | 68 => ⟨S8x8320x8320, .f32⟩
  | 69 => ⟨S8x8320x8320, .f32⟩
  | 70 => ⟨S8x8320x1, .f32⟩
  | 71 => ⟨S_, .f32⟩
  | 72 => ⟨S8x8320x1, .f32⟩
  | 73 => ⟨S8x8320x1, .f32⟩
  | 74 => ⟨S8x8320x8320, .bf16⟩
  | 75 => ⟨S8x8320x8320, .f32⟩
  | 76 => ⟨S8x128x8320, .f32⟩
  | 77 => ⟨S8320x8x128, .f32⟩
  | 78 => ⟨S8320x1024, .f32⟩
  | 79 => ⟨S8320x1, .i32⟩
  | 80 => ⟨S_, .i32⟩
  | 81 => ⟨S8320x1, .i32⟩
  | 82 => ⟨S8320x1, .i1⟩
  | 83 => ⟨S_, .f32⟩
  | 84 => ⟨S_, .f32⟩
  | 85 => ⟨S8320x1024, .i1⟩
  | 86 => ⟨S8320x1024, .f32⟩
  | 87 => ⟨S8320x1024, .f32⟩
  | 88 => ⟨S_, .f32⟩
  | 89 => ⟨S8320x1024, .f32⟩
  | 90 => ⟨S8320x1024, .bf16⟩
  | 91 => ⟨S8320x1024, .f32⟩
  | 92 => ⟨S_, .f32⟩
  | 93 => ⟨S8320x1024, .f32⟩
  | 94 => ⟨S8320x1024, .f32⟩
  | 95 => ⟨S8320x8x128, .f32⟩
  | 96 => ⟨S8x128x8320, .f32⟩
  | 97 => ⟨S8x8320x8320, .f32⟩
  | 98 => ⟨S8x128x8320, .f32⟩
  | 99 => ⟨S8320x8x128, .f32⟩
  | 100 => ⟨S8x8320x8320, .bf16⟩
  | 101 => ⟨S8x8320x8320, .f32⟩
  | 102 => ⟨S8x8320x8320, .f32⟩
  | 103 => ⟨S8x8320x8320, .f32⟩
  | 104 => ⟨S8x8320x8320, .f32⟩
  | 105 => ⟨S_, .f32⟩
  | 106 => ⟨S8x8320, .f32⟩
  | 107 => ⟨S8x8320x1, .f32⟩
  | 108 => ⟨S8x8320x1, .f32⟩
  | 109 => ⟨S8x8320x8320, .f32⟩
  | 110 => ⟨S8x8320x8320, .f32⟩
  | 111 => ⟨S_, .f32⟩
  | 112 => ⟨S8x8320, .f32⟩
  | 113 => ⟨S8x8320x8320, .f32⟩
  | 114 => ⟨S8x8320x8320, .f32⟩
  | 115 => ⟨S8x8320x8320, .f32⟩
  | 116 => ⟨S_, .f32⟩
  | 117 => ⟨S8x8320x8320, .f32⟩
  | 118 => ⟨S8x8320x8320, .f32⟩
  | 119 => ⟨S8x8320x8320, .f32⟩
  | 120 => ⟨S_, .f32⟩
  | 121 => ⟨S8x8320, .f32⟩
  | 122 => ⟨S8x1x8320, .f32⟩
  | 123 => ⟨S_, .f32⟩
  | 124 => ⟨S8x8320, .f32⟩
  | 125 => ⟨S8x8320x1, .f32⟩
  | 126 => ⟨S8x8320x8320, .f32⟩
  | 127 => ⟨S8x8320x8320, .f32⟩
  | _ => ⟨S8320x3072, .bf16⟩

abbrev hbmTy0_1 (i : Nat) : BufTy := match i % 128 with
  | 0 => ⟨S8x8320x128, .f32⟩
  | 1 => ⟨S8320x8x128, .f32⟩
  | 2 => ⟨S8x8320x128, .f32⟩
  | 3 => ⟨S8320x8x128, .f32⟩
  | 4 => ⟨S8320x8x1x128, .f32⟩
  | 5 => ⟨S_, .f32⟩
  | 6 => ⟨S8320x8x2x128, .f32⟩
  | 7 => ⟨S8320x8x1x128, .f32⟩
  | 8 => ⟨S_, .f32⟩
  | 9 => ⟨S8320x8x2x128, .f32⟩
  | 10 => ⟨S8320x8x2x128, .f32⟩
  | 11 => ⟨S8320x8x2x128, .bf16⟩
  | 12 => ⟨S8320x2048, .bf16⟩
  | 13 => ⟨S_, .bf16⟩
  | 14 => ⟨S8320x3072, .bf16⟩
  | 15 => ⟨S8320x8x128, .bf16⟩
  | 16 => ⟨S8320x1024, .bf16⟩
  | 17 => ⟨S_, .bf16⟩
  | 18 => ⟨S8320x3072, .bf16⟩
  | 19 => ⟨S8320x3072, .bf16⟩
  | 20 => ⟨S8320x1024, .bf16⟩
  | 21 => ⟨S8320x2048, .bf16⟩
  | _ => ⟨S8320x3072, .bf16⟩

abbrev hbmTy (i : Nat) : BufTy := match i / 128 with
  | 0 => hbmTy0_0 i
  | 1 => hbmTy0_1 i
  | _ => ⟨S8320x3072, .bf16⟩

abbrev bufTy : (tb : Table) → Fin (tcTables nBuf tb) → BufTy
  | .hbm, ⟨i, _⟩ => hbmTy i
  | _, _ => ⟨S8320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_v24_1 : Ref sig .tc := ⟨.hbm, 31, rfl⟩
abbrev main_call0_v2 : Ref sig .tc := ⟨.hbm, 32, rfl⟩
abbrev main_v24_0 : Ref sig .tc := ⟨.hbm, 33, rfl⟩
abbrev main_call0_cst : Ref sig .tc := ⟨.hbm, 34, rfl⟩
abbrev main_v24_2 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_call1_v0 : Ref sig .tc := ⟨.hbm, 84, rfl⟩
abbrev main_v61_1 : Ref sig .tc := ⟨.hbm, 85, rfl⟩
abbrev main_call1_v2 : Ref sig .tc := ⟨.hbm, 86, rfl⟩
abbrev main_v61_0 : Ref sig .tc := ⟨.hbm, 87, rfl⟩
abbrev main_call1_cst : Ref sig .tc := ⟨.hbm, 88, rfl⟩
abbrev main_v61_2 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call3_cst : Ref sig .tc := ⟨.hbm, 116, rfl⟩
abbrev main_call3_v0 : Ref sig .tc := ⟨.hbm, 117, rfl⟩
abbrev main_v84 : Ref sig .tc := ⟨.hbm, 118, rfl⟩
abbrev main_v85 : Ref sig .tc := ⟨.hbm, 119, rfl⟩
abbrev main_cst_14 : Ref sig .tc := ⟨.hbm, 120, rfl⟩
abbrev main_v86 : Ref sig .tc := ⟨.hbm, 121, rfl⟩
abbrev main_v87 : Ref sig .tc := ⟨.hbm, 122, rfl⟩
abbrev main_cst_15 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_16 : Ref sig .tc := ⟨.hbm, 133, rfl⟩
abbrev main_v97 : Ref sig .tc := ⟨.hbm, 134, rfl⟩
abbrev main_v98 : Ref sig .tc := ⟨.hbm, 135, rfl⟩
abbrev main_cst_17 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_18 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_19 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩

abbrev nD : Nat := 1
abbrev τ : Topo := Topo.v7x

variable {F : FTy → Type} [FloatOps F]
-- ==== Proof.Products.Sums.lean ====
/- A matrix's entries by the numbers of their row and column, and a long sum taken block by block. -/
module

public import Idealize.ShloMosaic.Lib.Pipeline.Value
public import Idealize.ShloMosaic.Lib.Pointwise
public import Idealize.ShloMosaic.Lib.WordCmp

@[expose] public section

noncomputable section

namespace Cert.Products

open Finset Idealize.ShloMosaic

/-- A matrix's entry by the numbers of its row and column. -/
def ent {R C : ℕ} (x : (⟨2, ![R, C]⟩ : Shape).Idx → EReal) (r c : ℕ) : EReal :=
  if h : r < R ∧ c < C then x (ix2 ⟨r, h.1⟩ ⟨c, h.2⟩) else 0

/-- An index of a matrix has the entry of its two numbers. -/
theorem ent_of {R C : ℕ} (x : (⟨2, ![R, C]⟩ : Shape).Idx → EReal) (i : (⟨2, ![R, C]⟩ : Shape).Idx) (r c : ℕ)
    (h0 : (i 0).val = r) (h1 : (i 1).val = c) : x i = ent x r c := by
  subst h0 h1
  unfold ent
  rw [dif_pos ⟨(i 0).isLt, (i 1).isLt⟩]
  refine congrArg x (funext fun a => ?_)
  match a with
  | 0 => rfl
  | 1 => rfl

/-- An entry of the product of a matrix's transpose and a matrix. -/
def dotTN {K M N : ℕ} (x : (⟨2, ![K, M]⟩ : Shape).Idx → EReal) (w : (⟨2, ![K, N]⟩ : Shape).Idx → EReal) (r : Fin M) (k : Fin N) : EReal :=
  ∑ s : Fin K, x (ix2 s r) * w (ix2 s k)
/-- An entry of the product of a matrix and a matrix's transpose. -/
def dotNT {K M N : ℕ} (x : (⟨2, ![M, K]⟩ : Shape).Idx → EReal) (w : (⟨2, ![N, K]⟩ : Shape).Idx → EReal) (r : Fin M) (k : Fin N) : EReal :=
  ∑ s : Fin K, x (ix2 r s) * w (ix2 k s)
/-- An entry of the product of two matrices. -/
def dotNN {K M N : ℕ} (x : (⟨2, ![M, K]⟩ : Shape).Idx → EReal) (w : (⟨2, ![K, N]⟩ : Shape).Idx → EReal) (r : Fin M) (k : Fin N) : EReal :=
  ∑ s : Fin K, x (ix2 r s) * w (ix2 s k)

/-- A value on the rows that are not padding, and nothing on the others. -/
def kept (r : ℕ) (x : EReal) : EReal := if 112 ≤ r then x else 0

/-- A row's number tells whether the row is kept. -/
theorem select_kept (n : ℕ) (hn : n < 2 ^ 31) (x : EReal) : Scalar.select (IntOp.cmpi .sge (BitVec.ofNat 32 n) 112#32) x 0 = kept n x := by
  unfold Scalar.select kept
  exact if_congr (WordCmp.cmpi_sge_ofNat_eq_one_iff hn (by norm_num)) rfl rfl

theorem word_row (a b : ℕ) : IntOp.addi (Scalar.muli (BitVec.ofNat 32 a) 1664#32) (BitVec.ofNat 32 b) = BitVec.ofNat 32 (1664 * a + b) := by
  show BitVec.ofNat 32 a * BitVec.ofNat 32 1664 + BitVec.ofNat 32 b = _
  rw [← BitVec.ofNat_mul, ← BitVec.ofNat_add, Nat.mul_comm]

theorem zz : (![0, 0] : Fin 2 → ℕ) = fun _ => 0 := by funext a; fin_cases a <;> rfl

theorem at2 {a b : ℕ} {i : (⟨2, ![a, b]⟩ : Shape).Idx} {x : Fin a} {y : Fin b} (h0 : (i 0).val = x.val) (h1 : (i 1).val = y.val) : i = ix2 x y := by
  funext q
  fin_cases q
  · exact Fin.ext h0
  · exact Fin.ext h1

/-- The first block's sum. -/
theorem sum_first (f : ℕ → EReal) (B : ℕ) : (∑ s : Fin B, f (B * 0 + s.val)) = ∑ s ∈ range (B * 1), f s := by
  simp only [Nat.mul_zero, Nat.zero_add, Nat.mul_one]
  exact Fin.sum_univ_eq_sum_range f B

/-- The sum over the blocks so far, and the next block's. -/
theorem sum_next (f : ℕ → EReal) (B q : ℕ) :
    (∑ s ∈ range (B * q), f s) + (∑ s : Fin B, f (B * q + s.val)) = ∑ s ∈ range (B * (q + 1)), f s := by
  rw [Fin.sum_univ_eq_sum_range (fun s => f (B * q + s)) B, Nat.mul_add, Nat.mul_one, Finset.sum_range_add]

/-- A block's whole sum: `q` names the block of a step and `r` its place among the block's steps, the last one `L`; the first step starts from zero and each later one adds its part. -/
theorem carry {N B L : ℕ} (q r : ℕ → ℕ) (h0 : r 0 = 0) (hs : ∀ n, ¬ r (n + 1) = 0 → q (n + 1) = q n ∧ r (n + 1) = r n + 1 ∧ ¬ r n = L)
    (f : ℕ → ℕ → EReal) (a : ∀ n, n < N → EReal)
    (hA : ∀ n hn, r n = 0 → ¬ r n = L → a n hn = 0 + ∑ s : Fin B, f (q n) (B * r n + s.val))
    (hB : ∀ n hn, ¬ r n = 0 → ¬ r n = L → a n hn = a (n - 1) (Nat.lt_of_le_of_lt (Nat.sub_le _ _) hn) + ∑ s : Fin B, f (q n) (B * r n + s.val))
    (n : ℕ) (hn : n < N) (hz : ¬ r n = 0) (hl : r n = L) :
    a (n - 1) (Nat.lt_of_le_of_lt (Nat.sub_le _ _) hn) + ∑ s : Fin B, f (q n) (B * r n + s.val) = ∑ s ∈ range (B * (L + 1)), f (q n) s := by
  have all : ∀ n hn, ¬ r n = L → a n hn = ∑ s ∈ range (B * (r n + 1)), f (q n) s := by
    intro n
    induction n with
    | zero =>
      intro hn h
      rw [hA 0 hn h0 h, zero_add, h0]
      exact sum_first _ _
    | succ n ih =>
      intro hn h
      by_cases hz : r (n + 1) = 0
      · rw [hA _ hn hz h, zero_add, hz]
        exact sum_first _ _
      · obtain ⟨e1, e2, e3⟩ := hs n hz
        refine (hB _ hn hz h).trans ((congrArg (· + _) (ih (by omega) e3)).trans ?_)
        rw [e1, e2]
        exact sum_next _ _ _
  obtain _ | n := n
  · exact absurd h0 hz
  · obtain ⟨e1, e2, e3⟩ := hs n hz
    refine (congrArg (· + _) (all n (by omega) e3)).trans ?_
    rw [← hl, e1, e2]
    exact sum_next _ _ _

/-- A sum over all numbers of a range, as one over its positions. -/
theorem sum_all (f : ℕ → EReal) (n : ℕ) (g : Fin n → EReal) (h : ∀ k, g k = f k.val) : (∑ s ∈ range n, f s) = ∑ k : Fin n, g k := by
  rw [← Fin.sum_univ_eq_sum_range]
  exact Finset.sum_congr rfl fun k _ => (h k).symm

end Cert.Products

end
-- ==== Proof.Products.Reads.lean ====
/- What a window reads of a matrix. -/
module

public import proofs.«01_k».proof.Proof.Products.Sums

@[expose] public section

namespace Cert.Products

open Idealize.ShloMosaic

/-- A value read at a place, by the numbers of its row and column. -/
theorem ent_read {R C r c : ℕ} {z : EReal} (x : (⟨2, ![R, C]⟩ : Shape).Idx → EReal) (i : (⟨2, ![R, C]⟩ : Shape).Idx) (h : z = x i)
    (h0 : (i 0).val = r) (h1 : (i 1).val = c) : z = ent x r c := h.trans (ent_of x i r c h0 h1)

end Cert.Products

end
-- ==== Proof.Products.Call2.lean ====
/- The gradient of the input projection's weights: the array the kernel writes, entry by entry, is the whole sum, and so is the reference's. -/
module

public import proofs.«01_k».proof.Proof.Products.Reads
public import proofs.«01_k».proof.Proof.Gen.Kernel2Ideal.Value
public import proofs.«01_k».proof.Proof.Gen.Reference2Ideal.Read

@[expose] public section

noncomputable section

namespace Cert.Products.Call2

open Finset Idealize.ShloMosaic Idealize.ShloMosaic.TcCoe Cert.Kernel2Ideal Cert.Kernel2Ideal.Gen Cert.Reference2Ideal.Read

theorem zero_at (y : S2048x1024.Idx) : k0_pay1 (F := Ideal) y = (0 : EReal) := by
  unfold k0_pay1
  pointwise

theorem step_at (v : Vec Ideal S2048x1024 .f32) (X : Vec Ideal S1664x2048 .bf16) (W : Vec Ideal S1664x1024 .bf16) (y : S2048x1024.Idx) :
    k0_pay2 v X W y = (v y : EReal) + dotTN (K := 1664) (M := 2048) (N := 1024) X W (y 0) (y 1) := by
  unfold k0_pay2 dotTN
  pointwise

theorem round_at (v : Vec Ideal S2048x1024 .f32) (y : S2048x1024.Idx) : (k0_pay3 (F := Ideal) v y : EReal) = v y := by
  unfold k0_pay3
  pointwise

section Step

variable (c : Dev nD) (t : Fin cfg0.N) (X : Vec Ideal S1664x2048 .bf16) (W : Vec Ideal S1664x1024 .bf16) (v : Vec Ideal S2048x1024 .f32)

theorem first (hc0 hc1) : sout0_A_0 c (grid0.coords t) _ (hs0_0 t) _ (hs0_1 t) _ (hs0_2 t) scM0_0 (Memref.isWhole_whole _) hc0 hc1 X W
    = k0_pay2 (k0_pay1 (F := Ideal)) X W := by
  unfold sout0_A_0
  rw [View.read_writes_eq_canon _ _ _ (scover0_A_0 c _ _ _ _ _ _ _ _ _ _ _ _ _)]
  unfold kernelRun0_A
  dsimp only
  sl_unfold_words
  simp only [View.readAt_eq_ld, Memref.IsWhole.read_unread, (Memref.isWhole_whole _).read_unread]
  rw [View.canon_cons_unit_zero zz, View.readCov_unit_zero _ zz, View.ld_unit_zero zz, View.ld_unit_zero zz]

theorem next (hc0 hc1) : sout0_B_0 c (grid0.coords t) _ (hs0_0 t) _ (hs0_1 t) _ (hs0_2 t) scM0_0 (Memref.isWhole_whole _) hc0 hc1 X W v
    = k0_pay2 v X W := by
  unfold sout0_B_0
  rw [View.read_writes_eq_canon _ _ _ (scover0_B_0 c _ _ _ _ _ _ _ _ _ _ _ _ _ _)]
  unfold kernelRun0_B
  dsimp only
  sl_unfold_words
  simp only [View.readAt_eq_ld, Memref.IsWhole.read_unread, (Memref.isWhole_whole _).read_unread]
  rw [View.canon_unit_zero zz, View.ld_unit_zero zz, View.ld_unit_zero zz, View.ld_unit_zero zz]

theorem last (hc0 hc1) : out0_C_2 c (grid0.coords t) _ (hs0_0 t) _ (hs0_1 t) _ (hs0_2 t) scM0_0 (Memref.isWhole_whole _) hc0 hc1 X W v
    = k0_pay3 (F := Ideal) (k0_pay2 v X W) := by
  unfold out0_C_2
  rw [View.read_writes_eq_canon _ _ _ (cover0_C_2 c _ _ _ _ _ _ _ _ _ _ _ _ _ _)]
  unfold kernelRun0_C
  dsimp only
  sl_unfold_words
  simp only [View.readAt_eq_ld, Memref.IsWhole.read_unread, (Memref.isWhole_whole _).read_unread]
  rw [View.canon_unit_zero zz, View.readCov_unit_zero _ zz, View.ld_unit_zero zz, View.ld_unit_zero zz, View.ld_unit_zero zz]

end Step

theorem index0 : ∀ t : Fin cfg0.N, win0_0.index t 0 = t.val % 5 ∧ win0_0.index t 1 = t.val / 5 / 16 :=
  (by change ∀ t : Fin grid0.N, _; decide +kernel)
theorem index1 : ∀ t : Fin cfg0.N, win0_1.index t 0 = t.val % 5 ∧ win0_1.index t 1 = t.val / 5 % 16 :=
  (by change ∀ t : Fin grid0.N, _; decide +kernel)

/-- One term of the sum for the entry at row `r` and column `k`. -/
def term (x : S8320x2048.Idx → EReal) (w : S8320x16384.Idx → EReal) (r k s : ℕ) : EReal := ent x s r * ent w s k

variable (m : (ℓ : Loc nD τ Cert.Kernel2Ideal.sig) → Buf (Elt Ideal) ℓ) (c : Dev nD)

/-- A term of the entry at `y` of block `b`. -/
abbrev tm (b : ℕ) (y : S2048x1024.Idx) (s : ℕ) : EReal := term (V m c main_arg0) (V m c main_arg1) (2048 * (b / 16) + (y 0).val) (1024 * (b % 16) + (y 1).val) s

/-- What a step adds to the entry at `y` of its block. -/
theorem added (t : Fin cfg0.N) (y : S2048x1024.Idx) :
    dotTN (K := 1664) (M := 2048) (N := 1024) (iblk m c 0 t) (iblk m c 1 t) (y 0) (y 1)
      = ∑ s : Fin 1664, tm m c (t.val / 5) y (1664 * (t.val % 5) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * s.val = _
    omega
  · show win0_0.index t 1 * 2048 + 1 * (y 0).val = _
    omega
  · show win0_1.index t 0 * 1664 + 1 * s.val = _
    omega
  · show win0_1.index t 1 * 1024 + 1 * (y 1).val = _
    omega

theorem stepA (t : Fin cfg0.N) (h0 : t.val % 5 = 0) (h1 : ¬ t.val % 5 = 4) (y : S2048x1024.Idx) : ((outsAt0 m c t.val t.isLt).2 y : EReal)
    = 0 + ∑ s : Fin 1664, tm m c (t.val / 5) y (1664 * (t.val % 5) + s.val) := by
  rw [outsAt0_A m c t h0 h1]
  dsimp only
  rw [first, step_at, zero_at]
  exact congrArg _ (added m c t y)

theorem stepB (t : Fin cfg0.N) (h0 : ¬ t.val % 5 = 0) (h1 : ¬ t.val % 5 = 4) (y : S2048x1024.Idx) : ((outsAt0 m c t.val t.isLt).2 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_B m c t h0 h1]
  dsimp only
  rw [next, step_at]
  exact congrArg _ (added m c t y)

theorem stepC (t : Fin cfg0.N) (h0 : ¬ t.val % 5 = 0) (h1 : t.val % 5 = 4) (y : S2048x1024.Idx) : ((outsAt0 m c t.val t.isLt).1 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_C m c t h0 h1]
  dsimp only
  rw [last, round_at, step_at]
  exact congrArg _ (added m c t y)

/-- The block written by the last step of a sum. -/
theorem written (n : ℕ) (hn : n < cfg0.N) (hl : n % 5 = 4) (y : S2048x1024.Idx) : ((outsAt0 m c n hn).1 y : EReal)
    = ∑ s ∈ range (1664 * 5), tm m c (n / 5) y s :=
  (stepC m c ⟨n, hn⟩ (fun h : n % 5 = 0 => by omega) hl y).trans (carry (L := 4) (· / 5) (· % 5) rfl (fun n h => by omega) (fun b => tm m c b y) (fun n hn => (outsAt0 m c n hn).2 y) (fun n hn h0 h1 => stepA m c ⟨n, hn⟩ h0 h1 y) (fun n hn h0 h1 => stepB m c ⟨n, hn⟩ h0 h1 y) n hn (fun h : n % 5 = 0 => by omega) hl)

/-- The kernel's array, entry by entry. -/
theorem result (i : S2048x16384.Idx) : (Value.G2 m c : S2048x16384.Idx → EReal) i
    = ∑ s ∈ range 8320, term (V m c main_arg0) (V m c main_arg1) (i 0).val (i 1).val s := by
  have h0 : (i 0).val < 2048 := (i 0).isLt
  have h1 : (i 1).val < 16384 := (i 1).isLt
  have hp : Value.pt2Of i = 5 * (16 * ((i 0).val / 2048 - 0) + 1 * ((i 1).val / 1024 - 0)) + 4 := rfl
  have hb : Value.pt2Of i < cfg0.N := by rw [hp, show cfg0.N = 80 from N_0]; omega
  have e0 : 2048 * (Value.pt2Of i / 5 / 16) + (i 0).val % 2048 = (i 0).val := by rw [hp]; omega
  have e1 : 1024 * (Value.pt2Of i / 5 % 16) + (i 1).val % 1024 = (i 1).val := by rw [hp]; omega
  unfold Value.G2
  rw [dif_pos hb, ← Value.outsAt0_sweep m c _ hb]
  refine (written m c _ hb (by rw [hp]; omega) _).trans ?_
  exact congrArg₂ (fun a b => ∑ s ∈ range 8320, term (V m c main_arg0) (V m c main_arg1) a b s) e0 e1

/-- The reference's array, entry by entry. -/
theorem reference (x : S8320x2048.Idx → EReal) (w : S8320x16384.Idx → EReal) (i : S2048x16384.Idx) :
    (val_main_v6 (F := Ideal) x w i : EReal) = ∑ s ∈ range 8320, term x w (i 0).val (i 1).val s := by
  rw [sum_all _ _ (fun k : Fin 8320 => (w (ix2 k (i 1)) : EReal) * x (ix2 k (i 0))) (fun k => ((mul_comm _ _).trans (congrArg₂ (· * ·) (ent_of _ _ _ _ rfl rfl) (ent_of _ _ _ _ rfl rfl))))]
  refine (val_main_v6_apply _ _ _).trans ((val_main_v5_apply _ _ _).trans ((val_main_v4_apply _ _ _).trans (Finset.sum_congr rfl fun k _ => congrArg₂ (· * ·) ?_ ?_)))
  · exact (val_main_v3_apply _ _).trans (congrArg w (at2 rfl rfl))
  · exact (val_main_v1_apply _ _).trans (congrArg x (at2 rfl rfl))

/-- The two arrays are one. -/
theorem same : (Value.G2 m c : S2048x16384.Idx → EReal) = val_main_v6 (F := Ideal) (V m c main_arg0) (V m c main_arg1) :=
  funext fun i => (result m c i).trans (reference _ _ i).symm

end Cert.Products.Call2

end
-- ==== Proof.Products.Call3.lean ====
/- The gradient of the input projection's input: the array the kernel writes, entry by entry, is the whole sum, and so is the reference's. -/
module

public import proofs.«01_k».proof.Proof.Products.Reads
public import proofs.«01_k».proof.Proof.Gen.Kernel3Ideal.Value
public import proofs.«01_k».proof.Proof.Gen.Reference3Ideal.Read

@[expose] public section

noncomputable section

namespace Cert.Products.Call3

open Finset Idealize.ShloMosaic Idealize.ShloMosaic.TcCoe Cert.Kernel3Ideal Cert.Kernel3Ideal.Gen Cert.Reference3Ideal.Read

theorem zero_at (y : S640x2048.Idx) : k0_pay1 (F := Ideal) y = (0 : EReal) := by
  unfold k0_pay1
  pointwise

theorem step_at (v : Vec Ideal S640x2048 .f32) (X : Vec Ideal S640x2048 .bf16) (W : Vec Ideal S2048x2048 .bf16) (y : S640x2048.Idx) :
    k0_pay2 v X W y = (v y : EReal) + dotNT (K := 2048) (M := 640) (N := 2048) X W (y 0) (y 1) := by
  unfold k0_pay2 dotNT
  pointwise

section Step

variable (c : Dev nD) (t : Fin cfg0.N) (X : Vec Ideal S640x2048 .bf16) (W : Vec Ideal S2048x2048 .bf16) (v : Vec Ideal S640x2048 .f32)

theorem first (hc0 hc1) : sout0_A_0 c (grid0.coords t) _ (hs0_0 t) _ (hs0_1 t) _ (hs0_2 t) scM0_0 (Memref.isWhole_whole _) hc0 hc1 X W
    = k0_pay2 (k0_pay1 (F := Ideal)) X W := by
  unfold sout0_A_0
  rw [View.read_writes_eq_canon _ _ _ (scover0_A_0 c _ _ _ _ _ _ _ _ _ _ _ _ _)]
  unfold kernelRun0_A
  dsimp only
  sl_unfold_words
  simp only [View.readAt_eq_ld, Memref.IsWhole.read_unread, (Memref.isWhole_whole _).read_unread]
  rw [View.canon_cons_unit_zero zz, View.readCov_unit_zero _ zz, View.ld_unit_zero zz, View.ld_unit_zero zz]

theorem next (hc0 hc1) : sout0_B_0 c (grid0.coords t) _ (hs0_0 t) _ (hs0_1 t) _ (hs0_2 t) scM0_0 (Memref.isWhole_whole _) hc0 hc1 X W v
    = k0_pay2 v X W := by
  unfold sout0_B_0
  rw [View.read_writes_eq_canon _ _ _ (scover0_B_0 c _ _ _ _ _ _ _ _ _ _ _ _ _ _)]
  unfold kernelRun0_B
  dsimp only
  sl_unfold_words
  simp only [View.readAt_eq_ld, Memref.IsWhole.read_unread, (Memref.isWhole_whole _).read_unread]
  rw [View.canon_unit_zero zz, View.ld_unit_zero zz, View.ld_unit_zero zz, View.ld_unit_zero zz]

theorem last (hc0 hc1) : out0_C_2 c (grid0.coords t) _ (hs0_0 t) _ (hs0_1 t) _ (hs0_2 t) scM0_0 (Memref.isWhole_whole _) hc0 hc1 X W v
    = k0_pay2 v X W := by
  unfold out0_C_2
  rw [View.read_writes_eq_canon _ _ _ (cover0_C_2 c _ _ _ _ _ _ _ _ _ _ _ _ _ _)]
  unfold kernelRun0_C
  dsimp only
  sl_unfold_words
  simp only [View.readAt_eq_ld, Memref.IsWhole.read_unread, (Memref.isWhole_whole _).read_unread]
  rw [View.canon_unit_zero zz, View.readCov_unit_zero _ zz, View.ld_unit_zero zz, View.ld_unit_zero zz, View.ld_unit_zero zz]

end Step

theorem index0 : ∀ t : Fin cfg0.N, win0_0.index t 0 = t.val / 8 / 1 ∧ win0_0.index t 1 = t.val % 8 :=
  (by change ∀ t : Fin grid0.N, _; decide +kernel)
theorem index1 : ∀ t : Fin cfg0.N, win0_1.index t 0 = t.val / 8 % 1 ∧ win0_1.index t 1 = t.val % 8 :=
  (by change ∀ t : Fin grid0.N, _; decide +kernel)

/-- One term of the sum for the entry at row `r` and column `k`. -/
def term (x : S8320x16384.Idx → EReal) (w : S2048x16384.Idx → EReal) (r k s : ℕ) : EReal := ent x r s * ent w k s

variable (m : (ℓ : Loc nD τ Cert.Kernel3Ideal.sig) → Buf (Elt Ideal) ℓ) (c : Dev nD)

/-- A term of the entry at `y` of block `b`. -/
abbrev tm (b : ℕ) (y : S640x2048.Idx) (s : ℕ) : EReal := term (V m c main_arg0) (V m c main_arg1) (640 * (b / 1) + (y 0).val) (2048 * (b % 1) + (y 1).val) s

/-- What a step adds to the entry at `y` of its block. -/
theorem added (t : Fin cfg0.N) (y : S640x2048.Idx) :
    dotNT (K := 2048) (M := 640) (N := 2048) (iblk m c 0 t) (iblk m c 1 t) (y 0) (y 1)
      = ∑ s : Fin 2048, tm m c (t.val / 8) y (2048 * (t.val % 8) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 640 + 1 * (y 0).val = _
    omega
  · show win0_0.index t 1 * 2048 + 1 * s.val = _
    omega
  · show win0_1.index t 0 * 2048 + 1 * (y 1).val = _
    omega
  · show win0_1.index t 1 * 2048 + 1 * s.val = _
    omega

theorem stepA (t : Fin cfg0.N) (h0 : t.val % 8 = 0) (h1 : ¬ t.val % 8 = 7) (y : S640x2048.Idx) : ((outsAt0 m c t.val t.isLt).2 y : EReal)
    = 0 + ∑ s : Fin 2048, tm m c (t.val / 8) y (2048 * (t.val % 8) + s.val) := by
  rw [outsAt0_A m c t h0 h1]
  dsimp only
  rw [first, step_at, zero_at]
  exact congrArg _ (added m c t y)

theorem stepB (t : Fin cfg0.N) (h0 : ¬ t.val % 8 = 0) (h1 : ¬ t.val % 8 = 7) (y : S640x2048.Idx) : ((outsAt0 m c t.val t.isLt).2 y : EReal)
    = ((outsAt0 m c (t.val - 1) (Nat.lt_of_le_of_lt (Nat.sub_le _ _) t.isLt)).2 y : EReal)
      + ∑ s : Fin 2048, tm m c (t.val / 8) y (2048 * (t.val % 8) + s.val) := by
  rw [outsAt0_B m c t h0 h1]
  dsimp only
  rw [next, step_at]
  exact congrArg _ (added m c t y)

theorem stepC (t : Fin cfg0.N) (h0 : ¬ t.val % 8 = 0) (h1 : t.val % 8 = 7) (y : S640x2048.Idx) : ((outsAt0 m c t.val t.isLt).1 y : EReal)
    = ((outsAt0 m c (t.val - 1) (Nat.lt_of_le_of_lt (Nat.sub_le _ _) t.isLt)).2 y : EReal)
      + ∑ s : Fin 2048, tm m c (t.val / 8) y (2048 * (t.val % 8) + s.val) := by
  rw [outsAt0_C m c t h0 h1]
  dsimp only
  rw [last, step_at]
  exact congrArg _ (added m c t y)

/-- The block written by the last step of a sum. -/
theorem written (n : ℕ) (hn : n < cfg0.N) (hl : n % 8 = 7) (y : S640x2048.Idx) : ((outsAt0 m c n hn).1 y : EReal)
    = ∑ s ∈ range (2048 * 8), tm m c (n / 8) y s :=
  (stepC m c ⟨n, hn⟩ (fun h : n % 8 = 0 => by omega) hl y).trans (carry (L := 7) (· / 8) (· % 8) rfl (fun n h => by omega) (fun b => tm m c b y) (fun n hn => (outsAt0 m c n hn).2 y) (fun n hn h0 h1 => stepA m c ⟨n, hn⟩ h0 h1 y) (fun n hn h0 h1 => stepB m c ⟨n, hn⟩ h0 h1 y) n hn (fun h : n % 8 = 0 => by omega) hl)

/-- The kernel's array, entry by entry. -/
theorem result (i : S8320x2048.Idx) : (Value.G2 m c : S8320x2048.Idx → EReal) i
    = ∑ s ∈ range 16384, term (V m c main_arg0) (V m c main_arg1) (i 0).val (i 1).val s := by
  have h0 : (i 0).val < 8320 := (i 0).isLt
  have h1 : (i 1).val < 2048 := (i 1).isLt
  have hp : Value.pt2Of i = 8 * (1 * ((i 0).val / 640 - 0) + 1 * ((i 1).val / 2048 - 0)) + 7 := rfl
  have hb : Value.pt2Of i < cfg0.N := by rw [hp, show cfg0.N = 104 from N_0]; omega
  have e0 : 640 * (Value.pt2Of i / 8 / 1) + (i 0).val % 640 = (i 0).val := by rw [hp]; omega
  have e1 : 2048 * (Value.pt2Of i / 8 % 1) + (i 1).val % 2048 = (i 1).val := by rw [hp]; omega
  unfold Value.G2
  rw [dif_pos hb, ← Value.outsAt0_sweep m c _ hb]
  refine (written m c _ hb (by rw [hp]; omega) _).trans ?_
  exact congrArg₂ (fun a b => ∑ s ∈ range 16384, term (V m c main_arg0) (V m c main_arg1) a b s) e0 e1

/-- The reference's array, entry by entry. -/
theorem reference (x : S8320x16384.Idx → EReal) (w : S2048x16384.Idx → EReal) (i : S8320x2048.Idx) :
    (val_main_v4 (F := Ideal) x w i : EReal) = ∑ s ∈ range 16384, term x w (i 0).val (i 1).val s := by
  rw [sum_all _ _ (fun k : Fin 16384 => (x (ix2 (i 0) k) : EReal) * w (ix2 (i 1) k)) (fun k => (congrArg₂ (· * ·) (ent_of _ _ _ _ rfl rfl) (ent_of _ _ _ _ rfl rfl)))]
  refine (val_main_v4_apply _ _ _).trans (Finset.sum_congr rfl fun k _ => congrArg₂ (· * ·) ?_ ?_)
  · exact (val_main_v3_apply _ _).trans (congrArg x (at2 rfl rfl))
  · exact (val_main_v1_apply _ _).trans (congrArg w (at2 rfl rfl))

/-- The two arrays are one. -/
theorem same : (Value.G2 m c : S8320x2048.Idx → EReal) = val_main_v4 (F := Ideal) (V m c main_arg0) (V m c main_arg1) :=
  funext fun i => (result m c i).trans (reference _ _ i).symm

end Cert.Products.Call3

end
-- ==== Proof.Products.Call4.lean ====
/- The gradient of one half of the up projection's weights: the array the kernel writes, entry by entry, is the whole sum, and so is the reference's. -/
module

public import proofs.«01_k».proof.Proof.Products.Reads
public import proofs.«01_k».proof.Proof.Gen.Kernel4Ideal.Value
public import proofs.«01_k».proof.Proof.Gen.Reference4Ideal.Read

@[expose] public section

noncomputable section

namespace Cert.Products.Call4

open Finset Idealize.ShloMosaic Idealize.ShloMosaic.TcCoe Cert.Kernel4Ideal Cert.Kernel4Ideal.Gen Cert.Reference4Ideal.Read

theorem zero_at (y : S2048x512.Idx) : k0_pay1 (F := Ideal) y = (0 : EReal) := by
  unfold k0_pay1
  pointwise

theorem step_at (v : Vec Ideal S2048x512 .f32) (X : Vec Ideal S1664x2048 .bf16) (W : Vec Ideal S1664x512 .bf16) (y : S2048x512.Idx) :
    k0_pay2 v X W y = (v y : EReal) + dotTN (K := 1664) (M := 2048) (N := 512) X W (y 0) (y 1) := by
  unfold k0_pay2 dotTN
  pointwise

theorem round_at (v : Vec Ideal S2048x512 .f32) (y : S2048x512.Idx) : (k0_pay3 (F := Ideal) v y : EReal) = v y := by
  unfold k0_pay3
  pointwise

section Step

variable (c : Dev nD) (t : Fin cfg0.N) (X : Vec Ideal S1664x2048 .bf16) (W : Vec Ideal S1664x512 .bf16) (v : Vec Ideal S2048x512 .f32)

theorem first (hc0 hc1) : sout0_A_0 c (grid0.coords t) _ (hs0_0 t) _ (hs0_1 t) _ (hs0_2 t) scM0_0 (Memref.isWhole_whole _) hc0 hc1 X W
    = k0_pay2 (k0_pay1 (F := Ideal)) X W := by
  unfold sout0_A_0
  rw [View.read_writes_eq_canon _ _ _ (scover0_A_0 c _ _ _ _ _ _ _ _ _ _ _ _ _)]
  unfold kernelRun0_A
  dsimp only
  sl_unfold_words
  simp only [View.readAt_eq_ld, Memref.IsWhole.read_unread, (Memref.isWhole_whole _).read_unread]
  rw [View.canon_cons_unit_zero zz, View.readCov_unit_zero _ zz, View.ld_unit_zero zz, View.ld_unit_zero zz]

theorem next (hc0 hc1) : sout0_B_0 c (grid0.coords t) _ (hs0_0 t) _ (hs0_1 t) _ (hs0_2 t) scM0_0 (Memref.isWhole_whole _) hc0 hc1 X W v
    = k0_pay2 v X W := by
  unfold sout0_B_0
  rw [View.read_writes_eq_canon _ _ _ (scover0_B_0 c _ _ _ _ _ _ _ _ _ _ _ _ _ _)]
  unfold kernelRun0_B
  dsimp only
  sl_unfold_words
  simp only [View.readAt_eq_ld, Memref.IsWhole.read_unread, (Memref.isWhole_whole _).read_unread]
  rw [View.canon_unit_zero zz, View.ld_unit_zero zz, View.ld_unit_zero zz, View.ld_unit_zero zz]

theorem last (hc0 hc1) : out0_C_2 c (grid0.coords t) _ (hs0_0 t) _ (hs0_1 t) _ (hs0_2 t) scM0_0 (Memref.isWhole_whole _) hc0 hc1 X W v
    = k0_pay3 (F := Ideal) (k0_pay2 v X W) := by
  unfold out0_C_2
  rw [View.read_writes_eq_canon _ _ _ (cover0_C_2 c _ _ _ _ _ _ _ _ _ _ _ _ _ _)]
  unfold kernelRun0_C
  dsimp only
  sl_unfold_words
  simp only [View.readAt_eq_ld, Memref.IsWhole.read_unread, (Memref.isWhole_whole _).read_unread]
  rw [View.canon_unit_zero zz, View.readCov_unit_zero _ zz, View.ld_unit_zero zz, View.ld_unit_zero zz, View.ld_unit_zero zz]

end Step

theorem index0 : ∀ t : Fin cfg0.N, win0_0.index t 0 = t.val % 5 ∧ win0_0.index t 1 = t.val / 5 / 11 :=
  (by change ∀ t : Fin grid0.N, _; decide +kernel)
theorem index1 : ∀ t : Fin cfg0.N, win0_1.index t 0 = t.val % 5 ∧ win0_1.index t 1 = t.val / 5 % 11 :=
  (by change ∀ t : Fin grid0.N, _; decide +kernel)

/-- One term of the sum for the entry at row `r` and column `k`. -/
def term (x : S8320x2048.Idx → EReal) (w : S8320x5632.Idx → EReal) (r k s : ℕ) : EReal := ent x s r * ent w s k

variable (m : (ℓ : Loc nD τ Cert.Kernel4Ideal.sig) → Buf (Elt Ideal) ℓ) (c : Dev nD)

/-- A term of the entry at `y` of block `b`. -/
abbrev tm (b : ℕ) (y : S2048x512.Idx) (s : ℕ) : EReal := term (V m c main_arg0) (V m c main_arg1) (2048 * (b / 11) + (y 0).val) (512 * (b % 11) + (y 1).val) s

/-- What a step adds to the entry at `y` of its block. -/
theorem added (t : Fin cfg0.N) (y : S2048x512.Idx) :
    dotTN (K := 1664) (M := 2048) (N := 512) (iblk m c 0 t) (iblk m c 1 t) (y 0) (y 1)
      = ∑ s : Fin 1664, tm m c (t.val / 5) y (1664 * (t.val % 5) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * s.val = _
    omega
  · show win0_0.index t 1 * 2048 + 1 * (y 0).val = _
    omega
  · show win0_1.index t 0 * 1664 + 1 * s.val = _
    omega
  · show win0_1.index t 1 * 512 + 1 * (y 1).val = _
    omega

theorem stepA (t : Fin cfg0.N) (h0 : t.val % 5 = 0) (h1 : ¬ t.val % 5 = 4) (y : S2048x512.Idx) : ((outsAt0 m c t.val t.isLt).2 y : EReal)
    = 0 + ∑ s : Fin 1664, tm m c (t.val / 5) y (1664 * (t.val % 5) + s.val) := by
  rw [outsAt0_A m c t h0 h1]
  dsimp only
  rw [first, step_at, zero_at]
  exact congrArg _ (added m c t y)

theorem stepB (t : Fin cfg0.N) (h0 : ¬ t.val % 5 = 0) (h1 : ¬ t.val % 5 = 4) (y : S2048x512.Idx) : ((outsAt0 m c t.val t.isLt).2 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_B m c t h0 h1]
  dsimp only
  rw [next, step_at]
  exact congrArg _ (added m c t y)

theorem stepC (t : Fin cfg0.N) (h0 : ¬ t.val % 5 = 0) (h1 : t.val % 5 = 4) (y : S2048x512.Idx) : ((outsAt0 m c t.val t.isLt).1 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_C m c t h0 h1]
  dsimp only
  rw [last, round_at, step_at]
  exact congrArg _ (added m c t y)

/-- The block written by the last step of a sum. -/
theorem written (n : ℕ) (hn : n < cfg0.N) (hl : n % 5 = 4) (y : S2048x512.Idx) : ((outsAt0 m c n hn).1 y : EReal)
    = ∑ s ∈ range (1664 * 5), tm m c (n / 5) y s :=
  (stepC m c ⟨n, hn⟩ (fun h : n % 5 = 0 => by omega) hl y).trans (carry (L := 4) (· / 5) (· % 5) rfl (fun n h => by omega) (fun b => tm m c b y) (fun n hn => (outsAt0 m c n hn).2 y) (fun n hn h0 h1 => stepA m c ⟨n, hn⟩ h0 h1 y) (fun n hn h0 h1 => stepB m c ⟨n, hn⟩ h0 h1 y) n hn (fun h : n % 5 = 0 => by omega) hl)

/-- The kernel's array, entry by entry. -/
theorem result (i : S2048x5632.Idx) : (Value.G2 m c : S2048x5632.Idx → EReal) i
    = ∑ s ∈ range 8320, term (V m c main_arg0) (V m c main_arg1) (i 0).val (i 1).val s := by
  have h0 : (i 0).val < 2048 := (i 0).isLt
  have h1 : (i 1).val < 5632 := (i 1).isLt
  have hp : Value.pt2Of i = 5 * (11 * ((i 0).val / 2048 - 0) + 1 * ((i 1).val / 512 - 0)) + 4 := rfl
  have hb : Value.pt2Of i < cfg0.N := by rw [hp, show cfg0.N = 55 from N_0]; omega
  have e0 : 2048 * (Value.pt2Of i / 5 / 11) + (i 0).val % 2048 = (i 0).val := by rw [hp]; omega
  have e1 : 512 * (Value.pt2Of i / 5 % 11) + (i 1).val % 512 = (i 1).val := by rw [hp]; omega
  unfold Value.G2
  rw [dif_pos hb, ← Value.outsAt0_sweep m c _ hb]
  refine (written m c _ hb (by rw [hp]; omega) _).trans ?_
  exact congrArg₂ (fun a b => ∑ s ∈ range 8320, term (V m c main_arg0) (V m c main_arg1) a b s) e0 e1

/-- The reference's array, entry by entry. -/
theorem reference (x : S8320x2048.Idx → EReal) (w : S8320x5632.Idx → EReal) (i : S2048x5632.Idx) :
    (val_main_v6 (F := Ideal) x w i : EReal) = ∑ s ∈ range 8320, term x w (i 0).val (i 1).val s := by
  rw [sum_all _ _ (fun k : Fin 8320 => (w (ix2 k (i 1)) : EReal) * x (ix2 k (i 0))) (fun k => ((mul_comm _ _).trans (congrArg₂ (· * ·) (ent_of _ _ _ _ rfl rfl) (ent_of _ _ _ _ rfl rfl))))]
  refine (val_main_v6_apply _ _ _).trans ((val_main_v5_apply _ _ _).trans ((val_main_v4_apply _ _ _).trans (Finset.sum_congr rfl fun k _ => congrArg₂ (· * ·) ?_ ?_)))
  · exact (val_main_v3_apply _ _).trans (congrArg w (at2 rfl rfl))
  · exact (val_main_v1_apply _ _).trans (congrArg x (at2 rfl rfl))

/-- The two arrays are one. -/
theorem same : (Value.G2 m c : S2048x5632.Idx → EReal) = val_main_v6 (F := Ideal) (V m c main_arg0) (V m c main_arg1) :=
  funext fun i => (result m c i).trans (reference _ _ i).symm

end Cert.Products.Call4

end
-- ==== Proof.Products.Call5.lean ====
/- The gradient of the down projection's weights: the array the kernel writes, entry by entry, is the whole sum, and so is the reference's. -/
module

public import proofs.«01_k».proof.Proof.Products.Reads
public import proofs.«01_k».proof.Proof.Gen.Kernel5Ideal.Value
public import proofs.«01_k».proof.Proof.Gen.Reference5Ideal.Read

@[expose] public section

noncomputable section

namespace Cert.Products.Call5

open Finset Idealize.ShloMosaic Idealize.ShloMosaic.TcCoe Cert.Kernel5Ideal Cert.Kernel5Ideal.Gen Cert.Reference5Ideal.Read

theorem zero_at (y : S1408x1024.Idx) : k0_pay1 (F := Ideal) y = (0 : EReal) := by
  unfold k0_pay1
  pointwise

theorem step_at (v : Vec Ideal S1408x1024 .f32) (X : Vec Ideal S1664x1408 .bf16) (W : Vec Ideal S1664x1024 .f32) (y : S1408x1024.Idx) :
    k0_pay2 v X W y = (v y : EReal) + dotTN (K := 1664) (M := 1408) (N := 1024) X W (y 0) (y 1) := by
  unfold k0_pay2 dotTN
  pointwise

theorem round_at (v : Vec Ideal S1408x1024 .f32) (y : S1408x1024.Idx) : (k0_pay3 (F := Ideal) v y : EReal) = v y := by
  unfold k0_pay3
  pointwise

section Step

variable (c : Dev nD) (t : Fin cfg0.N) (X : Vec Ideal S1664x1408 .bf16) (W : Vec Ideal S1664x1024 .f32) (v : Vec Ideal S1408x1024 .f32)

theorem first (hc0 hc1) : sout0_A_0 c (grid0.coords t) _ (hs0_0 t) _ (hs0_1 t) _ (hs0_2 t) scM0_0 (Memref.isWhole_whole _) hc0 hc1 X W
    = k0_pay2 (k0_pay1 (F := Ideal)) X W := by
  unfold sout0_A_0
  rw [View.read_writes_eq_canon _ _ _ (scover0_A_0 c _ _ _ _ _ _ _ _ _ _ _ _ _)]
  unfold kernelRun0_A
  dsimp only
  sl_unfold_words
  simp only [View.readAt_eq_ld, Memref.IsWhole.read_unread, (Memref.isWhole_whole _).read_unread]
  rw [View.canon_cons_unit_zero zz, View.readCov_unit_zero _ zz, View.ld_unit_zero zz, View.ld_unit_zero zz]

theorem next (hc0 hc1) : sout0_B_0 c (grid0.coords t) _ (hs0_0 t) _ (hs0_1 t) _ (hs0_2 t) scM0_0 (Memref.isWhole_whole _) hc0 hc1 X W v
    = k0_pay2 v X W := by
  unfold sout0_B_0
  rw [View.read_writes_eq_canon _ _ _ (scover0_B_0 c _ _ _ _ _ _ _ _ _ _ _ _ _ _)]
  unfold kernelRun0_B
  dsimp only
  sl_unfold_words
  simp only [View.readAt_eq_ld, Memref.IsWhole.read_unread, (Memref.isWhole_whole _).read_unread]
  rw [View.canon_unit_zero zz, View.ld_unit_zero zz, View.ld_unit_zero zz, View.ld_unit_zero zz]

theorem last (hc0 hc1) : out0_C_2 c (grid0.coords t) _ (hs0_0 t) _ (hs0_1 t) _ (hs0_2 t) scM0_0 (Memref.isWhole_whole _) hc0 hc1 X W v
    = k0_pay3 (F := Ideal) (k0_pay2 v X W) := by
  unfold out0_C_2
  rw [View.read_writes_eq_canon _ _ _ (cover0_C_2 c _ _ _ _ _ _ _ _ _ _ _ _ _ _)]
  unfold kernelRun0_C
  dsimp only
  sl_unfold_words
  simp only [View.readAt_eq_ld, Memref.IsWhole.read_unread, (Memref.isWhole_whole _).read_unread]
  rw [View.canon_unit_zero zz, View.readCov_unit_zero _ zz, View.ld_unit_zero zz, View.ld_unit_zero zz, View.ld_unit_zero zz]

end Step

theorem index0 : ∀ t : Fin cfg0.N, win0_0.index t 0 = t.val % 5 ∧ win0_0.index t 1 = t.val / 5 / 2 :=
  (by change ∀ t : Fin grid0.N, _; decide +kernel)
theorem index1 : ∀ t : Fin cfg0.N, win0_1.index t 0 = t.val % 5 ∧ win0_1.index t 1 = t.val / 5 % 2 :=
  (by change ∀ t : Fin grid0.N, _; decide +kernel)

/-- One term of the sum for the entry at row `r` and column `k`. -/
def term (x : S8320x5632.Idx → EReal) (w : S8320x2048.Idx → EReal) (r k s : ℕ) : EReal := ent x s r * ent w s k

variable (m : (ℓ : Loc nD τ Cert.Kernel5Ideal.sig) → Buf (Elt Ideal) ℓ) (c : Dev nD)

/-- A term of the entry at `y` of block `b`. -/
abbrev tm (b : ℕ) (y : S1408x1024.Idx) (s : ℕ) : EReal := term (V m c main_arg0) (V m c main_arg1) (1408 * (b / 2) + (y 0).val) (1024 * (b % 2) + (y 1).val) s

/-- What a step adds to the entry at `y` of its block. -/
theorem added (t : Fin cfg0.N) (y : S1408x1024.Idx) :
    dotTN (K := 1664) (M := 1408) (N := 1024) (iblk m c 0 t) (iblk m c 1 t) (y 0) (y 1)
      = ∑ s : Fin 1664, tm m c (t.val / 5) y (1664 * (t.val % 5) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * s.val = _
    omega
  · show win0_0.index t 1 * 1408 + 1 * (y 0).val = _
    omega
  · show win0_1.index t 0 * 1664 + 1 * s.val = _
    omega
  · show win0_1.index t 1 * 1024 + 1 * (y 1).val = _
    omega

theorem stepA (t : Fin cfg0.N) (h0 : t.val % 5 = 0) (h1 : ¬ t.val % 5 = 4) (y : S1408x1024.Idx) : ((outsAt0 m c t.val t.isLt).2 y : EReal)
    = 0 + ∑ s : Fin 1664, tm m c (t.val / 5) y (1664 * (t.val % 5) + s.val) := by
  rw [outsAt0_A m c t h0 h1]
  dsimp only
  rw [first, step_at, zero_at]
  exact congrArg _ (added m c t y)

theorem stepB (t : Fin cfg0.N) (h0 : ¬ t.val % 5 = 0) (h1 : ¬ t.val % 5 = 4) (y : S1408x1024.Idx) : ((outsAt0 m c t.val t.isLt).2 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_B m c t h0 h1]
  dsimp only
  rw [next, step_at]
  exact congrArg _ (added m c t y)

theorem stepC (t : Fin cfg0.N) (h0 : ¬ t.val % 5 = 0) (h1 : t.val % 5 = 4) (y : S1408x1024.Idx) : ((outsAt0 m c t.val t.isLt).1 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_C m c t h0 h1]
  dsimp only
  rw [last, round_at, step_at]
  exact congrArg _ (added m c t y)

/-- The block written by the last step of a sum. -/
theorem written (n : ℕ) (hn : n < cfg0.N) (hl : n % 5 = 4) (y : S1408x1024.Idx) : ((outsAt0 m c n hn).1 y : EReal)
    = ∑ s ∈ range (1664 * 5), tm m c (n / 5) y s :=
  (stepC m c ⟨n, hn⟩ (fun h : n % 5 = 0 => by omega) hl y).trans (carry (L := 4) (· / 5) (· % 5) rfl (fun n h => by omega) (fun b => tm m c b y) (fun n hn => (outsAt0 m c n hn).2 y) (fun n hn h0 h1 => stepA m c ⟨n, hn⟩ h0 h1 y) (fun n hn h0 h1 => stepB m c ⟨n, hn⟩ h0 h1 y) n hn (fun h : n % 5 = 0 => by omega) hl)

/-- The kernel's array, entry by entry. -/
theorem result (i : S5632x2048.Idx) : (Value.G2 m c : S5632x2048.Idx → EReal) i
    = ∑ s ∈ range 8320, term (V m c main_arg0) (V m c main_arg1) (i 0).val (i 1).val s := by
  have h0 : (i 0).val < 5632 := (i 0).isLt
  have h1 : (i 1).val < 2048 := (i 1).isLt
  have hp : Value.pt2Of i = 5 * (2 * ((i 0).val / 1408 - 0) + 1 * ((i 1).val / 1024 - 0)) + 4 := rfl
  have hb : Value.pt2Of i < cfg0.N := by rw [hp, show cfg0.N = 40 from N_0]; omega
  have e0 : 1408 * (Value.pt2Of i / 5 / 2) + (i 0).val % 1408 = (i 0).val := by rw [hp]; omega
  have e1 : 1024 * (Value.pt2Of i / 5 % 2) + (i 1).val % 1024 = (i 1).val := by rw [hp]; omega
  unfold Value.G2
  rw [dif_pos hb, ← Value.outsAt0_sweep m c _ hb]
  refine (written m c _ hb (by rw [hp]; omega) _).trans ?_
  exact congrArg₂ (fun a b => ∑ s ∈ range 8320, term (V m c main_arg0) (V m c main_arg1) a b s) e0 e1

/-- The reference's array, entry by entry. -/
theorem reference (x : S8320x5632.Idx → EReal) (w : S8320x2048.Idx → EReal) (i : S5632x2048.Idx) :
    (val_main_v5 (F := Ideal) x w i : EReal) = ∑ s ∈ range 8320, term x w (i 0).val (i 1).val s := by
  rw [sum_all _ _ (fun k : Fin 8320 => (w (ix2 k (i 1)) : EReal) * x (ix2 k (i 0))) (fun k => ((mul_comm _ _).trans (congrArg₂ (· * ·) (ent_of _ _ _ _ rfl rfl) (ent_of _ _ _ _ rfl rfl))))]
  refine (val_main_v5_apply _ _ _).trans ((val_main_v4_apply _ _ _).trans ((val_main_v3_apply _ _ _).trans (Finset.sum_congr rfl fun k _ => congrArg₂ (· * ·) ?_ ?_)))
  · exact congrArg w (at2 rfl rfl)
  · exact (val_main_v1_apply _ _).trans (congrArg x (at2 rfl rfl))

/-- The two arrays are one. -/
theorem same : (Value.G2 m c : S5632x2048.Idx → EReal) = val_main_v5 (F := Ideal) (V m c main_arg0) (V m c main_arg1) :=
  funext fun i => (result m c i).trans (reference _ _ i).symm

end Cert.Products.Call5

end
-- ==== Proof.Products.Call6.lean ====
/- The gradient of the down projection's input: the array the kernel writes, entry by entry, is the whole sum, and so is the reference's. -/
module

public import proofs.«01_k».proof.Proof.Products.Reads
public import proofs.«01_k».proof.Proof.Gen.Kernel6Ideal.Value
public import proofs.«01_k».proof.Proof.Gen.Reference6Ideal.Read

@[expose] public section

noncomputable section

namespace Cert.Products.Call6

open Finset Idealize.ShloMosaic Idealize.ShloMosaic.TcCoe Cert.Kernel6Ideal Cert.Kernel6Ideal.Gen Cert.Reference6Ideal.Read

theorem step_at (X : Vec Ideal S640x2048 .f32) (W : Vec Ideal S1408x2048 .bf16) (y : S640x1408.Idx) :
    (k0_pay1 (F := Ideal) X W y : EReal) = dotNT (K := 2048) (M := 640) (N := 1408) X W (y 0) (y 1) := by
  unfold k0_pay1 dotNT
  pointwise

section Step

variable (c : Dev nD) (t : Fin cfg0.N) (X : Vec Ideal S640x2048 .f32) (W : Vec Ideal S1408x2048 .bf16) (v : Vec Ideal S640x1408 .f32)

theorem only : out0_A_2 c (grid0.coords t) _ (hs0_0 t) _ (hs0_1 t) _ (hs0_2 t) scM0_0 (Memref.isWhole_whole _) X W
    = k0_pay1 (F := Ideal) X W := by
  unfold out0_A_2
  rw [View.read_writes_eq_canon _ _ _ (cover0_A_2 c _ _ _ _ _ _ _ _ _ _ _)]
  unfold kernelRun0_A
  dsimp only
  sl_unfold_words
  simp only [View.readAt_eq_ld, Memref.IsWhole.read_unread]
  rw [View.canon_unit_zero zz, View.ld_unit_zero zz, View.ld_unit_zero zz]

end Step

theorem index0 : ∀ t : Fin cfg0.N, win0_0.index t 0 = t.val / 1 / 4 ∧ win0_0.index t 1 = t.val % 1 :=
  (by change ∀ t : Fin grid0.N, _; decide +kernel)
theorem index1 : ∀ t : Fin cfg0.N, win0_1.index t 0 = t.val / 1 % 4 ∧ win0_1.index t 1 = t.val % 1 :=
  (by change ∀ t : Fin grid0.N, _; decide +kernel)
theorem index2 : ∀ t : Fin cfg0.N, win0_2.index t 0 = t.val / 1 / 4 ∧ win0_2.index t 1 = t.val / 1 % 4 :=
  (by change ∀ t : Fin grid0.N, _; decide +kernel)

/-- One term of the sum for the entry at row `r` and column `k`. -/
def term (x : S8320x2048.Idx → EReal) (w : S5632x2048.Idx → EReal) (r k s : ℕ) : EReal := ent x r s * ent w k s

variable (m : (ℓ : Loc nD τ Cert.Kernel6Ideal.sig) → Buf (Elt Ideal) ℓ) (c : Dev nD)

/-- What a step adds to the entry at `y` of its block. -/
theorem added (t : Fin cfg0.N) (y : S640x1408.Idx) :
    dotNT (K := 2048) (M := 640) (N := 1408) (iblk m c 0 t) (iblk m c 1 t) (y 0) (y 1)
      = ∑ s : Fin 2048, term (V m c main_arg0) (V m c main_arg1) (640 * (t.val / 1 / 4) + (y 0).val) (1408 * (t.val / 1 % 4) + (y 1).val) (2048 * (t.val % 1) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 640 + 1 * (y 0).val = _
    omega
  · show win0_0.index t 1 * 2048 + 1 * s.val = _
    omega
  · show win0_1.index t 0 * 1408 + 1 * (y 1).val = _
    omega
  · show win0_1.index t 1 * 2048 + 1 * s.val = _
    omega

/-- The block a step writes. -/
theorem written (t : Fin cfg0.N) (y : S640x1408.Idx) : (outsAt0 m c t y : EReal)
    = ∑ s ∈ range (2048 * 1), term (V m c main_arg0) (V m c main_arg1) (640 * (t.val / 1 / 4) + (y 0).val) (1408 * (t.val / 1 % 4) + (y 1).val) s := by
  unfold outsAt0
  rw [only]
  refine (step_at _ _ _).trans ((added m c t y).trans ?_)
  rw [Nat.mod_one t.val]
  exact sum_first _ _

/-- The kernel's array, entry by entry. -/
theorem result (i : S8320x5632.Idx) : ((dats m 0 c).arrAt 2 cfg0.N : S8320x5632.Idx → EReal) i
    = ∑ s ∈ range 2048, term (V m c main_arg0) (V m c main_arg1) (i 0).val (i 1).val s := by
  have h0 : (i 0).val < 8320 := (i 0).isLt
  have h1 : (i 1).val < 5632 := (i 1).isLt
  have hb : 4 * ((i 0).val / 640) + (i 1).val / 1408 < cfg0.N := by rw [show cfg0.N = 52 from N_0]; omega
  obtain ⟨e0, e1⟩ := index2 ⟨_, hb⟩
  dsimp only at e0 e1
  have d0 : 640 * ((4 * ((i 0).val / 640) + (i 1).val / 1408) / 1 / 4) + (i 0).val % 640 = (i 0).val := by omega
  have d1 : 1408 * ((4 * ((i 0).val / 640) + (i 1).val / 1408) / 1 % 4) + (i 1).val % 1408 = (i 1).val := by omega
  let z : S640x1408.Idx := ix2 ⟨(i 0).val % 640, Nat.mod_lt _ (by norm_num)⟩ ⟨(i 1).val % 1408, Nat.mod_lt _ (by norm_num)⟩
  have hi : ((cfg0.win 2).blk ⟨_, hb⟩).view.emb z = i := by
    refine (at2 (a := 8320) (b := 5632) (x := i 0) (y := i 1) ?_ ?_).trans (at2 (a := 8320) (b := 5632) (x := i 0) (y := i 1) rfl rfl).symm
    · show win0_2.index ⟨_, hb⟩ 0 * 640 + 1 * ((i 0).val % 640) = (i 0).val
      omega
    · show win0_2.index ⟨_, hb⟩ 1 * 1408 + 1 * ((i 1).val % 1408) = (i 1).val
      omega
  have hr := congrFun ((Value.blocks2 m c ⟨_, hb⟩ (flush0_2 _)).trans (Value.flushed2 m c ⟨_, hb⟩)) z
  refine ((congrArg ((dats m 0 c).arrAt 2 cfg0.N : S8320x5632.Idx → EReal) hi).symm.trans hr).trans ((written m c ⟨_, hb⟩ z).trans ?_)
  exact congrArg₂ (fun a b => ∑ s ∈ range 2048, term (V m c main_arg0) (V m c main_arg1) a b s) d0 d1

/-- The reference's array, entry by entry. -/
theorem reference (x : S8320x2048.Idx → EReal) (w : S5632x2048.Idx → EReal) (i : S8320x5632.Idx) :
    (val_main_v4 (F := Ideal) x w i : EReal) = ∑ s ∈ range 2048, term x w (i 0).val (i 1).val s := by
  rw [sum_all _ _ (fun k : Fin 2048 => (x (ix2 (i 0) k) : EReal) * w (ix2 (i 1) k)) (fun k => (congrArg₂ (· * ·) (ent_of _ _ _ _ rfl rfl) (ent_of _ _ _ _ rfl rfl)))]
  refine (val_main_v4_apply _ _ _).trans ((val_main_v3_apply _ _ _).trans (Finset.sum_congr rfl fun k _ => congrArg₂ (· * ·) ?_ ?_))
  · exact congrArg x (at2 rfl rfl)
  · exact (val_main_v1_apply _ _).trans (congrArg w (at2 rfl rfl))

/-- The two arrays are one. -/
theorem same : ((dats m 0 c).arrAt 2 cfg0.N : S8320x5632.Idx → EReal) = val_main_v4 (F := Ideal) (V m c main_arg0) (V m c main_arg1) :=
  funext fun i => (result m c i).trans (reference _ _ i).symm

end Cert.Products.Call6

end
-- ==== Proof.Products.Call7.lean ====
/- The gradient of the up projection's input, the gate's half: the array the kernel writes, entry by entry, is the whole sum, and so is the reference's. -/
module

public import proofs.«01_k».proof.Proof.Products.Reads
public import proofs.«01_k».proof.Proof.Gen.Kernel7Ideal.Value
public import proofs.«01_k».proof.Proof.Gen.Reference7Ideal.Read

@[expose] public section

noncomputable section

namespace Cert.Products.Call7

open Finset Idealize.ShloMosaic Idealize.ShloMosaic.TcCoe Cert.Kernel7Ideal Cert.Kernel7Ideal.Gen Cert.Reference7Ideal.Read

theorem zero_at (y : S640x2048.Idx) : k0_pay1 (F := Ideal) y = (0 : EReal) := by
  unfold k0_pay1
  pointwise

theorem step_at (v : Vec Ideal S640x2048 .f32) (X : Vec Ideal S640x1408 .bf16) (W : Vec Ideal S2048x1408 .bf16) (y : S640x2048.Idx) :
    k0_pay2 v X W y = (v y : EReal) + dotNT (K := 1408) (M := 640) (N := 2048) X W (y 0) (y 1) := by
  unfold k0_pay2 dotNT
  pointwise

section Step

variable (c : Dev nD) (t : Fin cfg0.N) (X : Vec Ideal S640x1408 .bf16) (W : Vec Ideal S2048x1408 .bf16) (v : Vec Ideal S640x2048 .f32)

theorem first (hc0 hc1) : sout0_A_0 c (grid0.coords t) _ (hs0_0 t) _ (hs0_1 t) _ (hs0_2 t) scM0_0 (Memref.isWhole_whole _) hc0 hc1 X W
    = k0_pay2 (k0_pay1 (F := Ideal)) X W := by
  unfold sout0_A_0
  rw [View.read_writes_eq_canon _ _ _ (scover0_A_0 c _ _ _ _ _ _ _ _ _ _ _ _ _)]
  unfold kernelRun0_A
  dsimp only
  sl_unfold_words
  simp only [View.readAt_eq_ld, Memref.IsWhole.read_unread, (Memref.isWhole_whole _).read_unread]
  rw [View.canon_cons_unit_zero zz, View.readCov_unit_zero _ zz, View.ld_unit_zero zz, View.ld_unit_zero zz]

theorem next (hc0 hc1) : sout0_B_0 c (grid0.coords t) _ (hs0_0 t) _ (hs0_1 t) _ (hs0_2 t) scM0_0 (Memref.isWhole_whole _) hc0 hc1 X W v
    = k0_pay2 v X W := by
  unfold sout0_B_0
  rw [View.read_writes_eq_canon _ _ _ (scover0_B_0 c _ _ _ _ _ _ _ _ _ _ _ _ _ _)]
  unfold kernelRun0_B
  dsimp only
  sl_unfold_words
  simp only [View.readAt_eq_ld, Memref.IsWhole.read_unread, (Memref.isWhole_whole _).read_unread]
  rw [View.canon_unit_zero zz, View.ld_unit_zero zz, View.ld_unit_zero zz, View.ld_unit_zero zz]

theorem last (hc0 hc1) : out0_C_2 c (grid0.coords t) _ (hs0_0 t) _ (hs0_1 t) _ (hs0_2 t) scM0_0 (Memref.isWhole_whole _) hc0 hc1 X W v
    = k0_pay2 v X W := by
  unfold out0_C_2
  rw [View.read_writes_eq_canon _ _ _ (cover0_C_2 c _ _ _ _ _ _ _ _ _ _ _ _ _ _)]
  unfold kernelRun0_C
  dsimp only
  sl_unfold_words
  simp only [View.readAt_eq_ld, Memref.IsWhole.read_unread, (Memref.isWhole_whole _).read_unread]
  rw [View.canon_unit_zero zz, View.readCov_unit_zero _ zz, View.ld_unit_zero zz, View.ld_unit_zero zz, View.ld_unit_zero zz]

end Step

theorem index0 : ∀ t : Fin cfg0.N, win0_0.index t 0 = t.val / 4 / 1 ∧ win0_0.index t 1 = t.val % 4 :=
  (by change ∀ t : Fin grid0.N, _; decide +kernel)
theorem index1 : ∀ t : Fin cfg0.N, win0_1.index t 0 = t.val / 4 % 1 ∧ win0_1.index t 1 = t.val % 4 :=
  (by change ∀ t : Fin grid0.N, _; decide +kernel)

/-- One term of the sum for the entry at row `r` and column `k`. -/
def term (x : S8320x5632.Idx → EReal) (w : S2048x11264.Idx → EReal) (r k s : ℕ) : EReal := ent x r s * ent w k s

variable (m : (ℓ : Loc nD τ Cert.Kernel7Ideal.sig) → Buf (Elt Ideal) ℓ) (c : Dev nD)

/-- A term of the entry at `y` of block `b`. -/
abbrev tm (b : ℕ) (y : S640x2048.Idx) (s : ℕ) : EReal := term (V m c main_arg0) (V m c main_arg1) (640 * (b / 1) + (y 0).val) (2048 * (b % 1) + (y 1).val) s

/-- What a step adds to the entry at `y` of its block. -/
theorem added (t : Fin cfg0.N) (y : S640x2048.Idx) :
    dotNT (K := 1408) (M := 640) (N := 2048) (iblk m c 0 t) (iblk m c 1 t) (y 0) (y 1)
      = ∑ s : Fin 1408, tm m c (t.val / 4) y (1408 * (t.val % 4) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 640 + 1 * (y 0).val = _
    omega
  · show win0_0.index t 1 * 1408 + 1 * s.val = _
    omega
  · show win0_1.index t 0 * 2048 + 1 * (y 1).val = _
    omega
  · show win0_1.index t 1 * 1408 + 1 * s.val = _
    omega

theorem stepA (t : Fin cfg0.N) (h0 : t.val % 4 = 0) (h1 : ¬ t.val % 4 = 3) (y : S640x2048.Idx) : ((outsAt0 m c t.val t.isLt).2 y : EReal)
    = 0 + ∑ s : Fin 1408, tm m c (t.val / 4) y (1408 * (t.val % 4) + s.val) := by
  rw [outsAt0_A m c t h0 h1]
  dsimp only
  rw [first, step_at, zero_at]
  exact congrArg _ (added m c t y)

theorem stepB (t : Fin cfg0.N) (h0 : ¬ t.val % 4 = 0) (h1 : ¬ t.val % 4 = 3) (y : S640x2048.Idx) : ((outsAt0 m c t.val t.isLt).2 y : EReal)
    = ((outsAt0 m c (t.val - 1) (Nat.lt_of_le_of_lt (Nat.sub_le _ _) t.isLt)).2 y : EReal)
      + ∑ s : Fin 1408, tm m c (t.val / 4) y (1408 * (t.val % 4) + s.val) := by
  rw [outsAt0_B m c t h0 h1]
  dsimp only
  rw [next, step_at]
  exact congrArg _ (added m c t y)

theorem stepC (t : Fin cfg0.N) (h0 : ¬ t.val % 4 = 0) (h1 : t.val % 4 = 3) (y : S640x2048.Idx) : ((outsAt0 m c t.val t.isLt).1 y : EReal)
    = ((outsAt0 m c (t.val - 1) (Nat.lt_of_le_of_lt (Nat.sub_le _ _) t.isLt)).2 y : EReal)
      + ∑ s : Fin 1408, tm m c (t.val / 4) y (1408 * (t.val % 4) + s.val) := by
  rw [outsAt0_C m c t h0 h1]
  dsimp only
  rw [last, step_at]
  exact congrArg _ (added m c t y)

/-- The block written by the last step of a sum. -/
theorem written (n : ℕ) (hn : n < cfg0.N) (hl : n % 4 = 3) (y : S640x2048.Idx) : ((outsAt0 m c n hn).1 y : EReal)
    = ∑ s ∈ range (1408 * 4), tm m c (n / 4) y s :=
  (stepC m c ⟨n, hn⟩ (fun h : n % 4 = 0 => by omega) hl y).trans (carry (L := 3) (· / 4) (· % 4) rfl (fun n h => by omega) (fun b => tm m c b y) (fun n hn => (outsAt0 m c n hn).2 y) (fun n hn h0 h1 => stepA m c ⟨n, hn⟩ h0 h1 y) (fun n hn h0 h1 => stepB m c ⟨n, hn⟩ h0 h1 y) n hn (fun h : n % 4 = 0 => by omega) hl)

/-- The kernel's array, entry by entry. -/
theorem result (i : S8320x2048.Idx) : (Value.G2 m c : S8320x2048.Idx → EReal) i
    = ∑ s ∈ range 5632, term (V m c main_arg0) (V m c main_arg1) (i 0).val (i 1).val s := by
  have h0 : (i 0).val < 8320 := (i 0).isLt
  have h1 : (i 1).val < 2048 := (i 1).isLt
  have hp : Value.pt2Of i = 4 * (1 * ((i 0).val / 640 - 0) + 1 * ((i 1).val / 2048 - 0)) + 3 := rfl
  have hb : Value.pt2Of i < cfg0.N := by rw [hp, show cfg0.N = 52 from N_0]; omega
  have e0 : 640 * (Value.pt2Of i / 4 / 1) + (i 0).val % 640 = (i 0).val := by rw [hp]; omega
  have e1 : 2048 * (Value.pt2Of i / 4 % 1) + (i 1).val % 2048 = (i 1).val := by rw [hp]; omega
  unfold Value.G2
  rw [dif_pos hb, ← Value.outsAt0_sweep m c _ hb]
  refine (written m c _ hb (by rw [hp]; omega) _).trans ?_
  exact congrArg₂ (fun a b => ∑ s ∈ range 5632, term (V m c main_arg0) (V m c main_arg1) a b s) e0 e1

/-- The reference's array, entry by entry. -/
theorem reference (x : S8320x5632.Idx → EReal) (w : S2048x11264.Idx → EReal) (i : S8320x2048.Idx) :
    (val_main_v5 (F := Ideal) x w i : EReal) = ∑ s ∈ range 5632, term x w (i 0).val (i 1).val s := by
  rw [sum_all _ _ (fun k : Fin 5632 => (x (ix2 (i 0) k) : EReal) * w (ix2 (i 1) ⟨k.val, by omega⟩)) (fun k => (congrArg₂ (· * ·) (ent_of _ _ _ _ rfl rfl) (ent_of _ _ _ _ rfl rfl)))]
  refine (val_main_v5_apply _ _ _).trans (Finset.sum_congr rfl fun k _ => congrArg₂ (· * ·) ?_ ?_)
  · exact (val_main_v4_apply _ _).trans (congrArg x (at2 rfl rfl))
  · exact (val_main_v2_apply _ _).trans ((val_main_v1_apply _ _).trans (congrArg w (at2 rfl rfl)))

/-- The two arrays are one. -/
theorem same : (Value.G2 m c : S8320x2048.Idx → EReal) = val_main_v5 (F := Ideal) (V m c main_arg0) (V m c main_arg1) :=
  funext fun i => (result m c i).trans (reference _ _ i).symm

end Cert.Products.Call7

end
-- ==== Proof.Products.Call8.lean ====
/- The gradient of the up projection's input, the other half added: the array the kernel writes, entry by entry, is the whole sum, and so is the reference's. -/
module

public import proofs.«01_k».proof.Proof.Products.Reads
public import proofs.«01_k».proof.Proof.Gen.Kernel8Ideal.Value
public import proofs.«01_k».proof.Proof.Gen.Reference8Ideal.Read

@[expose] public section

noncomputable section

namespace Cert.Products.Call8

open Finset Idealize.ShloMosaic Idealize.ShloMosaic.TcCoe Cert.Kernel8Ideal Cert.Kernel8Ideal.Gen Cert.Reference8Ideal.Read

theorem zero_at (y : S640x2048.Idx) : k0_pay1 (F := Ideal) y = (0 : EReal) := by
  unfold k0_pay1
  pointwise

theorem step_at (v : Vec Ideal S640x2048 .f32) (X : Vec Ideal S640x1408 .bf16) (W : Vec Ideal S2048x1408 .bf16) (y : S640x2048.Idx) :
    k0_pay2 v X W y = (v y : EReal) + dotNT (K := 1408) (M := 640) (N := 2048) X W (y 0) (y 1) := by
  unfold k0_pay2 dotNT
  pointwise

theorem round_at (v Z : Vec Ideal S640x2048 .f32) (y : S640x2048.Idx) : (k0_pay3 (F := Ideal) v Z y : EReal) = (v y : EReal) + Z y := by
  unfold k0_pay3
  pointwise

section Step

variable (c : Dev nD) (t : Fin cfg0.N) (X : Vec Ideal S640x1408 .bf16) (W : Vec Ideal S2048x1408 .bf16) (Z : Vec Ideal S640x2048 .f32) (v : Vec Ideal S640x2048 .f32)

theorem first (hc0 hc1) : sout0_A_0 c (grid0.coords t) _ (hs0_0 t) _ (hs0_1 t) _ (hs0_2 t) _ (hs0_3 t) scM0_0 (Memref.isWhole_whole _) hc0 hc1 X W Z
    = k0_pay2 (k0_pay1 (F := Ideal)) X W := by
  unfold sout0_A_0
  rw [View.read_writes_eq_canon _ _ _ (scover0_A_0 c _ _ _ _ _ _ _ _ _ _ _ _ _ _ _ _)]
  unfold kernelRun0_A
  dsimp only
  sl_unfold_words
  simp only [View.readAt_eq_ld, Memref.IsWhole.read_unread, (Memref.isWhole_whole _).read_unread]
  rw [View.canon_cons_unit_zero zz, View.readCov_unit_zero _ zz, View.ld_unit_zero zz, View.ld_unit_zero zz]

theorem next (hc0 hc1) : sout0_B_0 c (grid0.coords t) _ (hs0_0 t) _ (hs0_1 t) _ (hs0_2 t) _ (hs0_3 t) scM0_0 (Memref.isWhole_whole _) hc0 hc1 X W Z v
    = k0_pay2 v X W := by
  unfold sout0_B_0
  rw [View.read_writes_eq_canon _ _ _ (scover0_B_0 c _ _ _ _ _ _ _ _ _ _ _ _ _ _ _ _ _)]
  unfold kernelRun0_B
  dsimp only
  sl_unfold_words
  simp only [View.readAt_eq_ld, Memref.IsWhole.read_unread, (Memref.isWhole_whole _).read_unread]
  rw [View.canon_unit_zero zz, View.ld_unit_zero zz, View.ld_unit_zero zz, View.ld_unit_zero zz]

theorem last (hc0 hc1) : out0_C_3 c (grid0.coords t) _ (hs0_0 t) _ (hs0_1 t) _ (hs0_2 t) _ (hs0_3 t) scM0_0 (Memref.isWhole_whole _) hc0 hc1 X W Z v
    = k0_pay3 (F := Ideal) (k0_pay2 v X W) Z := by
  unfold out0_C_3
  rw [View.read_writes_eq_canon _ _ _ (cover0_C_3 c _ _ _ _ _ _ _ _ _ _ _ _ _ _ _ _ _)]
  unfold kernelRun0_C
  dsimp only
  sl_unfold_words
  simp only [View.readAt_eq_ld, Memref.IsWhole.read_unread, (Memref.isWhole_whole _).read_unread]
  rw [View.canon_unit_zero zz, View.readCov_unit_zero _ zz, View.ld_unit_zero zz, View.ld_unit_zero zz, View.ld_unit_zero zz, View.ld_unit_zero zz]

end Step

theorem index0 : ∀ t : Fin cfg0.N, win0_0.index t 0 = t.val / 4 / 1 ∧ win0_0.index t 1 = t.val % 4 :=
  (by change ∀ t : Fin grid0.N, _; decide +kernel)
theorem index1 : ∀ t : Fin cfg0.N, win0_1.index t 0 = t.val / 4 % 1 ∧ win0_1.index t 1 = t.val % 4 + 4 :=
  (by change ∀ t : Fin grid0.N, _; decide +kernel)
theorem index2 : ∀ t : Fin cfg0.N, win0_2.index t 0 = t.val / 4 / 1 ∧ win0_2.index t 1 = t.val / 4 % 1 :=
  (by change ∀ t : Fin grid0.N, _; decide +kernel)

/-- One term of the sum for the entry at row `r` and column `k`. -/
def term (x : S8320x5632.Idx → EReal) (w : S2048x11264.Idx → EReal) (r k s : ℕ) : EReal := ent x r s * ent w k (5632 + s)

variable (m : (ℓ : Loc nD τ Cert.Kernel8Ideal.sig) → Buf (Elt Ideal) ℓ) (c : Dev nD)

/-- A term of the entry at `y` of block `b`. -/
abbrev tm (b : ℕ) (y : S640x2048.Idx) (s : ℕ) : EReal := term (V m c main_arg0) (V m c main_arg1) (640 * (b / 1) + (y 0).val) (2048 * (b % 1) + (y 1).val) s

/-- What a step adds to the entry at `y` of its block. -/
theorem added (t : Fin cfg0.N) (y : S640x2048.Idx) :
    dotNT (K := 1408) (M := 640) (N := 2048) (iblk m c 0 t) (iblk m c 1 t) (y 0) (y 1)
      = ∑ s : Fin 1408, tm m c (t.val / 4) y (1408 * (t.val % 4) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 640 + 1 * (y 0).val = _
    omega
  · show win0_0.index t 1 * 1408 + 1 * s.val = _
    omega
  · show win0_1.index t 0 * 2048 + 1 * (y 1).val = _
    omega
  · show win0_1.index t 1 * 1408 + 1 * s.val = _
    omega

/-- The block of the array added at the end. -/
theorem third_at (t : Fin cfg0.N) (y : S640x2048.Idx) : ((iblk m c 2 t : Vec Ideal S640x2048 .f32) y : EReal) = ent (R := 8320) (C := 2048) (V m c main_arg2) (640 * (t.val / 4 / 1) + (y 0).val) (2048 * (t.val / 4 % 1) + (y 1).val) := by
  obtain ⟨e0, e1⟩ := index2 t
  refine ent_read _ (((cfg0.win 2).blk t).view.emb _) rfl ?_ ?_
  · show win0_2.index t 0 * 640 + 1 * (y 0).val = _
    omega
  · show win0_2.index t 1 * 2048 + 1 * (y 1).val = _
    omega

theorem stepA (t : Fin cfg0.N) (h0 : t.val % 4 = 0) (h1 : ¬ t.val % 4 = 3) (y : S640x2048.Idx) : ((outsAt0 m c t.val t.isLt).2 y : EReal)
    = 0 + ∑ s : Fin 1408, tm m c (t.val / 4) y (1408 * (t.val % 4) + s.val) := by
  rw [outsAt0_A m c t h0 h1]
  dsimp only
  rw [first, step_at, zero_at]
  exact congrArg _ (added m c t y)

theorem stepB (t : Fin cfg0.N) (h0 : ¬ t.val % 4 = 0) (h1 : ¬ t.val % 4 = 3) (y : S640x2048.Idx) : ((outsAt0 m c t.val t.isLt).2 y : EReal)
    = ((outsAt0 m c (t.val - 1) (Nat.lt_of_le_of_lt (Nat.sub_le _ _) t.isLt)).2 y : EReal)
      + ∑ s : Fin 1408, tm m c (t.val / 4) y (1408 * (t.val % 4) + s.val) := by
  rw [outsAt0_B m c t h0 h1]
  dsimp only
  rw [next, step_at]
  exact congrArg _ (added m c t y)

theorem stepC (t : Fin cfg0.N) (h0 : ¬ t.val % 4 = 0) (h1 : t.val % 4 = 3) (y : S640x2048.Idx) : ((outsAt0 m c t.val t.isLt).1 y : EReal)
    = (((outsAt0 m c (t.val - 1) (Nat.lt_of_le_of_lt (Nat.sub_le _ _) t.isLt)).2 y : EReal)
      + ∑ s : Fin 1408, tm m c (t.val / 4) y (1408 * (t.val % 4) + s.val)) + ent (R := 8320) (C := 2048) (V m c main_arg2) (640 * (t.val / 4 / 1) + (y 0).val) (2048 * (t.val / 4 % 1) + (y 1).val) := by
  rw [outsAt0_C m c t h0 h1]
  dsimp only
  rw [last, round_at, step_at]
  exact congrArg₂ (· + ·) (congrArg _ (added m c t y)) (third_at m c t y)

/-- The block written by the last step of a sum. -/
theorem written (n : ℕ) (hn : n < cfg0.N) (hl : n % 4 = 3) (y : S640x2048.Idx) : ((outsAt0 m c n hn).1 y : EReal)
    = (∑ s ∈ range (1408 * 4), tm m c (n / 4) y s) + ent (R := 8320) (C := 2048) (V m c main_arg2) (640 * (n / 4 / 1) + (y 0).val) (2048 * (n / 4 % 1) + (y 1).val) :=
  (stepC m c ⟨n, hn⟩ (fun h : n % 4 = 0 => by omega) hl y).trans (congrArg (· + _) (carry (L := 3) (· / 4) (· % 4) rfl (fun n h => by omega) (fun b => tm m c b y) (fun n hn => (outsAt0 m c n hn).2 y) (fun n hn h0 h1 => stepA m c ⟨n, hn⟩ h0 h1 y) (fun n hn h0 h1 => stepB m c ⟨n, hn⟩ h0 h1 y) n hn (fun h : n % 4 = 0 => by omega) hl))

/-- The kernel's array, entry by entry. -/
theorem result (i : S8320x2048.Idx) : (Value.G3 m c : S8320x2048.Idx → EReal) i
    = (∑ s ∈ range 5632, term (V m c main_arg0) (V m c main_arg1) (i 0).val (i 1).val s) + ent (R := 8320) (C := 2048) (V m c main_arg2) (i 0).val (i 1).val := by
  have h0 : (i 0).val < 8320 := (i 0).isLt
  have h1 : (i 1).val < 2048 := (i 1).isLt
  have hp : Value.pt3Of i = 4 * (1 * ((i 0).val / 640 - 0) + 1 * ((i 1).val / 2048 - 0)) + 3 := rfl
  have hb : Value.pt3Of i < cfg0.N := by rw [hp, show cfg0.N = 52 from N_0]; omega
  have e0 : 640 * (Value.pt3Of i / 4 / 1) + (i 0).val % 640 = (i 0).val := by rw [hp]; omega
  have e1 : 2048 * (Value.pt3Of i / 4 % 1) + (i 1).val % 2048 = (i 1).val := by rw [hp]; omega
  unfold Value.G3
  rw [dif_pos hb, ← Value.outsAt0_sweep m c _ hb]
  refine (written m c _ hb (by rw [hp]; omega) _).trans ?_
  exact congrArg₂ (fun a b => (∑ s ∈ range 5632, term (V m c main_arg0) (V m c main_arg1) a b s) + ent (R := 8320) (C := 2048) (V m c main_arg2) a b) e0 e1

/-- The reference's product, entry by entry. -/
theorem product (x : S8320x5632.Idx → EReal) (w : S2048x11264.Idx → EReal) (i : S8320x2048.Idx) :
    (val_main_v5 (F := Ideal) x w i : EReal) = ∑ s ∈ range 5632, term x w (i 0).val (i 1).val s := by
  rw [sum_all _ _ (fun k : Fin 5632 => (x (ix2 (i 0) k) : EReal) * w (ix2 (i 1) ⟨5632 + k.val, by omega⟩)) (fun k => (congrArg₂ (· * ·) (ent_of _ _ _ _ rfl rfl) (ent_of _ _ _ _ rfl rfl)))]
  refine (val_main_v5_apply _ _ _).trans (Finset.sum_congr rfl fun k _ => congrArg₂ (· * ·) ?_ ?_)
  · exact (val_main_v4_apply _ _).trans (congrArg x (at2 rfl rfl))
  · exact (val_main_v2_apply _ _).trans ((val_main_v1_apply _ _).trans (congrArg w (at2 rfl rfl)))

/-- The reference's array, entry by entry. -/
theorem reference (x : S8320x5632.Idx → EReal) (w : S2048x11264.Idx → EReal) (z : S8320x2048.Idx → EReal) (i : S8320x2048.Idx) :
    (val_main_v6 (F := Ideal) x w z i : EReal) = (∑ s ∈ range 5632, term x w (i 0).val (i 1).val s) + ent z (i 0).val (i 1).val := by
  refine (val_main_v6_apply _ _ _ _).trans ((add_comm _ _).trans ?_)
  exact congrArg₂ (· + ·) (product x w i) (ent_of z i _ _ rfl rfl)

/-- The two arrays are one. -/
theorem same : (Value.G3 m c : S8320x2048.Idx → EReal) = val_main_v6 (F := Ideal) (V m c main_arg0) (V m c main_arg1) (V m c main_arg2) :=
  funext fun i => (result m c i).trans (reference _ _ _ i).symm

end Cert.Products.Call8

end
-- ==== Proof.Products.Call9.lean ====
/- The gradient of the output projection's weights: the array the kernel writes, entry by entry, is the whole sum, and so is the reference's. -/
module

public import proofs.«01_k».proof.Proof.Products.Reads
public import proofs.«01_k».proof.Proof.Gen.Kernel9Ideal.Value
public import proofs.«01_k».proof.Proof.Gen.Reference9Ideal.Read

@[expose] public section

noncomputable section

namespace Cert.Products.Call9

open Finset Idealize.ShloMosaic Idealize.ShloMosaic.TcCoe Cert.Kernel9Ideal Cert.Kernel9Ideal.Gen Cert.Reference9Ideal.Read

theorem zero_at (y : S2048x1024.Idx) : k0_pay1 (F := Ideal) y = (0 : EReal) := by
  unfold k0_pay1
  pointwise

theorem step_at (v : Vec Ideal S2048x1024 .f32) (X : Vec Ideal S1664x2048 .bf16) (W : Vec Ideal S1664x1024 .f32) (y : S2048x1024.Idx) :
    k0_pay2 v X W y = (v y : EReal) + dotTN (K := 1664) (M := 2048) (N := 1024) X W (y 0) (y 1) := by
  unfold k0_pay2 dotTN
  pointwise

theorem round_at (v : Vec Ideal S2048x1024 .f32) (y : S2048x1024.Idx) : (k0_pay3 (F := Ideal) v y : EReal) = v y := by
  unfold k0_pay3
  pointwise

section Step

variable (c : Dev nD) (t : Fin cfg0.N) (X : Vec Ideal S1664x2048 .bf16) (W : Vec Ideal S1664x1024 .f32) (v : Vec Ideal S2048x1024 .f32)

theorem first (hc0 hc1) : sout0_A_0 c (grid0.coords t) _ (hs0_0 t) _ (hs0_1 t) _ (hs0_2 t) scM0_0 (Memref.isWhole_whole _) hc0 hc1 X W
    = k0_pay2 (k0_pay1 (F := Ideal)) X W := by
  unfold sout0_A_0
  rw [View.read_writes_eq_canon _ _ _ (scover0_A_0 c _ _ _ _ _ _ _ _ _ _ _ _ _)]
  unfold kernelRun0_A
  dsimp only
  sl_unfold_words
  simp only [View.readAt_eq_ld, Memref.IsWhole.read_unread, (Memref.isWhole_whole _).read_unread]
  rw [View.canon_cons_unit_zero zz, View.readCov_unit_zero _ zz, View.ld_unit_zero zz, View.ld_unit_zero zz]

theorem next (hc0 hc1) : sout0_B_0 c (grid0.coords t) _ (hs0_0 t) _ (hs0_1 t) _ (hs0_2 t) scM0_0 (Memref.isWhole_whole _) hc0 hc1 X W v
    = k0_pay2 v X W := by
  unfold sout0_B_0
  rw [View.read_writes_eq_canon _ _ _ (scover0_B_0 c _ _ _ _ _ _ _ _ _ _ _ _ _ _)]
  unfold kernelRun0_B
  dsimp only
  sl_unfold_words
  simp only [View.readAt_eq_ld, Memref.IsWhole.read_unread, (Memref.isWhole_whole _).read_unread]
  rw [View.canon_unit_zero zz, View.ld_unit_zero zz, View.ld_unit_zero zz, View.ld_unit_zero zz]

theorem last (hc0 hc1) : out0_C_2 c (grid0.coords t) _ (hs0_0 t) _ (hs0_1 t) _ (hs0_2 t) scM0_0 (Memref.isWhole_whole _) hc0 hc1 X W v
    = k0_pay3 (F := Ideal) (k0_pay2 v X W) := by
  unfold out0_C_2
  rw [View.read_writes_eq_canon _ _ _ (cover0_C_2 c _ _ _ _ _ _ _ _ _ _ _ _ _ _)]
  unfold kernelRun0_C
  dsimp only
  sl_unfold_words
  simp only [View.readAt_eq_ld, Memref.IsWhole.read_unread, (Memref.isWhole_whole _).read_unread]
  rw [View.canon_unit_zero zz, View.readCov_unit_zero _ zz, View.ld_unit_zero zz, View.ld_unit_zero zz, View.ld_unit_zero zz]

end Step

theorem index0 : ∀ t : Fin cfg0.N, win0_0.index t 0 = t.val % 5 ∧ win0_0.index t 1 = t.val / 5 / 2 :=
  (by change ∀ t : Fin grid0.N, _; decide +kernel)
theorem index1 : ∀ t : Fin cfg0.N, win0_1.index t 0 = t.val % 5 ∧ win0_1.index t 1 = t.val / 5 % 2 :=
  (by change ∀ t : Fin grid0.N, _; decide +kernel)

/-- One term of the sum for the entry at row `r` and column `k`. -/
def term (x : S8320x2048.Idx → EReal) (w : S8320x2048.Idx → EReal) (r k s : ℕ) : EReal := ent x s r * ent w s k

variable (m : (ℓ : Loc nD τ Cert.Kernel9Ideal.sig) → Buf (Elt Ideal) ℓ) (c : Dev nD)

/-- A term of the entry at `y` of block `b`. -/
abbrev tm (b : ℕ) (y : S2048x1024.Idx) (s : ℕ) : EReal := term (V m c main_arg0) (V m c main_arg1) (2048 * (b / 2) + (y 0).val) (1024 * (b % 2) + (y 1).val) s

/-- What a step adds to the entry at `y` of its block. -/
theorem added (t : Fin cfg0.N) (y : S2048x1024.Idx) :
    dotTN (K := 1664) (M := 2048) (N := 1024) (iblk m c 0 t) (iblk m c 1 t) (y 0) (y 1)
      = ∑ s : Fin 1664, tm m c (t.val / 5) y (1664 * (t.val % 5) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * s.val = _
    omega
  · show win0_0.index t 1 * 2048 + 1 * (y 0).val = _
    omega
  · show win0_1.index t 0 * 1664 + 1 * s.val = _
    omega
  · show win0_1.index t 1 * 1024 + 1 * (y 1).val = _
    omega

theorem stepA (t : Fin cfg0.N) (h0 : t.val % 5 = 0) (h1 : ¬ t.val % 5 = 4) (y : S2048x1024.Idx) : ((outsAt0 m c t.val t.isLt).2 y : EReal)
    = 0 + ∑ s : Fin 1664, tm m c (t.val / 5) y (1664 * (t.val % 5) + s.val) := by
  rw [outsAt0_A m c t h0 h1]
  dsimp only
  rw [first, step_at, zero_at]
  exact congrArg _ (added m c t y)

theorem stepB (t : Fin cfg0.N) (h0 : ¬ t.val % 5 = 0) (h1 : ¬ t.val % 5 = 4) (y : S2048x1024.Idx) : ((outsAt0 m c t.val t.isLt).2 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_B m c t h0 h1]
  dsimp only
  rw [next, step_at]
  exact congrArg _ (added m c t y)

theorem stepC (t : Fin cfg0.N) (h0 : ¬ t.val % 5 = 0) (h1 : t.val % 5 = 4) (y : S2048x1024.Idx) : ((outsAt0 m c t.val t.isLt).1 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_C m c t h0 h1]
  dsimp only
  rw [last, round_at, step_at]
  exact congrArg _ (added m c t y)

/-- The block written by the last step of a sum. -/
theorem written (n : ℕ) (hn : n < cfg0.N) (hl : n % 5 = 4) (y : S2048x1024.Idx) : ((outsAt0 m c n hn).1 y : EReal)
    = ∑ s ∈ range (1664 * 5), tm m c (n / 5) y s :=
  (stepC m c ⟨n, hn⟩ (fun h : n % 5 = 0 => by omega) hl y).trans (carry (L := 4) (· / 5) (· % 5) rfl (fun n h => by omega) (fun b => tm m c b y) (fun n hn => (outsAt0 m c n hn).2 y) (fun n hn h0 h1 => stepA m c ⟨n, hn⟩ h0 h1 y) (fun n hn h0 h1 => stepB m c ⟨n, hn⟩ h0 h1 y) n hn (fun h : n % 5 = 0 => by omega) hl)

/-- The kernel's array, entry by entry. -/
theorem result (i : S2048x2048.Idx) : (Value.G2 m c : S2048x2048.Idx → EReal) i
    = ∑ s ∈ range 8320, term (V m c main_arg0) (V m c main_arg1) (i 0).val (i 1).val s := by
  have h0 : (i 0).val < 2048 := (i 0).isLt
  have h1 : (i 1).val < 2048 := (i 1).isLt
  have hp : Value.pt2Of i = 5 * (2 * ((i 0).val / 2048 - 0) + 1 * ((i 1).val / 1024 - 0)) + 4 := rfl
  have hb : Value.pt2Of i < cfg0.N := by rw [hp, show cfg0.N = 10 from N_0]; omega
  have e0 : 2048 * (Value.pt2Of i / 5 / 2) + (i 0).val % 2048 = (i 0).val := by rw [hp]; omega
  have e1 : 1024 * (Value.pt2Of i / 5 % 2) + (i 1).val % 1024 = (i 1).val := by rw [hp]; omega
  unfold Value.G2
  rw [dif_pos hb, ← Value.outsAt0_sweep m c _ hb]
  refine (written m c _ hb (by rw [hp]; omega) _).trans ?_
  exact congrArg₂ (fun a b => ∑ s ∈ range 8320, term (V m c main_arg0) (V m c main_arg1) a b s) e0 e1

/-- The reference's array, entry by entry. -/
theorem reference (x : S8320x2048.Idx → EReal) (w : S8320x2048.Idx → EReal) (i : S2048x2048.Idx) :
    (val_main_v5 (F := Ideal) x w i : EReal) = ∑ s ∈ range 8320, term x w (i 0).val (i 1).val s := by
  rw [sum_all _ _ (fun k : Fin 8320 => (w (ix2 k (i 1)) : EReal) * x (ix2 k (i 0))) (fun k => ((mul_comm _ _).trans (congrArg₂ (· * ·) (ent_of _ _ _ _ rfl rfl) (ent_of _ _ _ _ rfl rfl))))]
  refine (val_main_v5_apply _ _ _).trans ((val_main_v4_apply _ _ _).trans ((val_main_v3_apply _ _ _).trans (Finset.sum_congr rfl fun k _ => congrArg₂ (· * ·) ?_ ?_)))
  · exact congrArg w (at2 rfl rfl)
  · exact (val_main_v1_apply _ _).trans (congrArg x (at2 rfl rfl))

/-- The two arrays are one. -/
theorem same : (Value.G2 m c : S2048x2048.Idx → EReal) = val_main_v5 (F := Ideal) (V m c main_arg0) (V m c main_arg1) :=
  funext fun i => (result m c i).trans (reference _ _ i).symm

end Cert.Products.Call9

end
-- ==== Proof.Products.Call10.lean ====
/- The gradient of the output projection's input: the array the kernel writes, entry by entry, is the whole sum, and so is the reference's. -/
module

public import proofs.«01_k».proof.Proof.Products.Reads
public import proofs.«01_k».proof.Proof.Gen.Kernel10Ideal.Value
public import proofs.«01_k».proof.Proof.Gen.Reference10Ideal.Read

@[expose] public section

noncomputable section

namespace Cert.Products.Call10

open Finset Idealize.ShloMosaic Idealize.ShloMosaic.TcCoe Cert.Kernel10Ideal Cert.Kernel10Ideal.Gen Cert.Reference10Ideal.Read

theorem step_at (X : Vec Ideal S640x2048 .f32) (W : Vec Ideal S2048x2048 .bf16) (y : S640x2048.Idx) :
    (k0_pay1 (F := Ideal) X W y : EReal) = dotNT (K := 2048) (M := 640) (N := 2048) X W (y 0) (y 1) := by
  unfold k0_pay1 dotNT
  pointwise

section Step

variable (c : Dev nD) (t : Fin cfg0.N) (X : Vec Ideal S640x2048 .f32) (W : Vec Ideal S2048x2048 .bf16) (v : Vec Ideal S640x2048 .f32)

theorem only : out0_A_2 c (grid0.coords t) _ (hs0_0 t) _ (hs0_1 t) _ (hs0_2 t) scM0_0 (Memref.isWhole_whole _) X W
    = k0_pay1 (F := Ideal) X W := by
  unfold out0_A_2
  rw [View.read_writes_eq_canon _ _ _ (cover0_A_2 c _ _ _ _ _ _ _ _ _ _ _)]
  unfold kernelRun0_A
  dsimp only
  sl_unfold_words
  simp only [View.readAt_eq_ld, Memref.IsWhole.read_unread]
  rw [View.canon_unit_zero zz, View.ld_unit_zero zz, View.ld_unit_zero zz]

end Step

theorem index0 : ∀ t : Fin cfg0.N, win0_0.index t 0 = t.val / 1 / 1 ∧ win0_0.index t 1 = t.val % 1 :=
  (by change ∀ t : Fin grid0.N, _; decide +kernel)
theorem index1 : ∀ t : Fin cfg0.N, win0_1.index t 0 = t.val / 1 % 1 ∧ win0_1.index t 1 = t.val % 1 :=
  (by change ∀ t : Fin grid0.N, _; decide +kernel)
theorem index2 : ∀ t : Fin cfg0.N, win0_2.index t 0 = t.val / 1 / 1 ∧ win0_2.index t 1 = t.val / 1 % 1 :=
  (by change ∀ t : Fin grid0.N, _; decide +kernel)

/-- One term of the sum for the entry at row `r` and column `k`. -/
def term (x : S8320x2048.Idx → EReal) (w : S2048x2048.Idx → EReal) (r k s : ℕ) : EReal := ent x r s * ent w k s

variable (m : (ℓ : Loc nD τ Cert.Kernel10Ideal.sig) → Buf (Elt Ideal) ℓ) (c : Dev nD)

/-- What a step adds to the entry at `y` of its block. -/
theorem added (t : Fin cfg0.N) (y : S640x2048.Idx) :
    dotNT (K := 2048) (M := 640) (N := 2048) (iblk m c 0 t) (iblk m c 1 t) (y 0) (y 1)
      = ∑ s : Fin 2048, term (V m c main_arg0) (V m c main_arg1) (640 * (t.val / 1 / 1) + (y 0).val) (2048 * (t.val / 1 % 1) + (y 1).val) (2048 * (t.val % 1) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 640 + 1 * (y 0).val = _
    omega
  · show win0_0.index t 1 * 2048 + 1 * s.val = _
    omega
  · show win0_1.index t 0 * 2048 + 1 * (y 1).val = _
    omega
  · show win0_1.index t 1 * 2048 + 1 * s.val = _
    omega

/-- The block a step writes. -/
theorem written (t : Fin cfg0.N) (y : S640x2048.Idx) : (outsAt0 m c t y : EReal)
    = ∑ s ∈ range (2048 * 1), term (V m c main_arg0) (V m c main_arg1) (640 * (t.val / 1 / 1) + (y 0).val) (2048 * (t.val / 1 % 1) + (y 1).val) s := by
  unfold outsAt0
  rw [only]
  refine (step_at _ _ _).trans ((added m c t y).trans ?_)
  rw [Nat.mod_one t.val]
  exact sum_first _ _

/-- The kernel's array, entry by entry. -/
theorem result (i : S8320x2048.Idx) : ((dats m 0 c).arrAt 2 cfg0.N : S8320x2048.Idx → EReal) i
    = ∑ s ∈ range 2048, term (V m c main_arg0) (V m c main_arg1) (i 0).val (i 1).val s := by
  have h0 : (i 0).val < 8320 := (i 0).isLt
  have h1 : (i 1).val < 2048 := (i 1).isLt
  have hb : 1 * ((i 0).val / 640) + (i 1).val / 2048 < cfg0.N := by rw [show cfg0.N = 13 from N_0]; omega
  obtain ⟨e0, e1⟩ := index2 ⟨_, hb⟩
  dsimp only at e0 e1
  have d0 : 640 * ((1 * ((i 0).val / 640) + (i 1).val / 2048) / 1 / 1) + (i 0).val % 640 = (i 0).val := by omega
  have d1 : 2048 * ((1 * ((i 0).val / 640) + (i 1).val / 2048) / 1 % 1) + (i 1).val % 2048 = (i 1).val := by omega
  let z : S640x2048.Idx := ix2 ⟨(i 0).val % 640, Nat.mod_lt _ (by norm_num)⟩ ⟨(i 1).val % 2048, Nat.mod_lt _ (by norm_num)⟩
  have hi : ((cfg0.win 2).blk ⟨_, hb⟩).view.emb z = i := by
    refine (at2 (a := 8320) (b := 2048) (x := i 0) (y := i 1) ?_ ?_).trans (at2 (a := 8320) (b := 2048) (x := i 0) (y := i 1) rfl rfl).symm
    · show win0_2.index ⟨_, hb⟩ 0 * 640 + 1 * ((i 0).val % 640) = (i 0).val
      omega
    · show win0_2.index ⟨_, hb⟩ 1 * 2048 + 1 * ((i 1).val % 2048) = (i 1).val
      omega
  have hr := congrFun ((Value.blocks2 m c ⟨_, hb⟩ (flush0_2 _)).trans (Value.flushed2 m c ⟨_, hb⟩)) z
  refine ((congrArg ((dats m 0 c).arrAt 2 cfg0.N : S8320x2048.Idx → EReal) hi).symm.trans hr).trans ((written m c ⟨_, hb⟩ z).trans ?_)
  exact congrArg₂ (fun a b => ∑ s ∈ range 2048, term (V m c main_arg0) (V m c main_arg1) a b s) d0 d1

/-- The reference's array, entry by entry. -/
theorem reference (x : S8320x2048.Idx → EReal) (w : S2048x2048.Idx → EReal) (i : S8320x2048.Idx) :
    (val_main_v4 (F := Ideal) x w i : EReal) = ∑ s ∈ range 2048, term x w (i 0).val (i 1).val s := by
  rw [sum_all _ _ (fun k : Fin 2048 => (x (ix2 (i 0) k) : EReal) * w (ix2 (i 1) k)) (fun k => (congrArg₂ (· * ·) (ent_of _ _ _ _ rfl rfl) (ent_of _ _ _ _ rfl rfl)))]
  refine (val_main_v4_apply _ _ _).trans ((val_main_v3_apply _ _ _).trans (Finset.sum_congr rfl fun k _ => congrArg₂ (· * ·) ?_ ?_))
  · exact congrArg x (at2 rfl rfl)
  · exact (val_main_v1_apply _ _).trans (congrArg w (at2 rfl rfl))

/-- The two arrays are one. -/
theorem same : ((dats m 0 c).arrAt 2 cfg0.N : S8320x2048.Idx → EReal) = val_main_v4 (F := Ideal) (V m c main_arg0) (V m c main_arg1) :=
  funext fun i => (result m c i).trans (reference _ _ i).symm

end Cert.Products.Call10

end
-- ==== Proof.Products.Call11.lean ====
/- The gradient of a branch projection's weights: the array the kernel writes, entry by entry, is the whole sum, and so is the reference's. -/
module

public import proofs.«01_k».proof.Proof.Products.Reads
public import proofs.«01_k».proof.Proof.Gen.Kernel11Ideal.Value
public import proofs.«01_k».proof.Proof.Gen.Reference11Ideal.Read

@[expose] public section

noncomputable section

namespace Cert.Products.Call11

open Finset Idealize.ShloMosaic Idealize.ShloMosaic.TcCoe Cert.Kernel11Ideal Cert.Kernel11Ideal.Gen Cert.Reference11Ideal.Read

theorem zero_at (y : S1024x1024.Idx) : k0_pay1 (F := Ideal) y = (0 : EReal) := by
  unfold k0_pay1
  pointwise

theorem step_at (v : Vec Ideal S1024x1024 .f32) (X : Vec Ideal S1664x1024 .bf16) (W : Vec Ideal S1664x1024 .bf16) (y : S1024x1024.Idx) :
    k0_pay2 v X W y = (v y : EReal) + dotTN (K := 1664) (M := 1024) (N := 1024) X W (y 0) (y 1) := by
  unfold k0_pay2 dotTN
  pointwise

theorem round_at (v : Vec Ideal S1024x1024 .f32) (y : S1024x1024.Idx) : (k0_pay3 (F := Ideal) v y : EReal) = v y := by
  unfold k0_pay3
  pointwise

section Step

variable (c : Dev nD) (t : Fin cfg0.N) (X : Vec Ideal S1664x1024 .bf16) (W : Vec Ideal S1664x1024 .bf16) (v : Vec Ideal S1024x1024 .f32)

theorem first (hc0 hc1) : sout0_A_0 c (grid0.coords t) _ (hs0_0 t) _ (hs0_1 t) _ (hs0_2 t) scM0_0 (Memref.isWhole_whole _) hc0 hc1 X W
    = k0_pay2 (k0_pay1 (F := Ideal)) X W := by
  unfold sout0_A_0
  rw [View.read_writes_eq_canon _ _ _ (scover0_A_0 c _ _ _ _ _ _ _ _ _ _ _ _ _)]
  unfold kernelRun0_A
  dsimp only
  sl_unfold_words
  simp only [View.readAt_eq_ld, Memref.IsWhole.read_unread, (Memref.isWhole_whole _).read_unread]
  rw [View.canon_cons_unit_zero zz, View.readCov_unit_zero _ zz, View.ld_unit_zero zz, View.ld_unit_zero zz]

theorem next (hc0 hc1) : sout0_B_0 c (grid0.coords t) _ (hs0_0 t) _ (hs0_1 t) _ (hs0_2 t) scM0_0 (Memref.isWhole_whole _) hc0 hc1 X W v
    = k0_pay2 v X W := by
  unfold sout0_B_0
  rw [View.read_writes_eq_canon _ _ _ (scover0_B_0 c _ _ _ _ _ _ _ _ _ _ _ _ _ _)]
  unfold kernelRun0_B
  dsimp only
  sl_unfold_words
  simp only [View.readAt_eq_ld, Memref.IsWhole.read_unread, (Memref.isWhole_whole _).read_unread]
  rw [View.canon_unit_zero zz, View.ld_unit_zero zz, View.ld_unit_zero zz, View.ld_unit_zero zz]

theorem last (hc0 hc1) : out0_C_2 c (grid0.coords t) _ (hs0_0 t) _ (hs0_1 t) _ (hs0_2 t) scM0_0 (Memref.isWhole_whole _) hc0 hc1 X W v
    = k0_pay3 (F := Ideal) (k0_pay2 v X W) := by
  unfold out0_C_2
  rw [View.read_writes_eq_canon _ _ _ (cover0_C_2 c _ _ _ _ _ _ _ _ _ _ _ _ _ _)]
  unfold kernelRun0_C
  dsimp only
  sl_unfold_words
  simp only [View.readAt_eq_ld, Memref.IsWhole.read_unread, (Memref.isWhole_whole _).read_unread]
  rw [View.canon_unit_zero zz, View.readCov_unit_zero _ zz, View.ld_unit_zero zz, View.ld_unit_zero zz, View.ld_unit_zero zz]

end Step

theorem index0 : ∀ t : Fin cfg0.N, win0_0.index t 0 = t.val % 5 ∧ win0_0.index t 1 = t.val / 5 / 2 :=
  (by change ∀ t : Fin grid0.N, _; decide +kernel)
theorem index1 : ∀ t : Fin cfg0.N, win0_1.index t 0 = t.val % 5 ∧ win0_1.index t 1 = t.val / 5 % 2 :=
  (by change ∀ t : Fin grid0.N, _; decide +kernel)

/-- One term of the sum for the entry at row `r` and column `k`. -/
def term (x : S8320x1024.Idx → EReal) (w : S8320x2048.Idx → EReal) (r k s : ℕ) : EReal := ent x s r * ent w s k

variable (m : (ℓ : Loc nD τ Cert.Kernel11Ideal.sig) → Buf (Elt Ideal) ℓ) (c : Dev nD)

/-- A term of the entry at `y` of block `b`. -/
abbrev tm (b : ℕ) (y : S1024x1024.Idx) (s : ℕ) : EReal := term (V m c main_arg0) (V m c main_arg1) (1024 * (b / 2) + (y 0).val) (1024 * (b % 2) + (y 1).val) s

/-- What a step adds to the entry at `y` of its block. -/
theorem added (t : Fin cfg0.N) (y : S1024x1024.Idx) :
    dotTN (K := 1664) (M := 1024) (N := 1024) (iblk m c 0 t) (iblk m c 1 t) (y 0) (y 1)
      = ∑ s : Fin 1664, tm m c (t.val / 5) y (1664 * (t.val % 5) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * s.val = _
    omega
  · show win0_0.index t 1 * 1024 + 1 * (y 0).val = _
    omega
  · show win0_1.index t 0 * 1664 + 1 * s.val = _
    omega
  · show win0_1.index t 1 * 1024 + 1 * (y 1).val = _
    omega

theorem stepA (t : Fin cfg0.N) (h0 : t.val % 5 = 0) (h1 : ¬ t.val % 5 = 4) (y : S1024x1024.Idx) : ((outsAt0 m c t.val t.isLt).2 y : EReal)
    = 0 + ∑ s : Fin 1664, tm m c (t.val / 5) y (1664 * (t.val % 5) + s.val) := by
  rw [outsAt0_A m c t h0 h1]
  dsimp only
  rw [first, step_at, zero_at]
  exact congrArg _ (added m c t y)

theorem stepB (t : Fin cfg0.N) (h0 : ¬ t.val % 5 = 0) (h1 : ¬ t.val % 5 = 4) (y : S1024x1024.Idx) : ((outsAt0 m c t.val t.isLt).2 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_B m c t h0 h1]
  dsimp only
  rw [next, step_at]
  exact congrArg _ (added m c t y)

theorem stepC (t : Fin cfg0.N) (h0 : ¬ t.val % 5 = 0) (h1 : t.val % 5 = 4) (y : S1024x1024.Idx) : ((outsAt0 m c t.val t.isLt).1 y : EReal)
    = ((outsAt0 m c (t.val - 1) (Nat.lt_of_le_of_lt (Nat.sub_le _ _) t.isLt)).2 y : EReal)
      + ∑ s : Fin 1664, tm m c (t.val / 5) y (1664 * (t.val % 5) + s.val) := by
  rw [outsAt0_C m c t h0 h1]
  dsimp only
  rw [last, round_at, step_at]
  exact congrArg _ (added m c t y)

/-- The block written by the last step of a sum. -/
theorem written (n : ℕ) (hn : n < cfg0.N) (hl : n % 5 = 4) (y : S1024x1024.Idx) : ((outsAt0 m c n hn).1 y : EReal)
    = ∑ s ∈ range (1664 * 5), tm m c (n / 5) y s :=
  (stepC m c ⟨n, hn⟩ (fun h : n % 5 = 0 => by omega) hl y).trans (carry (L := 4) (· / 5) (· % 5) rfl (fun n h => by omega) (fun b => tm m c b y) (fun n hn => (outsAt0 m c n hn).2 y) (fun n hn h0 h1 => stepA m c ⟨n, hn⟩ h0 h1 y) (fun n hn h0 h1 => stepB m c ⟨n, hn⟩ h0 h1 y) n hn (fun h : n % 5 = 0 => by omega) hl)

/-- The kernel's array, entry by entry. -/
theorem result (i : S1024x2048.Idx) : (Value.G2 m c : S1024x2048.Idx → EReal) i
    = ∑ s ∈ range 8320, term (V m c main_arg0) (V m c main_arg1) (i 0).val (i 1).val s := by
  have h0 : (i 0).val < 1024 := (i 0).isLt
  have h1 : (i 1).val < 2048 := (i 1).isLt
  have hp : Value.pt2Of i = 5 * (2 * ((i 0).val / 1024 - 0) + 1 * ((i 1).val / 1024 - 0)) + 4 := rfl
  have hb : Value.pt2Of i < cfg0.N := by rw [hp, show cfg0.N = 10 from N_0]; omega
  have e0 : 1024 * (Value.pt2Of i / 5 / 2) + (i 0).val % 1024 = (i 0).val := by rw [hp]; omega
  have e1 : 1024 * (Value.pt2Of i / 5 % 2) + (i 1).val % 1024 = (i 1).val := by rw [hp]; omega
  unfold Value.G2
  rw [dif_pos hb, ← Value.outsAt0_sweep m c _ hb]
  refine (written m c _ hb (by rw [hp]; omega) _).trans ?_
  exact congrArg₂ (fun a b => ∑ s ∈ range 8320, term (V m c main_arg0) (V m c main_arg1) a b s) e0 e1

/-- The reference's array, entry by entry. -/
theorem reference (x : S8320x1024.Idx → EReal) (w : S8320x2048.Idx → EReal) (i : S1024x2048.Idx) :
    (val_main_v6 (F := Ideal) x w i : EReal) = ∑ s ∈ range 8320, term x w (i 0).val (i 1).val s := by
  rw [sum_all _ _ (fun k : Fin 8320 => (w (ix2 k (i 1)) : EReal) * x (ix2 k (i 0))) (fun k => ((mul_comm _ _).trans (congrArg₂ (· * ·) (ent_of _ _ _ _ rfl rfl) (ent_of _ _ _ _ rfl rfl))))]
  refine (val_main_v6_apply _ _ _).trans ((val_main_v5_apply _ _ _).trans ((val_main_v4_apply _ _ _).trans (Finset.sum_congr rfl fun k _ => congrArg₂ (· * ·) ?_ ?_)))
  · exact (val_main_v3_apply _ _).trans (congrArg w (at2 rfl rfl))
  · exact (val_main_v1_apply _ _).trans (congrArg x (at2 rfl rfl))

/-- The two arrays are one. -/
theorem same : (Value.G2 m c : S1024x2048.Idx → EReal) = val_main_v6 (F := Ideal) (V m c main_arg0) (V m c main_arg1) :=
  funext fun i => (result m c i).trans (reference _ _ i).symm

end Cert.Products.Call11

end
-- ==== Proof.Products.Call12.lean ====
/- The gradient of the first branch projection's input: the array the kernel writes, entry by entry, is the whole sum, and so is the reference's. -/
module

public import proofs.«01_k».proof.Proof.Products.Reads
public import proofs.«01_k».proof.Proof.Gen.Kernel12Ideal.Value
public import proofs.«01_k».proof.Proof.Gen.Reference12Ideal.Read

@[expose] public section

noncomputable section

namespace Cert.Products.Call12

open Finset Idealize.ShloMosaic Idealize.ShloMosaic.TcCoe Cert.Kernel12Ideal Cert.Kernel12Ideal.Gen Cert.Reference12Ideal.Read

theorem step_at (X : Vec Ideal S640x2048 .bf16) (W : Vec Ideal S1024x2048 .bf16) (y : S640x1024.Idx) :
    (k0_pay1 (F := Ideal) X W y : EReal) = dotNT (K := 2048) (M := 640) (N := 1024) X W (y 0) (y 1) := by
  unfold k0_pay1 dotNT
  pointwise

section Step

variable (c : Dev nD) (t : Fin cfg0.N) (X : Vec Ideal S640x2048 .bf16) (W : Vec Ideal S1024x2048 .bf16) (v : Vec Ideal S640x1024 .f32)

theorem only : out0_A_2 c (grid0.coords t) _ (hs0_0 t) _ (hs0_1 t) _ (hs0_2 t) scM0_0 (Memref.isWhole_whole _) X W
    = k0_pay1 (F := Ideal) X W := by
  unfold out0_A_2
  rw [View.read_writes_eq_canon _ _ _ (cover0_A_2 c _ _ _ _ _ _ _ _ _ _ _)]
  unfold kernelRun0_A
  dsimp only
  sl_unfold_words
  simp only [View.readAt_eq_ld, Memref.IsWhole.read_unread]
  rw [View.canon_unit_zero zz, View.ld_unit_zero zz, View.ld_unit_zero zz]

end Step

theorem index0 : ∀ t : Fin cfg0.N, win0_0.index t 0 = t.val / 1 / 1 ∧ win0_0.index t 1 = t.val % 1 :=
  (by change ∀ t : Fin grid0.N, _; decide +kernel)
theorem index1 : ∀ t : Fin cfg0.N, win0_1.index t 0 = t.val / 1 % 1 ∧ win0_1.index t 1 = t.val % 1 :=
  (by change ∀ t : Fin grid0.N, _; decide +kernel)
theorem index2 : ∀ t : Fin cfg0.N, win0_2.index t 0 = t.val / 1 / 1 ∧ win0_2.index t 1 = t.val / 1 % 1 :=
  (by change ∀ t : Fin grid0.N, _; decide +kernel)

/-- One term of the sum for the entry at row `r` and column `k`. -/
def term (x : S8320x2048.Idx → EReal) (w : S1024x2048.Idx → EReal) (r k s : ℕ) : EReal := ent x r s * ent w k s

variable (m : (ℓ : Loc nD τ Cert.Kernel12Ideal.sig) → Buf (Elt Ideal) ℓ) (c : Dev nD)

/-- What a step adds to the entry at `y` of its block. -/
theorem added (t : Fin cfg0.N) (y : S640x1024.Idx) :
    dotNT (K := 2048) (M := 640) (N := 1024) (iblk m c 0 t) (iblk m c 1 t) (y 0) (y 1)
      = ∑ s : Fin 2048, term (V m c main_arg0) (V m c main_arg1) (640 * (t.val / 1 / 1) + (y 0).val) (1024 * (t.val / 1 % 1) + (y 1).val) (2048 * (t.val % 1) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 640 + 1 * (y 0).val = _
    omega
  · show win0_0.index t 1 * 2048 + 1 * s.val = _
    omega
  · show win0_1.index t 0 * 1024 + 1 * (y 1).val = _
    omega
  · show win0_1.index t 1 * 2048 + 1 * s.val = _
    omega

/-- The block a step writes. -/
theorem written (t : Fin cfg0.N) (y : S640x1024.Idx) : (outsAt0 m c t y : EReal)
    = ∑ s ∈ range (2048 * 1), term (V m c main_arg0) (V m c main_arg1) (640 * (t.val / 1 / 1) + (y 0).val) (1024 * (t.val / 1 % 1) + (y 1).val) s := by
  unfold outsAt0
  rw [only]
  refine (step_at _ _ _).trans ((added m c t y).trans ?_)
  rw [Nat.mod_one t.val]
  exact sum_first _ _

/-- The kernel's array, entry by entry. -/
theorem result (i : S8320x1024.Idx) : ((dats m 0 c).arrAt 2 cfg0.N : S8320x1024.Idx → EReal) i
    = ∑ s ∈ range 2048, term (V m c main_arg0) (V m c main_arg1) (i 0).val (i 1).val s := by
  have h0 : (i 0).val < 8320 := (i 0).isLt
  have h1 : (i 1).val < 1024 := (i 1).isLt
  have hb : 1 * ((i 0).val / 640) + (i 1).val / 1024 < cfg0.N := by rw [show cfg0.N = 13 from N_0]; omega
  obtain ⟨e0, e1⟩ := index2 ⟨_, hb⟩
  dsimp only at e0 e1
  have d0 : 640 * ((1 * ((i 0).val / 640) + (i 1).val / 1024) / 1 / 1) + (i 0).val % 640 = (i 0).val := by omega
  have d1 : 1024 * ((1 * ((i 0).val / 640) + (i 1).val / 1024) / 1 % 1) + (i 1).val % 1024 = (i 1).val := by omega
  let z : S640x1024.Idx := ix2 ⟨(i 0).val % 640, Nat.mod_lt _ (by norm_num)⟩ ⟨(i 1).val % 1024, Nat.mod_lt _ (by norm_num)⟩
  have hi : ((cfg0.win 2).blk ⟨_, hb⟩).view.emb z = i := by
    refine (at2 (a := 8320) (b := 1024) (x := i 0) (y := i 1) ?_ ?_).trans (at2 (a := 8320) (b := 1024) (x := i 0) (y := i 1) rfl rfl).symm
    · show win0_2.index ⟨_, hb⟩ 0 * 640 + 1 * ((i 0).val % 640) = (i 0).val
      omega
    · show win0_2.index ⟨_, hb⟩ 1 * 1024 + 1 * ((i 1).val % 1024) = (i 1).val
      omega
  have hr := congrFun ((Value.blocks2 m c ⟨_, hb⟩ (flush0_2 _)).trans (Value.flushed2 m c ⟨_, hb⟩)) z
  refine ((congrArg ((dats m 0 c).arrAt 2 cfg0.N : S8320x1024.Idx → EReal) hi).symm.trans hr).trans ((written m c ⟨_, hb⟩ z).trans ?_)
  exact congrArg₂ (fun a b => ∑ s ∈ range 2048, term (V m c main_arg0) (V m c main_arg1) a b s) d0 d1

/-- The reference's array, entry by entry. -/
theorem reference (x : S8320x2048.Idx → EReal) (w : S1024x2048.Idx → EReal) (i : S8320x1024.Idx) :
    (val_main_v5 (F := Ideal) x w i : EReal) = ∑ s ∈ range 2048, term x w (i 0).val (i 1).val s := by
  rw [sum_all _ _ (fun k : Fin 2048 => (x (ix2 (i 0) k) : EReal) * w (ix2 (i 1) k)) (fun k => (congrArg₂ (· * ·) (ent_of _ _ _ _ rfl rfl) (ent_of _ _ _ _ rfl rfl)))]
  refine (val_main_v5_apply _ _ _).trans ((val_main_v4_apply _ _ _).trans (Finset.sum_congr rfl fun k _ => congrArg₂ (· * ·) ?_ ?_))
  · exact (val_main_v3_apply _ _).trans (congrArg x (at2 rfl rfl))
  · exact (val_main_v1_apply _ _).trans (congrArg w (at2 rfl rfl))

/-- The two arrays are one. -/
theorem same : ((dats m 0 c).arrAt 2 cfg0.N : S8320x1024.Idx → EReal) = val_main_v5 (F := Ideal) (V m c main_arg0) (V m c main_arg1) :=
  funext fun i => (result m c i).trans (reference _ _ i).symm

end Cert.Products.Call12

end
-- ==== Proof.Products.Call13.lean ====
/- The gradient of the second and third branch projections' inputs: the array the kernel writes, entry by entry, is the whole sum, and so is the reference's. -/
module

public import proofs.«01_k».proof.Proof.Products.Reads
public import proofs.«01_k».proof.Proof.Gen.Kernel13Ideal.Value
public import proofs.«01_k».proof.Proof.Gen.Reference13Ideal.Read

@[expose] public section

noncomputable section

namespace Cert.Products.Call13

open Finset Idealize.ShloMosaic Idealize.ShloMosaic.TcCoe Cert.Kernel13Ideal Cert.Kernel13Ideal.Gen Cert.Reference13Ideal.Read

theorem step_at (X : Vec Ideal S640x2048 .bf16) (W : Vec Ideal S1024x2048 .bf16) (y : S640x1024.Idx) :
    (k0_pay1 (F := Ideal) X W y : EReal) = dotNT (K := 2048) (M := 640) (N := 1024) X W (y 0) (y 1) := by
  unfold k0_pay1 dotNT
  pointwise

section Step

variable (c : Dev nD) (t : Fin cfg0.N) (X : Vec Ideal S640x2048 .bf16) (W : Vec Ideal S1024x2048 .bf16) (v : Vec Ideal S640x1024 .f32)

theorem only : out0_A_2 c (grid0.coords t) _ (hs0_0 t) _ (hs0_1 t) _ (hs0_2 t) scM0_0 (Memref.isWhole_whole _) X W
    = k0_pay1 (F := Ideal) X W := by
  unfold out0_A_2
  rw [View.read_writes_eq_canon _ _ _ (cover0_A_2 c _ _ _ _ _ _ _ _ _ _ _)]
  unfold kernelRun0_A
  dsimp only
  sl_unfold_words
  simp only [View.readAt_eq_ld, Memref.IsWhole.read_unread]
  rw [View.canon_unit_zero zz, View.ld_unit_zero zz, View.ld_unit_zero zz]

end Step

theorem index0 : ∀ t : Fin cfg0.N, win0_0.index t 0 = t.val / 1 / 1 ∧ win0_0.index t 1 = t.val % 1 :=
  (by change ∀ t : Fin grid0.N, _; decide +kernel)
theorem index1 : ∀ t : Fin cfg0.N, win0_1.index t 0 = t.val / 1 % 1 ∧ win0_1.index t 1 = t.val % 1 :=
  (by change ∀ t : Fin grid0.N, _; decide +kernel)
theorem index2 : ∀ t : Fin cfg0.N, win0_2.index t 0 = t.val / 1 / 1 ∧ win0_2.index t 1 = t.val / 1 % 1 :=
  (by change ∀ t : Fin grid0.N, _; decide +kernel)

/-- One term of the sum for the entry at row `r` and column `k`. -/
def term (x : S8320x2048.Idx → EReal) (w : S1024x2048.Idx → EReal) (r k s : ℕ) : EReal := ent x r s * ent w k s

variable (m : (ℓ : Loc nD τ Cert.Kernel13Ideal.sig) → Buf (Elt Ideal) ℓ) (c : Dev nD)

/-- What a step adds to the entry at `y` of its block. -/
theorem added (t : Fin cfg0.N) (y : S640x1024.Idx) :
    dotNT (K := 2048) (M := 640) (N := 1024) (iblk m c 0 t) (iblk m c 1 t) (y 0) (y 1)
      = ∑ s : Fin 2048, term (V m c main_arg0) (V m c main_arg1) (640 * (t.val / 1 / 1) + (y 0).val) (1024 * (t.val / 1 % 1) + (y 1).val) (2048 * (t.val % 1) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 640 + 1 * (y 0).val = _
    omega
  · show win0_0.index t 1 * 2048 + 1 * s.val = _
    omega
  · show win0_1.index t 0 * 1024 + 1 * (y 1).val = _
    omega
  · show win0_1.index t 1 * 2048 + 1 * s.val = _
    omega

/-- The block a step writes. -/
theorem written (t : Fin cfg0.N) (y : S640x1024.Idx) : (outsAt0 m c t y : EReal)
    = ∑ s ∈ range (2048 * 1), term (V m c main_arg0) (V m c main_arg1) (640 * (t.val / 1 / 1) + (y 0).val) (1024 * (t.val / 1 % 1) + (y 1).val) s := by
  unfold outsAt0
  rw [only]
  refine (step_at _ _ _).trans ((added m c t y).trans ?_)
  rw [Nat.mod_one t.val]
  exact sum_first _ _

/-- The kernel's array, entry by entry. -/
theorem result (i : S8320x1024.Idx) : ((dats m 0 c).arrAt 2 cfg0.N : S8320x1024.Idx → EReal) i
    = ∑ s ∈ range 2048, term (V m c main_arg0) (V m c main_arg1) (i 0).val (i 1).val s := by
  have h0 : (i 0).val < 8320 := (i 0).isLt
  have h1 : (i 1).val < 1024 := (i 1).isLt
  have hb : 1 * ((i 0).val / 640) + (i 1).val / 1024 < cfg0.N := by rw [show cfg0.N = 13 from N_0]; omega
  obtain ⟨e0, e1⟩ := index2 ⟨_, hb⟩
  dsimp only at e0 e1
  have d0 : 640 * ((1 * ((i 0).val / 640) + (i 1).val / 1024) / 1 / 1) + (i 0).val % 640 = (i 0).val := by omega
  have d1 : 1024 * ((1 * ((i 0).val / 640) + (i 1).val / 1024) / 1 % 1) + (i 1).val % 1024 = (i 1).val := by omega
  let z : S640x1024.Idx := ix2 ⟨(i 0).val % 640, Nat.mod_lt _ (by norm_num)⟩ ⟨(i 1).val % 1024, Nat.mod_lt _ (by norm_num)⟩
  have hi : ((cfg0.win 2).blk ⟨_, hb⟩).view.emb z = i := by
    refine (at2 (a := 8320) (b := 1024) (x := i 0) (y := i 1) ?_ ?_).trans (at2 (a := 8320) (b := 1024) (x := i 0) (y := i 1) rfl rfl).symm
    · show win0_2.index ⟨_, hb⟩ 0 * 640 + 1 * ((i 0).val % 640) = (i 0).val
      omega
    · show win0_2.index ⟨_, hb⟩ 1 * 1024 + 1 * ((i 1).val % 1024) = (i 1).val
      omega
  have hr := congrFun ((Value.blocks2 m c ⟨_, hb⟩ (flush0_2 _)).trans (Value.flushed2 m c ⟨_, hb⟩)) z
  refine ((congrArg ((dats m 0 c).arrAt 2 cfg0.N : S8320x1024.Idx → EReal) hi).symm.trans hr).trans ((written m c ⟨_, hb⟩ z).trans ?_)
  exact congrArg₂ (fun a b => ∑ s ∈ range 2048, term (V m c main_arg0) (V m c main_arg1) a b s) d0 d1

/-- The reference's array, entry by entry. -/
theorem reference (x : S8320x2048.Idx → EReal) (w : S1024x2048.Idx → EReal) (i : S8320x1024.Idx) :
    (val_main_v4 (F := Ideal) x w i : EReal) = ∑ s ∈ range 2048, term x w (i 0).val (i 1).val s := by
  rw [sum_all _ _ (fun k : Fin 2048 => (x (ix2 (i 0) k) : EReal) * w (ix2 (i 1) k)) (fun k => (congrArg₂ (· * ·) (ent_of _ _ _ _ rfl rfl) (ent_of _ _ _ _ rfl rfl)))]
  refine (val_main_v4_apply _ _ _).trans (Finset.sum_congr rfl fun k _ => congrArg₂ (· * ·) ?_ ?_)
  · exact (val_main_v3_apply _ _).trans (congrArg x (at2 rfl rfl))
  · exact (val_main_v1_apply _ _).trans (congrArg w (at2 rfl rfl))

/-- The two arrays are one. -/
theorem same : ((dats m 0 c).arrAt 2 cfg0.N : S8320x1024.Idx → EReal) = val_main_v4 (F := Ideal) (V m c main_arg0) (V m c main_arg1) :=
  funext fun i => (result m c i).trans (reference _ _ i).symm

end Cert.Products.Call13

end
-- ==== Proof.Products.Call14.lean ====
/- The input projection's columns for the attention branch: the array the kernel writes, entry by entry, is the whole sum, and so is the reference's. -/
module

public import proofs.«01_k».proof.Proof.Products.Reads
public import proofs.«01_k».proof.Proof.Gen.Kernel14Ideal.Value
public import proofs.«01_k».proof.Proof.Gen.Reference14Ideal.Read

@[expose] public section

noncomputable section

namespace Cert.Products.Call14

open Finset Idealize.ShloMosaic Idealize.ShloMosaic.TcCoe Cert.Kernel14Ideal Cert.Kernel14Ideal.Gen Cert.Reference14Ideal.Read

theorem step_at (X : Vec Ideal S1664x2048 .bf16) (W : Vec Ideal S2048x512 .bf16) (y : S1664x512.Idx) :
    (k0_pay1 (F := Ideal) X W y : EReal) = dotNN (K := 2048) (M := 1664) (N := 512) X W (y 0) (y 1) := by
  unfold k0_pay1 dotNN
  pointwise

section Step

variable (c : Dev nD) (t : Fin cfg0.N) (X : Vec Ideal S1664x2048 .bf16) (W : Vec Ideal S2048x512 .bf16) (v : Vec Ideal S1664x512 .f32)

theorem only : out0_A_2 c (grid0.coords t) _ (hs0_0 t) _ (hs0_1 t) _ (hs0_2 t) scM0_0 (Memref.isWhole_whole _) X W
    = k0_pay1 (F := Ideal) X W := by
  unfold out0_A_2
  rw [View.read_writes_eq_canon _ _ _ (cover0_A_2 c _ _ _ _ _ _ _ _ _ _ _)]
  unfold kernelRun0_A
  dsimp only
  sl_unfold_words
  simp only [View.readAt_eq_ld, Memref.IsWhole.read_unread]
  rw [View.canon_unit_zero zz, View.ld_unit_zero zz, View.ld_unit_zero zz]

end Step

theorem index0 : ∀ t : Fin cfg0.N, win0_0.index t 0 = t.val / 1 / 6 ∧ win0_0.index t 1 = t.val % 1 :=
  (by change ∀ t : Fin grid0.N, _; decide +kernel)
theorem index1 : ∀ t : Fin cfg0.N, win0_1.index t 0 = t.val % 1 ∧ win0_1.index t 1 = t.val / 1 % 6 :=
  (by change ∀ t : Fin grid0.N, _; decide +kernel)
theorem index2 : ∀ t : Fin cfg0.N, win0_2.index t 0 = t.val / 1 / 6 ∧ win0_2.index t 1 = t.val / 1 % 6 :=
  (by change ∀ t : Fin grid0.N, _; decide +kernel)

/-- One term of the sum for the entry at row `r` and column `k`. -/
def term (x : S8320x2048.Idx → EReal) (w : S2048x16384.Idx → EReal) (r k s : ℕ) : EReal := ent x r s * ent w s k

variable (m : (ℓ : Loc nD τ Cert.Kernel14Ideal.sig) → Buf (Elt Ideal) ℓ) (c : Dev nD)

/-- What a step adds to the entry at `y` of its block. -/
theorem added (t : Fin cfg0.N) (y : S1664x512.Idx) :
    dotNN (K := 2048) (M := 1664) (N := 512) (iblk m c 0 t) (iblk m c 1 t) (y 0) (y 1)
      = ∑ s : Fin 2048, term (V m c main_arg0) (V m c main_arg1) (1664 * (t.val / 1 / 6) + (y 0).val) (512 * (t.val / 1 % 6) + (y 1).val) (2048 * (t.val % 1) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * (y 0).val = _
    omega
  · show win0_0.index t 1 * 2048 + 1 * s.val = _
    omega
  · show win0_1.index t 0 * 2048 + 1 * s.val = _
    omega
  · show win0_1.index t 1 * 512 + 1 * (y 1).val = _
    omega

/-- The block a step writes. -/
theorem written (t : Fin cfg0.N) (y : S1664x512.Idx) : (outsAt0 m c t y : EReal)
    = ∑ s ∈ range (2048 * 1), term (V m c main_arg0) (V m c main_arg1) (1664 * (t.val / 1 / 6) + (y 0).val) (512 * (t.val / 1 % 6) + (y 1).val) s := by
  unfold outsAt0
  rw [only]
  refine (step_at _ _ _).trans ((added m c t y).trans ?_)
  rw [Nat.mod_one t.val]
  exact sum_first _ _

/-- The kernel's array, entry by entry. -/
theorem result (i : S8320x3072.Idx) : ((dats m 0 c).arrAt 2 cfg0.N : S8320x3072.Idx → EReal) i
    = ∑ s ∈ range 2048, term (V m c main_arg0) (V m c main_arg1) (i 0).val (i 1).val s := by
  have h0 : (i 0).val < 8320 := (i 0).isLt
  have h1 : (i 1).val < 3072 := (i 1).isLt
  have hb : 6 * ((i 0).val / 1664) + (i 1).val / 512 < cfg0.N := by rw [show cfg0.N = 30 from N_0]; omega
  obtain ⟨e0, e1⟩ := index2 ⟨_, hb⟩
  dsimp only at e0 e1
  have d0 : 1664 * ((6 * ((i 0).val / 1664) + (i 1).val / 512) / 1 / 6) + (i 0).val % 1664 = (i 0).val := by omega
  have d1 : 512 * ((6 * ((i 0).val / 1664) + (i 1).val / 512) / 1 % 6) + (i 1).val % 512 = (i 1).val := by omega
  let z : S1664x512.Idx := ix2 ⟨(i 0).val % 1664, Nat.mod_lt _ (by norm_num)⟩ ⟨(i 1).val % 512, Nat.mod_lt _ (by norm_num)⟩
  have hi : ((cfg0.win 2).blk ⟨_, hb⟩).view.emb z = i := by
    refine (at2 (a := 8320) (b := 3072) (x := i 0) (y := i 1) ?_ ?_).trans (at2 (a := 8320) (b := 3072) (x := i 0) (y := i 1) rfl rfl).symm
    · show win0_2.index ⟨_, hb⟩ 0 * 1664 + 1 * ((i 0).val % 1664) = (i 0).val
      omega
    · show win0_2.index ⟨_, hb⟩ 1 * 512 + 1 * ((i 1).val % 512) = (i 1).val
      omega
  have hr := congrFun ((Value.blocks2 m c ⟨_, hb⟩ (flush0_2 _)).trans (Value.flushed2 m c ⟨_, hb⟩)) z
  refine ((congrArg ((dats m 0 c).arrAt 2 cfg0.N : S8320x3072.Idx → EReal) hi).symm.trans hr).trans ((written m c ⟨_, hb⟩ z).trans ?_)
  exact congrArg₂ (fun a b => ∑ s ∈ range 2048, term (V m c main_arg0) (V m c main_arg1) a b s) d0 d1

/-- The reference's array, entry by entry. -/
theorem reference (x : S8320x2048.Idx → EReal) (w : S2048x16384.Idx → EReal) (i : S8320x3072.Idx) :
    (val_main_v4 (F := Ideal) x w i : EReal) = ∑ s ∈ range 2048, term x w (i 0).val (i 1).val s := by
  have h1 : (i 1).val < 16384 := by have h : (i 1).val < 3072 := (i 1).isLt; omega
  rw [sum_all _ _ (fun k : Fin 2048 => (x (ix2 (i 0) k) : EReal) * w (ix2 k ⟨(i 1).val, h1⟩)) (fun k => (congrArg₂ (· * ·) (ent_of _ _ _ _ rfl rfl) (ent_of _ _ _ _ rfl rfl)))]
  refine (val_main_v4_apply _ _ _).trans ((val_main_v3_apply _ _ _).trans (Finset.sum_congr rfl fun k _ => congrArg₂ (· * ·) ?_ ?_))
  · exact (val_main_v0_apply _ _).trans (congrArg x (at2 rfl rfl))
  · exact (val_main_v2_apply _ _).trans ((val_main_v1_apply _ _).trans (congrArg w (at2 rfl rfl)))

/-- The two arrays are one. -/
theorem same : ((dats m 0 c).arrAt 2 cfg0.N : S8320x3072.Idx → EReal) = val_main_v4 (F := Ideal) (V m c main_arg0) (V m c main_arg1) :=
  funext fun i => (result m c i).trans (reference _ _ i).symm

end Cert.Products.Call14

end
-- ==== Proof.Products.Call15.lean ====
/- The input projection's other columns: the array the kernel writes, entry by entry, is the whole sum, and so is the reference's. -/
module

public import proofs.«01_k».proof.Proof.Products.Reads
public import proofs.«01_k».proof.Proof.Gen.Kernel15Ideal.Value
public import proofs.«01_k».proof.Proof.Gen.Reference15Ideal.Read

@[expose] public section

noncomputable section

namespace Cert.Products.Call15

open Finset Idealize.ShloMosaic Idealize.ShloMosaic.TcCoe Cert.Kernel15Ideal Cert.Kernel15Ideal.Gen Cert.Reference15Ideal.Read

theorem step_at (X : Vec Ideal S1664x2048 .bf16) (W : Vec Ideal S2048x512 .bf16) (y : S1664x512.Idx) :
    (k0_pay1 (F := Ideal) X W y : EReal) = dotNN (K := 2048) (M := 1664) (N := 512) X W (y 0) (y 1) := by
  unfold k0_pay1 dotNN
  pointwise

section Step

variable (c : Dev nD) (t : Fin cfg0.N) (X : Vec Ideal S1664x2048 .bf16) (W : Vec Ideal S2048x512 .bf16) (v : Vec Ideal S1664x512 .f32)

theorem only : out0_A_2 c (grid0.coords t) _ (hs0_0 t) _ (hs0_1 t) _ (hs0_2 t) scM0_0 (Memref.isWhole_whole _) X W
    = k0_pay1 (F := Ideal) X W := by
  unfold out0_A_2
  rw [View.read_writes_eq_canon _ _ _ (cover0_A_2 c _ _ _ _ _ _ _ _ _ _ _)]
  unfold kernelRun0_A
  dsimp only
  sl_unfold_words
  simp only [View.readAt_eq_ld, Memref.IsWhole.read_unread]
  rw [View.canon_unit_zero zz, View.ld_unit_zero zz, View.ld_unit_zero zz]

end Step

theorem index0 : ∀ t : Fin cfg0.N, win0_0.index t 0 = t.val / 1 / 26 ∧ win0_0.index t 1 = t.val % 1 :=
  (by change ∀ t : Fin grid0.N, _; decide +kernel)
theorem index1 : ∀ t : Fin cfg0.N, win0_1.index t 0 = t.val % 1 ∧ win0_1.index t 1 = t.val / 1 % 26 + 6 :=
  (by change ∀ t : Fin grid0.N, _; decide +kernel)
theorem index2 : ∀ t : Fin cfg0.N, win0_2.index t 0 = t.val / 1 / 26 ∧ win0_2.index t 1 = t.val / 1 % 26 :=
  (by change ∀ t : Fin grid0.N, _; decide +kernel)

/-- One term of the sum for the entry at row `r` and column `k`. -/
def term (x : S8320x2048.Idx → EReal) (w : S2048x16384.Idx → EReal) (r k s : ℕ) : EReal := ent x r s * ent w s (3072 + k)

variable (m : (ℓ : Loc nD τ Cert.Kernel15Ideal.sig) → Buf (Elt Ideal) ℓ) (c : Dev nD)

/-- What a step adds to the entry at `y` of its block. -/
theorem added (t : Fin cfg0.N) (y : S1664x512.Idx) :
    dotNN (K := 2048) (M := 1664) (N := 512) (iblk m c 0 t) (iblk m c 1 t) (y 0) (y 1)
      = ∑ s : Fin 2048, term (V m c main_arg0) (V m c main_arg1) (1664 * (t.val / 1 / 26) + (y 0).val) (512 * (t.val / 1 % 26) + (y 1).val) (2048 * (t.val % 1) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * (y 0).val = _
    omega
  · show win0_0.index t 1 * 2048 + 1 * s.val = _
    omega
  · show win0_1.index t 0 * 2048 + 1 * s.val = _
    omega
  · show win0_1.index t 1 * 512 + 1 * (y 1).val = _
    omega

/-- The block a step writes. -/
theorem written (t : Fin cfg0.N) (y : S1664x512.Idx) : (outsAt0 m c t y : EReal)
    = ∑ s ∈ range (2048 * 1), term (V m c main_arg0) (V m c main_arg1) (1664 * (t.val / 1 / 26) + (y 0).val) (512 * (t.val / 1 % 26) + (y 1).val) s := by
  unfold outsAt0
  rw [only]
  refine (step_at _ _ _).trans ((added m c t y).trans ?_)
  rw [Nat.mod_one t.val]
  exact sum_first _ _

/-- The kernel's array, entry by entry. -/
theorem result (i : S8320x13312.Idx) : ((dats m 0 c).arrAt 2 cfg0.N : S8320x13312.Idx → EReal) i
    = ∑ s ∈ range 2048, term (V m c main_arg0) (V m c main_arg1) (i 0).val (i 1).val s := by
  have h0 : (i 0).val < 8320 := (i 0).isLt
  have h1 : (i 1).val < 13312 := (i 1).isLt
  have hb : 26 * ((i 0).val / 1664) + (i 1).val / 512 < cfg0.N := by rw [show cfg0.N = 130 from N_0]; omega
  obtain ⟨e0, e1⟩ := index2 ⟨_, hb⟩
  dsimp only at e0 e1
  have d0 : 1664 * ((26 * ((i 0).val / 1664) + (i 1).val / 512) / 1 / 26) + (i 0).val % 1664 = (i 0).val := by omega
  have d1 : 512 * ((26 * ((i 0).val / 1664) + (i 1).val / 512) / 1 % 26) + (i 1).val % 512 = (i 1).val := by omega
  let z : S1664x512.Idx := ix2 ⟨(i 0).val % 1664, Nat.mod_lt _ (by norm_num)⟩ ⟨(i 1).val % 512, Nat.mod_lt _ (by norm_num)⟩
  have hi : ((cfg0.win 2).blk ⟨_, hb⟩).view.emb z = i := by
    refine (at2 (a := 8320) (b := 13312) (x := i 0) (y := i 1) ?_ ?_).trans (at2 (a := 8320) (b := 13312) (x := i 0) (y := i 1) rfl rfl).symm
    · show win0_2.index ⟨_, hb⟩ 0 * 1664 + 1 * ((i 0).val % 1664) = (i 0).val
      omega
    · show win0_2.index ⟨_, hb⟩ 1 * 512 + 1 * ((i 1).val % 512) = (i 1).val
      omega
  have hr := congrFun ((Value.blocks2 m c ⟨_, hb⟩ (flush0_2 _)).trans (Value.flushed2 m c ⟨_, hb⟩)) z
  refine ((congrArg ((dats m 0 c).arrAt 2 cfg0.N : S8320x13312.Idx → EReal) hi).symm.trans hr).trans ((written m c ⟨_, hb⟩ z).trans ?_)
  exact congrArg₂ (fun a b => ∑ s ∈ range 2048, term (V m c main_arg0) (V m c main_arg1) a b s) d0 d1

/-- The reference's array, entry by entry. -/
theorem reference (x : S8320x2048.Idx → EReal) (w : S2048x16384.Idx → EReal) (i : S8320x13312.Idx) :
    (val_main_v3 (F := Ideal) x w i : EReal) = ∑ s ∈ range 2048, term x w (i 0).val (i 1).val s := by
  have h1 : 3072 + (i 1).val < 16384 := by have h : (i 1).val < 13312 := (i 1).isLt; omega
  rw [sum_all _ _ (fun k : Fin 2048 => (x (ix2 (i 0) k) : EReal) * w (ix2 k ⟨3072 + (i 1).val, h1⟩)) (fun k => (congrArg₂ (· * ·) (ent_of _ _ _ _ rfl rfl) (ent_of _ _ _ _ rfl rfl)))]
  refine (val_main_v3_apply _ _ _).trans (Finset.sum_congr rfl fun k _ => congrArg₂ (· * ·) ?_ ?_)
  · exact (val_main_v0_apply _ _).trans (congrArg x (at2 rfl rfl))
  · exact (val_main_v2_apply _ _).trans ((val_main_v1_apply _ _).trans (congrArg w (at2 rfl rfl)))

/-- The two arrays are one. -/
theorem same : ((dats m 0 c).arrAt 2 cfg0.N : S8320x13312.Idx → EReal) = val_main_v3 (F := Ideal) (V m c main_arg0) (V m c main_arg1) :=
  funext fun i => (result m c i).trans (reference _ _ i).symm

end Cert.Products.Call15

end
-- ==== Proof.Products.Call16.lean ====
/- A branch projection: the array the kernel writes, entry by entry, is the whole sum, and so is the reference's. -/
module

public import proofs.«01_k».proof.Proof.Products.Reads
public import proofs.«01_k».proof.Proof.Gen.Kernel16Ideal.Value
public import proofs.«01_k».proof.Proof.Gen.Reference16Ideal.Read

@[expose] public section

noncomputable section

namespace Cert.Products.Call16

open Finset Idealize.ShloMosaic Idealize.ShloMosaic.TcCoe Cert.Kernel16Ideal Cert.Kernel16Ideal.Gen Cert.Reference16Ideal.Read

theorem step_at (X : Vec Ideal S1664x1024 .bf16) (W : Vec Ideal S1024x512 .bf16) (y : S1664x512.Idx) :
    (k0_pay1 (F := Ideal) X W y : EReal) = dotNN (K := 1024) (M := 1664) (N := 512) X W (y 0) (y 1) := by
  unfold k0_pay1 dotNN
  pointwise

section Step

variable (c : Dev nD) (t : Fin cfg0.N) (X : Vec Ideal S1664x1024 .bf16) (W : Vec Ideal S1024x512 .bf16) (v : Vec Ideal S1664x512 .f32)

theorem only : out0_A_2 c (grid0.coords t) _ (hs0_0 t) _ (hs0_1 t) _ (hs0_2 t) scM0_0 (Memref.isWhole_whole _) X W
    = k0_pay1 (F := Ideal) X W := by
  unfold out0_A_2
  rw [View.read_writes_eq_canon _ _ _ (cover0_A_2 c _ _ _ _ _ _ _ _ _ _ _)]
  unfold kernelRun0_A
  dsimp only
  sl_unfold_words
  simp only [View.readAt_eq_ld, Memref.IsWhole.read_unread]
  rw [View.canon_unit_zero zz, View.ld_unit_zero zz, View.ld_unit_zero zz]

end Step

theorem index0 : ∀ t : Fin cfg0.N, win0_0.index t 0 = t.val / 1 / 4 ∧ win0_0.index t 1 = t.val % 1 :=
  (by change ∀ t : Fin grid0.N, _; decide +kernel)
theorem index1 : ∀ t : Fin cfg0.N, win0_1.index t 0 = t.val % 1 ∧ win0_1.index t 1 = t.val / 1 % 4 :=
  (by change ∀ t : Fin grid0.N, _; decide +kernel)
theorem index2 : ∀ t : Fin cfg0.N, win0_2.index t 0 = t.val / 1 / 4 ∧ win0_2.index t 1 = t.val / 1 % 4 :=
  (by change ∀ t : Fin grid0.N, _; decide +kernel)

/-- One term of the sum for the entry at row `r` and column `k`. -/
def term (x : S8320x1024.Idx → EReal) (w : S1024x2048.Idx → EReal) (r k s : ℕ) : EReal := ent x r s * ent w s k

variable (m : (ℓ : Loc nD τ Cert.Kernel16Ideal.sig) → Buf (Elt Ideal) ℓ) (c : Dev nD)

/-- What a step adds to the entry at `y` of its block. -/
theorem added (t : Fin cfg0.N) (y : S1664x512.Idx) :
    dotNN (K := 1024) (M := 1664) (N := 512) (iblk m c 0 t) (iblk m c 1 t) (y 0) (y 1)
      = ∑ s : Fin 1024, term (V m c main_arg0) (V m c main_arg1) (1664 * (t.val / 1 / 4) + (y 0).val) (512 * (t.val / 1 % 4) + (y 1).val) (1024 * (t.val % 1) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * (y 0).val = _
    omega
  · show win0_0.index t 1 * 1024 + 1 * s.val = _
    omega
  · show win0_1.index t 0 * 1024 + 1 * s.val = _
    omega
  · show win0_1.index t 1 * 512 + 1 * (y 1).val = _
    omega

/-- The block a step writes. -/
theorem written (t : Fin cfg0.N) (y : S1664x512.Idx) : (outsAt0 m c t y : EReal)
    = ∑ s ∈ range (1024 * 1), term (V m c main_arg0) (V m c main_arg1) (1664 * (t.val / 1 / 4) + (y 0).val) (512 * (t.val / 1 % 4) + (y 1).val) s := by
  unfold outsAt0
  rw [only]
  refine (step_at _ _ _).trans ((added m c t y).trans ?_)
  rw [Nat.mod_one t.val]
  exact sum_first _ _

/-- The kernel's array, entry by entry. -/
theorem result (i : S8320x2048.Idx) : ((dats m 0 c).arrAt 2 cfg0.N : S8320x2048.Idx → EReal) i
    = ∑ s ∈ range 1024, term (V m c main_arg0) (V m c main_arg1) (i 0).val (i 1).val s := by
  have h0 : (i 0).val < 8320 := (i 0).isLt
  have h1 : (i 1).val < 2048 := (i 1).isLt
  have hb : 4 * ((i 0).val / 1664) + (i 1).val / 512 < cfg0.N := by rw [show cfg0.N = 20 from N_0]; omega
  obtain ⟨e0, e1⟩ := index2 ⟨_, hb⟩
  dsimp only at e0 e1
  have d0 : 1664 * ((4 * ((i 0).val / 1664) + (i 1).val / 512) / 1 / 4) + (i 0).val % 1664 = (i 0).val := by omega
  have d1 : 512 * ((4 * ((i 0).val / 1664) + (i 1).val / 512) / 1 % 4) + (i 1).val % 512 = (i 1).val := by omega
  let z : S1664x512.Idx := ix2 ⟨(i 0).val % 1664, Nat.mod_lt _ (by norm_num)⟩ ⟨(i 1).val % 512, Nat.mod_lt _ (by norm_num)⟩
  have hi : ((cfg0.win 2).blk ⟨_, hb⟩).view.emb z = i := by
    refine (at2 (a := 8320) (b := 2048) (x := i 0) (y := i 1) ?_ ?_).trans (at2 (a := 8320) (b := 2048) (x := i 0) (y := i 1) rfl rfl).symm
    · show win0_2.index ⟨_, hb⟩ 0 * 1664 + 1 * ((i 0).val % 1664) = (i 0).val
      omega
    · show win0_2.index ⟨_, hb⟩ 1 * 512 + 1 * ((i 1).val % 512) = (i 1).val
      omega
  have hr := congrFun ((Value.blocks2 m c ⟨_, hb⟩ (flush0_2 _)).trans (Value.flushed2 m c ⟨_, hb⟩)) z
  refine ((congrArg ((dats m 0 c).arrAt 2 cfg0.N : S8320x2048.Idx → EReal) hi).symm.trans hr).trans ((written m c ⟨_, hb⟩ z).trans ?_)
  exact congrArg₂ (fun a b => ∑ s ∈ range 1024, term (V m c main_arg0) (V m c main_arg1) a b s) d0 d1

/-- The reference's array, entry by entry. -/
theorem reference (x : S8320x1024.Idx → EReal) (w : S1024x2048.Idx → EReal) (i : S8320x2048.Idx) :
    (val_main_v3 (F := Ideal) x w i : EReal) = ∑ s ∈ range 1024, term x w (i 0).val (i 1).val s := by
  rw [sum_all _ _ (fun k : Fin 1024 => (x (ix2 (i 0) k) : EReal) * w (ix2 k (i 1))) (fun k => (congrArg₂ (· * ·) (ent_of _ _ _ _ rfl rfl) (ent_of _ _ _ _ rfl rfl)))]
  refine (val_main_v3_apply _ _ _).trans ((val_main_v2_apply _ _ _).trans (Finset.sum_congr rfl fun k _ => congrArg₂ (· * ·) ?_ ?_))
  · exact (val_main_v0_apply _ _).trans (congrArg x (at2 rfl rfl))
  · exact (val_main_v1_apply _ _).trans (congrArg w (at2 rfl rfl))

/-- The two arrays are one. -/
theorem same : ((dats m 0 c).arrAt 2 cfg0.N : S8320x2048.Idx → EReal) = val_main_v3 (F := Ideal) (V m c main_arg0) (V m c main_arg1) :=
  funext fun i => (result m c i).trans (reference _ _ i).symm

end Cert.Products.Call16

end
-- ==== Proof.Products.Call17.lean ====
/- The output projection, added to the residual stream: the array the kernel writes, entry by entry, is the whole sum, and so is the reference's. -/
module

public import proofs.«01_k».proof.Proof.Products.Reads
public import proofs.«01_k».proof.Proof.Gen.Kernel17Ideal.Value
public import proofs.«01_k».proof.Proof.Gen.Reference17Ideal.Read

@[expose] public section

noncomputable section

namespace Cert.Products.Call17

open Finset Idealize.ShloMosaic Idealize.ShloMosaic.TcCoe Cert.Kernel17Ideal Cert.Kernel17Ideal.Gen Cert.Reference17Ideal.Read

theorem coord : ∀ t : Fin cfg0.N, (grid0.coords t 0).val = t.val / 1 / 4 :=
  (by change ∀ t : Fin grid0.N, _; decide +kernel)

theorem step_at (t : Fin cfg0.N) (X : Vec Ideal S1664x2048 .bf16) (W : Vec Ideal S2048x512 .bf16) (Z : Vec Ideal S1664x512 .f32) (y : S1664x512.Idx) :
    (k0_pay1 (F := Ideal) (grid0.coords t) X W Z y : EReal) = (Z y : EReal) + kept (1664 * (t.val / 1 / 4) + (y 0).val) (dotNN (K := 2048) (M := 1664) (N := 512) X W (y 0) (y 1)) := by
  unfold k0_pay1 dotNN
  pointwise
  have ht : t.val < 20 := lt_of_lt_of_eq t.isLt (show cfg0.N = 20 from N_0)
  have hy : (y 0).val < 1664 := (y 0).isLt
  refine congrArg (Z y + ·) ?_
  rw [word_row, coord, Nat.div_one, select_kept _ (by omega)]

section Step

variable (c : Dev nD) (t : Fin cfg0.N) (X : Vec Ideal S1664x2048 .bf16) (W : Vec Ideal S2048x512 .bf16) (Z : Vec Ideal S1664x512 .f32) (v : Vec Ideal S1664x512 .f32)

theorem only : out0_A_3 c (grid0.coords t) _ (hs0_0 t) _ (hs0_1 t) _ (hs0_2 t) _ (hs0_3 t) scM0_0 (Memref.isWhole_whole _) X W Z
    = k0_pay1 (F := Ideal) (grid0.coords t) X W Z := by
  unfold out0_A_3
  rw [View.read_writes_eq_canon _ _ _ (cover0_A_3 c _ _ _ _ _ _ _ _ _ _ _ _ _ _)]
  unfold kernelRun0_A
  dsimp only
  sl_unfold_words
  simp only [View.readAt_eq_ld, Memref.IsWhole.read_unread]
  rw [View.canon_unit_zero zz, View.ld_unit_zero zz, View.ld_unit_zero zz, View.ld_unit_zero zz]

end Step

theorem index0 : ∀ t : Fin cfg0.N, win0_0.index t 0 = t.val / 1 / 4 ∧ win0_0.index t 1 = t.val % 1 :=
  (by change ∀ t : Fin grid0.N, _; decide +kernel)
theorem index1 : ∀ t : Fin cfg0.N, win0_1.index t 0 = t.val % 1 ∧ win0_1.index t 1 = t.val / 1 % 4 :=
  (by change ∀ t : Fin grid0.N, _; decide +kernel)
theorem index2 : ∀ t : Fin cfg0.N, win0_2.index t 0 = t.val / 1 / 4 ∧ win0_2.index t 1 = t.val / 1 % 4 :=
  (by change ∀ t : Fin grid0.N, _; decide +kernel)
theorem index3 : ∀ t : Fin cfg0.N, win0_3.index t 0 = t.val / 1 / 4 ∧ win0_3.index t 1 = t.val / 1 % 4 :=
  (by change ∀ t : Fin grid0.N, _; decide +kernel)

/-- One term of the sum for the entry at row `r` and column `k`. -/
def term (x : S8320x2048.Idx → EReal) (w : S2048x2048.Idx → EReal) (r k s : ℕ) : EReal := ent x r s * ent w s k

variable (m : (ℓ : Loc nD τ Cert.Kernel17Ideal.sig) → Buf (Elt Ideal) ℓ) (c : Dev nD)

/-- What a step adds to the entry at `y` of its block. -/
theorem added (t : Fin cfg0.N) (y : S1664x512.Idx) :
    dotNN (K := 2048) (M := 1664) (N := 512) (iblk m c 0 t) (iblk m c 1 t) (y 0) (y 1)
      = ∑ s : Fin 2048, term (V m c main_arg0) (V m c main_arg1) (1664 * (t.val / 1 / 4) + (y 0).val) (512 * (t.val / 1 % 4) + (y 1).val) (2048 * (t.val % 1) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * (y 0).val = _
    omega
  · show win0_0.index t 1 * 2048 + 1 * s.val = _
    omega
  · show win0_1.index t 0 * 2048 + 1 * s.val = _
    omega
  · show win0_1.index t 1 * 512 + 1 * (y 1).val = _
    omega

/-- The block of the array added at the end. -/
theorem third_at (t : Fin cfg0.N) (y : S1664x512.Idx) : ((iblk m c 2 t : Vec Ideal S1664x512 .f32) y : EReal) = ent (R := 8320) (C := 2048) (V m c main_arg2) (1664 * (t.val / 1 / 4) + (y 0).val) (512 * (t.val / 1 % 4) + (y 1).val) := by
  obtain ⟨e0, e1⟩ := index2 t
  refine ent_read _ (((cfg0.win 2).blk t).view.emb _) rfl ?_ ?_
  · show win0_2.index t 0 * 1664 + 1 * (y 0).val = _
    omega
  · show win0_2.index t 1 * 512 + 1 * (y 1).val = _
    omega

/-- The block a step writes. -/
theorem written (t : Fin cfg0.N) (y : S1664x512.Idx) : (outsAt0 m c t y : EReal)
    = ent (R := 8320) (C := 2048) (V m c main_arg2) (1664 * (t.val / 1 / 4) + (y 0).val) (512 * (t.val / 1 % 4) + (y 1).val) + kept (1664 * (t.val / 1 / 4) + (y 0).val) (∑ s ∈ range (2048 * 1), term (V m c main_arg0) (V m c main_arg1) (1664 * (t.val / 1 / 4) + (y 0).val) (512 * (t.val / 1 % 4) + (y 1).val) s) := by
  unfold outsAt0
  rw [only]
  refine (step_at t _ _ _ _).trans (congrArg₂ (· + ·) (third_at m c t y) (congrArg (kept _) ((added m c t y).trans ?_)))
  rw [Nat.mod_one t.val]
  exact sum_first _ _

/-- The kernel's array, entry by entry. -/
theorem result (i : S8320x2048.Idx) : ((dats m 0 c).arrAt 3 cfg0.N : S8320x2048.Idx → EReal) i
    = ent (R := 8320) (C := 2048) (V m c main_arg2) (i 0).val (i 1).val + kept (i 0).val (∑ s ∈ range 2048, term (V m c main_arg0) (V m c main_arg1) (i 0).val (i 1).val s) := by
  have h0 : (i 0).val < 8320 := (i 0).isLt
  have h1 : (i 1).val < 2048 := (i 1).isLt
  have hb : 4 * ((i 0).val / 1664) + (i 1).val / 512 < cfg0.N := by rw [show cfg0.N = 20 from N_0]; omega
  obtain ⟨e0, e1⟩ := index3 ⟨_, hb⟩
  dsimp only at e0 e1
  have d0 : 1664 * ((4 * ((i 0).val / 1664) + (i 1).val / 512) / 1 / 4) + (i 0).val % 1664 = (i 0).val := by omega
  have d1 : 512 * ((4 * ((i 0).val / 1664) + (i 1).val / 512) / 1 % 4) + (i 1).val % 512 = (i 1).val := by omega
  let z : S1664x512.Idx := ix2 ⟨(i 0).val % 1664, Nat.mod_lt _ (by norm_num)⟩ ⟨(i 1).val % 512, Nat.mod_lt _ (by norm_num)⟩
  have hi : ((cfg0.win 3).blk ⟨_, hb⟩).view.emb z = i := by
    refine (at2 (a := 8320) (b := 2048) (x := i 0) (y := i 1) ?_ ?_).trans (at2 (a := 8320) (b := 2048) (x := i 0) (y := i 1) rfl rfl).symm
    · show win0_3.index ⟨_, hb⟩ 0 * 1664 + 1 * ((i 0).val % 1664) = (i 0).val
      omega
    · show win0_3.index ⟨_, hb⟩ 1 * 512 + 1 * ((i 1).val % 512) = (i 1).val
      omega
  have hr := congrFun ((Value.blocks3 m c ⟨_, hb⟩ (flush0_3 _)).trans (Value.flushed3 m c ⟨_, hb⟩)) z
  refine ((congrArg ((dats m 0 c).arrAt 3 cfg0.N : S8320x2048.Idx → EReal) hi).symm.trans hr).trans ((written m c ⟨_, hb⟩ z).trans ?_)
  exact congrArg₂ (fun a b => ent (R := 8320) (C := 2048) (V m c main_arg2) a b + kept a (∑ s ∈ range 2048, term (V m c main_arg0) (V m c main_arg1) a b s)) d0 d1

/-- The reference's product, entry by entry. -/
theorem product (x : S8320x2048.Idx → EReal) (w : S2048x2048.Idx → EReal) (i : S8320x2048.Idx) :
    (val_main_v6 (F := Ideal) x w i : EReal) = ∑ s ∈ range 2048, term x w (i 0).val (i 1).val s := by
  rw [sum_all _ _ (fun k : Fin 2048 => (x (ix2 (i 0) k) : EReal) * w (ix2 k (i 1))) (fun k => (congrArg₂ (· * ·) (ent_of _ _ _ _ rfl rfl) (ent_of _ _ _ _ rfl rfl)))]
  refine (val_main_v6_apply _ _ _).trans (Finset.sum_congr rfl fun k _ => congrArg₂ (· * ·) ?_ ?_)
  · exact (val_main_v4_apply _ _).trans (congrArg x (at2 rfl rfl))
  · exact (val_main_v5_apply _ _).trans (congrArg w (at2 rfl rfl))

/-- The reference's array, entry by entry. -/
theorem reference (x : S8320x2048.Idx → EReal) (w : S2048x2048.Idx → EReal) (z : S8320x2048.Idx → EReal) (i : S8320x2048.Idx) :
    (val_main_v8 (F := Ideal) x w z i : EReal) = ent z (i 0).val (i 1).val + kept (i 0).val (∑ s ∈ range 2048, term x w (i 0).val (i 1).val s) := by
  refine (val_main_v8_apply _ _ _ _).trans (congrArg₂ (· + ·) (ent_of z i _ _ rfl rfl) ?_)
  have hr : (i 0).val < 8320 := (i 0).isLt
  refine (val_main_v7_apply _ _ _).trans ?_
  rw [val_main_call0_v1_apply, val_main_v3_apply, val_main_v1_apply, val_main_v2_apply, val_main_v0_apply, val_main_c_apply,
    val_main_call0_v2_apply, val_main_call0_v0_apply, val_main_cst_apply, product x w i]
  show Scalar.select (IntOp.cmpi .sge (BitVec.ofNat 32 (i 0).val) 112#32) _ (Ideal.ofBits .f32 0x00000000#32) = _
  rw [Ideal.ofBits_zero_f32, select_kept _ (by omega)]

/-- The two arrays are one. -/
theorem same : ((dats m 0 c).arrAt 3 cfg0.N : S8320x2048.Idx → EReal) = val_main_v8 (F := Ideal) (V m c main_arg0) (V m c main_arg1) (V m c main_arg2) :=
  funext fun i => (result m c i).trans (reference _ _ _ i).symm

end Cert.Products.Call17

end
-- ==== Proof.Products.Call18.lean ====
/- The up projection: the array the kernel writes, entry by entry, is the whole sum, and so is the reference's. -/
module

public import proofs.«01_k».proof.Proof.Products.Reads
public import proofs.«01_k».proof.Proof.Gen.Kernel18Ideal.Value
public import proofs.«01_k».proof.Proof.Gen.Reference18Ideal.Read

@[expose] public section

noncomputable section

namespace Cert.Products.Call18

open Finset Idealize.ShloMosaic Idealize.ShloMosaic.TcCoe Cert.Kernel18Ideal Cert.Kernel18Ideal.Gen Cert.Reference18Ideal.Read

theorem step_at (X : Vec Ideal S1664x2048 .bf16) (W : Vec Ideal S2048x512 .bf16) (y : S1664x512.Idx) :
    (k0_pay1 (F := Ideal) X W y : EReal) = dotNN (K := 2048) (M := 1664) (N := 512) X W (y 0) (y 1) := by
  unfold k0_pay1 dotNN
  pointwise

section Step

variable (c : Dev nD) (t : Fin cfg0.N) (X : Vec Ideal S1664x2048 .bf16) (W : Vec Ideal S2048x512 .bf16) (v : Vec Ideal S1664x512 .f32)

theorem only : out0_A_2 c (grid0.coords t) _ (hs0_0 t) _ (hs0_1 t) _ (hs0_2 t) scM0_0 (Memref.isWhole_whole _) X W
    = k0_pay1 (F := Ideal) X W := by
  unfold out0_A_2
  rw [View.read_writes_eq_canon _ _ _ (cover0_A_2 c _ _ _ _ _ _ _ _ _ _ _)]
  unfold kernelRun0_A
  dsimp only
  sl_unfold_words
  simp only [View.readAt_eq_ld, Memref.IsWhole.read_unread]
  rw [View.canon_unit_zero zz, View.ld_unit_zero zz, View.ld_unit_zero zz]

end Step

theorem index0 : ∀ t : Fin cfg0.N, win0_0.index t 0 = t.val / 1 / 22 ∧ win0_0.index t 1 = t.val % 1 :=
  (by change ∀ t : Fin grid0.N, _; decide +kernel)
theorem index1 : ∀ t : Fin cfg0.N, win0_1.index t 0 = t.val % 1 ∧ win0_1.index t 1 = t.val / 1 % 22 :=
  (by change ∀ t : Fin grid0.N, _; decide +kernel)
theorem index2 : ∀ t : Fin cfg0.N, win0_2.index t 0 = t.val / 1 / 22 ∧ win0_2.index t 1 = t.val / 1 % 22 :=
  (by change ∀ t : Fin grid0.N, _; decide +kernel)

/-- One term of the sum for the entry at row `r` and column `k`. -/
def term (x : S8320x2048.Idx → EReal) (w : S2048x11264.Idx → EReal) (r k s : ℕ) : EReal := ent x r s * ent w s k

variable (m : (ℓ : Loc nD τ Cert.Kernel18Ideal.sig) → Buf (Elt Ideal) ℓ) (c : Dev nD)

/-- What a step adds to the entry at `y` of its block. -/
theorem added (t : Fin cfg0.N) (y : S1664x512.Idx) :
    dotNN (K := 2048) (M := 1664) (N := 512) (iblk m c 0 t) (iblk m c 1 t) (y 0) (y 1)
      = ∑ s : Fin 2048, term (V m c main_arg0) (V m c main_arg1) (1664 * (t.val / 1 / 22) + (y 0).val) (512 * (t.val / 1 % 22) + (y 1).val) (2048 * (t.val % 1) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * (y 0).val = _
    omega
  · show win0_0.index t 1 * 2048 + 1 * s.val = _
    omega
  · show win0_1.index t 0 * 2048 + 1 * s.val = _
    omega
  · show win0_1.index t 1 * 512 + 1 * (y 1).val = _
    omega

/-- The block a step writes. -/
theorem written (t : Fin cfg0.N) (y : S1664x512.Idx) : (outsAt0 m c t y : EReal)
    = ∑ s ∈ range (2048 * 1), term (V m c main_arg0) (V m c main_arg1) (1664 * (t.val / 1 / 22) + (y 0).val) (512 * (t.val / 1 % 22) + (y 1).val) s := by
  unfold outsAt0
  rw [only]
  refine (step_at _ _ _).trans ((added m c t y).trans ?_)
  rw [Nat.mod_one t.val]
  exact sum_first _ _

/-- The kernel's array, entry by entry. -/
theorem result (i : S8320x11264.Idx) : ((dats m 0 c).arrAt 2 cfg0.N : S8320x11264.Idx → EReal) i
    = ∑ s ∈ range 2048, term (V m c main_arg0) (V m c main_arg1) (i 0).val (i 1).val s := by
  have h0 : (i 0).val < 8320 := (i 0).isLt
  have h1 : (i 1).val < 11264 := (i 1).isLt
  have hb : 22 * ((i 0).val / 1664) + (i 1).val / 512 < cfg0.N := by rw [show cfg0.N = 110 from N_0]; omega
  obtain ⟨e0, e1⟩ := index2 ⟨_, hb⟩
  dsimp only at e0 e1
  have d0 : 1664 * ((22 * ((i 0).val / 1664) + (i 1).val / 512) / 1 / 22) + (i 0).val % 1664 = (i 0).val := by omega
  have d1 : 512 * ((22 * ((i 0).val / 1664) + (i 1).val / 512) / 1 % 22) + (i 1).val % 512 = (i 1).val := by omega
  let z : S1664x512.Idx := ix2 ⟨(i 0).val % 1664, Nat.mod_lt _ (by norm_num)⟩ ⟨(i 1).val % 512, Nat.mod_lt _ (by norm_num)⟩
  have hi : ((cfg0.win 2).blk ⟨_, hb⟩).view.emb z = i := by
    refine (at2 (a := 8320) (b := 11264) (x := i 0) (y := i 1) ?_ ?_).trans (at2 (a := 8320) (b := 11264) (x := i 0) (y := i 1) rfl rfl).symm
    · show win0_2.index ⟨_, hb⟩ 0 * 1664 + 1 * ((i 0).val % 1664) = (i 0).val
      omega
    · show win0_2.index ⟨_, hb⟩ 1 * 512 + 1 * ((i 1).val % 512) = (i 1).val
      omega
  have hr := congrFun ((Value.blocks2 m c ⟨_, hb⟩ (flush0_2 _)).trans (Value.flushed2 m c ⟨_, hb⟩)) z
  refine ((congrArg ((dats m 0 c).arrAt 2 cfg0.N : S8320x11264.Idx → EReal) hi).symm.trans hr).trans ((written m c ⟨_, hb⟩ z).trans ?_)
  exact congrArg₂ (fun a b => ∑ s ∈ range 2048, term (V m c main_arg0) (V m c main_arg1) a b s) d0 d1

/-- The reference's array, entry by entry. -/
theorem reference (x : S8320x2048.Idx → EReal) (w : S2048x11264.Idx → EReal) (i : S8320x11264.Idx) :
    (val_main_v3 (F := Ideal) x w i : EReal) = ∑ s ∈ range 2048, term x w (i 0).val (i 1).val s := by
  rw [sum_all _ _ (fun k : Fin 2048 => (x (ix2 (i 0) k) : EReal) * w (ix2 k (i 1))) (fun k => (congrArg₂ (· * ·) (ent_of _ _ _ _ rfl rfl) (ent_of _ _ _ _ rfl rfl)))]
  refine (val_main_v3_apply _ _ _).trans ((val_main_v2_apply _ _ _).trans (Finset.sum_congr rfl fun k _ => congrArg₂ (· * ·) ?_ ?_))
  · exact (val_main_v0_apply _ _).trans (congrArg x (at2 rfl rfl))
  · exact (val_main_v1_apply _ _).trans (congrArg w (at2 rfl rfl))

/-- The two arrays are one. -/
theorem same : ((dats m 0 c).arrAt 2 cfg0.N : S8320x11264.Idx → EReal) = val_main_v3 (F := Ideal) (V m c main_arg0) (V m c main_arg1) :=
  funext fun i => (result m c i).trans (reference _ _ i).symm

end Cert.Products.Call18

end
-- ==== Proof.Products.Call19.lean ====
/- The down projection, added to the residual stream: the array the kernel writes, entry by entry, is the whole sum, and so is the reference's. -/
module

public import proofs.«01_k».proof.Proof.Products.Reads
public import proofs.«01_k».proof.Proof.Gen.Kernel19Ideal.Value
public import proofs.«01_k».proof.Proof.Gen.Reference19Ideal.Read

@[expose] public section

noncomputable section

namespace Cert.Products.Call19

open Finset Idealize.ShloMosaic Idealize.ShloMosaic.TcCoe Cert.Kernel19Ideal Cert.Kernel19Ideal.Gen Cert.Reference19Ideal.Read

theorem coord : ∀ t : Fin cfg0.N, (grid0.coords t 0).val = t.val / 4 / 4 :=
  (by change ∀ t : Fin grid0.N, _; decide +kernel)

theorem zero_at (y : S1664x512.Idx) : k0_pay1 (F := Ideal) y = (0 : EReal) := by
  unfold k0_pay1
  pointwise

theorem step_at (v : Vec Ideal S1664x512 .f32) (X : Vec Ideal S1664x1408 .bf16) (W : Vec Ideal S1408x512 .bf16) (y : S1664x512.Idx) :
    k0_pay2 v X W y = (v y : EReal) + dotNN (K := 1408) (M := 1664) (N := 512) X W (y 0) (y 1) := by
  unfold k0_pay2 dotNN
  pointwise

theorem round_at (t : Fin cfg0.N) (v Z : Vec Ideal S1664x512 .f32) (y : S1664x512.Idx) :
    (k0_pay3 (F := Ideal) (grid0.coords t) v Z y : EReal) = (Z y : EReal) + kept (1664 * (t.val / 4 / 4) + (y 0).val) (v y) := by
  unfold k0_pay3
  pointwise
  have ht : t.val < 80 := lt_of_lt_of_eq t.isLt (show cfg0.N = 80 from N_0)
  have hy : (y 0).val < 1664 := (y 0).isLt
  refine congrArg (Z y + ·) ?_
  rw [word_row, coord, select_kept _ (by omega)]

section Step

variable (c : Dev nD) (t : Fin cfg0.N) (X : Vec Ideal S1664x1408 .bf16) (W : Vec Ideal S1408x512 .bf16) (Z : Vec Ideal S1664x512 .f32) (v : Vec Ideal S1664x512 .f32)

theorem first (hc0 hc1) : sout0_A_0 c (grid0.coords t) _ (hs0_0 t) _ (hs0_1 t) _ (hs0_2 t) _ (hs0_3 t) scM0_0 (Memref.isWhole_whole _) hc0 hc1 X W Z
    = k0_pay2 (k0_pay1 (F := Ideal)) X W := by
  unfold sout0_A_0
  rw [View.read_writes_eq_canon _ _ _ (scover0_A_0 c _ _ _ _ _ _ _ _ _ _ _ _ _ _ _ _)]
  unfold kernelRun0_A
  dsimp only
  sl_unfold_words
  simp only [View.readAt_eq_ld, Memref.IsWhole.read_unread, (Memref.isWhole_whole _).read_unread]
  rw [View.canon_cons_unit_zero zz, View.readCov_unit_zero _ zz, View.ld_unit_zero zz, View.ld_unit_zero zz]

theorem next (hc0 hc1) : sout0_B_0 c (grid0.coords t) _ (hs0_0 t) _ (hs0_1 t) _ (hs0_2 t) _ (hs0_3 t) scM0_0 (Memref.isWhole_whole _) hc0 hc1 X W Z v
    = k0_pay2 v X W := by
  unfold sout0_B_0
  rw [View.read_writes_eq_canon _ _ _ (scover0_B_0 c _ _ _ _ _ _ _ _ _ _ _ _ _ _ _ _ _)]
  unfold kernelRun0_B
  dsimp only
  sl_unfold_words
  simp only [View.readAt_eq_ld, Memref.IsWhole.read_unread, (Memref.isWhole_whole _).read_unread]
  rw [View.canon_unit_zero zz, View.ld_unit_zero zz, View.ld_unit_zero zz, View.ld_unit_zero zz]

theorem last (hc0 hc1) : out0_C_3 c (grid0.coords t) _ (hs0_0 t) _ (hs0_1 t) _ (hs0_2 t) _ (hs0_3 t) scM0_0 (Memref.isWhole_whole _) hc0 hc1 X W Z v
    = k0_pay3 (F := Ideal) (grid0.coords t) (k0_pay2 v X W) Z := by
  unfold out0_C_3
  rw [View.read_writes_eq_canon _ _ _ (cover0_C_3 c _ _ _ _ _ _ _ _ _ _ _ _ _ _ _ _ _)]
  unfold kernelRun0_C
  dsimp only
  sl_unfold_words
  simp only [View.readAt_eq_ld, Memref.IsWhole.read_unread, (Memref.isWhole_whole _).read_unread]
  rw [View.canon_unit_zero zz, View.readCov_unit_zero _ zz, View.ld_unit_zero zz, View.ld_unit_zero zz, View.ld_unit_zero zz, View.ld_unit_zero zz]

end Step

theorem index0 : ∀ t : Fin cfg0.N, win0_0.index t 0 = t.val / 4 / 4 ∧ win0_0.index t 1 = t.val % 4 :=
  (by change ∀ t : Fin grid0.N, _; decide +kernel)
theorem index1 : ∀ t : Fin cfg0.N, win0_1.index t 0 = t.val % 4 ∧ win0_1.index t 1 = t.val / 4 % 4 :=
  (by change ∀ t : Fin grid0.N, _; decide +kernel)
theorem index2 : ∀ t : Fin cfg0.N, win0_2.index t 0 = t.val / 4 / 4 ∧ win0_2.index t 1 = t.val / 4 % 4 :=
  (by change ∀ t : Fin grid0.N, _; decide +kernel)

/-- One term of the sum for the entry at row `r` and column `k`. -/
def term (x : S8320x5632.Idx → EReal) (w : S5632x2048.Idx → EReal) (r k s : ℕ) : EReal := ent x r s * ent w s k

variable (m : (ℓ : Loc nD τ Cert.Kernel19Ideal.sig) → Buf (Elt Ideal) ℓ) (c : Dev nD)

/-- A term of the entry at `y` of block `b`. -/
abbrev tm (b : ℕ) (y : S1664x512.Idx) (s : ℕ) : EReal := term (V m c main_arg0) (V m c main_arg1) (1664 * (b / 4) + (y 0).val) (512 * (b % 4) + (y 1).val) s

/-- What a step adds to the entry at `y` of its block. -/
theorem added (t : Fin cfg0.N) (y : S1664x512.Idx) :
    dotNN (K := 1408) (M := 1664) (N := 512) (iblk m c 0 t) (iblk m c 1 t) (y 0) (y 1)
      = ∑ s : Fin 1408, tm m c (t.val / 4) y (1408 * (t.val % 4) + s.val) := by
  refine Finset.sum_congr rfl fun s _ => ?_
  obtain ⟨e0, e1⟩ := index0 t
  obtain ⟨f0, f1⟩ := index1 t
  refine congrArg₂ (· * ·) (ent_read _ (((cfg0.win 0).blk t).view.emb _) rfl ?_ ?_) (ent_read _ (((cfg0.win 1).blk t).view.emb _) rfl ?_ ?_)
  · show win0_0.index t 0 * 1664 + 1 * (y 0).val = _
    omega
  · show win0_0.index t 1 * 1408 + 1 * s.val = _
    omega
  · show win0_1.index t 0 * 1408 + 1 * s.val = _
    omega
  · show win0_1.index t 1 * 512 + 1 * (y 1).val = _
    omega

/-- The block of the array added at the end. -/
theorem third_at (t : Fin cfg0.N) (y : S1664x512.Idx) : ((iblk m c 2 t : Vec Ideal S1664x512 .f32) y : EReal) = ent (R := 8320) (C := 2048) (V m c main_arg2) (1664 * (t.val / 4 / 4) + (y 0).val) (512 * (t.val / 4 % 4) + (y 1).val) := by
  obtain ⟨e0, e1⟩ := index2 t
  refine ent_read _ (((cfg0.win 2).blk t).view.emb _) rfl ?_ ?_
  · show win0_2.index t 0 * 1664 + 1 * (y 0).val = _
    omega
  · show win0_2.index t 1 * 512 + 1 * (y 1).val = _
    omega

theorem stepA (t : Fin cfg0.N) (h0 : t.val % 4 = 0) (h1 : ¬ t.val % 4 = 3) (y : S1664x512.Idx) : ((outsAt0 m c t.val t.isLt).2 y : EReal)
    = 0 + ∑ s : Fin 1408, tm m c (t.val / 4) y (1408 * (t.val % 4) + s.val) := by
  rw [outsAt0_A m c t h0 h1]
  dsimp only
  rw [first, step_at, zero_at]
  exact congrArg _ (added m c t y)

theorem stepB (t : Fin cfg0.N) (h0 : ¬ t.val % 4 = 0) (h1 : ¬ t.val % 4 = 3) (y : S1664x512.Idx) : ((outsAt0 m c t.val t.isLt).2 y : EReal)
    = ((outsAt0 m c (t.val - 1) (Nat.lt_of_le_of_lt (Nat.sub_le _ _) t.isLt)).2 y : EReal)
      + ∑ s : Fin 1408, tm m c (t.val / 4) y (1408 * (t.val % 4) + s.val) := by
  rw [outsAt0_B m c t h0 h1]
  dsimp only
  rw [next, step_at]
  exact congrArg _ (added m c t y)

theorem stepC (t : Fin cfg0.N) (h0 : ¬ t.val % 4 = 0) (h1 : t.val % 4 = 3) (y : S1664x512.Idx) : ((outsAt0 m c t.val t.isLt).1 y : EReal)
    = ent (R := 8320) (C := 2048) (V m c main_arg2) (1664 * (t.val / 4 / 4) + (y 0).val) (512 * (t.val / 4 % 4) + (y 1).val) + kept (1664 * (t.val / 4 / 4) + (y 0).val) (((outsAt0 m c (t.val - 1) (Nat.lt_of_le_of_lt (Nat.sub_le _ _) t.isLt)).2 y : EReal)
      + ∑ s : Fin 1408, tm m c (t.val / 4) y (1408 * (t.val % 4) + s.val)) := by
  rw [outsAt0_C m c t h0 h1]
  dsimp only
  rw [last, round_at, step_at]
  exact congrArg₂ (· + ·) (third_at m c t y) (congrArg (kept _) (congrArg _ (added m c t y)))

/-- The block written by the last step of a sum. -/
theorem written (n : ℕ) (hn : n < cfg0.N) (hl : n % 4 = 3) (y : S1664x512.Idx) : ((outsAt0 m c n hn).1 y : EReal)
    = ent (R := 8320) (C := 2048) (V m c main_arg2) (1664 * (n / 4 / 4) + (y 0).val) (512 * (n / 4 % 4) + (y 1).val) + kept (1664 * (n / 4 / 4) + (y 0).val) (∑ s ∈ range (1408 * 4), tm m c (n / 4) y s) :=
  (stepC m c ⟨n, hn⟩ (fun h : n % 4 = 0 => by omega) hl y).trans (congrArg (_ + ·) (congrArg (kept _) (carry (L := 3) (· / 4) (· % 4) rfl (fun n h => by omega) (fun b => tm m c b y) (fun n hn => (outsAt0 m c n hn).2 y) (fun n hn h0 h1 => stepA m c ⟨n, hn⟩ h0 h1 y) (fun n hn h0 h1 => stepB m c ⟨n, hn⟩ h0 h1 y) n hn (fun h : n % 4 = 0 => by omega) hl)))

/-- The kernel's array, entry by entry. -/
theorem result (i : S8320x2048.Idx) : (Value.G3 m c : S8320x2048.Idx → EReal) i
    = ent (R := 8320) (C := 2048) (V m c main_arg2) (i 0).val (i 1).val + kept (i 0).val (∑ s ∈ range 5632, term (V m c main_arg0) (V m c main_arg1) (i 0).val (i 1).val s) := by
  have h0 : (i 0).val < 8320 := (i 0).isLt
  have h1 : (i 1).val < 2048 := (i 1).isLt
  have hp : Value.pt3Of i = 4 * (4 * ((i 0).val / 1664 - 0) + 1 * ((i 1).val / 512 - 0)) + 3 := rfl
  have hb : Value.pt3Of i < cfg0.N := by rw [hp, show cfg0.N = 80 from N_0]; omega
  have e0 : 1664 * (Value.pt3Of i / 4 / 4) + (i 0).val % 1664 = (i 0).val := by rw [hp]; omega
  have e1 : 512 * (Value.pt3Of i / 4 % 4) + (i 1).val % 512 = (i 1).val := by rw [hp]; omega
  unfold Value.G3
  rw [dif_pos hb, ← Value.outsAt0_sweep m c _ hb]
  refine (written m c _ hb (by rw [hp]; omega) _).trans ?_
  exact congrArg₂ (fun a b => ent (R := 8320) (C := 2048) (V m c main_arg2) a b + kept a (∑ s ∈ range 5632, term (V m c main_arg0) (V m c main_arg1) a b s)) e0 e1

/-- The reference's product, entry by entry. -/
theorem product (x : S8320x5632.Idx → EReal) (w : S5632x2048.Idx → EReal) (i : S8320x2048.Idx) :
    (val_main_v6 (F := Ideal) x w i : EReal) = ∑ s ∈ range 5632, term x w (i 0).val (i 1).val s := by
  rw [sum_all _ _ (fun k : Fin 5632 => (x (ix2 (i 0) k) : EReal) * w (ix2 k (i 1))) (fun k => (congrArg₂ (· * ·) (ent_of _ _ _ _ rfl rfl) (ent_of _ _ _ _ rfl rfl)))]
  refine (val_main_v6_apply _ _ _).trans (Finset.sum_congr rfl fun k _ => congrArg₂ (· * ·) ?_ ?_)
  · exact (val_main_v4_apply _ _).trans (congrArg x (at2 rfl rfl))
  · exact (val_main_v5_apply _ _).trans (congrArg w (at2 rfl rfl))

/-- The reference's array, entry by entry. -/
theorem reference (x : S8320x5632.Idx → EReal) (w : S5632x2048.Idx → EReal) (z : S8320x2048.Idx → EReal) (i : S8320x2048.Idx) :
    (val_main_v8 (F := Ideal) x w z i : EReal) = ent z (i 0).val (i 1).val + kept (i 0).val (∑ s ∈ range 5632, term x w (i 0).val (i 1).val s) := by
  refine (val_main_v8_apply _ _ _ _).trans (congrArg₂ (· + ·) (ent_of z i _ _ rfl rfl) ?_)
  have hr : (i 0).val < 8320 := (i 0).isLt
  refine (val_main_v7_apply _ _ _).trans ?_
  rw [val_main_call0_v1_apply, val_main_v3_apply, val_main_v1_apply, val_main_v2_apply, val_main_v0_apply, val_main_c_apply,
    val_main_call0_v2_apply, val_main_call0_v0_apply, val_main_cst_apply, product x w i]
  show Scalar.select (IntOp.cmpi .sge (BitVec.ofNat 32 (i 0).val) 112#32) _ (Ideal.ofBits .f32 0x00000000#32) = _
  rw [Ideal.ofBits_zero_f32, select_kept _ (by omega)]

/-- The two arrays are one. -/
theorem same : (Value.G3 m c : S8320x2048.Idx → EReal) = val_main_v8 (F := Ideal) (V m c main_arg0) (V m c main_arg1) (V m c main_arg2) :=
  funext fun i => (result m c i).trans (reference _ _ _ i).symm

end Cert.Products.Call19

end
-- ==== Proof.Gla.Chunks.lean ====
/- The gated linear recurrence of one head over the reals, written for the whole sequence at once, and the same gradients
   read chunk by chunk. Nothing here speaks of a program: the names are sums of reals. Time runs over the naturals below
   8320, a chunk is 128 steps beginning at `T`, `q` is the query already scaled, `w` the gradient of the output. -/
module

public import Mathlib.Analysis.SpecialFunctions.Exp
public import Mathlib.Algebra.BigOperators.Fin

@[expose] public section

noncomputable section

namespace Cert.Gla

open Finset

/-- The sum of the log gates before step `t`. -/
def pre (g : ℕ → Fin 128 → ℝ) (t : ℕ) (d : Fin 128) : ℝ := ∑ u ∈ range t, g u d

/-- What is left at step `t` of a feature written at step `s`. -/
def dec (g : ℕ → Fin 128 → ℝ) (t s : ℕ) (d : Fin 128) : ℝ := Real.exp (pre g (t + 1) d - pre g (s + 1) d)

/-- The weight with which step `t` reads step `s`. -/
def att (q k g : ℕ → Fin 128 → ℝ) (t s : ℕ) : ℝ := if s ≤ t then ∑ d, q t d * k s d * dec g t s d else 0

/-- The output of the recurrence. -/
def out (q k g : ℕ → Fin 128 → ℝ) (v : ℕ → Fin 256 → ℝ) (t : ℕ) (j : Fin 256) : ℝ := ∑ s : Fin 8320, att q k g t s * v s j

/-- The gradient of the weight `att t s`. -/
def datt (v w : ℕ → Fin 256 → ℝ) (t s : ℕ) : ℝ := ∑ j, w t j * v s j

/-- The gradient of the exponent of `dec t s`. -/
def dexp (q k g : ℕ → Fin 128 → ℝ) (v w : ℕ → Fin 256 → ℝ) (t s : ℕ) (d : Fin 128) : ℝ :=
  if s ≤ t then datt v w t s * (q t d * k s d) * dec g t s d else 0

def gradQ (k g : ℕ → Fin 128 → ℝ) (v w : ℕ → Fin 256 → ℝ) (t : ℕ) (d : Fin 128) : ℝ :=
  ∑ s : Fin 8320, if s.val ≤ t then datt v w t s * dec g t s d * k s d else 0

def gradK (q g : ℕ → Fin 128 → ℝ) (v w : ℕ → Fin 256 → ℝ) (s : ℕ) (d : Fin 128) : ℝ :=
  ∑ t : Fin 8320, if s ≤ t.val then datt v w t s * dec g t s d * q t d else 0

def gradV (q k g : ℕ → Fin 128 → ℝ) (w : ℕ → Fin 256 → ℝ) (s : ℕ) (j : Fin 256) : ℝ :=
  ∑ t : Fin 8320, att q k g t s * w t j

/-- The gradient of the summed log gate at step `t`. -/
def gradB (q k g : ℕ → Fin 128 → ℝ) (v w : ℕ → Fin 256 → ℝ) (t : ℕ) (d : Fin 128) : ℝ :=
  (∑ s : Fin 8320, dexp q k g v w t s d) - ∑ t' : Fin 8320, dexp q k g v w t' t d

def gradG (q k g : ℕ → Fin 128 → ℝ) (v w : ℕ → Fin 256 → ℝ) (u : ℕ) (d : Fin 128) : ℝ :=
  ∑ t : Fin 8320, if u ≤ t.val then gradB q k g v w t d else 0

/-! ## One chunk -/

/-- The summed log gate inside the chunk beginning at `T`, up to and including its step `i`. -/
def cum (g : ℕ → Fin 128 → ℝ) (T i : ℕ) (d : Fin 128) : ℝ := pre g (T + i + 1) d - pre g T d

/-- The log gate of the whole chunk. -/
def tot (g : ℕ → Fin 128 → ℝ) (T : ℕ) (d : Fin 128) : ℝ := pre g (T + 128) d - pre g T d

/-- The state before step `T`, values along the first axis. -/
def state (k g : ℕ → Fin 128 → ℝ) (v : ℕ → Fin 256 → ℝ) (T : ℕ) (j : Fin 256) (d : Fin 128) : ℝ :=
  ∑ s : Fin 8320, v s j * (k s d * if s.val < T then Real.exp (pre g T d - pre g (s + 1) d) else 0)

/-- The gradient of the state before step `T`. -/
def dstate (q g : ℕ → Fin 128 → ℝ) (w : ℕ → Fin 256 → ℝ) (T : ℕ) (j : Fin 256) (d : Fin 128) : ℝ :=
  ∑ t : Fin 8320, if T ≤ t.val then w t j * (q t d * Real.exp (pre g (t + 1) d - pre g T d)) else 0

/-- The scaled query times the decay from the chunk's start. -/
def qe (q g : ℕ → Fin 128 → ℝ) (T i : ℕ) (d : Fin 128) : ℝ := q (T + i) d * Real.exp (cum g T i d)
/-- The key times the inverse decay. -/
def ke (k g : ℕ → Fin 128 → ℝ) (T i : ℕ) (d : Fin 128) : ℝ := k (T + i) d * Real.exp (-cum g T i d)
/-- The key times the decay to the chunk's end. -/
def kd (k g : ℕ → Fin 128 → ℝ) (T i : ℕ) (d : Fin 128) : ℝ := k (T + i) d * Real.exp (tot g T d - cum g T i d)

def cAtt (q k g : ℕ → Fin 128 → ℝ) (T i j : ℕ) : ℝ := if j ≤ i then ∑ d, qe q g T i d * ke k g T j d else 0
def cDatt (v w : ℕ → Fin 256 → ℝ) (T i j : ℕ) : ℝ := if j ≤ i then datt v w (T + i) (T + j) else 0

def cDv (q k g : ℕ → Fin 128 → ℝ) (w : ℕ → Fin 256 → ℝ) (T i : ℕ) (j : Fin 256) : ℝ :=
  (∑ i' : Fin 128, cAtt q k g T i' i * w (T + i') j) + ∑ d, kd k g T i d * dstate q g w (T + 128) j d
def cDqe (k g : ℕ → Fin 128 → ℝ) (v w : ℕ → Fin 256 → ℝ) (T i : ℕ) (d : Fin 128) : ℝ :=
  (∑ j : Fin 128, cDatt v w T i j * ke k g T j d) + ∑ j, w (T + i) j * state k g v T j d
def cDke (q g : ℕ → Fin 128 → ℝ) (v w : ℕ → Fin 256 → ℝ) (T i : ℕ) (d : Fin 128) : ℝ :=
  ∑ i' : Fin 128, cDatt v w T i' i * qe q g T i' d
def cDkd (q g : ℕ → Fin 128 → ℝ) (v w : ℕ → Fin 256 → ℝ) (T i : ℕ) (d : Fin 128) : ℝ :=
  ∑ j, v (T + i) j * dstate q g w (T + 128) j d
def cDb (q k g : ℕ → Fin 128 → ℝ) (v w : ℕ → Fin 256 → ℝ) (T i : ℕ) (d : Fin 128) : ℝ :=
  cDqe k g v w T i d * qe q g T i d - cDke q g v w T i d * ke k g T i d - cDkd q g v w T i d * kd k g T i d
def cLast (q k g : ℕ → Fin 128 → ℝ) (v w : ℕ → Fin 256 → ℝ) (T : ℕ) (d : Fin 128) : ℝ :=
  (∑ i : Fin 128, cDkd q g v w T i d * kd k g T i d)
    + Real.exp (tot g T d) * ∑ j, state k g v T j d * dstate q g w (T + 128) j d
def cDg (q k g : ℕ → Fin 128 → ℝ) (v w : ℕ → Fin 256 → ℝ) (T i : ℕ) (d : Fin 128) : ℝ :=
  (∑ i' : Fin 128, (if i ≤ i'.val then 1 else 0) * cDb q k g v w T i' d) + cLast q k g v w T d

/-! ## Sums over the sequence, cut at a chunk -/

theorem sum_cut (f : ℕ → ℝ) (T : ℕ) (hT : T + 128 ≤ 8320) :
    ∑ t : Fin 8320, f t = (∑ s ∈ range T, f s) + (∑ i : Fin 128, f (T + i)) + ∑ x ∈ range (8320 - (T + 128)), f (T + 128 + x) := by
  rw [Fin.sum_univ_eq_sum_range f 8320, Fin.sum_univ_eq_sum_range (fun i => f (T + i)) 128]
  conv_lhs => rw [show 8320 = T + 128 + (8320 - (T + 128)) by omega]
  rw [sum_range_add, sum_range_add]

theorem sum_ge (f : ℕ → ℝ) (T i : ℕ) (hT : T + 128 ≤ 8320) (hi : i < 128) :
    (∑ t : Fin 8320, if T + i ≤ t.val then f t else 0)
      = (∑ i' : Fin 128, if i ≤ i'.val then f (T + i') else 0) + ∑ t : Fin 8320, if T + 128 ≤ t.val then f t else 0 := by
  rw [sum_cut (fun t => if T + i ≤ t then f t else 0) T hT, sum_cut (fun t => if T + 128 ≤ t then f t else 0) T hT]
  rw [sum_eq_zero (s := range T) (f := fun t => if T + i ≤ t then f t else 0), sum_eq_zero (s := range T) (f := fun t => if T + 128 ≤ t then f t else 0),
    sum_eq_zero (s := (univ : Finset (Fin 128))) (f := fun i => if T + 128 ≤ T + i.val then f (T + i) else 0)]
  · rw [zero_add, zero_add, zero_add]
    refine congrArg₂ (· + ·) (sum_congr rfl fun x _ => ?_) (sum_congr rfl fun x _ => ?_)
    · by_cases h : i ≤ x.val
      · rw [if_pos h, if_pos (by omega)]
      · rw [if_neg h, if_neg (by omega)]
    · rw [if_pos (by omega), if_pos (by omega)]
  · intro x _; rw [if_neg (by omega)]
  · intro x hx; rw [mem_range] at hx; rw [if_neg (by omega)]
  · intro x hx; rw [mem_range] at hx; rw [if_neg (by omega)]

theorem sum_le (f : ℕ → ℝ) (T i : ℕ) (hT : T + 128 ≤ 8320) (hi : i < 128) :
    (∑ s : Fin 8320, if s.val ≤ T + i then f s else 0)
      = (∑ j : Fin 128, if j.val ≤ i then f (T + j) else 0) + ∑ s : Fin 8320, if s.val < T then f s else 0 := by
  rw [sum_cut (fun t => if t ≤ T + i then f t else 0) T hT, sum_cut (fun t => if t < T then f t else 0) T hT]
  rw [sum_eq_zero (s := range (8320 - (T + 128))) (f := fun x => if T + 128 + x ≤ T + i then f (T + 128 + x) else 0),
    sum_eq_zero (s := range (8320 - (T + 128))) (f := fun x => if T + 128 + x < T then f (T + 128 + x) else 0),
    sum_eq_zero (s := (univ : Finset (Fin 128))) (f := fun i => if T + i.val < T then f (T + i) else 0)]
  · rw [add_zero, add_zero, add_zero, add_comm]
    refine congrArg₂ (· + ·) (sum_congr rfl fun x _ => ?_) (sum_congr rfl fun x hx => ?_)
    · by_cases h : x.val ≤ i
      · rw [if_pos h, if_pos (by omega)]
      · rw [if_neg h, if_neg (by omega)]
    · rw [mem_range] at hx; rw [if_pos (by omega), if_pos (by omega)]
  · intro x _; rw [if_neg (by omega)]
  · intro x hx; rw [if_neg (by omega)]
  · intro x hx; rw [if_neg (by omega)]

/-- A sum over the steps before `T` and one over the chunk are one over the steps before `T + 128`. -/
theorem sum_lt_step (f : ℕ → ℝ) (T : ℕ) (hT : T + 128 ≤ 8320) :
    (∑ s : Fin 8320, if s.val < T + 128 then f s else 0)
      = (∑ j : Fin 128, f (T + j)) + ∑ s : Fin 8320, if s.val < T then f s else 0 := by
  have h := sum_le f T 127 hT (by omega)
  have e : ∀ s : Fin 8320, (if s.val < T + 128 then f s else 0) = if s.val ≤ T + 127 then f s else 0 := fun s =>
    if_congr (by omega) rfl rfl
  rw [sum_congr rfl fun s _ => e s, h]
  exact congrArg (· + _) (sum_congr rfl fun j _ => if_pos (by omega))

/-- Every step from `T` on is in the chunk or from `T + 128` on. -/
theorem sum_ge_step (f : ℕ → ℝ) (T : ℕ) (hT : T + 128 ≤ 8320) :
    (∑ t : Fin 8320, if T ≤ t.val then f t else 0)
      = (∑ i : Fin 128, f (T + i)) + ∑ t : Fin 8320, if T + 128 ≤ t.val then f t else 0 := by
  have h := sum_ge f T 0 hT (by omega)
  rw [Nat.add_zero] at h
  rw [h]
  exact congrArg (· + _) (sum_congr rfl fun j _ => if_pos (Nat.zero_le _))

/-- The antisymmetric part of a triangular sum: what leaves the steps from `U` on to the steps before it. -/
theorem sum_tri (p : ℕ → ℕ → ℝ) (hp : ∀ t s, t < s → p t s = 0) (U : ℕ) :
    (∑ t : Fin 8320, if U ≤ t.val then (∑ s : Fin 8320, p t s) - ∑ t' : Fin 8320, p t' t else 0)
      = ∑ s : Fin 8320, if s.val < U then ∑ t : Fin 8320, (if U ≤ t.val then p t s else 0) else 0 := by
  have e1 : (∑ t : Fin 8320, if U ≤ t.val then (∑ s : Fin 8320, p t s) - ∑ t' : Fin 8320, p t' t else 0)
      = (∑ t : Fin 8320, ∑ s : Fin 8320, if U ≤ t.val then p t s else 0)
        - ∑ t : Fin 8320, ∑ s : Fin 8320, if U ≤ s.val then p t s else 0 := by
    rw [sum_comm (f := fun t s : Fin 8320 => if U ≤ s.val then p t s else 0), ← sum_sub_distrib]
    refine sum_congr rfl fun t _ => ?_
    by_cases h : U ≤ t.val
    · simp only [if_pos h]
    · simp only [if_neg h, sum_const_zero, sub_zero]
  rw [e1, ← sum_sub_distrib]
  have e2 : ∀ t : Fin 8320, (∑ s : Fin 8320, if U ≤ t.val then p t s else 0) - (∑ s : Fin 8320, if U ≤ s.val then p t s else 0)
      = ∑ s : Fin 8320, if s.val < U then (if U ≤ t.val then p t s else 0) else 0 := by
    intro t
    rw [← sum_sub_distrib]
    refine sum_congr rfl fun s _ => ?_
    by_cases h1 : U ≤ t.val
    · by_cases h2 : U ≤ s.val
      · rw [if_pos h1, if_pos h2, if_neg (by omega), sub_self]
      · rw [if_pos h1, if_neg h2, if_pos (by omega), sub_zero]
    · by_cases h2 : U ≤ s.val
      · rw [if_neg h1, if_pos h2, if_neg (by omega), hp _ _ (by omega), sub_zero]
      · rw [if_neg h1, if_neg h2, if_pos (by omega), sub_zero]
  rw [sum_congr rfl fun t _ => e2 t, sum_comm]
  refine sum_congr rfl fun s _ => ?_
  by_cases h : s.val < U
  · simp only [if_pos h]
  · simp only [if_neg h, sum_const_zero]

/-! ## The decay between two steps, through the chunk -/

section
variable (q k g : ℕ → Fin 128 → ℝ) (v w : ℕ → Fin 256 → ℝ) (T : ℕ)

/-- The chunk's own prefix sum: what a triangle of ones times the chunk's gates gives. -/
theorem cum_eq (i : ℕ) (hi : i < 128) (d : Fin 128) : (∑ j : Fin 128, (if j.val ≤ i then 1 else 0) * g (T + j) d) = cum g T i d := by
  unfold cum pre
  rw [Nat.add_assoc, sum_range_add, add_sub_cancel_left]
  rw [Fin.sum_univ_eq_sum_range (fun j => (if j ≤ i then (1 : ℝ) else 0) * g (T + j) d) 128,
    ← sum_subset (s₁ := range (i + 1)) (range_subset_range.2 (by omega))]
  · refine sum_congr rfl fun j hj => ?_
    rw [mem_range] at hj
    rw [if_pos (by omega), one_mul]
  · intro j _ hj
    rw [mem_range] at hj
    rw [if_neg (by omega), zero_mul]

theorem dec_in (i j : ℕ) (d : Fin 128) : dec g (T + i) (T + j) d = Real.exp (cum g T i d) * Real.exp (-cum g T j d) := by
  rw [← Real.exp_add]; unfold dec cum; congr 1; ring

theorem dec_after (t i : ℕ) (d : Fin 128) :
    dec g t (T + i) d = Real.exp (tot g T d - cum g T i d) * Real.exp (pre g (t + 1) d - pre g (T + 128) d) := by
  rw [← Real.exp_add]; unfold dec cum tot; congr 1; ring

theorem dec_before (i s : ℕ) (d : Fin 128) :
    dec g (T + i) s d = Real.exp (cum g T i d) * Real.exp (pre g T d - pre g (s + 1) d) := by
  rw [← Real.exp_add]; unfold dec cum; congr 1; ring

theorem dec_across (t s : ℕ) (d : Fin 128) :
    dec g t s d = Real.exp (tot g T d) * Real.exp (pre g T d - pre g (s + 1) d) * Real.exp (pre g (t + 1) d - pre g (T + 128) d) := by
  rw [← Real.exp_add, ← Real.exp_add]; unfold dec tot; congr 1; ring

theorem cAtt_eq (i j : ℕ) : cAtt q k g T i j = att q k g (T + i) (T + j) := by
  unfold cAtt att
  refine if_congr (by omega) (sum_congr rfl fun d _ => ?_) rfl
  rw [dec_in]; unfold qe ke; ring

/-! ## The chunk's gradients are the sequence's -/

/-- The adjoint state one chunk earlier. -/
theorem dstate_step (hT : T + 128 ≤ 8320) (j : Fin 256) (d : Fin 128) :
    dstate q g w T j d = dstate q g w (T + 128) j d * Real.exp (tot g T d) + ∑ i : Fin 128, w (T + i) j * qe q g T i d := by
  unfold dstate
  rw [sum_ge_step (fun t => w t j * (q t d * Real.exp (pre g (t + 1) d - pre g T d))) T hT, sum_mul, add_comm]
  refine congrArg₂ (· + ·) (sum_congr rfl fun t _ => ?_) (sum_congr rfl fun i _ => ?_)
  · by_cases h : T + 128 ≤ t.val
    · rw [if_pos h, if_pos h, mul_assoc, mul_assoc, ← Real.exp_add]
      unfold tot
      congr 3; ring
    · rw [if_neg h, if_neg h, zero_mul]
  · rfl

theorem dstate_end (j : Fin 256) (d : Fin 128) : dstate q g w 8320 j d = 0 := by
  unfold dstate
  exact sum_eq_zero fun t _ => if_neg (by omega)

theorem gradV_eq (hT : T + 128 ≤ 8320) (i : ℕ) (hi : i < 128) (j : Fin 256) : cDv q k g w T i j = gradV q k g w (T + i) j := by
  unfold gradV cDv
  have e : ∀ t : Fin 8320, att q k g t (T + i) * w t j = if T + i ≤ t.val then (∑ d, q t d * k (T + i) d * dec g t (T + i) d) * w t j else 0 := by
    intro t; unfold att; by_cases h : T + i ≤ t.val
    · rw [if_pos h, if_pos h]
    · rw [if_neg h, if_neg h, zero_mul]
  rw [sum_congr rfl fun t _ => e t, sum_ge (fun t => (∑ d, q t d * k (T + i) d * dec g t (T + i) d) * w t j) T i hT hi]
  refine congrArg₂ (· + ·) (sum_congr rfl fun i' _ => ?_) ?_
  · rw [cAtt_eq]; unfold att
    by_cases h : i ≤ i'.val
    · rw [if_pos (by omega), if_pos h]
    · rw [if_neg (by omega), if_neg h, zero_mul]
  · unfold dstate
    simp only [mul_sum]
    rw [sum_comm]
    refine sum_congr rfl fun t _ => ?_
    by_cases h : T + 128 ≤ t.val
    · simp only [if_pos h]
      rw [sum_mul]
      refine sum_congr rfl fun d _ => ?_
      rw [dec_after]; unfold kd; ring
    · simp only [if_neg h, mul_zero, sum_const_zero]

theorem gradQ_eq (hT : T + 128 ≤ 8320) (i : ℕ) (hi : i < 128) (d : Fin 128) :
    cDqe k g v w T i d * Real.exp (cum g T i d) = gradQ k g v w (T + i) d := by
  unfold gradQ cDqe
  rw [sum_le (fun s => datt v w (T + i) s * dec g (T + i) s d * k s d) T i hT hi, add_mul, sum_mul, sum_mul]
  refine congrArg₂ (· + ·) (sum_congr rfl fun j _ => ?_) ?_
  · unfold cDatt
    by_cases h : j.val ≤ i
    · rw [if_pos h, if_pos h, dec_in]; unfold ke; ring
    · rw [if_neg h, if_neg h, zero_mul, zero_mul]
  · unfold state
    simp only [mul_sum, sum_mul]
    rw [sum_comm]
    refine sum_congr rfl fun s _ => ?_
    by_cases h : s.val < T
    · simp only [if_pos h]
      unfold datt
      rw [sum_mul, sum_mul]
      refine sum_congr rfl fun j _ => ?_
      rw [dec_before]; ring
    · simp only [if_neg h, mul_zero, zero_mul, sum_const_zero]

/-- The part of the key's gradient that the chunk's own steps give. -/
theorem cDke_mul (i : ℕ) (d : Fin 128) : cDke q g v w T i d * Real.exp (-cum g T i d)
    = ∑ i' : Fin 128, if i ≤ i'.val then datt v w (T + i') (T + i) * dec g (T + i') (T + i) d * q (T + i') d else 0 := by
  unfold cDke
  rw [sum_mul]
  refine sum_congr rfl fun i' _ => ?_
  unfold cDatt
  by_cases h : i ≤ i'.val
  · rw [if_pos h, if_pos h, dec_in]; unfold qe; ring
  · rw [if_neg h, if_neg h, zero_mul, zero_mul]

/-- The part that the later chunks' steps give. -/
theorem cDkd_mul (i : ℕ) (d : Fin 128) : cDkd q g v w T i d * Real.exp (tot g T d - cum g T i d)
    = ∑ t : Fin 8320, if T + 128 ≤ t.val then datt v w t (T + i) * dec g t (T + i) d * q t d else 0 := by
  unfold cDkd dstate
  simp only [mul_sum, sum_mul]
  rw [sum_comm]
  refine sum_congr rfl fun t _ => ?_
  by_cases h : T + 128 ≤ t.val
  · simp only [if_pos h]
    unfold datt
    rw [sum_mul, sum_mul]
    refine sum_congr rfl fun j _ => ?_
    rw [dec_after]; ring
  · simp only [if_neg h, mul_zero, zero_mul, sum_const_zero]

theorem gradK_eq (hT : T + 128 ≤ 8320) (i : ℕ) (hi : i < 128) (d : Fin 128) :
    cDke q g v w T i d * Real.exp (-cum g T i d) + cDkd q g v w T i d * Real.exp (tot g T d - cum g T i d)
      = gradK q g v w (T + i) d := by
  unfold gradK
  rw [sum_ge (fun t => datt v w t (T + i) * dec g t (T + i) d * q t d) T i hT hi, cDke_mul, cDkd_mul]

theorem dexp_rows (t : ℕ) (d : Fin 128) : (∑ s : Fin 8320, dexp q k g v w t s d) = gradQ k g v w t d * q t d := by
  unfold gradQ
  rw [sum_mul]
  refine sum_congr rfl fun s _ => ?_
  unfold dexp
  by_cases h : s.val ≤ t
  · rw [if_pos h, if_pos h]; ring
  · rw [if_neg h, if_neg h, zero_mul]

theorem dexp_cols (s : ℕ) (d : Fin 128) : (∑ t : Fin 8320, dexp q k g v w t s d) = gradK q g v w s d * k s d := by
  unfold gradK
  rw [sum_mul]
  refine sum_congr rfl fun t _ => ?_
  unfold dexp
  by_cases h : s ≤ t.val
  · rw [if_pos h, if_pos h]; ring
  · rw [if_neg h, if_neg h, zero_mul]

theorem gradB_eq (hT : T + 128 ≤ 8320) (i : ℕ) (hi : i < 128) (d : Fin 128) :
    cDb q k g v w T i d = gradB q k g v w (T + i) d := by
  unfold gradB cDb
  rw [dexp_rows, dexp_cols, ← gradQ_eq k g v w T hT i hi d, ← gradK_eq q g v w T hT i hi d]
  unfold qe ke kd; ring

/-- What the pairs astride the chunk's end give. -/
theorem cLast_eq (hT : T + 128 ≤ 8320) (d : Fin 128) :
    cLast q k g v w T d = ∑ s : Fin 8320, if s.val < T + 128 then ∑ t : Fin 8320, (if T + 128 ≤ t.val then dexp q k g v w t s d else 0) else 0 := by
  rw [sum_lt_step (fun s => ∑ t : Fin 8320, if T + 128 ≤ t.val then dexp q k g v w t s d else 0) T hT]
  unfold cLast
  refine congrArg₂ (· + ·) (sum_congr rfl fun i _ => ?_) ?_
  · have h := congrArg (· * k (T + i) d) (cDkd_mul q g v w T i d)
    rw [show cDkd q g v w T i d * kd k g T i d = cDkd q g v w T i d * Real.exp (tot g T d - cum g T i d) * k (T + i) d by unfold kd; ring, h, sum_mul]
    refine sum_congr rfl fun t _ => ?_
    by_cases h : T + 128 ≤ t.val
    · rw [if_pos h, if_pos h]; unfold dexp; rw [if_pos (by omega)]; ring
    · rw [if_neg h, if_neg h, zero_mul]
  · unfold state dstate
    simp only [sum_mul, mul_sum]
    rw [sum_comm]
    rw [sum_congr rfl fun s (_ : s ∈ (univ : Finset (Fin 8320))) => sum_comm, sum_comm]
    refine sum_congr rfl fun s _ => ?_
    by_cases hs : s.val < T
    · simp only [if_pos hs]
      refine sum_congr rfl fun t _ => ?_
      by_cases h : T + 128 ≤ t.val
      · simp only [if_pos h]
        unfold dexp datt
        rw [if_pos (by omega), sum_mul, sum_mul]
        refine sum_congr rfl fun j _ => ?_
        rw [dec_across g T]; ring
      · simp only [if_neg h, mul_zero, sum_const_zero]
    · simp only [if_neg hs, mul_zero, zero_mul, sum_const_zero]

theorem gradG_eq (hT : T + 128 ≤ 8320) (i : ℕ) (hi : i < 128) (d : Fin 128) :
    cDg q k g v w T i d = gradG q k g v w (T + i) d := by
  unfold gradG cDg
  rw [sum_ge (fun t => gradB q k g v w t d) T i hT hi]
  refine congrArg₂ (· + ·) (sum_congr rfl fun i' _ => ?_) ?_
  · rw [gradB_eq q k g v w T hT i' i'.isLt d]
    by_cases h : i ≤ i'.val
    · rw [if_pos h, if_pos h, one_mul]
    · rw [if_neg h, if_neg h, zero_mul]
  · rw [cLast_eq q k g v w T hT d]
    unfold gradB
    exact (sum_tri (fun t s => dexp q k g v w t s d) (fun t s h => if_neg (by omega)) (T + 128)).symm

end

end Cert.Gla

end
-- ==== Proof.Gla.Lift.lean ====
/- Real numbers among the extended reals: sums, quotients, powers of e and the words of the programs' constants.
   Every entry of the programs is shown to be a real number, by these. -/
module

public import Idealize.ShloMosaic.Lib.Pointwise
public import Idealize.ShloMosaic.Lib.WordCmp
public import Idealize.ShloMosaic.PureOps.Ideal
public import Idealize.ShloMosaic.PureOps.Ideal.Laws

@[expose] public section

noncomputable section

namespace Cert.Gla

open Finset Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem coe_ite (p : Prop) [Decidable p] (a b : ℝ) : (if p then (a : EReal) else (b : EReal)) = ((if p then a else b : ℝ) : EReal) := by
  split <;> rfl

theorem coe_ite_zero (p : Prop) [Decidable p] (a : ℝ) : (if p then (a : EReal) else 0) = ((if p then a else 0 : ℝ) : EReal) := by
  split <;> rfl

theorem div_real (x y : ℝ) (h : y ≠ 0) : Ideal.div (x : EReal) (y : EReal) = ((x / y : ℝ) : EReal) := by
  rw [Ideal.div_coe h, ← EReal.coe_mul, mul_one_div]

theorem rsqrt_real (x : ℝ) (h : 0 < x) : Ideal.rsqrt (x : EReal) = (((Real.sqrt x)⁻¹ : ℝ) : EReal) := by
  rw [Ideal.rsqrt_coe, if_neg (not_lt.2 h.le), if_neg h.ne']

theorem exp_real (x : ℝ) : Ideal.exp (x : EReal) = ((Real.exp x : ℝ) : EReal) := rfl

theorem exp_low : Ideal.exp (⊥ : EReal) = ((0 : ℝ) : EReal) := rfl

/-! ## Constants -/

/-- The scale of the queries, as the programs print it. -/
def cs : ℝ := (Ideal.ofBits .f32 0x3DB504F3#32).toReal
/-- What is added under the square root. -/
def eps : ℝ := (Ideal.ofBits .f32 0x358637BD#32).toReal

theorem word_cs : Ideal.ofBits .f32 0x3DB504F3#32 = (cs : EReal) := by
  unfold cs
  rw [EReal.coe_toReal]
  · simp [Ideal.ofBits, Ideal.ieee, -EReal.coe_mul]
  · simp [Ideal.ofBits, Ideal.ieee, -EReal.coe_mul]

theorem word_eps : Ideal.ofBits .f32 0x358637BD#32 = (eps : EReal) := by
  unfold eps
  rw [EReal.coe_toReal]
  · simp [Ideal.ofBits, Ideal.ieee, -EReal.coe_mul]
  · simp [Ideal.ofBits, Ideal.ieee, -EReal.coe_mul]

theorem eps_pos : 0 < eps := by
  have h : (eps : EReal) = Ideal.ofBits .f32 0x358637BD#32 := word_eps.symm
  have e : Ideal.ofBits .f32 0x358637BD#32 = (((8796093 : ℝ) * 2⁻¹ ^ 43 : ℝ) : EReal) := by
    simp [Ideal.ofBits, Ideal.ieee, -EReal.coe_mul]
  rw [e, EReal.coe_eq_coe_iff] at h
  rw [h]; positivity

theorem word_256 : Ideal.ofBits .f32 0x43800000#32 = ((256 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_low : Ideal.ofBits .f32 0xFF800000#32 = (⊥ : EReal) := by
  simp [Ideal.ofBits, Ideal.ieee, -EReal.coe_mul]

theorem word_half : Ideal.ofBits .f32 0xBF000000#32 = ((-(1 / 2) : ℝ) : EReal) := by
  simp [Ideal.ofBits, Ideal.ieee, -EReal.coe_mul]; norm_num

/-! ## Comparisons of steps -/

theorem sel_le {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (by simpa using ha) (by simpa using hb)]
  unfold Scalar.select
  by_cases h : a ≤ b <;> simp [h]

theorem sel_ge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat (by simpa using ha) (by simpa using hb)]
  unfold Scalar.select
  by_cases h : b ≤ a <;> simp [h]

theorem sel_lt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (by simpa using ha) (by simpa using hb)]
  unfold Scalar.select
  by_cases h : a < b <;> simp [h]

theorem fin_small (i : Fin 128) : i.val < 2 ^ 31 := by omega

end Cert.Gla

end
-- ==== Proof.Gla.Head.lean ====
/- One head over the reals, from its rows of the projection (`x`), its log gates (`g`), its norm weights (`n`) and the gradient
   of the gated output (`z`): the query, key, value and gate, the normalised output, and the gradients. -/
module

public import proofs.«01_k».proof.Proof.Gla.Chunks
public import proofs.«01_k».proof.Proof.Gla.Lift

@[expose] public section

noncomputable section

namespace Cert.Gla

open Finset

def hq (x : ℕ → Fin 768 → ℝ) (t : ℕ) (d : Fin 128) : ℝ := x t ⟨d.val, by omega⟩ * cs
def hk (x : ℕ → Fin 768 → ℝ) (t : ℕ) (d : Fin 128) : ℝ := x t ⟨128 + d.val, by omega⟩
def hv (x : ℕ → Fin 768 → ℝ) (t : ℕ) (j : Fin 256) : ℝ := x t ⟨256 + j.val, by omega⟩
def hr (x : ℕ → Fin 768 → ℝ) (t : ℕ) (j : Fin 256) : ℝ := x t ⟨512 + j.val, by omega⟩

variable (x : ℕ → Fin 768 → ℝ) (g : ℕ → Fin 128 → ℝ) (n : Fin 256 → ℝ) (z : ℕ → Fin 256 → ℝ)

/-- The recurrence's output. -/
def ho (t : ℕ) (j : Fin 256) : ℝ := out (hq x) (hk x) g (hv x) t j
/-- The mean square of a row, and what is added to it. -/
def ms (t : ℕ) : ℝ := (∑ j, ho x g t j * ho x g t j) / 256 + eps
/-- One over the root of the mean square. -/
def rho (t : ℕ) : ℝ := (Real.sqrt (ms x g t))⁻¹
/-- The normalised output. -/
def xhat (t : ℕ) (j : Fin 256) : ℝ := ho x g t j * rho x g t
/-- The logistic function of the gate. -/
def sig (t : ℕ) (j : Fin 256) : ℝ := 1 / (1 + Real.exp (-hr x t j))
/-- The gradient of the weighted normalised output. -/
def docn (t : ℕ) (j : Fin 256) : ℝ := z t j * (hr x t j * sig x t j)
/-- The gradient of the normalised output. -/
def dn (t : ℕ) (j : Fin 256) : ℝ := docn x z t j * n j
/-- The gradient of the recurrence's output. -/
def hw (t : ℕ) (j : Fin 256) : ℝ :=
  rho x g t * (dn x n z t j - xhat x g t j * ((∑ l, dn x n z t l * xhat x g t l) / 256))
/-- The gradient of the gate. -/
def hdr (t : ℕ) (j : Fin 256) : ℝ :=
  z t j * (xhat x g t j * n j) * (sig x t j * (1 + hr x t j * (1 - sig x t j)))
/-- One row's part of the gradient of the norm weights. -/
def hdn (t : ℕ) (j : Fin 256) : ℝ := docn x z t j * xhat x g t j

def hdq (t : ℕ) (d : Fin 128) : ℝ := gradQ (hk x) g (hv x) (hw x g n z) t d * cs
def hdk (t : ℕ) (d : Fin 128) : ℝ := gradK (hq x) g (hv x) (hw x g n z) t d
def hdv (t : ℕ) (j : Fin 256) : ℝ := gradV (hq x) (hk x) g (hw x g n z) t j
def hdg (t : ℕ) (d : Fin 128) : ℝ := gradG (hq x) (hk x) g (hv x) (hw x g n z) t d

/-- The gradient of the head's rows of the projection: query, key, value and gate side by side. -/
def hdx (t : ℕ) (c : Fin 768) : ℝ :=
  if h : c.val < 128 then hdq x g n z t ⟨c.val, h⟩
  else if h1 : c.val - 128 < 128 then hdk x g n z t ⟨c.val - 128, h1⟩
  else if h2 : c.val - 128 - 128 < 256 then hdv x g n z t ⟨c.val - 128 - 128, h2⟩
  else hdr x g n z t ⟨c.val - 128 - 128 - 256, by omega⟩

theorem ms_pos (t : ℕ) : 0 < ms x g t :=
  add_pos_of_nonneg_of_pos (div_nonneg (sum_nonneg fun _ _ => mul_self_nonneg _) (by norm_num)) eps_pos

theorem one_add_exp_pos (t : ℕ) (j : Fin 256) : 0 < 1 + Real.exp (-hr x t j) := by positivity

end Cert.Gla

end
-- ==== Proof.Gla.Tile.lean ====
/- One grid step of the kernel, one head: every value of its text is a real number where what it reads is, and which. -/
module

public import proofs.«01_k».proof.Proof.Gla.Head
public import proofs.«01_k».proof.Proof.Gen.KernelIdeal.Skeleton

@[expose] public section

noncomputable section

namespace Cert.Gla

open Finset Idealize.ShloMosaic Cert.KernelIdeal Cert.KernelIdeal.Gen

section Chunk

variable {x : ℕ → Fin 768 → ℝ} {g : ℕ → Fin 128 → ℝ} {T : ℕ}
  {G : Vec Ideal S128x768 .f32} {L : Vec Ideal S128x128 .f32}

theorem k_real (hG : ∀ (i : Fin 128) (c : Fin 768), G (ix2 i c) = ((x (T + i.val) c : ℝ) : EReal)) (i d : Fin 128) :
    k0_pay6 (F := Ideal) G (ix2 i d) = ((hk x (T + i.val) d : ℝ) : EReal) := by
  pointwise [k0_pay6]
  simp only [hG]
  rfl

theorem v_real (hG : ∀ (i : Fin 128) (c : Fin 768), G (ix2 i c) = ((x (T + i.val) c : ℝ) : EReal)) (i : Fin 128) (j : Fin 256) :
    k0_pay7 (F := Ideal) G (ix2 i j) = ((hv x (T + i.val) j : ℝ) : EReal) := by
  pointwise [k0_pay7]
  simp only [hG]
  rfl

theorem r_real (hG : ∀ (i : Fin 128) (c : Fin 768), G (ix2 i c) = ((x (T + i.val) c : ℝ) : EReal)) (i : Fin 128) (j : Fin 256) :
    k0_pay8 (F := Ideal) G (ix2 i j) = ((hr x (T + i.val) j : ℝ) : EReal) := by
  pointwise [k0_pay8]
  simp only [hG]
  rfl

theorem b_real (hL : ∀ (i d : Fin 128), L (ix2 i d) = ((g (T + i.val) d : ℝ) : EReal)) (i d : Fin 128) :
    k0_pay9 (F := Ideal) L (ix2 i d) = ((cum g T i.val d : ℝ) : EReal) := by
  pointwise [k0_pay9]
  simp only [hL, sel_le (fin_small _) (fin_small _), coe_ite_zero, coe_sum]
  rw [← cum_eq g T i.val i.isLt d]
  simp only [ite_mul, one_mul, zero_mul]

theorem bl_real (hL : ∀ (i d : Fin 128), L (ix2 i d) = ((g (T + i.val) d : ℝ) : EReal)) (d : Fin 128) :
    k0_pay10 (F := Ideal) L (ix2 0 d) = ((tot g T d : ℝ) : EReal) := by
  have h := b_real hL
  unfold k0_pay10
  generalize k0_pay9 (F := Ideal) L = X at h
  pointwise
  exact h ⟨127, by omega⟩ d

theorem eb_real (hL : ∀ (i d : Fin 128), L (ix2 i d) = ((g (T + i.val) d : ℝ) : EReal)) (i d : Fin 128) :
    k0_pay11 (F := Ideal) L (ix2 i d) = ((Real.exp (cum g T i.val d) : ℝ) : EReal) := by
  have h := b_real hL
  unfold k0_pay11
  generalize k0_pay9 (F := Ideal) L = X at h
  pointwise
  rw [h]; rfl

theorem enb_real (hL : ∀ (i d : Fin 128), L (ix2 i d) = ((g (T + i.val) d : ℝ) : EReal)) (i d : Fin 128) :
    k0_pay12 (F := Ideal) L (ix2 i d) = ((Real.exp (-cum g T i.val d) : ℝ) : EReal) := by
  have h := b_real hL
  unfold k0_pay12
  generalize k0_pay9 (F := Ideal) L = X at h
  pointwise
  rw [h, zero_sub, ← EReal.coe_neg, exp_real]

theorem ebl_real (hL : ∀ (i d : Fin 128), L (ix2 i d) = ((g (T + i.val) d : ℝ) : EReal)) (i d : Fin 128) :
    k0_pay13 (F := Ideal) L (ix2 i d) = ((Real.exp (tot g T d - cum g T i.val d) : ℝ) : EReal) := by
  have h := b_real hL
  have h' := bl_real hL
  unfold k0_pay13
  generalize k0_pay9 (F := Ideal) L = X at h
  generalize k0_pay10 (F := Ideal) L = Y at h'
  pointwise
  rw [h, h', ← EReal.coe_sub, exp_real]

theorem qe_real (hG : ∀ (i : Fin 128) (c : Fin 768), G (ix2 i c) = ((x (T + i.val) c : ℝ) : EReal))
    (hL : ∀ (i d : Fin 128), L (ix2 i d) = ((g (T + i.val) d : ℝ) : EReal)) (i d : Fin 128) :
    k0_pay14 (F := Ideal) G L (ix2 i d) = ((qe (hq x) g T i.val d : ℝ) : EReal) := by
  have h := eb_real hL
  unfold k0_pay14
  generalize k0_pay11 (F := Ideal) L = X at h
  pointwise
  rw [h, hG, word_cs, ← EReal.coe_mul, ← EReal.coe_mul]
  rfl

theorem ke_real (hG : ∀ (i : Fin 128) (c : Fin 768), G (ix2 i c) = ((x (T + i.val) c : ℝ) : EReal))
    (hL : ∀ (i d : Fin 128), L (ix2 i d) = ((g (T + i.val) d : ℝ) : EReal)) (i d : Fin 128) :
    k0_pay15 (F := Ideal) G L (ix2 i d) = ((ke (hk x) g T i.val d : ℝ) : EReal) := by
  have h := enb_real hL
  have h' := k_real hG
  unfold k0_pay15
  generalize k0_pay12 (F := Ideal) L = X at h
  generalize k0_pay6 (F := Ideal) G = Y at h'
  pointwise
  rw [h, h', ← EReal.coe_mul]
  rfl

theorem kd_real (hG : ∀ (i : Fin 128) (c : Fin 768), G (ix2 i c) = ((x (T + i.val) c : ℝ) : EReal))
    (hL : ∀ (i d : Fin 128), L (ix2 i d) = ((g (T + i.val) d : ℝ) : EReal)) (i d : Fin 128) :
    k0_pay16 (F := Ideal) G L (ix2 i d) = ((kd (hk x) g T i.val d : ℝ) : EReal) := by
  have h := ebl_real hL
  have h' := k_real hG
  unfold k0_pay16
  generalize k0_pay13 (F := Ideal) L = X at h
  generalize k0_pay6 (F := Ideal) G = Y at h'
  pointwise
  rw [h, h', ← EReal.coe_mul]
  rfl

theorem causal_read (i j : Fin 128) : k0_pay17 (ix2 i j) = IntOp.cmpi .sle (BitVec.ofNat 32 j.val) (BitVec.ofNat 32 i.val) := by
  pointwise [k0_pay17]

theorem att_real (hG : ∀ (i : Fin 128) (c : Fin 768), G (ix2 i c) = ((x (T + i.val) c : ℝ) : EReal))
    (hL : ∀ (i d : Fin 128), L (ix2 i d) = ((g (T + i.val) d : ℝ) : EReal)) (i j : Fin 128) :
    k0_pay18 (F := Ideal) G L (ix2 i j) = ((cAtt (hq x) (hk x) g T i.val j.val : ℝ) : EReal) := by
  have h := qe_real hG hL
  have h' := ke_real hG hL
  have hc := causal_read
  unfold k0_pay18
  generalize k0_pay14 (F := Ideal) G L = X at h
  generalize k0_pay15 (F := Ideal) G L = Y at h'
  generalize k0_pay17 = C at hc
  pointwise
  simp only [h, h', hc, sel_le (fin_small _) (fin_small _), ← EReal.coe_mul, coe_sum, coe_ite_zero]
  rfl

end Chunk

theorem st_read (S : Vec Ideal S1x1x256x128 .f32) (j : Fin 256) (d : Fin 128) : k0_pay19 (F := Ideal) S (ix2 j d) = S (ix4 0 0 j d) := by
  pointwise [k0_pay19]

theorem dst_read (D : Vec Ideal S1x256x128 .f32) (j : Fin 256) (d : Fin 128) : k0_pay20 (F := Ideal) D (ix2 j d) = D (ix3 0 j d) := by
  pointwise [k0_pay20]

section Norm

variable {x : ℕ → Fin 768 → ℝ} {g : ℕ → Fin 128 → ℝ} {n : Fin 256 → ℝ} {z : ℕ → Fin 256 → ℝ} {T : ℕ}
  {O Z R X D : Vec Ideal S128x256 .f32} {N A : Vec Ideal S1x256 .f32} {P : Vec Ideal S128x1 .f32}

theorem o_read (i : Fin 128) (j : Fin 256) : k0_pay21 (F := Ideal) O (ix2 i j) = O (ix2 i j) := by
  pointwise [k0_pay21]

theorem rho_real (hO : ∀ (i : Fin 128) (j : Fin 256), O (ix2 i j) = ((ho x g (T + i.val) j : ℝ) : EReal)) (i : Fin 128) :
    k0_pay22 (F := Ideal) O (ix2 i 0) = ((rho x g (T + i.val) : ℝ) : EReal) := by
  have h := o_read (O := O)
  unfold k0_pay22
  generalize k0_pay21 (F := Ideal) O = X at h
  pointwise
  simp only [h, hO, ← EReal.coe_mul, coe_sum, word_256, word_eps]
  rw [div_real _ _ (by norm_num), ← EReal.coe_add]
  exact rsqrt_real _ (ms_pos x g _)

theorem xhat_real (hO : ∀ (i : Fin 128) (j : Fin 256), O (ix2 i j) = ((ho x g (T + i.val) j : ℝ) : EReal)) (i : Fin 128) (j : Fin 256) :
    k0_pay23 (F := Ideal) O (ix2 i j) = ((xhat x g (T + i.val) j : ℝ) : EReal) := by
  have h := o_read (O := O)
  have h' := rho_real hO
  unfold k0_pay23
  generalize k0_pay21 (F := Ideal) O = X at h
  generalize k0_pay22 (F := Ideal) O = Y at h'
  pointwise
  rw [h, h', hO, ← EReal.coe_mul]
  rfl

theorem sig_real (hR : ∀ (i : Fin 128) (j : Fin 256), R (ix2 i j) = ((hr x (T + i.val) j : ℝ) : EReal)) (i : Fin 128) (j : Fin 256) :
    k0_pay24 (F := Ideal) R (ix2 i j) = ((sig x (T + i.val) j : ℝ) : EReal) := by
  pointwise [k0_pay24]
  rw [hR, zero_sub, ← EReal.coe_neg, exp_real]
  rw [← EReal.coe_one, ← EReal.coe_add, div_real _ _ (one_add_exp_pos x _ _).ne']
  rfl

theorem dr_real (hR : ∀ (i : Fin 128) (j : Fin 256), R (ix2 i j) = ((hr x (T + i.val) j : ℝ) : EReal))
    (hO : ∀ (i : Fin 128) (j : Fin 256), O (ix2 i j) = ((ho x g (T + i.val) j : ℝ) : EReal))
    (hZ : ∀ (i : Fin 128) (j : Fin 256), Z (ix2 i j) = ((z (T + i.val) j : ℝ) : EReal))
    (hN : ∀ j : Fin 256, N (ix2 0 j) = ((n j : ℝ) : EReal)) (i : Fin 128) (j : Fin 256) :
    k0_pay25 (F := Ideal) R O Z N (ix2 i j) = ((hdr x g n z (T + i.val) j : ℝ) : EReal) := by
  have h := xhat_real hO
  have h' := sig_real hR
  unfold k0_pay25
  generalize k0_pay23 (F := Ideal) O = X at h
  generalize k0_pay24 (F := Ideal) R = Y at h'
  pointwise
  rw [h, h', hR, hZ, hN, ← EReal.coe_one]
  simp only [← EReal.coe_mul, ← EReal.coe_add, ← EReal.coe_sub]
  rfl

theorem docn_real (hR : ∀ (i : Fin 128) (j : Fin 256), R (ix2 i j) = ((hr x (T + i.val) j : ℝ) : EReal))
    (hZ : ∀ (i : Fin 128) (j : Fin 256), Z (ix2 i j) = ((z (T + i.val) j : ℝ) : EReal)) (i : Fin 128) (j : Fin 256) :
    k0_pay26 (F := Ideal) R Z (ix2 i j) = ((docn x z (T + i.val) j : ℝ) : EReal) := by
  have h' := sig_real hR
  unfold k0_pay26
  generalize k0_pay24 (F := Ideal) R = Y at h'
  pointwise
  rw [h', hR, hZ]
  simp only [← EReal.coe_mul]
  rfl

theorem dgn_real {a : Fin 256 → ℝ} (hR : ∀ (i : Fin 128) (j : Fin 256), R (ix2 i j) = ((hr x (T + i.val) j : ℝ) : EReal))
    (hO : ∀ (i : Fin 128) (j : Fin 256), O (ix2 i j) = ((ho x g (T + i.val) j : ℝ) : EReal))
    (hZ : ∀ (i : Fin 128) (j : Fin 256), Z (ix2 i j) = ((z (T + i.val) j : ℝ) : EReal))
    (hA : ∀ j : Fin 256, A (ix2 0 j) = ((a j : ℝ) : EReal)) (j : Fin 256) :
    k0_pay27 (F := Ideal) R O Z A (ix2 0 j) = ((a j + ∑ i : Fin 128, hdn x g z (T + i.val) j : ℝ) : EReal) := by
  have h := xhat_real hO
  have h' := docn_real hR hZ
  unfold k0_pay27
  generalize k0_pay23 (F := Ideal) O = X at h
  generalize k0_pay26 (F := Ideal) R Z = Y at h'
  pointwise
  simp only [h, h', hA, ← EReal.coe_mul, ← EReal.coe_add, coe_sum]
  rfl

theorem dob_real (hN : ∀ j : Fin 256, N (ix2 0 j) = ((n j : ℝ) : EReal))
    (hP : ∀ i : Fin 128, P (ix2 i 0) = ((rho x g (T + i.val) : ℝ) : EReal))
    (hX : ∀ (i : Fin 128) (j : Fin 256), X (ix2 i j) = ((xhat x g (T + i.val) j : ℝ) : EReal))
    (hD : ∀ (i : Fin 128) (j : Fin 256), D (ix2 i j) = ((docn x z (T + i.val) j : ℝ) : EReal)) (i : Fin 128) (j : Fin 256) :
    k0_pay28 (F := Ideal) N P X D (ix2 i j) = ((hw x g n z (T + i.val) j : ℝ) : EReal) := by
  pointwise [k0_pay28]
  simp only [hN, hP, hX, hD, ← EReal.coe_mul, coe_sum, word_256]
  rw [div_real _ _ (by norm_num)]
  simp only [← EReal.coe_mul, ← EReal.coe_sub]
  rfl

end Norm

section Grad

variable {x : ℕ → Fin 768 → ℝ} {g : ℕ → Fin 128 → ℝ} {w : ℕ → Fin 256 → ℝ} {T : ℕ}
  {V : Vec Ideal S128x256 .f32} {B E K KE KD QE AT : Vec Ideal S128x128 .f32} {S D : Vec Ideal S256x128 .f32} {BL : Vec Ideal S1x128 .f32}
  {N : Vec Ideal S1x256 .f32} {P : Vec Ideal S128x1 .f32} {X Y : Vec Ideal S128x256 .f32}

theorem vb_read (i : Fin 128) (j : Fin 256) : k0_pay29 (F := Ideal) V (ix2 i j) = V (ix2 i j) := by
  pointwise [k0_pay29]

theorem qeb_read (i : Fin 128) (j : Fin 128) : k0_pay30 (F := Ideal) QE (ix2 i j) = QE (ix2 i j) := by
  pointwise [k0_pay30]

theorem datt_real (hV : ∀ (i : Fin 128) (j : Fin 256), V (ix2 i j) = ((hv x (T + i.val) j : ℝ) : EReal))
    (hW : ∀ (i : Fin 128) (j : Fin 256), k0_pay28 (F := Ideal) N P X Y (ix2 i j) = ((w (T + i.val) j : ℝ) : EReal)) (i j : Fin 128) :
    k0_pay31 (F := Ideal) V k0_pay17 N P X Y (ix2 i j) = ((cDatt (hv x) w T i.val j.val : ℝ) : EReal) := by
  have h := vb_read (V := V)
  have hc := causal_read
  unfold k0_pay31
  generalize k0_pay28 (F := Ideal) N P X Y = W at hW
  generalize k0_pay29 (F := Ideal) V = V' at h
  generalize k0_pay17 = C at hc
  pointwise
  simp only [h, hc, hV, hW, sel_le (fin_small _) (fin_small _), ← EReal.coe_mul, coe_sum, coe_ite_zero]
  rfl

theorem dv_real {q k : ℕ → Fin 128 → ℝ} (hKD : ∀ i d : Fin 128, KD (ix2 i d) = ((kd k g T i.val d : ℝ) : EReal))
    (hAT : ∀ i j : Fin 128, AT (ix2 i j) = ((cAtt q k g T i.val j.val : ℝ) : EReal))
    (hD : ∀ (j : Fin 256) (d : Fin 128), D (ix2 j d) = ((dstate q g w (T + 128) j d : ℝ) : EReal))
    (hW : ∀ (i : Fin 128) (j : Fin 256), k0_pay28 (F := Ideal) N P X Y (ix2 i j) = ((w (T + i.val) j : ℝ) : EReal))
    (i : Fin 128) (j : Fin 256) :
    k0_pay32 (F := Ideal) KD AT D N P X Y (ix2 i j) = ((cDv q k g w T i.val j : ℝ) : EReal) := by
  unfold k0_pay32
  generalize k0_pay28 (F := Ideal) N P X Y = W at hW
  pointwise
  simp only [hKD, hAT, hD, hW, ← EReal.coe_mul, coe_sum, ← EReal.coe_add]
  rfl

theorem dqe_real {k : ℕ → Fin 128 → ℝ} (hV : ∀ (i : Fin 128) (j : Fin 256), V (ix2 i j) = ((hv x (T + i.val) j : ℝ) : EReal))
    (hKE : ∀ i d : Fin 128, KE (ix2 i d) = ((ke k g T i.val d : ℝ) : EReal))
    (hS : ∀ (j : Fin 256) (d : Fin 128), S (ix2 j d) = ((state k g (hv x) T j d : ℝ) : EReal))
    (hW : ∀ (i : Fin 128) (j : Fin 256), k0_pay28 (F := Ideal) N P X Y (ix2 i j) = ((w (T + i.val) j : ℝ) : EReal))
    (i d : Fin 128) :
    k0_pay33 (F := Ideal) V KE k0_pay17 S N P X Y (ix2 i d) = ((cDqe k g (hv x) w T i.val d : ℝ) : EReal) := by
  have h := datt_real hV hW
  unfold k0_pay33
  generalize k0_pay31 (F := Ideal) V k0_pay17 N P X Y = DA at h
  generalize k0_pay28 (F := Ideal) N P X Y = W at hW
  pointwise
  simp only [h, hKE, hS, hW, ← EReal.coe_mul, coe_sum, ← EReal.coe_add]
  rfl

theorem dke_real {q : ℕ → Fin 128 → ℝ} (hV : ∀ (i : Fin 128) (j : Fin 256), V (ix2 i j) = ((hv x (T + i.val) j : ℝ) : EReal))
    (hQE : ∀ i d : Fin 128, QE (ix2 i d) = ((qe q g T i.val d : ℝ) : EReal))
    (hW : ∀ (i : Fin 128) (j : Fin 256), k0_pay28 (F := Ideal) N P X Y (ix2 i j) = ((w (T + i.val) j : ℝ) : EReal))
    (i d : Fin 128) :
    k0_pay34 (F := Ideal) V QE k0_pay17 N P X Y (ix2 i d) = ((cDke q g (hv x) w T i.val d : ℝ) : EReal) := by
  have h := datt_real hV hW
  have h' := qeb_read (QE := QE)
  unfold k0_pay34
  generalize k0_pay31 (F := Ideal) V k0_pay17 N P X Y = DA at h
  generalize k0_pay30 (F := Ideal) QE = Q at h'
  pointwise
  simp only [h, h', hQE, ← EReal.coe_mul, coe_sum]
  rfl

theorem dkd_real {q : ℕ → Fin 128 → ℝ} (hV : ∀ (i : Fin 128) (j : Fin 256), V (ix2 i j) = ((hv x (T + i.val) j : ℝ) : EReal))
    (hD : ∀ (j : Fin 256) (d : Fin 128), D (ix2 j d) = ((dstate q g w (T + 128) j d : ℝ) : EReal)) (i d : Fin 128) :
    k0_pay35 (F := Ideal) V D (ix2 i d) = ((cDkd q g (hv x) w T i.val d : ℝ) : EReal) := by
  have h := vb_read (V := V)
  unfold k0_pay35
  generalize k0_pay29 (F := Ideal) V = V' at h
  pointwise
  simp only [h, hV, hD, ← EReal.coe_mul, coe_sum]
  rfl

end Grad

end Cert.Gla

end
-- ==== Proof.Gla.Step.lean ====
/- One grid step of the kernel, one head: the four arrays it writes, from what it reads, and their entries. -/
module

public import proofs.«01_k».proof.Proof.Gla.Tile

@[expose] public section

noncomputable section

namespace Cert.Gla

open Finset Idealize.ShloMosaic Cert.KernelIdeal Cert.KernelIdeal.Gen

section Grad

variable {q k g : ℕ → Fin 128 → ℝ} {x : ℕ → Fin 768 → ℝ} {w : ℕ → Fin 256 → ℝ} {T : ℕ}
  {V : Vec Ideal S128x256 .f32} {EB ENB EBL KE KD QE AT : Vec Ideal S128x128 .f32} {S D : Vec Ideal S256x128 .f32} {BL : Vec Ideal S1x128 .f32}
  {N : Vec Ideal S1x256 .f32} {P : Vec Ideal S128x1 .f32} {X Y : Vec Ideal S128x256 .f32}

theorem dq_real (hV : ∀ (i : Fin 128) (j : Fin 256), V (ix2 i j) = ((hv x (T + i.val) j : ℝ) : EReal))
    (hEB : ∀ i d : Fin 128, EB (ix2 i d) = ((Real.exp (cum g T i.val d) : ℝ) : EReal))
    (hKE : ∀ i d : Fin 128, KE (ix2 i d) = ((ke k g T i.val d : ℝ) : EReal))
    (hS : ∀ (j : Fin 256) (d : Fin 128), S (ix2 j d) = ((state k g (hv x) T j d : ℝ) : EReal))
    (hW : ∀ (i : Fin 128) (j : Fin 256), k0_pay28 (F := Ideal) N P X Y (ix2 i j) = ((w (T + i.val) j : ℝ) : EReal))
    (hT : T + 128 ≤ 8320) (i d : Fin 128) :
    k0_pay36 (F := Ideal) V EB KE k0_pay17 S N P X Y (ix2 i d) = ((gradQ k g (hv x) w (T + i.val) d * cs : ℝ) : EReal) := by
  have h := dqe_real hV hKE hS hW
  unfold k0_pay36
  generalize k0_pay33 (F := Ideal) V KE k0_pay17 S N P X Y = DQE at h
  pointwise
  rw [h, hEB, word_cs, ← EReal.coe_mul, ← EReal.coe_mul, gradQ_eq k g (hv x) w T hT i.val i.isLt d]

theorem dk_real (hV : ∀ (i : Fin 128) (j : Fin 256), V (ix2 i j) = ((hv x (T + i.val) j : ℝ) : EReal))
    (hENB : ∀ i d : Fin 128, ENB (ix2 i d) = ((Real.exp (-cum g T i.val d) : ℝ) : EReal))
    (hEBL : ∀ i d : Fin 128, EBL (ix2 i d) = ((Real.exp (tot g T d - cum g T i.val d) : ℝ) : EReal))
    (hQE : ∀ i d : Fin 128, QE (ix2 i d) = ((qe q g T i.val d : ℝ) : EReal))
    (hD : ∀ (j : Fin 256) (d : Fin 128), D (ix2 j d) = ((dstate q g w (T + 128) j d : ℝ) : EReal))
    (hW : ∀ (i : Fin 128) (j : Fin 256), k0_pay28 (F := Ideal) N P X Y (ix2 i j) = ((w (T + i.val) j : ℝ) : EReal))
    (hT : T + 128 ≤ 8320) (i d : Fin 128) :
    k0_pay37 (F := Ideal) V ENB EBL QE k0_pay17 D N P X Y (ix2 i d) = ((gradK q g (hv x) w (T + i.val) d : ℝ) : EReal) := by
  have h := dke_real hV hQE hW
  have h' := dkd_real hV hD
  unfold k0_pay37
  generalize k0_pay34 (F := Ideal) V QE k0_pay17 N P X Y = DKE at h
  generalize k0_pay35 (F := Ideal) V D = DKD at h'
  pointwise
  rw [h, h', hENB, hEBL, ← EReal.coe_mul, ← EReal.coe_mul, ← EReal.coe_add, gradK_eq q g (hv x) w T hT i.val i.isLt d]

theorem dkdkd_real (hV : ∀ (i : Fin 128) (j : Fin 256), V (ix2 i j) = ((hv x (T + i.val) j : ℝ) : EReal))
    (hKD : ∀ i d : Fin 128, KD (ix2 i d) = ((kd k g T i.val d : ℝ) : EReal))
    (hD : ∀ (j : Fin 256) (d : Fin 128), D (ix2 j d) = ((dstate q g w (T + 128) j d : ℝ) : EReal)) (i d : Fin 128) :
    k0_pay38 (F := Ideal) V KD D (ix2 i d) = ((cDkd q g (hv x) w T i.val d * kd k g T i.val d : ℝ) : EReal) := by
  have h' := dkd_real hV hD
  unfold k0_pay38
  generalize k0_pay35 (F := Ideal) V D = DKD at h'
  pointwise
  rw [h', hKD, ← EReal.coe_mul]

theorem db_real (hV : ∀ (i : Fin 128) (j : Fin 256), V (ix2 i j) = ((hv x (T + i.val) j : ℝ) : EReal))
    (hQE : ∀ i d : Fin 128, QE (ix2 i d) = ((qe q g T i.val d : ℝ) : EReal))
    (hKE : ∀ i d : Fin 128, KE (ix2 i d) = ((ke k g T i.val d : ℝ) : EReal))
    (hKD : ∀ i d : Fin 128, KD (ix2 i d) = ((kd k g T i.val d : ℝ) : EReal))
    (hS : ∀ (j : Fin 256) (d : Fin 128), S (ix2 j d) = ((state k g (hv x) T j d : ℝ) : EReal))
    (hD : ∀ (j : Fin 256) (d : Fin 128), D (ix2 j d) = ((dstate q g w (T + 128) j d : ℝ) : EReal))
    (hW : ∀ (i : Fin 128) (j : Fin 256), k0_pay28 (F := Ideal) N P X Y (ix2 i j) = ((w (T + i.val) j : ℝ) : EReal))
    (i d : Fin 128) :
    k0_pay39 (F := Ideal) V QE KE KD k0_pay17 S D N P X Y (ix2 i d) = ((cDb q k g (hv x) w T i.val d : ℝ) : EReal) := by
  have h1 := dqe_real hV hKE hS hW
  have h2 := dke_real hV hQE hW
  have h3 := dkdkd_real hV hKD hD
  unfold k0_pay39
  generalize k0_pay33 (F := Ideal) V KE k0_pay17 S N P X Y = DQE at h1
  generalize k0_pay34 (F := Ideal) V QE k0_pay17 N P X Y = DKE at h2
  generalize k0_pay38 (F := Ideal) V KD D = DKD at h3
  pointwise
  rw [h1, h2, h3, hQE, hKE]
  simp only [← EReal.coe_mul, ← EReal.coe_sub]
  rfl

theorem dkdsum_real (hV : ∀ (i : Fin 128) (j : Fin 256), V (ix2 i j) = ((hv x (T + i.val) j : ℝ) : EReal))
    (hKD : ∀ i d : Fin 128, KD (ix2 i d) = ((kd k g T i.val d : ℝ) : EReal))
    (hD : ∀ (j : Fin 256) (d : Fin 128), D (ix2 j d) = ((dstate q g w (T + 128) j d : ℝ) : EReal)) (d : Fin 128) :
    k0_pay40 (F := Ideal) V KD D (ix1 d) = ((∑ i : Fin 128, cDkd q g (hv x) w T i.val d * kd k g T i.val d : ℝ) : EReal) := by
  have h3 := dkdkd_real hV hKD hD
  unfold k0_pay40
  generalize k0_pay38 (F := Ideal) V KD D = DKD at h3
  pointwise
  simp only [h3, coe_sum]

theorem dlog_real {DB : Vec Ideal S128x128 .f32} {SM : Vec Ideal S128 .f32}
    (hBL : ∀ d : Fin 128, BL (ix2 0 d) = ((tot g T d : ℝ) : EReal))
    (hS : ∀ (j : Fin 256) (d : Fin 128), S (ix2 j d) = ((state k g (hv x) T j d : ℝ) : EReal))
    (hD : ∀ (j : Fin 256) (d : Fin 128), D (ix2 j d) = ((dstate q g w (T + 128) j d : ℝ) : EReal))
    (hDB : ∀ i d : Fin 128, DB (ix2 i d) = ((cDb q k g (hv x) w T i.val d : ℝ) : EReal))
    (hSM : ∀ d : Fin 128, SM (ix1 d) = ((∑ i : Fin 128, cDkd q g (hv x) w T i.val d * kd k g T i.val d : ℝ) : EReal))
    (hT : T + 128 ≤ 8320) (i d : Fin 128) :
    k0_pay41 (F := Ideal) BL S D DB SM (ix2 i d) = ((gradG q k g (hv x) w (T + i.val) d : ℝ) : EReal) := by
  pointwise [k0_pay41]
  simp only [hBL, hS, hD, hDB, hSM, sel_ge (fin_small _) (fin_small _), ← EReal.coe_mul, coe_sum, exp_real, coe_ite_zero, ← EReal.coe_add]
  rw [← gradG_eq q k g (hv x) w T hT i.val i.isLt d]
  unfold cDg cLast
  simp only [ite_mul, one_mul, zero_mul]

theorem dst_real (hBL : ∀ d : Fin 128, BL (ix2 0 d) = ((tot g T d : ℝ) : EReal))
    (hD : ∀ (j : Fin 256) (d : Fin 128), D (ix2 j d) = ((dstate q g w (T + 128) j d : ℝ) : EReal))
    {W : FVec Ideal S128x256 .bf16} {QB : FVec Ideal S128x128 .bf16}
    (hW : ∀ (i : Fin 128) (j : Fin 256), W (ix2 i j) = ((w (T + i.val) j : ℝ) : EReal))
    (hQ : ∀ i d : Fin 128, QB (ix2 i d) = ((qe q g T i.val d : ℝ) : EReal))
    (hT : T + 128 ≤ 8320) (j : Fin 256) (d : Fin 128) :
    k0_pay42 (F := Ideal) BL D W QB (ix3 0 j d) = ((dstate q g w T j d : ℝ) : EReal) := by
  pointwise [k0_pay42]
  simp only [hBL, hD, hW, hQ, ← EReal.coe_mul, coe_sum, exp_real, ← EReal.coe_add]
  rw [dstate_step q g w T hT]

end Grad

/-- Four arrays side by side: the columns of the first, then of the second, the third and the fourth. -/
theorem grp_read (R V : FVec Ideal S128x256 .f32) (Q K : FVec Ideal S128x128 .f32) (i : Fin 128) (c : Fin 768) :
    k0_pay43 (F := Ideal) R V Q K (ix2 i c)
      = if h : c.val < 128 then Q (ix2 i ⟨c.val, h⟩)
        else if h1 : c.val - 128 < 128 then K (ix2 i ⟨c.val - 128, h1⟩)
        else if h2 : c.val - 128 - 128 < 256 then V (ix2 i ⟨c.val - 128 - 128, h2⟩)
        else R (ix2 i ⟨c.val - 128 - 128 - 256, by omega⟩) := by
  pointwise [k0_pay43]

/-! ## The four arrays -/

section Arrays

variable (G : Vec Ideal S128x768 .f32) (L : Vec Ideal S128x128 .f32) (S : Vec Ideal S1x1x256x128 .f32) (D : Vec Ideal S1x256x128 .f32)
  (O Z : Vec Ideal S128x256 .f32) (N A : Vec Ideal S1x256 .f32)

/-- The gradient of the head's rows of the projection. -/
def tGrp : FVec Ideal S128x768 .bf16 :=
  k0_pay43 (k0_pay25 (k0_pay8 G) O Z N)
    (k0_pay32 (k0_pay16 G L) (k0_pay18 G L) (k0_pay20 D) N (k0_pay22 O) (k0_pay23 O) (k0_pay26 (k0_pay8 G) Z))
    (k0_pay36 (k0_pay7 G) (k0_pay11 L) (k0_pay15 G L) k0_pay17 (k0_pay19 S) N (k0_pay22 O) (k0_pay23 O) (k0_pay26 (k0_pay8 G) Z))
    (k0_pay37 (k0_pay7 G) (k0_pay12 L) (k0_pay13 L) (k0_pay14 G L) k0_pay17 (k0_pay20 D) N (k0_pay22 O) (k0_pay23 O) (k0_pay26 (k0_pay8 G) Z))

/-- The gradient of the norm weights so far. -/
def tGn : FVec Ideal S1x256 .f32 := k0_pay27 (k0_pay8 G) O Z A

/-- The gradient of the log gates. -/
def tLog : FVec Ideal S128x128 .f32 :=
  k0_pay41 (k0_pay10 L) (k0_pay19 S) (k0_pay20 D)
    (k0_pay39 (k0_pay7 G) (k0_pay14 G L) (k0_pay15 G L) (k0_pay16 G L) k0_pay17 (k0_pay19 S) (k0_pay20 D) N (k0_pay22 O) (k0_pay23 O)
      (k0_pay26 (k0_pay8 G) Z))
    (k0_pay40 (k0_pay7 G) (k0_pay16 G L) (k0_pay20 D))

/-- The gradient of the state before the chunk. -/
def tDst : FVec Ideal S1x256x128 .f32 :=
  k0_pay42 (k0_pay10 L) (k0_pay20 D) (k0_pay28 N (k0_pay22 O) (k0_pay23 O) (k0_pay26 (k0_pay8 G) Z)) (k0_pay30 (k0_pay14 G L))

end Arrays

/-- What a grid step reads, for one head: the chunk beginning at `T`. -/
structure Reads (x : ℕ → Fin 768 → ℝ) (g : ℕ → Fin 128 → ℝ) (n : Fin 256 → ℝ) (z : ℕ → Fin 256 → ℝ) (T : ℕ)
    (G : Vec Ideal S128x768 .f32) (L : Vec Ideal S128x128 .f32) (S : Vec Ideal S1x1x256x128 .f32) (D : Vec Ideal S1x256x128 .f32)
    (O Z : Vec Ideal S128x256 .f32) (N : Vec Ideal S1x256 .f32) : Prop where
  hT : T + 128 ≤ 8320
  hG : ∀ (i : Fin 128) (c : Fin 768), G (ix2 i c) = ((x (T + i.val) c : ℝ) : EReal)
  hL : ∀ (i d : Fin 128), L (ix2 i d) = ((g (T + i.val) d : ℝ) : EReal)
  hS : ∀ (j : Fin 256) (d : Fin 128), S (ix4 0 0 j d) = ((state (hk x) g (hv x) T j d : ℝ) : EReal)
  hD : ∀ (j : Fin 256) (d : Fin 128), D (ix3 0 j d) = ((dstate (hq x) g (hw x g n z) (T + 128) j d : ℝ) : EReal)
  hO : ∀ (i : Fin 128) (j : Fin 256), O (ix2 i j) = ((ho x g (T + i.val) j : ℝ) : EReal)
  hZ : ∀ (i : Fin 128) (j : Fin 256), Z (ix2 i j) = ((z (T + i.val) j : ℝ) : EReal)
  hN : ∀ j : Fin 256, N (ix2 0 j) = ((n j : ℝ) : EReal)

section Results

variable {x : ℕ → Fin 768 → ℝ} {g : ℕ → Fin 128 → ℝ} {n : Fin 256 → ℝ} {z : ℕ → Fin 256 → ℝ} {T : ℕ}
  {G : Vec Ideal S128x768 .f32} {L : Vec Ideal S128x128 .f32} {S : Vec Ideal S1x1x256x128 .f32} {D : Vec Ideal S1x256x128 .f32}
  {O Z : Vec Ideal S128x256 .f32} {N : Vec Ideal S1x256 .f32}

theorem w_real (h : Reads x g n z T G L S D O Z N) (i : Fin 128) (j : Fin 256) :
    k0_pay28 (F := Ideal) N (k0_pay22 O) (k0_pay23 O) (k0_pay26 (k0_pay8 G) Z) (ix2 i j) = ((hw x g n z (T + i.val) j : ℝ) : EReal) :=
  dob_real h.hN (rho_real h.hO) (xhat_real h.hO) (docn_real (r_real h.hG) h.hZ) i j

theorem tGrp_real (h : Reads x g n z T G L S D O Z N) (i : Fin 128) (c : Fin 768) :
    tGrp G L S D O Z N (ix2 i c) = ((hdx x g n z (T + i.val) c : ℝ) : EReal) := by
  have hS : ∀ (j : Fin 256) (d : Fin 128), k0_pay19 (F := Ideal) S (ix2 j d) = _ := fun j d => (st_read S j d).trans (h.hS j d)
  have hD : ∀ (j : Fin 256) (d : Fin 128), k0_pay20 (F := Ideal) D (ix2 j d) = _ := fun j d => (dst_read D j d).trans (h.hD j d)
  have e1 := dr_real (r_real h.hG) h.hO h.hZ h.hN
  have e2 := dv_real (kd_real h.hG h.hL) (att_real h.hG h.hL) hD (w_real h)
  have e3 := dq_real (v_real h.hG) (eb_real h.hL) (ke_real h.hG h.hL) hS (w_real h) h.hT
  have e4 := dk_real (v_real h.hG) (enb_real h.hL) (ebl_real h.hL) (qe_real h.hG h.hL) hD (w_real h) h.hT
  unfold tGrp
  rw [grp_read]
  unfold hdx
  split_ifs with h1 h2 h3
  · rw [e3]; rfl
  · rw [e4]; rfl
  · rw [e2, gradV_eq _ _ _ _ T h.hT i.val i.isLt]; rfl
  · rw [e1]

theorem tGn_real (h : Reads x g n z T G L S D O Z N) {A : Vec Ideal S1x256 .f32} {a : Fin 256 → ℝ}
    (hA : ∀ j : Fin 256, A (ix2 0 j) = ((a j : ℝ) : EReal)) (j : Fin 256) :
    tGn G O Z A (ix2 0 j) = ((a j + ∑ i : Fin 128, hdn x g z (T + i.val) j : ℝ) : EReal) :=
  dgn_real (r_real h.hG) h.hO h.hZ hA j

theorem tLog_real (h : Reads x g n z T G L S D O Z N) (i d : Fin 128) :
    tLog G L S D O Z N (ix2 i d) = ((hdg x g n z (T + i.val) d : ℝ) : EReal) := by
  have hS : ∀ (j : Fin 256) (d : Fin 128), k0_pay19 (F := Ideal) S (ix2 j d) = _ := fun j d => (st_read S j d).trans (h.hS j d)
  have hD : ∀ (j : Fin 256) (d : Fin 128), k0_pay20 (F := Ideal) D (ix2 j d) = _ := fun j d => (dst_read D j d).trans (h.hD j d)
  exact dlog_real (bl_real h.hL) hS hD
    (db_real (v_real h.hG) (qe_real h.hG h.hL) (ke_real h.hG h.hL) (kd_real h.hG h.hL) hS hD (w_real h))
    (dkdsum_real (v_real h.hG) (kd_real h.hG h.hL) hD) h.hT i d

theorem tDst_real (h : Reads x g n z T G L S D O Z N) (j : Fin 256) (d : Fin 128) :
    tDst G L D O Z N (ix3 0 j d) = ((dstate (hq x) g (hw x g n z) T j d : ℝ) : EReal) := by
  have hD : ∀ (j : Fin 256) (d : Fin 128), k0_pay20 (F := Ideal) D (ix2 j d) = _ := fun j d => (dst_read D j d).trans (h.hD j d)
  exact dst_real (bl_real h.hL) hD (w_real h) (fun i d => (qeb_read i d).trans (qe_real h.hG h.hL i d)) h.hT j d

end Results

end Cert.Gla

end
-- ==== Proof.Gla.Heads.lean ====
/- What one grid step leaves in its arrays, head by head. -/
module

public import proofs.«01_k».proof.Proof.Gen.KernelIdeal.Frame
public import proofs.«01_k».proof.Proof.Gla.Step
public import Idealize.ShloMosaic.Lib.Pipeline.Value
public import Idealize.ShloMosaic.Lib.Pipeline.CanonAppend

@[expose] public section

noncomputable section

namespace Cert.Gla

open Finset Idealize.ShloMosaic Cert.KernelIdeal Cert.KernelIdeal.Gen

/-! ## The heads' parts of the whole arrays -/

/-- Head `h`'s 768 columns of the grouped projection. -/
def xh (p : ℕ → ℕ → ℝ) (h : ℕ) (r : ℕ) (c : Fin 768) : ℝ := p r (768 * h + c.val)
/-- Head `h`'s log gates. -/
def gh (p : ℕ → ℕ → ℝ) (h : ℕ) (r : ℕ) (d : Fin 128) : ℝ := p r (128 * h + d.val)
/-- Head `h`'s norm weights. -/
def nh (p : ℕ → ℝ) (h : ℕ) (j : Fin 256) : ℝ := p (256 * h + j.val)
/-- Head `h`'s part of the gradient of the output. -/
def zh (p : ℕ → ℕ → ℝ) (h : ℕ) (r : ℕ) (j : Fin 256) : ℝ := p r (256 * h + j.val)

/-- Every head's gradient of the grouped projection, by row and column. -/
def wX (px pg : ℕ → ℕ → ℝ) (pn : ℕ → ℝ) (pz : ℕ → ℕ → ℝ) (r c : ℕ) : ℝ :=
  hdx (xh px (c / 768)) (gh pg (c / 768)) (nh pn (c / 768)) (zh pz (c / 768)) r ⟨c % 768, Nat.mod_lt _ (by norm_num)⟩
/-- Every head's gradient of the log gates, by row and column. -/
def wG (px pg : ℕ → ℕ → ℝ) (pn : ℕ → ℝ) (pz : ℕ → ℕ → ℝ) (r c : ℕ) : ℝ :=
  hdg (xh px (c / 128)) (gh pg (c / 128)) (nh pn (c / 128)) (zh pz (c / 128)) r ⟨c % 128, Nat.mod_lt _ (by norm_num)⟩
/-- A row's part of the gradient of the norm weights, by column. -/
def wN (px pg pz : ℕ → ℕ → ℝ) (r c : ℕ) : ℝ :=
  hdn (xh px (c / 256)) (gh pg (c / 256)) (zh pz (c / 256)) r ⟨c % 256, Nat.mod_lt _ (by norm_num)⟩
/-- Every head's gradient of the state before row `T`. -/
def wD (px pg : ℕ → ℕ → ℝ) (pn : ℕ → ℝ) (pz : ℕ → ℕ → ℝ) (T h : ℕ) (j : Fin 256) (d : Fin 128) : ℝ :=
  dstate (hq (xh px h)) (gh pg h) (hw (xh px h) (gh pg h) (nh pn h) (zh pz h)) T j d
/-- Every head's state before row `T`. -/
def wS (px pg : ℕ → ℕ → ℝ) (T h : ℕ) (j : Fin 256) (d : Fin 128) : ℝ :=
  state (hk (xh px h)) (gh pg h) (hv (xh px h)) T j d
/-- Every head's output of the recurrence, by row and column. -/
def wO (px pg : ℕ → ℕ → ℝ) (r c : ℕ) : ℝ :=
  ho (xh px (c / 256)) (gh pg (c / 256)) r ⟨c % 256, Nat.mod_lt _ (by norm_num)⟩

/-- What a grid step reads from its windows: the chunk beginning at row `T`. -/
structure Wins (px pg : ℕ → ℕ → ℝ) (pn : ℕ → ℝ) (pz : ℕ → ℕ → ℝ) (T : ℕ) (X : Vec Ideal S128x3072 .f32) (L : Vec Ideal S128x512 .f32)
    (S : Vec Ideal S4x1x256x128 .f32) (O Z : Vec Ideal S128x1024 .f32) (N : Vec Ideal S1x1024 .f32) : Prop where
  hT : T + 128 ≤ 8320
  hX : ∀ (i : Fin 128) (c : Fin 3072), X (ix2 i c) = ((px (T + i.val) c.val : ℝ) : EReal)
  hL : ∀ (i : Fin 128) (c : Fin 512), L (ix2 i c) = ((pg (T + i.val) c.val : ℝ) : EReal)
  hS : ∀ (h : Fin 4) (j : Fin 256) (d : Fin 128), S (ix4 h 0 j d) = ((wS px pg T h.val j d : ℝ) : EReal)
  hO : ∀ (i : Fin 128) (c : Fin 1024), O (ix2 i c) = ((wO px pg (T + i.val) c.val : ℝ) : EReal)
  hZ : ∀ (i : Fin 128) (c : Fin 1024), Z (ix2 i c) = ((pz (T + i.val) c.val : ℝ) : EReal)
  hN : ∀ c : Fin 1024, N (ix2 0 c) = ((pn c.val : ℝ) : EReal)

/-! ## Loads of a head's rectangle -/

section Loads

variable {α : EltTy}

theorem ld_cols {R C B o : ℕ} (X : (⟨2, ![R, C]⟩ : Shape).Idx → Elt Ideal α) (inb : ∀ a, (![0, o] : Fin 2 → ℕ) a + (![R, B] : Fin 2 → ℕ) a ≤ (⟨2, ![R, C]⟩ : Shape).size a)
    (i : Fin R) (c : Fin B) (h : o + c.val < C) :
    View.ld (S := ⟨2, ![R, C]⟩) X (Rect.unit ![0, o] ![R, B] inb) (ix2 i c) = X (ix2 i ⟨o + c.val, h⟩) := by
  refine congrArg X (funext fun a => Fin.ext ?_)
  fin_cases a
  · show 0 + 1 * i.val = i.val; omega
  · show o + 1 * c.val = o + c.val; omega

end Loads

variable {px pg : ℕ → ℕ → ℝ} {pn : ℕ → ℝ} {pz : ℕ → ℕ → ℝ} {T : ℕ} {X : Vec Ideal S128x3072 .f32} {L : Vec Ideal S128x512 .f32}
  {S : Vec Ideal S4x1x256x128 .f32} {O Z : Vec Ideal S128x1024 .f32} {N : Vec Ideal S1x1024 .f32}

theorem wO_head (h r : ℕ) (j : Fin 256) : wO px pg r (256 * h + j.val) = ho (xh px h) (gh pg h) r j := by
  have e : (256 * h + j.val) / 256 = h := by omega
  have e' : (256 * h + j.val) % 256 = j.val := by omega
  unfold wO
  simp only [e, e']

theorem wN_head (h r : ℕ) (j : Fin 256) : wN px pg pz r (256 * h + j.val) = hdn (xh px h) (gh pg h) (zh pz h) r j := by
  have e : (256 * h + j.val) / 256 = h := by omega
  have e' : (256 * h + j.val) % 256 = j.val := by omega
  unfold wN
  simp only [e, e']

theorem wG_head (h r : ℕ) (j : Fin 128) : wG px pg pn pz r (128 * h + j.val) = hdg (xh px h) (gh pg h) (nh pn h) (zh pz h) r j := by
  have e : (128 * h + j.val) / 128 = h := by omega
  have e' : (128 * h + j.val) % 128 = j.val := by omega
  unfold wG
  simp only [e, e']

theorem wX_head (h r : ℕ) (j : Fin 768) : wX px pg pn pz r (768 * h + j.val) = hdx (xh px h) (gh pg h) (nh pn h) (zh pz h) r j := by
  have e : (768 * h + j.val) / 768 = h := by omega
  have e' : (768 * h + j.val) % 768 = j.val := by omega
  unfold wX
  simp only [e, e']

/-- A head's loads read its rows. -/
theorem Wins.reads (w : Wins px pg pn pz T X L S O Z N) (h : ℕ) (hh : h < 4) {o1 o2 o3 : ℕ} (e1 : o1 = 768 * h) (e2 : o2 = 128 * h)
    (e3 : o3 = 256 * h) (i1 i2 i3 i4 i5 i6) {D : Vec Ideal S1x256x128 .f32}
    (hD : ∀ (j : Fin 256) (d : Fin 128), D (ix3 0 j d) = ((wD px pg pn pz (T + 128) h j d : ℝ) : EReal)) :
    Reads (xh px h) (gh pg h) (nh pn h) (zh pz h) T (View.ld (S := S128x3072) X (Rect.unit ![0, o1] ![128, 768] i1))
      (View.ld (S := S128x512) L (Rect.unit ![0, o2] ![128, 128] i2)) (View.ld (S := S4x1x256x128) S (Rect.unit ![h, 0, 0, 0] ![1, 1, 256, 128] i3)) D
      (View.ld (S := S128x1024) O (Rect.unit ![0, o3] ![128, 256] i4)) (View.ld (S := S128x1024) Z (Rect.unit ![0, o3] ![128, 256] i5))
      (View.ld (S := S1x1024) N (Rect.unit ![0, o3] ![1, 256] i6)) := by
  subst e1 e2 e3
  refine ⟨w.hT, fun i c => ?_, fun i d => ?_, fun j d => ?_, hD, fun i j => ?_, fun i j => ?_, fun j => ?_⟩
  · rw [ld_cols X i1 i c (by omega), w.hX]; rfl
  · rw [ld_cols L i2 i d (by omega), w.hL]; rfl
  · refine Eq.trans (congrArg S (funext fun a => Fin.ext ?_)) (w.hS ⟨h, hh⟩ j d)
    fin_cases a
    · show h + 1 * 0 = h; omega
    · show 0 + 1 * 0 = 0; omega
    · show 0 + 1 * j.val = j.val; omega
    · show 0 + 1 * d.val = d.val; omega
  · rw [ld_cols O i4 i j (by omega), w.hO, wO_head]
  · rw [ld_cols Z i5 i j (by omega), w.hZ]; rfl
  · rw [ld_cols N i6 0 j (by omega), w.hN]; rfl

/-! ## A head's stores, as parts of the whole arrays -/

theorem piece_cols {α : EltTy} {R C B o : ℕ} {W : (⟨2, ![R, B]⟩ : Shape).Idx → Elt Ideal α} (F : ℕ → ℕ → Elt Ideal α)
    (hW : ∀ (i : Fin R) (c : Fin B), W (ix2 i c) = F i.val (o + c.val)) (inb) (x : (⟨2, ![R, B]⟩ : Shape).Idx) :
    W x = F ((((Rect.unit (s := ⟨2, ![R, C]⟩) ![0, o] ![R, B] inb).emb x) 0).val) ((((Rect.unit (s := ⟨2, ![R, C]⟩) ![0, o] ![R, B] inb).emb x) 1).val) := by
  have e0 : (((Rect.unit (s := ⟨2, ![R, C]⟩) ![0, o] ![R, B] inb).emb x) 0).val = (x 0).val := by
    show 0 + 1 * (x 0).val = (x 0).val; omega
  have e1 : (((Rect.unit (s := ⟨2, ![R, C]⟩) ![0, o] ![R, B] inb).emb x) 1).val = o + (x 1).val := by
    show o + 1 * (x 1).val = o + (x 1).val; omega
  rw [e0, e1, ← hW (x 0) (x 1)]
  exact congrArg W (funext fun a => by fin_cases a <;> rfl)

theorem piece_dst {h : ℕ} {W : S1x256x128.Idx → Elt Ideal .f32} (F : ℕ → Fin 256 → Fin 128 → Elt Ideal .f32)
    (hW : ∀ (j : Fin 256) (d : Fin 128), W (ix3 0 j d) = F h j d) (inb) (x : S1x256x128.Idx) :
    W x = F ((((Rect.unit (s := S4x256x128) ![h, 0, 0] ![1, 256, 128] inb).emb x) 0).val) (((Rect.unit (s := S4x256x128) ![h, 0, 0] ![1, 256, 128] inb).emb x) 1)
      (((Rect.unit (s := S4x256x128) ![h, 0, 0] ![1, 256, 128] inb).emb x) 2) := by
  have e0 : (((Rect.unit (s := S4x256x128) ![h, 0, 0] ![1, 256, 128] inb).emb x) 0).val = h := by
    have := (x 0).isLt
    show h + 1 * (x 0).val = h
    have h0 : (x 0).val < 1 := (x 0).isLt
    omega
  have e1 : (((Rect.unit (s := S4x256x128) ![h, 0, 0] ![1, 256, 128] inb).emb x) 1) = x 1 := Fin.ext (by
    show 0 + 1 * (x 1).val = (x 1).val; omega)
  have e2 : (((Rect.unit (s := S4x256x128) ![h, 0, 0] ![1, 256, 128] inb).emb x) 2) = x 2 := Fin.ext (by
    show 0 + 1 * (x 2).val = (x 2).val; omega)
  rw [e0, e1, e2, ← hW (x 1) (x 2)]
  refine congrArg W (funext fun a => ?_)
  fin_cases a
  · exact Fin.ext (by have h0 : (x 0).val < 1 := (x 0).isLt; show (x 0).val = 0; omega)
  · rfl
  · rfl

/-! ## Loads of what the step itself zeroed -/

theorem skip_dst {sig : RefSig} {κ : Kind} {sp : Space} (v : View sig κ sp S4x256x128 .f32) {a b : ℕ} (hab : a ≠ b) (i1 i2) (w)
    (l : List (View.Piece (Elt Ideal) S4x256x128 .f32)) :
    v.readCov (Val := Elt Ideal) (⟨Rect.unit ![b, 0, 0] ![1, 256, 128] i1, w⟩ :: l) (Rect.unit ![a, 0, 0] ![1, 256, 128] i2).toLoadRect
      = v.readCov l (Rect.unit ![a, 0, 0] ![1, 256, 128] i2).toLoadRect := by
  rw [View.readCov_eq_canon', View.readCov_eq_canon']
  funext x
  refine View.canon_cons_of_not_mem _ _ fun hm => ?_
  rw [Rect.mem_set_unit] at hm
  have h0 := hm 0
  have hx : (x 0).val < 1 := (x 0).isLt
  have e : (((Rect.unit (s := S4x256x128) ![a, 0, 0] ![1, 256, 128] i2).toLoadRect.idx x) 0).val = a + 1 * (x 0).val := rfl
  rw [e] at h0
  have h1 : b ≤ a + 1 * (x 0).val := h0.1
  have h2 : a + 1 * (x 0).val < b + 1 := h0.2
  omega

theorem skip_gn {sig : RefSig} {κ : Kind} {sp : Space} (v : View sig κ sp S1x1024 .f32) {a b : ℕ} (hab : b + 256 ≤ a) (i1 i2) (w)
    (l : List (View.Piece (Elt Ideal) S1x1024 .f32)) :
    v.readCov (Val := Elt Ideal) (⟨Rect.unit ![0, b] ![1, 256] i1, w⟩ :: l) (Rect.unit ![0, a] ![1, 256] i2).toLoadRect
      = v.readCov l (Rect.unit ![0, a] ![1, 256] i2).toLoadRect := by
  rw [View.readCov_eq_canon', View.readCov_eq_canon']
  funext x
  refine View.canon_cons_of_not_mem _ _ fun hm => ?_
  rw [Rect.mem_set_unit] at hm
  have h0 := hm 1
  have e : (((Rect.unit (s := S1x1024) ![0, a] ![1, 256] i2).toLoadRect.idx x) 1).val = a + 1 * (x 1).val := rfl
  rw [e] at h0
  have h2 : a + 1 * (x 1).val < b + 256 := h0.2
  omega

theorem zero_dst {sig : RefSig} {κ : Kind} {sp : Space} (v : View sig κ sp S4x256x128 .f32) {a : ℕ} (i1 i2) :
    v.readCov (Val := Elt Ideal) [⟨Rect.unit ![0, 0, 0] ![4, 256, 128] i1, k0_pay4 (F := Ideal)⟩] (Rect.unit ![a, 0, 0] ![1, 256, 128] i2).toLoadRect
      = fun _ => (0 : EReal) := by
  rw [View.readCov_eq_canon', View.canon_unit_zero (by funext a; fin_cases a <;> rfl)]
  funext x
  unfold k0_pay4
  pointwise

theorem zero_gn {sig : RefSig} {κ : Kind} {sp : Space} (v : View sig κ sp S1x1024 .f32) {a : ℕ} (i1 i2) :
    v.readCov (Val := Elt Ideal) [⟨Rect.unit ![0, 0] ![1, 1024] i1, k0_pay5 (F := Ideal)⟩] (Rect.unit ![0, a] ![1, 256] i2).toLoadRect
      = fun _ => (0 : EReal) := by
  rw [View.readCov_eq_canon', View.canon_unit_zero (by funext a; fin_cases a <;> rfl)]
  funext x
  unfold k0_pay5
  pointwise

theorem zero_real {a : ℝ} (h : a = 0) : (0 : EReal) = ((a : ℝ) : EReal) := by rw [h]; rfl

theorem ld_dst {D : Vec Ideal S4x256x128 .f32} {f : ℕ → Fin 256 → Fin 128 → ℝ}
    (hD : ∀ (h : Fin 4) (j : Fin 256) (d : Fin 128), D (ix3 h j d) = ((f h.val j d : ℝ) : EReal)) (h : ℕ) (hh : h < 4) (inb) (j : Fin 256) (d : Fin 128) :
    View.ld (S := S4x256x128) D (Rect.unit ![h, 0, 0] ![1, 256, 128] inb) (ix3 0 j d) = ((f h j d : ℝ) : EReal) := by
  refine Eq.trans (congrArg D (funext fun a => Fin.ext ?_)) (hD ⟨h, hh⟩ j d)
  fin_cases a
  · show h + 1 * 0 = h; omega
  · show 0 + 1 * j.val = j.val; omega
  · show 0 + 1 * d.val = d.val; omega

theorem ld_gn {P : Vec Ideal S1x1024 .f32} {p : ℕ → ℝ} (hP : ∀ c : Fin 1024, P (ix2 0 c) = ((p c.val : ℝ) : EReal)) (o : ℕ) (ho : o + 256 ≤ 1024)
    (inb) (j : Fin 256) : View.ld (S := S1x1024) P (Rect.unit ![0, o] ![1, 256] inb) (ix2 0 j) = ((p (o + j.val) : ℝ) : EReal) := by
  rw [ld_cols P inb 0 j (by omega), hP]

theorem wN_head_at (h o : ℕ) (e : o = 256 * h) (r : ℕ) (j : Fin 256) : wN px pg pz r (o + j.val) = hdn (xh px h) (gh pg h) (zh pz h) r j :=
  e ▸ wN_head h r j
theorem wG_head_at (h o : ℕ) (e : o = 128 * h) (r : ℕ) (j : Fin 128) :
    wG px pg pn pz r (o + j.val) = hdg (xh px h) (gh pg h) (nh pn h) (zh pz h) r j := e ▸ wG_head h r j
theorem wX_head_at (h o : ℕ) (e : o = 768 * h) (r : ℕ) (j : Fin 768) :
    wX px pg pn pz r (o + j.val) = hdx (xh px h) (gh pg h) (nh pn h) (zh pz h) r j := e ▸ wX_head h r j

/-- The four heads' reads where nothing is carried. -/
def Wins.four_zero (w : Wins px pg pn pz T X L S O Z N) (hD : ∀ (h : ℕ) (j : Fin 256) (d : Fin 128), wD px pg pn pz (T + 128) h j d = 0) := (And.intro (w.reads 0 (by norm_num) (o1 := 0) (o2 := 0) (o3 := 0) rfl rfl rfl inb_S128x3072_S128x768_0_0 inb_S128x512_S128x128_0_0 inb_S4x1x256x128_S1x1x256x128_0_0_0_0 inb_S128x1024_S128x256_0_0 inb_S128x1024_S128x256_0_0 inb_S1x1024_S1x256_0_0 (D := fun _ => (0 : EReal)) (fun j d => zero_real (hD 0 j d))) (And.intro (w.reads 1 (by norm_num) (o1 := 768) (o2 := 128) (o3 := 256) rfl rfl rfl inb_S128x3072_S128x768_0_768 inb_S128x512_S128x128_0_128 inb_S4x1x256x128_S1x1x256x128_1_0_0_0 inb_S128x1024_S128x256_0_256 inb_S128x1024_S128x256_0_256 inb_S1x1024_S1x256_0_256 (D := fun _ => (0 : EReal)) (fun j d => zero_real (hD 1 j d))) (And.intro (w.reads 2 (by norm_num) (o1 := 1536) (o2 := 256) (o3 := 512) rfl rfl rfl inb_S128x3072_S128x768_0_1536 inb_S128x512_S128x128_0_256 inb_S4x1x256x128_S1x1x256x128_2_0_0_0 inb_S128x1024_S128x256_0_512 inb_S128x1024_S128x256_0_512 inb_S1x1024_S1x256_0_512 (D := fun _ => (0 : EReal)) (fun j d => zero_real (hD 2 j d))) (w.reads 3 (by norm_num) (o1 := 2304) (o2 := 384) (o3 := 768) rfl rfl rfl inb_S128x3072_S128x768_0_2304 inb_S128x512_S128x128_0_384 inb_S4x1x256x128_S1x1x256x128_3_0_0_0 inb_S128x1024_S128x256_0_768 inb_S128x1024_S128x256_0_768 inb_S1x1024_S1x256_0_768 (D := fun _ => (0 : EReal)) (fun j d => zero_real (hD 3 j d))))))
/-- The four heads' reads. -/
def Wins.four (w : Wins px pg pn pz T X L S O Z N) {D : Vec Ideal S4x256x128 .f32} (hD : ∀ (h : Fin 4) (j : Fin 256) (d : Fin 128), D (ix3 h j d) = ((wD px pg pn pz (T + 128) h.val j d : ℝ) : EReal)) := (And.intro (w.reads 0 (by norm_num) (o1 := 0) (o2 := 0) (o3 := 0) rfl rfl rfl inb_S128x3072_S128x768_0_0 inb_S128x512_S128x128_0_0 inb_S4x1x256x128_S1x1x256x128_0_0_0_0 inb_S128x1024_S128x256_0_0 inb_S128x1024_S128x256_0_0 inb_S1x1024_S1x256_0_0 (ld_dst hD 0 (by norm_num) inb_S4x256x128_S1x256x128_0_0_0)) (And.intro (w.reads 1 (by norm_num) (o1 := 768) (o2 := 128) (o3 := 256) rfl rfl rfl inb_S128x3072_S128x768_0_768 inb_S128x512_S128x128_0_128 inb_S4x1x256x128_S1x1x256x128_1_0_0_0 inb_S128x1024_S128x256_0_256 inb_S128x1024_S128x256_0_256 inb_S1x1024_S1x256_0_256 (ld_dst hD 1 (by norm_num) inb_S4x256x128_S1x256x128_1_0_0)) (And.intro (w.reads 2 (by norm_num) (o1 := 1536) (o2 := 256) (o3 := 512) rfl rfl rfl inb_S128x3072_S128x768_0_1536 inb_S128x512_S128x128_0_256 inb_S4x1x256x128_S1x1x256x128_2_0_0_0 inb_S128x1024_S128x256_0_512 inb_S128x1024_S128x256_0_512 inb_S1x1024_S1x256_0_512 (ld_dst hD 2 (by norm_num) inb_S4x256x128_S1x256x128_2_0_0)) (w.reads 3 (by norm_num) (o1 := 2304) (o2 := 384) (o3 := 768) rfl rfl rfl inb_S128x3072_S128x768_0_2304 inb_S128x512_S128x128_0_384 inb_S4x1x256x128_S1x1x256x128_3_0_0_0 inb_S128x1024_S128x256_0_768 inb_S128x1024_S128x256_0_768 inb_S1x1024_S1x256_0_768 (ld_dst hD 3 (by norm_num) inb_S4x256x128_S1x256x128_3_0_0)))))
/-- Loads that pass over stores elsewhere. -/
def skip_d {sig : RefSig} {κ : Kind} {sp : Space} (v : View sig κ sp S4x256x128 .f32) := (And.intro (skip_dst v (by norm_num : (1 : ℕ) ≠ 0)) (And.intro (skip_dst v (by norm_num : (2 : ℕ) ≠ 0)) (And.intro (skip_dst v (by norm_num : (2 : ℕ) ≠ 1)) (And.intro (skip_dst v (by norm_num : (3 : ℕ) ≠ 0)) (And.intro (skip_dst v (by norm_num : (3 : ℕ) ≠ 1)) (skip_dst v (by norm_num : (3 : ℕ) ≠ 2)))))))
/-- The same for the gradient of the norm weights. -/
def skip_g {sig : RefSig} {κ : Kind} {sp : Space} (v : View sig κ sp S1x1024 .f32) := (And.intro (skip_gn v (by norm_num : 0 + 256 ≤ 256)) (And.intro (skip_gn v (by norm_num : 0 + 256 ≤ 512)) (And.intro (skip_gn v (by norm_num : 256 + 256 ≤ 512)) (And.intro (skip_gn v (by norm_num : 0 + 256 ≤ 768)) (And.intro (skip_gn v (by norm_num : 256 + 256 ≤ 768)) (skip_gn v (by norm_num : 512 + 256 ≤ 768)))))))

end Cert.Gla

end
-- ==== Proof.Gla.Blocks.lean ====
/- What a grid step reads: the windows' blocks at coordinates. Step `t` works on the chunk of rows that begins at row
   `128 * (64 - t)`, so the steps go from the last chunk to the first. -/
module

public import proofs.«01_k».proof.Proof.Gla.Heads

@[expose] public section

noncomputable section

namespace Cert.Gla

open Finset Idealize.ShloMosaic Idealize.ShloMosaic.TcCoe Cert.KernelIdeal Cert.KernelIdeal.Gen

/-- What the arrays hold when the grid starts: the arguments, the states before the chunks and the outputs of the
    recurrence, all real. -/
structure Entry (m : (ℓ : Loc nD τ Cert.KernelIdeal.sig) → Buf (Elt Ideal) ℓ) (c : Dev nD) (px pg : ℕ → ℕ → ℝ) (pn : ℕ → ℝ) (pz : ℕ → ℕ → ℝ) : Prop where
  hX : ∀ (i : S8320x13312.Idx) (r k : ℕ), (i 0).val = r → (i 1).val = 3072 + k → k < 3072 → V m c main_arg0 i = ((px r k : ℝ) : EReal)
  hL : ∀ (i : S8320x512.Idx) (r k : ℕ), (i 0).val = r → (i 1).val = k → V m c main_arg1 i = ((pg r k : ℝ) : EReal)
  hS : ∀ (i : S4x65x256x128.Idx) (h n : ℕ) (j : Fin 256) (d : Fin 128), (i 0).val = h → (i 1).val = n → (i 2).val = j.val → (i 3).val = d.val →
    V m c main_v55 i = ((wS px pg (128 * n) h j d : ℝ) : EReal)
  hO : ∀ (i : S8320x1024.Idx) (r k : ℕ), (i 0).val = r → (i 1).val = k → V m c main_v56 i = ((wO px pg r k : ℝ) : EReal)
  hZ : ∀ (i : S8320x1024.Idx) (r k : ℕ), (i 0).val = r → (i 1).val = k → V m c main_arg3 i = ((pz r k : ℝ) : EReal)
  hN : ∀ (i : S1x1024.Idx) (k : ℕ), (i 1).val = k → V m c main_arg2 i = ((pn k : ℝ) : EReal)

theorem index0 : ∀ t : Fin cfg0.N, win0_0.index t 0 = 64 - t.val ∧ win0_0.index t 1 = 1 :=
  (by change ∀ t : Fin grid0.N, _; decide +kernel)
theorem index1 : ∀ t : Fin cfg0.N, win0_1.index t 0 = 64 - t.val ∧ win0_1.index t 1 = 0 :=
  (by change ∀ t : Fin grid0.N, _; decide +kernel)
theorem index2 : ∀ t : Fin cfg0.N, win0_2.index t 0 = 0 ∧ win0_2.index t 1 = 64 - t.val ∧ win0_2.index t 2 = 0 ∧ win0_2.index t 3 = 0 :=
  (by change ∀ t : Fin grid0.N, _; decide +kernel)
theorem index3 : ∀ t : Fin cfg0.N, win0_3.index t 0 = 64 - t.val ∧ win0_3.index t 1 = 0 :=
  (by change ∀ t : Fin grid0.N, _; decide +kernel)
theorem index4 : ∀ t : Fin cfg0.N, win0_4.index t 0 = 64 - t.val ∧ win0_4.index t 1 = 0 :=
  (by change ∀ t : Fin grid0.N, _; decide +kernel)
theorem index5 : ∀ t : Fin cfg0.N, win0_5.index t 0 = 0 ∧ win0_5.index t 1 = 0 :=
  (by change ∀ t : Fin grid0.N, _; decide +kernel)
theorem index6 : ∀ t : Fin cfg0.N, win0_6.index t 0 = 64 - t.val ∧ win0_6.index t 1 = 2 :=
  (by change ∀ t : Fin grid0.N, _; decide +kernel)
theorem index7 : ∀ t : Fin cfg0.N, win0_7.index t 0 = 64 - t.val ∧ win0_7.index t 1 = 0 :=
  (by change ∀ t : Fin grid0.N, _; decide +kernel)
theorem index8 : ∀ t : Fin cfg0.N, win0_8.index t 0 = 0 ∧ win0_8.index t 1 = 0 :=
  (by change ∀ t : Fin grid0.N, _; decide +kernel)

variable {m : (ℓ : Loc nD τ Cert.KernelIdeal.sig) → Buf (Elt Ideal) ℓ} {c : Dev nD} {px pg : ℕ → ℕ → ℝ} {pn : ℕ → ℝ} {pz : ℕ → ℕ → ℝ}

/-! ## A window's block is the array at the block's place -/

theorem read0 (A : S8320x13312.Idx → EReal) (t : Fin cfg0.N) (y) :
    ((cfg0.win 0).blk t).view.read (Elt Ideal) A y = A (((cfg0.win 0).blk t).view.emb y) := rfl
theorem read1 (A : S8320x512.Idx → EReal) (t : Fin cfg0.N) (y) :
    ((cfg0.win 1).blk t).view.read (Elt Ideal) A y = A (((cfg0.win 1).blk t).view.emb y) := rfl
theorem read2 (A : S4x65x256x128.Idx → EReal) (t : Fin cfg0.N) (y) :
    ((cfg0.win 2).blk t).view.read (Elt Ideal) A y = A (((cfg0.win 2).blk t).view.emb y) := rfl
theorem read3 (A : S8320x1024.Idx → EReal) (t : Fin cfg0.N) (y) :
    ((cfg0.win 3).blk t).view.read (Elt Ideal) A y = A (((cfg0.win 3).blk t).view.emb y) := rfl
theorem read4 (A : S8320x1024.Idx → EReal) (t : Fin cfg0.N) (y) :
    ((cfg0.win 4).blk t).view.read (Elt Ideal) A y = A (((cfg0.win 4).blk t).view.emb y) := rfl
theorem read5 (A : S1x1024.Idx → EReal) (t : Fin cfg0.N) (y) :
    ((cfg0.win 5).blk t).view.read (Elt Ideal) A y = A (((cfg0.win 5).blk t).view.emb y) := rfl

/-- The blocks step `t` reads, over the reals. -/
theorem Entry.wins (e : Entry m c px pg pn pz) (t : Fin cfg0.N) :
    Wins px pg pn pz (128 * (64 - t.val)) (X0_0 m c t) (iblk m c 1 t) (iblk m c 2 t) (iblk m c 3 t) (iblk m c 4 t) (iblk m c 5 t) where
  hT := by omega
  hX := fun i k => by
    have h : X0_0 m c t (ix2 i k) = iblk m c 0 t (fun a => ⟨((ix2 i k : S128x3072.Idx) a).val, lt_of_lt_of_eq ((ix2 i k : S128x3072.Idx) a).isLt (xsize0_0 t a).symm⟩) := by
      unfold X0_0 Pipeline.Window.fill
      rw [dif_pos (moved0_0 t _)]
    rw [h]
    obtain ⟨e0, e1⟩ := index0 t
    refine (read0 _ t _).trans (e.hX (((cfg0.win 0).blk t).view.emb _) _ _ ?_ ?_ k.isLt)
    · show win0_0.index t 0 * 128 + 1 * i.val = _
      omega
    · show win0_0.index t 1 * 3072 + 1 * k.val = _
      omega
  hL := fun i k => by
    obtain ⟨e0, e1⟩ := index1 t
    refine (read1 _ t _).trans (e.hL (((cfg0.win 1).blk t).view.emb (ix2 i k : S128x512.Idx)) _ _ ?_ ?_)
    · show win0_1.index t 0 * 128 + 1 * i.val = _
      omega
    · show win0_1.index t 1 * 512 + 1 * k.val = _
      omega
  hS := fun h j d => by
    obtain ⟨e0, e1, e2, e3⟩ := index2 t
    refine (read2 _ t _).trans (e.hS (((cfg0.win 2).blk t).view.emb (ix4 h 0 j d : S4x1x256x128.Idx)) _ _ _ _ ?_ ?_ ?_ ?_)
    · show win0_2.index t 0 * 4 + 1 * h.val = _
      omega
    · show win0_2.index t 1 * 1 + 1 * 0 = _
      omega
    · show win0_2.index t 2 * 256 + 1 * j.val = _
      omega
    · show win0_2.index t 3 * 128 + 1 * d.val = _
      omega
  hO := fun i k => by
    obtain ⟨e0, e1⟩ := index3 t
    refine (read3 _ t _).trans (e.hO (((cfg0.win 3).blk t).view.emb (ix2 i k : S128x1024.Idx)) _ _ ?_ ?_)
    · show win0_3.index t 0 * 128 + 1 * i.val = _
      omega
    · show win0_3.index t 1 * 1024 + 1 * k.val = _
      omega
  hZ := fun i k => by
    obtain ⟨e0, e1⟩ := index4 t
    refine (read4 _ t _).trans (e.hZ (((cfg0.win 4).blk t).view.emb (ix2 i k : S128x1024.Idx)) _ _ ?_ ?_)
    · show win0_4.index t 0 * 128 + 1 * i.val = _
      omega
    · show win0_4.index t 1 * 1024 + 1 * k.val = _
      omega
  hN := fun k => by
    obtain ⟨e0, e1⟩ := index5 t
    refine (read5 _ t _).trans (e.hN (((cfg0.win 5).blk t).view.emb (ix2 0 k : S1x1024.Idx)) _ ?_)
    show win0_5.index t 1 * 1024 + 1 * k.val = _
    omega

end Cert.Gla

end
-- ==== Proof.Gla.CaseA6.lean ====
/- One grid step's array A 6 over the reals. -/
module

public import proofs.«01_k».proof.Proof.Gla.Heads

@[expose] public section

noncomputable section

namespace Cert.Gla

open Finset Idealize.ShloMosaic Cert.KernelIdeal Cert.KernelIdeal.Gen

variable {px pg : ℕ → ℕ → ℝ} {pn : ℕ → ℝ} {pz : ℕ → ℕ → ℝ} {T : ℕ} {X : Vec Ideal S128x3072 .f32} {L : Vec Ideal S128x512 .f32}
  {S : Vec Ideal S4x1x256x128 .f32} {O Z : Vec Ideal S128x1024 .f32} {N : Vec Ideal S1x1024 .f32}

/-- What the step leaves in the gradient of the projection, at the last chunk. -/
theorem out0_A_6_real (w : Wins px pg pn pz T X L S O Z N) (hD : ∀ (h : ℕ) (j : Fin 256) (d : Fin 128), wD px pg pn pz (T + 128) h j d = 0) (c : Dev nD) (t : Fin cfg0.N) (h0 : t.val % 65 = 0) (y : S128x3072.Idx) :
    out0_A_6 (F := Ideal) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) ((hcond0_0 t).mpr h0) X L S O Z N  y = ((wX px pg pn pz (T + (y 0).val) (y 1).val : ℝ) : EReal) := by
  unfold out0_A_6
  rw [View.read_writes_eq_canon _ _ _ (cover0_A_6 c _ _ _ _ _ _ _ _ _ _ _ _ _ _ _ _ _ _ _ _ _ _ _ _ _ _ _ _)]
  unfold kernelRun0_A
  dsimp only
  sl_unfold_words
  simp only [View.readAt_eq_ld, Memref.IsWhole.read_unread, skip_d, skip_g, zero_dst, zero_gn]
  obtain ⟨r0, r1, r2, r3⟩ := w.four_zero hD
  refine View.canon_apply_of_pieces (Val := Elt Ideal) (e := .bf16) (fun y : S128x3072.Idx => ((wX px pg pn pz (T + (y 0).val) (y 1).val : ℝ) : EReal)) _ ?_ y (View.cover_of_tiledL (s := S128x3072) _ S128x768.size (by sl_kernel_rfl) y)
  refine List.forall_mem_cons.2 ⟨?_, List.forall_mem_cons.2 ⟨?_, List.forall_mem_cons.2 ⟨?_, List.forall_mem_cons.2 ⟨?_, List.forall_mem_nil _⟩⟩⟩⟩
  · have q := piece_cols (α := .bf16) (R := 128) (C := 3072) (B := 768) (o := 2304) (fun r c => ((wX px pg pn pz (T + r) c : ℝ) : EReal)) (fun i c => (tGrp_real r3 i c).trans (congrArg _ (wX_head_at 3 2304 rfl _ c).symm)) inb_S128x3072_S128x768_0_2304
    exact q
  · have q := piece_cols (α := .bf16) (R := 128) (C := 3072) (B := 768) (o := 1536) (fun r c => ((wX px pg pn pz (T + r) c : ℝ) : EReal)) (fun i c => (tGrp_real r2 i c).trans (congrArg _ (wX_head_at 2 1536 rfl _ c).symm)) inb_S128x3072_S128x768_0_1536
    exact q
  · have q := piece_cols (α := .bf16) (R := 128) (C := 3072) (B := 768) (o := 768) (fun r c => ((wX px pg pn pz (T + r) c : ℝ) : EReal)) (fun i c => (tGrp_real r1 i c).trans (congrArg _ (wX_head_at 1 768 rfl _ c).symm)) inb_S128x3072_S128x768_0_768
    exact q
  · have q := piece_cols (α := .bf16) (R := 128) (C := 3072) (B := 768) (o := 0) (fun r c => ((wX px pg pn pz (T + r) c : ℝ) : EReal)) (fun i c => (tGrp_real r0 i c).trans (congrArg _ (wX_head_at 0 0 rfl _ c).symm)) inb_S128x3072_S128x768_0_0
    exact q

end Cert.Gla

end
-- ==== Proof.Gla.CaseA7.lean ====
/- One grid step's array A 7 over the reals. -/
module

public import proofs.«01_k».proof.Proof.Gla.Heads

@[expose] public section

noncomputable section

namespace Cert.Gla

open Finset Idealize.ShloMosaic Cert.KernelIdeal Cert.KernelIdeal.Gen

variable {px pg : ℕ → ℕ → ℝ} {pn : ℕ → ℝ} {pz : ℕ → ℕ → ℝ} {T : ℕ} {X : Vec Ideal S128x3072 .f32} {L : Vec Ideal S128x512 .f32}
  {S : Vec Ideal S4x1x256x128 .f32} {O Z : Vec Ideal S128x1024 .f32} {N : Vec Ideal S1x1024 .f32}

/-- What the step leaves in the gradient of the log gates, at the last chunk. -/
theorem out0_A_7_real (w : Wins px pg pn pz T X L S O Z N) (hD : ∀ (h : ℕ) (j : Fin 256) (d : Fin 128), wD px pg pn pz (T + 128) h j d = 0) (c : Dev nD) (t : Fin cfg0.N) (h0 : t.val % 65 = 0) (y : S128x512.Idx) :
    out0_A_7 (F := Ideal) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) ((hcond0_0 t).mpr h0) X L S O Z N  y = ((wG px pg pn pz (T + (y 0).val) (y 1).val : ℝ) : EReal) := by
  unfold out0_A_7
  rw [View.read_writes_eq_canon _ _ _ (cover0_A_7 c _ _ _ _ _ _ _ _ _ _ _ _ _ _ _ _ _ _ _ _ _ _ _ _ _ _ _ _)]
  unfold kernelRun0_A
  dsimp only
  sl_unfold_words
  simp only [View.readAt_eq_ld, Memref.IsWhole.read_unread, skip_d, skip_g, zero_dst, zero_gn]
  obtain ⟨r0, r1, r2, r3⟩ := w.four_zero hD
  refine View.canon_apply_of_pieces (Val := Elt Ideal) (e := .f32) (fun y : S128x512.Idx => ((wG px pg pn pz (T + (y 0).val) (y 1).val : ℝ) : EReal)) _ ?_ y (View.cover_of_tiledL (s := S128x512) _ S128x128.size (by sl_kernel_rfl) y)
  refine List.forall_mem_cons.2 ⟨?_, List.forall_mem_cons.2 ⟨?_, List.forall_mem_cons.2 ⟨?_, List.forall_mem_cons.2 ⟨?_, List.forall_mem_nil _⟩⟩⟩⟩
  · have q := piece_cols (α := .f32) (R := 128) (C := 512) (B := 128) (o := 384) (fun r c => ((wG px pg pn pz (T + r) c : ℝ) : EReal)) (fun i c => (tLog_real r3 i c).trans (congrArg _ (wG_head_at 3 384 rfl _ c).symm)) inb_S128x512_S128x128_0_384
    exact q
  · have q := piece_cols (α := .f32) (R := 128) (C := 512) (B := 128) (o := 256) (fun r c => ((wG px pg pn pz (T + r) c : ℝ) : EReal)) (fun i c => (tLog_real r2 i c).trans (congrArg _ (wG_head_at 2 256 rfl _ c).symm)) inb_S128x512_S128x128_0_256
    exact q
  · have q := piece_cols (α := .f32) (R := 128) (C := 512) (B := 128) (o := 128) (fun r c => ((wG px pg pn pz (T + r) c : ℝ) : EReal)) (fun i c => (tLog_real r1 i c).trans (congrArg _ (wG_head_at 1 128 rfl _ c).symm)) inb_S128x512_S128x128_0_128
    exact q
  · have q := piece_cols (α := .f32) (R := 128) (C := 512) (B := 128) (o := 0) (fun r c => ((wG px pg pn pz (T + r) c : ℝ) : EReal)) (fun i c => (tLog_real r0 i c).trans (congrArg _ (wG_head_at 0 0 rfl _ c).symm)) inb_S128x512_S128x128_0_0
    exact q

end Cert.Gla

end
-- ==== Proof.Gla.CaseA8.lean ====
/- One grid step's array A 8 over the reals. -/
module

public import proofs.«01_k».proof.Proof.Gla.Heads

@[expose] public section

noncomputable section

namespace Cert.Gla

open Finset Idealize.ShloMosaic Cert.KernelIdeal Cert.KernelIdeal.Gen

variable {px pg : ℕ → ℕ → ℝ} {pn : ℕ → ℝ} {pz : ℕ → ℕ → ℝ} {T : ℕ} {X : Vec Ideal S128x3072 .f32} {L : Vec Ideal S128x512 .f32}
  {S : Vec Ideal S4x1x256x128 .f32} {O Z : Vec Ideal S128x1024 .f32} {N : Vec Ideal S1x1024 .f32}

/-- What the step leaves in the gradient of the norm weights, at the last chunk. -/
theorem out0_A_8_real (w : Wins px pg pn pz T X L S O Z N) (hD : ∀ (h : ℕ) (j : Fin 256) (d : Fin 128), wD px pg pn pz (T + 128) h j d = 0) (c : Dev nD) (t : Fin cfg0.N) (h0 : t.val % 65 = 0) (y : S1x1024.Idx) :
    out0_A_8 (F := Ideal) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) ((hcond0_0 t).mpr h0) X L S O Z N  y = ((∑ i : Fin 128, wN px pg pz (T + i.val) (y 1).val : ℝ) : EReal) := by
  unfold out0_A_8
  rw [View.read_writes_eq_canon _ _ _ (cover0_A_8 c _ _ _ _ _ _ _ _ _ _ _ _ _ _ _ _ _ _ _ _ _ _ _ _ _ _ _ _)]
  unfold kernelRun0_A
  dsimp only
  sl_unfold_words
  simp only [View.readAt_eq_ld, Memref.IsWhole.read_unread, skip_d, skip_g, zero_dst, zero_gn]
  obtain ⟨r0, r1, r2, r3⟩ := w.four_zero hD
  refine View.canon_append_of_pieces (Val := Elt Ideal) (e := .f32) (fun y : S1x1024.Idx => ((∑ i : Fin 128, wN px pg pz (T + i.val) (y 1).val : ℝ) : EReal)) [_] [_, _, _, _] ?_ y (View.cover_of_tiledL (s := S1x1024) _ S1x256.size (by sl_kernel_rfl) y)
  refine List.forall_mem_cons.2 ⟨?_, List.forall_mem_cons.2 ⟨?_, List.forall_mem_cons.2 ⟨?_, List.forall_mem_cons.2 ⟨?_, List.forall_mem_nil _⟩⟩⟩⟩
  · have q := piece_cols (α := .f32) (R := 1) (C := 1024) (B := 256) (o := 768) (fun _ c => ((∑ i : Fin 128, wN px pg pz (T + i.val) c : ℝ) : EReal)) (fun i c => by
      obtain rfl : i = 0 := Subsingleton.elim _ _
      exact (tGn_real r3 (A := fun _ => (0 : EReal)) (a := fun _ => 0) (fun _ => rfl) c).trans (by simp only [wN_head_at 3 768 rfl]; exact congrArg _ (zero_add _))) inb_S1x1024_S1x256_0_768
    exact q
  · have q := piece_cols (α := .f32) (R := 1) (C := 1024) (B := 256) (o := 512) (fun _ c => ((∑ i : Fin 128, wN px pg pz (T + i.val) c : ℝ) : EReal)) (fun i c => by
      obtain rfl : i = 0 := Subsingleton.elim _ _
      exact (tGn_real r2 (A := fun _ => (0 : EReal)) (a := fun _ => 0) (fun _ => rfl) c).trans (by simp only [wN_head_at 2 512 rfl]; exact congrArg _ (zero_add _))) inb_S1x1024_S1x256_0_512
    exact q
  · have q := piece_cols (α := .f32) (R := 1) (C := 1024) (B := 256) (o := 256) (fun _ c => ((∑ i : Fin 128, wN px pg pz (T + i.val) c : ℝ) : EReal)) (fun i c => by
      obtain rfl : i = 0 := Subsingleton.elim _ _
      exact (tGn_real r1 (A := fun _ => (0 : EReal)) (a := fun _ => 0) (fun _ => rfl) c).trans (by simp only [wN_head_at 1 256 rfl]; exact congrArg _ (zero_add _))) inb_S1x1024_S1x256_0_256
    exact q
  · have q := piece_cols (α := .f32) (R := 1) (C := 1024) (B := 256) (o := 0) (fun _ c => ((∑ i : Fin 128, wN px pg pz (T + i.val) c : ℝ) : EReal)) (fun i c => by
      obtain rfl : i = 0 := Subsingleton.elim _ _
      exact (tGn_real r0 (A := fun _ => (0 : EReal)) (a := fun _ => 0) (fun _ => rfl) c).trans (by simp only [wN_head_at 0 0 rfl]; exact congrArg _ (zero_add _))) inb_S1x1024_S1x256_0_0
    exact q

end Cert.Gla

end
-- ==== Proof.Gla.CaseAs.lean ====
/- One grid step's array A s over the reals. -/
module

public import proofs.«01_k».proof.Proof.Gla.Heads

@[expose] public section

noncomputable section

namespace Cert.Gla

open Finset Idealize.ShloMosaic Cert.KernelIdeal Cert.KernelIdeal.Gen

variable {px pg : ℕ → ℕ → ℝ} {pn : ℕ → ℝ} {pz : ℕ → ℕ → ℝ} {T : ℕ} {X : Vec Ideal S128x3072 .f32} {L : Vec Ideal S128x512 .f32}
  {S : Vec Ideal S4x1x256x128 .f32} {O Z : Vec Ideal S128x1024 .f32} {N : Vec Ideal S1x1024 .f32}

/-- What the step leaves in the carried gradient of the state, at the last chunk. -/
theorem sout0_A_0_real (w : Wins px pg pn pz T X L S O Z N) (hD : ∀ (h : ℕ) (j : Fin 256) (d : Fin 128), wD px pg pn pz (T + 128) h j d = 0) (c : Dev nD) (t : Fin cfg0.N) (h0 : t.val % 65 = 0) (y : S4x256x128.Idx) :
    sout0_A_0 (F := Ideal) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) ((hcond0_0 t).mpr h0) X L S O Z N  y = ((wD px pg pn pz T (y 0).val (y 1) (y 2) : ℝ) : EReal) := by
  unfold sout0_A_0
  rw [View.read_writes_eq_canon _ _ _ (scover0_A_0 c _ _ _ _ _ _ _ _ _ _ _ _ _ _ _ _ _ _ _ _ _ _ _ _ _ _ _ _)]
  unfold kernelRun0_A
  dsimp only
  sl_unfold_words
  simp only [View.readAt_eq_ld, Memref.IsWhole.read_unread, skip_d, skip_g, zero_dst, zero_gn]
  obtain ⟨r0, r1, r2, r3⟩ := w.four_zero hD
  refine View.canon_append_of_pieces (Val := Elt Ideal) (e := .f32) (fun y : S4x256x128.Idx => ((wD px pg pn pz T (y 0).val (y 1) (y 2) : ℝ) : EReal)) [_] [_, _, _, _] ?_ y (View.cover_of_tiledL (s := S4x256x128) _ S1x256x128.size (by sl_kernel_rfl) y)
  refine List.forall_mem_cons.2 ⟨?_, List.forall_mem_cons.2 ⟨?_, List.forall_mem_cons.2 ⟨?_, List.forall_mem_cons.2 ⟨?_, List.forall_mem_nil _⟩⟩⟩⟩
  · have q := piece_dst (h := 3) (fun h j d => ((wD px pg pn pz T h j d : ℝ) : EReal)) (fun j d => tDst_real r3 j d) inb_S4x256x128_S1x256x128_3_0_0
    exact q
  · have q := piece_dst (h := 2) (fun h j d => ((wD px pg pn pz T h j d : ℝ) : EReal)) (fun j d => tDst_real r2 j d) inb_S4x256x128_S1x256x128_2_0_0
    exact q
  · have q := piece_dst (h := 1) (fun h j d => ((wD px pg pn pz T h j d : ℝ) : EReal)) (fun j d => tDst_real r1 j d) inb_S4x256x128_S1x256x128_1_0_0
    exact q
  · have q := piece_dst (h := 0) (fun h j d => ((wD px pg pn pz T h j d : ℝ) : EReal)) (fun j d => tDst_real r0 j d) inb_S4x256x128_S1x256x128_0_0_0
    exact q

end Cert.Gla

end
-- ==== Proof.Gla.CaseB6.lean ====
/- One grid step's array B 6 over the reals. -/
module

public import proofs.«01_k».proof.Proof.Gla.Heads

@[expose] public section

noncomputable section

namespace Cert.Gla

open Finset Idealize.ShloMosaic Cert.KernelIdeal Cert.KernelIdeal.Gen

variable {px pg : ℕ → ℕ → ℝ} {pn : ℕ → ℝ} {pz : ℕ → ℕ → ℝ} {T : ℕ} {X : Vec Ideal S128x3072 .f32} {L : Vec Ideal S128x512 .f32}
  {S : Vec Ideal S4x1x256x128 .f32} {O Z : Vec Ideal S128x1024 .f32} {N : Vec Ideal S1x1024 .f32}

/-- What the step leaves in the gradient of the projection, at any other chunk. -/
theorem out0_B_6_real (w : Wins px pg pn pz T X L S O Z N) {D : Vec Ideal S4x256x128 .f32} (hD : ∀ (h : Fin 4) (j : Fin 256) (d : Fin 128), D (ix3 h j d) = ((wD px pg pn pz (T + 128) h.val j d : ℝ) : EReal)) {P : Vec Ideal S1x1024 .f32} {p : ℕ → ℝ} (hP : ∀ c : Fin 1024, P (ix2 0 c) = ((p c.val : ℝ) : EReal)) (c : Dev nD) (t : Fin cfg0.N) (h0 : ¬t.val % 65 = 0) (y : S128x3072.Idx) :
    out0_B_6 (F := Ideal) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) (fun h => h0 ((hcond0_0 t).mp h)) X L S O Z N P D y = ((wX px pg pn pz (T + (y 0).val) (y 1).val : ℝ) : EReal) := by
  unfold out0_B_6
  rw [View.read_writes_eq_canon _ _ _ (cover0_B_6 c _ _ _ _ _ _ _ _ _ _ _ _ _ _ _ _ _ _ _ _ _ _ _ _ _ _ _ _ _ _)]
  unfold kernelRun0_B
  dsimp only
  sl_unfold_words
  simp only [View.readAt_eq_ld, Memref.IsWhole.read_unread, (Memref.isWhole_whole _).read_unread]
  obtain ⟨r0, r1, r2, r3⟩ := w.four hD
  refine View.canon_apply_of_pieces (Val := Elt Ideal) (e := .bf16) (fun y : S128x3072.Idx => ((wX px pg pn pz (T + (y 0).val) (y 1).val : ℝ) : EReal)) _ ?_ y (View.cover_of_tiledL (s := S128x3072) _ S128x768.size (by sl_kernel_rfl) y)
  refine List.forall_mem_cons.2 ⟨?_, List.forall_mem_cons.2 ⟨?_, List.forall_mem_cons.2 ⟨?_, List.forall_mem_cons.2 ⟨?_, List.forall_mem_nil _⟩⟩⟩⟩
  · have q := piece_cols (α := .bf16) (R := 128) (C := 3072) (B := 768) (o := 2304) (fun r c => ((wX px pg pn pz (T + r) c : ℝ) : EReal)) (fun i c => (tGrp_real r3 i c).trans (congrArg _ (wX_head_at 3 2304 rfl _ c).symm)) inb_S128x3072_S128x768_0_2304
    exact q
  · have q := piece_cols (α := .bf16) (R := 128) (C := 3072) (B := 768) (o := 1536) (fun r c => ((wX px pg pn pz (T + r) c : ℝ) : EReal)) (fun i c => (tGrp_real r2 i c).trans (congrArg _ (wX_head_at 2 1536 rfl _ c).symm)) inb_S128x3072_S128x768_0_1536
    exact q
  · have q := piece_cols (α := .bf16) (R := 128) (C := 3072) (B := 768) (o := 768) (fun r c => ((wX px pg pn pz (T + r) c : ℝ) : EReal)) (fun i c => (tGrp_real r1 i c).trans (congrArg _ (wX_head_at 1 768 rfl _ c).symm)) inb_S128x3072_S128x768_0_768
    exact q
  · have q := piece_cols (α := .bf16) (R := 128) (C := 3072) (B := 768) (o := 0) (fun r c => ((wX px pg pn pz (T + r) c : ℝ) : EReal)) (fun i c => (tGrp_real r0 i c).trans (congrArg _ (wX_head_at 0 0 rfl _ c).symm)) inb_S128x3072_S128x768_0_0
    exact q

end Cert.Gla

end
-- ==== Proof.Gla.CaseB7.lean ====
/- One grid step's array B 7 over the reals. -/
module

public import proofs.«01_k».proof.Proof.Gla.Heads

@[expose] public section

noncomputable section

namespace Cert.Gla

open Finset Idealize.ShloMosaic Cert.KernelIdeal Cert.KernelIdeal.Gen

variable {px pg : ℕ → ℕ → ℝ} {pn : ℕ → ℝ} {pz : ℕ → ℕ → ℝ} {T : ℕ} {X : Vec Ideal S128x3072 .f32} {L : Vec Ideal S128x512 .f32}
  {S : Vec Ideal S4x1x256x128 .f32} {O Z : Vec Ideal S128x1024 .f32} {N : Vec Ideal S1x1024 .f32}

/-- What the step leaves in the gradient of the log gates, at any other chunk. -/
theorem out0_B_7_real (w : Wins px pg pn pz T X L S O Z N) {D : Vec Ideal S4x256x128 .f32} (hD : ∀ (h : Fin 4) (j : Fin 256) (d : Fin 128), D (ix3 h j d) = ((wD px pg pn pz (T + 128) h.val j d : ℝ) : EReal)) {P : Vec Ideal S1x1024 .f32} {p : ℕ → ℝ} (hP : ∀ c : Fin 1024, P (ix2 0 c) = ((p c.val : ℝ) : EReal)) (c : Dev nD) (t : Fin cfg0.N) (h0 : ¬t.val % 65 = 0) (y : S128x512.Idx) :
    out0_B_7 (F := Ideal) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) (fun h => h0 ((hcond0_0 t).mp h)) X L S O Z N P D y = ((wG px pg pn pz (T + (y 0).val) (y 1).val : ℝ) : EReal) := by
  unfold out0_B_7
  rw [View.read_writes_eq_canon _ _ _ (cover0_B_7 c _ _ _ _ _ _ _ _ _ _ _ _ _ _ _ _ _ _ _ _ _ _ _ _ _ _ _ _ _ _)]
  unfold kernelRun0_B
  dsimp only
  sl_unfold_words
  simp only [View.readAt_eq_ld, Memref.IsWhole.read_unread, (Memref.isWhole_whole _).read_unread]
  obtain ⟨r0, r1, r2, r3⟩ := w.four hD
  refine View.canon_apply_of_pieces (Val := Elt Ideal) (e := .f32) (fun y : S128x512.Idx => ((wG px pg pn pz (T + (y 0).val) (y 1).val : ℝ) : EReal)) _ ?_ y (View.cover_of_tiledL (s := S128x512) _ S128x128.size (by sl_kernel_rfl) y)
  refine List.forall_mem_cons.2 ⟨?_, List.forall_mem_cons.2 ⟨?_, List.forall_mem_cons.2 ⟨?_, List.forall_mem_cons.2 ⟨?_, List.forall_mem_nil _⟩⟩⟩⟩
  · have q := piece_cols (α := .f32) (R := 128) (C := 512) (B := 128) (o := 384) (fun r c => ((wG px pg pn pz (T + r) c : ℝ) : EReal)) (fun i c => (tLog_real r3 i c).trans (congrArg _ (wG_head_at 3 384 rfl _ c).symm)) inb_S128x512_S128x128_0_384
    exact q
  · have q := piece_cols (α := .f32) (R := 128) (C := 512) (B := 128) (o := 256) (fun r c => ((wG px pg pn pz (T + r) c : ℝ) : EReal)) (fun i c => (tLog_real r2 i c).trans (congrArg _ (wG_head_at 2 256 rfl _ c).symm)) inb_S128x512_S128x128_0_256
    exact q
  · have q := piece_cols (α := .f32) (R := 128) (C := 512) (B := 128) (o := 128) (fun r c => ((wG px pg pn pz (T + r) c : ℝ) : EReal)) (fun i c => (tLog_real r1 i c).trans (congrArg _ (wG_head_at 1 128 rfl _ c).symm)) inb_S128x512_S128x128_0_128
    exact q
  · have q := piece_cols (α := .f32) (R := 128) (C := 512) (B := 128) (o := 0) (fun r c => ((wG px pg pn pz (T + r) c : ℝ) : EReal)) (fun i c => (tLog_real r0 i c).trans (congrArg _ (wG_head_at 0 0 rfl _ c).symm)) inb_S128x512_S128x128_0_0
    exact q

end Cert.Gla

end
-- ==== Proof.Gla.CaseB8.lean ====
/- One grid step's array B 8 over the reals. -/
module

public import proofs.«01_k».proof.Proof.Gla.Heads

@[expose] public section

noncomputable section

namespace Cert.Gla

open Finset Idealize.ShloMosaic Cert.KernelIdeal Cert.KernelIdeal.Gen

variable {px pg : ℕ → ℕ → ℝ} {pn : ℕ → ℝ} {pz : ℕ → ℕ → ℝ} {T : ℕ} {X : Vec Ideal S128x3072 .f32} {L : Vec Ideal S128x512 .f32}
  {S : Vec Ideal S4x1x256x128 .f32} {O Z : Vec Ideal S128x1024 .f32} {N : Vec Ideal S1x1024 .f32}

/-- What the step leaves in the gradient of the norm weights, at any other chunk. -/
theorem out0_B_8_real (w : Wins px pg pn pz T X L S O Z N) {D : Vec Ideal S4x256x128 .f32} (hD : ∀ (h : Fin 4) (j : Fin 256) (d : Fin 128), D (ix3 h j d) = ((wD px pg pn pz (T + 128) h.val j d : ℝ) : EReal)) {P : Vec Ideal S1x1024 .f32} {p : ℕ → ℝ} (hP : ∀ c : Fin 1024, P (ix2 0 c) = ((p c.val : ℝ) : EReal)) (c : Dev nD) (t : Fin cfg0.N) (h0 : ¬t.val % 65 = 0) (y : S1x1024.Idx) :
    out0_B_8 (F := Ideal) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) (fun h => h0 ((hcond0_0 t).mp h)) X L S O Z N P D y = ((p (y 1).val + ∑ i : Fin 128, wN px pg pz (T + i.val) (y 1).val : ℝ) : EReal) := by
  unfold out0_B_8
  rw [View.read_writes_eq_canon _ _ _ (cover0_B_8 c _ _ _ _ _ _ _ _ _ _ _ _ _ _ _ _ _ _ _ _ _ _ _ _ _ _ _ _ _ _)]
  unfold kernelRun0_B
  dsimp only
  sl_unfold_words
  simp only [View.readAt_eq_ld, Memref.IsWhole.read_unread, (Memref.isWhole_whole _).read_unread]
  obtain ⟨r0, r1, r2, r3⟩ := w.four hD
  refine View.canon_apply_of_pieces (Val := Elt Ideal) (e := .f32) (fun y : S1x1024.Idx => ((p (y 1).val + ∑ i : Fin 128, wN px pg pz (T + i.val) (y 1).val : ℝ) : EReal)) _ ?_ y (View.cover_of_tiledL (s := S1x1024) _ S1x256.size (by sl_kernel_rfl) y)
  refine List.forall_mem_cons.2 ⟨?_, List.forall_mem_cons.2 ⟨?_, List.forall_mem_cons.2 ⟨?_, List.forall_mem_cons.2 ⟨?_, List.forall_mem_nil _⟩⟩⟩⟩
  · have q := piece_cols (α := .f32) (R := 1) (C := 1024) (B := 256) (o := 768) (fun _ c => ((p c + ∑ i : Fin 128, wN px pg pz (T + i.val) c : ℝ) : EReal)) (fun i c => by
      obtain rfl : i = 0 := Subsingleton.elim _ _
      exact (tGn_real r3 (A := View.ld (S := S1x1024) P (Rect.unit ![0, 768] ![1, 256] inb_S1x1024_S1x256_0_768)) (a := fun j => p (768 + j.val)) (ld_gn hP 768 (by norm_num) inb_S1x1024_S1x256_0_768) c).trans (by simp only [wN_head_at 3 768 rfl])) inb_S1x1024_S1x256_0_768
    exact q
  · have q := piece_cols (α := .f32) (R := 1) (C := 1024) (B := 256) (o := 512) (fun _ c => ((p c + ∑ i : Fin 128, wN px pg pz (T + i.val) c : ℝ) : EReal)) (fun i c => by
      obtain rfl : i = 0 := Subsingleton.elim _ _
      exact (tGn_real r2 (A := View.ld (S := S1x1024) P (Rect.unit ![0, 512] ![1, 256] inb_S1x1024_S1x256_0_512)) (a := fun j => p (512 + j.val)) (ld_gn hP 512 (by norm_num) inb_S1x1024_S1x256_0_512) c).trans (by simp only [wN_head_at 2 512 rfl])) inb_S1x1024_S1x256_0_512
    exact q
  · have q := piece_cols (α := .f32) (R := 1) (C := 1024) (B := 256) (o := 256) (fun _ c => ((p c + ∑ i : Fin 128, wN px pg pz (T + i.val) c : ℝ) : EReal)) (fun i c => by
      obtain rfl : i = 0 := Subsingleton.elim _ _
      exact (tGn_real r1 (A := View.ld (S := S1x1024) P (Rect.unit ![0, 256] ![1, 256] inb_S1x1024_S1x256_0_256)) (a := fun j => p (256 + j.val)) (ld_gn hP 256 (by norm_num) inb_S1x1024_S1x256_0_256) c).trans (by simp only [wN_head_at 1 256 rfl])) inb_S1x1024_S1x256_0_256
    exact q
  · have q := piece_cols (α := .f32) (R := 1) (C := 1024) (B := 256) (o := 0) (fun _ c => ((p c + ∑ i : Fin 128, wN px pg pz (T + i.val) c : ℝ) : EReal)) (fun i c => by
      obtain rfl : i = 0 := Subsingleton.elim _ _
      exact (tGn_real r0 (A := View.ld (S := S1x1024) P (Rect.unit ![0, 0] ![1, 256] inb_S1x1024_S1x256_0_0)) (a := fun j => p (0 + j.val)) (ld_gn hP 0 (by norm_num) inb_S1x1024_S1x256_0_0) c).trans (by simp only [wN_head_at 0 0 rfl])) inb_S1x1024_S1x256_0_0
    exact q

end Cert.Gla

end
-- ==== Proof.Gla.CaseBs.lean ====
/- One grid step's array B s over the reals. -/
module

public import proofs.«01_k».proof.Proof.Gla.Heads

@[expose] public section

noncomputable section

namespace Cert.Gla

open Finset Idealize.ShloMosaic Cert.KernelIdeal Cert.KernelIdeal.Gen

variable {px pg : ℕ → ℕ → ℝ} {pn : ℕ → ℝ} {pz : ℕ → ℕ → ℝ} {T : ℕ} {X : Vec Ideal S128x3072 .f32} {L : Vec Ideal S128x512 .f32}
  {S : Vec Ideal S4x1x256x128 .f32} {O Z : Vec Ideal S128x1024 .f32} {N : Vec Ideal S1x1024 .f32}

/-- What the step leaves in the carried gradient of the state, at any other chunk. -/
theorem sout0_B_0_real (w : Wins px pg pn pz T X L S O Z N) {D : Vec Ideal S4x256x128 .f32} (hD : ∀ (h : Fin 4) (j : Fin 256) (d : Fin 128), D (ix3 h j d) = ((wD px pg pn pz (T + 128) h.val j d : ℝ) : EReal)) {P : Vec Ideal S1x1024 .f32} {p : ℕ → ℝ} (hP : ∀ c : Fin 1024, P (ix2 0 c) = ((p c.val : ℝ) : EReal)) (c : Dev nD) (t : Fin cfg0.N) (h0 : ¬t.val % 65 = 0) (y : S4x256x128.Idx) :
    sout0_B_0 (F := Ideal) c (grid0.coords t) _ (hs0_0 t) _ (hs0_1 t) _ (hs0_2 t) _ (hs0_3 t) _ (hs0_4 t) _ (hs0_5 t) _ (hs0_6 t) _ (hs0_7 t) _ (hs0_8 t) scM0_0 (Memref.isWhole_whole _) (fun h => h0 ((hcond0_0 t).mp h)) X L S O Z N P D y = ((wD px pg pn pz T (y 0).val (y 1) (y 2) : ℝ) : EReal) := by
  unfold sout0_B_0
  rw [View.read_writes_eq_canon _ _ _ (scover0_B_0 c _ _ _ _ _ _ _ _ _ _ _ _ _ _ _ _ _ _ _ _ _ _ _ _ _ _ _ _ _ _)]
  unfold kernelRun0_B
  dsimp only
  sl_unfold_words
  simp only [View.readAt_eq_ld, Memref.IsWhole.read_unread, (Memref.isWhole_whole _).read_unread]
  obtain ⟨r0, r1, r2, r3⟩ := w.four hD
  refine View.canon_apply_of_pieces (Val := Elt Ideal) (e := .f32) (fun y : S4x256x128.Idx => ((wD px pg pn pz T (y 0).val (y 1) (y 2) : ℝ) : EReal)) _ ?_ y (View.cover_of_tiledL (s := S4x256x128) _ S1x256x128.size (by sl_kernel_rfl) y)
  refine List.forall_mem_cons.2 ⟨?_, List.forall_mem_cons.2 ⟨?_, List.forall_mem_cons.2 ⟨?_, List.forall_mem_cons.2 ⟨?_, List.forall_mem_nil _⟩⟩⟩⟩
  · have q := piece_dst (h := 3) (fun h j d => ((wD px pg pn pz T h j d : ℝ) : EReal)) (fun j d => tDst_real r3 j d) inb_S4x256x128_S1x256x128_3_0_0
    exact q
  · have q := piece_dst (h := 2) (fun h j d => ((wD px pg pn pz T h j d : ℝ) : EReal)) (fun j d => tDst_real r2 j d) inb_S4x256x128_S1x256x128_2_0_0
    exact q
  · have q := piece_dst (h := 1) (fun h j d => ((wD px pg pn pz T h j d : ℝ) : EReal)) (fun j d => tDst_real r1 j d) inb_S4x256x128_S1x256x128_1_0_0
    exact q
  · have q := piece_dst (h := 0) (fun h j d => ((wD px pg pn pz T h j d : ℝ) : EReal)) (fun j d => tDst_real r0 j d) inb_S4x256x128_S1x256x128_0_0_0
    exact q

end Cert.Gla

end
-- ==== Proof.Gla.Grid.lean ====
/- The grid over the reals: what the carried arrays hold after every step, and the three result arrays. -/
module

public import proofs.«01_k».proof.Proof.Gla.Blocks
public import proofs.«01_k».proof.Proof.Gla.CaseA6
public import proofs.«01_k».proof.Proof.Gla.CaseA7
public import proofs.«01_k».proof.Proof.Gla.CaseA8
public import proofs.«01_k».proof.Proof.Gla.CaseAs
public import proofs.«01_k».proof.Proof.Gla.CaseB6
public import proofs.«01_k».proof.Proof.Gla.CaseB7
public import proofs.«01_k».proof.Proof.Gla.CaseB8
public import proofs.«01_k».proof.Proof.Gla.CaseBs
public import proofs.«01_k».proof.Proof.Gen.KernelIdeal.Value
public import Idealize.ShloMosaic.Lib.Pipeline.ValueKit.Geometry

@[expose] public section

noncomputable section

namespace Cert.Gla

open Finset Idealize.ShloMosaic Idealize.ShloMosaic.TcCoe Cert.KernelIdeal Cert.KernelIdeal.Gen

variable {m : (ℓ : Loc nD τ Cert.KernelIdeal.sig) → Buf (Elt Ideal) ℓ} {c : Dev nD} {px pg : ℕ → ℕ → ℝ} {pn : ℕ → ℝ} {pz : ℕ → ℕ → ℝ}

/-- A sum over the rows from `T` on: the chunk's rows and the later ones. -/
theorem sum_chunk (f : ℕ → ℝ) (T : ℕ) (hT : T + 128 ≤ 8320) :
    (∑ r ∈ Ico T 8320, f r) = (∑ r ∈ Ico (T + 128) 8320, f r) + ∑ i : Fin 128, f (T + i.val) := by
  rw [← Finset.sum_Ico_consecutive f (Nat.le_add_right T 128) hT, Finset.sum_Ico_eq_sum_range f T (T + 128), Nat.add_sub_cancel_left,
    Fin.sum_univ_eq_sum_range (fun i => f (T + i)) 128, add_comm]

/-- No gradient comes from behind the last row. -/
theorem wD_end (h : ℕ) (j : Fin 256) (d : Fin 128) : wD px pg pn pz 8320 h j d = 0 := dstate_end _ _ _ _ _

/-- What the carried arrays hold after step `n`: the gradient of the state before the chunk, and the gradient of the norm
    weights over the rows from the chunk on. -/
theorem carried (e : Entry m c px pg pn pz) : ∀ (n : ℕ) (hn : n < cfg0.N),
    (∀ y : S4x256x128.Idx, (outsAt0 m c n hn).2.2.2 y = ((wD px pg pn pz (128 * (64 - n)) (y 0).val (y 1) (y 2) : ℝ) : EReal))
    ∧ ∀ y : S1x1024.Idx, (outsAt0 m c n hn).2.2.1 y = ((∑ r ∈ Ico (128 * (64 - n)) 8320, wN px pg pz r (y 1).val : ℝ) : EReal)
  | 0, hn => by
    have w := e.wins ⟨0, hn⟩
    have a := outsAt0_A m c ⟨0, hn⟩ rfl
    dsimp only at a
    simp only [a]
    refine ⟨fun y => ?_, fun y => ?_⟩
    · exact sout0_A_0_real w wD_end c _ rfl y
    · refine (out0_A_8_real w wD_end c _ rfl y).trans (congrArg _ ?_)
      dsimp only
      rw [sum_chunk (fun r => wN px pg pz r (y 1).val) (128 * (64 - 0)) (by norm_num)]
      simp
  | n + 1, hn => by
    have w := e.wins ⟨n + 1, hn⟩
    have hN : n + 1 < 65 := lt_of_lt_of_eq hn (show cfg0.N = 65 from N_0)
    have h0 : ¬ (n + 1) % 65 = 0 := by omega
    obtain ⟨iD, iG⟩ := carried e n (Nat.lt_of_succ_lt hn)
    have a := outsAt0_B m c ⟨n + 1, hn⟩ h0
    dsimp only at a
    simp only [Nat.add_sub_cancel] at a
    simp only [a]
    generalize outsAt0 m c n _ = Q at iD iG ⊢
    have hT : 128 * (64 - (n + 1)) + 128 = 128 * (64 - n) := by omega
    have hD : ∀ (h : Fin 4) (j : Fin 256) (d : Fin 128), Q.2.2.2 (ix3 h j d) = ((wD px pg pn pz (128 * (64 - (n + 1)) + 128) h.val j d : ℝ) : EReal) :=
      fun h j d => by rw [hT]; exact iD (ix3 h j d)
    have hP : ∀ k : Fin 1024, Q.2.2.1 (ix2 0 k) = (((fun k => ∑ r ∈ Ico (128 * (64 - n)) 8320, wN px pg pz r k) k.val : ℝ) : EReal) :=
      fun k => iG (ix2 0 k)
    refine ⟨fun y => ?_, fun y => ?_⟩
    · exact sout0_B_0_real w hD (P := Q.2.2.1) (p := fun k => ∑ r ∈ Ico (128 * (64 - n)) 8320, wN px pg pz r k) hP c _ h0 y
    · refine (out0_B_8_real w hD (P := Q.2.2.1) (p := fun k => ∑ r ∈ Ico (128 * (64 - n)) 8320, wN px pg pz r k) hP c _ h0 y).trans (congrArg _ ?_)
      dsimp only
      rw [sum_chunk (fun r => wN px pg pz r (y 1).val) (128 * (64 - (n + 1))) (by omega), hT]

/-- What step `t` writes to the projection's gradient. -/
theorem written6 (e : Entry m c px pg pn pz) (t : Fin cfg0.N) (y : S128x3072.Idx) :
    (outsAt0 m c t.val t.isLt).1 y = ((wX px pg pn pz (128 * (64 - t.val) + (y 0).val) (y 1).val : ℝ) : EReal) := by
  have w := e.wins t
  by_cases h0 : t.val % 65 = 0
  · have hN : t.val < 65 := lt_of_lt_of_eq t.isLt (show cfg0.N = 65 from N_0)
    have ht : t.val = 0 := by omega
    simp only [outsAt0_A m c t h0]
    exact out0_A_6_real w (by rw [ht]; exact wD_end) c t h0 y
  · have hN : t.val < 65 := lt_of_lt_of_eq t.isLt (show cfg0.N = 65 from N_0)
    obtain ⟨iD, iG⟩ := carried e (t.val - 1) (Nat.lt_of_le_of_lt (Nat.sub_le _ _) t.isLt)
    simp only [outsAt0_B m c t h0]
    generalize outsAt0 m c (t.val - 1) _ = Q at iD iG ⊢
    have hT : 128 * (64 - t.val) + 128 = 128 * (64 - (t.val - 1)) := by omega
    have hD : ∀ (h : Fin 4) (j : Fin 256) (d : Fin 128), Q.2.2.2 (ix3 h j d) = ((wD px pg pn pz (128 * (64 - t.val) + 128) h.val j d : ℝ) : EReal) :=
      fun h j d => by rw [hT]; exact iD (ix3 h j d)
    have hP : ∀ k : Fin 1024, Q.2.2.1 (ix2 0 k) = (((fun k => ∑ r ∈ Ico (128 * (64 - (t.val - 1))) 8320, wN px pg pz r k) k.val : ℝ) : EReal) :=
      fun k => iG (ix2 0 k)
    exact out0_B_6_real w hD (P := Q.2.2.1) (p := fun k => ∑ r ∈ Ico (128 * (64 - (t.val - 1))) 8320, wN px pg pz r k) hP c t h0 y

/-- What step `t` writes to the log gates' gradient. -/
theorem written7 (e : Entry m c px pg pn pz) (t : Fin cfg0.N) (y : S128x512.Idx) :
    (outsAt0 m c t.val t.isLt).2.1 y = ((wG px pg pn pz (128 * (64 - t.val) + (y 0).val) (y 1).val : ℝ) : EReal) := by
  have w := e.wins t
  by_cases h0 : t.val % 65 = 0
  · have hN : t.val < 65 := lt_of_lt_of_eq t.isLt (show cfg0.N = 65 from N_0)
    have ht : t.val = 0 := by omega
    simp only [outsAt0_A m c t h0]
    exact out0_A_7_real w (by rw [ht]; exact wD_end) c t h0 y
  · have hN : t.val < 65 := lt_of_lt_of_eq t.isLt (show cfg0.N = 65 from N_0)
    obtain ⟨iD, iG⟩ := carried e (t.val - 1) (Nat.lt_of_le_of_lt (Nat.sub_le _ _) t.isLt)
    simp only [outsAt0_B m c t h0]
    generalize outsAt0 m c (t.val - 1) _ = Q at iD iG ⊢
    have hT : 128 * (64 - t.val) + 128 = 128 * (64 - (t.val - 1)) := by omega
    have hD : ∀ (h : Fin 4) (j : Fin 256) (d : Fin 128), Q.2.2.2 (ix3 h j d) = ((wD px pg pn pz (128 * (64 - t.val) + 128) h.val j d : ℝ) : EReal) :=
      fun h j d => by rw [hT]; exact iD (ix3 h j d)
    have hP : ∀ k : Fin 1024, Q.2.2.1 (ix2 0 k) = (((fun k => ∑ r ∈ Ico (128 * (64 - (t.val - 1))) 8320, wN px pg pz r k) k.val : ℝ) : EReal) :=
      fun k => iG (ix2 0 k)
    exact out0_B_7_real w hD (P := Q.2.2.1) (p := fun k => ∑ r ∈ Ico (128 * (64 - (t.val - 1))) 8320, wN px pg pz r k) hP c t h0 y

/-! ## The result arrays -/

/-- The grid step whose chunk holds row `r`. -/
def stepOf (r : ℕ) : Fin cfg0.N := ⟨64 - r / 128, by rw [show cfg0.N = 65 from N_0]; omega⟩

/-- No block of the projection's gradient is cut. -/
theorem whole6 : ∀ t : Fin cfg0.N, win0_6.xsize (grid0.coords t) 0 = 128 ∧ win0_6.xsize (grid0.coords t) 1 = 3072 :=
  (by change ∀ t : Fin grid0.N, _; decide +kernel)

/-- The projection's gradient, in the columns the grid writes. -/
theorem final6 (e : Entry m c px pg pn pz) (i : S8320x16384.Idx) (k : ℕ) (hk : (i 1).val = 6144 + k) (h : k < 3072) :
    (dats m 0 c).arrAt 6 cfg0.N i = ((wX px pg pn pz (i 0).val k : ℝ) : EReal) := by
  have hr : (i 0).val < 8320 := (i 0).isLt
  refine ((dats m 0 c).arrAt_forall_of_flushed 6 (fun (i : S8320x16384.Idx) (x : EReal) => ∀ k, (i 1).val = 6144 + k → x = ((wX px pg pn pz (i 0).val k : ℝ) : EReal)) ?_
    cfg0.N (stepOf (i 0).val) i (stepOf _).isLt (flush0_6 _) ?_ k hk)
  · intro t hf y k hk
    obtain ⟨e0, e1⟩ := index6 t
    have h0 : (((cfg0.win 6).blk t).view.emb y (0 : Fin 2)).val = win0_6.index t 0 * 128 + 1 * (y (0 : Fin 2)).val := rfl
    have h1 : (((cfg0.win 6).blk t).view.emb y (1 : Fin 2)).val = win0_6.index t 1 * 3072 + 1 * (y (1 : Fin 2)).val := rfl
    refine ((cast_eq _ _).trans (congrFun (Value.flushed6 m c t) y)).trans ((written6 e t _).trans ?_)
    have hk' : (y (1 : Fin 2)).val = k := by
      have := h1.symm.trans hk
      omega
    rw [show (((cfg0.win 6).blk t).view.emb y (0 : Fin 2)).val = 128 * (64 - t.val) + (y (0 : Fin 2)).val by omega, ← hk']
  · obtain ⟨e0, e1⟩ := index6 (stepOf (i 0).val)
    obtain ⟨x0, x1⟩ := whole6 (stepOf (i 0).val)
    have et : (stepOf (i 0).val).val = 64 - (i 0).val / 128 := rfl
    rw [View.set_slice_whole, Rect.mem_set_unit]
    exact fun a => match a with
      | 0 => by
        show win0_6.index (stepOf (i 0).val) 0 * 128 ≤ (i 0).val ∧ (i 0).val < win0_6.index (stepOf (i 0).val) 0 * 128 + win0_6.xsize (grid0.coords (stepOf (i 0).val)) 0
        omega
      | 1 => by
        show win0_6.index (stepOf (i 0).val) 1 * 3072 ≤ (i 1).val ∧ (i 1).val < win0_6.index (stepOf (i 0).val) 1 * 3072 + win0_6.xsize (grid0.coords (stepOf (i 0).val)) 1
        omega

/-- The log gates' gradient. -/
theorem final7 (e : Entry m c px pg pn pz) (i : S8320x512.Idx) :
    (dats m 0 c).arrAt 7 cfg0.N i = ((wG px pg pn pz (i 0).val (i 1).val : ℝ) : EReal) := by
  have hr : (i 0).val < 8320 := (i 0).isLt
  have hc : (i 1).val < 512 := (i 1).isLt
  refine ((dats m 0 c).arrAt_forall_of_flushed 7 (fun (i : S8320x512.Idx) (x : EReal) => x = ((wG px pg pn pz (i 0).val (i 1).val : ℝ) : EReal)) ?_
    cfg0.N (stepOf (i 0).val) i (stepOf _).isLt (flush0_7 _) ?_)
  · intro t hf y
    obtain ⟨e0, e1⟩ := index7 t
    have h0 : (((cfg0.win 7).blk t).view.emb y (0 : Fin 2)).val = win0_7.index t 0 * 128 + 1 * (y (0 : Fin 2)).val := rfl
    have h1 : (((cfg0.win 7).blk t).view.emb y (1 : Fin 2)).val = win0_7.index t 1 * 512 + 1 * (y (1 : Fin 2)).val := rfl
    refine ((cast_eq _ _).trans (congrFun (Value.flushed7 m c t) y)).trans ((written7 e t _).trans ?_)
    rw [show (((cfg0.win 7).blk t).view.emb y (0 : Fin 2)).val = 128 * (64 - t.val) + (y (0 : Fin 2)).val by omega,
      show (((cfg0.win 7).blk t).view.emb y (1 : Fin 2)).val = (y (1 : Fin 2)).val by omega]
  · obtain ⟨e0, e1⟩ := index7 (stepOf (i 0).val)
    have et : (stepOf (i 0).val).val = 64 - (i 0).val / 128 := rfl
    rw [View.set_slice_whole, Rect.mem_set_unit]
    exact fun a => match a with
      | 0 => by
        show win0_7.index _ 0 * 128 ≤ (i 0).val ∧ (i 0).val < win0_7.index _ 0 * 128 + 128
        omega
      | 1 => by
        show win0_7.index _ 1 * 512 ≤ (i 1).val ∧ (i 1).val < win0_7.index _ 1 * 512 + 512
        omega

/-- The norm weights' gradient. -/
theorem final8 (e : Entry m c px pg pn pz) (i : S1x1024.Idx) :
    (dats m 0 c).arrAt 8 cfg0.N i = ((∑ r ∈ range 8320, wN px pg pz r (i 1).val : ℝ) : EReal) := by
  have hr : (i 0).val < 1 := (i 0).isLt
  have hc : (i 1).val < 1024 := (i 1).isLt
  have hl : 64 < cfg0.N := by rw [show cfg0.N = 65 from N_0]; norm_num
  refine ((dats m 0 c).arrAt_forall_of_flushed 8 (fun (i : S1x1024.Idx) (x : EReal) => x = ((∑ r ∈ range 8320, wN px pg pz r (i 1).val : ℝ) : EReal)) ?_
    cfg0.N ⟨64, hl⟩ i hl ((flush0_8 _).mpr rfl) ?_)
  · intro t hf y
    have hN : t.val < 65 := lt_of_lt_of_eq t.isLt (show cfg0.N = 65 from N_0)
    have ht : t.val = 64 := by have := (flush0_8 t).mp hf; omega
    obtain ⟨e0, e1⟩ := index8 t
    have h1 : (((cfg0.win 8).blk t).view.emb y (1 : Fin 2)).val = win0_8.index t 1 * 1024 + 1 * (y (1 : Fin 2)).val := rfl
    refine ((cast_eq _ _).trans (congrFun (Value.flushed8 m c t) y)).trans (((carried e t.val t.isLt).2 _).trans ?_)
    rw [show (((cfg0.win 8).blk t).view.emb y (1 : Fin 2)).val = (y (1 : Fin 2)).val by omega, ht, Nat.sub_self, Nat.mul_zero, ← Finset.range_eq_Ico]
  · obtain ⟨e0, e1⟩ := index8 ⟨64, hl⟩
    rw [View.set_slice_whole, Rect.mem_set_unit]
    exact fun a => match a with
      | 0 => by
        show win0_8.index _ 0 * 1 ≤ (i 0).val ∧ (i 0).val < win0_8.index _ 0 * 1 + 1
        omega
      | 1 => by
        show win0_8.index _ 1 * 1024 ≤ (i 1).val ∧ (i 1).val < win0_8.index _ 1 * 1024 + 1024
        omega

end Cert.Gla

end
-- ==== Proof.Gla.Window.lean ====
/- Running sums down the rows, from the front and from the back, as windows of the whole height. -/
module

public import proofs.«01_k».proof.Proof.Gla.Lift
public import Idealize.ShloMosaic.PureOps.Ideal
public import Idealize.ShloMosaic.Lib.Routing.OpsOne

@[expose] public section

noncomputable section

namespace Cert.Gla

open Finset Idealize.ShloMosaic

/-- Adding reals one after another from zero gives their sum. -/
theorem fold_add {n : ℕ} (t : Fin n → EReal) (g : ℕ → ℝ) (h : ∀ i, t i = ((g i.val : ℝ) : EReal)) :
    (List.finRange n).foldl (fun r i => r + t i) 0 = ((∑ i ∈ range n, g i : ℝ) : EReal) := by
  have aux : ∀ (l : List (Fin n)) (a : ℝ), l.foldl (fun r i => r + t i) (a : EReal) = ((a + (l.map fun i => g i.val).sum : ℝ) : EReal) := by
    intro l
    induction l with
    | nil => intro a; simp
    | cons i l ih =>
      intro a
      rw [List.foldl_cons, h, ← EReal.coe_add, ih, List.map_cons, List.sum_cons, add_assoc]
  have := aux (List.finRange n) 0
  rw [EReal.coe_zero, zero_add] at this
  rw [this, ← Fin.sum_univ_eq_sum_range, Fin.sum_univ_def]

abbrev tall (R C : ℕ) : Shape := ⟨2, ![R, C]⟩

variable {R M C : ℕ} {x : (tall R C).Idx → EReal} {f : ℕ → ℕ → ℝ}

theorem tall_numel : (⟨2, ![R, 1]⟩ : Shape).numel = R := Routing.numel_col R

/-- A place in the window: its row. -/
theorem tall_row (n : Fin (⟨2, ![R, 1]⟩ : Shape).numel) : ((⟨2, ![R, 1]⟩ : Shape).rowMajor.symm n 0).val = n.val := by
  rw [Routing.symm_col (R := R)]; rfl

theorem tall_col (n : Fin (⟨2, ![R, 1]⟩ : Shape).numel) : ((⟨2, ![R, 1]⟩ : Shape).rowMajor.symm n 1).val = 0 := by
  rw [Routing.symm_col (R := R)]; rfl

/-- The sum of a column from the first row to row `j`. -/
theorem front_sum (hR : M + 1 = R) (hx : ∀ (i : Fin R) (c : Fin C), x (ix2 i c) = ((f i.val c.val : ℝ) : EReal)) (init : (⟨0, ![]⟩ : Shape).Idx → EReal)
    (hi : ∀ i, init i = 0) (h : (tall R C).ReduceWindows (![R, 1] : Fin 2 → ℕ) ![1, 1] ![M, 0] ![0, 0] (tall R C)) (hu) (j : Fin R) (c : Fin C) :
    Host.reduceWindowAdd (F := Ideal) (φ := .f32) ![R, 1] ![1, 1] ![M, 0] ![0, 0] x init h hu (ix2 j c) = ((∑ i ∈ range (j.val + 1), f i c.val : ℝ) : EReal) := by
  have hj : j.val < R := j.isLt
  have hc : c.val < C := c.isLt
  show Host.reduceWindow (· + ·) _ _ _ _ x _ h _ (ix2 j c) = _
  unfold Host.reduceWindow
  dsimp only
  rw [hi]
  refine (fold_add _ (fun n => if M ≤ j.val + n then f (j.val + n - M) c.val else 0) ?_).trans (congrArg _ ?_)
  · intro n
    have hn : n.val < R := lt_of_lt_of_eq n.isLt tall_numel
    have h0 := tall_row n
    have h1 := tall_col n
    split
    · next hin =>
      have q := hin 0
      change M ≤ j.val * 1 + ((⟨2, ![R, 1]⟩ : Shape).rowMajor.symm n 0).val
        ∧ j.val * 1 + ((⟨2, ![R, 1]⟩ : Shape).rowMajor.symm n 0).val - M < R at q
      rw [h0] at q
      rw [if_pos (by omega)]
      refine (congrArg x (funext fun a => Fin.ext ?_)).trans (hx ⟨j.val + n.val - M, by omega⟩ c)
      match a with
      | ⟨0, _⟩ =>
        show j.val * 1 + ((⟨2, ![R, 1]⟩ : Shape).rowMajor.symm n 0).val - M = j.val + n.val - M
        rw [h0, Nat.mul_one]
      | ⟨1, _⟩ =>
        show c.val * 1 + ((⟨2, ![R, 1]⟩ : Shape).rowMajor.symm n 1).val - 0 = c.val
        rw [h1]; omega
    · next hin =>
      rw [if_neg]
      · rfl
      intro hle
      refine hin fun a => ?_
      match a with
      | ⟨0, _⟩ =>
        show M ≤ j.val * 1 + ((⟨2, ![R, 1]⟩ : Shape).rowMajor.symm n 0).val
          ∧ j.val * 1 + ((⟨2, ![R, 1]⟩ : Shape).rowMajor.symm n 0).val - M < R
        rw [h0]; omega
      | ⟨1, _⟩ =>
        show 0 ≤ c.val * 1 + ((⟨2, ![R, 1]⟩ : Shape).rowMajor.symm n 1).val ∧ c.val * 1 + ((⟨2, ![R, 1]⟩ : Shape).rowMajor.symm n 1).val - 0 < C
        rw [h1]; omega
  · have e : (⟨2, ![R, 1]⟩ : Shape).numel = (M - j.val) + (j.val + 1) := tall_numel.trans (by omega)
    show ∑ n ∈ range (⟨2, ![R, 1]⟩ : Shape).numel, (if M ≤ j.val + n then f (j.val + n - M) c.val else 0) = _
    rw [e, Finset.sum_range_add, sum_eq_zero, zero_add]
    · refine sum_congr rfl fun i hi => ?_
      rw [if_pos (by omega), show j.val + (M - j.val + i) - M = i by omega]
    · intro n hn
      rw [mem_range] at hn
      exact if_neg (by omega)

/-- The sum of a column from row `j` to the last. -/
theorem back_sum (hR : M + 1 = R) (hx : ∀ (i : Fin R) (c : Fin C), x (ix2 i c) = ((f i.val c.val : ℝ) : EReal)) (init : (⟨0, ![]⟩ : Shape).Idx → EReal)
    (hi : ∀ i, init i = 0) (h : (tall R C).ReduceWindows (![R, 1] : Fin 2 → ℕ) ![1, 1] ![0, 0] ![M, 0] (tall R C)) (hu) (j : Fin R) (c : Fin C) :
    Host.reduceWindowAdd (F := Ideal) (φ := .f32) ![R, 1] ![1, 1] ![0, 0] ![M, 0] x init h hu (ix2 j c)
      = ((∑ t : Fin R, if j.val ≤ t.val then f t.val c.val else 0 : ℝ) : EReal) := by
  have hj : j.val < R := j.isLt
  have hc : c.val < C := c.isLt
  show Host.reduceWindow (· + ·) _ _ _ _ x _ h _ (ix2 j c) = _
  unfold Host.reduceWindow
  dsimp only
  rw [hi]
  refine (fold_add _ (fun n => if j.val + n < R then f (j.val + n) c.val else 0) ?_).trans (congrArg _ ?_)
  · intro n
    have hn : n.val < R := lt_of_lt_of_eq n.isLt tall_numel
    have h0 := tall_row n
    have h1 := tall_col n
    split
    · next hin =>
      have q := hin 0
      change 0 ≤ j.val * 1 + ((⟨2, ![R, 1]⟩ : Shape).rowMajor.symm n 0).val
        ∧ j.val * 1 + ((⟨2, ![R, 1]⟩ : Shape).rowMajor.symm n 0).val - 0 < R at q
      rw [h0] at q
      rw [if_pos (by omega)]
      refine (congrArg x (funext fun a => Fin.ext ?_)).trans (hx ⟨j.val + n.val, by omega⟩ c)
      match a with
      | ⟨0, _⟩ =>
        show j.val * 1 + ((⟨2, ![R, 1]⟩ : Shape).rowMajor.symm n 0).val - 0 = j.val + n.val
        rw [h0]; omega
      | ⟨1, _⟩ =>
        show c.val * 1 + ((⟨2, ![R, 1]⟩ : Shape).rowMajor.symm n 1).val - 0 = c.val
        rw [h1]; omega
    · next hin =>
      rw [if_neg]
      · rfl
      intro hle
      refine hin fun a => ?_
      match a with
      | ⟨0, _⟩ =>
        show 0 ≤ j.val * 1 + ((⟨2, ![R, 1]⟩ : Shape).rowMajor.symm n 0).val
          ∧ j.val * 1 + ((⟨2, ![R, 1]⟩ : Shape).rowMajor.symm n 0).val - 0 < R
        rw [h0]; omega
      | ⟨1, _⟩ =>
        show 0 ≤ c.val * 1 + ((⟨2, ![R, 1]⟩ : Shape).rowMajor.symm n 1).val ∧ c.val * 1 + ((⟨2, ![R, 1]⟩ : Shape).rowMajor.symm n 1).val - 0 < C
        rw [h1]; omega
  · have e : (⟨2, ![R, 1]⟩ : Shape).numel = (R - j.val) + j.val := tall_numel.trans (by omega)
    have e' : R = j.val + (R - j.val) := by omega
    show ∑ n ∈ range (⟨2, ![R, 1]⟩ : Shape).numel, (if j.val + n < R then f (j.val + n) c.val else 0) = _
    rw [Fin.sum_univ_eq_sum_range (fun t => if j.val ≤ t then f t c.val else 0) R, e, Finset.sum_range_add]
    rw [sum_eq_zero (s := range j.val) (fun n _ => if_neg (by omega)), add_zero]
    have l : ∑ t ∈ range R, (if j.val ≤ t then f t c.val else 0) = ∑ t ∈ range (j.val + (R - j.val)), (if j.val ≤ t then f t c.val else 0) :=
      congrArg (fun n => ∑ t ∈ range n, (if j.val ≤ t then f t c.val else 0)) e'
    rw [l, Finset.sum_range_add, sum_eq_zero (s := range j.val) (fun n hn => if_neg (by rw [mem_range] at hn; omega)), zero_add]
    refine sum_congr rfl fun n hn => ?_
    rw [mem_range] at hn
    rw [if_pos (by omega), if_pos (by omega)]

end Cert.Gla

end
-- ==== Proof.Gla.RefA.lean ====
/- The reference, read at an index: the recurrence's inputs, its weights and its output. -/
module

public import proofs.«01_k».proof.Proof.Gen.ReferenceIdeal.Read
public import proofs.«01_k».proof.Proof.Gla.Heads
public import proofs.«01_k».proof.Proof.Gla.Window
public import Idealize.ShloMosaic.Lib.Pointwise

@[expose] public section

noncomputable section

namespace Cert.Gla.Ref

open Finset Idealize.ShloMosaic Cert.ReferenceIdeal Cert.ReferenceIdeal.Gen Cert.ReferenceIdeal.Read

/-- The arguments hold the reals `px`, `pg`, `pn` and `pz` where the layer reads them. -/
structure Args (x0 : S8320x13312.Idx → EReal) (x1 : S8320x512.Idx → EReal) (px pg : ℕ → ℕ → ℝ) : Prop where
  hX : ∀ (r : Fin 8320) (c : Fin 3072), x0 (ix2 r ⟨3072 + c.val, by omega⟩) = ((px r.val c.val : ℝ) : EReal)
  hL : ∀ (r : Fin 8320) (c : Fin 512), x1 (ix2 r c) = ((pg r.val c.val : ℝ) : EReal)

variable {x0 : S8320x13312.Idx → EReal} {x1 : S8320x512.Idx → EReal} {px pg : ℕ → ℕ → ℝ}

theorem at2 {a b : ℕ} {i : (⟨2, ![a, b]⟩ : Shape).Idx} {x : Fin a} {y : Fin b} (h0 : (i 0).val = x.val) (h1 : (i 1).val = y.val) : i = ix2 x y := by
  funext q
  fin_cases q
  · exact Fin.ext h0
  · exact Fin.ext h1
theorem at3 {a b c : ℕ} {i : (⟨3, ![a, b, c]⟩ : Shape).Idx} {x : Fin a} {y : Fin b} {z : Fin c} (h0 : (i 0).val = x.val) (h1 : (i 1).val = y.val)
    (h2 : (i 2).val = z.val) : i = ix3 x y z := by
  funext q
  fin_cases q
  · exact Fin.ext h0
  · exact Fin.ext h1
  · exact Fin.ext h2
theorem at4 {a b c d : ℕ} {i : (⟨4, ![a, b, c, d]⟩ : Shape).Idx} {x : Fin a} {y : Fin b} {z : Fin c} {w : Fin d} (h0 : (i 0).val = x.val)
    (h1 : (i 1).val = y.val) (h2 : (i 2).val = z.val) (h3 : (i 3).val = w.val) : i = ix4 x y z w := by
  funext q
  fin_cases q
  · exact Fin.ext h0
  · exact Fin.ext h1
  · exact Fin.ext h2
  · exact Fin.ext h3

theorem mul_r {x y : EReal} {a b : ℝ} (hx : x = (a : EReal)) (hy : y = (b : EReal)) : x * y = ((a * b : ℝ) : EReal) := by
  rw [hx, hy, EReal.coe_mul]
theorem add_r {x y : EReal} {a b : ℝ} (hx : x = (a : EReal)) (hy : y = (b : EReal)) : x + y = ((a + b : ℝ) : EReal) := by
  rw [hx, hy, EReal.coe_add]
theorem sub_r {x y : EReal} {a b : ℝ} (hx : x = (a : EReal)) (hy : y = (b : EReal)) : x - y = ((a - b : ℝ) : EReal) := by
  rw [hx, hy, EReal.coe_sub]
theorem sum_r {n : ℕ} {f : Fin n → EReal} {g : Fin n → ℝ} (h : ∀ i, f i = (g i : EReal)) : ∑ i, f i = ((∑ i, g i : ℝ) : EReal) := by
  rw [← coe_sum]; exact sum_congr rfl fun i _ => h i
theorem zero_sum {n : ℕ} {z : EReal} {f : Fin n → EReal} {g : Fin n → ℝ} (hz : z = FloatOps.ofBits (F := Ideal) .f32 0x00000000#32) (h : ∀ i, f i = (g i : EReal)) :
    z + ∑ i, f i = ((∑ i, g i : ℝ) : EReal) := by
  rw [hz.trans Ideal.ofBits_zero_f32, zero_add]; exact sum_r h

theorem v1 (a : Args x0 x1 px pg) (t : Fin 8320) (h : Fin 4) (c : Fin 768) :
    val_main_v1 (F := Ideal) x0 (ix3 t h c) = ((xh px h.val t.val c : ℝ) : EReal) := by
  have e := a.hX t ⟨768 * h.val + c.val, by omega⟩
  rw [val_main_v1_apply, val_main_v0_apply]
  refine (congrArg x0 ?_).trans e
  funext q
  fin_cases q
  · apply Fin.ext; show ((t.val * 4 + h.val) * 768 + c.val) / 3072 = t.val; omega
  · apply Fin.ext; show 3072 + ((t.val * 4 + h.val) * 768 + c.val) % 3072 = 3072 + (768 * h.val + c.val); omega

theorem v3 (a : Args x0 x1 px pg) (t : Fin 8320) (h : Fin 4) (d : Fin 128) :
    val_main_v3 (F := Ideal) x0 (ix3 t h d) = ((hk (xh px h.val) t.val d : ℝ) : EReal) :=
  (val_main_v3_apply (F := Ideal) x0 _).trans (v1 a t h ⟨128 + d.val, by omega⟩)

theorem v4 (a : Args x0 x1 px pg) (t : Fin 8320) (h : Fin 4) (d : Fin 256) :
    val_main_v4 (F := Ideal) x0 (ix3 t h d) = ((hv (xh px h.val) t.val d : ℝ) : EReal) :=
  (val_main_v4_apply (F := Ideal) x0 _).trans (v1 a t h ⟨256 + d.val, by omega⟩)

theorem v5 (a : Args x0 x1 px pg) (t : Fin 8320) (h : Fin 4) (d : Fin 256) :
    val_main_v5 (F := Ideal) x0 (ix3 t h d) = ((hr (xh px h.val) t.val d : ℝ) : EReal) :=
  (val_main_v5_apply (F := Ideal) x0 _).trans (v1 a t h ⟨512 + d.val, by omega⟩)

theorem v7 (a : Args x0 x1 px pg) (t : Fin 8320) (h : Fin 4) (d : Fin 128) :
    val_main_v7 (F := Ideal) x0 (ix3 t h d) = ((hq (xh px h.val) t.val d : ℝ) : EReal) := by
  have e := v1 a t h ⟨d.val, by omega⟩
  have e2 : val_main_v2 (F := Ideal) x0 (ix3 t h d) = _ := (val_main_v2_apply (F := Ideal) x0 _).trans e
  rw [val_main_v7_apply]
  show val_main_v2 (F := Ideal) x0 (ix3 t h d) * Ideal.ofBits FTy.f32 0x3DB504F3#32 = _
  rw [e2, word_cs, ← EReal.coe_mul]
  rfl

theorem v9 (a : Args x0 x1 px pg) (t : Fin 8320) (h : Fin 4) (d : Fin 128) :
    val_main_v9 (F := Ideal) x1 (ix3 t h d) = ((pre (gh pg h.val) (t.val + 1) d : ℝ) : EReal) := by
  rw [val_main_v9_apply]
  have e : idx_main_v9 (ix3 t h d) = ix2 t ⟨128 * h.val + d.val, by omega⟩ := by
    funext q
    fin_cases q
    · apply Fin.ext; show ((t.val * 4 + h.val) * 128 + d.val) / 512 = t.val; omega
    · apply Fin.ext; show ((t.val * 4 + h.val) * 128 + d.val) % 512 = 128 * h.val + d.val; omega
  rw [e]
  unfold val_main_v8
  refine (front_sum (R := 8320) (M := 8319) (C := 512) rfl a.hL _ (fun i => ?_) _ _ t ⟨128 * h.val + d.val, by omega⟩).trans rfl
  rw [val_main_call0_call0_v0_apply, val_main_call0_call0_cst_apply]
  exact Ideal.ofBits_zero_f32

theorem v15 (t s : Fin 8320) : val_main_v15 (F := Ideal) (ix2 t s) = IntOp.cmpi .sle (BitVec.ofNat 32 s.val) (BitVec.ofNat 32 t.val) := by
  rw [val_main_v15_apply, val_main_v13_apply, val_main_v14_apply, val_main_v11_apply, val_main_v12_apply, val_main_v10_apply, val_main_v10_apply]
  rfl

theorem v22_1 (t s : Fin 8320) (h : Fin 4) (d : Fin 128) :
    val_main_v22_1 (F := Ideal) (ix4 t s h d) = IntOp.cmpi .sle (BitVec.ofNat 32 s.val) (BitVec.ofNat 32 t.val) :=
  (val_main_v22_1_apply (F := Ideal) _).trans ((val_main_v16_apply (F := Ideal) _).trans (v15 t s))

theorem v21 (a : Args x0 x1 px pg) (t s : Fin 8320) (h : Fin 4) (d : Fin 128) :
    val_main_v21 (F := Ideal) x1 (ix4 t s h d) = ((pre (gh pg h.val) (t.val + 1) d - pre (gh pg h.val) (s.val + 1) d : ℝ) : EReal) := by
  have e1 : val_main_v19 (F := Ideal) x1 (ix4 t s h d) = _ :=
    (val_main_v19_apply (F := Ideal) x1 _).trans ((val_main_v17_apply (F := Ideal) x1 _).trans (v9 a t h d))
  have e2 : val_main_v20 (F := Ideal) x1 (ix4 t s h d) = _ :=
    (val_main_v20_apply (F := Ideal) x1 _).trans ((val_main_v18_apply (F := Ideal) x1 _).trans (v9 a s h d))
  exact sub_r e1 e2

/-- The weight of row `s` at row `t`, zero after `t`. -/
def kept (g : ℕ → Fin 128 → ℝ) (t s : ℕ) (d : Fin 128) : ℝ := if s ≤ t then dec g t s d else 0

theorem v23 (a : Args x0 x1 px pg) (t s : Fin 8320) (h : Fin 4) (d : Fin 128) :
    val_main_v23 (F := Ideal) x1 (ix4 t s h d) = ((kept (gh pg h.val) t.val s.val d : ℝ) : EReal) := by
  rw [val_main_v23_apply, val_main_v22_0_apply, v22_1, v21 a t s h d, sel_le (by omega) (by omega), val_main_call1_v2_apply,
    val_main_call1_v0_apply, val_main_cst_0_apply]
  unfold kept
  split
  · exact exp_real _
  · show Ideal.exp (Ideal.ofBits FTy.f32 0xFF800000#32) = _
    rw [word_low, exp_low]

theorem v26 (a : Args x0 x1 px pg) (t s : Fin 8320) (h : Fin 4) (d : Fin 128) :
    val_main_v26 (F := Ideal) x0 (ix4 t s h d) = ((hq (xh px h.val) t.val d : ℝ) : EReal) :=
  (val_main_v26_apply (F := Ideal) x0 _).trans ((val_main_v24_apply (F := Ideal) x0 _).trans (v7 a t h d))

theorem v27 (a : Args x0 x1 px pg) (t s : Fin 8320) (h : Fin 4) (d : Fin 128) :
    val_main_v27 (F := Ideal) x0 (ix4 t s h d) = ((hk (xh px h.val) s.val d : ℝ) : EReal) :=
  (val_main_v27_apply (F := Ideal) x0 _).trans ((val_main_v25_apply (F := Ideal) x0 _).trans (v3 a s h d))

theorem v28 (a : Args x0 x1 px pg) (t s : Fin 8320) (h : Fin 4) (d : Fin 128) :
    val_main_v28 (F := Ideal) x0 (ix4 t s h d) = ((hq (xh px h.val) t.val d * hk (xh px h.val) s.val d : ℝ) : EReal) :=
  mul_r (v26 a t s h d) (v27 a t s h d)

theorem att_kept (q k : ℕ → Fin 128 → ℝ) (g : ℕ → Fin 128 → ℝ) (t s : ℕ) : ∑ d, q t d * k s d * kept g t s d = att q k g t s := by
  unfold att kept
  split
  · rfl
  · simp

theorem v30 (a : Args x0 x1 px pg) (t s : Fin 8320) (h : Fin 4) :
    val_main_v30 (F := Ideal) x0 x1 (ix3 t s h) = ((att (hq (xh px h.val)) (hk (xh px h.val)) (gh pg h.val) t.val s.val : ℝ) : EReal) := by
  rw [val_main_v30_apply, ← att_kept]
  refine zero_sum (val_main_cst_1_apply _) fun d => ?_
  exact mul_r (v28 a t s h d) (v23 a t s h d)

theorem v32 (a : Args x0 x1 px pg) (t : Fin 8320) (h : Fin 4) (j : Fin 256) :
    val_main_v32 (F := Ideal) x0 x1 (ix3 t h j) = ((ho (xh px h.val) (gh pg h.val) t.val j : ℝ) : EReal) := by
  refine (val_main_v32_apply (F := Ideal) x0 x1 _).trans ((val_main_v31_apply x0 x1 _).trans ?_)
  unfold ho out
  refine sum_r fun s => ?_
  have e1 : lidx_main_v31 (idx_main_v32 (ix3 t h j)) s = ix3 t s h := by funext q; fin_cases q <;> rfl
  have e2 : ridx_main_v31 (idx_main_v32 (ix3 t h j)) s = ix3 s h j := by funext q; fin_cases q <;> rfl
  rw [e1, e2]
  exact mul_r (v30 a t s h) (v4 a s h j)

end Cert.Gla.Ref

end
-- ==== Proof.Gla.Saved.lean ====
/- What the arrays hold when the grid starts: the recurrence's output, and the states before the chunks. -/
module

public import proofs.«01_k».proof.Proof.Gla.RefA
public import proofs.«01_k».proof.Proof.Gla.Blocks
public import Idealize.ShloMosaic.Lib.Claim

@[expose] public section

noncomputable section

namespace Cert.Gla

open Finset Idealize.ShloMosaic Idealize.ShloMosaic.TcCoe Cert.KernelIdeal Cert.KernelIdeal.Gen

/-- The summed log gate at the end of the rows before each chunk. -/
def ends (b : S8320x4x128.Idx → EReal) : S65x4x128.Idx → EReal :=
  concatenate S65x4x128 0 [⟨S1x4x128, broadcastInDim S1x4x128 ![] bcast_S_S1x4x128 (constant (F := Ideal) S_ .f32 0x00000000#32)⟩,
    ⟨S64x4x128, Host.slice S64x4x128 ![127, 0, 0] ![128, 1, 1] b slicesBy_S8320x4x128_S64x4x128_127s128_0s1_0s1⟩]
    concatenates_S1x4x128_S64x4x128_S65x4x128_d0

/-- The rows before each chunk. -/
def before : S65x8320x4x128.Idx → BitVec 1 :=
  broadcastInDim S65x8320x4x128 ![0, 1, 2, 3] bcast_S65x8320x1x1_S65x8320x4x128_0_1_2_3
    (broadcastInDim S65x8320x1x1 ![0, 1] bcast_S65x8320_S65x8320x1x1_0_1
      (cmpi .slt (broadcastInDim S65x8320 ![0, 1] bcast_S1x8320_S65x8320_0_1 (broadcastInDim S1x8320 ![1] bcast_S8320_S1x8320_1 (iotaInDim S8320 32 0)))
        (broadcastInDim S65x8320 ![0, 1] bcast_S65x1_S65x8320_0_1
          (muli (broadcastInDim S65x1 ![] bcast_S_S65x1 (constantI S_ 32 128#32)) (broadcastInDim S65x1 ![0] bcast_S65_S65x1_0 (iotaInDim S65 32 0))))))

/-- What is left of each row at the start of each chunk. -/
def left (b : S8320x4x128.Idx → EReal) : S65x8320x4x128.Idx → EReal :=
  Host.exp (F := Ideal) (φ := .f32) (select before
    (subf (F := Ideal) (φ := .f32) (broadcastInDim S65x8320x4x128 ![0, 1, 2, 3] bcast_S65x1x4x128_S65x8320x4x128_0_1_2_3
        (broadcastInDim S65x1x4x128 ![0, 2, 3] bcast_S65x4x128_S65x1x4x128_0_2_3 (ends b)))
      (broadcastInDim S65x8320x4x128 ![0, 1, 2, 3] bcast_S1x8320x4x128_S65x8320x4x128_0_1_2_3
        (broadcastInDim S1x8320x4x128 ![1, 2, 3] bcast_S8320x4x128_S1x8320x4x128_1_2_3 b)))
    (broadcastInDim S65x8320x4x128 ![] bcast_S_S65x8320x4x128 (id (constant (F := Ideal) S_ .f32 0xFF800000#32))))

/-- The states before the chunks, from the values, the keys and what is left of them. -/
def states (v : S8320x4x256.Idx → EReal) (k : S8320x4x128.Idx → EReal) (l : S65x8320x4x128.Idx → EReal) : S4x65x256x128.Idx → EReal :=
  transpose S4x65x256x128 [0, 2, 1, 3]
    (Host.dotGeneral (F := Ideal) (φ₁ := .f32) (φ₂ := .f32) dot_S8320x4x256_S65x8320x4x128_S4x256x65x128_0_1_2_03_1_2 none v
      (mulf (F := Ideal) (φ := .f32) (broadcastInDim S65x8320x4x128 ![0, 1, 2, 3] bcast_S1x8320x4x128_S65x8320x4x128_0_1_2_3
        (broadcastInDim S1x8320x4x128 ![1, 2, 3] bcast_S8320x4x128_S1x8320x4x128_1_2_3 k)) l)) transposes_S4x256x65x128_S4x65x256x128_0_2_1_3

/-- The summed log gate before chunk `n`, from the running sums. -/
theorem ends_at (b : S8320x4x128.Idx → EReal) (n : Fin 65) (h : Fin 4) (d : Fin 128) :
    ends b (ix3 n h d) = if hn : n.val < 1 then 0 else b (ix3 ⟨127 + 128 * (n.val - 1), by omega⟩ h d) := by
  unfold ends
  pointwise

theorem before_at (n : Fin 65) (s : Fin 8320) (h : Fin 4) (d : Fin 128) :
    before (ix4 n s h d) = IntOp.cmpi .slt (BitVec.ofNat 32 s.val) (BitVec.ofNat 32 (128 * n.val)) := by
  have e : BitVec.ofNat 32 (128 * n.val) = IntOp.muli (128#32) (BitVec.ofNat 32 n.val) := by
    unfold IntOp.muli
    rw [BitVec.ofNat_mul]
  rw [e]
  unfold before
  pointwise

theorem left_at (b : S8320x4x128.Idx → EReal) (n : Fin 65) (s : Fin 8320) (h : Fin 4) (d : Fin 128) :
    left b (ix4 n s h d) = if s.val < 128 * n.val then Ideal.exp (ends b (ix3 n h d) - b (ix3 s h d)) else 0 := by
  have e := before_at n s h d
  unfold left
  generalize ends b = y
  generalize before = q at e
  pointwise
  rw [e, sel_lt (by omega) (by omega)]
  split
  · rfl
  · show Ideal.exp (Ideal.ofBits FTy.f32 0xFF800000#32) = _
    rw [word_low, exp_low]; rfl

theorem states_at (v : S8320x4x256.Idx → EReal) (k : S8320x4x128.Idx → EReal) (l : S65x8320x4x128.Idx → EReal) (h : Fin 4) (n : Fin 65) (j : Fin 256) (d : Fin 128) :
    states v k l (ix4 h n j d) = ∑ s : Fin 8320, v (ix3 s h j) * (k (ix3 s h d) * l (ix4 n s h d)) := by
  unfold states
  pointwise

variable {x0 : S8320x13312.Idx → EReal} {x1 : S8320x512.Idx → EReal} {px pg : ℕ → ℕ → ℝ}

theorem left_real (a : Ref.Args x0 x1 px pg) (n : Fin 65) (s : Fin 8320) (h : Fin 4) (d : Fin 128) :
    left (Cert.ReferenceIdeal.Read.val_main_v9 (F := Ideal) x1) (ix4 n s h d)
      = ((if s.val < 128 * n.val then Real.exp (pre (gh pg h.val) (128 * n.val) d - pre (gh pg h.val) (s.val + 1) d) else 0 : ℝ) : EReal) := by
  have e : ends (Cert.ReferenceIdeal.Read.val_main_v9 (F := Ideal) x1) (ix3 n h d) = ((pre (gh pg h.val) (128 * n.val) d : ℝ) : EReal) := by
    rw [ends_at]
    split
    · next hn =>
      have h0 : n.val = 0 := by omega
      rw [h0]
      unfold pre
      simp
    · next hn =>
      refine (Ref.v9 a _ h d).trans (congrArg (fun t => ((pre (gh pg h.val) t d : ℝ) : EReal)) ?_)
      show 127 + 128 * (n.val - 1) + 1 = 128 * n.val
      omega
  rw [left_at, e, Ref.v9 a s h d, ← EReal.coe_sub, exp_real, coe_ite_zero]

/-- The states before the chunks are the real ones. -/
theorem states_real (a : Ref.Args x0 x1 px pg) (h : Fin 4) (n : Fin 65) (j : Fin 256) (d : Fin 128) :
    states (Cert.ReferenceIdeal.Read.val_main_v4 (F := Ideal) x0) (Cert.ReferenceIdeal.Read.val_main_v3 (F := Ideal) x0)
      (left (Cert.ReferenceIdeal.Read.val_main_v9 (F := Ideal) x1)) (ix4 h n j d) = ((wS px pg (128 * n.val) h.val j d : ℝ) : EReal) := by
  rw [states_at]
  unfold wS state
  refine Ref.sum_r fun s => ?_
  exact Ref.mul_r (Ref.v4 a s h j) (Ref.mul_r (Ref.v3 a s h d) (left_real a n s h d))

/-- The output of the recurrence, heads and columns as one row. -/
theorem out_real (a : Ref.Args x0 x1 px pg) (t : Fin 8320) (c : Fin 1024) :
    shapeCast S8320x1024 (Cert.ReferenceIdeal.Read.val_main_v32 (F := Ideal) x0 x1) shapeCasts_S8320x4x256_S8320x1024 (ix2 t c)
      = ((wO px pg t.val c.val : ℝ) : EReal) := by
  have e := Ref.v32 a t ⟨c.val / 256, by omega⟩ ⟨c.val % 256, by omega⟩
  generalize Cert.ReferenceIdeal.Read.val_main_v32 (F := Ideal) x0 x1 = y at e ⊢
  refine (shapeCast_apply y shapeCasts_S8320x4x256_S8320x1024 (ix2 t c) (ix3 t ⟨c.val / 256, by omega⟩ ⟨c.val % 256, by omega⟩) ?_).trans e
  rw [Shape.rowMajor_val_two, Shape.rowMajor_val_three]
  show (t.val * 4 + c.val / 256) * 256 + c.val % 256 = t.val * 1024 + c.val
  omega

end Cert.Gla

end
-- ==== Proof.Gla.RefB.lean ====
/- The reference, read at an index: the gated norm and its gradient, down to the gradient of the recurrence's output. -/
module

public import proofs.«01_k».proof.Proof.Gla.RefA

@[expose] public section

noncomputable section

namespace Cert.Gla.Ref

open Finset Idealize.ShloMosaic Cert.ReferenceIdeal Cert.ReferenceIdeal.Gen Cert.ReferenceIdeal.Read

/-- The norm weights and the gradient of the output hold `pn` and `pz`. -/
structure Rest (x2 : S1x1024.Idx → EReal) (x3 : S8320x1024.Idx → EReal) (pn : ℕ → ℝ) (pz : ℕ → ℕ → ℝ) : Prop where
  hN : ∀ c : Fin 1024, x2 (ix2 0 c) = ((pn c.val : ℝ) : EReal)
  hZ : ∀ (r : Fin 8320) (c : Fin 1024), x3 (ix2 r c) = ((pz r.val c.val : ℝ) : EReal)

variable {x0 : S8320x13312.Idx → EReal} {x1 : S8320x512.Idx → EReal} {x2 : S1x1024.Idx → EReal} {x3 : S8320x1024.Idx → EReal}
  {px pg : ℕ → ℕ → ℝ} {pn : ℕ → ℝ} {pz : ℕ → ℕ → ℝ}

theorem div_r {x y : EReal} {a b : ℝ} (hb : b ≠ 0) (hx : x = (a : EReal)) (hy : y = (b : EReal)) : Ideal.div x y = ((a / b : ℝ) : EReal) := by
  rw [hx, hy, div_real _ _ hb]

/-- A head's column of the whole row. -/
abbrev col (h : Fin 4) (j : Fin 256) : Fin 1024 := ⟨256 * h.val + j.val, by omega⟩

/-! ## The norm -/

theorem v34 (a : Args x0 x1 px pg) (t : Fin 8320) (h : Fin 4) :
    val_main_v34 (F := Ideal) x0 x1 (ix2 t h)
      = ((∑ j, ho (xh px h.val) (gh pg h.val) t.val j * ho (xh px h.val) (gh pg h.val) t.val j : ℝ) : EReal) := by
  rw [val_main_v34_apply]
  refine zero_sum (val_main_cst_2_apply _) fun j => ?_
  rw [show idx_main_v34 (ix2 t h) j = ix3 t h j from at3 rfl rfl rfl]
  exact mul_r (v32 a t h j) (v32 a t h j)

theorem v39 (a : Args x0 x1 px pg) (t : Fin 8320) (h : Fin 4) :
    val_main_v39 (F := Ideal) x0 x1 (ix3 t h 0) = ((ms (xh px h.val) (gh pg h.val) t.val : ℝ) : EReal) := by
  have e1 : val_main_v35 (F := Ideal) x0 x1 (ix3 t h 0) = _ := (val_main_v35_apply (F := Ideal) x0 x1 _).trans ((congrArg _ (at2 rfl rfl)).trans (v34 a t h))
  have e2 : val_main_v36 (F := Ideal) (ix3 t h 0) = ((256 : ℝ) : EReal) :=
    (val_main_v36_apply (F := Ideal) _).trans ((val_main_cst_3_apply (F := Ideal) _).trans word_256)
  have e3 : val_main_v38 (F := Ideal) (ix3 t h 0) = ((eps : ℝ) : EReal) :=
    (val_main_v38_apply (F := Ideal) _).trans ((val_main_cst_4_apply (F := Ideal) _).trans word_eps)
  unfold ms
  refine add_r (x := val_main_v37 (F := Ideal) x0 x1 (ix3 t h 0)) ?_ e3
  exact div_r (by norm_num) e1 e2

theorem v40 (a : Args x0 x1 px pg) (t : Fin 8320) (h : Fin 4) :
    val_main_v40 (F := Ideal) x0 x1 (ix3 t h 0) = ((rho (xh px h.val) (gh pg h.val) t.val : ℝ) : EReal) := by
  rw [val_main_v40_apply, v39 a t h]
  exact rsqrt_real _ (ms_pos _ _ _)

theorem v43 (a : Args x0 x1 px pg) (t : Fin 8320) (h : Fin 4) :
    val_main_v43 (F := Ideal) x0 x1 (ix3 t h 0)
      = ((-(1 / 2) * (rho (xh px h.val) (gh pg h.val) t.val / ms (xh px h.val) (gh pg h.val) t.val) : ℝ) : EReal) := by
  have e2 : val_main_v42 (F := Ideal) (ix3 t h 0) = ((-(1 / 2) : ℝ) : EReal) :=
    (val_main_v42_apply (F := Ideal) _).trans ((val_main_cst_5_apply (F := Ideal) _).trans word_half)
  exact mul_r e2 (div_r (x := val_main_v40 (F := Ideal) x0 x1 (ix3 t h 0)) (ms_pos _ _ _).ne' (v40 a t h) (v39 a t h))

theorem v45 (a : Args x0 x1 px pg) (t : Fin 8320) (h : Fin 4) (j : Fin 256) :
    val_main_v45 (F := Ideal) x0 x1 (ix3 t h j) = ((xhat (xh px h.val) (gh pg h.val) t.val j : ℝ) : EReal) := by
  have e : val_main_v44 (F := Ideal) x0 x1 (ix3 t h j) = _ := (val_main_v44_apply (F := Ideal) x0 x1 _).trans ((congrArg _ (at3 rfl rfl rfl)).trans (v40 a t h))
  exact mul_r (v32 a t h j) e

theorem v47 (b : Rest x2 x3 pn pz) (h : Fin 4) (j : Fin 256) :
    val_main_v47 (F := Ideal) x2 (ix3 0 h j) = ((nh pn h.val j : ℝ) : EReal) := by
  rw [val_main_v47_apply, val_main_v46_apply]
  refine (congrArg x2 ?_).trans (b.hN (col h j))
  funext q
  fin_cases q
  · apply Fin.ext; rfl
  · apply Fin.ext; show (h.val * 256 + j.val) % 1024 = 256 * h.val + j.val; omega

theorem v48 (b : Rest x2 x3 pn pz) (t : Fin 8320) (h : Fin 4) (j : Fin 256) :
    val_main_v48 (F := Ideal) x2 (ix3 t h j) = ((nh pn h.val j : ℝ) : EReal) :=
  (val_main_v48_apply (F := Ideal) x2 _).trans (v47 b h j)

theorem v62 (b : Rest x2 x3 pn pz) (t : Fin 8320) (h : Fin 4) (j : Fin 256) :
    val_main_v62 (F := Ideal) x2 (ix3 t h j) = ((nh pn h.val j : ℝ) : EReal) :=
  (val_main_v62_apply (F := Ideal) x2 _).trans (v47 b h j)

/-- Heads and columns as one row. -/
theorem split_col (t : Fin 8320) (h : Fin 4) (j : Fin 256) : idx_main_v50 (ix2 t (col h j)) = ix3 t h j := by
  funext q
  fin_cases q
  · apply Fin.ext; show (t.val * 1024 + (256 * h.val + j.val)) / 1024 = t.val; omega
  · apply Fin.ext; show (t.val * 1024 + (256 * h.val + j.val)) / 256 % 4 = h.val; omega
  · apply Fin.ext; show (t.val * 1024 + (256 * h.val + j.val)) % 256 = j.val; omega

theorem join_col (t : Fin 8320) (h : Fin 4) (j : Fin 256) : idx_main_v57 (ix3 t h j) = ix2 t (col h j) := by
  funext q
  fin_cases q
  · apply Fin.ext; show ((t.val * 4 + h.val) * 256 + j.val) / 1024 = t.val; omega
  · apply Fin.ext; show ((t.val * 4 + h.val) * 256 + j.val) % 1024 = 256 * h.val + j.val; omega

theorem v50 (a : Args x0 x1 px pg) (b : Rest x2 x3 pn pz) (t : Fin 8320) (h : Fin 4) (j : Fin 256) :
    val_main_v50 (F := Ideal) x0 x1 x2 (ix2 t (col h j)) = ((xhat (xh px h.val) (gh pg h.val) t.val j * nh pn h.val j : ℝ) : EReal) := by
  rw [val_main_v50_apply, split_col]
  exact mul_r (v45 a t h j) (v48 b t h j)

theorem v51 (a : Args x0 x1 px pg) (t : Fin 8320) (h : Fin 4) (j : Fin 256) :
    val_main_v51 (F := Ideal) x0 (ix2 t (col h j)) = ((hr (xh px h.val) t.val j : ℝ) : EReal) := by
  rw [val_main_v51_apply]
  exact (congrArg _ (split_col t h j)).trans (v5 a t h j)

/-! ## The gate -/

theorem v52_2 (a : Args x0 x1 px pg) (t : Fin 8320) (h : Fin 4) (j : Fin 256) :
    val_main_v52_2 (F := Ideal) x0 (ix2 t (col h j)) = ((sig (xh px h.val) t.val j : ℝ) : EReal) := by
  have o1 : val_main_call2_v2 (F := Ideal) (ix2 t (col h j)) = ((1 : ℝ) : EReal) :=
    (val_main_call2_v2_apply (F := Ideal) _).trans ((val_main_call2_cst_apply (F := Ideal) _).trans word_one)
  have o2 : val_main_call2_v4 (F := Ideal) (ix2 t (col h j)) = ((1 : ℝ) : EReal) :=
    (val_main_call2_v4_apply (F := Ideal) _).trans ((val_main_call2_cst_0_apply (F := Ideal) _).trans word_one)
  have e0 : val_main_call2_v0 (F := Ideal) x0 (ix2 t (col h j)) = ((-hr (xh px h.val) t.val j : ℝ) : EReal) := by
    rw [val_main_call2_v0_apply, v51 a t h j]; exact (EReal.coe_neg _).symm
  have e1 : val_main_call2_v1 (F := Ideal) x0 (ix2 t (col h j)) = ((Real.exp (-hr (xh px h.val) t.val j) : ℝ) : EReal) := by
    rw [val_main_call2_v1_apply, e0]; exact exp_real _
  have e2 : val_main_call2_v3 (F := Ideal) x0 (ix2 t (col h j)) = _ := add_r o1 e1
  exact div_r (one_add_exp_pos _ _ _).ne' o2 e2

theorem v52_1 (a : Args x0 x1 px pg) (t : Fin 8320) (h : Fin 4) (j : Fin 256) :
    val_main_v52_1 (F := Ideal) x0 (ix2 t (col h j)) = ((sig (xh px h.val) t.val j * (1 - sig (xh px h.val) t.val j) : ℝ) : EReal) := by
  have o1 : val_main_call2_v6 (F := Ideal) (ix2 t (col h j)) = ((1 : ℝ) : EReal) :=
    (val_main_call2_v6_apply (F := Ideal) _).trans ((val_main_call2_cst_1_apply (F := Ideal) _).trans word_one)
  exact mul_r (v52_2 a t h j) (sub_r o1 (v52_2 a t h j))

theorem v54 (a : Args x0 x1 px pg) (b : Rest x2 x3 pn pz) (t : Fin 8320) (h : Fin 4) (j : Fin 256) :
    val_main_v54 (F := Ideal) x0 x3 (ix2 t (col h j))
      = ((hr (xh px h.val) t.val j * sig (xh px h.val) t.val j * zh pz h.val t.val j : ℝ) : EReal) :=
  mul_r (x := val_main_v52_0 (F := Ideal) x0 (ix2 t (col h j))) (mul_r (v51 a t h j) (v52_2 a t h j)) (b.hZ t (col h j))

theorem v58 (a : Args x0 x1 px pg) (b : Rest x2 x3 pn pz) (t : Fin 8320) (h : Fin 4) (j : Fin 256) :
    val_main_v58 (F := Ideal) x0 x3 (ix3 t h j) = ((docn (xh px h.val) (zh pz h.val) t.val j : ℝ) : EReal) := by
  rw [val_main_v58_apply]
  refine (congrArg _ (join_col t h j)).trans ((v54 a b t h j).trans (congrArg _ ?_))
  unfold docn; ring

theorem v57 (a : Args x0 x1 px pg) (b : Rest x2 x3 pn pz) (t : Fin 8320) (h : Fin 4) (j : Fin 256) :
    val_main_v57 (F := Ideal) x0 x1 x2 x3 (ix3 t h j)
      = ((hdr (xh px h.val) (gh pg h.val) (nh pn h.val) (zh pz h.val) t.val j : ℝ) : EReal) := by
  rw [val_main_v57_apply, join_col]
  have e55 : val_main_v55 (F := Ideal) x0 x1 x2 x3 (ix2 t (col h j)) = _ := mul_r (b.hZ t (col h j)) (v50 a b t h j)
  have c1 : val_main_call3_v1 (F := Ideal) x0 x1 x2 x3 (ix2 t (col h j)) = _ := mul_r e55 (v52_2 a t h j)
  have c0 : val_main_call3_v0 (F := Ideal) x0 x1 x2 x3 (ix2 t (col h j)) = _ := mul_r (v51 a t h j) e55
  have c2 : val_main_call3_v2 (F := Ideal) x0 x1 x2 x3 (ix2 t (col h j)) = _ := mul_r c0 (v52_1 a t h j)
  refine (add_r c1 c2).trans (congrArg _ ?_)
  unfold hdr zh
  ring

/-! ## The gradient of the norm weights -/

theorem v60 (a : Args x0 x1 px pg) (b : Rest x2 x3 pn pz) (h : Fin 4) (j : Fin 256) :
    val_main_v60 (F := Ideal) x0 x1 x3 (ix2 h j)
      = ((∑ t : Fin 8320, hdn (xh px h.val) (gh pg h.val) (zh pz h.val) t.val j : ℝ) : EReal) := by
  rw [val_main_v60_apply]
  refine zero_sum (val_main_cst_6_apply _) fun t => ?_
  have e1 : idx_main_v60 (ix2 h j) t = ix3 t h j := by funext q; fin_cases q <;> rfl
  rw [e1]
  refine (mul_r (v45 a t h j) (v58 a b t h j)).trans (congrArg _ ?_)
  unfold hdn; ring

theorem one_sum {z : EReal} {f : Fin 1 → EReal} {g : ℝ} (hz : z = FloatOps.ofBits (F := Ideal) .f32 0x00000000#32) (h : f 0 = (g : EReal)) :
    z + ∑ i, f i = (g : EReal) := by
  rw [hz.trans Ideal.ofBits_zero_f32, zero_add, Fin.sum_univ_one, h]

theorem v61 (a : Args x0 x1 px pg) (b : Rest x2 x3 pn pz) (h : Fin 4) (j : Fin 256) :
    val_main_v61 (F := Ideal) x0 x1 x3 (ix3 0 h j)
      = ((∑ t : Fin 8320, hdn (xh px h.val) (gh pg h.val) (zh pz h.val) t.val j : ℝ) : EReal) := by
  rw [val_main_v61_apply]
  refine (congrArg _ ?_).trans (v60 a b h j)
  funext q
  fin_cases q
  · apply Fin.ext; show ((0 * 4 + h.val) * 256 + j.val) / 256 = h.val; omega
  · apply Fin.ext; show ((0 * 4 + h.val) * 256 + j.val) % 256 = j.val; omega

theorem v64 (a : Args x0 x1 px pg) (b : Rest x2 x3 pn pz) (h : Fin 4) (j : Fin 256) :
    val_main_v64 (F := Ideal) x0 x1 x3 (ix2 h j)
      = ((∑ t : Fin 8320, hdn (xh px h.val) (gh pg h.val) (zh pz h.val) t.val j : ℝ) : EReal) := by
  rw [val_main_v64_apply]
  exact one_sum (val_main_cst_7_apply _) (v61 a b h j)

theorem v65 (a : Args x0 x1 px pg) (b : Rest x2 x3 pn pz) (h : Fin 4) (j : Fin 256) :
    val_main_v65 (F := Ideal) x0 x1 x3 (ix2 0 (col h j))
      = ((∑ t ∈ range 8320, wN px pg pz t (256 * h.val + j.val) : ℝ) : EReal) := by
  rw [val_main_v65_apply]
  refine (congrArg _ ?_).trans ((v64 a b h j).trans (congrArg _ ?_))
  · funext q
    fin_cases q
    · apply Fin.ext; show (0 * 1024 + (256 * h.val + j.val)) / 256 = h.val; omega
    · apply Fin.ext; show (0 * 1024 + (256 * h.val + j.val)) % 256 = j.val; omega
  · rw [← Fin.sum_univ_eq_sum_range]
    exact sum_congr rfl fun t _ => (wN_head h.val t.val j).symm

/-! ## The gradient of the recurrence's output -/

theorem v63 (a : Args x0 x1 px pg) (b : Rest x2 x3 pn pz) (t : Fin 8320) (h : Fin 4) (j : Fin 256) :
    val_main_v63 (F := Ideal) x0 x2 x3 (ix3 t h j) = ((dn (xh px h.val) (nh pn h.val) (zh pz h.val) t.val j : ℝ) : EReal) :=
  mul_r (v58 a b t h j) (v62 b t h j)

theorem v67 (a : Args x0 x1 px pg) (b : Rest x2 x3 pn pz) (t : Fin 8320) (h : Fin 4) :
    val_main_v67 (F := Ideal) x0 x1 x2 x3 (ix2 t h)
      = ((∑ j, ho (xh px h.val) (gh pg h.val) t.val j * dn (xh px h.val) (nh pn h.val) (zh pz h.val) t.val j : ℝ) : EReal) := by
  rw [val_main_v67_apply]
  refine zero_sum (val_main_cst_8_apply _) fun j => ?_
  rw [show idx_main_v67 (ix2 t h) j = ix3 t h j from at3 rfl rfl rfl]
  exact mul_r (v32 a t h j) (v63 a b t h j)

theorem v68 (a : Args x0 x1 px pg) (b : Rest x2 x3 pn pz) (t : Fin 8320) (h : Fin 4) :
    val_main_v68 (F := Ideal) x0 x1 x2 x3 (ix3 t h 0)
      = ((∑ j, ho (xh px h.val) (gh pg h.val) t.val j * dn (xh px h.val) (nh pn h.val) (zh pz h.val) t.val j : ℝ) : EReal) := by
  rw [val_main_v68_apply]
  refine (congrArg _ ?_).trans (v67 a b t h)
  funext q
  fin_cases q
  · apply Fin.ext; show ((t.val * 4 + h.val) * 1 + 0) / 4 = t.val; omega
  · apply Fin.ext; show ((t.val * 4 + h.val) * 1 + 0) % 4 = h.val; omega

/-- The part of the gradient that comes through the mean square. -/
def through (px pg : ℕ → ℕ → ℝ) (pn : ℕ → ℝ) (pz : ℕ → ℕ → ℝ) (h t : ℕ) : ℝ :=
  (∑ j, ho (xh px h) (gh pg h) t j * dn (xh px h) (nh pn h) (zh pz h) t j)
    * (-(1 / 2) * (rho (xh px h) (gh pg h) t / ms (xh px h) (gh pg h) t)) / 256

theorem v75 (a : Args x0 x1 px pg) (b : Rest x2 x3 pn pz) (t : Fin 8320) (h : Fin 4) (j : Fin 256) :
    val_main_v75 (F := Ideal) x0 x1 x2 x3 (ix3 t h j) = ((through px pg pn pz h.val t.val : ℝ) : EReal) := by
  have e2 : val_main_v72 (F := Ideal) (ix3 t h 0) = ((256 : ℝ) : EReal) :=
    (val_main_v72_apply (F := Ideal) _).trans ((val_main_cst_9_apply (F := Ideal) _).trans word_256)
  have e71 : val_main_v71 (F := Ideal) x0 x1 x2 x3 (ix3 t h 0) = _ := mul_r (v68 a b t h) (v43 a t h)
  have e73 : val_main_v73 (F := Ideal) x0 x1 x2 x3 (ix3 t h 0) = ((through px pg pn pz h.val t.val : ℝ) : EReal) := div_r (by norm_num) e71 e2
  have e74 : val_main_v74 (F := Ideal) x0 x1 x2 x3 (ix2 t h) = ((through px pg pn pz h.val t.val : ℝ) : EReal) := by
    rw [val_main_v74_apply]
    exact one_sum (val_main_cst_10_apply _) ((congrArg _ (at3 rfl rfl rfl)).trans e73)
  exact (val_main_v75_apply (F := Ideal) x0 x1 x2 x3 _).trans ((congrArg _ (at2 rfl rfl)).trans e74)

theorem hw_eq (px pg : ℕ → ℕ → ℝ) (pn : ℕ → ℝ) (pz : ℕ → ℕ → ℝ) (h t : ℕ) (j : Fin 256) :
    dn (xh px h) (nh pn h) (zh pz h) t j * rho (xh px h) (gh pg h) t + ho (xh px h) (gh pg h) t j * through px pg pn pz h t
      + through px pg pn pz h t * ho (xh px h) (gh pg h) t j = hw (xh px h) (gh pg h) (nh pn h) (zh pz h) t j := by
  have hm := ms_pos (xh px h) (gh pg h) t
  have hr : (ms (xh px h) (gh pg h) t)⁻¹ = rho (xh px h) (gh pg h) t * rho (xh px h) (gh pg h) t := by
    unfold rho
    rw [← mul_inv, Real.mul_self_sqrt hm.le]
  have hs : (∑ l, dn (xh px h) (nh pn h) (zh pz h) t l * xhat (xh px h) (gh pg h) t l)
      = rho (xh px h) (gh pg h) t * ∑ l, ho (xh px h) (gh pg h) t l * dn (xh px h) (nh pn h) (zh pz h) t l := by
    rw [mul_sum]
    refine sum_congr rfl fun l _ => ?_
    unfold xhat; ring
  unfold hw through
  rw [hs, div_eq_mul_inv (rho (xh px h) (gh pg h) t), hr]
  unfold xhat
  ring

theorem v79 (a : Args x0 x1 px pg) (b : Rest x2 x3 pn pz) (t : Fin 8320) (h : Fin 4) (j : Fin 256) :
    val_main_v79 (F := Ideal) x0 x1 x2 x3 (ix3 t h j)
      = ((hw (xh px h.val) (gh pg h.val) (nh pn h.val) (zh pz h.val) t.val j : ℝ) : EReal) := by
  have e69 : val_main_v69 (F := Ideal) x0 x1 (ix3 t h j) = _ := (val_main_v69_apply (F := Ideal) x0 x1 _).trans ((congrArg _ (at3 rfl rfl rfl)).trans (v40 a t h))
  have e70 : val_main_v70 (F := Ideal) x0 x1 x2 x3 (ix3 t h j) = _ := mul_r (v63 a b t h j) e69
  have e76 : val_main_v76 (F := Ideal) x0 x1 x2 x3 (ix3 t h j) = _ := mul_r (v32 a t h j) (v75 a b t h j)
  have e78 : val_main_v78 (F := Ideal) x0 x1 x2 x3 (ix3 t h j) = _ := mul_r (v75 a b t h j) (v32 a t h j)
  have e77 : val_main_v77 (F := Ideal) x0 x1 x2 x3 (ix3 t h j) = _ := add_r e70 e76
  exact (add_r e77 e78).trans (congrArg _ (hw_eq px pg pn pz h.val t.val j))

end Cert.Gla.Ref

end
-- ==== Proof.Gla.Start.lean ====
/- What the arrays hold when the grid starts, in terms of the arguments. -/
module

public import proofs.«01_k».proof.Proof.Gla.Saved
public import proofs.«01_k».proof.Proof.Gla.RefB
public import Idealize.ShloMosaic.Lib.Claim

@[expose] public section

noncomputable section

namespace Cert.Gla

open Finset Idealize.ShloMosaic Idealize.ShloMosaic.TcCoe Cert.KernelIdeal Cert.KernelIdeal.Gen

variable (m : (ℓ : Loc nD τ Cert.KernelIdeal.sig) → Buf (Elt Ideal) ℓ) (c : Dev nD)

theorem entry_out : V m c main_v56
    = shapeCast S8320x1024 (Cert.ReferenceIdeal.Read.val_main_v32 (F := Ideal) (m ⟨c, main_arg0⟩) (m ⟨c, main_arg1⟩)) shapeCasts_S8320x4x256_S8320x1024 := by
  entry_read
  rfl

theorem entry_states : V m c main_v55
    = states (Cert.ReferenceIdeal.Read.val_main_v4 (F := Ideal) (m ⟨c, main_arg0⟩)) (Cert.ReferenceIdeal.Read.val_main_v3 (F := Ideal) (m ⟨c, main_arg0⟩))
        (left (Cert.ReferenceIdeal.Read.val_main_v9 (F := Ideal) (m ⟨c, main_arg1⟩))) := by
  entry_read
  rfl

theorem entry_given : V m c main_v57_0 = m ⟨c, main_arg4⟩ := by
  entry_read
  rfl

theorem entry_args : V m c main_arg0 = m ⟨c, main_arg0⟩ ∧ V m c main_arg1 = m ⟨c, main_arg1⟩ ∧ V m c main_arg2 = m ⟨c, main_arg2⟩ ∧ V m c main_arg3 = m ⟨c, main_arg3⟩ :=
  ⟨V_main_arg0 m c, V_main_arg1 m c, V_main_arg2 m c, V_main_arg3 m c⟩

variable {m c} {px pg : ℕ → ℕ → ℝ} {pn : ℕ → ℝ} {pz : ℕ → ℕ → ℝ}

/-- The arrays hold the reals when the grid starts. -/
theorem entry (a : Ref.Args (m ⟨c, main_arg0⟩) (m ⟨c, main_arg1⟩) px pg) (b : Ref.Rest (m ⟨c, main_arg2⟩) (m ⟨c, main_arg3⟩) pn pz) :
    Entry m c px pg pn pz where
  hX i r k h0 h1 hk := by
    subst h0
    rw [(entry_args m c).1]
    exact (congrArg (m ⟨c, main_arg0⟩) (Ref.at2 (x := i 0) rfl h1)).trans (a.hX (i 0) ⟨k, hk⟩)
  hL i r k h0 h1 := by
    subst h0 h1
    rw [(entry_args m c).2.1]
    exact (congrArg (m ⟨c, main_arg1⟩) (Ref.at2 (x := i 0) (y := i 1) rfl rfl)).trans (a.hL (i 0) (i 1))
  hS i h n j d h0 h1 h2 h3 := by
    subst h0 h1
    rw [entry_states]
    exact (congrArg _ (Ref.at4 (x := i 0) (y := i 1) rfl rfl h2 h3)).trans (states_real a (i 0) (i 1) j d)
  hO i r k h0 h1 := by
    subst h0 h1
    rw [entry_out]
    exact (congrArg _ (Ref.at2 (x := i 0) (y := i 1) rfl rfl)).trans (out_real a (i 0) (i 1))
  hZ i r k h0 h1 := by
    subst h0 h1
    rw [(entry_args m c).2.2.2]
    exact (congrArg (m ⟨c, main_arg3⟩) (Ref.at2 (x := i 0) (y := i 1) rfl rfl)).trans (b.hZ (i 0) (i 1))
  hN i k h1 := by
    subst h1
    rw [(entry_args m c).2.2.1]
    exact (congrArg (m ⟨c, main_arg2⟩) (Ref.at2 (x := 0) (y := i 1) (Nat.lt_one_iff.1 (i 0).isLt) rfl)).trans (b.hN (i 1))

end Cert.Gla

end
-- ==== Proof.Gla.RefC.lean ====
/- The reference, read at an index: the gradients of the query, the key, the value and the log gates. -/
module

public import proofs.«01_k».proof.Proof.Gla.RefB

@[expose] public section

noncomputable section

namespace Cert.Gla.Ref

open Finset Idealize.ShloMosaic Cert.ReferenceIdeal Cert.ReferenceIdeal.Gen Cert.ReferenceIdeal.Read

variable {x0 : S8320x13312.Idx → EReal} {x1 : S8320x512.Idx → EReal} {x2 : S1x1024.Idx → EReal} {x3 : S8320x1024.Idx → EReal}
  {px pg : ℕ → ℕ → ℝ} {pn : ℕ → ℝ} {pz : ℕ → ℕ → ℝ}

/-- Head `h`'s gradient of the recurrence's output. -/
abbrev hW (px pg : ℕ → ℕ → ℝ) (pn : ℕ → ℝ) (pz : ℕ → ℕ → ℝ) (h : ℕ) : ℕ → Fin 256 → ℝ := hw (xh px h) (gh pg h) (nh pn h) (zh pz h)

theorem v80 (a : Args x0 x1 px pg) (b : Rest x2 x3 pn pz) (h : Fin 4) (t : Fin 8320) (j : Fin 256) :
    val_main_v80 (F := Ideal) x0 x1 x2 x3 (ix3 h t j) = ((hW px pg pn pz h.val t.val j : ℝ) : EReal) :=
  (val_main_v80_apply (F := Ideal) x0 x1 x2 x3 _).trans ((congrArg _ (at3 rfl rfl rfl)).trans (v79 a b t h j))

theorem v82 (a : Args x0 x1 px pg) (b : Rest x2 x3 pn pz) (s : Fin 8320) (h : Fin 4) (j : Fin 256) :
    val_main_v82 (F := Ideal) x0 x1 x2 x3 (ix3 s h j)
      = ((hdv (xh px h.val) (gh pg h.val) (nh pn h.val) (zh pz h.val) s.val j : ℝ) : EReal) := by
  rw [val_main_v82_apply, val_main_v81_apply]
  unfold hdv gradV
  refine sum_r fun t => ?_
  rw [show lidx_main_v81 (idx_main_v82 (ix3 s h j)) t = ix3 h t j from at3 rfl rfl rfl,
    show ridx_main_v81 (idx_main_v82 (ix3 s h j)) t = ix3 t s h from at3 rfl rfl rfl]
  exact (mul_r (v80 a b h t j) (v30 a t s h)).trans (congrArg _ (mul_comm _ _))

theorem v84 (a : Args x0 x1 px pg) (b : Rest x2 x3 pn pz) (t s : Fin 8320) (h : Fin 4) :
    val_main_v84 (F := Ideal) x0 x1 x2 x3 (ix3 t s h) = ((datt (hv (xh px h.val)) (hW px pg pn pz h.val) t.val s.val : ℝ) : EReal) := by
  rw [val_main_v84_apply, val_main_v83_apply]
  unfold datt
  refine sum_r fun j => ?_
  rw [show lidx_main_v83 (idx_main_v84 (ix3 t s h)) j = ix3 h t j from at3 rfl rfl rfl,
    show ridx_main_v83 (idx_main_v84 (ix3 t s h)) j = ix3 s h j from at3 rfl rfl rfl]
  exact mul_r (v80 a b h t j) (v4 a s h j)

theorem v85 (a : Args x0 x1 px pg) (b : Rest x2 x3 pn pz) (t s : Fin 8320) (h : Fin 4) (d : Fin 128) :
    val_main_v85 (F := Ideal) x0 x1 x2 x3 (ix4 t s h d) = ((datt (hv (xh px h.val)) (hW px pg pn pz h.val) t.val s.val : ℝ) : EReal) :=
  (val_main_v85_apply (F := Ideal) x0 x1 x2 x3 _).trans ((congrArg _ (at3 rfl rfl rfl)).trans (v84 a b t s h))

theorem v87 (a : Args x0 x1 px pg) (b : Rest x2 x3 pn pz) (t s : Fin 8320) (h : Fin 4) (d : Fin 128) :
    val_main_v87 (F := Ideal) x0 x1 x2 x3 (ix4 t s h d)
      = ((datt (hv (xh px h.val)) (hW px pg pn pz h.val) t.val s.val * kept (gh pg h.val) t.val s.val d : ℝ) : EReal) :=
  mul_r (v85 a b t s h d) (v23 a t s h d)

/-! ## The key -/

theorem v90 (a : Args x0 x1 px pg) (b : Rest x2 x3 pn pz) (s : Fin 8320) (h : Fin 4) (d : Fin 128) :
    val_main_v90 (F := Ideal) x0 x1 x2 x3 (ix3 s h d)
      = ((hdk (xh px h.val) (gh pg h.val) (nh pn h.val) (zh pz h.val) s.val d : ℝ) : EReal) := by
  rw [val_main_v90_apply]
  unfold hdk gradK
  refine zero_sum (val_main_cst_11_apply _) fun t => ?_
  rw [show idx_main_v90 (ix3 s h d) t = ix4 t s h d from at4 rfl rfl rfl rfl]
  have e : val_main_v88 (F := Ideal) x0 (ix4 t s h d) = ((hq (xh px h.val) t.val d : ℝ) : EReal) :=
    (val_main_v88_apply (F := Ideal) x0 _).trans ((val_main_v24_apply (F := Ideal) x0 _).trans ((congrArg _ (at3 rfl rfl rfl)).trans (v7 a t h d)))
  refine (mul_r e (v87 a b t s h d)).trans (congrArg _ ?_)
  unfold kept
  split
  · ring
  · simp

theorem v96 (a : Args x0 x1 px pg) (b : Rest x2 x3 pn pz) (s : Fin 8320) (h : Fin 4) (d : Fin 128) :
    val_main_v96 (F := Ideal) x0 x1 x2 x3 (ix3 s h d)
      = ((hdk (xh px h.val) (gh pg h.val) (nh pn h.val) (zh pz h.val) s.val d : ℝ) : EReal) := by
  have e : val_main_v91 (F := Ideal) x0 x1 x2 x3 (ix4 0 s h d) = _ := (val_main_v91_apply (F := Ideal) x0 x1 x2 x3 _).trans
    ((congrArg _ (at3 (x := s) (y := h) (z := d) (by show (((0 * 8320 + s.val) * 4 + h.val) * 128 + d.val) / 512 = s.val; omega)
      (by show (((0 * 8320 + s.val) * 4 + h.val) * 128 + d.val) / 128 % 4 = h.val; omega)
      (by show (((0 * 8320 + s.val) * 4 + h.val) * 128 + d.val) % 128 = d.val; omega))).trans (v90 a b s h d))
  rw [val_main_v96_apply]
  exact one_sum (val_main_cst_13_apply _) ((congrArg _ (at4 rfl rfl rfl rfl)).trans e)

/-! ## The query -/

theorem v94 (a : Args x0 x1 px pg) (b : Rest x2 x3 pn pz) (t : Fin 8320) (h : Fin 4) (d : Fin 128) :
    val_main_v94 (F := Ideal) x0 x1 x2 x3 (ix3 t h d)
      = ((gradQ (hk (xh px h.val)) (gh pg h.val) (hv (xh px h.val)) (hW px pg pn pz h.val) t.val d : ℝ) : EReal) := by
  rw [val_main_v94_apply]
  unfold gradQ
  refine zero_sum (val_main_cst_12_apply _) fun s => ?_
  rw [show idx_main_v94 (ix3 t h d) s = ix4 t s h d from at4 rfl rfl rfl rfl]
  have e : val_main_v92 (F := Ideal) x0 (ix4 t s h d) = ((hk (xh px h.val) s.val d : ℝ) : EReal) :=
    (val_main_v92_apply (F := Ideal) x0 _).trans ((val_main_v25_apply (F := Ideal) x0 _).trans ((congrArg _ (at3 rfl rfl rfl)).trans (v3 a s h d)))
  refine (mul_r (v87 a b t s h d) e).trans (congrArg _ ?_)
  unfold kept
  split
  · ring
  · simp

theorem v111 (a : Args x0 x1 px pg) (b : Rest x2 x3 pn pz) (t : Fin 8320) (h : Fin 4) (d : Fin 128) :
    val_main_v111 (F := Ideal) x0 x1 x2 x3 (ix3 t h d)
      = ((hdq (xh px h.val) (gh pg h.val) (nh pn h.val) (zh pz h.val) t.val d : ℝ) : EReal) := by
  have e : val_main_v95 (F := Ideal) x0 x1 x2 x3 (ix4 t 0 h d) = _ := (val_main_v95_apply (F := Ideal) x0 x1 x2 x3 _).trans
    ((congrArg _ (at3 (x := t) (y := h) (z := d) (by show (((t.val * 1 + 0) * 4 + h.val) * 128 + d.val) / 512 = t.val; omega)
      (by show (((t.val * 1 + 0) * 4 + h.val) * 128 + d.val) / 128 % 4 = h.val; omega)
      (by show (((t.val * 1 + 0) * 4 + h.val) * 128 + d.val) % 128 = d.val; omega))).trans (v94 a b t h d))
  have e97 : val_main_v97 (F := Ideal) x0 x1 x2 x3 (ix3 t h d) = _ :=
    (val_main_v97_apply x0 x1 x2 x3 _).trans (one_sum (val_main_cst_14_apply _) ((congrArg _ (at4 rfl rfl rfl rfl)).trans e))
  have ec : val_main_v110 (F := Ideal) (ix3 t h d) = ((cs : ℝ) : EReal) :=
    (val_main_v110_apply (F := Ideal) _).trans ((val_main_cst_19_apply (F := Ideal) _).trans word_cs)
  exact mul_r e97 ec

/-! ## The log gates -/

theorem v99 (a : Args x0 x1 px pg) (b : Rest x2 x3 pn pz) (t s : Fin 8320) (h : Fin 4) (d : Fin 128) :
    val_main_v99 (F := Ideal) x0 x1 x2 x3 (ix4 t s h d)
      = ((dexp (hq (xh px h.val)) (hk (xh px h.val)) (gh pg h.val) (hv (xh px h.val)) (hW px pg pn pz h.val) t.val s.val d : ℝ) : EReal) := by
  have e86 : val_main_v86 (F := Ideal) x0 x1 x2 x3 (ix4 t s h d) = _ := mul_r (v28 a t s h d) (v85 a b t s h d)
  have e98 : val_main_v98 (F := Ideal) x0 x1 x2 x3 (ix4 t s h d) = _ := mul_r e86 (v23 a t s h d)
  have ez : val_main_call4_v0 (F := Ideal) (ix4 t s h d) = ((0 : ℝ) : EReal) :=
    (val_main_call4_v0_apply (F := Ideal) _).trans ((val_main_call4_cst_apply (F := Ideal) _).trans Ideal.ofBits_zero_f32)
  rw [val_main_v99_apply, v22_1, e98, ez, sel_le (by omega) (by omega), coe_ite]
  refine congrArg _ ?_
  unfold dexp kept
  split
  · ring
  · rfl

theorem v107 (a : Args x0 x1 px pg) (b : Rest x2 x3 pn pz) (t : Fin 8320) (h : Fin 4) (d : Fin 128) :
    val_main_v107 (F := Ideal) x0 x1 x2 x3 (ix3 t h d)
      = ((gradB (hq (xh px h.val)) (hk (xh px h.val)) (gh pg h.val) (hv (xh px h.val)) (hW px pg pn pz h.val) t.val d : ℝ) : EReal) := by
  have e100 : val_main_v100 (F := Ideal) x0 x1 x2 x3 (ix3 t h d)
      = ((∑ s : Fin 8320, dexp (hq (xh px h.val)) (hk (xh px h.val)) (gh pg h.val) (hv (xh px h.val)) (hW px pg pn pz h.val) t.val s.val d : ℝ) : EReal) := by
    rw [val_main_v100_apply]
    refine zero_sum (val_main_cst_15_apply _) fun s => ?_
    rw [show idx_main_v100 (ix3 t h d) s = ix4 t s h d from at4 rfl rfl rfl rfl]
    exact v99 a b t s h d
  have e103 : val_main_v103 (F := Ideal) x0 x1 x2 x3 (ix3 t h d)
      = ((∑ s : Fin 8320, -dexp (hq (xh px h.val)) (hk (xh px h.val)) (gh pg h.val) (hv (xh px h.val)) (hW px pg pn pz h.val) s.val t.val d : ℝ) : EReal) := by
    rw [val_main_v103_apply]
    refine zero_sum (val_main_cst_16_apply _) fun s => ?_
    rw [show idx_main_v103 (ix3 t h d) s = ix4 s t h d from at4 rfl rfl rfl rfl, val_main_v102_apply, v99 a b s t h d]
    exact (EReal.coe_neg _).symm
  have e101 : val_main_v101 (F := Ideal) x0 x1 x2 x3 (ix4 t 0 h d) = _ := (val_main_v101_apply (F := Ideal) x0 x1 x2 x3 _).trans
    ((congrArg _ (at3 (x := t) (y := h) (z := d) (by show (((t.val * 1 + 0) * 4 + h.val) * 128 + d.val) / 512 = t.val; omega)
      (by show (((t.val * 1 + 0) * 4 + h.val) * 128 + d.val) / 128 % 4 = h.val; omega)
      (by show (((t.val * 1 + 0) * 4 + h.val) * 128 + d.val) % 128 = d.val; omega))).trans e100)
  have e104 : val_main_v104 (F := Ideal) x0 x1 x2 x3 (ix4 0 t h d) = _ := (val_main_v104_apply (F := Ideal) x0 x1 x2 x3 _).trans
    ((congrArg _ (at3 (x := t) (y := h) (z := d) (by show (((0 * 8320 + t.val) * 4 + h.val) * 128 + d.val) / 512 = t.val; omega)
      (by show (((0 * 8320 + t.val) * 4 + h.val) * 128 + d.val) / 128 % 4 = h.val; omega)
      (by show (((0 * 8320 + t.val) * 4 + h.val) * 128 + d.val) % 128 = d.val; omega))).trans e103)
  have e105 : val_main_v105 (F := Ideal) x0 x1 x2 x3 (ix3 t h d) = _ :=
    (val_main_v105_apply x0 x1 x2 x3 _).trans (one_sum (val_main_cst_17_apply _) ((congrArg _ (at4 rfl rfl rfl rfl)).trans e104))
  have e106 : val_main_v106 (F := Ideal) x0 x1 x2 x3 (ix3 t h d) = _ :=
    (val_main_v106_apply x0 x1 x2 x3 _).trans (one_sum (val_main_cst_18_apply _) ((congrArg _ (at4 rfl rfl rfl rfl)).trans e101))
  refine (add_r e105 e106).trans (congrArg _ ?_)
  rw [sum_neg_distrib, neg_add_eq_sub]
  rfl

/-- The gradient of the summed log gates, by row and column. -/
def wB (px pg : ℕ → ℕ → ℝ) (pn : ℕ → ℝ) (pz : ℕ → ℕ → ℝ) (t c : ℕ) : ℝ :=
  gradB (hq (xh px (c / 128))) (hk (xh px (c / 128))) (gh pg (c / 128)) (hv (xh px (c / 128))) (hW px pg pn pz (c / 128))
    t ⟨c % 128, Nat.mod_lt _ (by norm_num)⟩

theorem v108 (a : Args x0 x1 px pg) (b : Rest x2 x3 pn pz) (t : Fin 8320) (c : Fin 512) :
    val_main_v108 (F := Ideal) x0 x1 x2 x3 (ix2 t c) = ((wB px pg pn pz t.val c.val : ℝ) : EReal) := by
  rw [val_main_v108_apply]
  unfold wB
  refine (congrArg _ (at3 (x := t) (y := ⟨c.val / 128, by omega⟩) (z := ⟨c.val % 128, by omega⟩) ?_ ?_ ?_)).trans (v107 a b t _ _)
  · show (t.val * 512 + c.val) / 512 = t.val; omega
  · show (t.val * 512 + c.val) / 128 % 4 = c.val / 128; omega
  · show (t.val * 512 + c.val) % 128 = c.val % 128; omega

theorem wG_sum (px pg : ℕ → ℕ → ℝ) (pn : ℕ → ℝ) (pz : ℕ → ℕ → ℝ) (u c : ℕ) :
    wG px pg pn pz u c = ∑ t : Fin 8320, if u ≤ t.val then wB px pg pn pz t.val c else 0 := by
  unfold wG hdg gradG wB
  rfl

theorem v109 (a : Args x0 x1 px pg) (b : Rest x2 x3 pn pz) (u : Fin 8320) (c : Fin 512) :
    val_main_v109 (F := Ideal) x0 x1 x2 x3 (ix2 u c) = ((wG px pg pn pz u.val c.val : ℝ) : EReal) := by
  rw [wG_sum]
  unfold val_main_v109
  have hx := v108 a b
  generalize val_main_v108 (F := Ideal) x0 x1 x2 x3 = y at hx ⊢
  refine back_sum (R := 8320) (M := 8319) (C := 512) (x := y) (f := wB px pg pn pz) (by norm_num) hx _ (fun i => ?_) _ _ u c
  rw [val_main_call5_call0_v0_apply, val_main_call5_call0_cst_apply]
  exact Ideal.ofBits_zero_f32

/-! ## The gradient of the projection -/

theorem beside4 (A B : S8320x4x128.Idx → EReal) (C D : S8320x4x256.Idx → EReal)
    (hc : Shape.Concatenates [S8320x4x128, S8320x4x128, S8320x4x256, S8320x4x256] S8320x4x768 2) (t : Fin 8320) (h : Fin 4) (c : Fin 768) :
    concatenate S8320x4x768 2 [⟨S8320x4x128, A⟩, ⟨S8320x4x128, B⟩, ⟨S8320x4x256, C⟩, ⟨S8320x4x256, D⟩] hc (ix3 t h c)
      = if h0 : c.val < 128 then A (ix3 t h ⟨c.val, h0⟩)
        else if h1 : c.val - 128 < 128 then B (ix3 t h ⟨c.val - 128, h1⟩)
        else if h2 : c.val - 128 - 128 < 256 then C (ix3 t h ⟨c.val - 128 - 128, h2⟩)
        else D (ix3 t h ⟨c.val - 128 - 128 - 256, by omega⟩) := by
  pointwise

theorem beside3 (A : S8320x6144.Idx → EReal) (B : S8320x3072.Idx → EReal) (C : S8320x7168.Idx → EReal)
    (hc : Shape.Concatenates [S8320x6144, S8320x3072, S8320x7168] S8320x16384 1) (t : Fin 8320) (c : Fin 16384) :
    concatenate S8320x16384 1 [⟨S8320x6144, A⟩, ⟨S8320x3072, B⟩, ⟨S8320x7168, C⟩] hc (ix2 t c)
      = if h0 : c.val < 6144 then A (ix2 t ⟨c.val, h0⟩)
        else if h1 : c.val - 6144 < 3072 then B (ix2 t ⟨c.val - 6144, h1⟩)
        else C (ix2 t ⟨c.val - 6144 - 3072, by omega⟩) := by
  pointwise

theorem v112 (a : Args x0 x1 px pg) (b : Rest x2 x3 pn pz) (t : Fin 8320) (h : Fin 4) (c : Fin 768) :
    val_main_v112 (F := Ideal) x0 x1 x2 x3 (ix3 t h c)
      = ((hdx (xh px h.val) (gh pg h.val) (nh pn h.val) (zh pz h.val) t.val c : ℝ) : EReal) := by
  refine (beside4 _ _ _ _ _ t h c).trans ?_
  unfold hdx
  split
  · exact v111 a b t h _
  split
  · exact v96 a b t h _
  split
  · exact v82 a b t h _
  · exact v57 a b t h _

theorem v113 (a : Args x0 x1 px pg) (b : Rest x2 x3 pn pz) (t : Fin 8320) (c : Fin 3072) :
    val_main_v113 (F := Ideal) x0 x1 x2 x3 (ix2 t c) = ((wX px pg pn pz t.val c.val : ℝ) : EReal) := by
  rw [val_main_v113_apply]
  refine (congrArg _ (at3 (x := t) (y := ⟨c.val / 768, by omega⟩) (z := ⟨c.val % 768, by omega⟩) ?_ ?_ ?_)).trans (v112 a b t _ _)
  · show (t.val * 3072 + c.val) / 3072 = t.val; omega
  · show (t.val * 3072 + c.val) / 768 % 4 = c.val / 768; omega
  · show (t.val * 3072 + c.val) % 768 = c.val % 768; omega

/-- The written columns of the gradient of the projection. -/
theorem v117 (a : Args x0 x1 px pg) (b : Rest x2 x3 pn pz) (x4 : S8320x16384.Idx → EReal) (t : Fin 8320) (c : Fin 16384) (k : ℕ)
    (hk : c.val = 6144 + k) (h : k < 3072) :
    val_main_v117 (F := Ideal) x0 x1 x2 x3 x4 (ix2 t c) = ((wX px pg pn pz t.val k : ℝ) : EReal) := by
  refine (beside3 _ _ _ _ t c).trans ?_
  rw [dif_neg (by omega), dif_pos (by omega)]
  refine (congrArg (val_main_v113 (F := Ideal) x0 x1 x2 x3) (at2 (x := t) (y := ⟨k, h⟩) rfl ?_)).trans (v113 a b t ⟨k, h⟩)
  show c.val - 6144 = k
  omega

/-- The other columns are the given ones. -/
theorem v117_else (x4 : S8320x16384.Idx → EReal) (t : Fin 8320) (c : Fin 16384) (hc : c.val < 6144 ∨ 9216 ≤ c.val) :
    val_main_v117 (F := Ideal) x0 x1 x2 x3 x4 (ix2 t c) = x4 (ix2 t c) := by
  refine (beside3 _ _ _ _ t c).trans ?_
  split
  · exact (val_main_v114_apply (F := Ideal) x4 _).trans (congrArg x4 (at2 rfl rfl))
  · rw [dif_neg (by omega)]
    refine (val_main_v116_apply (F := Ideal) x4 _).trans (congrArg x4 (at2 rfl ?_))
    show 9216 + (c.val - 6144 - 3072) = c.val
    omega

end Cert.Gla.Ref

end
-- ==== Proof.Gla.Finish.lean ====
/- The three result arrays are the reference's. -/
module

public import proofs.«01_k».proof.Proof.Gla.Grid
public import proofs.«01_k».proof.Proof.Gla.Start
public import proofs.«01_k».proof.Proof.Gla.RefC

@[expose] public section

noncomputable section

namespace Cert.Gla

open Finset Idealize.ShloMosaic Idealize.ShloMosaic.TcCoe Cert.KernelIdeal Cert.KernelIdeal.Gen

variable {m : (ℓ : Loc nD τ Cert.KernelIdeal.sig) → Buf (Elt Ideal) ℓ} {c : Dev nD} {px pg : ℕ → ℕ → ℝ} {pn : ℕ → ℝ} {pz : ℕ → ℕ → ℝ}

/-- The grid leaves the other columns of the projection's gradient alone. -/
theorem other6 (i : S8320x16384.Idx) (h : (i 1).val < 6144 ∨ 9216 ≤ (i 1).val) :
    (dats m 0 c).arrAt 6 cfg0.N i = m ⟨c, main_arg4⟩ i := by
  refine (Value.entry6 m c i fun t _ hi => ?_).trans (congrFun (entry_given m c) i)
  obtain ⟨e0, e1⟩ := index6 t
  obtain ⟨x0, x1⟩ := whole6 t
  rw [View.set_slice_whole, Rect.mem_set_unit] at hi
  have h1 : win0_6.index t 1 * 3072 ≤ (i 1).val ∧ (i 1).val < win0_6.index t 1 * 3072 + win0_6.xsize (grid0.coords t) 1 := hi 1
  omega

theorem result6 (a : Ref.Args (m ⟨c, main_arg0⟩) (m ⟨c, main_arg1⟩) px pg) (b : Ref.Rest (m ⟨c, main_arg2⟩) (m ⟨c, main_arg3⟩) pn pz) :
    (dats m 0 c).arrAt 6 cfg0.N
      = Cert.ReferenceIdeal.Read.val_main_v117 (F := Ideal) (m ⟨c, main_arg0⟩) (m ⟨c, main_arg1⟩) (m ⟨c, main_arg2⟩) (m ⟨c, main_arg3⟩) (m ⟨c, main_arg4⟩) := by
  refine funext fun (i : S8320x16384.Idx) => ?_
  have hi : i = ix2 (i 0) (i 1) := Ref.at2 rfl rfl
  by_cases h : 6144 ≤ (i 1).val ∧ (i 1).val < 9216
  · have hk : (i 1).val = 6144 + ((i 1).val - 6144) := by omega
    have hb : (i 1).val - 6144 < 3072 := by omega
    refine (final6 (entry a b) i _ hk hb).trans ?_
    exact (Ref.v117 a b _ (i 0) (i 1) _ hk hb).symm.trans (congrArg _ hi.symm)
  · have ho : (i 1).val < 6144 ∨ 9216 ≤ (i 1).val := by omega
    refine (other6 i ho).trans ?_
    refine Eq.trans (congrArg (m ⟨c, main_arg4⟩) hi) ?_
    exact (Ref.v117_else _ (i 0) (i 1) ho).symm.trans (congrArg _ hi.symm)

theorem result7 (a : Ref.Args (m ⟨c, main_arg0⟩) (m ⟨c, main_arg1⟩) px pg) (b : Ref.Rest (m ⟨c, main_arg2⟩) (m ⟨c, main_arg3⟩) pn pz) :
    (dats m 0 c).arrAt 7 cfg0.N
      = Cert.ReferenceIdeal.Read.val_main_v109 (F := Ideal) (m ⟨c, main_arg0⟩) (m ⟨c, main_arg1⟩) (m ⟨c, main_arg2⟩) (m ⟨c, main_arg3⟩) := by
  refine funext fun (i : S8320x512.Idx) => ?_
  have hi : i = ix2 (i 0) (i 1) := Ref.at2 rfl rfl
  exact (final7 (entry a b) i).trans ((Ref.v109 a b (i 0) (i 1)).symm.trans (congrArg _ hi.symm))

theorem result8 (a : Ref.Args (m ⟨c, main_arg0⟩) (m ⟨c, main_arg1⟩) px pg) (b : Ref.Rest (m ⟨c, main_arg2⟩) (m ⟨c, main_arg3⟩) pn pz) :
    (dats m 0 c).arrAt 8 cfg0.N
      = Cert.ReferenceIdeal.Read.val_main_v65 (F := Ideal) (m ⟨c, main_arg0⟩) (m ⟨c, main_arg1⟩) (m ⟨c, main_arg3⟩) := by
  refine funext fun (i : S1x1024.Idx) => ?_
  have hb : (i 1).val < 1024 := (i 1).isLt
  have hc : 256 * ((i 1).val / 256) + (i 1).val % 256 = (i 1).val := by omega
  have hi : i = ix2 0 (Ref.col ⟨(i 1).val / 256, by omega⟩ ⟨(i 1).val % 256, by omega⟩) := Ref.at2 (Nat.lt_one_iff.1 (i 0).isLt) hc.symm
  refine (final8 (entry a b) i).trans ?_
  refine Eq.trans ?_ ((Ref.v65 a b ⟨(i 1).val / 256, by omega⟩ ⟨(i 1).val % 256, by omega⟩).symm.trans (congrArg _ hi.symm))
  show ((∑ r ∈ range 8320, wN px pg pz r (i 1).val : ℝ) : EReal) = ((∑ t ∈ range 8320, wN px pg pz t (256 * ((i 1).val / 256) + (i 1).val % 256) : ℝ) : EReal)
  rw [hc]

end Cert.Gla

end
-- ==== Proof.Attn.Row.lean ====
/- One row of a softmax, kept as a running reference value, a sum of weights and a sum of weighted values. -/
module

public import proofs.«01_k».proof.Proof.Products.Sums

@[expose] public section

noncomputable section

namespace Cert.Attn

open Finset Idealize.ShloMosaic

/-- The running triple of a row stands for the weights' sum `S` and the weighted values' sum `A`: nothing has been added yet, or both are scaled by one power of two. -/
def Good (S A : ℝ) (m l a : EReal) : Prop :=
  (m = ⊥ ∧ l = 0 ∧ a = 0 ∧ S = 0 ∧ A = 0)
    ∨ ∃ M : ℝ, m = (M : EReal) ∧ l = ((Real.exp (-(M * Real.log 2)) * S : ℝ) : EReal) ∧ a = ((Real.exp (-(M * Real.log 2)) * A : ℝ) : EReal)

theorem coe_sum {n : ℕ} (f : Fin n → ℝ) : ((∑ c, f c : ℝ) : EReal) = ∑ c, (f c : EReal) := by
  induction n with
  | zero => simp
  | succ n ih => rw [Fin.sum_univ_succ, Fin.sum_univ_succ, EReal.coe_add, ih]

theorem exp2_real (r : ℝ) : Ideal.exp2 (r : EReal) = ((Real.exp (r * Real.log 2) : ℝ) : EReal) := by
  rw [Ideal.exp2_coe]
  exact congrArg _ ((Real.rpow_def_of_pos (by norm_num) r).trans (congrArg Real.exp (mul_comm _ _)))

/-- The largest of finitely many entries, each a real number or nothing, one of them a real number. -/
theorem sup_real {n : ℕ} (T : Fin n → EReal) (τ : Fin n → ℝ) (hT : ∀ c, T c = ⊥ ∨ T c = (τ c : EReal)) (c0 : Fin n) (h0 : T c0 = (τ c0 : EReal)) :
    ∃ M : ℝ, Finset.univ.sup T = (M : EReal) := by
  have hb : Finset.univ.sup T ≠ ⊥ := fun h => by
    have := Finset.le_sup (f := T) (Finset.mem_univ c0)
    rw [h, h0] at this
    exact absurd (le_bot_iff.mp this) (EReal.coe_ne_bot _)
  have ht : Finset.univ.sup T ≠ ⊤ := by
    refine ne_of_lt ((Finset.sup_lt_iff bot_lt_top).2 fun c _ => ?_)
    rcases hT c with h | h <;> rw [h]
    · exact bot_lt_top
    · exact EReal.coe_lt_top _
  exact ⟨_, (EReal.coe_toReal ht hb).symm⟩

/-- Adding a block of entries to the running triple. -/
theorem Good.step {S A : ℝ} {m l a : EReal} (h : Good S A m l a) {n : ℕ} (T : Fin n → EReal) (c2 : ℝ) (τ w x : Fin n → ℝ)
    (hT : ∀ c, (T c = ⊥ ∧ w c = 0) ∨ (T c = (τ c : EReal) ∧ w c = Real.exp ((τ c + c2) * Real.log 2))) (c0 : Fin n) (h0 : T c0 = (τ c0 : EReal))
    (mn : EReal) (hm : mn = max m (Finset.univ.sup T + (c2 : EReal))) :
    Good (S + ∑ c, w c) (A + ∑ c, w c * x c) mn
      (Ideal.exp2 (m - mn) * l + ∑ c, Ideal.exp2 (T c + ((c2 : EReal) - mn)))
      (Ideal.exp2 (m - mn) * a + ∑ c, Ideal.exp2 (T c + ((c2 : EReal) - mn)) * (x c : EReal)) := by
  obtain ⟨U, hU⟩ := sup_real T τ (fun c => (hT c).imp And.left And.left) c0 h0
  have hr : ∃ N : ℝ, mn = (N : EReal) := by
    rw [hm, hU, ← EReal.coe_add]
    rcases h with ⟨h, -⟩ | ⟨M, h, -⟩ <;> rw [h]
    · exact ⟨U + c2, max_eq_right bot_le⟩
    · exact ⟨max M (U + c2), (EReal.coe_strictMono.monotone.map_max).symm⟩
  obtain ⟨N, hN⟩ := hr
  have hp : ∀ c, Ideal.exp2 (T c + ((c2 : EReal) - mn)) = ((Real.exp (-(N * Real.log 2)) * w c : ℝ) : EReal) := fun c => by
    rw [hN, ← EReal.coe_sub]
    rcases hT c with ⟨h, h'⟩ | ⟨h, h'⟩ <;> rw [h, h']
    · rw [EReal.bot_add, Ideal.exp2_bot, mul_zero, EReal.coe_zero]
    · rw [← EReal.coe_add, exp2_real, ← Real.exp_add]
      exact congrArg (fun z : ℝ => ((Real.exp z : ℝ) : EReal)) (by ring)
  have hx : ∀ c, Ideal.exp2 (T c + ((c2 : EReal) - mn)) * (x c : EReal) = ((Real.exp (-(N * Real.log 2)) * (w c * x c) : ℝ) : EReal) := fun c => by
    rw [hp c, ← EReal.coe_mul, mul_assoc]
  rw [Finset.sum_congr rfl (fun c _ => hp c), Finset.sum_congr rfl (fun c _ => hx c), ← coe_sum, ← coe_sum, ← Finset.mul_sum, ← Finset.mul_sum]
  refine Or.inr ⟨N, hN, ?_⟩
  rcases h with ⟨h, hl, ha, hS, hA⟩ | ⟨M, h, hl, ha⟩
  · rw [hl, ha, hS, hA, mul_zero, zero_add, zero_add, zero_add, zero_add]
    exact ⟨rfl, rfl⟩
  · have e : Ideal.exp2 (m - mn) = ((Real.exp ((M - N) * Real.log 2) : ℝ) : EReal) := by
      rw [h, hN, ← EReal.coe_sub, exp2_real]
    have e' : Real.exp ((M - N) * Real.log 2) * Real.exp (-(M * Real.log 2)) = Real.exp (-(N * Real.log 2)) := by
      rw [← Real.exp_add]
      exact congrArg Real.exp (by ring)
    rw [e, hl, ha, ← EReal.coe_mul, ← EReal.coe_mul, ← EReal.coe_add, ← EReal.coe_add, ← mul_assoc, ← mul_assoc, e', ← mul_add, ← mul_add]
    exact ⟨rfl, rfl⟩

theorem div_real (x y : ℝ) (hy : y ≠ 0) : Ideal.div (x : EReal) (y : EReal) = ((x / y : ℝ) : EReal) := by
  rw [Ideal.div_coe hy, ← EReal.coe_mul, mul_one_div]

theorem log_real (x : ℝ) (hx : 0 < x) : Ideal.log (x : EReal) = ((Real.log x : ℝ) : EReal) := by
  rw [Ideal.log_coe, if_neg (not_le.2 hx)]

/-- What a finished row's triple gives: the weighted mean. -/
theorem Good.mean {S A : ℝ} {m l a : EReal} (h : Good S A m l a) (hS : 0 < S) : Ideal.div a l = ((A / S : ℝ) : EReal) := by
  rcases h with ⟨-, -, -, h, -⟩ | ⟨M, -, hl, ha⟩
  · exact absurd h hS.ne'
  · rw [hl, ha, div_real _ _ (mul_ne_zero (Real.exp_pos _).ne' hS.ne'), mul_div_mul_left _ _ (Real.exp_pos _).ne']

/-- What a finished row's triple gives: the base-two logarithm of the weights' sum. -/
theorem Good.level {S A : ℝ} {m l a : EReal} (h : Good S A m l a) (hS : 0 < S) :
    m + Ideal.log l * (((Real.log 2)⁻¹ : ℝ) : EReal) = ((Real.log S / Real.log 2 : ℝ) : EReal) := by
  rcases h with ⟨-, -, -, h, -⟩ | ⟨M, hm, hl, -⟩
  · exact absurd h hS.ne'
  · have h2 : Real.log 2 ≠ 0 := (Real.log_pos (by norm_num)).ne'
    rw [hm, hl, log_real _ (mul_pos (Real.exp_pos _) hS), Real.log_mul (Real.exp_pos _).ne' hS.ne', Real.log_exp, ← EReal.coe_mul, ← EReal.coe_add]
    refine congrArg _ ?_
    field_simp
    ring

/-- The softmax of a row written plainly, and what it gives. -/
theorem plain {n : ℕ} (s : Fin n → EReal) (σ w x : Fin n → ℝ)
    (hs : ∀ c, (s c = ⊥ ∧ w c = 0) ∨ (s c = (σ c : EReal) ∧ w c = Real.exp (σ c))) (c0 : Fin n) (h0 : s c0 = (σ c0 : EReal))
    (hS : 0 < ∑ c, w c) :
    (∑ c, Ideal.div (Ideal.exp (s c - Finset.univ.sup s)) (∑ c, Ideal.exp (s c - Finset.univ.sup s)) * (x c : EReal)
        = (((∑ c, w c * x c) / (∑ c, w c) : ℝ) : EReal))
      ∧ Ideal.div (Finset.univ.sup s + Ideal.log (∑ c, Ideal.exp (s c - Finset.univ.sup s))) ((Real.log 2 : ℝ) : EReal)
        = ((Real.log (∑ c, w c) / Real.log 2 : ℝ) : EReal) := by
  obtain ⟨M, hM⟩ := sup_real s σ (fun c => (hs c).imp And.left And.left) c0 h0
  have he : ∀ c, Ideal.exp (s c - Finset.univ.sup s) = ((Real.exp (-M) * w c : ℝ) : EReal) := fun c => by
    rw [hM]
    rcases hs c with ⟨h, h'⟩ | ⟨h, h'⟩ <;> rw [h, h']
    · rw [EReal.bot_sub, Ideal.exp_bot, mul_zero, EReal.coe_zero]
    · rw [← EReal.coe_sub, Ideal.exp_coe, ← Real.exp_add]
      exact congrArg (fun z : ℝ => ((Real.exp z : ℝ) : EReal)) (by ring)
  have hL : ∑ c, Ideal.exp (s c - Finset.univ.sup s) = ((Real.exp (-M) * ∑ c, w c : ℝ) : EReal) := by
    rw [Finset.sum_congr rfl (fun c _ => he c), ← coe_sum, ← Finset.mul_sum]
  have hP : 0 < Real.exp (-M) * ∑ c, w c := mul_pos (Real.exp_pos _) hS
  rw [hL]
  constructor
  · have hc : ∀ c, Ideal.div (Ideal.exp (s c - Finset.univ.sup s)) ((Real.exp (-M) * ∑ c, w c : ℝ) : EReal) * (x c : EReal) = ((w c * x c / (∑ c, w c) : ℝ) : EReal) := fun c => by
      rw [he c, div_real _ _ hP.ne', mul_div_mul_left _ _ (Real.exp_pos _).ne', ← EReal.coe_mul]
      exact congrArg _ (by ring)
    rw [Finset.sum_congr rfl (fun c _ => hc c), ← coe_sum, ← Finset.sum_div]
  · rw [hM, log_real _ hP, Real.log_mul (Real.exp_pos _).ne' hS.ne', Real.log_exp, ← EReal.coe_add, div_real _ _ (Real.log_pos (by norm_num)).ne']
    exact congrArg _ (by ring)

end Cert.Attn

end
-- ==== Proof.Attn.Model.lean ====
/- Attention over the reals: the weights, their sums over the first rows, and the arrays that hold the reals. -/
module

public import proofs.«01_k».proof.Proof.Attn.Row
public import Idealize.ShloMosaic.Lib.Pointwise

@[expose] public section

noncomputable section

namespace Cert.Attn

open Finset Idealize.ShloMosaic

/-- The product of a query and a key of one head. -/
def qk (px : ℕ → ℕ → ℝ) (h R C : ℕ) : ℝ := ∑ d : Fin 128, px R (128 * h + d.val) * px C (1024 + 256 * h + d.val)
/-- The shifted and scaled logit. -/
def sc (px pq pk : ℕ → ℕ → ℝ) (h R C : ℕ) : ℝ := qk px h R C * (Real.sqrt 128)⁻¹ + pq h R - pk h C
/-- The weight with which a row reads an earlier row, before the division by their sum. -/
def wt (px pq pk : ℕ → ℕ → ℝ) (h R C : ℕ) : ℝ := if C ≤ R then Real.exp (sc px pq pk h R C) else 0
/-- A row's value in one head. -/
def vl (px : ℕ → ℕ → ℝ) (h C d : ℕ) : ℝ := px C (1024 + 256 * h + 128 + d)
/-- The sum of the weights of the first rows. -/
def ws (px pq pk : ℕ → ℕ → ℝ) (n h R : ℕ) : ℝ := ∑ c ∈ range n, wt px pq pk h R c
/-- The sum of the weighted values of the first rows. -/
def wv (px pq pk : ℕ → ℕ → ℝ) (n h R d : ℕ) : ℝ := ∑ c ∈ range n, wt px pq pk h R c * vl px h c d

/-- The arrays hold reals. -/
structure Args (X : (⟨2, ![8320, 3072]⟩ : Shape).Idx → EReal) (Q : (⟨3, ![8, 8320, 1]⟩ : Shape).Idx → EReal) (K : (⟨3, ![8, 1, 8320]⟩ : Shape).Idx → EReal)
    (px pq pk : ℕ → ℕ → ℝ) : Prop where
  hX : ∀ i, X i = (px (i 0).val (i 1).val : EReal)
  hQ : ∀ i, Q i = (pq (i 0).val (i 1).val : EReal)
  hK : ∀ i, K i = (pk (i 0).val (i 2).val : EReal)

variable (px pq pk : ℕ → ℕ → ℝ)

theorem range_cut (f : ℕ → ℝ) (j : ℕ) : ∑ c ∈ range (640 * (j + 1)), f c = (∑ c ∈ range (640 * j), f c) + ∑ c : Fin 640, f (640 * j + c.val) := by
  rw [Fin.sum_univ_eq_sum_range (fun c => f (640 * j + c)) 640, show 640 * (j + 1) = 640 * j + 640 by omega, Finset.sum_range_add]

theorem ws_next (j h R : ℕ) : ws px pq pk (640 * (j + 1)) h R = ws px pq pk (640 * j) h R + ∑ c : Fin 640, wt px pq pk h R (640 * j + c.val) := range_cut _ _
theorem wv_next (j h R d : ℕ) : wv px pq pk (640 * (j + 1)) h R d = wv px pq pk (640 * j) h R d + ∑ c : Fin 640, wt px pq pk h R (640 * j + c.val) * vl px h (640 * j + c.val) d := range_cut _ _

theorem wt_later (h R C : ℕ) (hC : R < C) : wt px pq pk h R C = 0 := if_neg (by omega)

/-- Rows beyond the own one add nothing. -/
theorem ws_all (n h R : ℕ) (hn : R < n) (h8 : n ≤ 8320) : ws px pq pk n h R = ws px pq pk 8320 h R :=
  Finset.sum_subset (Finset.range_mono h8) fun c _ hc => wt_later px pq pk h R c (by rw [mem_range] at hc; omega)
theorem wv_all (n h R d : ℕ) (hn : R < n) (h8 : n ≤ 8320) : wv px pq pk n h R d = wv px pq pk 8320 h R d :=
  Finset.sum_subset (Finset.range_mono h8) fun c _ hc => by rw [wt_later px pq pk h R c (by rw [mem_range] at hc; omega), zero_mul]

/-- The weights' sum is positive. -/
theorem ws_pos (n h R : ℕ) (hn : 0 < n) : 0 < ws px pq pk n h R := by
  refine Finset.sum_pos' (fun c _ => ?_) ⟨0, Finset.mem_range.2 hn, ?_⟩
  · unfold wt
    split
    · exact (Real.exp_pos _).le
    · exact le_refl _
  · unfold wt
    rw [if_pos (Nat.zero_le _)]
    exact Real.exp_pos _

/-- The logit in base two, with the row's own shift added, is the logit. -/
theorem sc_two (h R C : ℕ) : sc px pq pk h R C
    = ((qk px h R C * ((Real.log 2)⁻¹ * (Real.sqrt 128)⁻¹) - pk h C * (Real.log 2)⁻¹) + pq h R * (Real.log 2)⁻¹) * Real.log 2 := by
  have h2 : (Real.log 2)⁻¹ * Real.log 2 = 1 := inv_mul_cancel₀ (Real.log_pos (by norm_num)).ne'
  unfold sc
  linear_combination (-(qk px h R C * (Real.sqrt 128)⁻¹) + pk h C - pq h R) * h2

end Cert.Attn

end
-- ==== Proof.Attn.Head.lean ====
/- One head of the attention step: what its vectors hold, row by row and column by column. -/
module

public import proofs.«01_k».proof.Proof.Products.Sums
public import proofs.«01_k».proof.Proof.Gen.Kernel20Ideal.Skeleton

@[expose] public section

noncomputable section

namespace Cert.Attn

open Finset Idealize.ShloMosaic Idealize.ShloMosaic.TcCoe Cert.Products Cert.Kernel20Ideal Cert.Kernel20Ideal.Gen

/-- The base-two logarithm of `e`, as the named number. -/
def l2e : EReal := (((Real.log 2)⁻¹ : ℝ) : EReal)
/-- The same divided by the square root of the head's width. -/
def l2s : EReal := (((Real.log 2)⁻¹ * (Real.sqrt 128)⁻¹ : ℝ) : EReal)

theorem named_l2e : Named.named (F := Ideal) κ "log2e" (φ := .f32) 0x3FB8AA3B#32 = l2e := IdealRules.named_const.ideal_named_scalar _ _ _ _ rfl
theorem named_l2s : Named.named (F := Ideal) κ "log2e_scale" (φ := .f32) 0x3E0293EE#32 = l2s := IdealRules.named_const.ideal_named_scalar _ _ _ _ rfl
theorem named_mask : Named.named (F := Ideal) κ "mask" (φ := .f32) 0xF149F2CA#32 = (⊥ : EReal) := IdealRules.named_const.ideal_named_scalar _ _ _ _ rfl

variable (q k : Vec Ideal S640x128 .bf16) (ck : Vec Ideal S1x1x640 .f32) (cq mo lo : Vec Ideal S1x640x1 .f32) (T : FVec Ideal S640x640 .f32)
  (ao : Vec Ideal S640x128 .f32) (v : Vec Ideal S640x128 .bf16)

/-- The logits of a block below the diagonal. -/
def logit : FVec Ideal S640x640 .f32 := k0_pay29 (F := Ideal) q k ck
/-- The logits of a block on the diagonal. -/
def logitD : FVec Ideal S640x640 .f32 := k0_pay74 (F := Ideal) q k ck
/-- The new reference value of every row. -/
def mN : FVec Ideal S640x1 .f32 := k0_pay36 (F := Ideal) (k0_pay17 (F := Ideal) mo) (k0_pay25 (F := Ideal) cq) T
/-- The new sum of every row's weights. -/
def lN : FVec Ideal S640x1 .f32 := k0_pay49 (F := Ideal) (k0_pay17 (F := Ideal) mo) (k0_pay21 (F := Ideal) lo) (k0_pay25 (F := Ideal) cq) T (mN cq mo T)
/-- The new sum of every row's weighted values. -/
def aN : FVec Ideal S640x128 .f32 :=
  addf (k0_pay53 (F := Ideal) (k0_pay17 (F := Ideal) mo) ao (mN cq mo T)) (k0_pay54 (F := Ideal) (k0_pay25 (F := Ideal) cq) T (mN cq mo T) v)

theorem ofBits_least : Ideal.ofBits FTy.f32 0xFF800000#32 = (⊥ : EReal) := by
  simp [Ideal.ofBits, Ideal.ieee]

theorem logit_at (r c : Fin 640) : (logit q k ck (ix2 r c) : EReal)
    = dotNT (K := 128) (M := 640) (N := 640) q k r c * l2s - (ck (ix3 0 0 c) : EReal) * l2e := by
  unfold logit k0_pay29 dotNT
  rw [named_l2e, named_l2s]
  pointwise

theorem logitD_at (r c : Fin 640) : (logitD q k ck (ix2 r c) : EReal) = if c ≤ r then (logit q k ck (ix2 r c) : EReal) else ⊥ := by
  rw [logit_at]
  unfold logitD k0_pay74 dotNT
  rw [named_l2e, named_l2s, named_mask]
  pointwise
  unfold Scalar.select
  exact if_congr ((WordCmp.cmpi_sle_ofNat_eq_one_iff (by have := c.isLt; omega) (by have := r.isLt; omega)).trans Iff.rfl) rfl rfl

theorem mN_at (r : Fin 640) : (mN cq mo T (ix2 r 0) : EReal)
    = max (mo (ix3 0 r 0) : EReal) ((Finset.univ.sup fun c : Fin 640 => (T (ix2 r c) : EReal)) + (cq (ix3 0 r 0) : EReal) * l2e) := by
  unfold mN k0_pay36 k0_pay17 k0_pay25
  rw [named_l2e]
  pointwise
  rw [ofBits_least]
  rfl

theorem lN_at (r : Fin 640) : (lN cq mo lo T (ix2 r 0) : EReal)
    = Ideal.exp2 ((mo (ix3 0 r 0) : EReal) - mN cq mo T (ix2 r 0)) * (lo (ix3 0 r 0) : EReal)
      + ∑ c : Fin 640, Ideal.exp2 ((T (ix2 r c) : EReal) + ((cq (ix3 0 r 0) : EReal) * l2e - mN cq mo T (ix2 r 0))) := by
  unfold lN k0_pay49 k0_pay45 k0_pay41 k0_pay17 k0_pay25 k0_pay21
  rw [named_l2e]
  generalize mN cq mo T = M
  pointwise
  rfl

theorem aN_at (r : Fin 640) (d : Fin 128) : (aN cq mo T ao v (ix2 r d) : EReal)
    = Ideal.exp2 ((mo (ix3 0 r 0) : EReal) - mN cq mo T (ix2 r 0)) * (ao (ix2 r d) : EReal)
      + ∑ c : Fin 640, Ideal.exp2 ((T (ix2 r c) : EReal) + ((cq (ix3 0 r 0) : EReal) * l2e - mN cq mo T (ix2 r 0))) * (v (ix2 c d) : EReal) := by
  unfold aN k0_pay53 k0_pay54 k0_pay45 k0_pay41 k0_pay17 k0_pay25
  rw [named_l2e]
  generalize mN cq mo T = M
  pointwise
  rfl

end Cert.Attn

end
-- ==== Proof.Attn.Parts.lean ====
/- The parts of a block that belong to one head, and a buffer filled by four stores. -/
module

public import proofs.«01_k».proof.Proof.Attn.Head
public import proofs.«01_k».proof.Proof.Gen.Kernel20Ideal.Frame

@[expose] public section

noncomputable section

namespace Cert.Attn

open Finset Idealize.ShloMosaic Idealize.ShloMosaic.TcCoe Cert.Products Cert.Kernel20Ideal Cert.Kernel20Ideal.Gen

/-! ## One head's part of a block -/

/-- A head's columns of a block of queries. -/
def qH (X : Vec Ideal S640x512 .bf16) (a : Fin 4) : Vec Ideal S640x128 .bf16 := fun y => X (ix2 (y 0) ⟨128 * a.val + (y 1).val, by have h := (y 1).isLt; have := a.isLt; change _ < 128 at h; omega⟩)
/-- A head's keys in a block of keys and values. -/
def kH (X : Vec Ideal S640x1024 .bf16) (a : Fin 4) : Vec Ideal S640x128 .bf16 := fun y => X (ix2 (y 0) ⟨256 * a.val + (y 1).val, by have h := (y 1).isLt; have := a.isLt; change _ < 128 at h; omega⟩)
/-- A head's values in a block of keys and values. -/
def vH (X : Vec Ideal S640x1024 .bf16) (a : Fin 4) : Vec Ideal S640x128 .bf16 := fun y => X (ix2 (y 0) ⟨256 * a.val + 128 + (y 1).val, by have h := (y 1).isLt; have := a.isLt; change _ < 128 at h; omega⟩)
/-- A head's row of the keys' shifts. -/
def cH (X : Vec Ideal S4x1x640 .f32) (a : Fin 4) : Vec Ideal S1x1x640 .f32 := fun y => X (ix3 a 0 (y 2))
/-- A head's column. -/
def rH (X : Vec Ideal S4x640x1 .f32) (a : Fin 4) : Vec Ideal S1x640x1 .f32 := fun y => X (ix3 a (y 1) 0)
/-- A head's columns of the weighted values. -/
def aH (X : Vec Ideal S640x512 .f32) (a : Fin 4) : Vec Ideal S640x128 .f32 := fun y => X (ix2 (y 0) ⟨128 * a.val + (y 1).val, by have h := (y 1).isLt; have := a.isLt; change _ < 128 at h; omega⟩)

theorem at3 {a b c : ℕ} {i : (⟨3, ![a, b, c]⟩ : Shape).Idx} {x : Fin a} {y : Fin b} {z : Fin c} (h0 : (i 0).val = x.val) (h1 : (i 1).val = y.val) (h2 : (i 2).val = z.val) : i = ix3 x y z := by
  funext q
  fin_cases q
  · exact Fin.ext h0
  · exact Fin.ext h1
  · exact Fin.ext h2

theorem zzz : (![0, 0, 0] : Fin 3 → ℕ) = fun _ => 0 := by funext a; fin_cases a <;> rfl

variable (a : Fin 4) (n : ℕ)

theorem ld_q (h : n = 128 * a.val) (inb) (X : Vec Ideal S640x512 .bf16) : View.ld (Val := Elt Ideal) (S := S640x512) (e' := .bf16) X (Rect.unit ![0, n] ![640, 128] inb) = qH X a :=
  funext fun y => congrArg X (at2 (show 0 + 1 * (y 0).val = (y 0).val by omega) (show n + 1 * (y 1).val = 128 * a.val + (y 1).val by omega))
theorem ld_a (h : n = 128 * a.val) (inb) (X : Vec Ideal S640x512 .f32) : View.ld (Val := Elt Ideal) (S := S640x512) (e' := .f32) X (Rect.unit ![0, n] ![640, 128] inb) = aH X a :=
  funext fun y => congrArg X (at2 (show 0 + 1 * (y 0).val = (y 0).val by omega) (show n + 1 * (y 1).val = 128 * a.val + (y 1).val by omega))
theorem ld_k (h : n = 256 * a.val) (inb) (X : Vec Ideal S640x1024 .bf16) : View.ld (Val := Elt Ideal) (S := S640x1024) (e' := .bf16) X (Rect.unit ![0, n] ![640, 128] inb) = kH X a :=
  funext fun y => congrArg X (at2 (show 0 + 1 * (y 0).val = (y 0).val by omega) (show n + 1 * (y 1).val = 256 * a.val + (y 1).val by omega))
theorem ld_v (h : n = 256 * a.val + 128) (inb) (X : Vec Ideal S640x1024 .bf16) : View.ld (Val := Elt Ideal) (S := S640x1024) (e' := .bf16) X (Rect.unit ![0, n] ![640, 128] inb) = vH X a :=
  funext fun y => congrArg X (at2 (show 0 + 1 * (y 0).val = (y 0).val by omega) (show n + 1 * (y 1).val = 256 * a.val + 128 + (y 1).val by omega))
theorem ld_c (h : n = a.val) (inb) (X : Vec Ideal S4x1x640 .f32) : View.ld (Val := Elt Ideal) (S := S4x1x640) (e' := .f32) X (Rect.unit ![n, 0, 0] ![1, 1, 640] inb) = cH X a :=
  funext fun y => congrArg X (at3 (by have h := (y 0).isLt; change _ < 1 at h; show n + 1 * (y 0).val = _; omega) (by have h := (y 1).isLt; change _ < 1 at h; show 0 + 1 * (y 1).val = 0; omega) (show 0 + 1 * (y 2).val = (y 2).val by omega))
theorem ld_r (h : n = a.val) (inb) (X : Vec Ideal S4x640x1 .f32) : View.ld (Val := Elt Ideal) (S := S4x640x1) (e' := .f32) X (Rect.unit ![n, 0, 0] ![1, 640, 1] inb) = rH X a :=
  funext fun y => congrArg X (at3 (by have h := (y 0).isLt; change _ < 1 at h; show n + 1 * (y 0).val = _; omega) (show 0 + 1 * (y 1).val = (y 1).val by omega) (by have h := (y 2).isLt; change _ < 1 at h; show 0 + 1 * (y 2).val = 0; omega))

/-- What the loads of single heads read. -/
def loads := (And.intro (ld_q 0 0 rfl) (And.intro (ld_q 1 128 rfl) (And.intro (ld_q 2 256 rfl) (And.intro (ld_q 3 384 rfl) (And.intro (ld_a 0 0 rfl) (And.intro (ld_a 1 128 rfl) (And.intro (ld_a 2 256 rfl) (And.intro (ld_a 3 384 rfl) (And.intro (ld_k 0 0 rfl) (And.intro (ld_k 1 256 rfl) (And.intro (ld_k 2 512 rfl) (And.intro (ld_k 3 768 rfl) (And.intro (ld_v 0 128 rfl) (And.intro (ld_v 1 384 rfl) (And.intro (ld_v 2 640 rfl) (And.intro (ld_v 3 896 rfl) (And.intro (ld_c 0 0 rfl) (And.intro (ld_c 1 1 rfl) (And.intro (ld_c 2 2 rfl) (And.intro (ld_c 3 3 rfl) (And.intro (ld_r 0 0 rfl) (And.intro (ld_r 1 1 rfl) (And.intro (ld_r 2 2 rfl) (ld_r 3 3 rfl))))))))))))))))))))))))

/-- The place in the buffer of a head's column. -/
theorem emb_r (h : n = a.val) (inb : ∀ q, (![n, 0, 0] : Fin 3 → ℕ) q + (![1, 640, 1] : Fin 3 → ℕ) q ≤ S4x640x1.size q) (x : S1x640x1.Idx) :
    (Rect.unit (s := S4x640x1) ![n, 0, 0] ![1, 640, 1] inb).emb x = (ix3 a (x 1) 0 : S4x640x1.Idx) :=
  at3 (by have h := (x 0).isLt; change _ < 1 at h; show n + 1 * (x 0).val = _; omega) (show 0 + 1 * (x 1).val = (x 1).val by omega) (by have h := (x 2).isLt; change _ < 1 at h; show 0 + 1 * (x 2).val = 0; omega)
/-- The place in the buffer of a head's columns. -/
theorem emb_a (h : n = 128 * a.val) (inb : ∀ q, (![0, n] : Fin 2 → ℕ) q + (![640, 128] : Fin 2 → ℕ) q ≤ S640x512.size q) (x : S640x128.Idx) :
    (Rect.unit (s := S640x512) ![0, n] ![640, 128] inb).emb x = (ix2 (x 0) ⟨128 * a.val + (x 1).val, by have h := (x 1).isLt; have := a.isLt; change _ < 128 at h; omega⟩ : S640x512.Idx) :=
  at2 (show 0 + 1 * (x 0).val = (x 0).val by omega) (show n + 1 * (x 1).val = 128 * a.val + (x 1).val by omega)

theorem mem_r (inb) (y : S4x640x1.Idx) (hy : (y 0).val = n) : y ∈ (Rect.unit (s := S4x640x1) ![n, 0, 0] ![1, 640, 1] inb).set := by
  rw [Rect.mem_set_unit]
  have h1 : (y 1).val < 640 := (y 1).isLt
  have h2 : (y 2).val < 1 := (y 2).isLt
  intro q
  match q with
  | 0 => show n ≤ (y 0).val ∧ (y 0).val < n + 1; omega
  | 1 => show 0 ≤ (y 1).val ∧ (y 1).val < 0 + 640; omega
  | 2 => show 0 ≤ (y 2).val ∧ (y 2).val < 0 + 1; omega
theorem mem_a (h : n = 128 * a.val) (inb) (y : S640x512.Idx) (hy : (y 1).val / 128 = a.val) : y ∈ (Rect.unit (s := S640x512) ![0, n] ![640, 128] inb).set := by
  rw [Rect.mem_set_unit]
  have h0 : (y 0).val < 640 := (y 0).isLt
  intro q
  match q with
  | 0 => show 0 ≤ (y 0).val ∧ (y 0).val < 0 + 640; omega
  | 1 => show n ≤ (y 1).val ∧ (y 1).val < n + 128; omega

/-! ## A buffer filled by four stores -/

section Four

variable {S : Shape} {e : EltTy} {Val : EltTy → Type} [∀ e, Nonempty (Val e)]

/-- The last four stores fill the buffer, and each puts the part of `G` its box names: the buffer holds `G`, whatever was stored before. -/
theorem canon_four (G : S.Idx → Val e) (p0 p1 p2 p3 : View.Piece Val S e) (L : List (View.Piece Val S e))
    (h3 : ∀ x, p3.2 x = G (p3.1.emb x)) (h2 : ∀ x, p2.2 x = G (p2.1.emb x)) (h1 : ∀ x, p1.2 x = G (p1.1.emb x)) (h0 : ∀ x, p0.2 x = G (p0.1.emb x))
    (hc : ∀ y, y ∈ p3.1.set ∨ y ∈ p2.1.set ∨ y ∈ p1.1.set ∨ y ∈ p0.1.set) : View.canon (p3 :: p2 :: p1 :: p0 :: L) = G := by
  have one : ∀ (p : View.Piece Val S e) (M : List (View.Piece Val S e)) (y : S.Idx), (∀ x, p.2 x = G (p.1.emb x)) → (y ∉ p.1.set → View.canon M y = G y) → View.canon (p :: M) y = G y := by
    intro p M y hp hM
    by_cases hm : y ∈ p.1.set
    · obtain ⟨x, rfl⟩ := p.1.exists_idx_of_mem hm
      rw [show p.1.idx x = p.1.emb x from rfl, View.canon_cons_emb]
      exact hp x
    · rw [View.canon_cons_of_not_mem _ _ hm]
      exact hM hm
  funext y
  refine one _ _ y h3 fun n3 => one _ _ y h2 fun n2 => one _ _ y h1 fun n1 => one _ _ y h0 fun n0 => absurd (hc y) ?_
  rintro (h | h | h | h)
  · exact n3 h
  · exact n2 h
  · exact n1 h
  · exact n0 h

/-- A load of what one store of the whole buffer left. -/
theorem cov_whole {sig : RefSig} {kd : Kind} {sp : Space} (v : View sig kd sp S e) {off : Fin S.rank → ℕ} (h : off = fun _ => 0)
    (inb : ∀ q, off q + S.size q ≤ S.size q) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩), View.canon_unit_zero h]

end Four

/-- Four stores of columns fill a buffer. -/
theorem four_r (G : S4x640x1.Idx → EReal) {L} {i3 i2 i1 i0} {p3 p2 p1 p0 : S1x640x1.Idx → EReal} (h3 : ∀ x, p3 x = G (ix3 3 (x 1) 0)) (h2 : ∀ x, p2 x = G (ix3 2 (x 1) 0)) (h1 : ∀ x, p1 x = G (ix3 1 (x 1) 0)) (h0 : ∀ x, p0 x = G (ix3 0 (x 1) 0)) :
    View.canon (Val := Elt Ideal) (s := S4x640x1) (e := .f32) (⟨Rect.unit (s := S4x640x1) ![3, 0, 0] ![1, 640, 1] i3, p3⟩ :: ⟨Rect.unit (s := S4x640x1) ![2, 0, 0] ![1, 640, 1] i2, p2⟩ :: ⟨Rect.unit (s := S4x640x1) ![1, 0, 0] ![1, 640, 1] i1, p1⟩ :: ⟨Rect.unit (s := S4x640x1) ![0, 0, 0] ![1, 640, 1] i0, p0⟩ :: L) = G := by
  refine canon_four (Val := Elt Ideal) (S := S4x640x1) (e := .f32) G _ _ _ _ _ (fun x => (h3 x).trans (congrArg G (emb_r 3 3 rfl i3 x)).symm) (fun x => (h2 x).trans (congrArg G (emb_r 2 2 rfl i2 x)).symm) (fun x => (h1 x).trans (congrArg G (emb_r 1 1 rfl i1 x)).symm) (fun x => (h0 x).trans (congrArg G (emb_r 0 0 rfl i0 x)).symm) fun y => ?_
  have h : (y 0).val < 4 := (y 0).isLt
  rcases (by omega : (y 0).val = 3 ∨ (y 0).val = 2 ∨ (y 0).val = 1 ∨ (y 0).val = 0) with h | h | h | h
  · exact Or.inl (mem_r 3 i3 y h)
  · exact Or.inr (Or.inl (mem_r 2 i2 y h))
  · exact Or.inr (Or.inr (Or.inl (mem_r 1 i1 y h)))
  · exact Or.inr (Or.inr (Or.inr (mem_r 0 i0 y h)))
/-- Four stores of a head's columns fill a buffer. -/
theorem four_a {e : EltTy} (G : S640x512.Idx → Elt Ideal e) {L} {i3 i2 i1 i0} {p3 p2 p1 p0 : S640x128.Idx → Elt Ideal e} (h3 : ∀ x h, p3 x = G (ix2 (x 0) ⟨128 * ((3 : Fin 4)).val + (x 1).val, h⟩)) (h2 : ∀ x h, p2 x = G (ix2 (x 0) ⟨128 * ((2 : Fin 4)).val + (x 1).val, h⟩)) (h1 : ∀ x h, p1 x = G (ix2 (x 0) ⟨128 * ((1 : Fin 4)).val + (x 1).val, h⟩)) (h0 : ∀ x h, p0 x = G (ix2 (x 0) ⟨128 * ((0 : Fin 4)).val + (x 1).val, h⟩)) :
    View.canon (Val := Elt Ideal) (s := S640x512) (e := e) (⟨Rect.unit (s := S640x512) ![0, 384] ![640, 128] i3, p3⟩ :: ⟨Rect.unit (s := S640x512) ![0, 256] ![640, 128] i2, p2⟩ :: ⟨Rect.unit (s := S640x512) ![0, 128] ![640, 128] i1, p1⟩ :: ⟨Rect.unit (s := S640x512) ![0, 0] ![640, 128] i0, p0⟩ :: L) = G := by
  refine canon_four (Val := Elt Ideal) (S := S640x512) G _ _ _ _ _ (fun x => (h3 x _).trans (congrArg G (emb_a 3 384 rfl i3 x)).symm) (fun x => (h2 x _).trans (congrArg G (emb_a 2 256 rfl i2 x)).symm) (fun x => (h1 x _).trans (congrArg G (emb_a 1 128 rfl i1 x)).symm) (fun x => (h0 x _).trans (congrArg G (emb_a 0 0 rfl i0 x)).symm) fun y => ?_
  have h : (y 1).val < 512 := (y 1).isLt
  rcases (by omega : (y 1).val / 128 = 3 ∨ (y 1).val / 128 = 2 ∨ (y 1).val / 128 = 1 ∨ (y 1).val / 128 = 0) with h | h | h | h
  · exact Or.inl (mem_a 3 384 rfl i3 y h)
  · exact Or.inr (Or.inl (mem_a 2 256 rfl i2 y h))
  · exact Or.inr (Or.inr (Or.inl (mem_a 1 128 rfl i1 y h)))
  · exact Or.inr (Or.inr (Or.inr (mem_a 0 0 rfl i0 y h)))

theorem cov_r {sig : RefSig} {kd : Kind} {sp : Space} (v : View sig kd sp S4x640x1 .f32) (inb) (w : Vec Ideal S4x640x1 .f32) (r : Rect S4x640x1) :
    v.readCov (Val := Elt Ideal) [(⟨Rect.unit ![0, 0, 0] ![4, 640, 1] inb, w⟩ : View.Piece (Elt Ideal) S4x640x1 .f32)] r.toLoadRect = View.ld (Val := Elt Ideal) (S := S4x640x1) (e' := .f32) w r :=
  cov_whole (Val := Elt Ideal) v zzz inb w r
theorem cov_a {sig : RefSig} {kd : Kind} {sp : Space} (v : View sig kd sp S640x512 .f32) (inb) (w : Vec Ideal S640x512 .f32) (r : Rect S640x512) :
    v.readCov (Val := Elt Ideal) [(⟨Rect.unit ![0, 0] ![640, 512] inb, w⟩ : View.Piece (Elt Ideal) S640x512 .f32)] r.toLoadRect = View.ld (Val := Elt Ideal) (S := S640x512) (e' := .f32) w r :=
  cov_whole (Val := Elt Ideal) v zz inb w r

/-! ## The parts put together -/

variable (L : Vec Ideal S640x128 .bf16 → Vec Ideal S640x128 .bf16 → Vec Ideal S1x1x640 .f32 → FVec Ideal S640x640 .f32)
  (x0 : Vec Ideal S640x512 .bf16) (x1 : Vec Ideal S640x1024 .bf16) (x2 : Vec Ideal S4x640x1 .f32) (x3 : Vec Ideal S4x1x640 .f32)
  (xs0 xs1 : Vec Ideal S4x640x1 .f32) (xs2 : Vec Ideal S640x512 .f32)

/-- A head's logits. -/
def tH (a : Fin 4) : FVec Ideal S640x640 .f32 := L (qH x0 a) (kH x1 a) (cH x3 a)
/-- The new reference values, all heads. -/
def gm : Vec Ideal S4x640x1 .f32 := fun y => mN (rH x2 (y 0)) (rH xs0 (y 0)) (tH L x0 x1 x3 (y 0)) (ix2 (y 1) 0)
/-- The new sums of weights, all heads. -/
def gl : Vec Ideal S4x640x1 .f32 := fun y => lN (rH x2 (y 0)) (rH xs0 (y 0)) (rH xs1 (y 0)) (tH L x0 x1 x3 (y 0)) (ix2 (y 1) 0)
/-- The new sums of weighted values, all heads. -/
def ga : Vec Ideal S640x512 .f32 := fun y =>
  (fun (a : Fin 4) => aN (rH x2 a) (rH xs0 a) (tH L x0 x1 x3 a) (aH xs2 a) (vH x1 a) (ix2 (y 0) ⟨(y 1).val % 128, Nat.mod_lt _ (by norm_num)⟩))
    ⟨(y 1).val / 128, by have h := (y 1).isLt; change _ < 512 at h; omega⟩

/-- A column stored as a head's part. -/
theorem col_at (v : FVec Ideal S640x1 .f32) (x : S1x640x1.Idx) : shapeCast S1x640x1 v shapeCasts_S640x1_S1x640x1 x = v (ix2 (x 1) 0) := by
  pointwise
theorem same_at (v : FVec Ideal S640x128 .f32) (x : S640x128.Idx) : shapeCast S640x128 v shapeCasts_S640x128_S640x128 x = v x := by
  pointwise

theorem ga_at (a : Fin 4) (x : S640x128.Idx) (h) : ga L x0 x1 x2 x3 xs0 xs2 (ix2 (x 0) ⟨128 * a.val + (x 1).val, h⟩)
    = aN (rH x2 a) (rH xs0 a) (tH L x0 x1 x3 a) (aH xs2 a) (vH x1 a) x := by
  have hx : (x 1).val < 128 := (x 1).isLt
  have e1 : (⟨(128 * a.val + (x 1).val) / 128, by omega⟩ : Fin 4) = a := Fin.ext (by show (128 * a.val + (x 1).val) / 128 = a.val; omega)
  have e2 : (ix2 (x 0) ⟨(128 * a.val + (x 1).val) % 128, Nat.mod_lt _ (by norm_num)⟩ : S640x128.Idx) = x := (at2 rfl (show (x 1).val = (128 * a.val + (x 1).val) % 128 by omega)).symm
  show aN (rH x2 ⟨(128 * a.val + (x 1).val) / 128, _⟩) (rH xs0 ⟨(128 * a.val + (x 1).val) / 128, _⟩) (tH L x0 x1 x3 ⟨(128 * a.val + (x 1).val) / 128, _⟩) (aH xs2 ⟨(128 * a.val + (x 1).val) / 128, _⟩) (vH x1 ⟨(128 * a.val + (x 1).val) / 128, _⟩) (ix2 (x 0) ⟨(128 * a.val + (x 1).val) % 128, _⟩) = _
  rw [e1, e2]

end Cert.Attn

end
-- ==== Proof.Attn.Last.lean ====
/- What the last step of a block of rows writes: the weighted means and the logarithms of the weights' sums. -/
module

public import proofs.«01_k».proof.Proof.Attn.Parts

@[expose] public section

noncomputable section

namespace Cert.Attn

open Finset Idealize.ShloMosaic Idealize.ShloMosaic.TcCoe Cert.Products Cert.Kernel20Ideal Cert.Kernel20Ideal.Gen

/-- The means of one head. -/
def oN (i : BitVec 32) (ao : Vec Ideal S640x128 .f32) (lo : Vec Ideal S1x640x1 .f32) : FVec Ideal S640x128 .bf16 := k0_pay114 (F := Ideal) i ao lo
/-- The logarithms of one head. -/
def eN (mo lo : Vec Ideal S1x640x1 .f32) : FVec Ideal S1x640x1 .f32 := k0_pay115 (F := Ideal) mo lo

/-- The means of all heads. -/
def go (i : BitVec 32) (xs1 : Vec Ideal S4x640x1 .f32) (xs2 : Vec Ideal S640x512 .f32) : Vec Ideal S640x512 .bf16 := fun y =>
  (fun (a : Fin 4) => oN i (aH xs2 a) (rH xs1 a) (ix2 (y 0) ⟨(y 1).val % 128, Nat.mod_lt _ (by norm_num)⟩))
    ⟨(y 1).val / 128, by have h := (y 1).isLt; change _ < 512 at h; omega⟩
/-- The logarithms of all heads. -/
def ge (xs0 xs1 : Vec Ideal S4x640x1 .f32) : Vec Ideal S4x640x1 .f32 := fun y => eN (rH xs0 (y 0)) (rH xs1 (y 0)) (ix3 0 (y 1) 0)

theorem go_at (i : BitVec 32) (xs1 : Vec Ideal S4x640x1 .f32) (xs2 : Vec Ideal S640x512 .f32) (a : Fin 4) (x : S640x128.Idx) (h) :
    oN i (aH xs2 a) (rH xs1 a) x = go i xs1 xs2 (ix2 (x 0) ⟨128 * a.val + (x 1).val, h⟩) := by
  have hx : (x 1).val < 128 := (x 1).isLt
  have e1 : (⟨(128 * a.val + (x 1).val) / 128, by omega⟩ : Fin 4) = a := Fin.ext (by show (128 * a.val + (x 1).val) / 128 = a.val; omega)
  have e2 : (ix2 (x 0) ⟨(128 * a.val + (x 1).val) % 128, Nat.mod_lt _ (by norm_num)⟩ : S640x128.Idx) = x := (at2 rfl (show (x 1).val = (128 * a.val + (x 1).val) % 128 by omega)).symm
  show _ = oN i (aH xs2 ⟨(128 * a.val + (x 1).val) / 128, _⟩) (rH xs1 ⟨(128 * a.val + (x 1).val) / 128, _⟩) (ix2 (x 0) ⟨(128 * a.val + (x 1).val) % 128, _⟩)
  rw [e1, e2]

theorem ge_at (xs0 xs1 : Vec Ideal S4x640x1 .f32) (a : Fin 4) (x : S1x640x1.Idx) : eN (rH xs0 a) (rH xs1 a) x = ge xs0 xs1 (ix3 a (x 1) 0) :=
  congrArg (eN (rH xs0 a) (rH xs1 a)) (at3 (by have h := (x 0).isLt; change _ < 1 at h; show (x 0).val = 0; omega) rfl (by have h := (x 2).isLt; change _ < 1 at h; show (x 2).val = 0; omega))

theorem word_rows (a b : ℕ) : IntOp.addi (Scalar.muli (BitVec.ofNat 32 a) 640#32) (BitVec.ofNat 32 b) = BitVec.ofNat 32 (640 * a + b) := by
  show BitVec.ofNat 32 a * BitVec.ofNat 32 640 + BitVec.ofNat 32 b = _
  rw [← BitVec.ofNat_mul, ← BitVec.ofNat_add, Nat.mul_comm]

theorem oN_at (n : ℕ) (hn : n < 13) (ao : Vec Ideal S640x128 .f32) (lo : Vec Ideal S1x640x1 .f32) (r : Fin 640) (d : Fin 128) :
    (oN (BitVec.ofNat 32 n) ao lo (ix2 r d) : EReal) = kept (640 * n + r.val) (Ideal.div (ao (ix2 r d) : EReal) (lo (ix3 0 r 0) : EReal)) := by
  unfold oN k0_pay114 k0_pay113
  pointwise
  rw [← select_kept (640 * n + r.val) (by have := r.isLt; omega), ← word_rows]

theorem eN_at (mo lo : Vec Ideal S1x640x1 .f32) (r : Fin 640) :
    (eN mo lo (ix3 0 r 0) : EReal) = (mo (ix3 0 r 0) : EReal) + Ideal.log (lo (ix3 0 r 0) : EReal) * l2e := by
  unfold eN k0_pay115
  rw [named_l2e]
  pointwise

end Cert.Attn

end
-- ==== Proof.Attn.Step.lean ====
/- One block of keys taken into the running sums, and what the finished sums give. -/
module

public import proofs.«01_k».proof.Proof.Attn.Model
public import proofs.«01_k».proof.Proof.Attn.Last

@[expose] public section

noncomputable section

namespace Cert.Attn

open Finset Idealize.ShloMosaic Idealize.ShloMosaic.TcCoe Cert.Products Cert.Kernel20Ideal Cert.Kernel20Ideal.Gen

variable (px pq pk : ℕ → ℕ → ℝ)

/-- The blocks a step reads hold reals: row block `i`, key block `j`, group of heads `g`. -/
structure Blk (x0 : Vec Ideal S640x512 .bf16) (x1 : Vec Ideal S640x1024 .bf16) (x2 : Vec Ideal S4x640x1 .f32) (x3 : Vec Ideal S4x1x640 .f32) (g i j : ℕ) : Prop where
  h0 : ∀ (r : Fin 640) (e : Fin 512), (x0 (ix2 r e) : EReal) = (px (640 * i + r.val) (512 * g + e.val) : EReal)
  h1 : ∀ (r : Fin 640) (e : Fin 1024), (x1 (ix2 r e) : EReal) = (px (640 * j + r.val) (1024 * (1 + g) + e.val) : EReal)
  h2 : ∀ (a : Fin 4) (r : Fin 640), (x2 (ix3 a r 0) : EReal) = (pq (4 * g + a.val) (640 * i + r.val) : EReal)
  h3 : ∀ (a : Fin 4) (r : Fin 640), (x3 (ix3 a 0 r) : EReal) = (pk (4 * g + a.val) (640 * j + r.val) : EReal)

variable {px pq pk} {x0 : Vec Ideal S640x512 .bf16} {x1 : Vec Ideal S640x1024 .bf16} {x2 : Vec Ideal S4x640x1 .f32} {x3 : Vec Ideal S4x1x640 .f32} {g i j : ℕ}

/-- A head's column inside its group, as a column of the whole. -/
def cl (a : Fin 4) (d : Fin 128) : Fin 512 := ⟨128 * a.val + d.val, by have := a.isLt; have := d.isLt; omega⟩

theorem logit_real (B : Blk px pq pk x0 x1 x2 x3 g i j) (a : Fin 4) (r c : Fin 640) : (logit (qH x0 a) (kH x1 a) (cH x3 a) (ix2 r c) : EReal)
    = ((qk px (4 * g + a.val) (640 * i + r.val) (640 * j + c.val) * ((Real.log 2)⁻¹ * (Real.sqrt 128)⁻¹) - pk (4 * g + a.val) (640 * j + c.val) * (Real.log 2)⁻¹ : ℝ) : EReal) := by
  rw [logit_at]
  have e : dotNT (K := 128) (M := 640) (N := 640) (qH x0 a) (kH x1 a) r c = ((qk px (4 * g + a.val) (640 * i + r.val) (640 * j + c.val) : ℝ) : EReal) := by
    unfold dotNT qk
    rw [coe_sum]
    refine Finset.sum_congr rfl fun d _ => ?_
    rw [EReal.coe_mul]
    refine congrArg₂ (· * ·) ((B.h0 r _).trans ?_) ((B.h1 c _).trans ?_)
    · exact congrArg (fun n => ((px (640 * i + r.val) n : ℝ) : EReal)) (show 512 * g + (128 * a.val + d.val) = 128 * (4 * g + a.val) + d.val by omega)
    · exact congrArg (fun n => ((px (640 * j + c.val) n : ℝ) : EReal)) (show 1024 * (1 + g) + (256 * a.val + d.val) = 1024 + 256 * (4 * g + a.val) + d.val by omega)
  rw [e, show (cH x3 a (ix3 0 0 c) : EReal) = _ from B.h3 a c]
  unfold l2s l2e
  rw [← EReal.coe_mul, ← EReal.coe_mul, ← EReal.coe_sub]

/-- The running sums over the key blocks before `j` become those over the blocks up to `j`. -/
theorem step (B : Blk px pq pk x0 x1 x2 x3 g i j) (xs0 xs1 : Vec Ideal S4x640x1 .f32) (xs2 : Vec Ideal S640x512 .f32) (a : Fin 4) (r : Fin 640) (d : Fin 128)
    (L : Vec Ideal S640x128 .bf16 → Vec Ideal S640x128 .bf16 → Vec Ideal S1x1x640 .f32 → FVec Ideal S640x640 .f32)
    (hL : ∀ c : Fin 640, (tH L x0 x1 x3 a (ix2 r c) : EReal) = if 640 * j + c.val ≤ 640 * i + r.val then (logit (qH x0 a) (kH x1 a) (cH x3 a) (ix2 r c) : EReal) else ⊥)
    (hj : j ≤ i)
    (hg : Good (ws px pq pk (640 * j) (4 * g + a.val) (640 * i + r.val)) (wv px pq pk (640 * j) (4 * g + a.val) (640 * i + r.val) d.val)
      (xs0 (ix3 a r 0) : EReal) (xs1 (ix3 a r 0) : EReal) (xs2 (ix2 r (cl a d)) : EReal)) :
    Good (ws px pq pk (640 * (j + 1)) (4 * g + a.val) (640 * i + r.val)) (wv px pq pk (640 * (j + 1)) (4 * g + a.val) (640 * i + r.val) d.val)
      (gm L x0 x1 x2 x3 xs0 (ix3 a r 0) : EReal) (gl L x0 x1 x2 x3 xs0 xs1 (ix3 a r 0) : EReal) (ga L x0 x1 x2 x3 xs0 xs2 (ix2 r (cl a d)) : EReal) := by
  have em := mN_at (rH x2 a) (rH xs0 a) (tH L x0 x1 x3 a) r
  have el := lN_at (rH x2 a) (rH xs0 a) (rH xs1 a) (tH L x0 x1 x3 a) r
  have ea := aN_at (rH x2 a) (rH xs0 a) (tH L x0 x1 x3 a) (aH xs2 a) (vH x1 a) r d
  have hq : (rH x2 a (ix3 0 r 0) : EReal) * l2e = ((pq (4 * g + a.val) (640 * i + r.val) * (Real.log 2)⁻¹ : ℝ) : EReal) := by
    rw [show (rH x2 a (ix3 0 r 0) : EReal) = _ from B.h2 a r, EReal.coe_mul]
    rfl
  have hv : ∀ c : Fin 640, (vH x1 a (ix2 c d) : EReal) = ((vl px (4 * g + a.val) (640 * j + c.val) d.val : ℝ) : EReal) := fun c =>
    (B.h1 c _).trans (congrArg (fun n => ((px (640 * j + c.val) n : ℝ) : EReal)) (show 1024 * (1 + g) + (256 * a.val + 128 + d.val) = 1024 + 256 * (4 * g + a.val) + 128 + d.val by omega))
  rw [hq] at em el ea
  rw [Finset.sum_congr rfl fun c _ => congrArg (Ideal.exp2 _ * ·) (hv c)] at ea
  rw [ws_next, wv_next]
  have es : ga L x0 x1 x2 x3 xs0 xs2 (ix2 r (cl a d)) = aN (rH x2 a) (rH xs0 a) (tH L x0 x1 x3 a) (aH xs2 a) (vH x1 a) (ix2 r d) := ga_at _ _ _ _ _ _ _ a (ix2 r d) _
  rw [es, ea]
  show Good _ _ (mN (rH x2 a) (rH xs0 a) (tH L x0 x1 x3 a) (ix2 r 0)) (lN (rH x2 a) (rH xs0 a) (rH xs1 a) (tH L x0 x1 x3 a) (ix2 r 0)) _
  rw [el]
  refine Good.step hg (fun c => (tH L x0 x1 x3 a (ix2 r c) : EReal)) _
    (fun c => qk px (4 * g + a.val) (640 * i + r.val) (640 * j + c.val) * ((Real.log 2)⁻¹ * (Real.sqrt 128)⁻¹) - pk (4 * g + a.val) (640 * j + c.val) * (Real.log 2)⁻¹)
    (fun c => wt px pq pk (4 * g + a.val) (640 * i + r.val) (640 * j + c.val)) (fun c => vl px (4 * g + a.val) (640 * j + c.val) d.val) (fun c => ?_) 0 ?_ _ em
  · by_cases hc : 640 * j + c.val ≤ 640 * i + r.val
    · refine Or.inr ⟨(hL c).trans ((if_pos hc).trans (logit_real B a r c)), ?_⟩
      rw [← sc_two]
      exact if_pos hc
    · exact Or.inl ⟨(hL c).trans (if_neg hc), if_neg hc⟩
  · exact (hL 0).trans ((if_pos (by show 640 * j + 0 ≤ _; omega)).trans (logit_real B a r 0))

/-- Below the diagonal nothing is masked. -/
theorem below (a : Fin 4) (r c : Fin 640) (hj : j < i) : (tH logit x0 x1 x3 a (ix2 r c) : EReal)
    = if 640 * j + c.val ≤ 640 * i + r.val then (logit (qH x0 a) (kH x1 a) (cH x3 a) (ix2 r c) : EReal) else ⊥ :=
  (if_pos (by have := c.isLt; omega)).symm
/-- On the diagonal later rows are masked. -/
theorem diag (a : Fin 4) (r c : Fin 640) (hj : j = i) : (tH logitD x0 x1 x3 a (ix2 r c) : EReal)
    = if 640 * j + c.val ≤ 640 * i + r.val then (logit (qH x0 a) (kH x1 a) (cH x3 a) (ix2 r c) : EReal) else ⊥ :=
  (logitD_at _ _ _ r c).trans (if_congr (by rw [Fin.le_def]; omega) rfl rfl)

theorem zero0 (y : S4x640x1.Idx) : (k0_pay1 (F := Ideal) y : EReal) = ⊥ := by
  unfold k0_pay1
  pointwise
  exact ofBits_least
theorem zero1 (y : S4x640x1.Idx) : (k0_pay2 (F := Ideal) y : EReal) = 0 := by
  unfold k0_pay2
  pointwise
theorem zero2 (y : S640x512.Idx) : (k0_pay3 (F := Ideal) y : EReal) = 0 := by
  unfold k0_pay3
  pointwise

/-- The cleared buffers are the sums over no rows. -/
theorem start (h R d : ℕ) (a : Fin 4) (r : Fin 640) (e : Fin 128) : Good (ws px pq pk (640 * 0) h R) (wv px pq pk (640 * 0) h R d)
    (k0_pay1 (F := Ideal) (ix3 a r 0) : EReal) (k0_pay2 (F := Ideal) (ix3 a r 0) : EReal) (k0_pay3 (F := Ideal) (ix2 r (cl a e)) : EReal) :=
  Or.inl ⟨zero0 _, zero1 _, zero2 _, rfl, rfl⟩

/-- The mean written for one entry. -/
theorem out_mean (n : ℕ) (hn : n < 13) (xs0 xs1 : Vec Ideal S4x640x1 .f32) (xs2 : Vec Ideal S640x512 .f32) (a : Fin 4) (r : Fin 640) (d : Fin 128) {S A : ℝ} (hS : 0 < S)
    (hg : Good S A (xs0 (ix3 a r 0) : EReal) (xs1 (ix3 a r 0) : EReal) (xs2 (ix2 r (cl a d)) : EReal)) :
    (go (BitVec.ofNat 32 n) xs1 xs2 (ix2 r (cl a d)) : EReal) = kept (640 * n + r.val) ((A / S : ℝ) : EReal) :=
  ((go_at (BitVec.ofNat 32 n) xs1 xs2 a (ix2 r d) _).symm.trans (oN_at n hn _ _ r d)).trans (congrArg _ (hg.mean hS))
/-- The logarithm written for one row. -/
theorem out_level (xs0 xs1 : Vec Ideal S4x640x1 .f32) (a : Fin 4) (r : Fin 640) {S A : ℝ} {x : EReal} (hS : 0 < S)
    (hg : Good S A (xs0 (ix3 a r 0) : EReal) (xs1 (ix3 a r 0) : EReal) x) :
    (ge xs0 xs1 (ix3 a r 0) : EReal) = ((Real.log S / Real.log 2 : ℝ) : EReal) :=
  (eN_at _ _ r).trans (hg.level hS)

end Cert.Attn

end
-- ==== Proof.Attn.CaseA.lean ====
/- The first block, on the diagonal: what the step leaves in the three running buffers. -/
module

public import proofs.«01_k».proof.Proof.Attn.Parts

@[expose] public section

noncomputable section

namespace Cert.Attn

open Finset Idealize.ShloMosaic Idealize.ShloMosaic.TcCoe Cert.Products Cert.Kernel20Ideal Cert.Kernel20Ideal.Gen

variable (c : Dev nD) (t : Fin cfg0.N) (x0 : Vec Ideal S640x512 .bf16) (x1 : Vec Ideal S640x1024 .bf16) (x2 : Vec Ideal S4x640x1 .f32) (x3 : Vec Ideal S4x1x640 .f32) (hc0 hc1 hc2 hc3)

theorem sA_0 : sout0_A_0 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3
    = gm logitD x0 x1 x2 x3 (k0_pay1 (F := Ideal)) := by
  unfold sout0_A_0
  rw [View.read_writes_eq_canon _ _ _ (scover0_A_0 c _ _ _ _ _ _ _ _ _ _ _ _ _ _ _ _ _ _ _ _ _ _ _ _ _ _ _)]
  unfold kernelRun0_A
  dsimp only
  sl_unfold_words
  simp only [View.readAt_eq_ld, Memref.IsWhole.read_unread]
  simp only [cov_r, cov_a]
  simp only [loads]
  generalize k0_pay1 (F := Ideal) = z0
  generalize k0_pay2 (F := Ideal) = z1
  generalize k0_pay3 (F := Ideal) = z2
  exact four_r _ (fun x => (col_at _ x).trans (Eq.refl (gm logitD x0 x1 x2 x3 z0 (ix3 3 (x 1) 0)))) (fun x => (col_at _ x).trans (Eq.refl (gm logitD x0 x1 x2 x3 z0 (ix3 2 (x 1) 0)))) (fun x => (col_at _ x).trans (Eq.refl (gm logitD x0 x1 x2 x3 z0 (ix3 1 (x 1) 0)))) (fun x => (col_at _ x).trans (Eq.refl (gm logitD x0 x1 x2 x3 z0 (ix3 0 (x 1) 0))))

theorem sA_1 : sout0_A_1 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3
    = gl logitD x0 x1 x2 x3 (k0_pay1 (F := Ideal)) (k0_pay2 (F := Ideal)) := by
  unfold sout0_A_1
  rw [View.read_writes_eq_canon _ _ _ (scover0_A_1 c _ _ _ _ _ _ _ _ _ _ _ _ _ _ _ _ _ _ _ _ _ _ _ _ _ _ _)]
  unfold kernelRun0_A
  dsimp only
  sl_unfold_words
  simp only [View.readAt_eq_ld, Memref.IsWhole.read_unread]
  simp only [cov_r, cov_a]
  simp only [loads]
  generalize k0_pay1 (F := Ideal) = z0
  generalize k0_pay2 (F := Ideal) = z1
  generalize k0_pay3 (F := Ideal) = z2
  exact four_r _ (fun x => (col_at _ x).trans (Eq.refl (gl logitD x0 x1 x2 x3 z0 z1 (ix3 3 (x 1) 0)))) (fun x => (col_at _ x).trans (Eq.refl (gl logitD x0 x1 x2 x3 z0 z1 (ix3 2 (x 1) 0)))) (fun x => (col_at _ x).trans (Eq.refl (gl logitD x0 x1 x2 x3 z0 z1 (ix3 1 (x 1) 0)))) (fun x => (col_at _ x).trans (Eq.refl (gl logitD x0 x1 x2 x3 z0 z1 (ix3 0 (x 1) 0))))

theorem sA_2 : sout0_A_2 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3
    = ga logitD x0 x1 x2 x3 (k0_pay1 (F := Ideal)) (k0_pay3 (F := Ideal)) := by
  unfold sout0_A_2
  rw [View.read_writes_eq_canon _ _ _ (scover0_A_2 c _ _ _ _ _ _ _ _ _ _ _ _ _ _ _ _ _ _ _ _ _ _ _ _ _ _ _)]
  unfold kernelRun0_A
  dsimp only
  sl_unfold_words
  simp only [View.readAt_eq_ld, Memref.IsWhole.read_unread]
  simp only [cov_r, cov_a]
  simp only [loads]
  generalize k0_pay1 (F := Ideal) = z0
  generalize k0_pay2 (F := Ideal) = z1
  generalize k0_pay3 (F := Ideal) = z2
  refine four_a _ ?_ ?_ ?_ ?_
  · exact fun x h => (same_at _ x).trans (ga_at logitD x0 x1 x2 x3 z0 z2 3 x h).symm
  · exact fun x h => (same_at _ x).trans (ga_at logitD x0 x1 x2 x3 z0 z2 2 x h).symm
  · exact fun x h => (same_at _ x).trans (ga_at logitD x0 x1 x2 x3 z0 z2 1 x h).symm
  · exact fun x h => (same_at _ x).trans (ga_at logitD x0 x1 x2 x3 z0 z2 0 x h).symm

end Cert.Attn

end
-- ==== Proof.Attn.CaseD.lean ====
/- The first block, below the diagonal: what the step leaves in the three running buffers. -/
module

public import proofs.«01_k».proof.Proof.Attn.Parts

@[expose] public section

noncomputable section

namespace Cert.Attn

open Finset Idealize.ShloMosaic Idealize.ShloMosaic.TcCoe Cert.Products Cert.Kernel20Ideal Cert.Kernel20Ideal.Gen

variable (c : Dev nD) (t : Fin cfg0.N) (x0 : Vec Ideal S640x512 .bf16) (x1 : Vec Ideal S640x1024 .bf16) (x2 : Vec Ideal S4x640x1 .f32) (x3 : Vec Ideal S4x1x640 .f32) (hc0 hc1 hc2 hc3)

theorem sD_0 : sout0_D_0 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3
    = gm logit x0 x1 x2 x3 (k0_pay1 (F := Ideal)) := by
  unfold sout0_D_0
  rw [View.read_writes_eq_canon _ _ _ (scover0_D_0 c _ _ _ _ _ _ _ _ _ _ _ _ _ _ _ _ _ _ _ _ _ _ _ _ _ _ _)]
  unfold kernelRun0_D
  dsimp only
  sl_unfold_words
  simp only [View.readAt_eq_ld, Memref.IsWhole.read_unread, (Memref.isWhole_whole _).read_unread]
  simp only [cov_r, cov_a]
  simp only [loads]
  generalize k0_pay1 (F := Ideal) = z0
  generalize k0_pay2 (F := Ideal) = z1
  generalize k0_pay3 (F := Ideal) = z2
  exact four_r _ (fun x => (col_at _ x).trans (Eq.refl (gm logit x0 x1 x2 x3 z0 (ix3 3 (x 1) 0)))) (fun x => (col_at _ x).trans (Eq.refl (gm logit x0 x1 x2 x3 z0 (ix3 2 (x 1) 0)))) (fun x => (col_at _ x).trans (Eq.refl (gm logit x0 x1 x2 x3 z0 (ix3 1 (x 1) 0)))) (fun x => (col_at _ x).trans (Eq.refl (gm logit x0 x1 x2 x3 z0 (ix3 0 (x 1) 0))))

theorem sD_1 : sout0_D_1 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3
    = gl logit x0 x1 x2 x3 (k0_pay1 (F := Ideal)) (k0_pay2 (F := Ideal)) := by
  unfold sout0_D_1
  rw [View.read_writes_eq_canon _ _ _ (scover0_D_1 c _ _ _ _ _ _ _ _ _ _ _ _ _ _ _ _ _ _ _ _ _ _ _ _ _ _ _)]
  unfold kernelRun0_D
  dsimp only
  sl_unfold_words
  simp only [View.readAt_eq_ld, Memref.IsWhole.read_unread, (Memref.isWhole_whole _).read_unread]
  simp only [cov_r, cov_a]
  simp only [loads]
  generalize k0_pay1 (F := Ideal) = z0
  generalize k0_pay2 (F := Ideal) = z1
  generalize k0_pay3 (F := Ideal) = z2
  exact four_r _ (fun x => (col_at _ x).trans (Eq.refl (gl logit x0 x1 x2 x3 z0 z1 (ix3 3 (x 1) 0)))) (fun x => (col_at _ x).trans (Eq.refl (gl logit x0 x1 x2 x3 z0 z1 (ix3 2 (x 1) 0)))) (fun x => (col_at _ x).trans (Eq.refl (gl logit x0 x1 x2 x3 z0 z1 (ix3 1 (x 1) 0)))) (fun x => (col_at _ x).trans (Eq.refl (gl logit x0 x1 x2 x3 z0 z1 (ix3 0 (x 1) 0))))

theorem sD_2 : sout0_D_2 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3
    = ga logit x0 x1 x2 x3 (k0_pay1 (F := Ideal)) (k0_pay3 (F := Ideal)) := by
  unfold sout0_D_2
  rw [View.read_writes_eq_canon _ _ _ (scover0_D_2 c _ _ _ _ _ _ _ _ _ _ _ _ _ _ _ _ _ _ _ _ _ _ _ _ _ _ _)]
  unfold kernelRun0_D
  dsimp only
  sl_unfold_words
  simp only [View.readAt_eq_ld, Memref.IsWhole.read_unread, (Memref.isWhole_whole _).read_unread]
  simp only [cov_r, cov_a]
  simp only [loads]
  generalize k0_pay1 (F := Ideal) = z0
  generalize k0_pay2 (F := Ideal) = z1
  generalize k0_pay3 (F := Ideal) = z2
  refine four_a _ ?_ ?_ ?_ ?_
  · exact fun x h => (same_at _ x).trans (ga_at logit x0 x1 x2 x3 z0 z2 3 x h).symm
  · exact fun x h => (same_at _ x).trans (ga_at logit x0 x1 x2 x3 z0 z2 2 x h).symm
  · exact fun x h => (same_at _ x).trans (ga_at logit x0 x1 x2 x3 z0 z2 1 x h).symm
  · exact fun x h => (same_at _ x).trans (ga_at logit x0 x1 x2 x3 z0 z2 0 x h).symm

end Cert.Attn

end
-- ==== Proof.Attn.CaseE.lean ====
/- A later block, on the diagonal: what the step leaves in the three running buffers. -/
module

public import proofs.«01_k».proof.Proof.Attn.Parts

@[expose] public section

noncomputable section

namespace Cert.Attn

open Finset Idealize.ShloMosaic Idealize.ShloMosaic.TcCoe Cert.Products Cert.Kernel20Ideal Cert.Kernel20Ideal.Gen

variable (c : Dev nD) (t : Fin cfg0.N) (x0 : Vec Ideal S640x512 .bf16) (x1 : Vec Ideal S640x1024 .bf16) (x2 : Vec Ideal S4x640x1 .f32) (x3 : Vec Ideal S4x1x640 .f32) (xs0 xs1 : Vec Ideal S4x640x1 .f32) (xs2 : Vec Ideal S640x512 .f32) (hc0 hc1 hc2 hc3)

theorem sE_0 : sout0_E_0 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = gm logitD x0 x1 x2 x3 xs0 := by
  unfold sout0_E_0
  rw [View.read_writes_eq_canon _ _ _ (scover0_E_0 c _ _ _ _ _ _ _ _ _ _ _ _ _ _ _ _ _ _ _ _ _ _ _ _ _ _ _ _ _ _)]
  unfold kernelRun0_E
  dsimp only
  sl_unfold_words
  simp only [View.readAt_eq_ld, Memref.IsWhole.read_unread, (Memref.isWhole_whole _).read_unread]
  simp only [loads]
  exact four_r _ (fun x => (col_at _ x).trans (Eq.refl (gm logitD x0 x1 x2 x3 xs0 (ix3 3 (x 1) 0)))) (fun x => (col_at _ x).trans (Eq.refl (gm logitD x0 x1 x2 x3 xs0 (ix3 2 (x 1) 0)))) (fun x => (col_at _ x).trans (Eq.refl (gm logitD x0 x1 x2 x3 xs0 (ix3 1 (x 1) 0)))) (fun x => (col_at _ x).trans (Eq.refl (gm logitD x0 x1 x2 x3 xs0 (ix3 0 (x 1) 0))))

theorem sE_1 : sout0_E_1 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = gl logitD x0 x1 x2 x3 xs0 xs1 := by
  unfold sout0_E_1
  rw [View.read_writes_eq_canon _ _ _ (scover0_E_1 c _ _ _ _ _ _ _ _ _ _ _ _ _ _ _ _ _ _ _ _ _ _ _ _ _ _ _ _ _ _)]
  unfold kernelRun0_E
  dsimp only
  sl_unfold_words
  simp only [View.readAt_eq_ld, Memref.IsWhole.read_unread, (Memref.isWhole_whole _).read_unread]
  simp only [loads]
  exact four_r _ (fun x => (col_at _ x).trans (Eq.refl (gl logitD x0 x1 x2 x3 xs0 xs1 (ix3 3 (x 1) 0)))) (fun x => (col_at _ x).trans (Eq.refl (gl logitD x0 x1 x2 x3 xs0 xs1 (ix3 2 (x 1) 0)))) (fun x => (col_at _ x).trans (Eq.refl (gl logitD x0 x1 x2 x3 xs0 xs1 (ix3 1 (x 1) 0)))) (fun x => (col_at _ x).trans (Eq.refl (gl logitD x0 x1 x2 x3 xs0 xs1 (ix3 0 (x 1) 0))))

theorem sE_2 : sout0_E_2 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = ga logitD x0 x1 x2 x3 xs0 xs2 := by
  unfold sout0_E_2
  rw [View.read_writes_eq_canon _ _ _ (scover0_E_2 c _ _ _ _ _ _ _ _ _ _ _ _ _ _ _ _ _ _ _ _ _ _ _ _ _ _ _ _ _ _)]
  unfold kernelRun0_E
  dsimp only
  sl_unfold_words
  simp only [View.readAt_eq_ld, Memref.IsWhole.read_unread, (Memref.isWhole_whole _).read_unread]
  simp only [loads]
  refine four_a _ ?_ ?_ ?_ ?_
  · exact fun x h => (same_at _ x).trans (ga_at logitD x0 x1 x2 x3 xs0 xs2 3 x h).symm
  · exact fun x h => (same_at _ x).trans (ga_at logitD x0 x1 x2 x3 xs0 xs2 2 x h).symm
  · exact fun x h => (same_at _ x).trans (ga_at logitD x0 x1 x2 x3 xs0 xs2 1 x h).symm
  · exact fun x h => (same_at _ x).trans (ga_at logitD x0 x1 x2 x3 xs0 xs2 0 x h).symm

end Cert.Attn

end
-- ==== Proof.Attn.CaseF.lean ====
/- A later block, below the diagonal: what the step leaves in the three running buffers. -/
module

public import proofs.«01_k».proof.Proof.Attn.Parts

@[expose] public section

noncomputable section

namespace Cert.Attn

open Finset Idealize.ShloMosaic Idealize.ShloMosaic.TcCoe Cert.Products Cert.Kernel20Ideal Cert.Kernel20Ideal.Gen

variable (c : Dev nD) (t : Fin cfg0.N) (x0 : Vec Ideal S640x512 .bf16) (x1 : Vec Ideal S640x1024 .bf16) (x2 : Vec Ideal S4x640x1 .f32) (x3 : Vec Ideal S4x1x640 .f32) (xs0 xs1 : Vec Ideal S4x640x1 .f32) (xs2 : Vec Ideal S640x512 .f32) (hc0 hc1 hc2 hc3)

theorem sF_0 : sout0_F_0 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = gm logit x0 x1 x2 x3 xs0 := by
  unfold sout0_F_0
  rw [View.read_writes_eq_canon _ _ _ (scover0_F_0 c _ _ _ _ _ _ _ _ _ _ _ _ _ _ _ _ _ _ _ _ _ _ _ _ _ _ _ _ _ _)]
  unfold kernelRun0_F
  dsimp only
  sl_unfold_words
  simp only [View.readAt_eq_ld, Memref.IsWhole.read_unread, (Memref.isWhole_whole _).read_unread]
  simp only [loads]
  exact four_r _ (fun x => (col_at _ x).trans (Eq.refl (gm logit x0 x1 x2 x3 xs0 (ix3 3 (x 1) 0)))) (fun x => (col_at _ x).trans (Eq.refl (gm logit x0 x1 x2 x3 xs0 (ix3 2 (x 1) 0)))) (fun x => (col_at _ x).trans (Eq.refl (gm logit x0 x1 x2 x3 xs0 (ix3 1 (x 1) 0)))) (fun x => (col_at _ x).trans (Eq.refl (gm logit x0 x1 x2 x3 xs0 (ix3 0 (x 1) 0))))

theorem sF_1 : sout0_F_1 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = gl logit x0 x1 x2 x3 xs0 xs1 := by
  unfold sout0_F_1
  rw [View.read_writes_eq_canon _ _ _ (scover0_F_1 c _ _ _ _ _ _ _ _ _ _ _ _ _ _ _ _ _ _ _ _ _ _ _ _ _ _ _ _ _ _)]
  unfold kernelRun0_F
  dsimp only
  sl_unfold_words
  simp only [View.readAt_eq_ld, Memref.IsWhole.read_unread, (Memref.isWhole_whole _).read_unread]
  simp only [loads]
  exact four_r _ (fun x => (col_at _ x).trans (Eq.refl (gl logit x0 x1 x2 x3 xs0 xs1 (ix3 3 (x 1) 0)))) (fun x => (col_at _ x).trans (Eq.refl (gl logit x0 x1 x2 x3 xs0 xs1 (ix3 2 (x 1) 0)))) (fun x => (col_at _ x).trans (Eq.refl (gl logit x0 x1 x2 x3 xs0 xs1 (ix3 1 (x 1) 0)))) (fun x => (col_at _ x).trans (Eq.refl (gl logit x0 x1 x2 x3 xs0 xs1 (ix3 0 (x 1) 0))))

theorem sF_2 : sout0_F_2 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = ga logit x0 x1 x2 x3 xs0 xs2 := by
  unfold sout0_F_2
  rw [View.read_writes_eq_canon _ _ _ (scover0_F_2 c _ _ _ _ _ _ _ _ _ _ _ _ _ _ _ _ _ _ _ _ _ _ _ _ _ _ _ _ _ _)]
  unfold kernelRun0_F
  dsimp only
  sl_unfold_words
  simp only [View.readAt_eq_ld, Memref.IsWhole.read_unread, (Memref.isWhole_whole _).read_unread]
  simp only [loads]
  refine four_a _ ?_ ?_ ?_ ?_
  · exact fun x h => (same_at _ x).trans (ga_at logit x0 x1 x2 x3 xs0 xs2 3 x h).symm
  · exact fun x h => (same_at _ x).trans (ga_at logit x0 x1 x2 x3 xs0 xs2 2 x h).symm
  · exact fun x h => (same_at _ x).trans (ga_at logit x0 x1 x2 x3 xs0 xs2 1 x h).symm
  · exact fun x h => (same_at _ x).trans (ga_at logit x0 x1 x2 x3 xs0 xs2 0 x h).symm

end Cert.Attn

end
-- ==== Proof.Attn.CaseC.lean ====
/- The last column of blocks, above the diagonal: the sums are finished and the means are written. -/
module

public import proofs.«01_k».proof.Proof.Attn.Last

@[expose] public section

noncomputable section

namespace Cert.Attn

open Finset Idealize.ShloMosaic Idealize.ShloMosaic.TcCoe Cert.Products Cert.Kernel20Ideal Cert.Kernel20Ideal.Gen

variable (c : Dev nD) (t : Fin cfg0.N) (x0 : Vec Ideal S640x512 .bf16) (x1 : Vec Ideal S640x1024 .bf16) (x2 : Vec Ideal S4x640x1 .f32) (x3 : Vec Ideal S4x1x640 .f32) (xs0 xs1 : Vec Ideal S4x640x1 .f32) (xs2 : Vec Ideal S640x512 .f32) (hc0 hc1 hc2 hc3)

theorem oC_4 : out0_C_4 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = go (BitVec.ofNat 32 (grid0.coords t 1).val) xs1 xs2 := by
  unfold out0_C_4
  rw [View.read_writes_eq_canon _ _ _ (cover0_C_4 c _ _ _ _ _ _ _ _ _ _ _ _ _ _ _ _ _ _ _ _ _ _ _ _ _ _ _ _ _ _)]
  unfold kernelRun0_C
  dsimp only
  sl_unfold_words
  simp only [View.readAt_eq_ld, Memref.IsWhole.read_unread, (Memref.isWhole_whole _).read_unread]
  simp only [loads]
  refine four_a _ ?_ ?_ ?_ ?_
  · exact fun x h => go_at _ _ _ 3 x h
  · exact fun x h => go_at _ _ _ 2 x h
  · exact fun x h => go_at _ _ _ 1 x h
  · exact fun x h => go_at _ _ _ 0 x h

theorem oC_5 : out0_C_5 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = ge xs0 xs1 := by
  unfold out0_C_5
  rw [View.read_writes_eq_canon _ _ _ (cover0_C_5 c _ _ _ _ _ _ _ _ _ _ _ _ _ _ _ _ _ _ _ _ _ _ _ _ _ _ _ _ _ _)]
  unfold kernelRun0_C
  dsimp only
  sl_unfold_words
  simp only [View.readAt_eq_ld, Memref.IsWhole.read_unread, (Memref.isWhole_whole _).read_unread]
  simp only [loads]
  exact four_r _ (ge_at xs0 xs1 3) (ge_at xs0 xs1 2) (ge_at xs0 xs1 1) (ge_at xs0 xs1 0)

end Cert.Attn

end
-- ==== Proof.Attn.CaseG.lean ====
/- The last block of the last rows: what the step leaves in the three running buffers. -/
module

public import proofs.«01_k».proof.Proof.Attn.Parts

@[expose] public section

noncomputable section

namespace Cert.Attn

open Finset Idealize.ShloMosaic Idealize.ShloMosaic.TcCoe Cert.Products Cert.Kernel20Ideal Cert.Kernel20Ideal.Gen

variable (c : Dev nD) (t : Fin cfg0.N) (x0 : Vec Ideal S640x512 .bf16) (x1 : Vec Ideal S640x1024 .bf16) (x2 : Vec Ideal S4x640x1 .f32) (x3 : Vec Ideal S4x1x640 .f32) (xs0 xs1 : Vec Ideal S4x640x1 .f32) (xs2 : Vec Ideal S640x512 .f32) (hc0 hc1 hc2 hc3)

theorem sG_0 : sout0_G_0 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = gm logitD x0 x1 x2 x3 xs0 := by
  unfold sout0_G_0
  rw [View.read_writes_eq_canon _ _ _ (scover0_G_0 c _ _ _ _ _ _ _ _ _ _ _ _ _ _ _ _ _ _ _ _ _ _ _ _ _ _ _ _ _ _)]
  unfold kernelRun0_G
  dsimp only
  sl_unfold_words
  simp only [View.readAt_eq_ld, Memref.IsWhole.read_unread, (Memref.isWhole_whole _).read_unread]
  simp only [loads]
  exact four_r _ (fun x => (col_at _ x).trans (Eq.refl (gm logitD x0 x1 x2 x3 xs0 (ix3 3 (x 1) 0)))) (fun x => (col_at _ x).trans (Eq.refl (gm logitD x0 x1 x2 x3 xs0 (ix3 2 (x 1) 0)))) (fun x => (col_at _ x).trans (Eq.refl (gm logitD x0 x1 x2 x3 xs0 (ix3 1 (x 1) 0)))) (fun x => (col_at _ x).trans (Eq.refl (gm logitD x0 x1 x2 x3 xs0 (ix3 0 (x 1) 0))))

theorem sG_1 : sout0_G_1 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = gl logitD x0 x1 x2 x3 xs0 xs1 := by
  unfold sout0_G_1
  rw [View.read_writes_eq_canon _ _ _ (scover0_G_1 c _ _ _ _ _ _ _ _ _ _ _ _ _ _ _ _ _ _ _ _ _ _ _ _ _ _ _ _ _ _)]
  unfold kernelRun0_G
  dsimp only
  sl_unfold_words
  simp only [View.readAt_eq_ld, Memref.IsWhole.read_unread, (Memref.isWhole_whole _).read_unread]
  simp only [loads]
  exact four_r _ (fun x => (col_at _ x).trans (Eq.refl (gl logitD x0 x1 x2 x3 xs0 xs1 (ix3 3 (x 1) 0)))) (fun x => (col_at _ x).trans (Eq.refl (gl logitD x0 x1 x2 x3 xs0 xs1 (ix3 2 (x 1) 0)))) (fun x => (col_at _ x).trans (Eq.refl (gl logitD x0 x1 x2 x3 xs0 xs1 (ix3 1 (x 1) 0)))) (fun x => (col_at _ x).trans (Eq.refl (gl logitD x0 x1 x2 x3 xs0 xs1 (ix3 0 (x 1) 0))))

theorem sG_2 : sout0_G_2 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = ga logitD x0 x1 x2 x3 xs0 xs2 := by
  unfold sout0_G_2
  rw [View.read_writes_eq_canon _ _ _ (scover0_G_2 c _ _ _ _ _ _ _ _ _ _ _ _ _ _ _ _ _ _ _ _ _ _ _ _ _ _ _ _ _ _)]
  unfold kernelRun0_G
  dsimp only
  sl_unfold_words
  simp only [View.readAt_eq_ld, Memref.IsWhole.read_unread, (Memref.isWhole_whole _).read_unread]
  simp only [loads]
  refine four_a _ ?_ ?_ ?_ ?_
  · exact fun x h => (same_at _ x).trans (ga_at logitD x0 x1 x2 x3 xs0 xs2 3 x h).symm
  · exact fun x h => (same_at _ x).trans (ga_at logitD x0 x1 x2 x3 xs0 xs2 2 x h).symm
  · exact fun x h => (same_at _ x).trans (ga_at logitD x0 x1 x2 x3 xs0 xs2 1 x h).symm
  · exact fun x h => (same_at _ x).trans (ga_at logitD x0 x1 x2 x3 xs0 xs2 0 x h).symm

end Cert.Attn

end
-- ==== Proof.Attn.CaseGOut.lean ====
/- The last block of the last rows: the sums are finished and the means are written. -/
module

public import proofs.«01_k».proof.Proof.Attn.Last
public import proofs.«01_k».proof.Proof.Attn.CaseG

@[expose] public section

noncomputable section

namespace Cert.Attn

open Finset Idealize.ShloMosaic Idealize.ShloMosaic.TcCoe Cert.Products Cert.Kernel20Ideal Cert.Kernel20Ideal.Gen

variable (c : Dev nD) (t : Fin cfg0.N) (x0 : Vec Ideal S640x512 .bf16) (x1 : Vec Ideal S640x1024 .bf16) (x2 : Vec Ideal S4x640x1 .f32) (x3 : Vec Ideal S4x1x640 .f32) (xs0 xs1 : Vec Ideal S4x640x1 .f32) (xs2 : Vec Ideal S640x512 .f32) (hc0 hc1 hc2 hc3)

/-- A load of a running buffer after its last update. -/
theorem load0 (r : Rect S4x640x1) : (View.whole cc0_scratch0).readCov (Val := Elt Ideal) (kernelRun0_G (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2).2.2.1 r.toLoadRect
    = View.ld (Val := Elt Ideal) (S := S4x640x1) (e' := .f32) (gm logitD x0 x1 x2 x3 xs0) r := by
  rw [View.readCov_eq_canon_ld _ _ _ (scover0_G_0 c _ _ _ _ _ _ _ _ _ _ _ _ _ _ _ _ _ _ _ _ _ _ _ _ _ _ _ _ _ _), ← sG_0 c t x0 x1 x2 x3 xs0 xs1 xs2 hc0 hc1 hc2 hc3]
  unfold sout0_G_0
  rw [View.read_writes_eq_canon _ _ _ (scover0_G_0 c _ _ _ _ _ _ _ _ _ _ _ _ _ _ _ _ _ _ _ _ _ _ _ _ _ _ _ _ _ _)]

/-- A load of a running buffer after its last update. -/
theorem load1 (r : Rect S4x640x1) : (View.whole cc0_scratch1).readCov (Val := Elt Ideal) (kernelRun0_G (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2).2.2.2.1 r.toLoadRect
    = View.ld (Val := Elt Ideal) (S := S4x640x1) (e' := .f32) (gl logitD x0 x1 x2 x3 xs0 xs1) r := by
  rw [View.readCov_eq_canon_ld _ _ _ (scover0_G_1 c _ _ _ _ _ _ _ _ _ _ _ _ _ _ _ _ _ _ _ _ _ _ _ _ _ _ _ _ _ _), ← sG_1 c t x0 x1 x2 x3 xs0 xs1 xs2 hc0 hc1 hc2 hc3]
  unfold sout0_G_1
  rw [View.read_writes_eq_canon _ _ _ (scover0_G_1 c _ _ _ _ _ _ _ _ _ _ _ _ _ _ _ _ _ _ _ _ _ _ _ _ _ _ _ _ _ _)]

/-- A load of a running buffer after its last update. -/
theorem load2 (r : Rect S640x512) : (View.whole cc0_scratch2).readCov (Val := Elt Ideal) (kernelRun0_G (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2).2.2.2.2.1 r.toLoadRect
    = View.ld (Val := Elt Ideal) (S := S640x512) (e' := .f32) (ga logitD x0 x1 x2 x3 xs0 xs2) r := by
  rw [View.readCov_eq_canon_ld _ _ _ (scover0_G_2 c _ _ _ _ _ _ _ _ _ _ _ _ _ _ _ _ _ _ _ _ _ _ _ _ _ _ _ _ _ _), ← sG_2 c t x0 x1 x2 x3 xs0 xs1 xs2 hc0 hc1 hc2 hc3]
  unfold sout0_G_2
  rw [View.read_writes_eq_canon _ _ _ (scover0_G_2 c _ _ _ _ _ _ _ _ _ _ _ _ _ _ _ _ _ _ _ _ _ _ _ _ _ _ _ _ _ _)]

theorem oG_4 : out0_G_4 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = go (BitVec.ofNat 32 (grid0.coords t 1).val) (gl logitD x0 x1 x2 x3 xs0 xs1) (ga logitD x0 x1 x2 x3 xs0 xs2) := by
  have e1 := load1 c t x0 x1 x2 x3 xs0 xs1 xs2 hc0 hc1 hc2 hc3
  have e2 := load2 c t x0 x1 x2 x3 xs0 xs1 xs2 hc0 hc1 hc2 hc3
  revert e1 e2
  unfold out0_G_4
  rw [View.read_writes_eq_canon _ _ _ (cover0_G_4 c _ _ _ _ _ _ _ _ _ _ _ _ _ _ _ _ _ _ _ _ _ _ _ _ _ _ _ _ _ _)]
  unfold kernelRun0_G
  dsimp only
  sl_unfold_words
  simp only [View.readAt_eq_ld, Memref.IsWhole.read_unread, (Memref.isWhole_whole _).read_unread]
  intro e1 e2
  simp only [e1, e2]
  clear e1 e2
  simp only [loads]
  refine four_a _ ?_ ?_ ?_ ?_
  · exact fun x h => go_at _ _ _ 3 x h
  · exact fun x h => go_at _ _ _ 2 x h
  · exact fun x h => go_at _ _ _ 1 x h
  · exact fun x h => go_at _ _ _ 0 x h

theorem oG_5 : out0_G_5 (F := Ideal) c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) hc0 hc1 hc2 hc3 x0 x1 x2 x3 xs0 xs1 xs2
    = ge (gm logitD x0 x1 x2 x3 xs0) (gl logitD x0 x1 x2 x3 xs0 xs1) := by
  have e0 := load0 c t x0 x1 x2 x3 xs0 xs1 xs2 hc0 hc1 hc2 hc3
  have e1 := load1 c t x0 x1 x2 x3 xs0 xs1 xs2 hc0 hc1 hc2 hc3
  revert e0 e1
  unfold out0_G_5
  rw [View.read_writes_eq_canon _ _ _ (cover0_G_5 c _ _ _ _ _ _ _ _ _ _ _ _ _ _ _ _ _ _ _ _ _ _ _ _ _ _ _ _ _ _)]
  unfold kernelRun0_G
  dsimp only
  sl_unfold_words
  simp only [View.readAt_eq_ld, Memref.IsWhole.read_unread, (Memref.isWhole_whole _).read_unread]
  intro e0 e1
  simp only [e0, e1]
  clear e0 e1
  simp only [loads]
  exact four_r _ (ge_at (gm logitD x0 x1 x2 x3 xs0) (gl logitD x0 x1 x2 x3 xs0 xs1) 3) (ge_at (gm logitD x0 x1 x2 x3 xs0) (gl logitD x0 x1 x2 x3 xs0 xs1) 2) (ge_at (gm logitD x0 x1 x2 x3 xs0) (gl logitD x0 x1 x2 x3 xs0 xs1) 1) (ge_at (gm logitD x0 x1 x2 x3 xs0) (gl logitD x0 x1 x2 x3 xs0 xs1) 0)

end Cert.Attn

end
-- ==== Proof.Attn.Walk.lean ====
/- The grid's points in order: what each reads, what the running buffers hold after it, and what the last point of a block of rows writes. -/
module

public import proofs.«01_k».proof.Proof.Attn.Step
public import proofs.«01_k».proof.Proof.Attn.CaseA
public import proofs.«01_k».proof.Proof.Attn.CaseD
public import proofs.«01_k».proof.Proof.Attn.CaseE
public import proofs.«01_k».proof.Proof.Attn.CaseF
public import proofs.«01_k».proof.Proof.Attn.CaseC
public import proofs.«01_k».proof.Proof.Attn.CaseGOut

@[expose] public section

noncomputable section

namespace Cert.Attn

open Finset Idealize.ShloMosaic Idealize.ShloMosaic.TcCoe Cert.Products Cert.Kernel20Ideal Cert.Kernel20Ideal.Gen

/-! ## What a point reads -/

theorem index0 : ∀ t : Fin cfg0.N, win0_0.index t 0 = t.val / 13 % 13 ∧ win0_0.index t 1 = t.val / 169 :=
  (by change ∀ t : Fin grid0.N, _; decide +kernel)
theorem index1 : ∀ t : Fin cfg0.N, win0_1.index t 0 = min (t.val % 13) (t.val / 13 % 13) ∧ win0_1.index t 1 = 1 + t.val / 169 :=
  (by change ∀ t : Fin grid0.N, _; decide +kernel)
theorem index2 : ∀ t : Fin cfg0.N, win0_2.index t 0 = t.val / 169 ∧ win0_2.index t 1 = t.val / 13 % 13 ∧ win0_2.index t 2 = 0 :=
  (by change ∀ t : Fin grid0.N, _; decide +kernel)
theorem index3 : ∀ t : Fin cfg0.N, win0_3.index t 0 = t.val / 169 ∧ win0_3.index t 1 = 0 ∧ win0_3.index t 2 = min (t.val % 13) (t.val / 13 % 13) :=
  (by change ∀ t : Fin grid0.N, _; decide +kernel)
theorem coord1 : ∀ t : Fin cfg0.N, (grid0.coords t 1).val = t.val / 13 % 13 :=
  (by change ∀ t : Fin grid0.N, _; decide +kernel)

theorem read0 (A : S8320x3072.Idx → EReal) (t : Fin cfg0.N) (y) :
    ((cfg0.win 0).blk t).view.read (Elt Ideal) A y = A (((cfg0.win 0).blk t).view.emb y) := rfl
theorem read1 (A : S8320x3072.Idx → EReal) (t : Fin cfg0.N) (y) :
    ((cfg0.win 1).blk t).view.read (Elt Ideal) A y = A (((cfg0.win 1).blk t).view.emb y) := rfl
theorem read2 (A : S8x8320x1.Idx → EReal) (t : Fin cfg0.N) (y) :
    ((cfg0.win 2).blk t).view.read (Elt Ideal) A y = A (((cfg0.win 2).blk t).view.emb y) := rfl
theorem read3 (A : S8x1x8320.Idx → EReal) (t : Fin cfg0.N) (y) :
    ((cfg0.win 3).blk t).view.read (Elt Ideal) A y = A (((cfg0.win 3).blk t).view.emb y) := rfl

variable {m : (ℓ : Loc nD τ Cert.Kernel20Ideal.sig) → Buf (Elt Ideal) ℓ} {c : Dev nD} {px pq pk : ℕ → ℕ → ℝ}

theorem two (p : ℕ → ℕ → ℝ) {a b x y : ℕ} (h : a = x) (k : b = y) : ((p a b : ℝ) : EReal) = ((p x y : ℝ) : EReal) := by rw [h, k]

/-- The blocks a point reads. -/
theorem blk (H : Args (V m c main_arg0) (V m c main_arg1) (V m c main_arg2) px pq pk) (t : Fin cfg0.N) :
    Blk px pq pk (iblk m c 0 t) (iblk m c 1 t) (iblk m c 2 t) (iblk m c 3 t) (t.val / 169) (t.val / 13 % 13) (min (t.val % 13) (t.val / 13 % 13)) where
  h0 r e := by
    obtain ⟨e0, e1⟩ := index0 t
    refine ((read0 _ t _).trans (H.hX _)).trans (two px ?_ ?_)
    · show win0_0.index t 0 * 640 + 1 * r.val = _
      omega
    · show win0_0.index t 1 * 512 + 1 * e.val = _
      omega
  h1 r e := by
    obtain ⟨e0, e1⟩ := index1 t
    refine ((read1 _ t _).trans (H.hX _)).trans (two px ?_ ?_)
    · show win0_1.index t 0 * 640 + 1 * r.val = _
      rw [e0]
      omega
    · show win0_1.index t 1 * 1024 + 1 * e.val = _
      omega
  h2 a r := by
    obtain ⟨e0, e1, -⟩ := index2 t
    refine ((read2 _ t _).trans (H.hQ _)).trans (two pq ?_ ?_)
    · show win0_2.index t 0 * 4 + 1 * a.val = _
      omega
    · show win0_2.index t 1 * 640 + 1 * r.val = _
      omega
  h3 a r := by
    obtain ⟨e0, -, e1⟩ := index3 t
    refine ((read3 _ t _).trans (H.hK _)).trans (two pk ?_ ?_)
    · show win0_3.index t 0 * 4 + 1 * a.val = _
      omega
    · show win0_3.index t 2 * 640 + 1 * r.val = _
      rw [e1]
      omega

/-! ## The running sums -/

/-- What the running buffers hold after a point: the sums over the key blocks up to the point's, or to the diagonal where that comes first. -/
def Held (px pq pk : ℕ → ℕ → ℝ) (n : ℕ) (xs0 xs1 : Vec Ideal S4x640x1 .f32) (xs2 : Vec Ideal S640x512 .f32) : Prop :=
  ∀ (a : Fin 4) (r : Fin 640) (d : Fin 128),
    Good (ws px pq pk (640 * (min (n % 13) (n / 13 % 13) + 1)) (4 * (n / 169) + a.val) (640 * (n / 13 % 13) + r.val))
      (wv px pq pk (640 * (min (n % 13) (n / 13 % 13) + 1)) (4 * (n / 169) + a.val) (640 * (n / 13 % 13) + r.val) d.val)
      (xs0 (ix3 a r 0) : EReal) (xs1 (ix3 a r 0) : EReal) (xs2 (ix2 r (cl a d)) : EReal)

/-- The buffers after a point, by its number. -/
def Done (px pq pk : ℕ → ℕ → ℝ) (m : (ℓ : Loc nD τ Cert.Kernel20Ideal.sig) → Buf (Elt Ideal) ℓ) (c : Dev nD) (n : ℕ) (hn : n < cfg0.N) : Prop :=
  Held px pq pk n (outsAt0 m c n hn).2.2.1 (outsAt0 m c n hn).2.2.2.1 (outsAt0 m c n hn).2.2.2.2

theorem doneA (H : Args (V m c main_arg0) (V m c main_arg1) (V m c main_arg2) px pq pk) (t : Fin cfg0.N) (h0 : t.val % 13 = 0) (h1 : ¬ t.val % 13 + 1 ≤ t.val / 13 % 13) (h2 : t.val / 13 % 13 = t.val % 13) (h3 : ¬ t.val % 13 = 12) :
    Done px pq pk m c t.val t.isLt := by
  unfold Done
  rw [outsAt0_A m c t h0 h1 h2 h3]
  dsimp only
  rw [sA_0, sA_1, sA_2]
  intro a r d
  have hj : min (t.val % 13) (t.val / 13 % 13) = 0 := by omega
  refine step (blk H t) _ _ _ a r d logitD (fun x => diag a r x (by omega)) (by omega) ?_
  rw [hj]
  exact start _ _ _ a r d

theorem doneD (H : Args (V m c main_arg0) (V m c main_arg1) (V m c main_arg2) px pq pk) (t : Fin cfg0.N) (h0 : t.val % 13 = 0) (h1 : t.val % 13 + 1 ≤ t.val / 13 % 13) (h2 : ¬ t.val / 13 % 13 = t.val % 13) (h3 : ¬ t.val % 13 = 12) :
    Done px pq pk m c t.val t.isLt := by
  unfold Done
  rw [outsAt0_D m c t h0 h1 h2 h3]
  dsimp only
  rw [sD_0, sD_1, sD_2]
  intro a r d
  have hj : min (t.val % 13) (t.val / 13 % 13) = 0 := by omega
  refine step (blk H t) _ _ _ a r d logit (fun x => below a r x (by omega)) (by omega) ?_
  rw [hj]
  exact start _ _ _ a r d

theorem doneE (H : Args (V m c main_arg0) (V m c main_arg1) (V m c main_arg2) px pq pk) (t : Fin cfg0.N) (h0 : ¬ t.val % 13 = 0) (h1 : ¬ t.val % 13 + 1 ≤ t.val / 13 % 13) (h2 : t.val / 13 % 13 = t.val % 13) (h3 : ¬ t.val % 13 = 12)
    (hp : Done px pq pk m c (t.val - 1) (Nat.lt_of_le_of_lt (Nat.sub_le _ _) t.isLt)) : Done px pq pk m c t.val t.isLt := by
  have e1 : (t.val - 1) / 13 = t.val / 13 := by omega
  have e2 : (t.val - 1) / 169 = t.val / 169 := by omega
  have e3 : min ((t.val - 1) % 13) (t.val / 13 % 13) + 1 = min (t.val % 13) (t.val / 13 % 13) := by omega
  unfold Done
  rw [outsAt0_E m c t h0 h1 h2 h3]
  dsimp only
  rw [sE_0, sE_1, sE_2]
  intro a r d
  refine step (blk H t) _ _ _ a r d logitD (fun x => diag a r x (by omega)) (by omega) ?_
  have hq := hp a r d
  rw [e1, e2, e3] at hq
  exact hq

theorem doneF (H : Args (V m c main_arg0) (V m c main_arg1) (V m c main_arg2) px pq pk) (t : Fin cfg0.N) (h0 : ¬ t.val % 13 = 0) (h1 : t.val % 13 + 1 ≤ t.val / 13 % 13) (h2 : ¬ t.val / 13 % 13 = t.val % 13) (h3 : ¬ t.val % 13 = 12)
    (hp : Done px pq pk m c (t.val - 1) (Nat.lt_of_le_of_lt (Nat.sub_le _ _) t.isLt)) : Done px pq pk m c t.val t.isLt := by
  have e1 : (t.val - 1) / 13 = t.val / 13 := by omega
  have e2 : (t.val - 1) / 169 = t.val / 169 := by omega
  have e3 : min ((t.val - 1) % 13) (t.val / 13 % 13) + 1 = min (t.val % 13) (t.val / 13 % 13) := by omega
  unfold Done
  rw [outsAt0_F m c t h0 h1 h2 h3]
  dsimp only
  rw [sF_0, sF_1, sF_2]
  intro a r d
  refine step (blk H t) _ _ _ a r d logit (fun x => below a r x (by omega)) (by omega) ?_
  have hq := hp a r d
  rw [e1, e2, e3] at hq
  exact hq

theorem doneG (H : Args (V m c main_arg0) (V m c main_arg1) (V m c main_arg2) px pq pk) (t : Fin cfg0.N) (h0 : ¬ t.val % 13 = 0) (h1 : ¬ t.val % 13 + 1 ≤ t.val / 13 % 13) (h2 : t.val / 13 % 13 = t.val % 13) (h3 : t.val % 13 = 12)
    (hp : Done px pq pk m c (t.val - 1) (Nat.lt_of_le_of_lt (Nat.sub_le _ _) t.isLt)) : Done px pq pk m c t.val t.isLt := by
  have e1 : (t.val - 1) / 13 = t.val / 13 := by omega
  have e2 : (t.val - 1) / 169 = t.val / 169 := by omega
  have e3 : min ((t.val - 1) % 13) (t.val / 13 % 13) + 1 = min (t.val % 13) (t.val / 13 % 13) := by omega
  unfold Done
  rw [outsAt0_G m c t h0 h1 h2 h3]
  dsimp only
  rw [sG_0, sG_1, sG_2]
  intro a r d
  refine step (blk H t) _ _ _ a r d logitD (fun x => diag a r x (by omega)) (by omega) ?_
  have hq := hp a r d
  rw [e1, e2, e3] at hq
  exact hq

theorem doneB (t : Fin cfg0.N) (h0 : ¬ t.val % 13 = 0) (h1 : ¬ t.val % 13 + 1 ≤ t.val / 13 % 13) (h2 : ¬ t.val / 13 % 13 = t.val % 13) (h3 : ¬ t.val % 13 = 12)
    (hp : Done px pq pk m c (t.val - 1) (Nat.lt_of_le_of_lt (Nat.sub_le _ _) t.isLt)) : Done px pq pk m c t.val t.isLt := by
  have e1 : (t.val - 1) / 13 = t.val / 13 := by omega
  have e2 : (t.val - 1) / 169 = t.val / 169 := by omega
  have e3 : min ((t.val - 1) % 13) (t.val / 13 % 13) = min (t.val % 13) (t.val / 13 % 13) := by omega
  unfold Done
  rw [outsAt0_B m c t h0 h1 h2 h3]
  intro a r d
  have hq := hp a r d
  rw [e1, e2, e3] at hq
  exact hq

theorem doneC (t : Fin cfg0.N) (h0 : ¬ t.val % 13 = 0) (h1 : ¬ t.val % 13 + 1 ≤ t.val / 13 % 13) (h2 : ¬ t.val / 13 % 13 = t.val % 13) (h3 : t.val % 13 = 12)
    (hp : Done px pq pk m c (t.val - 1) (Nat.lt_of_le_of_lt (Nat.sub_le _ _) t.isLt)) : Done px pq pk m c t.val t.isLt := by
  have e1 : (t.val - 1) / 13 = t.val / 13 := by omega
  have e2 : (t.val - 1) / 169 = t.val / 169 := by omega
  have e3 : min ((t.val - 1) % 13) (t.val / 13 % 13) = min (t.val % 13) (t.val / 13 % 13) := by omega
  unfold Done
  rw [outsAt0_C m c t h0 h1 h2 h3]
  intro a r d
  have hq := hp a r d
  rw [e1, e2, e3] at hq
  exact hq

/-- The running buffers after every point. -/
theorem done (H : Args (V m c main_arg0) (V m c main_arg1) (V m c main_arg2) px pq pk) (n : ℕ) (hn : n < cfg0.N) : Done px pq pk m c n hn := by
  induction n with
  | zero => exact doneA H ⟨0, hn⟩ rfl (fun h : 0 % 13 + 1 ≤ 0 / 13 % 13 => by omega) (show 0 / 13 % 13 = 0 % 13 by omega) (fun h : 0 % 13 = 12 => by omega)
  | succ n ih =>
    have hp := ih (by omega)
    by_cases h0 : (n + 1) % 13 = 0
    · have h3 : ¬ (n + 1) % 13 = 12 := by omega
      by_cases h1 : (n + 1) % 13 + 1 ≤ (n + 1) / 13 % 13
      · exact doneD H ⟨n + 1, hn⟩ h0 h1 (fun h : (n + 1) / 13 % 13 = (n + 1) % 13 => by omega) h3
      · exact doneA H ⟨n + 1, hn⟩ h0 h1 (show (n + 1) / 13 % 13 = (n + 1) % 13 by omega) h3
    · by_cases h1 : (n + 1) % 13 + 1 ≤ (n + 1) / 13 % 13
      · exact doneF H ⟨n + 1, hn⟩ h0 h1 (fun h : (n + 1) / 13 % 13 = (n + 1) % 13 => by omega) (fun h : (n + 1) % 13 = 12 => by omega) hp
      · by_cases h2 : (n + 1) / 13 % 13 = (n + 1) % 13
        · by_cases h3 : (n + 1) % 13 = 12
          · exact doneG H ⟨n + 1, hn⟩ h0 h1 h2 h3 hp
          · exact doneE H ⟨n + 1, hn⟩ h0 h1 h2 h3 hp
        · by_cases h3 : (n + 1) % 13 = 12
          · exact doneC ⟨n + 1, hn⟩ h0 h1 h2 h3 hp
          · exact doneB ⟨n + 1, hn⟩ h0 h1 h2 h3 hp

/-- The last point of a block of rows writes the means and the logarithms of what the buffers hold after it. -/
theorem written (t : Fin cfg0.N) (h3 : t.val % 13 = 12) :
    (outsAt0 m c t.val t.isLt).1 = go (BitVec.ofNat 32 (t.val / 13 % 13)) (outsAt0 m c t.val t.isLt).2.2.2.1 (outsAt0 m c t.val t.isLt).2.2.2.2
      ∧ (outsAt0 m c t.val t.isLt).2.1 = ge (outsAt0 m c t.val t.isLt).2.2.1 (outsAt0 m c t.val t.isLt).2.2.2.1 := by
  have h0 : ¬ t.val % 13 = 0 := by omega
  have h1 : ¬ t.val % 13 + 1 ≤ t.val / 13 % 13 := by omega
  rw [← coord1 t]
  by_cases h2 : t.val / 13 % 13 = t.val % 13
  · rw [outsAt0_G m c t h0 h1 h2 h3]
    dsimp only
    rw [sG_0, sG_1, sG_2]
    exact ⟨oG_4 _ _ _ _ _ _ _ _ _ _ _ _ _, oG_5 _ _ _ _ _ _ _ _ _ _ _ _ _⟩
  · rw [outsAt0_C m c t h0 h1 h2 h3]
    dsimp only
    unfold sout0_C_0 sout0_C_1 sout0_C_2
    exact ⟨oC_4 _ _ _ _ _ _ _ _ _ _ _ _ _, oC_5 _ _ _ _ _ _ _ _ _ _ _ _ _⟩

end Cert.Attn

end
-- ==== Proof.Attn.Result.lean ====
/- The two arrays the kernel writes, entry by entry: the weighted means and the logarithms of the weights' sums. -/
module

public import proofs.«01_k».proof.Proof.Attn.Walk
public import proofs.«01_k».proof.Proof.Gen.Kernel20Ideal.Value

@[expose] public section

noncomputable section

namespace Cert.Attn

open Finset Idealize.ShloMosaic Idealize.ShloMosaic.TcCoe Cert.Products Cert.Kernel20Ideal Cert.Kernel20Ideal.Gen

/-- A mean, by row and head and column of the head. -/
def mean (px pq pk : ℕ → ℕ → ℝ) (R h d : ℕ) : EReal := kept R ((wv px pq pk 8320 h R d / ws px pq pk 8320 h R : ℝ) : EReal)
/-- A logarithm of a row's weights' sum. -/
def level (px pq pk : ℕ → ℕ → ℝ) (h R : ℕ) : EReal := ((Real.log (ws px pq pk 8320 h R) / Real.log 2 : ℝ) : EReal)

variable {m : (ℓ : Loc nD τ Cert.Kernel20Ideal.sig) → Buf (Elt Ideal) ℓ} {c : Dev nD} {px pq pk : ℕ → ℕ → ℝ}

/-- At the last point of a block of rows the sums are over all the rows. -/
theorem full (H : Args (V m c main_arg0) (V m c main_arg1) (V m c main_arg2) px pq pk) (n : ℕ) (hn : n < cfg0.N) (hl : n % 13 = 12) (a : Fin 4) (r : Fin 640) (d : Fin 128) :
    Good (ws px pq pk 8320 (4 * (n / 169) + a.val) (640 * (n / 13 % 13) + r.val)) (wv px pq pk 8320 (4 * (n / 169) + a.val) (640 * (n / 13 % 13) + r.val) d.val)
      ((outsAt0 m c n hn).2.2.1 (ix3 a r 0) : EReal) ((outsAt0 m c n hn).2.2.2.1 (ix3 a r 0) : EReal) ((outsAt0 m c n hn).2.2.2.2 (ix2 r (cl a d)) : EReal) := by
  have h := done H n hn a r d
  have hr := r.isLt
  rw [ws_all _ _ _ _ _ _ (by omega) (by omega), wv_all _ _ _ _ _ _ _ (by omega) (by omega)] at h
  exact h

theorem block4 (H : Args (V m c main_arg0) (V m c main_arg1) (V m c main_arg2) px pq pk) (n : ℕ) (hn : n < cfg0.N) (hl : n % 13 = 12) (a : Fin 4) (r : Fin 640) (d : Fin 128) :
    ((outsAt0 m c n hn).1 (ix2 r (cl a d)) : EReal) = mean px pq pk (640 * (n / 13 % 13) + r.val) (4 * (n / 169) + a.val) d.val := by
  refine (congrFun (written ⟨n, hn⟩ hl).1 _).trans ?_
  exact out_mean (n / 13 % 13) (by omega) _ _ _ a r d (ws_pos _ _ _ _ _ _ (by norm_num)) (full H n hn hl a r d)

theorem block5 (H : Args (V m c main_arg0) (V m c main_arg1) (V m c main_arg2) px pq pk) (n : ℕ) (hn : n < cfg0.N) (hl : n % 13 = 12) (a : Fin 4) (r : Fin 640) :
    ((outsAt0 m c n hn).2.1 (ix3 a r 0) : EReal) = level px pq pk (4 * (n / 169) + a.val) (640 * (n / 13 % 13) + r.val) := by
  refine (congrFun (written ⟨n, hn⟩ hl).2 _).trans ?_
  exact out_level _ _ a r (ws_pos _ _ _ _ _ _ (by norm_num)) (full H n hn hl a r 0)

/-- The first array. -/
theorem result4 (H : Args (V m c main_arg0) (V m c main_arg1) (V m c main_arg2) px pq pk) (i : S8320x1024.Idx) :
    (Value.G4 m c : S8320x1024.Idx → EReal) i = mean px pq pk (i 0).val ((i 1).val / 128) ((i 1).val % 128) := by
  have h0 : (i 0).val < 8320 := (i 0).isLt
  have h1 : (i 1).val < 1024 := (i 1).isLt
  have hp : Value.pt4Of i = 13 * (1 * ((i 0).val / 640 - 0) + 13 * ((i 1).val / 512 - 0)) + 12 := rfl
  have hb : Value.pt4Of i < cfg0.N := by rw [hp, show cfg0.N = 338 from N_0]; omega
  have e0 : 640 * (Value.pt4Of i / 13 % 13) + (i 0).val % 640 = (i 0).val := by rw [hp]; omega
  have e1 : 4 * (Value.pt4Of i / 169) + (i 1).val % 512 / 128 = (i 1).val / 128 := by rw [hp]; omega
  have e2 : (i 1).val % 512 % 128 = (i 1).val % 128 := by omega
  have el : Value.loc4Of i = ix2 (⟨(i 0).val % 640, Nat.mod_lt _ (by norm_num)⟩ : Fin 640)
      (cl (⟨(i 1).val % 512 / 128, by omega⟩ : Fin 4) (⟨(i 1).val % 512 % 128, Nat.mod_lt _ (by norm_num)⟩ : Fin 128)) :=
    at2 rfl (show (i 1).val % 512 = 128 * ((i 1).val % 512 / 128) + (i 1).val % 512 % 128 by omega)
  unfold Value.G4
  rw [dif_pos hb, ← Value.outsAt0_sweep m c _ hb, el]
  refine (block4 H _ hb (by rw [hp]; omega) _ _ _).trans ?_
  dsimp only
  rw [e0, e1, e2]

/-- The second array. -/
theorem result5 (H : Args (V m c main_arg0) (V m c main_arg1) (V m c main_arg2) px pq pk) (i : S8x8320x1.Idx) :
    (Value.G5 m c : S8x8320x1.Idx → EReal) i = level px pq pk (i 0).val (i 1).val := by
  have h0 : (i 0).val < 8 := (i 0).isLt
  have h1 : (i 1).val < 8320 := (i 1).isLt
  have h2 : (i 2).val < 1 := (i 2).isLt
  have hp : Value.pt5Of i = 13 * (13 * ((i 0).val / 4 - 0) + 1 * ((i 1).val / 640 - 0) + 1 * ((i 2).val / 1 - 0)) + 12 := rfl
  have hb : Value.pt5Of i < cfg0.N := by rw [hp, show cfg0.N = 338 from N_0]; omega
  have e0 : 640 * (Value.pt5Of i / 13 % 13) + (i 1).val % 640 = (i 1).val := by rw [hp]; omega
  have e1 : 4 * (Value.pt5Of i / 169) + (i 0).val % 4 = (i 0).val := by rw [hp]; omega
  have el : Value.loc5Of i = ix3 (⟨(i 0).val % 4, Nat.mod_lt _ (by norm_num)⟩ : Fin 4) (⟨(i 1).val % 640, Nat.mod_lt _ (by norm_num)⟩ : Fin 640) 0 :=
    at3 rfl rfl (show (i 2).val % 1 = 0 by omega)
  unfold Value.G5
  rw [dif_pos hb, ← Value.outsAt0_sweep m c _ hb, el]
  refine (block5 H _ hb (by rw [hp]; omega) _ _).trans ?_
  dsimp only
  rw [e0, e1]

end Cert.Attn

end
-- ==== Proof.Attn.Ref.lean ====
/- The reference's two arrays, entry by entry. -/
module

public import proofs.«01_k».proof.Proof.Attn.Result
public import proofs.«01_k».proof.Proof.Products.Sums
public import proofs.«01_k».proof.Proof.Gen.Reference20Ideal.Read

@[expose] public section

noncomputable section

namespace Cert.Attn.Ref

open Finset Idealize.ShloMosaic Idealize.ShloMosaic.TcCoe Cert.Products Cert.Reference20Ideal Cert.Reference20Ideal.Gen Cert.Reference20Ideal.Read

theorem at3 {a b c : ℕ} {i : (⟨3, ![a, b, c]⟩ : Shape).Idx} {x : Fin a} {y : Fin b} {z : Fin c} (h0 : (i 0).val = x.val) (h1 : (i 1).val = y.val) (h2 : (i 2).val = z.val) : i = ix3 x y z := by
  funext q
  fin_cases q
  · exact Fin.ext h0
  · exact Fin.ext h1
  · exact Fin.ext h2

theorem two (p : ℕ → ℕ → ℝ) {a b x y : ℕ} (h : a = x) (k : b = y) : ((p a b : ℝ) : EReal) = ((p x y : ℝ) : EReal) := by rw [h, k]

theorem least : Ideal.ofBits FTy.f32 0xFF800000#32 = (⊥ : EReal) := by
  simp [Ideal.ofBits, Ideal.ieee]
theorem width_bits : Ideal.ofBits FTy.f32 0x43000000#32 = ((128 : ℝ) : EReal) := by
  simp [Ideal.ofBits, Ideal.ieee, -EReal.coe_mul]
  norm_num
theorem two_bits : Ideal.ofBits FTy.f32 0x40000000#32 = ((2 : ℝ) : EReal) := by
  simp [Ideal.ofBits, Ideal.ieee, -EReal.coe_mul]
  norm_num

variable {x0 : (⟨S8320x3072, .bf16⟩ : BufTy).Contents (Elt Ideal)} {x1 : (⟨S8x8320x1, .f32⟩ : BufTy).Contents (Elt Ideal)} {x2 : (⟨S8x1x8320, .f32⟩ : BufTy).Contents (Elt Ideal)}
  {px pq pk : ℕ → ℕ → ℝ}

section Reals

variable (H : Args x0 x1 x2 px pq pk)
include H

theorem v2 (R : Fin 8320) (h : Fin 8) (d : Fin 128) : (val_main_v2 (F := Ideal) x0 (ix3 R h d) : EReal) = ((px R.val (128 * h.val + d.val) : ℝ) : EReal) := by
  have := R.isLt; have := h.isLt; have := d.isLt
  refine ((val_main_v2_apply _ _).trans ((val_main_v1_apply _ _).trans (val_main_v0_apply _ _))).trans ((H.hX _).trans (two px ?_ ?_))
  · show ((R.val * 8 + h.val) * 128 + d.val) / 1024 = _
    omega
  · show ((R.val * 8 + h.val) * 128 + d.val) % 1024 = _
    omega

theorem v5 (R : Fin 8320) (h : Fin 8) (s : Fin 2) (d : Fin 128) (i : S8320x8x2x128.Idx) (e0 : (i 0).val = R.val) (e1 : (i 1).val = h.val) (e2 : (i 2).val = s.val) (e3 : (i 3).val = d.val) :
    (val_main_v5 (F := Ideal) x0 i : EReal) = ((px R.val (1024 + 256 * h.val + 128 * s.val + d.val) : ℝ) : EReal) := by
  have := R.isLt; have := h.isLt; have := d.isLt; have := s.isLt
  refine ((val_main_v5_apply _ _).trans ((val_main_v4_apply _ _).trans (val_main_v3_apply _ _))).trans ((H.hX _).trans (two px ?_ ?_))
  · show ((((i 0).val * 8 + (i 1).val) * 2 + (i 2).val) * 128 + (i 3).val) / 2048 = _
    omega
  · show 1024 + ((((i 0).val * 8 + (i 1).val) * 2 + (i 2).val) * 128 + (i 3).val) % 2048 = _
    omega

theorem v7 (R : Fin 8320) (h : Fin 8) (d : Fin 128) : (val_main_v7 (F := Ideal) x0 (ix3 R h d) : EReal) = ((px R.val (1024 + 256 * h.val + d.val) : ℝ) : EReal) := by
  have := R.isLt; have := h.isLt; have := d.isLt
  refine ((val_main_v7_apply _ _).trans (val_main_v6_apply _ _)).trans ((v5 H R h 0 d _ ?_ ?_ rfl ?_).trans (two px rfl ?_))
  · show ((R.val * 8 + h.val) * 128 + d.val) / 1024 = _
    omega
  · show ((R.val * 8 + h.val) * 128 + d.val) / 128 % 8 = _
    omega
  · show ((R.val * 8 + h.val) * 128 + d.val) % 128 = _
    omega
  · show 1024 + 256 * h.val + 128 * 0 + d.val = _
    omega

theorem v9 (R : Fin 8320) (h : Fin 8) (d : Fin 128) : (val_main_v9 (F := Ideal) x0 (ix3 R h d) : EReal) = ((vl px h.val R.val d.val : ℝ) : EReal) := by
  have := R.isLt; have := h.isLt; have := d.isLt
  refine ((val_main_v9_apply _ _).trans (val_main_v8_apply _ _)).trans ((v5 H R h 1 d _ ?_ ?_ rfl ?_).trans (two px rfl ?_))
  · show ((R.val * 8 + h.val) * 128 + d.val) / 1024 = _
    omega
  · show ((R.val * 8 + h.val) * 128 + d.val) / 128 % 8 = _
    omega
  · show ((R.val * 8 + h.val) * 128 + d.val) % 128 = _
    omega
  · show 1024 + 256 * h.val + 128 * 1 + d.val = _
    omega

/-- The logits. -/
theorem v17 (h : Fin 8) (R C : Fin 8320) : (val_main_v17 (F := Ideal) x0 x1 x2 (ix3 h R C) : EReal) = ((sc px pq pk h.val R.val C.val : ℝ) : EReal) := by
  have e10 : (val_main_v10 (F := Ideal) x0 (ix3 h R C) : EReal) = ((qk px h.val R.val C.val : ℝ) : EReal) := by
    refine (val_main_v10_apply _ _).trans ?_
    unfold qk
    rw [coe_sum]
    refine Finset.sum_congr rfl fun d _ => ?_
    rw [EReal.coe_mul]
    refine congrArg₂ (· * ·) ?_ ?_
    · exact (congrArg (val_main_v2 (F := Ideal) x0) (at3 rfl rfl rfl)).trans (v2 H R h d)
    · exact (congrArg (val_main_v7 (F := Ideal) x0) (at3 rfl rfl rfl)).trans (v7 H C h d)
  have e12 : (val_main_v12 (F := Ideal) (ix3 h R C) : EReal) = ((Real.sqrt 128 : ℝ) : EReal) := by
    refine (val_main_v12_apply _).trans ?_
    show Ideal.sqrt (Ideal.ofBits FTy.f32 0x43000000#32) = _
    rw [width_bits, Ideal.sqrt_coe, if_neg (by norm_num)]
  have e14 : (val_main_v14 (F := Ideal) x1 (ix3 h R C) : EReal) = ((pq h.val R.val : ℝ) : EReal) := (val_main_v14_apply _ _).trans (H.hQ _)
  have e16 : (val_main_v16 (F := Ideal) x2 (ix3 h R C) : EReal) = ((pk h.val C.val : ℝ) : EReal) := (val_main_v16_apply _ _).trans (H.hK _)
  show Ideal.div (val_main_v10 (F := Ideal) x0 (ix3 h R C) : EReal) (val_main_v12 (F := Ideal) (ix3 h R C)) + val_main_v14 (F := Ideal) x1 (ix3 h R C) - val_main_v16 (F := Ideal) x2 (ix3 h R C) = _
  rw [e10, e12, e14, e16, div_real _ _ (Real.sqrt_pos.2 (by norm_num)).ne', ← EReal.coe_add, ← EReal.coe_sub, div_eq_mul_inv]
  rfl

/-- The logits with the later rows masked. -/
theorem v24 (h : Fin 8) (R C : Fin 8320) : (val_main_v24 (F := Ideal) x0 x1 x2 (ix3 h R C) : EReal) = if C.val ≤ R.val then ((sc px pq pk h.val R.val C.val : ℝ) : EReal) else ⊥ := by
  have := R.isLt; have := C.isLt
  have eb : (val_main_call0_v2 (F := Ideal) (ix3 h R C) : EReal) = ⊥ := (val_main_call0_v2_apply _).trans least
  have ec : val_main_call0_v1 (F := Ideal) (ix3 h R C) = IntOp.cmpi .sle (BitVec.ofNat 32 C.val) (BitVec.ofNat 32 R.val) := by
    refine (val_main_call0_v1_apply _).trans ((val_main_v23_apply _).trans (congrArg₂ (IntOp.cmpi .sle) ?_ ?_))
    · exact (val_main_v21_apply _).trans ((val_main_v19_apply _).trans (val_main_v18_apply _))
    · exact (val_main_v22_apply _).trans ((val_main_v20_apply _).trans (val_main_v18_apply _))
  refine (val_main_v24_apply _ _ _ _).trans ?_
  rw [ec, eb, v17 H h R C]
  unfold Scalar.select
  exact if_congr (WordCmp.cmpi_sle_ofNat_eq_one_iff (by omega) (by omega)) rfl rfl

end Reals

/-- The largest logit of a row. -/
theorem v25 (h : Fin 8) (R : Fin 8320) : (val_main_v25 (F := Ideal) x0 x1 x2 (ix2 h R) : EReal)
    = Finset.univ.sup fun C : Fin 8320 => (val_main_v24 (F := Ideal) x0 x1 x2 (ix3 h R C) : EReal) := by
  unfold val_main_v25
  generalize val_main_v24 (F := Ideal) x0 x1 x2 = y
  refine (Host.reduce_eq_fold_single (FloatOps.maximumf (F := Ideal) (φ := .f32)) y (val_main_cst_1 (F := Ideal)) reducesTo_S8x8320x8320_S8x8320_d2 (by decide) h_S_ (ix2 h R)).trans ?_
  show Finset.univ.fold max (Ideal.ofBits FTy.f32 0xFF800000#32) _ = _
  rw [least]
  refine congrArg (Finset.fold max ⊥ · Finset.univ) (funext fun C => congrArg y ?_)
  refine at3 (y := R) ?_ ?_ ?_
  · rfl
  · rfl
  · rfl

/-- The weight with which the largest logit is taken off. -/
theorem v29 (h : Fin 8) (R C : Fin 8320) : (val_main_v29 (F := Ideal) x0 x1 x2 (ix3 h R C) : EReal)
    = Ideal.exp ((val_main_v24 (F := Ideal) x0 x1 x2 (ix3 h R C) : EReal) - Finset.univ.sup fun C : Fin 8320 => (val_main_v24 (F := Ideal) x0 x1 x2 (ix3 h R C) : EReal)) := by
  have e : (val_main_v27 (F := Ideal) x0 x1 x2 (ix3 h R C) : EReal) = _ :=
    (val_main_v27_apply _ _ _ _).trans ((val_main_v26_apply _ _ _ _).trans ((congrArg (val_main_v25 (F := Ideal) x0 x1 x2) (at2 rfl rfl)).trans (v25 h R)))
  show Ideal.exp ((val_main_v24 (F := Ideal) x0 x1 x2 (ix3 h R C) : EReal) - val_main_v27 (F := Ideal) x0 x1 x2 (ix3 h R C)) = _
  rw [e]

/-- The sum of a row's weights. -/
theorem v30 (h : Fin 8) (R : Fin 8320) : (val_main_v30 (F := Ideal) x0 x1 x2 (ix2 h R) : EReal)
    = ∑ C : Fin 8320, Ideal.exp ((val_main_v24 (F := Ideal) x0 x1 x2 (ix3 h R C) : EReal) - Finset.univ.sup fun C : Fin 8320 => (val_main_v24 (F := Ideal) x0 x1 x2 (ix3 h R C) : EReal)) := by
  refine (val_main_v30_apply _ _ _ _).trans ?_
  have e0 : (val_main_cst_2 (F := Ideal) (Shape.Idx.first h_S_) : EReal) = 0 := by
    show Ideal.ofBits FTy.f32 0x00000000#32 = 0
    simp [Ideal.ofBits, Ideal.ieee]
  refine (congrArg (· + _) e0).trans ((zero_add _).trans (Finset.sum_congr rfl fun C _ => ?_))
  exact (congrArg (val_main_v29 (F := Ideal) x0 x1 x2) (at3 rfl rfl rfl)).trans (v29 h R C)

/-- A weight divided by their sum. -/
theorem v35 (h : Fin 8) (R C : Fin 8320) : (val_main_v35 (F := Ideal) x0 x1 x2 (ix3 h R C) : EReal)
    = Ideal.div (Ideal.exp ((val_main_v24 (F := Ideal) x0 x1 x2 (ix3 h R C) : EReal) - Finset.univ.sup fun C : Fin 8320 => (val_main_v24 (F := Ideal) x0 x1 x2 (ix3 h R C) : EReal)))
      (∑ C : Fin 8320, Ideal.exp ((val_main_v24 (F := Ideal) x0 x1 x2 (ix3 h R C) : EReal) - Finset.univ.sup fun C : Fin 8320 => (val_main_v24 (F := Ideal) x0 x1 x2 (ix3 h R C) : EReal))) := by
  have e : (val_main_v32 (F := Ideal) x0 x1 x2 (ix3 h R C) : EReal) = _ :=
    (val_main_v32_apply _ _ _ _).trans ((val_main_v31_apply _ _ _ _).trans ((congrArg (val_main_v30 (F := Ideal) x0 x1 x2) (at2 rfl rfl)).trans (v30 h R)))
  refine ((val_main_v35_apply _ _ _ _).trans ((val_main_v34_apply _ _ _ _).trans (val_main_v33_apply _ _ _ _))).trans ?_
  exact congrArg₂ Ideal.div (v29 h R C) e

section Reals

variable (H : Args x0 x1 x2 px pq pk)
include H

/-- A row's two figures. -/
theorem row (h : Fin 8) (R : Fin 8320) (d : Fin 128) :
    (∑ C : Fin 8320, (val_main_v35 (F := Ideal) x0 x1 x2 (ix3 h R C) : EReal) * ((vl px h.val C.val d.val : ℝ) : EReal)
        = ((wv px pq pk 8320 h.val R.val d.val / ws px pq pk 8320 h.val R.val : ℝ) : EReal))
      ∧ Ideal.div ((val_main_v25 (F := Ideal) x0 x1 x2 (ix2 h R) : EReal) + Ideal.log (val_main_v30 (F := Ideal) x0 x1 x2 (ix2 h R) : EReal)) ((Real.log 2 : ℝ) : EReal)
        = level px pq pk h.val R.val := by
  have es : ∑ C : Fin 8320, wt px pq pk h.val R.val C.val = ws px pq pk 8320 h.val R.val := Fin.sum_univ_eq_sum_range (fun C => wt px pq pk h.val R.val C) 8320
  have ev : ∑ C : Fin 8320, wt px pq pk h.val R.val C.val * vl px h.val C.val d.val = wv px pq pk 8320 h.val R.val d.val :=
    Fin.sum_univ_eq_sum_range (fun C => wt px pq pk h.val R.val C * vl px h.val C d.val) 8320
  have hp := plain (fun C : Fin 8320 => (val_main_v24 (F := Ideal) x0 x1 x2 (ix3 h R C) : EReal)) (fun C => sc px pq pk h.val R.val C.val)
    (fun C => wt px pq pk h.val R.val C.val) (fun C => vl px h.val C.val d.val) (fun C => by
      rw [v24 H h R C]
      unfold wt
      by_cases hc : C.val ≤ R.val
      · exact Or.inr ⟨if_pos hc, if_pos hc⟩
      · exact Or.inl ⟨if_neg hc, if_neg hc⟩) (0 : Fin 8320) ((v24 H h R 0).trans (if_pos (Nat.zero_le _))) (by rw [es]; exact ws_pos _ _ _ _ _ _ (by norm_num))
  rw [es, ev] at hp
  rw [v25, v30]
  refine ⟨(Finset.sum_congr rfl fun C _ => ?_).trans hp.1, hp.2⟩
  rw [v35]

/-- The reference's first array. -/
theorem first (i : S8320x1024.Idx) : (val_main_v43 (F := Ideal) x0 x1 x2 i : EReal) = mean px pq pk (i 0).val ((i 1).val / 128) ((i 1).val % 128) := by
  have h0 : (i 0).val < 8320 := (i 0).isLt
  have h1 : (i 1).val < 1024 := (i 1).isLt
  have ec : val_main_call1_v1 (F := Ideal) i = IntOp.cmpi .sge (BitVec.ofNat 32 (i 0).val) 112#32 :=
    (val_main_call1_v1_apply _).trans ((val_main_v41_apply _).trans (congrArg₂ (IntOp.cmpi .sge)
      ((val_main_v39_apply _).trans (val_main_v18_apply _)) (val_main_v40_apply _)))
  have ez : (val_main_call1_v2 (F := Ideal) i : EReal) = 0 := by
    refine (val_main_call1_v2_apply _).trans ?_
    show Ideal.ofBits FTy.f32 0x00000000#32 = 0
    simp [Ideal.ofBits, Ideal.ieee]
  have eo : (val_main_v38 (F := Ideal) x0 x1 x2 i : EReal) = ((wv px pq pk 8320 ((i 1).val / 128) (i 0).val ((i 1).val % 128) / ws px pq pk 8320 ((i 1).val / 128) (i 0).val : ℝ) : EReal) := by
    refine ((val_main_v38_apply _ _ _ _).trans ((val_main_v37_apply _ _ _ _).trans (val_main_v36_apply _ _ _ _))).trans ?_
    refine (Finset.sum_congr rfl fun C _ => ?_).trans (row H ⟨(i 1).val / 128, by omega⟩ ⟨(i 0).val, h0⟩ ⟨(i 1).val % 128, Nat.mod_lt _ (by norm_num)⟩).1
    rw [mul_comm]
    refine congrArg₂ (· * ·) (congrArg (val_main_v35 (F := Ideal) x0 x1 x2) (at3 ?_ ?_ rfl)) ((congrArg (val_main_v9 (F := Ideal) x0) (at3 rfl ?_ ?_)).trans (v9 H C ⟨(i 1).val / 128, by omega⟩ ⟨(i 1).val % 128, Nat.mod_lt _ (by norm_num)⟩))
    · show ((i 0).val * 1024 + (i 1).val) / 128 % 8 = (i 1).val / 128
      omega
    · show ((i 0).val * 1024 + (i 1).val) / 1024 = (i 0).val
      omega
    · show ((i 0).val * 1024 + (i 1).val) / 128 % 8 = (i 1).val / 128
      omega
    · show ((i 0).val * 1024 + (i 1).val) % 128 = (i 1).val % 128
      omega
  show (Scalar.select (val_main_call1_v1 (F := Ideal) i) (val_main_v38 (F := Ideal) x0 x1 x2 i) (val_main_call1_v2 (F := Ideal) i) : EReal) = _
  rw [ec, ez, eo]
  exact select_kept _ (by omega) _

/-- The reference's second array. -/
theorem second_at (h : Fin 8) (R : Fin 8320) (i : S8x8320x1.Idx) (h0 : (i 0).val = h.val) (h1 : (i 1).val = R.val) :
    (val_main_v48 (F := Ideal) x0 x1 x2 i : EReal) = level px pq pk h.val R.val := by
  have e26 : (val_main_v26 (F := Ideal) x0 x1 x2 i : EReal) = val_main_v25 (F := Ideal) x0 x1 x2 (ix2 h R) :=
    (val_main_v26_apply _ _ _ _).trans (congrArg (val_main_v25 (F := Ideal) x0 x1 x2) (at2 h0 h1))
  have e31 : (val_main_v31 (F := Ideal) x0 x1 x2 i : EReal) = val_main_v30 (F := Ideal) x0 x1 x2 (ix2 h R) :=
    (val_main_v31_apply _ _ _ _).trans (congrArg (val_main_v30 (F := Ideal) x0 x1 x2) (at2 h0 h1))
  have e44 : (val_main_v44 (F := Ideal) x0 x1 x2 i : EReal) = Ideal.log (val_main_v30 (F := Ideal) x0 x1 x2 (ix2 h R) : EReal) := by
    rw [← e31, val_main_v44_apply, Ideal.hostUnary_log_def]
  have e47 : (val_main_v47 (F := Ideal) i : EReal) = ((Real.log 2 : ℝ) : EReal) := by
    refine (val_main_v47_apply _).trans ?_
    show Ideal.log (Ideal.ofBits FTy.f32 0x40000000#32) = _
    rw [two_bits, log_real _ (by norm_num)]
  have e45 : (val_main_v45 (F := Ideal) x0 x1 x2 i : EReal) = (val_main_v25 (F := Ideal) x0 x1 x2 (ix2 h R) : EReal) + Ideal.log (val_main_v30 (F := Ideal) x0 x1 x2 (ix2 h R) : EReal) := by
    rw [← e26, ← e44]
    exact val_main_v45_apply _ _ _ _
  exact (val_main_v48_apply _ _ _ _).trans ((congrArg₂ Ideal.div e45 e47).trans (row H h R 0).2)

theorem second (i : S8x8320x1.Idx) : (val_main_v48 (F := Ideal) x0 x1 x2 i : EReal) = level px pq pk (i 0).val (i 1).val :=
  second_at H ⟨(i 0).val, (i 0).isLt⟩ ⟨(i 1).val, (i 1).isLt⟩ i rfl rfl

end Reals

end Cert.Attn.Ref

end
-- ==== Proof.Gla.Finite.lean ====
/- Arrays that the precondition calls finite hold reals. -/
module

public import proofs.«01_k».proof.Proof.Gla.RefB
public import proofs.«01_k».proof.Pre_finite

@[expose] public section

noncomputable section

namespace Cert.Gla

open Idealize.ShloMosaic Cert.ReferenceIdeal

/-- An entry whose absolute value lies below the infinity is a real. -/
theorem real_of_below (x : Ideal .f32) (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  refine (EReal.coe_toReal (fun hx => ?_) (fun hx => ?_)).symm
  · rw [hx] at hlt
    simp at hlt
  · rw [hx] at hlt
    simp at hlt

/-- A matrix's entry as a real, by the numbers of its row and column. -/
def entryR {R C : ℕ} (x : (⟨2, ![R, C]⟩ : Shape).Idx → EReal) (r c : ℕ) : ℝ :=
  if h : r < R ∧ c < C then (x (ix2 ⟨r, h.1⟩ ⟨c, h.2⟩)).toReal else 0

theorem entryR_of {R C : ℕ} (x : (⟨2, ![R, C]⟩ : Shape).Idx → EReal) (r : Fin R) (c : Fin C) :
    entryR x r.val c.val = (x (ix2 r c)).toReal := by
  unfold entryR
  rw [dif_pos ⟨r.isLt, c.isLt⟩]

variable [Cert.Pre_finite.Facts]
variable {x0 : FVec Ideal S8320x13312 .f32} {x1 : FVec Ideal S8320x512 .f32} {x2 : FVec Ideal S1x1024 .f32}
  {x3 : FVec Ideal S8320x1024 .f32} {x4 : FVec Ideal S8320x16384 .bf16}

/-- The projection's columns and the log gates hold reals. -/
theorem args_of (h0 : (Cert.Pre_finite.fn (F := Ideal) x0 x1 x2 x3 x4).1 = fun _ => 1#1)
    (h1 : (Cert.Pre_finite.fn (F := Ideal) x0 x1 x2 x3 x4).2.1 = fun _ => 1#1) :
    Ref.Args x0 x1 (fun r c => entryR x0 r (3072 + c)) (entryR x1) where
  hX r c := by
    have hc := c.isLt
    have e := real_of_below (x0 (ix2 r ⟨3072 + c.val, by omega⟩)) ?_
    · exact e.trans (congrArg _ (entryR_of x0 r ⟨3072 + c.val, by omega⟩).symm)
    · refine Eq.trans ?_ (congrFun h0 (ix2 r c))
      show FloatOps.cmpf .olt (FloatOps.hostAbsf (x0 _)) _ = FloatOps.cmpf .olt (FloatOps.hostAbsf (x0 _)) _
      refine congrArg (fun i => FloatOps.cmpf .olt (FloatOps.hostAbsf (x0 i)) (FloatOps.ofBits (F := Ideal) .f32 0x7F800000#32)) ?_
      exact (Ref.at2 (Nat.zero_add r.val) rfl).symm
  hL r c := (real_of_below (x1 (ix2 r c)) (congrFun h1 (ix2 r c))).trans (congrArg _ (entryR_of x1 r c).symm)

/-- The norm's weights and the gradient handed in hold reals. -/
theorem rest_of (h2 : (Cert.Pre_finite.fn (F := Ideal) x0 x1 x2 x3 x4).2.2.1 = fun _ => 1#1)
    (h3 : (Cert.Pre_finite.fn (F := Ideal) x0 x1 x2 x3 x4).2.2.2 = fun _ => 1#1) :
    Ref.Rest x2 x3 (entryR x2 0) (entryR x3) where
  hN c := (real_of_below (x2 (ix2 0 c)) (congrFun h2 (ix2 0 c))).trans (congrArg _ (entryR_of x2 0 c).symm)
  hZ r c := (real_of_below (x3 (ix2 r c)) (congrFun h3 (ix2 r c))).trans (congrArg _ (entryR_of x3 r c).symm)

end Cert.Gla

end
-- ==== Proof.Attn.Finite.lean ====
/- Arrays that the precondition calls finite hold reals, and then the two pairs of arrays agree. -/
module

public import proofs.«01_k».proof.Proof.Attn.Ref
public import proofs.«01_k».proof.Proof.Gla.Finite
public import proofs.«01_k».proof.Pre_finite20

@[expose] public section

noncomputable section

namespace Cert.Attn

open Idealize.ShloMosaic Cert.Reference20Ideal Cert.Reference20Ideal.Read
open Cert.Gla (entryR real_of_below)

/-- A narrow entry whose absolute value lies below the infinity is a real. -/
theorem real_of_below_narrow (x : Ideal .bf16) (h : FloatOps.cmpf .olt (FloatOps.hostAbsf x) (FloatOps.ofBits (F := Ideal) .bf16 0x7F80#16) = 1#1) :
    (x : EReal) = ((EReal.toReal x : ℝ) : EReal) := by
  have htop : Ideal.ofBits .bf16 0x7F80#16 = ⊤ := by simp [Ideal.ofBits, Ideal.ieee]
  change Ideal.cmp .olt (max (x : EReal) (-(x : EReal))) (Ideal.ofBits .bf16 0x7F80#16) = 1#1 at h
  rw [htop] at h
  unfold Ideal.cmp at h
  have hlt : max (x : EReal) (-(x : EReal)) < ⊤ := by
    by_contra hn
    simp [hn] at h
  refine (EReal.coe_toReal (fun hx => ?_) (fun hx => ?_)).symm
  · rw [hx] at hlt
    simp at hlt
  · rw [hx] at hlt
    simp at hlt

/-- An entry of a stack of columns as a real. -/
def stackQ (x : (⟨3, ![8, 8320, 1]⟩ : Shape).Idx → EReal) (h r : ℕ) : ℝ :=
  if e : h < 8 ∧ r < 8320 then (x (ix3 ⟨h, e.1⟩ ⟨r, e.2⟩ 0)).toReal else 0
/-- An entry of a stack of rows as a real. -/
def stackK (x : (⟨3, ![8, 1, 8320]⟩ : Shape).Idx → EReal) (h r : ℕ) : ℝ :=
  if e : h < 8 ∧ r < 8320 then (x (ix3 ⟨h, e.1⟩ 0 ⟨r, e.2⟩)).toReal else 0

variable [Cert.Pre_finite20.Facts]
variable {x0 : FVec Ideal S8320x3072 .bf16} {x1 : FVec Ideal S8x8320x1 .f32} {x2 : FVec Ideal S8x1x8320 .f32}

/-- The projection and the two shifts hold reals. -/
theorem args_of (h0 : (Cert.Pre_finite20.fn (F := Ideal) x0 x1 x2).1 = fun _ => 1#1)
    (h1 : (Cert.Pre_finite20.fn (F := Ideal) x0 x1 x2).2.1 = fun _ => 1#1)
    (h2 : (Cert.Pre_finite20.fn (F := Ideal) x0 x1 x2).2.2 = fun _ => 1#1) :
    Args x0 x1 x2 (entryR x0) (stackQ x1) (stackK x2) where
  hX i := by
    refine (real_of_below_narrow (x0 i) (congrFun h0 i)).trans (congrArg _ ?_)
    have e := Cert.Gla.entryR_of x0 (i 0) (i 1)
    exact (congrArg (fun j => (x0 j).toReal) (Cert.Products.at2 rfl rfl)).trans e.symm
  hQ i := by
    have e0 : (i 0).val < 8 := (i 0).isLt
    have e1 : (i 1).val < 8320 := (i 1).isLt
    have e2 : (i 2).val < 1 := (i 2).isLt
    refine (real_of_below (x1 i) (congrFun h1 i)).trans (congrArg _ ?_)
    unfold stackQ
    rw [dif_pos ⟨e0, e1⟩]
    exact congrArg (fun j => (x1 j).toReal) (Ref.at3 rfl rfl (show (i 2).val = 0 by omega))
  hK i := by
    have e0 : (i 0).val < 8 := (i 0).isLt
    have e1 : (i 1).val < 1 := (i 1).isLt
    have e2 : (i 2).val < 8320 := (i 2).isLt
    refine (real_of_below (x2 i) (congrFun h2 i)).trans (congrArg _ ?_)
    unfold stackK
    rw [dif_pos ⟨e0, e2⟩]
    exact congrArg (fun j => (x2 j).toReal) (Ref.at3 rfl (show (i 1).val = 0 by omega) rfl)

end Cert.Attn

end
-- ==== Proof.AttnB.Model.lean ====
/- The gradient of the attention over the reals, as sums over pairs of rows. -/
module

public import proofs.«01_k».proof.Proof.Attn.Model

@[expose] public section

noncomputable section

namespace Cert.AttnB

open Finset Idealize.ShloMosaic Cert.Attn

variable (px pq pk pd : ℕ → ℕ → ℝ)

/-- The gradient handed in, on the rows that are not padding. -/
def go (R k : ℕ) : ℝ := if 112 ≤ R then pd R k else 0
/-- The weight with which a row reads an earlier one. -/
def pr (h R C : ℕ) : ℝ := wt px pq pk h R C / ws px pq pk 8320 h R
/-- What the forward pass wrote. -/
def om (h R d : ℕ) : ℝ := if 112 ≤ R then wv px pq pk 8320 h R d / ws px pq pk 8320 h R else 0
/-- The gradient of a weight. -/
def dp (h R C : ℕ) : ℝ := ∑ d : Fin 128, go pd R (128 * h + d.val) * vl px h C d.val
/-- The mean of a row's gradients of weights. -/
def dl (h R : ℕ) : ℝ := ∑ d : Fin 128, go pd R (128 * h + d.val) * om px pq pk h R d.val
/-- The gradient of a logit. -/
def ds (h R C : ℕ) : ℝ := pr px pq pk h R C * (dp px pd h R C - dl px pq pk pd h R)

/-- The gradient of a key before the scale, over the first rows. -/
def sk (n h C d : ℕ) : ℝ := ∑ R ∈ range n, ds px pq pk pd h R C * px R (128 * h + d)
/-- The gradient of a value, over the first rows. -/
def sv (n h C d : ℕ) : ℝ := ∑ R ∈ range n, pr px pq pk h R C * go pd R (128 * h + d)
/-- The gradient of a query before the scale, over the first rows. -/
def sq (n h R d : ℕ) : ℝ := ∑ C ∈ range n, ds px pq pk pd h R C * px C (1024 + 256 * h + d)
/-- A row's sum of gradients. -/
def sr (n h R : ℕ) : ℝ := ∑ C ∈ range n, ds px pq pk pd h R C
/-- A column's sum of gradients. -/
def su (n h C : ℕ) : ℝ := ∑ R ∈ range n, ds px pq pk pd h R C

theorem pr_later (h R C : ℕ) (hC : R < C) : pr px pq pk h R C = 0 := by
  unfold pr
  rw [wt_later _ _ _ _ _ _ hC, zero_div]
theorem ds_later (h R C : ℕ) (hC : R < C) : ds px pq pk pd h R C = 0 := by
  unfold ds
  rw [pr_later _ _ _ _ _ _ hC, zero_mul]

/-- A row's weight from the logarithms to the base two. -/
theorem pr_two (h R C : ℕ) : (if C ≤ R then Real.exp (((qk px h R C * ((Real.log 2)⁻¹ * (Real.sqrt 128)⁻¹) - pk h C * (Real.log 2)⁻¹)
      + (pq h R * (Real.log 2)⁻¹ - Real.log (ws px pq pk 8320 h R) / Real.log 2)) * Real.log 2) else 0) = pr px pq pk h R C := by
  unfold pr wt
  split
  · have h2 : Real.log 2 ≠ 0 := (Real.log_pos (by norm_num)).ne'
    have hp := ws_pos px pq pk 8320 h R (by norm_num)
    rw [show ((qk px h R C * ((Real.log 2)⁻¹ * (Real.sqrt 128)⁻¹) - pk h C * (Real.log 2)⁻¹)
      + (pq h R * (Real.log 2)⁻¹ - Real.log (ws px pq pk 8320 h R) / Real.log 2)) * Real.log 2 = sc px pq pk h R C - Real.log (ws px pq pk 8320 h R) from by
        rw [sc_two, ← add_sub_assoc, sub_mul _ (Real.log _ / _), div_mul_cancel₀ _ h2], Real.exp_sub, Real.exp_log hp]
  · rw [zero_div]

/-- The mean of the gradients of a row's weights, weighted by them. -/
theorem dl_mean (h R : ℕ) : ∑ C : Fin 8320, pr px pq pk h R C.val * dp px pd h R C.val = dl px pq pk pd h R := by
  unfold dp dl
  simp only [Finset.mul_sum]
  rw [Finset.sum_comm]
  refine Finset.sum_congr rfl fun d _ => ?_
  unfold go om
  split
  · rw [div_eq_mul_inv, show wv px pq pk 8320 h R d.val = ∑ C : Fin 8320, wt px pq pk h R C.val * vl px h C.val d.val from
      (Fin.sum_univ_eq_sum_range (fun C => wt px pq pk h R C * vl px h C d.val) 8320).symm, Finset.sum_mul, Finset.mul_sum]
    refine Finset.sum_congr rfl fun C _ => ?_
    unfold pr
    ring
  · simp

end Cert.AttnB

end
-- ==== Proof.AttnB.RefA.lean ====
/- The weights of the reference's softmax. -/
module

public import proofs.«01_k».proof.Proof.AttnB.Model
public import proofs.«01_k».proof.Proof.Attn.Ref
public import proofs.«01_k».proof.Proof.Gen.Reference21Ideal.Read

@[expose] public section

noncomputable section

namespace Cert.AttnB.Ref

open Finset Idealize.ShloMosaic Idealize.ShloMosaic.TcCoe Cert.Products Cert.Reference21Ideal Cert.Reference21Ideal.Gen Cert.Reference21Ideal.Read
open Cert.Attn (Args sc wt ws wv vl qk ws_pos coe_sum sup_real div_real)
open Cert.Attn.Ref (at3 two least width_bits)

theorem zero_bits : Ideal.ofBits FTy.f32 0x00000000#32 = (0 : EReal) := by
  simp [Ideal.ofBits, Ideal.ieee]
theorem zero_narrow : Ideal.ofBits FTy.bf16 0x0000#16 = (0 : EReal) := by
  simp [Ideal.ofBits, Ideal.ieee]
theorem one_bits : Ideal.ofBits FTy.f32 0x3F800000#32 = ((1 : ℝ) : EReal) := by
  simp [Ideal.ofBits, Ideal.ieee, -EReal.coe_mul]
  norm_num

section Words

variable {a b : Ideal .f32} {x y : EReal}

theorem sub2 (ha : (a : EReal) = x) (hb : (b : EReal) = y) : (FloatOps.subf a b : EReal) = x - y := congrArg₂ (fun u v : EReal => u - v) ha hb
theorem add2 (ha : (a : EReal) = x) (hb : (b : EReal) = y) : (FloatOps.addf a b : EReal) = x + y := congrArg₂ (fun u v : EReal => u + v) ha hb
theorem mul2 (ha : (a : EReal) = x) (hb : (b : EReal) = y) : (FloatOps.mulf a b : EReal) = x * y := congrArg₂ (fun u v : EReal => u * v) ha hb
theorem max2 (ha : (a : EReal) = x) (hb : (b : EReal) = y) : (FloatOps.maximumf a b : EReal) = max x y := congrArg₂ (fun u v : EReal => max u v) ha hb
theorem div2 (ha : (a : EReal) = x) (hb : (b : EReal) = y) : (FloatOps.hostDivf a b : EReal) = Ideal.div x y := congrArg₂ Ideal.div ha hb
theorem neg1 (ha : (a : EReal) = x) : (FloatOps.hostNegf a : EReal) = -x := congrArg (fun u : EReal => -u) ha
theorem exp1 (ha : (a : EReal) = x) : (FloatOps.hostUnary .exp a : EReal) = Ideal.exp x := by
  subst ha
  rfl
theorem cast2 (ha : (a : EReal) = x) (h h') : (FloatOps.extf (φ := .bf16) .f32 h (FloatOps.truncf .bf16 h' a) : EReal) = x := ha
theorem pick {w w' : BitVec 1} (hw : w = w') (ha : (a : EReal) = x) (hb : (b : EReal) = y) : (Scalar.select w a b : EReal) = Scalar.select w' x y := by
  subst hw ha hb
  rfl

end Words

variable {x0 : (⟨S8320x3072, .bf16⟩ : BufTy).Contents (Elt Ideal)} {x1 : (⟨S8x8320x1, .f32⟩ : BufTy).Contents (Elt Ideal)} {x2 : (⟨S8x1x8320, .f32⟩ : BufTy).Contents (Elt Ideal)}
  {x3 : (⟨S8320x1024, .bf16⟩ : BufTy).Contents (Elt Ideal)} {px pq pk pd : ℕ → ℕ → ℝ}

/-- The gradient handed in holds reals. -/
def Given (x3 : (⟨S8320x1024, .bf16⟩ : BufTy).Contents (Elt Ideal)) (pd : ℕ → ℕ → ℝ) : Prop := ∀ i : S8320x1024.Idx, (x3 i : EReal) = ((pd (i 0).val (i 1).val : ℝ) : EReal)

section Reals

variable (H : Args x0 x1 x2 px pq pk)
include H

/-- A row's weights and their sum, up to a common factor. -/
theorem weight (h : Fin 8) (R : Fin 8320) : ∃ K : ℝ, 0 < K
    ∧ (∀ C : Fin 8320, (val_main_v45 (F := Ideal) x0 x1 x2 (ix3 h R C) : EReal) = ((K * wt px pq pk h.val R.val C.val : ℝ) : EReal))
    ∧ (val_main_v46 (F := Ideal) x0 x1 x2 (ix2 h R) : EReal) = ((K * ws px pq pk 8320 h.val R.val : ℝ) : EReal) := by
  have e24 (C : Fin 8320) : (val_main_v24_0 (F := Ideal) x0 x1 x2 (ix3 h R C) : EReal) = if C.val ≤ R.val then ((sc px pq pk h.val R.val C.val : ℝ) : EReal) else ⊥ :=
    Cert.Attn.Ref.v24 H h R C
  obtain ⟨M, hM⟩ := sup_real (fun C : Fin 8320 => (Cert.Reference20Ideal.Read.val_main_v24 (F := Ideal) x0 x1 x2 (ix3 h R C) : EReal)) (fun C => sc px pq pk h.val R.val C.val)
    (fun C => by
      rw [Cert.Attn.Ref.v24 H h R C]
      by_cases hc : C.val ≤ R.val
      · exact Or.inr (if_pos hc)
      · exact Or.inl (if_neg hc)) (0 : Fin 8320) ((Cert.Attn.Ref.v24 H h R 0).trans (if_pos (Nat.zero_le _)))
  have e25 : (val_main_v25 (F := Ideal) x0 x1 x2 (ix2 h R) : EReal) = (M : EReal) := (Cert.Attn.Ref.v25 h R).trans hM
  have e31 : (val_main_v31 (F := Ideal) (ix2 h R) : EReal) = ⊥ := (val_main_v31_apply _).trans least
  have e32 : (val_main_v32 (F := Ideal) x0 x1 x2 (ix2 h R) : EReal) = (M : EReal) := by
    exact (val_main_v32_apply _ _ _ _).trans ((max2 e31 e25).trans (max_eq_right bot_le))
  have e43 (C : Fin 8320) : (val_main_v43 (F := Ideal) x0 x1 x2 (ix3 h R C) : EReal) = (M : EReal) :=
    (val_main_v43_apply _ _ _ _).trans ((val_main_v42_apply _ _ _ _).trans ((congrArg (val_main_v32 (F := Ideal) x0 x1 x2) (at2 rfl rfl)).trans e32))
  have e45 (C : Fin 8320) : (val_main_v45 (F := Ideal) x0 x1 x2 (ix3 h R C) : EReal) = ((Real.exp (-M) * wt px pq pk h.val R.val C.val : ℝ) : EReal) := by
    refine (val_main_v45_apply _ _ _ _).trans ((exp1 ((val_main_v44_apply _ _ _ _).trans (sub2 (e24 C) (e43 C)))).trans ?_)
    unfold wt
    by_cases hc : C.val ≤ R.val
    · rw [if_pos hc, if_pos hc, ← EReal.coe_sub, Ideal.exp_coe, ← Real.exp_add]
      exact congrArg (fun z : ℝ => ((Real.exp z : ℝ) : EReal)) (by ring)
    · rw [if_neg hc, if_neg hc, EReal.bot_sub, Ideal.exp_bot, mul_zero, EReal.coe_zero]
  refine ⟨Real.exp (-M), Real.exp_pos _, e45, ?_⟩
  refine (val_main_v46_apply _ _ _ _).trans ?_
  have e0 : (val_main_cst_9 (F := Ideal) (Shape.Idx.first h_S_) : EReal) = 0 := zero_bits
  have es : ∑ C : Fin 8320, wt px pq pk h.val R.val C.val = ws px pq pk 8320 h.val R.val := Fin.sum_univ_eq_sum_range (fun C => wt px pq pk h.val R.val C) 8320
  rw [← es, Finset.mul_sum, coe_sum]
  refine (congrArg (· + _) e0).trans ((zero_add _).trans ?_)
  exact Finset.sum_congr rfl fun C _ => (congrArg (val_main_v45 (F := Ideal) x0 x1 x2) (at3 rfl rfl rfl)).trans (e45 C)

/-- A weight divided by their sum. -/
theorem v54 (h : Fin 8) (R C : Fin 8320) : (val_main_v54 (F := Ideal) x0 x1 x2 (ix3 h R C) : EReal) = ((pr px pq pk h.val R.val C.val : ℝ) : EReal) := by
  obtain ⟨K, hK, he, hl⟩ := weight H h R
  have e48 : (val_main_v48 (F := Ideal) x0 x1 x2 (ix3 h R C) : EReal) = ((K * ws px pq pk 8320 h.val R.val : ℝ) : EReal) :=
    (val_main_v48_apply _ _ _ _).trans ((val_main_v47_apply _ _ _ _).trans ((congrArg (val_main_v46 (F := Ideal) x0 x1 x2) (at2 rfl rfl)).trans hl))
  have e49 : (val_main_v49 (F := Ideal) x0 x1 x2 (ix3 h R C) : EReal) = Ideal.div ((K * wt px pq pk h.val R.val C.val : ℝ) : EReal) ((K * ws px pq pk 8320 h.val R.val : ℝ) : EReal) :=
    (val_main_v49_apply _ _ _ _).trans (div2 (he C) e48)
  rw [val_main_v54_apply, val_main_v53_apply]
  refine (cast2 e49 _ _).trans ?_
  rw [div_real _ _ (mul_pos hK (ws_pos _ _ _ _ _ _ (by norm_num))).ne', mul_div_mul_left _ _ hK.ne']
  rfl

end Reals

/-- The gradient handed in, on the rows that are not padding. -/
theorem v66 (G : Given x3 pd) (h : Fin 8) (d : Fin 128) (R : Fin 8320) : (val_main_v66 (F := Ideal) x3 (ix3 h d R) : EReal) = ((go pd R.val (128 * h.val + d.val) : ℝ) : EReal) := by
  have := R.isLt; have := h.isLt; have := d.isLt
  have e64 (i : S8320x1024.Idx) : (val_main_v64 (F := Ideal) x3 i : EReal) = ((go pd (i 0).val (i 1).val : ℝ) : EReal) := by
    have h0 : (i 0).val < 8320 := (i 0).isLt
    have ec : val_main_v61_1 (F := Ideal) i = IntOp.cmpi .sge (BitVec.ofNat 32 (i 0).val) 112#32 :=
      (Cert.Reference20Ideal.Read.val_main_call1_v1_apply _).trans ((Cert.Reference20Ideal.Read.val_main_v41_apply _).trans (congrArg₂ (IntOp.cmpi .sge)
        ((Cert.Reference20Ideal.Read.val_main_v39_apply _).trans (Cert.Reference20Ideal.Read.val_main_v18_apply _)) (Cert.Reference20Ideal.Read.val_main_v40_apply _)))
    have ez : (val_main_call2_v0 (F := Ideal) i : EReal) = 0 := (val_main_call2_v0_apply _).trans zero_bits
    have ei : (val_main_v63 (F := Ideal) x3 i : EReal) = ((pd (i 0).val (i 1).val : ℝ) : EReal) := G i
    refine (val_main_v64_apply _ _).trans ((pick ec ei ez).trans ((select_kept _ (by omega) _).trans ?_))
    unfold kept go
    split <;> rfl
  refine ((val_main_v66_apply _ _).trans (val_main_v65_apply _ _)).trans ((e64 _).trans (two (go pd) ?_ ?_))
  · show ((R.val * 8 + h.val) * 128 + d.val) / 1024 = _
    omega
  · show ((R.val * 8 + h.val) * 128 + d.val) % 1024 = _
    omega

section Reals

variable (H : Args x0 x1 x2 px pq pk) (G : Given x3 pd)
include H G

/-- The gradient of a weight. -/
theorem v71 (h : Fin 8) (R C : Fin 8320) : (val_main_v71 (F := Ideal) x0 x3 (ix3 h R C) : EReal) = ((dp px pd h.val R.val C.val : ℝ) : EReal) := by
  refine (val_main_v71_apply _ _ _).trans ((congrArg _ (val_main_v70_apply _ _ _)).trans ((cast2 rfl _ _).trans ((val_main_v67_apply _ _ _).trans ?_)))
  unfold dp
  rw [coe_sum]
  refine Finset.sum_congr rfl fun d _ => ?_
  rw [EReal.coe_mul]
  refine congrArg₂ (· * ·) ?_ ?_
  · exact (congrArg (val_main_v66 (F := Ideal) x3) (at3 rfl rfl rfl)).trans (v66 G h d R)
  · exact (congrArg (val_main_v9 (F := Ideal) x0) (at3 rfl rfl rfl)).trans (Cert.Attn.Ref.v9 H C h d)

/-- The gradient of a logit. -/
theorem v84 (h : Fin 8) (R C : Fin 8320) : (val_main_v84 (F := Ideal) x0 x1 x2 x3 (ix3 h R C) : EReal) = ((ds px pq pk pd h.val R.val C.val : ℝ) : EReal) := by
  have := R.isLt; have := C.isLt
  obtain ⟨K, hK, he, hl⟩ := weight H h R
  have hW := ws_pos px pq pk 8320 h.val R.val (by norm_num)
  have hP := mul_pos hK hW
  have e47 (i : S8x8320x1.Idx) (i0 : (i 0).val = h.val) (i1 : (i 1).val = R.val) : (val_main_v47 (F := Ideal) x0 x1 x2 i : EReal) = ((K * ws px pq pk 8320 h.val R.val : ℝ) : EReal) :=
    (val_main_v47_apply _ _ _ _).trans ((congrArg (val_main_v46 (F := Ideal) x0 x1 x2) (at2 i0 i1)).trans hl)
  have e52 (i : S8x8320x1.Idx) (i0 : (i 0).val = h.val) (i1 : (i 1).val = R.val) : (val_main_v52 (F := Ideal) x0 x1 x2 i : EReal)
      = ((1 / (K * ws px pq pk 8320 h.val R.val * (K * ws px pq pk 8320 h.val R.val)) : ℝ) : EReal) := by
    have e51 : (val_main_v51 (F := Ideal) i : EReal) = ((1 : ℝ) : EReal) := (val_main_v51_apply _).trans one_bits
    refine (val_main_v52_apply _ _ _ _).trans ((div2 e51 ((val_main_v50_apply _ _ _ _).trans (mul2 (e47 i i0 i1) (e47 i i0 i1)))).trans ?_)
    rw [← EReal.coe_mul, div_real _ _ (mul_pos hP hP).ne']
  have e74 (C : Fin 8320) : (val_main_v74 (F := Ideal) x0 x1 x2 x3 (ix3 h R C) : EReal)
      = ((pr px pq pk h.val R.val C.val * dp px pd h.val R.val C.val * (1 / (K * ws px pq pk 8320 h.val R.val)) : ℝ) : EReal) := by
    have e72 : (val_main_v72 (F := Ideal) x0 x1 x2 (ix3 h R C) : EReal) = _ := (val_main_v72_apply _ _ _ _).trans (e52 _ rfl rfl)
    refine (val_main_v74_apply _ _ _ _ _).trans ((mul2 ((val_main_v73_apply _ _ _ _ _).trans (mul2 (v71 H G h R C) e72)) (he C)).trans ?_)
    rw [← EReal.coe_mul, ← EReal.coe_mul]
    unfold pr
    refine congrArg _ ?_
    field_simp
  have e77 (i : S8x8320x1.Idx) (i0 : (i 0).val = h.val) (i1 : (i 1).val = R.val) : (val_main_v77 (F := Ideal) x0 x1 x2 x3 i : EReal)
      = ((-(dl px pq pk pd h.val R.val * (1 / (K * ws px pq pk 8320 h.val R.val))) : ℝ) : EReal) := by
    have e76 : (val_main_v76 (F := Ideal) x0 x1 x2 x3 i : EReal) = ((dl px pq pk pd h.val R.val * (1 / (K * ws px pq pk 8320 h.val R.val)) : ℝ) : EReal) := by
      have h2 : (i 2).val < 1 := (i 2).isLt
      refine (val_main_v76_apply _ _ _ _ _).trans ((congrArg (val_main_v75 (F := Ideal) x0 x1 x2 x3) (at2 (x := h) (y := R) ?_ ?_)).trans ((val_main_v75_apply _ _ _ _ _).trans ?_))
      · show (((i 0).val * 8320 + (i 1).val) * 1 + (i 2).val) / 8320 = _
        omega
      · show (((i 0).val * 8320 + (i 1).val) * 1 + (i 2).val) % 8320 = _
        omega
      · have e0 : (val_main_cst_12 (F := Ideal) (Shape.Idx.first h_S_) : EReal) = 0 := zero_bits
        rw [e0, zero_add, ← dl_mean, Finset.sum_mul, coe_sum]
        exact Finset.sum_congr rfl fun C _ => (congrArg (val_main_v74 (F := Ideal) x0 x1 x2 x3) (at3 rfl rfl rfl)).trans (e74 C)
    refine (val_main_v77_apply _ _ _ _ _).trans ((neg1 e76).trans ?_)
    rw [EReal.coe_neg]
  have e81 : (val_main_v81 (F := Ideal) x0 x1 x2 x3 (ix3 h R C) : EReal) = ((-(dl px pq pk pd h.val R.val * (1 / (K * ws px pq pk 8320 h.val R.val))) : ℝ) : EReal) := by
    refine (val_main_v81_apply _ _ _ _ _).trans ((val_main_v80_apply _ _ _ _ _).trans ?_)
    have e0 : (val_main_cst_13 (F := Ideal) (Shape.Idx.first h_S_) : EReal) = 0 := zero_bits
    rw [e0, zero_add, Fin.sum_univ_one]
    exact e77 _ rfl rfl
  have e78 : (val_main_v78 (F := Ideal) x0 x1 x2 (ix3 h R C) : EReal) = _ := (val_main_v78_apply _ _ _ _).trans (e47 _ rfl rfl)
  have e83 : (val_main_v83 (F := Ideal) x0 x1 x2 x3 (ix3 h R C) : EReal) = ((ds px pq pk pd h.val R.val C.val : ℝ) : EReal) := by
    refine (val_main_v83_apply _ _ _ _ _).trans ((mul2 ((val_main_v82_apply _ _ _ _ _).trans (add2 ((val_main_v79_apply _ _ _ _ _).trans (div2 (v71 H G h R C) e78)) e81)) (he C)).trans ?_)
    rw [div_real _ _ hP.ne', ← EReal.coe_add, ← EReal.coe_mul]
    unfold ds pr
    refine congrArg _ ?_
    field_simp
    ring
  have ez : (val_main_call3_v0 (F := Ideal) (ix3 h R C) : EReal) = 0 := (val_main_call3_v0_apply _).trans zero_bits
  have ec : val_main_v24_1 (F := Ideal) (ix3 h R C) = IntOp.cmpi .sle (BitVec.ofNat 32 C.val) (BitVec.ofNat 32 R.val) := by
    refine (Cert.Reference20Ideal.Read.val_main_call0_v1_apply _).trans ((Cert.Reference20Ideal.Read.val_main_v23_apply _).trans (congrArg₂ (IntOp.cmpi .sle) ?_ ?_))
    · exact (Cert.Reference20Ideal.Read.val_main_v21_apply _).trans ((Cert.Reference20Ideal.Read.val_main_v19_apply _).trans (Cert.Reference20Ideal.Read.val_main_v18_apply _))
    · exact (Cert.Reference20Ideal.Read.val_main_v22_apply _).trans ((Cert.Reference20Ideal.Read.val_main_v20_apply _).trans (Cert.Reference20Ideal.Read.val_main_v18_apply _))
  refine (val_main_v84_apply _ _ _ _ _).trans ((pick ec e83 ez).trans ?_)
  unfold Scalar.select
  refine (if_congr (WordCmp.cmpi_sle_ofNat_eq_one_iff (by omega) (by omega)) rfl rfl).trans ?_
  by_cases hc : C.val ≤ R.val
  · exact if_pos hc
  · rw [if_neg hc, ds_later _ _ _ _ _ _ _ (by omega)]
    rfl

end Reals

end Cert.AttnB.Ref

end
-- ==== Proof.AttnB.Goal.lean ====
/- What the kernel is to give: the gradients of the queries, and of the keys and values side by side. -/
module

public import proofs.«01_k».proof.Proof.AttnB.Model

@[expose] public section

noncomputable section

namespace Cert.AttnB

variable (px pq pk pd : ℕ → ℕ → ℝ)

/-- The gradient of the queries, by row and column. -/
def gQ (R e : ℕ) : ℝ := sq px pq pk pd 8320 (e / 128) R (e % 128) * (Real.sqrt 128)⁻¹
/-- The gradients of a head's key and value, by row and column. -/
def gKV (C e : ℕ) : ℝ := if e % 256 < 128 then sk px pq pk pd 8320 (e / 256) C (e % 128) * (Real.sqrt 128)⁻¹ else sv px pq pk pd 8320 (e / 256) C (e % 128)

end Cert.AttnB

end
-- ==== Proof.AttnB.RefB.lean ====
/- The reference's four results, entry by entry. -/
module

public import proofs.«01_k».proof.Proof.AttnB.RefA
public import proofs.«01_k».proof.Proof.AttnB.Goal
public import Idealize.ShloMosaic.Lib.KernelVsHost

@[expose] public section

noncomputable section

namespace Cert.AttnB.Ref

open Finset Idealize.ShloMosaic Idealize.ShloMosaic.TcCoe Cert.Products Cert.Reference21Ideal Cert.Reference21Ideal.Gen Cert.Reference21Ideal.Read
open Cert.Attn (Args sc wt ws wv vl qk ws_pos coe_sum sup_real div_real)
open Cert.Attn.Ref (at3 two least width_bits)

theorem cast1 {a : Ideal .f32} {x : EReal} (ha : (a : EReal) = x) (h) : (FloatOps.truncf .bf16 h a : EReal) = x := ha
theorem add3 {a b : Ideal .bf16} {x y : EReal} (ha : (a : EReal) = x) (hb : (b : EReal) = y) : (FloatOps.addf a b : EReal) = x + y := congrArg₂ (fun u v : EReal => u + v) ha hb

variable {x0 : (⟨S8320x3072, .bf16⟩ : BufTy).Contents (Elt Ideal)} {x1 : (⟨S8x8320x1, .f32⟩ : BufTy).Contents (Elt Ideal)} {x2 : (⟨S8x1x8320, .f32⟩ : BufTy).Contents (Elt Ideal)}
  {x3 : (⟨S8320x1024, .bf16⟩ : BufTy).Contents (Elt Ideal)} {px pq pk pd : ℕ → ℕ → ℝ} (H : Args x0 x1 x2 px pq pk) (G : Given x3 pd)
include H G

/-- The sums over the rows of a key's logits. -/
theorem v87 (i : S8x1x8320.Idx) : (val_main_v87 (F := Ideal) x0 x1 x2 x3 i : EReal) = ((-su px pq pk pd 8320 (i 0).val (i 2).val : ℝ) : EReal) := by
  have h0 : (i 0).val < 8 := (i 0).isLt
  have h1 : (i 1).val < 1 := (i 1).isLt
  have h2 : (i 2).val < 8320 := (i 2).isLt
  refine (val_main_v87_apply _ _ _ _ _).trans ((val_main_v86_apply _ _ _ _ _).trans ?_)
  have e0 : (val_main_cst_14 (F := Ideal) (Shape.Idx.first h_S_) : EReal) = 0 := zero_bits
  rw [e0, zero_add]
  unfold su
  rw [Finset.sum_range, ← Finset.sum_neg_distrib, coe_sum]
  refine Finset.sum_congr rfl fun R _ => (val_main_v85_apply _ _ _ _ _).trans ((neg1 ((congrArg (val_main_v84 (F := Ideal) x0 x1 x2 x3) (at3 (x := ⟨(i 0).val, h0⟩) (y := R) (z := ⟨(i 2).val, h2⟩) ?_ rfl ?_)).trans (v84 H G _ R _))).trans (EReal.coe_neg _).symm)
  · show (((i 0).val * 1 + (i 1).val) * 8320 + (i 2).val) / 8320 = (i 0).val
    omega
  · show (((i 0).val * 1 + (i 1).val) * 8320 + (i 2).val) % 8320 = (i 2).val
    omega

/-- The sums over the keys of a row's logits. -/
theorem v89 (i : S8x8320x1.Idx) : (val_main_v89 (F := Ideal) x0 x1 x2 x3 i : EReal) = ((sr px pq pk pd 8320 (i 0).val (i 1).val : ℝ) : EReal) := by
  have h0 : (i 0).val < 8 := (i 0).isLt
  have h1 : (i 1).val < 8320 := (i 1).isLt
  have h2 : (i 2).val < 1 := (i 2).isLt
  refine (val_main_v89_apply _ _ _ _ _).trans ((val_main_v88_apply _ _ _ _ _).trans ?_)
  have e0 : (val_main_cst_15 (F := Ideal) (Shape.Idx.first h_S_) : EReal) = 0 := zero_bits
  rw [e0, zero_add]
  unfold sr
  rw [Finset.sum_range, coe_sum]
  refine Finset.sum_congr rfl fun C _ => (congrArg (val_main_v84 (F := Ideal) x0 x1 x2 x3) (at3 (x := ⟨(i 0).val, h0⟩) (y := ⟨(i 1).val, h1⟩) (z := C) ?_ ?_ rfl)).trans (v84 H G _ _ C)
  · show (((i 0).val * 8320 + (i 1).val) * 1 + (i 2).val) / 8320 = (i 0).val
    omega
  · show (((i 0).val * 8320 + (i 1).val) * 1 + (i 2).val) % 8320 = (i 1).val
    omega

theorem v91 (h : Fin 8) (R C : Fin 8320) : (val_main_v91 (F := Ideal) x0 x1 x2 x3 (ix3 h R C) : EReal) = ((ds px pq pk pd h.val R.val C.val * (Real.sqrt 128)⁻¹ : ℝ) : EReal) := by
  have e90 : (val_main_v90 (F := Ideal) (ix3 h R C) : EReal) = ((Real.sqrt 128 : ℝ) : EReal) := by
    refine (val_main_v90_apply _).trans ?_
    show Ideal.sqrt (Ideal.ofBits FTy.f32 0x43000000#32) = _
    rw [width_bits, Ideal.sqrt_coe, if_neg (by norm_num)]
  refine (val_main_v91_apply _ _ _ _ _).trans ((div2 (v84 H G h R C) e90).trans ?_)
  rw [div_real _ _ (by positivity), div_eq_mul_inv]

/-- The gradient of the keys. -/
theorem v93 (C : Fin 8320) (h : Fin 8) (d : Fin 128) (i : S8320x8x128.Idx) (i0 : (i 0).val = C.val) (i1 : (i 1).val = h.val) (i2 : (i 2).val = d.val) :
    (val_main_v93 (F := Ideal) x0 x1 x2 x3 i : EReal) = ((sk px pq pk pd 8320 h.val C.val d.val * (Real.sqrt 128)⁻¹ : ℝ) : EReal) := by
  refine (val_main_v93_apply _ _ _ _ _).trans ((val_main_v92_apply _ _ _ _ _).trans ?_)
  unfold sk
  rw [Finset.sum_range, Finset.sum_mul, coe_sum]
  refine Finset.sum_congr rfl fun R _ => ?_
  rw [mul_right_comm, EReal.coe_mul]
  refine congrArg₂ (· * ·) ?_ ?_
  · exact (congrArg (val_main_v91 (F := Ideal) x0 x1 x2 x3) (at3 (i := lidx_main_v92 (idx_main_v93 i) R) (x := h) (y := R) (z := C) i1 rfl i0)).trans (v91 H G h R C)
  · exact (congrArg (val_main_v2 (F := Ideal) x0) (at3 (i := ridx_main_v92 (idx_main_v93 i) R) (x := R) (y := h) (z := d) rfl i1 i2)).trans (Cert.Attn.Ref.v2 H R h d)

/-- The gradient of the queries. -/
theorem v95 (R : Fin 8320) (h : Fin 8) (d : Fin 128) (i : S8320x8x128.Idx) (i0 : (i 0).val = R.val) (i1 : (i 1).val = h.val) (i2 : (i 2).val = d.val) :
    (val_main_v95 (F := Ideal) x0 x1 x2 x3 i : EReal) = ((sq px pq pk pd 8320 h.val R.val d.val * (Real.sqrt 128)⁻¹ : ℝ) : EReal) := by
  refine (val_main_v95_apply _ _ _ _ _).trans ((val_main_v94_apply _ _ _ _ _).trans ?_)
  unfold sq
  rw [Finset.sum_range, Finset.sum_mul, coe_sum]
  refine Finset.sum_congr rfl fun C _ => ?_
  rw [mul_right_comm, EReal.coe_mul]
  refine congrArg₂ (· * ·) ?_ ?_
  · exact (congrArg (val_main_v91 (F := Ideal) x0 x1 x2 x3) (at3 (i := lidx_main_v94 (idx_main_v95 i) C) (x := h) (y := R) (z := C) i1 i0 rfl)).trans (v91 H G h R C)
  · exact (congrArg (val_main_v7 (F := Ideal) x0) (at3 (i := ridx_main_v94 (idx_main_v95 i) C) (x := C) (y := h) (z := d) rfl i1 i2)).trans (Cert.Attn.Ref.v7 H C h d)

/-- The gradient of the values. -/
theorem v69 (C : Fin 8320) (h : Fin 8) (d : Fin 128) (i : S8320x8x128.Idx) (i0 : (i 0).val = C.val) (i1 : (i 1).val = h.val) (i2 : (i 2).val = d.val) :
    (val_main_v69 (F := Ideal) x0 x1 x2 x3 i : EReal) = ((sv px pq pk pd 8320 h.val C.val d.val : ℝ) : EReal) := by
  refine (val_main_v69_apply _ _ _ _ _).trans ((val_main_v68_apply _ _ _ _ _).trans ?_)
  unfold sv
  rw [Finset.sum_range, coe_sum]
  refine Finset.sum_congr rfl fun R _ => ?_
  rw [mul_comm, EReal.coe_mul]
  refine congrArg₂ (· * ·) ?_ ?_
  · exact (congrArg (val_main_v54 (F := Ideal) x0 x1 x2) (at3 (i := ridx_main_v68 (idx_main_v69 i) R) (x := h) (y := R) (z := C) i1 rfl i0)).trans (v54 H h R C)
  · exact (congrArg (val_main_v66 (F := Ideal) x3) (at3 (i := lidx_main_v68 (idx_main_v69 i) R) (x := h) (y := d) (z := R) i1 i2 rfl)).trans (v66 G h d R)

theorem v101 (C : Fin 8320) (e : Fin 2048) (i : S8320x8x2x128.Idx) (i0 : (i 0).val = C.val) (i1 : (i 1).val = e.val / 256) (i2 : (i 2).val = e.val / 128 % 2) (i3 : (i 3).val = e.val % 128) :
    (val_main_v101 (F := Ideal) x0 x1 x2 x3 i : EReal) = ((gKV px pq pk pd C.val e.val : ℝ) : EReal) := by
  have he := e.isLt
  have z16 : (val_main_cst_16 (F := Ideal) (Shape.Idx.first h_S_) : EReal) = 0 := zero_bits
  have z17 : (val_main_cst_17 (F := Ideal) (Shape.Idx.first h_S_) : EReal) = 0 := zero_bits
  let k : S8320x8x1x128.Idx := fun a => match a with
    | ⟨0, _⟩ => C
    | ⟨1, _⟩ => (⟨e.val / 256, by omega⟩ : Fin 8)
    | ⟨2, _⟩ => (0 : Fin 1)
    | ⟨3, _⟩ => (⟨e.val % 128, by omega⟩ : Fin 128)
  unfold gKV
  refine (val_main_v101_apply _ _ _ _ _).trans (cast1 ((val_main_v100_apply _ _ _ _ _).trans ?_) _)
  by_cases hc : e.val % 256 < 128
  · rw [if_pos hc]
    have e97 : (val_main_v97 (F := Ideal) x0 x1 x2 x3 i : EReal) = 0 :=
      (pad_apply_of_not_inside _ _ _ _ _ _ _ i (2 : Fin 4) (fun h => by
        have h' : 1 ≤ (i 2).val := h.1
        omega)).trans z16
    have e99 : (val_main_v99 (F := Ideal) x0 x1 x2 x3 i : EReal) = _ :=
      (pad_apply_of_inside _ _ _ _ _ _ _ i k (fun a => by
        fin_cases a
        · show (i 0).val = 0 + C.val * 1
          omega
        · show (i 1).val = 0 + e.val / 256 * 1
          omega
        · show (i 2).val = 0 + 0 * 1
          omega
        · show (i 3).val = 0 + e.val % 128 * 1
          omega)).trans ((val_main_v98_apply _ _ _ _ _).trans (v93 H G C ⟨e.val / 256, by omega⟩ ⟨e.val % 128, by omega⟩ _ rfl rfl rfl))
    exact (add2 e97 e99).trans (zero_add _)
  · rw [if_neg hc]
    have e99 : (val_main_v99 (F := Ideal) x0 x1 x2 x3 i : EReal) = 0 :=
      (pad_apply_of_not_inside _ _ _ _ _ _ _ i (2 : Fin 4) (fun h => by
        have h' : ((i 2).val - 0) / 1 < 1 := h.2.2
        omega)).trans z17
    have e97 : (val_main_v97 (F := Ideal) x0 x1 x2 x3 i : EReal) = _ :=
      (pad_apply_of_inside _ _ _ _ _ _ _ i k (fun a => by
        fin_cases a
        · show (i 0).val = 0 + C.val * 1
          omega
        · show (i 1).val = 0 + e.val / 256 * 1
          omega
        · show (i 2).val = 1 + 0 * 1
          omega
        · show (i 3).val = 0 + e.val % 128 * 1
          omega)).trans ((val_main_v96_apply _ _ _ _ _).trans (v69 H G C ⟨e.val / 256, by omega⟩ ⟨e.val % 128, by omega⟩ _ rfl rfl rfl))
    exact (add2 e97 e99).trans (add_zero _)

/-- The queries' columns. -/
theorem v108 (i : S8320x1024.Idx) : (val_main_v108 (F := Ideal) x0 x1 x2 x3 i : EReal) = ((gQ px pq pk pd (i 0).val (i 1).val : ℝ) : EReal) := by
  have h0 : (i 0).val < 8320 := (i 0).isLt
  have h1 : (i 1).val < 1024 := (i 1).isLt
  have z18 : (val_main_cst_18 (F := Ideal) (Shape.Idx.first h_S_) : EReal) = 0 := zero_narrow
  refine (val_main_v108_apply _ _ _ _ _).trans ((val_main_v107_apply _ _ _ _ _).trans ?_)
  have e103 : (val_main_v103 (F := Ideal) x0 x1 x2 x3 (idx_main_v108 i) : EReal) = 0 :=
    (pad_apply_of_not_inside _ _ _ _ _ _ _ _ (1 : Fin 2) (fun h => by
      have h' : 1024 ≤ (i 1).val := h.1
      omega)).trans z18
  have e106 : (val_main_v106 (F := Ideal) x0 x1 x2 x3 (idx_main_v108 i) : EReal) = ((gQ px pq pk pd (i 0).val (i 1).val : ℝ) : EReal) := by
    refine (pad_apply_of_inside _ _ _ _ _ _ _ _ i (fun a => by
        fin_cases a
        · show (i 0).val = 0 + (i 0).val * 1
          omega
        · show (i 1).val = 0 + (i 1).val * 1
          omega)).trans ((val_main_v105_apply _ _ _ _ _).trans ((v95 H G ⟨(i 0).val, h0⟩ ⟨(i 1).val / 128, by omega⟩ ⟨(i 1).val % 128, by omega⟩ _ ?_ ?_ ?_ : (val_main_v95 (F := Ideal) x0 x1 x2 x3 (idx_main_v105 i) : EReal) = _)))
    · show ((i 0).val * 1024 + (i 1).val) / 1024 = (i 0).val
      omega
    · show ((i 0).val * 1024 + (i 1).val) / 128 % 8 = (i 1).val / 128
      omega
    · show ((i 0).val * 1024 + (i 1).val) % 128 = (i 1).val % 128
      omega
  exact (add3 (x := 0) e103 e106).trans (zero_add _)

/-- The keys' and values' columns. -/
theorem v109 (i : S8320x2048.Idx) : (val_main_v109 (F := Ideal) x0 x1 x2 x3 i : EReal) = ((gKV px pq pk pd (i 0).val (i 1).val : ℝ) : EReal) := by
  have h0 : (i 0).val < 8320 := (i 0).isLt
  have h1 : (i 1).val < 2048 := (i 1).isLt
  have z19 : (val_main_cst_19 (F := Ideal) (Shape.Idx.first h_S_) : EReal) = 0 := zero_narrow
  refine (val_main_v109_apply _ _ _ _ _).trans ((val_main_v107_apply _ _ _ _ _).trans ?_)
  have e106 : (val_main_v106 (F := Ideal) x0 x1 x2 x3 (idx_main_v109 i) : EReal) = 0 :=
    (pad_apply_of_not_inside _ _ _ _ _ _ _ _ (1 : Fin 2) (fun h => by
      have h' : (1024 + (i 1).val - 0) / 1 < 1024 := h.2.2
      omega)).trans z19
  have e103 : (val_main_v103 (F := Ideal) x0 x1 x2 x3 (idx_main_v109 i) : EReal) = ((gKV px pq pk pd (i 0).val (i 1).val : ℝ) : EReal) := by
    refine (pad_apply_of_inside _ _ _ _ _ _ _ _ i (fun a => by
        fin_cases a
        · show (i 0).val = 0 + (i 0).val * 1
          omega
        · show 1024 + (i 1).val = 1024 + (i 1).val * 1
          omega)).trans ((val_main_v102_apply _ _ _ _ _).trans (v101 H G ⟨(i 0).val, h0⟩ ⟨(i 1).val, h1⟩ _ ?_ ?_ ?_ ?_))
    · show ((i 0).val * 2048 + (i 1).val) / 2048 = (i 0).val
      omega
    · show ((i 0).val * 2048 + (i 1).val) / 256 % 8 = (i 1).val / 256
      omega
    · show ((i 0).val * 2048 + (i 1).val) / 128 % 2 = (i 1).val / 128 % 2
      omega
    · show ((i 0).val * 2048 + (i 1).val) % 128 = (i 1).val % 128
      omega
  exact (add3 (y := 0) e103 e106).trans (add_zero _)

end Cert.AttnB.Ref

end
-- ==== Proof.AttnB.Head.lean ====
/- One head of the attention's gradient step: what its vectors hold, row by row and column by column. -/
module

public import proofs.«01_k».proof.Proof.Products.Sums
public import proofs.«01_k».proof.Proof.Gen.Kernel21Ideal.Skeleton

@[expose] public section

noncomputable section

namespace Cert.AttnB

open Finset Idealize.ShloMosaic Idealize.ShloMosaic.TcCoe Cert.Products Cert.Kernel21Ideal Cert.Kernel21Ideal.Gen

/-- The base-two logarithm of `e`, as the named number. -/
def l2e : EReal := (((Real.log 2)⁻¹ : ℝ) : EReal)
/-- The same divided by the square root of the head's width. -/
def l2s : EReal := (((Real.log 2)⁻¹ * (Real.sqrt 128)⁻¹ : ℝ) : EReal)
/-- One over the square root of the head's width. -/
def isw : EReal := (((Real.sqrt 128)⁻¹ : ℝ) : EReal)

theorem named_l2e : Named.named (F := Ideal) κ "log2e" (φ := .f32) 0x3FB8AA3B#32 = l2e := IdealRules.named_const.ideal_named_scalar _ _ _ _ rfl
theorem named_l2s : Named.named (F := Ideal) κ "log2e_scale" (φ := .f32) 0x3E0293EE#32 = l2s := IdealRules.named_const.ideal_named_scalar _ _ _ _ rfl
theorem named_mask : Named.named (F := Ideal) κ "mask" (φ := .f32) 0xF149F2CA#32 = (⊥ : EReal) := IdealRules.named_const.ideal_named_scalar _ _ _ _ rfl
theorem named_isw : Named.named (F := Ideal) κ "scale" (φ := .f32) 0x3DB504F3#32 = isw := IdealRules.named_const.ideal_named_scalar _ _ _ _ rfl

variable (q k v dd oo : Vec Ideal S640x128 .bf16) (ck : Vec Ideal S1x1x640 .f32) (cq ls : Vec Ideal S1x640x1 .f32) (T : FVec Ideal S640x640 .f32)
  (a : Vec Ideal S640x128 .f32) (u : Vec Ideal S1x1x640 .f32) (w : Vec Ideal S1x640x1 .f32)

/-- The logits of a block below the diagonal. -/
def logit : FVec Ideal S640x640 .f32 := k0_pay31 (F := Ideal) q k ck
/-- The logits of a block on the diagonal. -/
def logitD : FVec Ideal S640x640 .f32 := select k0_pay63 (k0_pay31 (F := Ideal) q k ck) (k0_pay64 (F := Ideal))
/-- The weights. -/
def pW : FVec Ideal S640x640 .f32 := k0_pay32 (F := Ideal) (k0_pay24 (F := Ideal) cq ls) T
/-- The gradients of the logits. -/
def dS : FVec Ideal S640x640 .f32 := k0_pay34 (F := Ideal) (k0_pay24 (F := Ideal) cq ls) (k0_pay27 (F := Ideal) dd) (k0_pay29 (F := Ideal) dd oo) T v
/-- The new sums for the keys. -/
def kN (D : FVec Ideal S640x640 .f32) : FVec Ideal S640x128 .f32 := k0_pay44 (F := Ideal) a (truncf .bf16 D bitsLt_bf16_f32) q
/-- The new sums for the values. -/
def vN : FVec Ideal S640x128 .f32 := k0_pay38 (F := Ideal) a (k0_pay24 (F := Ideal) cq ls) (k0_pay27 (F := Ideal) dd) T
/-- The new sums for the queries. -/
def qN (D : FVec Ideal S640x640 .f32) : FVec Ideal S640x128 .f32 := k0_pay45 (F := Ideal) a (truncf .bf16 D bitsLt_bf16_f32) k
/-- The new sums of the columns. -/
def cN (D : FVec Ideal S640x640 .f32) : FVec Ideal S1x640 .f32 := k0_pay73 (F := Ideal) (k0_pay20 (F := Ideal) u) D
/-- The new sums of the rows. -/
def rN (D : FVec Ideal S640x640 .f32) : FVec Ideal S640x1 .f32 := k0_pay43 (F := Ideal) (k0_pay22 (F := Ideal) w) D

theorem logit_at (r c : Fin 640) : (logit q k ck (ix2 r c) : EReal)
    = dotNT (K := 128) (M := 640) (N := 640) q k r c * l2s - (ck (ix3 0 0 c) : EReal) * l2e := by
  unfold logit k0_pay31 dotNT
  rw [named_l2e, named_l2s]
  pointwise

theorem logitD_at (r c : Fin 640) : (logitD q k ck (ix2 r c) : EReal) = if c ≤ r then (logit q k ck (ix2 r c) : EReal) else ⊥ := by
  show (Scalar.select (k0_pay63 (ix2 r c)) (logit q k ck (ix2 r c)) (k0_pay64 (F := Ideal) (ix2 r c)) : EReal) = _
  generalize logit q k ck (ix2 r c) = z
  unfold k0_pay63 k0_pay64
  rw [named_mask]
  pointwise
  unfold Scalar.select
  exact if_congr ((WordCmp.cmpi_sle_ofNat_eq_one_iff (by have := c.isLt; omega) (by have := r.isLt; omega)).trans Iff.rfl) rfl rfl

theorem pW_at (r c : Fin 640) : (pW cq ls T (ix2 r c) : EReal)
    = Ideal.exp2 ((T (ix2 r c) : EReal) + ((cq (ix3 0 r 0) : EReal) * l2e - (ls (ix3 0 r 0) : EReal))) := by
  unfold pW k0_pay32 k0_pay24
  rw [named_l2e]
  pointwise
  rfl

theorem dS_at (r c : Fin 640) : (dS v dd oo cq ls T (ix2 r c) : EReal)
    = (pW cq ls T (ix2 r c) : EReal) * (dotNT (K := 128) (M := 640) (N := 640) dd v r c - ∑ d : Fin 128, (dd (ix2 r d) : EReal) * (oo (ix2 r d) : EReal)) := by
  show ((k0_pay34 (F := Ideal) (k0_pay24 (F := Ideal) cq ls) (k0_pay27 (F := Ideal) dd) (k0_pay29 (F := Ideal) dd oo) T v) (ix2 r c) : EReal) = _
  unfold k0_pay34 k0_pay29 k0_pay27 dotNT
  rw [show k0_pay32 (F := Ideal) (k0_pay24 (F := Ideal) cq ls) T = pW cq ls T from rfl]
  generalize pW cq ls T = P
  pointwise

theorem kN_at (D : FVec Ideal S640x640 .f32) (c : Fin 640) (d : Fin 128) : (kN q a D (ix2 c d) : EReal)
    = (a (ix2 c d) : EReal) + ∑ r : Fin 640, (D (ix2 r c) : EReal) * (q (ix2 r d) : EReal) := by
  unfold kN k0_pay44
  pointwise

theorem vN_at (c : Fin 640) (d : Fin 128) : (vN dd cq ls T a (ix2 c d) : EReal)
    = (a (ix2 c d) : EReal) + ∑ r : Fin 640, (pW cq ls T (ix2 r c) : EReal) * (dd (ix2 r d) : EReal) := by
  unfold vN k0_pay38 k0_pay27
  rw [show k0_pay32 (F := Ideal) (k0_pay24 (F := Ideal) cq ls) T = pW cq ls T from rfl]
  generalize pW cq ls T = P
  pointwise

theorem qN_at (D : FVec Ideal S640x640 .f32) (r : Fin 640) (d : Fin 128) : (qN k a D (ix2 r d) : EReal)
    = (a (ix2 r d) : EReal) + ∑ c : Fin 640, (D (ix2 r c) : EReal) * (k (ix2 c d) : EReal) := by
  unfold qN k0_pay45
  pointwise

theorem cN_at (D : FVec Ideal S640x640 .f32) (c : Fin 640) : (cN u D (ix2 0 c) : EReal)
    = (u (ix3 0 0 c) : EReal) - ∑ r : Fin 640, (D (ix2 r c) : EReal) := by
  unfold cN k0_pay73 k0_pay20
  pointwise

theorem rN_at (D : FVec Ideal S640x640 .f32) (r : Fin 640) : (rN w D (ix2 r 0) : EReal)
    = (w (ix3 0 r 0) : EReal) + ∑ c : Fin 640, (D (ix2 r c) : EReal) := by
  unfold rN k0_pay43 k0_pay22
  pointwise

end Cert.AttnB

end
-- ==== Proof.AttnB.Fill.lean ====
/- A buffer two stores are made into, over what it held or over earlier stores. -/
module

public import proofs.«01_k».proof.Proof.AttnB.Head
public import proofs.«01_k».proof.Proof.Attn.Parts

@[expose] public section

noncomputable section

namespace Cert.AttnB

open Finset Idealize.ShloMosaic Idealize.ShloMosaic.TcCoe

variable {S : Shape} {e : EltTy} {Val : EltTy → Type} {sig : RefSig} {kd : Kind} {sp : Space} (v : View sig kd sp S e) (f : v.ty.Contents Val)

/-- Two stores over what the buffer held. -/
theorem read_two (G : S.Idx → Val e) (p0 p1 : View.Piece Val S e) (M : List (View.Piece Val S e))
    (h1 : ∀ x, p1.2 x = G (p1.1.emb x)) (h0 : ∀ x, p0.2 x = G (p0.1.emb x)) (hc : ∀ y, y ∉ p1.1.set → y ∉ p0.1.set → v.read Val (v.writes Val f M) y = G y) : v.read Val (v.writes Val f (p1 :: p0 :: M)) = G := by
  have one : ∀ (p : View.Piece Val S e) (M : List (View.Piece Val S e)) (y : S.Idx), (∀ x, p.2 x = G (p.1.emb x)) → (y ∉ p.1.set → v.read Val (v.writes Val f M) y = G y) →
      v.read Val (v.writes Val f (p :: M)) y = G y := by
    intro p M y hp hM
    by_cases hm : y ∈ p.1.set
    · obtain ⟨x, rfl⟩ := p.1.exists_idx_of_mem hm
      rw [show p.1.idx x = p.1.emb x from rfl]
      obtain ⟨r, w⟩ := p
      rw [View.read_writes_cons_emb]
      exact hp x
    · rw [View.writes_cons]
      exact (View.read_slice_write_of_not_mem p.1 _ _ _ (by rwa [Rect.map_emb_univ])).trans (hM hm)
  funext y
  exact one _ _ y h1 fun n1 => one _ _ y h0 fun n0 => hc y n1 n0

/-- A store of the whole buffer. -/
theorem read_all {off : Fin S.rank → ℕ} (h : off = fun _ => 0) (inb) (w : S.Idx → Val e) : v.read Val (v.writes Val f [⟨Rect.unit off S.size inb, w⟩]) = w := by
  subst h
  funext y
  have hy : (Rect.unit (s := S) (fun _ => 0) S.size inb).emb y = y := funext fun a => Fin.ext (show 0 + 1 * (y a).val = (y a).val by omega)
  exact (congrArg (v.read Val (v.writes Val f [⟨Rect.unit (fun _ => 0) S.size inb, w⟩])) hy.symm).trans (View.read_writes_cons_emb v f (Rect.unit (fun _ => 0) S.size inb) w [] y)

end Cert.AttnB

end
-- ==== Proof.AttnB.Parts.lean ====
/- The parts of the gradient step's blocks and running sums that belong to one head. -/
module

public import proofs.«01_k».proof.Proof.AttnB.Fill
public import proofs.«01_k».proof.Proof.Gen.Kernel21Ideal.Points

@[expose] public section

noncomputable section

namespace Cert.AttnB

open Finset Idealize.ShloMosaic Idealize.ShloMosaic.TcCoe Cert.Products Cert.Kernel21Ideal Cert.Kernel21Ideal.Gen
open Cert.Attn (at3 zzz cov_whole)

/-! ## One head's part -/

/-- A head's columns of a block of rows. -/
def qH (X : Vec Ideal S640x256 .bf16) (a : Fin 2) : Vec Ideal S640x128 .bf16 := fun y => X (ix2 (y 0) ⟨128 * a.val + (y 1).val, by have h := (y 1).isLt; have := a.isLt; change _ < 128 at h; omega⟩)
/-- A head's keys in a block of keys and values. -/
def kH (X : Vec Ideal S640x512 .bf16) (a : Fin 2) : Vec Ideal S640x128 .bf16 := fun y => X (ix2 (y 0) ⟨256 * a.val + (y 1).val, by have h := (y 1).isLt; have := a.isLt; change _ < 128 at h; omega⟩)
/-- A head's values in a block of keys and values. -/
def vH (X : Vec Ideal S640x512 .bf16) (a : Fin 2) : Vec Ideal S640x128 .bf16 := fun y => X (ix2 (y 0) ⟨256 * a.val + 128 + (y 1).val, by have h := (y 1).isLt; have := a.isLt; change _ < 128 at h; omega⟩)
/-- A head's row. -/
def cH (X : Vec Ideal S2x1x640 .f32) (a : Fin 2) : Vec Ideal S1x1x640 .f32 := fun y => X (ix3 a 0 (y 2))
/-- A head's column. -/
def rH (X : Vec Ideal S2x640x1 .f32) (a : Fin 2) : Vec Ideal S1x640x1 .f32 := fun y => X (ix3 a (y 1) 0)
/-- A head's columns of the running sums. -/
def aH (X : Vec Ideal S640x256 .f32) (a : Fin 2) : Vec Ideal S640x128 .f32 := fun y => X (ix2 (y 0) ⟨128 * a.val + (y 1).val, by have h := (y 1).isLt; have := a.isLt; change _ < 128 at h; omega⟩)
/-- A head's columns of a block of rows of the queries' sums. -/
def bH (X : Vec Ideal S8320x256 .f32) (i : Fin 13) (a : Fin 2) : Vec Ideal S640x128 .f32 := fun y => X (ix2 ⟨640 * i.val + (y 0).val, by have h := (y 0).isLt; have := i.isLt; change _ < 640 at h; omega⟩ ⟨128 * a.val + (y 1).val, by have h := (y 1).isLt; have := a.isLt; change _ < 128 at h; omega⟩)
/-- A head's block of the rows' sums. -/
def dH (X : Vec Ideal S2x8320x1 .f32) (i : Fin 13) (a : Fin 2) : Vec Ideal S1x640x1 .f32 := fun y => X (ix3 a ⟨640 * i.val + (y 1).val, by have h := (y 1).isLt; have := i.isLt; change _ < 640 at h; omega⟩ 0)

variable (i : Fin 13) (a : Fin 2) (n : ℕ)

theorem ld_q (h : n = 128 * a.val) (inb) (X : Vec Ideal S640x256 .bf16) : View.ld (Val := Elt Ideal) (S := S640x256) (e' := .bf16) X (Rect.unit ![0, n] ![640, 128] inb) = qH X a :=
  funext fun y => congrArg X (at2 (show 0 + 1 * (y 0).val = (y 0).val by omega) (show n + 1 * (y 1).val = 128 * a.val + (y 1).val by omega))
theorem ld_a (h : n = 128 * a.val) (inb) (X : Vec Ideal S640x256 .f32) : View.ld (Val := Elt Ideal) (S := S640x256) (e' := .f32) X (Rect.unit ![0, n] ![640, 128] inb) = aH X a :=
  funext fun y => congrArg X (at2 (show 0 + 1 * (y 0).val = (y 0).val by omega) (show n + 1 * (y 1).val = 128 * a.val + (y 1).val by omega))
theorem ld_k (h : n = 256 * a.val) (inb) (X : Vec Ideal S640x512 .bf16) : View.ld (Val := Elt Ideal) (S := S640x512) (e' := .bf16) X (Rect.unit ![0, n] ![640, 128] inb) = kH X a :=
  funext fun y => congrArg X (at2 (show 0 + 1 * (y 0).val = (y 0).val by omega) (show n + 1 * (y 1).val = 256 * a.val + (y 1).val by omega))
theorem ld_v (h : n = 256 * a.val + 128) (inb) (X : Vec Ideal S640x512 .bf16) : View.ld (Val := Elt Ideal) (S := S640x512) (e' := .bf16) X (Rect.unit ![0, n] ![640, 128] inb) = vH X a :=
  funext fun y => congrArg X (at2 (show 0 + 1 * (y 0).val = (y 0).val by omega) (show n + 1 * (y 1).val = 256 * a.val + 128 + (y 1).val by omega))
theorem ld_c (h : n = a.val) (inb) (X : Vec Ideal S2x1x640 .f32) : View.ld (Val := Elt Ideal) (S := S2x1x640) (e' := .f32) X (Rect.unit ![n, 0, 0] ![1, 1, 640] inb) = cH X a :=
  funext fun y => congrArg X (at3 (by have h := (y 0).isLt; change _ < 1 at h; show n + 1 * (y 0).val = _; omega) (by have h := (y 1).isLt; change _ < 1 at h; show 0 + 1 * (y 1).val = 0; omega) (show 0 + 1 * (y 2).val = (y 2).val by omega))
theorem ld_r (h : n = a.val) (inb) (X : Vec Ideal S2x640x1 .f32) : View.ld (Val := Elt Ideal) (S := S2x640x1) (e' := .f32) X (Rect.unit ![n, 0, 0] ![1, 640, 1] inb) = rH X a :=
  funext fun y => congrArg X (at3 (by have h := (y 0).isLt; change _ < 1 at h; show n + 1 * (y 0).val = _; omega) (show 0 + 1 * (y 1).val = (y 1).val by omega) (by have h := (y 2).isLt; change _ < 1 at h; show 0 + 1 * (y 2).val = 0; omega))
theorem ld_b (o : Fin 2 → ℕ) (h : o = ![640 * i.val, 128 * a.val]) (inb) (X : Vec Ideal S8320x256 .f32) : View.ld (Val := Elt Ideal) (S := S8320x256) (e' := .f32) X (Rect.unit o ![640, 128] inb) = bH X i a := by
  subst h
  exact funext fun y => congrArg X (at2 (show 640 * i.val + 1 * (y 0).val = 640 * i.val + (y 0).val by omega) (show 128 * a.val + 1 * (y 1).val = 128 * a.val + (y 1).val by omega))
theorem ld_d (o : Fin 3 → ℕ) (h : o = ![a.val, 640 * i.val, 0]) (inb) (X : Vec Ideal S2x8320x1 .f32) : View.ld (Val := Elt Ideal) (S := S2x8320x1) (e' := .f32) X (Rect.unit o ![1, 640, 1] inb) = dH X i a := by
  subst h
  exact funext fun y => congrArg X (at3 (by have h := (y 0).isLt; change _ < 1 at h; show a.val + 1 * (y 0).val = _; omega) (show 640 * i.val + 1 * (y 1).val = 640 * i.val + (y 1).val by omega) (by have h := (y 2).isLt; change _ < 1 at h; show 0 + 1 * (y 2).val = 0; omega))

/-- The place of a head's columns. -/
theorem emb_a (h : n = 128 * a.val) (inb : ∀ q, (![0, n] : Fin 2 → ℕ) q + (![640, 128] : Fin 2 → ℕ) q ≤ S640x256.size q) (x : S640x128.Idx) :
    (Rect.unit (s := S640x256) ![0, n] ![640, 128] inb).emb x = (ix2 (x 0) ⟨128 * a.val + (x 1).val, by have h := (x 1).isLt; have := a.isLt; change _ < 128 at h; omega⟩ : S640x256.Idx) :=
  at2 (show 0 + 1 * (x 0).val = (x 0).val by omega) (show n + 1 * (x 1).val = 128 * a.val + (x 1).val by omega)
/-- The place of a head's row. -/
theorem emb_c (h : n = a.val) (inb : ∀ q, (![n, 0, 0] : Fin 3 → ℕ) q + (![1, 1, 640] : Fin 3 → ℕ) q ≤ S2x1x640.size q) (x : S1x1x640.Idx) :
    (Rect.unit (s := S2x1x640) ![n, 0, 0] ![1, 1, 640] inb).emb x = (ix3 a 0 (x 2) : S2x1x640.Idx) :=
  at3 (by have h := (x 0).isLt; change _ < 1 at h; show n + 1 * (x 0).val = _; omega) (by have h := (x 1).isLt; change _ < 1 at h; show 0 + 1 * (x 1).val = 0; omega) (show 0 + 1 * (x 2).val = (x 2).val by omega)
/-- The place of a head's columns in a block of rows. -/
theorem emb_b (o : Fin 2 → ℕ) (h : o = ![640 * i.val, 128 * a.val]) (inb : ∀ q, o q + (![640, 128] : Fin 2 → ℕ) q ≤ S8320x256.size q) (x : S640x128.Idx) :
    (Rect.unit (s := S8320x256) o ![640, 128] inb).emb x = (ix2 ⟨640 * i.val + (x 0).val, by have h := (x 0).isLt; have := i.isLt; change _ < 640 at h; omega⟩ ⟨128 * a.val + (x 1).val, by have h := (x 1).isLt; have := a.isLt; change _ < 128 at h; omega⟩ : S8320x256.Idx) := by
  subst h
  exact at2 (show 640 * i.val + 1 * (x 0).val = 640 * i.val + (x 0).val by omega) (show 128 * a.val + 1 * (x 1).val = 128 * a.val + (x 1).val by omega)
/-- The place of a head's block of rows. -/
theorem emb_d (o : Fin 3 → ℕ) (h : o = ![a.val, 640 * i.val, 0]) (inb : ∀ q, o q + (![1, 640, 1] : Fin 3 → ℕ) q ≤ S2x8320x1.size q) (x : S1x640x1.Idx) :
    (Rect.unit (s := S2x8320x1) o ![1, 640, 1] inb).emb x = (ix3 a ⟨640 * i.val + (x 1).val, by have h := (x 1).isLt; have := i.isLt; change _ < 640 at h; omega⟩ 0 : S2x8320x1.Idx) := by
  subst h
  exact at3 (by have h := (x 0).isLt; change _ < 1 at h; show a.val + 1 * (x 0).val = _; omega) (show 640 * i.val + 1 * (x 1).val = 640 * i.val + (x 1).val by omega) (by have h := (x 2).isLt; change _ < 1 at h; show 0 + 1 * (x 2).val = 0; omega)

theorem mem_a (h : n = 128 * a.val) (inb) (y : S640x256.Idx) (hy : (y 1).val / 128 = a.val) : y ∈ (Rect.unit (s := S640x256) ![0, n] ![640, 128] inb).set := by
  rw [Rect.mem_set_unit]
  have h0 : (y 0).val < 640 := (y 0).isLt
  intro q
  match q with
  | 0 => show 0 ≤ (y 0).val ∧ (y 0).val < 0 + 640; omega
  | 1 => show n ≤ (y 1).val ∧ (y 1).val < n + 128; omega
theorem mem_c (inb) (y : S2x1x640.Idx) (hy : (y 0).val = n) : y ∈ (Rect.unit (s := S2x1x640) ![n, 0, 0] ![1, 1, 640] inb).set := by
  rw [Rect.mem_set_unit]
  have h1 : (y 1).val < 1 := (y 1).isLt
  have h2 : (y 2).val < 640 := (y 2).isLt
  intro q
  match q with
  | 0 => show n ≤ (y 0).val ∧ (y 0).val < n + 1; omega
  | 1 => show 0 ≤ (y 1).val ∧ (y 1).val < 0 + 1; omega
  | 2 => show 0 ≤ (y 2).val ∧ (y 2).val < 0 + 640; omega
theorem mem_b (o : Fin 2 → ℕ) (h : o = ![640 * i.val, 128 * a.val]) (inb) (y : S8320x256.Idx) (hy : (y 1).val / 128 = a.val) (hi : (y 0).val / 640 = i.val) : y ∈ (Rect.unit (s := S8320x256) o ![640, 128] inb).set := by
  subst h
  rw [Rect.mem_set_unit]
  intro q
  match q with
  | 0 => show 640 * i.val ≤ (y 0).val ∧ (y 0).val < 640 * i.val + 640; omega
  | 1 => show 128 * a.val ≤ (y 1).val ∧ (y 1).val < 128 * a.val + 128; omega
theorem mem_d (o : Fin 3 → ℕ) (h : o = ![a.val, 640 * i.val, 0]) (inb) (y : S2x8320x1.Idx) (hy : (y 0).val = a.val) (hi : (y 1).val / 640 = i.val) : y ∈ (Rect.unit (s := S2x8320x1) o ![1, 640, 1] inb).set := by
  subst h
  rw [Rect.mem_set_unit]
  have h2 : (y 2).val < 1 := (y 2).isLt
  intro q
  match q with
  | 0 => show a.val ≤ (y 0).val ∧ (y 0).val < a.val + 1; omega
  | 1 => show 640 * i.val ≤ (y 1).val ∧ (y 1).val < 640 * i.val + 640; omega
  | 2 => show 0 ≤ (y 2).val ∧ (y 2).val < 0 + 1; omega

/-! ## Loads of a whole store -/

theorem cov_c {sig : RefSig} {kd : Kind} {sp : Space} (v : View sig kd sp S2x1x640 .f32) (inb) (w : Vec Ideal S2x1x640 .f32) (r : Rect S2x1x640) :
    v.readCov (Val := Elt Ideal) [(⟨Rect.unit ![0, 0, 0] ![2, 1, 640] inb, w⟩ : View.Piece (Elt Ideal) S2x1x640 .f32)] r.toLoadRect = View.ld (Val := Elt Ideal) (S := S2x1x640) (e' := .f32) w r :=
  cov_whole (Val := Elt Ideal) v zzz inb w r
theorem cov_a {sig : RefSig} {kd : Kind} {sp : Space} (v : View sig kd sp S640x256 .f32) (inb) (w : Vec Ideal S640x256 .f32) (r : Rect S640x256) :
    v.readCov (Val := Elt Ideal) [(⟨Rect.unit ![0, 0] ![640, 256] inb, w⟩ : View.Piece (Elt Ideal) S640x256 .f32)] r.toLoadRect = View.ld (Val := Elt Ideal) (S := S640x256) (e' := .f32) w r :=
  cov_whole (Val := Elt Ideal) v zz inb w r
theorem cov_b {sig : RefSig} {kd : Kind} {sp : Space} (v : View sig kd sp S8320x256 .f32) (inb) (w : Vec Ideal S8320x256 .f32) (r : Rect S8320x256) :
    v.readCov (Val := Elt Ideal) [(⟨Rect.unit ![0, 0] ![8320, 256] inb, w⟩ : View.Piece (Elt Ideal) S8320x256 .f32)] r.toLoadRect = View.ld (Val := Elt Ideal) (S := S8320x256) (e' := .f32) w r :=
  cov_whole (Val := Elt Ideal) v zz inb w r
theorem cov_d {sig : RefSig} {kd : Kind} {sp : Space} (v : View sig kd sp S2x8320x1 .f32) (inb) (w : Vec Ideal S2x8320x1 .f32) (r : Rect S2x8320x1) :
    v.readCov (Val := Elt Ideal) [(⟨Rect.unit ![0, 0, 0] ![2, 8320, 1] inb, w⟩ : View.Piece (Elt Ideal) S2x8320x1 .f32)] r.toLoadRect = View.ld (Val := Elt Ideal) (S := S2x8320x1) (e' := .f32) w r :=
  cov_whole (Val := Elt Ideal) v zzz inb w r

/-! ## The parts put together -/

section Sums

variable (L : Vec Ideal S640x128 .bf16 → Vec Ideal S640x128 .bf16 → Vec Ideal S1x1x640 .f32 → FVec Ideal S640x640 .f32)
  (x0 : Vec Ideal S640x256 .bf16) (x1 : Vec Ideal S640x512 .bf16) (x2 x3 : Vec Ideal S640x256 .bf16) (x4 x5 : Vec Ideal S2x640x1 .f32) (x6 : Vec Ideal S2x1x640 .f32)
  (u : Vec Ideal S2x1x640 .f32) (xs0 xs1 : Vec Ideal S640x256 .f32) (xs2 : Vec Ideal S8320x256 .f32) (xs3 : Vec Ideal S2x8320x1 .f32)

/-- A head's logits. -/
def tH (a : Fin 2) : FVec Ideal S640x640 .f32 := L (qH x0 a) (kH x1 a) (cH x6 a)
/-- A head's gradients of the logits. -/
def eH (a : Fin 2) : FVec Ideal S640x640 .f32 := dS (vH x1 a) (qH x2 a) (qH x3 a) (rH x5 a) (rH x4 a) (tH L x0 x1 x6 a)
/-- The new sums for the keys, one head. -/
def k1 (a : Fin 2) : FVec Ideal S640x128 .f32 := kN (qH x0 a) (aH xs0 a) (eH L x0 x1 x2 x3 x4 x5 x6 a)
/-- The new sums for the values, one head. -/
def v1 (a : Fin 2) : FVec Ideal S640x128 .f32 := vN (qH x2 a) (rH x5 a) (rH x4 a) (tH L x0 x1 x6 a) (aH xs1 a)
/-- The new sums for the queries, one head. -/
def q1 (a : Fin 2) : FVec Ideal S640x128 .f32 := qN (kH x1 a) (bH xs2 i a) (eH L x0 x1 x2 x3 x4 x5 x6 a)
/-- The new sums of the rows, one head. -/
def r1 (a : Fin 2) : FVec Ideal S640x1 .f32 := rN (dH xs3 i a) (eH L x0 x1 x2 x3 x4 x5 x6 a)

/-- The new sums for the keys. -/
def gk : Vec Ideal S640x256 .f32 := fun y =>
  k1 L x0 x1 x2 x3 x4 x5 x6 xs0 ⟨(y 1).val / 128, by have h := (y 1).isLt; change _ < 256 at h; omega⟩ (ix2 (y 0) ⟨(y 1).val % 128, Nat.mod_lt _ (by norm_num)⟩)
/-- The new sums for the values. -/
def gv : Vec Ideal S640x256 .f32 := fun y =>
  v1 L x0 x1 x2 x4 x5 x6 xs1 ⟨(y 1).val / 128, by have h := (y 1).isLt; change _ < 256 at h; omega⟩ (ix2 (y 0) ⟨(y 1).val % 128, Nat.mod_lt _ (by norm_num)⟩)
/-- The new sums of the columns. -/
def gc : Vec Ideal S2x1x640 .f32 := fun y => cN (cH u (y 0)) (eH L x0 x1 x2 x3 x4 x5 x6 (y 0)) (ix2 0 (y 2))
/-- The new sums for the queries. -/
def gq : Vec Ideal S8320x256 .f32 := fun y =>
  if (y 0).val / 640 = i.val then
    q1 i L x0 x1 x2 x3 x4 x5 x6 xs2 ⟨(y 1).val / 128, by have h := (y 1).isLt; change _ < 256 at h; omega⟩ (ix2 ⟨(y 0).val % 640, Nat.mod_lt _ (by norm_num)⟩ ⟨(y 1).val % 128, Nat.mod_lt _ (by norm_num)⟩)
  else xs2 y
/-- The new sums of the rows. -/
def gr : Vec Ideal S2x8320x1 .f32 := fun y =>
  if (y 1).val / 640 = i.val then r1 i L x0 x1 x2 x3 x4 x5 x6 xs3 (y 0) (ix2 ⟨(y 1).val % 640, Nat.mod_lt _ (by norm_num)⟩ 0) else xs3 y

theorem gk_at (a : Fin 2) (x : S640x128.Idx) (h) : gk L x0 x1 x2 x3 x4 x5 x6 xs0 (ix2 (x 0) ⟨128 * a.val + (x 1).val, h⟩) = k1 L x0 x1 x2 x3 x4 x5 x6 xs0 a x := by
  have hx : (x 1).val < 128 := (x 1).isLt
  have e1 : (⟨(128 * a.val + (x 1).val) / 128, by omega⟩ : Fin 2) = a := Fin.ext (by show (128 * a.val + (x 1).val) / 128 = a.val; omega)
  have e2 : (ix2 (x 0) ⟨(128 * a.val + (x 1).val) % 128, Nat.mod_lt _ (by norm_num)⟩ : S640x128.Idx) = x := (at2 rfl (show (x 1).val = (128 * a.val + (x 1).val) % 128 by omega)).symm
  show k1 L x0 x1 x2 x3 x4 x5 x6 xs0 ⟨(128 * a.val + (x 1).val) / 128, _⟩ (ix2 (x 0) ⟨(128 * a.val + (x 1).val) % 128, _⟩) = _
  rw [e1, e2]
theorem gv_at (a : Fin 2) (x : S640x128.Idx) (h) : gv L x0 x1 x2 x4 x5 x6 xs1 (ix2 (x 0) ⟨128 * a.val + (x 1).val, h⟩) = v1 L x0 x1 x2 x4 x5 x6 xs1 a x := by
  have hx : (x 1).val < 128 := (x 1).isLt
  have e1 : (⟨(128 * a.val + (x 1).val) / 128, by omega⟩ : Fin 2) = a := Fin.ext (by show (128 * a.val + (x 1).val) / 128 = a.val; omega)
  have e2 : (ix2 (x 0) ⟨(128 * a.val + (x 1).val) % 128, Nat.mod_lt _ (by norm_num)⟩ : S640x128.Idx) = x := (at2 rfl (show (x 1).val = (128 * a.val + (x 1).val) % 128 by omega)).symm
  show v1 L x0 x1 x2 x4 x5 x6 xs1 ⟨(128 * a.val + (x 1).val) / 128, _⟩ (ix2 (x 0) ⟨(128 * a.val + (x 1).val) % 128, _⟩) = _
  rw [e1, e2]
theorem gq_at (a : Fin 2) (x : S640x128.Idx) (h h') : gq i L x0 x1 x2 x3 x4 x5 x6 xs2 (ix2 ⟨640 * i.val + (x 0).val, h'⟩ ⟨128 * a.val + (x 1).val, h⟩) = q1 i L x0 x1 x2 x3 x4 x5 x6 xs2 a x := by
  have hx : (x 1).val < 128 := (x 1).isLt
  have hx0 : (x 0).val < 640 := (x 0).isLt
  have e1 : (⟨(128 * a.val + (x 1).val) / 128, by omega⟩ : Fin 2) = a := Fin.ext (by show (128 * a.val + (x 1).val) / 128 = a.val; omega)
  have e2 : (ix2 ⟨(640 * i.val + (x 0).val) % 640, Nat.mod_lt _ (by norm_num)⟩ ⟨(128 * a.val + (x 1).val) % 128, Nat.mod_lt _ (by norm_num)⟩ : S640x128.Idx) = x :=
    (at2 (show (x 0).val = (640 * i.val + (x 0).val) % 640 by omega) (show (x 1).val = (128 * a.val + (x 1).val) % 128 by omega)).symm
  refine (if_pos (show (640 * i.val + (x 0).val) / 640 = i.val by omega)).trans ?_
  show q1 i L x0 x1 x2 x3 x4 x5 x6 xs2 ⟨(128 * a.val + (x 1).val) / 128, _⟩ (ix2 ⟨(640 * i.val + (x 0).val) % 640, _⟩ ⟨(128 * a.val + (x 1).val) % 128, _⟩) = _
  rw [e1, e2]
theorem gr_at (a : Fin 2) (r : Fin 640) (h) : gr i L x0 x1 x2 x3 x4 x5 x6 xs3 (ix3 a ⟨640 * i.val + r.val, h⟩ 0) = r1 i L x0 x1 x2 x3 x4 x5 x6 xs3 a (ix2 r 0) := by
  have hx0 := r.isLt
  have e2 : (ix2 ⟨(640 * i.val + r.val) % 640, Nat.mod_lt _ (by norm_num)⟩ 0 : S640x1.Idx) = ix2 r 0 :=
    at2 (show (640 * i.val + r.val) % 640 = r.val by omega) rfl
  refine (if_pos (show (640 * i.val + r.val) / 640 = i.val by omega)).trans ?_
  show r1 i L x0 x1 x2 x3 x4 x5 x6 xs3 a (ix2 ⟨(640 * i.val + r.val) % 640, _⟩ 0) = _
  rw [e2]

end Sums

/-- A row stored as a head's part. -/
theorem row_at (v : FVec Ideal S1x640 .f32) (x : S1x1x640.Idx) : shapeCast S1x1x640 v shapeCasts_S1x640_S1x1x640 x = v (ix2 0 (x 2)) := by
  pointwise
/-- A column stored as a head's part. -/
theorem col_at (v : FVec Ideal S640x1 .f32) (x : S1x640x1.Idx) : shapeCast S1x640x1 v shapeCasts_S640x1_S1x640x1 x = v (ix2 (x 1) 0) := by
  pointwise
theorem same_at (v : FVec Ideal S640x128 .f32) (x : S640x128.Idx) : shapeCast S640x128 v shapeCasts_S640x128_S640x128 x = v x := by
  pointwise

/-! ## Where the rows of a point begin -/

theorem off1 : ∀ t : Fin cfg0.N, (k0_off1 (grid0.coords t) = ![0, 640 * (t.val % 13), 0] ∧ k0_off2 (grid0.coords t) = ![1, 640 * (t.val % 13), 0]) ∧ k0_off3 (grid0.coords t) = ![640 * (t.val % 13), 0] ∧ k0_off4 (grid0.coords t) = ![640 * (t.val % 13), 128] := by
  change ∀ t : Fin grid0.N, _
  decide +kernel
theorem off5 : ∀ t : Fin cfg0.N, (k0_off5 (grid0.coords t) = ![0, 640 * (t.val % 13), 0] ∧ k0_off6 (grid0.coords t) = ![1, 640 * (t.val % 13), 0]) ∧ k0_off7 (grid0.coords t) = ![640 * (t.val % 13), 0] ∧ k0_off8 (grid0.coords t) = ![640 * (t.val % 13), 128] := by
  change ∀ t : Fin grid0.N, _
  decide +kernel

/-! ## Two stores, one for each head -/

section Two

variable {sig : RefSig} {kd : Kind} {sp : Space}

theorem two_a {v : View sig kd sp S640x256 .f32} {f} {G : Vec Ideal S640x256 .f32} {M inb1 inb0 c1 c0} (V : Fin 2 → FVec Ideal S640x128 .f32)
    (h : ∀ (a : Fin 2) (x : S640x128.Idx) (h), G (ix2 (x 0) ⟨128 * a.val + (x 1).val, h⟩) = V a x) :
    v.read (Elt Ideal) (v.writes (Elt Ideal) f (⟨Rect.unit ![0, 128] ![640, 128] inb1, shapeCast S640x128 (V 1) c1⟩ :: ⟨Rect.unit ![0, 0] ![640, 128] inb0, shapeCast S640x128 (V 0) c0⟩ :: M)) = G := by
  refine read_two v f G _ _ M ?_ ?_ ?_
  · exact fun x => (same_at _ x).trans ((congrArg G (emb_a 1 128 rfl inb1 x)).trans (h 1 x _)).symm
  · exact fun x => (same_at _ x).trans ((congrArg G (emb_a 0 0 rfl inb0 x)).trans (h 0 x _)).symm
  · intro y n1 n0
    have h : (y 1).val < 256 := (y 1).isLt
    rcases (by omega : (y 1).val / 128 = 1 ∨ (y 1).val / 128 = 0) with h | h
    · exact absurd (mem_a 1 128 rfl inb1 y h) n1
    · exact absurd (mem_a 0 0 rfl inb0 y h) n0

theorem two_c {v : View sig kd sp S2x1x640 .f32} {f} {G : Vec Ideal S2x1x640 .f32} {M inb1 inb0 c1 c0} (V : Fin 2 → FVec Ideal S1x640 .f32)
    (h : ∀ (a : Fin 2) (r : Fin 640), G (ix3 a 0 r) = V a (ix2 0 r)) :
    v.read (Elt Ideal) (v.writes (Elt Ideal) f (⟨Rect.unit ![1, 0, 0] ![1, 1, 640] inb1, shapeCast S1x1x640 (V 1) c1⟩ :: ⟨Rect.unit ![0, 0, 0] ![1, 1, 640] inb0, shapeCast S1x1x640 (V 0) c0⟩ :: M)) = G := by
  refine read_two v f G _ _ M ?_ ?_ ?_
  · exact fun x => (row_at _ x).trans ((congrArg G (emb_c 1 1 rfl inb1 x)).trans (h 1 _)).symm
  · exact fun x => (row_at _ x).trans ((congrArg G (emb_c 0 0 rfl inb0 x)).trans (h 0 _)).symm
  · intro y n1 n0
    have h : (y 0).val < 2 := (y 0).isLt
    rcases (by omega : (y 0).val = 1 ∨ (y 0).val = 0) with h | h
    · exact absurd (mem_c 1 inb1 y h) n1
    · exact absurd (mem_c 0 inb0 y h) n0

theorem two_b {i : Fin 13} {v : View sig kd sp S8320x256 .f32} {f} {G X : Vec Ideal S8320x256 .f32} {M o1 o0 inb1 inb0 c1 c0}
    (w0 : o0 = ![640 * i.val, 0]) (w1 : o1 = ![640 * i.val, 128]) (V : Fin 2 → FVec Ideal S640x128 .f32)
    (h : ∀ (a : Fin 2) (x : S640x128.Idx) (h h'), G (ix2 ⟨640 * i.val + (x 0).val, h'⟩ ⟨128 * a.val + (x 1).val, h⟩) = V a x)
    (hX : ∀ y, ¬ (y 0).val / 640 = i.val → G y = X y) (hM : v.read (Elt Ideal) (v.writes (Elt Ideal) f M) = X) :
    v.read (Elt Ideal) (v.writes (Elt Ideal) f (⟨Rect.unit o1 ![640, 128] inb1, shapeCast S640x128 (V 1) c1⟩ :: ⟨Rect.unit o0 ![640, 128] inb0, shapeCast S640x128 (V 0) c0⟩ :: M)) = G := by
  refine read_two v f G _ _ M ?_ ?_ ?_
  · exact fun x => (same_at _ x).trans ((congrArg G (emb_b i 1 _ w1 inb1 x)).trans (h 1 x _ _)).symm
  · exact fun x => (same_at _ x).trans ((congrArg G (emb_b i 0 _ w0 inb0 x)).trans (h 0 x _ _)).symm
  · intro y n1 n0
    have h : (y 1).val < 256 := (y 1).isLt
    refine (congrFun hM y).trans (hX y fun e => ?_).symm
    rcases (by omega : (y 1).val / 128 = 1 ∨ (y 1).val / 128 = 0) with h | h
    · exact n1 (mem_b i 1 _ w1 inb1 y h e)
    · exact n0 (mem_b i 0 _ w0 inb0 y h e)

theorem two_d {i : Fin 13} {v : View sig kd sp S2x8320x1 .f32} {f} {G X : Vec Ideal S2x8320x1 .f32} {M o1 o0 inb1 inb0 c1 c0}
    (w0 : o0 = ![0, 640 * i.val, 0]) (w1 : o1 = ![1, 640 * i.val, 0]) (V : Fin 2 → FVec Ideal S640x1 .f32)
    (h : ∀ (a : Fin 2) (r : Fin 640) (h), G (ix3 a ⟨640 * i.val + r.val, h⟩ 0) = V a (ix2 r 0))
    (hX : ∀ y, ¬ (y 1).val / 640 = i.val → G y = X y) (hM : v.read (Elt Ideal) (v.writes (Elt Ideal) f M) = X) :
    v.read (Elt Ideal) (v.writes (Elt Ideal) f (⟨Rect.unit o1 ![1, 640, 1] inb1, shapeCast S1x640x1 (V 1) c1⟩ :: ⟨Rect.unit o0 ![1, 640, 1] inb0, shapeCast S1x640x1 (V 0) c0⟩ :: M)) = G := by
  refine read_two v f G _ _ M ?_ ?_ ?_
  · exact fun x => (col_at _ x).trans ((congrArg G (emb_d i 1 _ w1 inb1 x)).trans (h 1 _ _)).symm
  · exact fun x => (col_at _ x).trans ((congrArg G (emb_d i 0 _ w0 inb0 x)).trans (h 0 _ _)).symm
  · intro y n1 n0
    have h : (y 0).val < 2 := (y 0).isLt
    refine (congrFun hM y).trans (hX y fun e => ?_).symm
    rcases (by omega : (y 0).val = 1 ∨ (y 0).val = 0) with h | h
    · exact n1 (mem_d i 1 _ w1 inb1 y h e)
    · exact n0 (mem_d i 0 _ w0 inb0 y h e)

end Two

/-- The loads of one head's part. -/
def loads := And.intro (ld_q 0 0 rfl) (And.intro (ld_q 1 128 rfl) (And.intro (ld_a 0 0 rfl) (And.intro (ld_a 1 128 rfl) (And.intro (ld_k 0 0 rfl) (And.intro (ld_k 1 256 rfl)
  (And.intro (ld_v 0 128 rfl) (And.intro (ld_v 1 384 rfl) (And.intro (ld_c 0 0 rfl) (And.intro (ld_c 1 1 rfl) (And.intro (ld_r 0 0 rfl) (ld_r 1 1 rfl)))))))))))

end Cert.AttnB

end
-- ==== Proof.AttnB.Step.lean ====
/- One block of rows and keys taken into the gradient's running sums. -/
module

public import proofs.«01_k».proof.Proof.AttnB.Model
public import proofs.«01_k».proof.Proof.AttnB.Parts

@[expose] public section

noncomputable section

namespace Cert.AttnB

open Finset Idealize.ShloMosaic Idealize.ShloMosaic.TcCoe Cert.Products Cert.Kernel21Ideal Cert.Kernel21Ideal.Gen
open Cert.Attn (qk wt ws wv vl sc coe_sum exp2_real range_cut)

variable (px pq pk pd : ℕ → ℕ → ℝ)

/-- The blocks a step reads hold reals: row block `i`, key block `j`, group of heads `g`. -/
structure Blk (x0 : Vec Ideal S640x256 .bf16) (x1 : Vec Ideal S640x512 .bf16) (x2 x3 : Vec Ideal S640x256 .bf16) (x4 x5 : Vec Ideal S2x640x1 .f32) (x6 : Vec Ideal S2x1x640 .f32) (g i j : ℕ) : Prop where
  h0 : ∀ (r : Fin 640) (e : Fin 256), (x0 (ix2 r e) : EReal) = (px (640 * i + r.val) (256 * g + e.val) : EReal)
  h1 : ∀ (r : Fin 640) (e : Fin 512), (x1 (ix2 r e) : EReal) = (px (640 * j + r.val) (1024 + 512 * g + e.val) : EReal)
  h2 : ∀ (r : Fin 640) (e : Fin 256), (x2 (ix2 r e) : EReal) = (go pd (640 * i + r.val) (256 * g + e.val) : EReal)
  h3 : ∀ (r : Fin 640) (a : Fin 2) (d : Fin 128) (h), (x3 (ix2 r ⟨128 * a.val + d.val, h⟩) : EReal) = (om px pq pk (2 * g + a.val) (640 * i + r.val) d.val : EReal)
  h4 : ∀ (a : Fin 2) (r : Fin 640), (x4 (ix3 a r 0) : EReal) = ((Real.log (ws px pq pk 8320 (2 * g + a.val) (640 * i + r.val)) / Real.log 2 : ℝ) : EReal)
  h5 : ∀ (a : Fin 2) (r : Fin 640), (x5 (ix3 a r 0) : EReal) = (pq (2 * g + a.val) (640 * i + r.val) : EReal)
  h6 : ∀ (a : Fin 2) (r : Fin 640), (x6 (ix3 a 0 r) : EReal) = (pk (2 * g + a.val) (640 * j + r.val) : EReal)

variable {px pq pk pd} {x0 : Vec Ideal S640x256 .bf16} {x1 : Vec Ideal S640x512 .bf16} {x2 x3 : Vec Ideal S640x256 .bf16} {x4 x5 : Vec Ideal S2x640x1 .f32} {x6 : Vec Ideal S2x1x640 .f32} {g i j : ℕ}

theorem q_real (B : Blk px pq pk pd x0 x1 x2 x3 x4 x5 x6 g i j) (a : Fin 2) (r : Fin 640) (d : Fin 128) : (qH x0 a (ix2 r d) : EReal) = (px (640 * i + r.val) (128 * (2 * g + a.val) + d.val) : EReal) :=
  (B.h0 r _).trans (congrArg (fun n => ((px (640 * i + r.val) n : ℝ) : EReal)) (show 256 * g + (128 * a.val + d.val) = 128 * (2 * g + a.val) + d.val by omega))
theorem k_real (B : Blk px pq pk pd x0 x1 x2 x3 x4 x5 x6 g i j) (a : Fin 2) (r : Fin 640) (d : Fin 128) : (kH x1 a (ix2 r d) : EReal) = (px (640 * j + r.val) (1024 + 256 * (2 * g + a.val) + d.val) : EReal) :=
  (B.h1 r _).trans (congrArg (fun n => ((px (640 * j + r.val) n : ℝ) : EReal)) (show 1024 + 512 * g + (256 * a.val + d.val) = 1024 + 256 * (2 * g + a.val) + d.val by omega))
theorem v_real (B : Blk px pq pk pd x0 x1 x2 x3 x4 x5 x6 g i j) (a : Fin 2) (r : Fin 640) (d : Fin 128) : (vH x1 a (ix2 r d) : EReal) = (vl px (2 * g + a.val) (640 * j + r.val) d.val : EReal) :=
  (B.h1 r _).trans (congrArg (fun n => ((px (640 * j + r.val) n : ℝ) : EReal)) (show 1024 + 512 * g + (256 * a.val + 128 + d.val) = 1024 + 256 * (2 * g + a.val) + 128 + d.val by omega))
theorem do_real (B : Blk px pq pk pd x0 x1 x2 x3 x4 x5 x6 g i j) (a : Fin 2) (r : Fin 640) (d : Fin 128) : (qH x2 a (ix2 r d) : EReal) = (go pd (640 * i + r.val) (128 * (2 * g + a.val) + d.val) : EReal) :=
  (B.h2 r _).trans (congrArg (fun n => ((go pd (640 * i + r.val) n : ℝ) : EReal)) (show 256 * g + (128 * a.val + d.val) = 128 * (2 * g + a.val) + d.val by omega))
theorem o_real (B : Blk px pq pk pd x0 x1 x2 x3 x4 x5 x6 g i j) (a : Fin 2) (r : Fin 640) (d : Fin 128) : (qH x3 a (ix2 r d) : EReal) = (om px pq pk (2 * g + a.val) (640 * i + r.val) d.val : EReal) :=
  B.h3 r a d _

theorem logit_real (B : Blk px pq pk pd x0 x1 x2 x3 x4 x5 x6 g i j) (a : Fin 2) (r c : Fin 640) : (logit (qH x0 a) (kH x1 a) (cH x6 a) (ix2 r c) : EReal)
    = ((qk px (2 * g + a.val) (640 * i + r.val) (640 * j + c.val) * ((Real.log 2)⁻¹ * (Real.sqrt 128)⁻¹) - pk (2 * g + a.val) (640 * j + c.val) * (Real.log 2)⁻¹ : ℝ) : EReal) := by
  rw [logit_at]
  have e : dotNT (K := 128) (M := 640) (N := 640) (qH x0 a) (kH x1 a) r c = ((qk px (2 * g + a.val) (640 * i + r.val) (640 * j + c.val) : ℝ) : EReal) := by
    unfold dotNT qk
    rw [coe_sum]
    refine Finset.sum_congr rfl fun d _ => ?_
    rw [EReal.coe_mul]
    exact congrArg₂ (· * ·) (q_real B a r d) (k_real B a c d)
  rw [e, show (cH x6 a (ix3 0 0 c) : EReal) = _ from B.h6 a c]
  unfold l2s l2e
  rw [← EReal.coe_mul, ← EReal.coe_mul, ← EReal.coe_sub]

/-- The logits of a step: those of the keys that are not later. -/
def Masked (L : Vec Ideal S640x128 .bf16 → Vec Ideal S640x128 .bf16 → Vec Ideal S1x1x640 .f32 → FVec Ideal S640x640 .f32)
    (x0 : Vec Ideal S640x256 .bf16) (x1 : Vec Ideal S640x512 .bf16) (x6 : Vec Ideal S2x1x640 .f32) (i j : ℕ) : Prop :=
  ∀ (a : Fin 2) (r c : Fin 640), (tH L x0 x1 x6 a (ix2 r c) : EReal) = if 640 * j + c.val ≤ 640 * i + r.val then (logit (qH x0 a) (kH x1 a) (cH x6 a) (ix2 r c) : EReal) else ⊥

/-- Below the diagonal nothing is masked. -/
theorem below (hj : j < i) : Masked logit x0 x1 x6 i j := fun a r c => (if_pos (by have := c.isLt; omega)).symm
/-- On the diagonal later rows are masked. -/
theorem diag (hj : j = i) : Masked logitD x0 x1 x6 i j := fun a r c =>
  (logitD_at _ _ _ r c).trans (if_congr (by rw [Fin.le_def]; omega) rfl rfl)

variable {L : Vec Ideal S640x128 .bf16 → Vec Ideal S640x128 .bf16 → Vec Ideal S1x1x640 .f32 → FVec Ideal S640x640 .f32}

/-- A weight. -/
theorem p_real (B : Blk px pq pk pd x0 x1 x2 x3 x4 x5 x6 g i j) (hL : Masked L x0 x1 x6 i j) (a : Fin 2) (r c : Fin 640) :
    (pW (rH x5 a) (rH x4 a) (tH L x0 x1 x6 a) (ix2 r c) : EReal) = (pr px pq pk (2 * g + a.val) (640 * i + r.val) (640 * j + c.val) : EReal) := by
  rw [pW_at, hL a r c, ← pr_two]
  have e5 : (rH x5 a (ix3 0 r 0) : EReal) * l2e - (rH x4 a (ix3 0 r 0) : EReal)
      = ((pq (2 * g + a.val) (640 * i + r.val) * (Real.log 2)⁻¹ - Real.log (ws px pq pk 8320 (2 * g + a.val) (640 * i + r.val)) / Real.log 2 : ℝ) : EReal) := by
    rw [show (rH x5 a (ix3 0 r 0) : EReal) = _ from B.h5 a r, show (rH x4 a (ix3 0 r 0) : EReal) = _ from B.h4 a r, EReal.coe_sub, EReal.coe_mul]
    rfl
  rw [e5]
  by_cases h : 640 * j + c.val ≤ 640 * i + r.val
  · rw [if_pos h, if_pos h, logit_real B a r c, ← EReal.coe_add, exp2_real]
  · rw [if_neg h, if_neg h, EReal.bot_add, Ideal.exp2_bot]
    rfl

/-- The gradient of a logit. -/
theorem e_real (B : Blk px pq pk pd x0 x1 x2 x3 x4 x5 x6 g i j) (hL : Masked L x0 x1 x6 i j) (a : Fin 2) (r c : Fin 640) :
    (eH L x0 x1 x2 x3 x4 x5 x6 a (ix2 r c) : EReal) = (ds px pq pk pd (2 * g + a.val) (640 * i + r.val) (640 * j + c.val) : EReal) := by
  unfold eH
  rw [dS_at, p_real B hL a r c]
  have e1 : dotNT (K := 128) (M := 640) (N := 640) (qH x2 a) (vH x1 a) r c = ((dp px pd (2 * g + a.val) (640 * i + r.val) (640 * j + c.val) : ℝ) : EReal) := by
    unfold dotNT dp
    rw [coe_sum]
    refine Finset.sum_congr rfl fun d _ => ?_
    rw [EReal.coe_mul]
    exact congrArg₂ (· * ·) (do_real B a r d) (v_real B a c d)
  have e2 : ∑ d : Fin 128, (qH x2 a (ix2 r d) : EReal) * (qH x3 a (ix2 r d) : EReal) = ((dl px pq pk pd (2 * g + a.val) (640 * i + r.val) : ℝ) : EReal) := by
    unfold dl
    rw [coe_sum]
    refine Finset.sum_congr rfl fun d _ => ?_
    rw [EReal.coe_mul]
    exact congrArg₂ (· * ·) (do_real B a r d) (o_real B a r d)
  rw [e1, e2, ← EReal.coe_sub, ← EReal.coe_mul]
  rfl

/-- A sum and what a block adds. -/
theorem sum_next {n : ℕ} {x y : EReal} (f : ℕ → ℝ) (hx : x = ((∑ c ∈ range (640 * n), f c : ℝ) : EReal)) (hy : y = ((∑ c : Fin 640, f (640 * n + c.val) : ℝ) : EReal)) :
    x + y = ((∑ c ∈ range (640 * (n + 1)), f c : ℝ) : EReal) := by
  rw [hx, hy, ← EReal.coe_add, range_cut]

theorem k_next (B : Blk px pq pk pd x0 x1 x2 x3 x4 x5 x6 g i j) (hL : Masked L x0 x1 x6 i j) (xs0 : Vec Ideal S640x256 .f32) (a : Fin 2) (c : Fin 640) (d : Fin 128)
    (hp : (aH xs0 a (ix2 c d) : EReal) = (sk px pq pk pd (640 * i) (2 * g + a.val) (640 * j + c.val) d.val : EReal)) :
    (k1 L x0 x1 x2 x3 x4 x5 x6 xs0 a (ix2 c d) : EReal) = (sk px pq pk pd (640 * (i + 1)) (2 * g + a.val) (640 * j + c.val) d.val : EReal) := by
  unfold k1
  rw [kN_at]
  refine sum_next (fun R => ds px pq pk pd (2 * g + a.val) R (640 * j + c.val) * px R (128 * (2 * g + a.val) + d.val)) hp ?_
  rw [coe_sum]
  refine Finset.sum_congr rfl fun r _ => ?_
  rw [EReal.coe_mul]
  exact congrArg₂ (· * ·) (e_real B hL a r c) (q_real B a r d)

theorem v_next (B : Blk px pq pk pd x0 x1 x2 x3 x4 x5 x6 g i j) (hL : Masked L x0 x1 x6 i j) (xs1 : Vec Ideal S640x256 .f32) (a : Fin 2) (c : Fin 640) (d : Fin 128)
    (hp : (aH xs1 a (ix2 c d) : EReal) = (sv px pq pk pd (640 * i) (2 * g + a.val) (640 * j + c.val) d.val : EReal)) :
    (v1 L x0 x1 x2 x4 x5 x6 xs1 a (ix2 c d) : EReal) = (sv px pq pk pd (640 * (i + 1)) (2 * g + a.val) (640 * j + c.val) d.val : EReal) := by
  unfold v1
  rw [vN_at]
  refine sum_next (fun R => pr px pq pk (2 * g + a.val) R (640 * j + c.val) * go pd R (128 * (2 * g + a.val) + d.val)) hp ?_
  rw [coe_sum]
  refine Finset.sum_congr rfl fun r _ => ?_
  rw [EReal.coe_mul]
  exact congrArg₂ (· * ·) (p_real B hL a r c) (do_real B a r d)

theorem q_next (I : Fin 13) (B : Blk px pq pk pd x0 x1 x2 x3 x4 x5 x6 g i j) (hL : Masked L x0 x1 x6 i j) (xs2 : Vec Ideal S8320x256 .f32) (a : Fin 2) (r : Fin 640) (d : Fin 128)
    (hp : (bH xs2 I a (ix2 r d) : EReal) = (sq px pq pk pd (640 * j) (2 * g + a.val) (640 * i + r.val) d.val : EReal)) :
    (q1 I L x0 x1 x2 x3 x4 x5 x6 xs2 a (ix2 r d) : EReal) = (sq px pq pk pd (640 * (j + 1)) (2 * g + a.val) (640 * i + r.val) d.val : EReal) := by
  unfold q1
  rw [qN_at]
  refine sum_next (fun C => ds px pq pk pd (2 * g + a.val) (640 * i + r.val) C * px C (1024 + 256 * (2 * g + a.val) + d.val)) hp ?_
  rw [coe_sum]
  refine Finset.sum_congr rfl fun c _ => ?_
  rw [EReal.coe_mul]
  exact congrArg₂ (· * ·) (e_real B hL a r c) (k_real B a c d)

theorem r_next (I : Fin 13) (B : Blk px pq pk pd x0 x1 x2 x3 x4 x5 x6 g i j) (hL : Masked L x0 x1 x6 i j) (xs3 : Vec Ideal S2x8320x1 .f32) (a : Fin 2) (r : Fin 640)
    (hp : (dH xs3 I a (ix3 0 r 0) : EReal) = (sr px pq pk pd (640 * j) (2 * g + a.val) (640 * i + r.val) : EReal)) :
    (r1 I L x0 x1 x2 x3 x4 x5 x6 xs3 a (ix2 r 0) : EReal) = (sr px pq pk pd (640 * (j + 1)) (2 * g + a.val) (640 * i + r.val) : EReal) := by
  unfold r1
  rw [rN_at]
  refine sum_next (fun C => ds px pq pk pd (2 * g + a.val) (640 * i + r.val) C) hp ?_
  rw [coe_sum]
  exact Finset.sum_congr rfl fun c _ => e_real B hL a r c

theorem c_next (B : Blk px pq pk pd x0 x1 x2 x3 x4 x5 x6 g i j) (hL : Masked L x0 x1 x6 i j) (u : Vec Ideal S2x1x640 .f32) (a : Fin 2) (c : Fin 640)
    (hp : (u (ix3 a 0 c) : EReal) = ((-su px pq pk pd (640 * i) (2 * g + a.val) (640 * j + c.val) : ℝ) : EReal)) :
    (gc L x0 x1 x2 x3 x4 x5 x6 u (ix3 a 0 c) : EReal) = ((-su px pq pk pd (640 * (i + 1)) (2 * g + a.val) (640 * j + c.val) : ℝ) : EReal) := by
  refine (cN_at _ _ c).trans ?_
  have e : ∑ r : Fin 640, (eH L x0 x1 x2 x3 x4 x5 x6 a (ix2 r c) : EReal) = ((∑ r : Fin 640, ds px pq pk pd (2 * g + a.val) (640 * i + r.val) (640 * j + c.val) : ℝ) : EReal) := by
    rw [coe_sum]
    exact Finset.sum_congr rfl fun r _ => e_real B hL a r c
  refine (congrArg₂ (· - ·) hp e).trans ?_
  rw [← EReal.coe_sub]
  unfold su
  rw [range_cut]
  exact congrArg _ (by ring)

end Cert.AttnB

end
-- ==== Proof.AttnB.Outs.lean ====
/- What the last point of a column of blocks, and of a group of heads, writes out. -/
module

public import proofs.«01_k».proof.Proof.AttnB.Parts

@[expose] public section

noncomputable section

namespace Cert.AttnB

open Finset Idealize.ShloMosaic Idealize.ShloMosaic.TcCoe Cert.Products Cert.Kernel21Ideal Cert.Kernel21Ideal.Gen
open Cert.Attn (zzz at3)

/-- The keys' and values' gradients written from their sums. -/
def gw (K V : Vec Ideal S640x256 .f32) : Vec Ideal S640x512 .bf16 := k0_pay18 (aH K 0) (aH V 0) (aH K 1) (aH V 1)

variable {sig : RefSig} {kd kd1 kd2 : Kind} {sp sp1 sp2 : Space}

theorem out_w {v : View sig kd sp S640x512 .bf16} {f} {v1 : View sig kd1 sp1 S640x256 .f32} {v2 : View sig kd2 sp2 S640x256 .f32} {L1 L2 inb} {inb0 : ∀ a, (![0, 0] : Fin 2 → ℕ) a + (![640, 128] : Fin 2 → ℕ) a ≤ S640x256.size a} {inb1 : ∀ a, (![0, 128] : Fin 2 → ℕ) a + (![640, 128] : Fin 2 → ℕ) a ≤ S640x256.size a} (K V : Vec Ideal S640x256 .f32)
    (h1 : v1.read (Elt Ideal) (v1.writes (Elt Ideal) v1.junk L1) = K) (h2 : v2.read (Elt Ideal) (v2.writes (Elt Ideal) v2.junk L2) = V) :
    v.read (Elt Ideal) (v.writes (Elt Ideal) f [⟨Rect.unit ![0, 0] ![640, 512] inb, k0_pay18 (F := Ideal) (v1.readCov (Val := Elt Ideal) L1 (Rect.unit (s := S640x256) ![0, 0] ![640, 128] inb0).toLoadRect) (v2.readCov (Val := Elt Ideal) L2 (Rect.unit (s := S640x256) ![0, 0] ![640, 128] inb0).toLoadRect)
      (v1.readCov (Val := Elt Ideal) L1 (Rect.unit (s := S640x256) ![0, 128] ![640, 128] inb1).toLoadRect) (v2.readCov (Val := Elt Ideal) L2 (Rect.unit (s := S640x256) ![0, 128] ![640, 128] inb1).toLoadRect)⟩]) = gw K V := by
  refine (read_all _ _ zz _ _).trans ?_
  unfold View.readCov gw
  rw [View.readAt_eq_ld, View.readAt_eq_ld, View.readAt_eq_ld, View.readAt_eq_ld, h1, h2, ld_a 0 0 rfl, ld_a 0 0 rfl, ld_a 1 128 rfl, ld_a 1 128 rfl]

theorem out_q {v : View sig kd sp S8320x256 .bf16} {f} {X : Vec Ideal S8320x256 .f32} {inb inb0} (Q : Vec Ideal S8320x256 .f32) (h : X = Q) :
    v.read (Elt Ideal) (v.writes (Elt Ideal) f [⟨Rect.unit ![0, 0] ![8320, 256] inb, k0_pay19 (F := Ideal) (View.ld (Val := Elt Ideal) (S := S8320x256) (e' := .f32) X (Rect.unit ![0, 0] ![8320, 256] inb0))⟩]) = k0_pay19 (F := Ideal) Q := by
  subst h
  refine (read_all _ _ zz _ _).trans (congrArg _ ?_)
  exact funext fun y => congrArg X ((at2 (show 0 + 1 * (y 0).val = (y 0).val by omega) (show 0 + 1 * (y 1).val = (y 1).val by omega)).trans (at2 rfl rfl).symm)

theorem out_r {v : View sig kd sp S2x8320x1 .f32} {f} {X : Vec Ideal S2x8320x1 .f32} {inb inb0} (R : Vec Ideal S2x8320x1 .f32) (h : X = R) :
    v.read (Elt Ideal) (v.writes (Elt Ideal) f [⟨Rect.unit ![0, 0, 0] ![2, 8320, 1] inb, View.ld (Val := Elt Ideal) (S := S2x8320x1) (e' := .f32) X (Rect.unit ![0, 0, 0] ![2, 8320, 1] inb0)⟩]) = R := by
  subst h
  refine (read_all _ _ zzz _ _).trans ?_
  exact funext fun y => congrArg X ((at3 (show 0 + 1 * (y 0).val = (y 0).val by omega) (show 0 + 1 * (y 1).val = (y 1).val by omega) (show 0 + 1 * (y 2).val = (y 2).val by omega)).trans (at3 rfl rfl rfl).symm)

end Cert.AttnB

end
-- ==== Proof.AttnB.Sums.lean ====
/- The running sums at a point, and how a block changes them. -/
module

public import proofs.«01_k».proof.Proof.AttnB.Step
public import proofs.«01_k».proof.Proof.AttnB.Outs

@[expose] public section

noncomputable section

namespace Cert.AttnB

open Finset Idealize.ShloMosaic Idealize.ShloMosaic.TcCoe Cert.Products Cert.Kernel21Ideal Cert.Kernel21Ideal.Gen
open Cert.Attn (range_cut at3)

/-- The sums of a group of heads when the first `i` blocks of rows of key block `j` have been taken in. -/
structure Sums (px pq pk pd : ℕ → ℕ → ℝ) (g i j : ℕ) (K V : Vec Ideal S640x256 .f32) (Q : Vec Ideal S8320x256 .f32) (R : Vec Ideal S2x8320x1 .f32) (u : Vec Ideal S2x1x640 .f32) : Prop where
  k : ∀ (a : Fin 2) (x : Fin 640) (d : Fin 128), (aH K a (ix2 x d) : EReal) = (sk px pq pk pd (640 * i) (2 * g + a.val) (640 * j + x.val) d.val : EReal)
  v : ∀ (a : Fin 2) (x : Fin 640) (d : Fin 128), (aH V a (ix2 x d) : EReal) = (sv px pq pk pd (640 * i) (2 * g + a.val) (640 * j + x.val) d.val : EReal)
  q : ∀ (I : Fin 13) (a : Fin 2) (x : Fin 640) (d : Fin 128), (bH Q I a (ix2 x d) : EReal) = (sq px pq pk pd (640 * (if I.val < i then j + 1 else j)) (2 * g + a.val) (640 * I.val + x.val) d.val : EReal)
  r : ∀ (I : Fin 13) (a : Fin 2) (x : Fin 640), (dH R I a (ix3 0 x 0) : EReal) = (sr px pq pk pd (640 * (if I.val < i then j + 1 else j)) (2 * g + a.val) (640 * I.val + x.val) : EReal)
  u : ∀ (a : Fin 2) (x : Fin 640), (u (ix3 a 0 x) : EReal) = ((-su px pq pk pd (640 * i) (2 * g + a.val) (640 * j + x.val) : ℝ) : EReal)

variable {px pq pk pd : ℕ → ℕ → ℝ} {g j : ℕ} {K V : Vec Ideal S640x256 .f32} {Q : Vec Ideal S8320x256 .f32} {R : Vec Ideal S2x8320x1 .f32} {u : Vec Ideal S2x1x640 .f32}

theorem zero1 (y : S2x1x640.Idx) : (k0_pay1 (F := Ideal) y : EReal) = 0 := Ideal.ofBits_zero .f32
theorem zero2 (y : S640x256.Idx) : (k0_pay2 (F := Ideal) y : EReal) = 0 := Ideal.ofBits_zero .f32
theorem zero3 (y : S640x256.Idx) : (k0_pay3 (F := Ideal) y : EReal) = 0 := Ideal.ofBits_zero .f32
theorem zero4 (y : S8320x256.Idx) : (k0_pay4 (F := Ideal) y : EReal) = 0 := Ideal.ofBits_zero .f32
theorem zero5 (y : S2x8320x1.Idx) : (k0_pay5 (F := Ideal) y : EReal) = 0 := Ideal.ofBits_zero .f32

/-- Before anything is taken in. -/
theorem start (px pq pk pd : ℕ → ℕ → ℝ) (g : ℕ) : Sums px pq pk pd g 0 0 (k0_pay2 (F := Ideal)) (k0_pay3 (F := Ideal)) (k0_pay4 (F := Ideal)) (k0_pay5 (F := Ideal)) (k0_pay1 (F := Ideal)) where
  k a x d := (zero2 _).trans (by unfold sk; simp)
  v a x d := (zero3 _).trans (by unfold sv; simp)
  q I a x d := (zero4 _).trans (by unfold sq; simp)
  r I a x := (zero5 _).trans (by unfold sr; simp)
  u a x := (zero1 _).trans (by unfold su; simp)

/-- The next column of blocks begins. -/
theorem Sums.col (S : Sums px pq pk pd g 13 j K V Q R u) {s0 s1 o} (e : s0 = k0_pay2 (F := Ideal) ∧ s1 = k0_pay3 (F := Ideal) ∧ o = k0_pay1 (F := Ideal)) : Sums px pq pk pd g 0 (j + 1) s0 s1 Q R o := by
  obtain ⟨rfl, rfl, rfl⟩ := e
  exact {
    k := fun a x d => (zero2 _).trans (by unfold sk; simp)
    v := fun a x d => (zero3 _).trans (by unfold sv; simp)
    q := fun I a x d => by
      have h := S.q I a x d
      rw [if_pos I.isLt] at h
      rw [if_neg (Nat.not_lt_zero _)]
      exact h
    r := fun I a x => by
      have h := S.r I a x
      rw [if_pos I.isLt] at h
      rw [if_neg (Nat.not_lt_zero _)]
      exact h
    u := fun a x => (zero1 _).trans (by unfold su; simp) }

/-- A block that adds nothing. -/
theorem idle (f : ℕ → ℝ) (n : ℕ) (h : ∀ r : Fin 640, f (640 * n + r.val) = 0) : ∑ c ∈ range (640 * (n + 1)), f c = ∑ c ∈ range (640 * n), f c := by
  rw [range_cut, Finset.sum_eq_zero fun r _ => h r, add_zero]

/-- A block above the diagonal is left out. -/
theorem Sums.skip (i : ℕ) (hij : i < j) (S : Sums px pq pk pd g i j K V Q R u) : Sums px pq pk pd g (i + 1) j K V Q R u where
  k a x d := (S.k a x d).trans (congrArg Real.toEReal (idle _ i fun r => by have := r.isLt; rw [ds_later _ _ _ _ _ _ _ (by omega), zero_mul]).symm)
  v a x d := (S.v a x d).trans (congrArg Real.toEReal (idle _ i fun r => by have := r.isLt; rw [pr_later _ _ _ _ _ _ (by omega), zero_mul]).symm)
  q I a x d := by
    refine (S.q I a x d).trans (congrArg Real.toEReal ?_)
    by_cases e : I.val = i
    · rw [if_neg (by omega), if_pos (by omega)]
      exact (idle _ j fun r => by have := x.isLt; rw [ds_later _ _ _ _ _ _ _ (by omega), zero_mul]).symm
    · rw [if_congr (show I.val < i ↔ I.val < i + 1 by omega) rfl rfl]
  r I a x := by
    refine (S.r I a x).trans (congrArg Real.toEReal ?_)
    by_cases e : I.val = i
    · rw [if_neg (by omega), if_pos (by omega)]
      exact (idle _ j fun r => by have := x.isLt; rw [ds_later _ _ _ _ _ _ _ (by omega)]).symm
    · rw [if_congr (show I.val < i ↔ I.val < i + 1 by omega) rfl rfl]
  u a x := (S.u a x).trans (congrArg (fun z : ℝ => ((-z : ℝ) : EReal)) (idle _ i fun r => by have := r.isLt; rw [ds_later _ _ _ _ _ _ _ (by omega)]).symm)

variable {x0 : Vec Ideal S640x256 .bf16} {x1 : Vec Ideal S640x512 .bf16} {x2 x3 : Vec Ideal S640x256 .bf16} {x4 x5 : Vec Ideal S2x640x1 .f32} {x6 : Vec Ideal S2x1x640 .f32}
  {L : Vec Ideal S640x128 .bf16 → Vec Ideal S640x128 .bf16 → Vec Ideal S1x1x640 .f32 → FVec Ideal S640x640 .f32}

/-- A block is taken in. -/
theorem Sums.take (i : Fin 13) (B : Blk px pq pk pd x0 x1 x2 x3 x4 x5 x6 g i.val j) (hL : Masked L x0 x1 x6 i.val j) (S : Sums px pq pk pd g i.val j K V Q R u) {s0 s1 s2 s3 o}
    (e : s0 = gk L x0 x1 x2 x3 x4 x5 x6 K ∧ s1 = gv L x0 x1 x2 x4 x5 x6 V ∧ s2 = gq i L x0 x1 x2 x3 x4 x5 x6 Q ∧ s3 = gr i L x0 x1 x2 x3 x4 x5 x6 R ∧ o = gc L x0 x1 x2 x3 x4 x5 x6 u) :
    Sums px pq pk pd g (i.val + 1) j s0 s1 s2 s3 o := by
  obtain ⟨rfl, rfl, rfl, rfl, rfl⟩ := e
  exact {
    k := fun a x d => (gk_at _ _ _ _ _ _ _ _ _ a (ix2 x d) _).trans (k_next B hL K a x d (S.k a x d))
    v := fun a x d => (gv_at _ _ _ _ _ _ _ _ a (ix2 x d) _).trans (v_next B hL V a x d (S.v a x d))
    q := fun I a x d => by
      by_cases e : I = i
      · subst e
        have h := S.q I a x d
        rw [if_neg (lt_irrefl _)] at h
        rw [if_pos (Nat.lt_succ_self _)]
        exact (gq_at I _ _ _ _ _ _ _ _ _ a (ix2 x d) _ _).trans (q_next I B hL Q a x d h)
      · have hx := x.isLt
        have hv : I.val ≠ i.val := fun h => e (Fin.ext h)
        rw [← if_congr (show I.val < i.val ↔ I.val < i.val + 1 by omega) rfl rfl]
        exact (if_neg (show ¬ (640 * I.val + x.val) / 640 = i.val by omega)).trans (S.q I a x d)
    r := fun I a x => by
      by_cases e : I = i
      · subst e
        have h := S.r I a x
        rw [if_neg (lt_irrefl _)] at h
        rw [if_pos (Nat.lt_succ_self _)]
        exact (gr_at I _ _ _ _ _ _ _ _ _ a x _).trans (r_next I B hL R a x h)
      · have hx := x.isLt
        have hv : I.val ≠ i.val := fun h => e (Fin.ext h)
        rw [← if_congr (show I.val < i.val ↔ I.val < i.val + 1 by omega) rfl rfl]
        exact (if_neg (show ¬ (640 * I.val + x.val) / 640 = i.val by omega)).trans (S.r I a x)
    u := fun a x => c_next B hL u a x (S.u a x) }

/-! ## What is written at the end -/

theorem out19 (Q : Vec Ideal S8320x256 .f32) (y : S8320x256.Idx) : (k0_pay19 (F := Ideal) Q y : EReal) = (Q y : EReal) * isw := by
  unfold k0_pay19
  rw [named_isw]
  pointwise

theorem beside (A B C D : S640x128.Idx → EReal) (hc : Shape.Concatenates [S640x128, S640x128, S640x128, S640x128] S640x512 1) (x : Fin 640) (e : Fin 512) :
    concatenate S640x512 1 [⟨S640x128, A⟩, ⟨S640x128, B⟩, ⟨S640x128, C⟩, ⟨S640x128, D⟩] hc (ix2 x e)
      = if h0 : e.val < 128 then A (ix2 x ⟨e.val, h0⟩)
        else if h1 : e.val - 128 < 128 then B (ix2 x ⟨e.val - 128, h1⟩)
        else if h2 : e.val - 128 - 128 < 128 then C (ix2 x ⟨e.val - 128 - 128, h2⟩)
        else D (ix2 x ⟨e.val - 128 - 128 - 128, by omega⟩) := by
  pointwise

theorem out18 (K V : Vec Ideal S640x256 .f32) (x : Fin 640) (e : Fin 512) :
    (gw K V (ix2 x e) : EReal) = if e.val % 256 < 128 then (aH K ⟨e.val / 256, by omega⟩ (ix2 x ⟨e.val % 128, by omega⟩) : EReal) * isw else (aH V ⟨e.val / 256, by omega⟩ (ix2 x ⟨e.val % 128, by omega⟩) : EReal) := by
  have he := e.isLt
  refine (beside (mulf (aH K 0) (broadcast S640x128 (Named.named (F := Ideal) κ "scale" (φ := .f32) 0x3DB504F3#32))) (aH V 0) (mulf (aH K 1) (broadcast S640x128 (Named.named (F := Ideal) κ "scale" (φ := .f32) 0x3DB504F3#32))) (aH V 1)
    concatenates_S640x128_S640x128_S640x128_S640x128_S640x512_d1 x e).trans ?_
  have hs : ∀ (A : Vec Ideal S640x128 .f32) (y : S640x128.Idx), (mulf A (broadcast S640x128 (Named.named (F := Ideal) κ "scale" (φ := .f32) 0x3DB504F3#32)) y : EReal) = (A y : EReal) * isw := fun A y => by
    rw [named_isw]
    rfl
  split
  · rw [if_pos (by omega), hs]
    refine congrArg (· * isw) ?_
    exact congr (congrArg (aH K) (Fin.ext (show 0 = e.val / 256 by omega))) (at2 rfl (show e.val = e.val % 128 by omega))
  split
  · rw [if_neg (by omega)]
    exact congr (congrArg (aH V) (Fin.ext (show 0 = e.val / 256 by omega))) (at2 rfl (show e.val - 128 = e.val % 128 by omega))
  split
  · rw [if_pos (by omega), hs]
    refine congrArg (· * isw) ?_
    exact congr (congrArg (aH K) (Fin.ext (show 1 = e.val / 256 by omega))) (at2 rfl (show e.val - 128 - 128 = e.val % 128 by omega))
  · rw [if_neg (by omega)]
    exact congr (congrArg (aH V) (Fin.ext (show 1 = e.val / 256 by omega))) (at2 rfl (show e.val - 128 - 128 - 128 = e.val % 128 by omega))

end Cert.AttnB

end
-- ==== Proof.AttnB.CaseA.lean ====
/- The first point of a group of heads: the sums are cleared and the first block, on the diagonal, is taken in. -/
module

public import proofs.«01_k».proof.Proof.AttnB.Parts
public import proofs.«01_k».proof.Proof.Gen.Kernel21Ideal.Frame

@[expose] public section

noncomputable section

namespace Cert.AttnB

open Finset Idealize.ShloMosaic Idealize.ShloMosaic.TcCoe Cert.Products Cert.Kernel21Ideal Cert.Kernel21Ideal.Gen

/-- What the point leaves. -/
theorem caseA (c : Dev nD) (t : Fin cfg0.N) (i : Fin 13) (hi : t.val % 13 = i.val) {m0 : Memref sig .tc .vmem S640x256 .bf16} (h0 : m0.IsWhole) {m1 : Memref sig .tc .vmem S640x512 .bf16} (h1 : m1.IsWhole) {m2 : Memref sig .tc .vmem S640x256 .bf16} (h2 : m2.IsWhole) {m3 : Memref sig .tc .vmem S640x256 .bf16} (h3 : m3.IsWhole) {m4 : Memref sig .tc .vmem S2x640x1 .f32} (h4 : m4.IsWhole) {m5 : Memref sig .tc .vmem S2x640x1 .f32} (h5 : m5.IsWhole) {m6 : Memref sig .tc .vmem S2x1x640 .f32} (h6 : m6.IsWhole) {m7 : Memref sig .tc .vmem S8320x256 .bf16} (h7 : m7.IsWhole) {m8 : Memref sig .tc .vmem S640x512 .bf16} (h8 : m8.IsWhole) {m9 : Memref sig .tc .vmem S2x8320x1 .f32} (h9 : m9.IsWhole) {m10 : Memref sig .tc .vmem S2x1x640 .f32} (h10 : m10.IsWhole) {m11 : Memref sig .tc .vmem S640x256 .f32} (h11 : m11.IsWhole) {m12 : Memref sig .tc .vmem S640x256 .f32} (h12 : m12.IsWhole) {m13 : Memref sig .tc .vmem S8320x256 .f32} (h13 : m13.IsWhole) {m14 : Memref sig .tc .vmem S2x8320x1 .f32} (h14 : m14.IsWhole) (x0 : Vec Ideal S640x256 .bf16) (x1 : Vec Ideal S640x512 .bf16) (x2 x3 : Vec Ideal S640x256 .bf16) (x4 x5 : Vec Ideal S2x640x1 .f32) (x6 : Vec Ideal S2x1x640 .f32) (hc0 hc1 hc2 hc3 hc4 hc5) :
    sout0_A_0 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 = gk logitD x0 x1 x2 x3 x4 x5 x6 (k0_pay2 (F := Ideal))
    ∧ sout0_A_1 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 = gv logitD x0 x1 x2 x4 x5 x6 (k0_pay3 (F := Ideal))
    ∧ sout0_A_2 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 = gq i logitD x0 x1 x2 x3 x4 x5 x6 (k0_pay4 (F := Ideal))
    ∧ sout0_A_3 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 = gr i logitD x0 x1 x2 x3 x4 x5 x6 (k0_pay5 (F := Ideal))
    ∧ out0_A_10 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 = gc logitD x0 x1 x2 x3 x4 x5 x6 (k0_pay1 (F := Ideal)) := by
  obtain ⟨⟨w1, w2⟩, w3, w4⟩ := hi ▸ off5 t
  unfold sout0_A_0 sout0_A_1 sout0_A_2 sout0_A_3 out0_A_10 kernelRun0_A
  dsimp only
  sl_unfold_run_names
  simp only [View.readAt_eq_ld, Memref.IsWhole.read_unread]
  simp only [cov_a, cov_b, cov_c, cov_d]
  simp only [loads, ld_b i 0 _ w3, ld_b i 1 _ w4, ld_d i 0 _ w1, ld_d i 1 _ w2]
  have e3 : m13.view.read (Elt Ideal) (m13.view.writes (Elt Ideal) m13.view.junk [⟨Rect.unit ![0, 0] ![8320, 256] inb_S8320x256_S8320x256_0_0, k0_pay4 (F := Ideal)⟩]) = k0_pay4 (F := Ideal) :=
    read_all _ _ zz _ _
  have e4 : m14.view.read (Elt Ideal) (m14.view.writes (Elt Ideal) m14.view.junk [⟨Rect.unit ![0, 0, 0] ![2, 8320, 1] inb_S2x8320x1_S2x8320x1_0_0_0, k0_pay5 (F := Ideal)⟩]) = k0_pay5 (F := Ideal) :=
    read_all _ _ Cert.Attn.zzz _ _
  rw [e3, e4]
  refine ⟨two_a (k1 logitD x0 x1 x2 x3 x4 x5 x6 (k0_pay2 (F := Ideal))) fun a x h => gk_at _ _ _ _ _ _ _ _ _ a x h,
    two_a (v1 logitD x0 x1 x2 x4 x5 x6 (k0_pay3 (F := Ideal))) fun a x h => gv_at _ _ _ _ _ _ _ _ a x h,
    two_b w3 w4 (q1 i logitD x0 x1 x2 x3 x4 x5 x6 (k0_pay4 (F := Ideal))) (fun a x h h' => gq_at i _ _ _ _ _ _ _ _ _ a x h h') (fun y h => if_neg h) (read_all _ _ zz _ _),
    two_d w1 w2 (r1 i logitD x0 x1 x2 x3 x4 x5 x6 (k0_pay5 (F := Ideal))) (fun a r h => gr_at i _ _ _ _ _ _ _ _ _ a r h) (fun y h => if_neg h) (read_all _ _ Cert.Attn.zzz _ _),
    two_c (fun a => cN (cH (k0_pay1 (F := Ideal)) a) (eH logitD x0 x1 x2 x3 x4 x5 x6 a)) fun a r => rfl⟩

end Cert.AttnB

end
-- ==== Proof.AttnB.CaseB.lean ====
/- A block below the diagonal. -/
module

public import proofs.«01_k».proof.Proof.AttnB.Parts
public import proofs.«01_k».proof.Proof.Gen.Kernel21Ideal.Frame

@[expose] public section

noncomputable section

namespace Cert.AttnB

open Finset Idealize.ShloMosaic Idealize.ShloMosaic.TcCoe Cert.Products Cert.Kernel21Ideal Cert.Kernel21Ideal.Gen

/-- What the point leaves. -/
theorem caseB (c : Dev nD) (t : Fin cfg0.N) (i : Fin 13) (hi : t.val % 13 = i.val) {m0 : Memref sig .tc .vmem S640x256 .bf16} (h0 : m0.IsWhole) {m1 : Memref sig .tc .vmem S640x512 .bf16} (h1 : m1.IsWhole) {m2 : Memref sig .tc .vmem S640x256 .bf16} (h2 : m2.IsWhole) {m3 : Memref sig .tc .vmem S640x256 .bf16} (h3 : m3.IsWhole) {m4 : Memref sig .tc .vmem S2x640x1 .f32} (h4 : m4.IsWhole) {m5 : Memref sig .tc .vmem S2x640x1 .f32} (h5 : m5.IsWhole) {m6 : Memref sig .tc .vmem S2x1x640 .f32} (h6 : m6.IsWhole) {m7 : Memref sig .tc .vmem S8320x256 .bf16} (h7 : m7.IsWhole) {m8 : Memref sig .tc .vmem S640x512 .bf16} (h8 : m8.IsWhole) {m9 : Memref sig .tc .vmem S2x8320x1 .f32} (h9 : m9.IsWhole) {m10 : Memref sig .tc .vmem S2x1x640 .f32} (h10 : m10.IsWhole) {m11 : Memref sig .tc .vmem S640x256 .f32} (h11 : m11.IsWhole) {m12 : Memref sig .tc .vmem S640x256 .f32} (h12 : m12.IsWhole) {m13 : Memref sig .tc .vmem S8320x256 .f32} (h13 : m13.IsWhole) {m14 : Memref sig .tc .vmem S2x8320x1 .f32} (h14 : m14.IsWhole) (x0 : Vec Ideal S640x256 .bf16) (x1 : Vec Ideal S640x512 .bf16) (x2 x3 : Vec Ideal S640x256 .bf16) (x4 x5 : Vec Ideal S2x640x1 .f32) (x6 : Vec Ideal S2x1x640 .f32) (u : Vec Ideal S2x1x640 .f32) (xs0 xs1 : Vec Ideal S640x256 .f32) (xs2 : Vec Ideal S8320x256 .f32) (xs3 : Vec Ideal S2x8320x1 .f32) (hc0 hc1 hc2 hc3 hc4 hc5) :
    sout0_B_0 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gk logit x0 x1 x2 x3 x4 x5 x6 xs0
    ∧ sout0_B_1 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gv logit x0 x1 x2 x4 x5 x6 xs1
    ∧ sout0_B_2 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gq i logit x0 x1 x2 x3 x4 x5 x6 xs2
    ∧ sout0_B_3 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gr i logit x0 x1 x2 x3 x4 x5 x6 xs3
    ∧ out0_B_10 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gc logit x0 x1 x2 x3 x4 x5 x6 u := by
  obtain ⟨⟨w1, w2⟩, w3, w4⟩ := hi ▸ off1 t
  unfold sout0_B_0 sout0_B_1 sout0_B_2 sout0_B_3 out0_B_10 kernelRun0_B
  dsimp only
  sl_unfold_run_names
  simp only [View.readAt_eq_ld, Memref.IsWhole.read_unread]
  simp only [loads, ld_b i 0 _ w3, ld_b i 1 _ w4, ld_d i 0 _ w1, ld_d i 1 _ w2]
  refine ⟨two_a (k1 logit x0 x1 x2 x3 x4 x5 x6 xs0) fun a x h => gk_at _ _ _ _ _ _ _ _ _ a x h,
    two_a (v1 logit x0 x1 x2 x4 x5 x6 xs1) fun a x h => gv_at _ _ _ _ _ _ _ _ a x h,
    two_b w3 w4 (q1 i logit x0 x1 x2 x3 x4 x5 x6 xs2) (fun a x h h' => gq_at i _ _ _ _ _ _ _ _ _ a x h h') (fun y h => if_neg h) (h13.read_unread xs2),
    two_d w1 w2 (r1 i logit x0 x1 x2 x3 x4 x5 x6 xs3) (fun a r h => gr_at i _ _ _ _ _ _ _ _ _ a r h) (fun y h => if_neg h) (h14.read_unread xs3),
    two_c (fun a => cN (cH u a) (eH logit x0 x1 x2 x3 x4 x5 x6 a)) fun a r => rfl⟩

end Cert.AttnB

end
-- ==== Proof.AttnB.CaseC.lean ====
/- The last block of a column of blocks, below the diagonal. -/
module

public import proofs.«01_k».proof.Proof.AttnB.Outs
public import proofs.«01_k».proof.Proof.Gen.Kernel21Ideal.Frame

@[expose] public section

noncomputable section

namespace Cert.AttnB

open Finset Idealize.ShloMosaic Idealize.ShloMosaic.TcCoe Cert.Products Cert.Kernel21Ideal Cert.Kernel21Ideal.Gen

/-- What the point leaves. -/
theorem caseC (c : Dev nD) (t : Fin cfg0.N) (i : Fin 13) (hi : t.val % 13 = i.val) {m0 : Memref sig .tc .vmem S640x256 .bf16} (h0 : m0.IsWhole) {m1 : Memref sig .tc .vmem S640x512 .bf16} (h1 : m1.IsWhole) {m2 : Memref sig .tc .vmem S640x256 .bf16} (h2 : m2.IsWhole) {m3 : Memref sig .tc .vmem S640x256 .bf16} (h3 : m3.IsWhole) {m4 : Memref sig .tc .vmem S2x640x1 .f32} (h4 : m4.IsWhole) {m5 : Memref sig .tc .vmem S2x640x1 .f32} (h5 : m5.IsWhole) {m6 : Memref sig .tc .vmem S2x1x640 .f32} (h6 : m6.IsWhole) {m7 : Memref sig .tc .vmem S8320x256 .bf16} (h7 : m7.IsWhole) {m8 : Memref sig .tc .vmem S640x512 .bf16} (h8 : m8.IsWhole) {m9 : Memref sig .tc .vmem S2x8320x1 .f32} (h9 : m9.IsWhole) {m10 : Memref sig .tc .vmem S2x1x640 .f32} (h10 : m10.IsWhole) {m11 : Memref sig .tc .vmem S640x256 .f32} (h11 : m11.IsWhole) {m12 : Memref sig .tc .vmem S640x256 .f32} (h12 : m12.IsWhole) {m13 : Memref sig .tc .vmem S8320x256 .f32} (h13 : m13.IsWhole) {m14 : Memref sig .tc .vmem S2x8320x1 .f32} (h14 : m14.IsWhole) (x0 : Vec Ideal S640x256 .bf16) (x1 : Vec Ideal S640x512 .bf16) (x2 x3 : Vec Ideal S640x256 .bf16) (x4 x5 : Vec Ideal S2x640x1 .f32) (x6 : Vec Ideal S2x1x640 .f32) (u : Vec Ideal S2x1x640 .f32) (xs0 xs1 : Vec Ideal S640x256 .f32) (xs2 : Vec Ideal S8320x256 .f32) (xs3 : Vec Ideal S2x8320x1 .f32) (hc0 hc1 hc2 hc3 hc4 hc5) :
    sout0_C_0 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gk logit x0 x1 x2 x3 x4 x5 x6 xs0
    ∧ sout0_C_1 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gv logit x0 x1 x2 x4 x5 x6 xs1
    ∧ sout0_C_2 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gq i logit x0 x1 x2 x3 x4 x5 x6 xs2
    ∧ sout0_C_3 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gr i logit x0 x1 x2 x3 x4 x5 x6 xs3
    ∧ out0_C_10 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gc logit x0 x1 x2 x3 x4 x5 x6 u
    ∧ out0_C_8 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gw (gk logit x0 x1 x2 x3 x4 x5 x6 xs0) (gv logit x0 x1 x2 x4 x5 x6 xs1) := by
  obtain ⟨⟨w1, w2⟩, w3, w4⟩ := hi ▸ off1 t
  unfold sout0_C_0 sout0_C_1 sout0_C_2 sout0_C_3 out0_C_10 out0_C_8 kernelRun0_C
  dsimp only
  sl_unfold_run_names
  simp only [View.readAt_eq_ld, Memref.IsWhole.read_unread]
  simp only [loads, ld_b i 0 _ w3, ld_b i 1 _ w4, ld_d i 0 _ w1, ld_d i 1 _ w2]
  refine ⟨two_a (k1 logit x0 x1 x2 x3 x4 x5 x6 xs0) fun a x h => gk_at _ _ _ _ _ _ _ _ _ a x h,
    two_a (v1 logit x0 x1 x2 x4 x5 x6 xs1) fun a x h => gv_at _ _ _ _ _ _ _ _ a x h,
    two_b w3 w4 (q1 i logit x0 x1 x2 x3 x4 x5 x6 xs2) (fun a x h h' => gq_at i _ _ _ _ _ _ _ _ _ a x h h') (fun y h => if_neg h) (h13.read_unread xs2),
    two_d w1 w2 (r1 i logit x0 x1 x2 x3 x4 x5 x6 xs3) (fun a r h => gr_at i _ _ _ _ _ _ _ _ _ a r h) (fun y h => if_neg h) (h14.read_unread xs3),
    two_c (fun a => cN (cH u a) (eH logit x0 x1 x2 x3 x4 x5 x6 a)) fun a r => rfl,
    out_w _ _ (two_a (k1 logit x0 x1 x2 x3 x4 x5 x6 xs0) fun a x h => gk_at _ _ _ _ _ _ _ _ _ a x h) (two_a (v1 logit x0 x1 x2 x4 x5 x6 xs1) fun a x h => gv_at _ _ _ _ _ _ _ _ a x h)⟩

end Cert.AttnB

end
-- ==== Proof.AttnB.CaseD.lean ====
/- The first point of a later column of blocks: the sums for the keys and values are cleared. -/
module

public import proofs.«01_k».proof.Proof.AttnB.Parts
public import proofs.«01_k».proof.Proof.Gen.Kernel21Ideal.Frame

@[expose] public section

noncomputable section

namespace Cert.AttnB

open Finset Idealize.ShloMosaic Idealize.ShloMosaic.TcCoe Cert.Products Cert.Kernel21Ideal Cert.Kernel21Ideal.Gen

/-- What the point leaves. -/
theorem caseD (c : Dev nD) (t : Fin cfg0.N) {m0 : Memref sig .tc .vmem S640x256 .bf16} (h0 : m0.IsWhole) {m1 : Memref sig .tc .vmem S640x512 .bf16} (h1 : m1.IsWhole) {m2 : Memref sig .tc .vmem S640x256 .bf16} (h2 : m2.IsWhole) {m3 : Memref sig .tc .vmem S640x256 .bf16} (h3 : m3.IsWhole) {m4 : Memref sig .tc .vmem S2x640x1 .f32} (h4 : m4.IsWhole) {m5 : Memref sig .tc .vmem S2x640x1 .f32} (h5 : m5.IsWhole) {m6 : Memref sig .tc .vmem S2x1x640 .f32} (h6 : m6.IsWhole) {m7 : Memref sig .tc .vmem S8320x256 .bf16} (h7 : m7.IsWhole) {m8 : Memref sig .tc .vmem S640x512 .bf16} (h8 : m8.IsWhole) {m9 : Memref sig .tc .vmem S2x8320x1 .f32} (h9 : m9.IsWhole) {m10 : Memref sig .tc .vmem S2x1x640 .f32} (h10 : m10.IsWhole) {m11 : Memref sig .tc .vmem S640x256 .f32} (h11 : m11.IsWhole) {m12 : Memref sig .tc .vmem S640x256 .f32} (h12 : m12.IsWhole) {m13 : Memref sig .tc .vmem S8320x256 .f32} (h13 : m13.IsWhole) {m14 : Memref sig .tc .vmem S2x8320x1 .f32} (h14 : m14.IsWhole) (x0 : Vec Ideal S640x256 .bf16) (x1 : Vec Ideal S640x512 .bf16) (x2 x3 : Vec Ideal S640x256 .bf16) (x4 x5 : Vec Ideal S2x640x1 .f32) (x6 : Vec Ideal S2x1x640 .f32) (xs2 : Vec Ideal S8320x256 .f32) (xs3 : Vec Ideal S2x8320x1 .f32) (hc0 hc1 hc2 hc3 hc4 hc5) :
    sout0_D_0 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 xs2 xs3 = k0_pay2 (F := Ideal)
    ∧ sout0_D_1 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 xs2 xs3 = k0_pay3 (F := Ideal)
    ∧ out0_D_10 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 xs2 xs3 = k0_pay1 (F := Ideal) := by
  unfold sout0_D_0 sout0_D_1 out0_D_10 kernelRun0_D
  dsimp only
  sl_unfold_run_names
  exact ⟨read_all _ _ zz _ _, read_all _ _ zz _ _, read_all _ _ Cert.Attn.zzz _ _⟩

end Cert.AttnB

end
-- ==== Proof.AttnB.CaseE.lean ====
/- A block on the diagonal. -/
module

public import proofs.«01_k».proof.Proof.AttnB.Parts
public import proofs.«01_k».proof.Proof.Gen.Kernel21Ideal.Frame

@[expose] public section

noncomputable section

namespace Cert.AttnB

open Finset Idealize.ShloMosaic Idealize.ShloMosaic.TcCoe Cert.Products Cert.Kernel21Ideal Cert.Kernel21Ideal.Gen

/-- What the point leaves. -/
theorem caseE (c : Dev nD) (t : Fin cfg0.N) (i : Fin 13) (hi : t.val % 13 = i.val) {m0 : Memref sig .tc .vmem S640x256 .bf16} (h0 : m0.IsWhole) {m1 : Memref sig .tc .vmem S640x512 .bf16} (h1 : m1.IsWhole) {m2 : Memref sig .tc .vmem S640x256 .bf16} (h2 : m2.IsWhole) {m3 : Memref sig .tc .vmem S640x256 .bf16} (h3 : m3.IsWhole) {m4 : Memref sig .tc .vmem S2x640x1 .f32} (h4 : m4.IsWhole) {m5 : Memref sig .tc .vmem S2x640x1 .f32} (h5 : m5.IsWhole) {m6 : Memref sig .tc .vmem S2x1x640 .f32} (h6 : m6.IsWhole) {m7 : Memref sig .tc .vmem S8320x256 .bf16} (h7 : m7.IsWhole) {m8 : Memref sig .tc .vmem S640x512 .bf16} (h8 : m8.IsWhole) {m9 : Memref sig .tc .vmem S2x8320x1 .f32} (h9 : m9.IsWhole) {m10 : Memref sig .tc .vmem S2x1x640 .f32} (h10 : m10.IsWhole) {m11 : Memref sig .tc .vmem S640x256 .f32} (h11 : m11.IsWhole) {m12 : Memref sig .tc .vmem S640x256 .f32} (h12 : m12.IsWhole) {m13 : Memref sig .tc .vmem S8320x256 .f32} (h13 : m13.IsWhole) {m14 : Memref sig .tc .vmem S2x8320x1 .f32} (h14 : m14.IsWhole) (x0 : Vec Ideal S640x256 .bf16) (x1 : Vec Ideal S640x512 .bf16) (x2 x3 : Vec Ideal S640x256 .bf16) (x4 x5 : Vec Ideal S2x640x1 .f32) (x6 : Vec Ideal S2x1x640 .f32) (u : Vec Ideal S2x1x640 .f32) (xs0 xs1 : Vec Ideal S640x256 .f32) (xs2 : Vec Ideal S8320x256 .f32) (xs3 : Vec Ideal S2x8320x1 .f32) (hc0 hc1 hc2 hc3 hc4 hc5) :
    sout0_E_0 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gk logitD x0 x1 x2 x3 x4 x5 x6 xs0
    ∧ sout0_E_1 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gv logitD x0 x1 x2 x4 x5 x6 xs1
    ∧ sout0_E_2 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gq i logitD x0 x1 x2 x3 x4 x5 x6 xs2
    ∧ sout0_E_3 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gr i logitD x0 x1 x2 x3 x4 x5 x6 xs3
    ∧ out0_E_10 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gc logitD x0 x1 x2 x3 x4 x5 x6 u := by
  obtain ⟨⟨w1, w2⟩, w3, w4⟩ := hi ▸ off5 t
  unfold sout0_E_0 sout0_E_1 sout0_E_2 sout0_E_3 out0_E_10 kernelRun0_E
  dsimp only
  sl_unfold_run_names
  simp only [View.readAt_eq_ld, Memref.IsWhole.read_unread]
  simp only [loads, ld_b i 0 _ w3, ld_b i 1 _ w4, ld_d i 0 _ w1, ld_d i 1 _ w2]
  refine ⟨two_a (k1 logitD x0 x1 x2 x3 x4 x5 x6 xs0) fun a x h => gk_at _ _ _ _ _ _ _ _ _ a x h,
    two_a (v1 logitD x0 x1 x2 x4 x5 x6 xs1) fun a x h => gv_at _ _ _ _ _ _ _ _ a x h,
    two_b w3 w4 (q1 i logitD x0 x1 x2 x3 x4 x5 x6 xs2) (fun a x h h' => gq_at i _ _ _ _ _ _ _ _ _ a x h h') (fun y h => if_neg h) (h13.read_unread xs2),
    two_d w1 w2 (r1 i logitD x0 x1 x2 x3 x4 x5 x6 xs3) (fun a r h => gr_at i _ _ _ _ _ _ _ _ _ a r h) (fun y h => if_neg h) (h14.read_unread xs3),
    two_c (fun a => cN (cH u a) (eH logitD x0 x1 x2 x3 x4 x5 x6 a)) fun a r => rfl⟩

end Cert.AttnB

end
-- ==== Proof.AttnB.CaseG.lean ====
/- The last point of a group of heads. -/
module

public import proofs.«01_k».proof.Proof.AttnB.Outs
public import proofs.«01_k».proof.Proof.Gen.Kernel21Ideal.Frame

@[expose] public section

noncomputable section

namespace Cert.AttnB

open Finset Idealize.ShloMosaic Idealize.ShloMosaic.TcCoe Cert.Products Cert.Kernel21Ideal Cert.Kernel21Ideal.Gen

/-- What the point leaves. -/
theorem caseG (c : Dev nD) (t : Fin cfg0.N) (i : Fin 13) (hi : t.val % 13 = i.val) {m0 : Memref sig .tc .vmem S640x256 .bf16} (h0 : m0.IsWhole) {m1 : Memref sig .tc .vmem S640x512 .bf16} (h1 : m1.IsWhole) {m2 : Memref sig .tc .vmem S640x256 .bf16} (h2 : m2.IsWhole) {m3 : Memref sig .tc .vmem S640x256 .bf16} (h3 : m3.IsWhole) {m4 : Memref sig .tc .vmem S2x640x1 .f32} (h4 : m4.IsWhole) {m5 : Memref sig .tc .vmem S2x640x1 .f32} (h5 : m5.IsWhole) {m6 : Memref sig .tc .vmem S2x1x640 .f32} (h6 : m6.IsWhole) {m7 : Memref sig .tc .vmem S8320x256 .bf16} (h7 : m7.IsWhole) {m8 : Memref sig .tc .vmem S640x512 .bf16} (h8 : m8.IsWhole) {m9 : Memref sig .tc .vmem S2x8320x1 .f32} (h9 : m9.IsWhole) {m10 : Memref sig .tc .vmem S2x1x640 .f32} (h10 : m10.IsWhole) {m11 : Memref sig .tc .vmem S640x256 .f32} (h11 : m11.IsWhole) {m12 : Memref sig .tc .vmem S640x256 .f32} (h12 : m12.IsWhole) {m13 : Memref sig .tc .vmem S8320x256 .f32} (h13 : m13.IsWhole) {m14 : Memref sig .tc .vmem S2x8320x1 .f32} (h14 : m14.IsWhole) (x0 : Vec Ideal S640x256 .bf16) (x1 : Vec Ideal S640x512 .bf16) (x2 x3 : Vec Ideal S640x256 .bf16) (x4 x5 : Vec Ideal S2x640x1 .f32) (x6 : Vec Ideal S2x1x640 .f32) (u : Vec Ideal S2x1x640 .f32) (xs0 xs1 : Vec Ideal S640x256 .f32) (xs2 : Vec Ideal S8320x256 .f32) (xs3 : Vec Ideal S2x8320x1 .f32) (hc0 hc1 hc2 hc3 hc4 hc5) :
    sout0_G_0 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gk logitD x0 x1 x2 x3 x4 x5 x6 xs0
    ∧ sout0_G_1 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gv logitD x0 x1 x2 x4 x5 x6 xs1
    ∧ sout0_G_2 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gq i logitD x0 x1 x2 x3 x4 x5 x6 xs2
    ∧ sout0_G_3 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gr i logitD x0 x1 x2 x3 x4 x5 x6 xs3
    ∧ out0_G_10 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gc logitD x0 x1 x2 x3 x4 x5 x6 u
    ∧ out0_G_7 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = k0_pay19 (F := Ideal) (gq i logitD x0 x1 x2 x3 x4 x5 x6 xs2)
    ∧ out0_G_8 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gw (gk logitD x0 x1 x2 x3 x4 x5 x6 xs0) (gv logitD x0 x1 x2 x4 x5 x6 xs1)
    ∧ out0_G_9 (F := Ideal) c (grid0.coords t) _ h0 _ h1 _ h2 _ h3 _ h4 _ h5 _ h6 _ h7 _ h8 _ h9 _ h10 _ h11 _ h12 _ h13 _ h14 hc0 hc1 hc2 hc3 hc4 hc5 x0 x1 x2 x3 x4 x5 x6 u xs0 xs1 xs2 xs3 = gr i logitD x0 x1 x2 x3 x4 x5 x6 xs3 := by
  obtain ⟨⟨w1, w2⟩, w3, w4⟩ := hi ▸ off5 t
  unfold sout0_G_0 sout0_G_1 sout0_G_2 sout0_G_3 out0_G_10 out0_G_7 out0_G_8 out0_G_9 kernelRun0_G
  dsimp only
  sl_unfold_run_names
  simp only [View.readAt_eq_ld, Memref.IsWhole.read_unread]
  simp only [loads, ld_b i 0 _ w3, ld_b i 1 _ w4, ld_d i 0 _ w1, ld_d i 1 _ w2]
  refine ⟨two_a (k1 logitD x0 x1 x2 x3 x4 x5 x6 xs0) fun a x h => gk_at _ _ _ _ _ _ _ _ _ a x h,
    two_a (v1 logitD x0 x1 x2 x4 x5 x6 xs1) fun a x h => gv_at _ _ _ _ _ _ _ _ a x h,
    two_b w3 w4 (q1 i logitD x0 x1 x2 x3 x4 x5 x6 xs2) (fun a x h h' => gq_at i _ _ _ _ _ _ _ _ _ a x h h') (fun y h => if_neg h) (h13.read_unread xs2),
    two_d w1 w2 (r1 i logitD x0 x1 x2 x3 x4 x5 x6 xs3) (fun a r h => gr_at i _ _ _ _ _ _ _ _ _ a r h) (fun y h => if_neg h) (h14.read_unread xs3),
    two_c (fun a => cN (cH u a) (eH logitD x0 x1 x2 x3 x4 x5 x6 a)) fun a r => rfl,
    out_q _ (two_b w3 w4 (q1 i logitD x0 x1 x2 x3 x4 x5 x6 xs2) (fun a x h h' => gq_at i _ _ _ _ _ _ _ _ _ a x h h') (fun y h => if_neg h) (h13.read_unread xs2)),
    out_w _ _ (two_a (k1 logitD x0 x1 x2 x3 x4 x5 x6 xs0) fun a x h => gk_at _ _ _ _ _ _ _ _ _ a x h) (two_a (v1 logitD x0 x1 x2 x4 x5 x6 xs1) fun a x h => gv_at _ _ _ _ _ _ _ _ a x h),
    out_r _ (two_d w1 w2 (r1 i logitD x0 x1 x2 x3 x4 x5 x6 xs3) (fun a r h => gr_at i _ _ _ _ _ _ _ _ _ a r h) (fun y h => if_neg h) (h14.read_unread xs3))⟩

end Cert.AttnB

end
-- ==== Proof.AttnB.Walk.lean ====
/- The grid's points in order: what each reads, and what the running buffers hold after it. -/
module

public import proofs.«01_k».proof.Proof.AttnB.Sums
public import proofs.«01_k».proof.Proof.AttnB.CaseA
public import proofs.«01_k».proof.Proof.AttnB.CaseB
public import proofs.«01_k».proof.Proof.AttnB.CaseC
public import proofs.«01_k».proof.Proof.AttnB.CaseD
public import proofs.«01_k».proof.Proof.AttnB.CaseE
public import proofs.«01_k».proof.Proof.AttnB.CaseG

@[expose] public section

noncomputable section

namespace Cert.AttnB

open Finset Idealize.ShloMosaic Idealize.ShloMosaic.TcCoe Cert.Products Cert.Kernel21Ideal Cert.Kernel21Ideal.Gen
open Cert.Attn (ws)

/-- What the kernel's arrays hold before it runs. -/
structure Saved (px pq pk pd : ℕ → ℕ → ℝ) (X : S8320x3072.Idx → EReal) (D O : S8320x1024.Idx → EReal) (L Q : S8x8320x1.Idx → EReal) (K : S8x1x8320.Idx → EReal) : Prop where
  hX : ∀ i, X i = (px (i 0).val (i 1).val : EReal)
  hD : ∀ i, D i = (go pd (i 0).val (i 1).val : EReal)
  hO : ∀ i, O i = (om px pq pk ((i 1).val / 128) (i 0).val ((i 1).val % 128) : EReal)
  hL : ∀ i, L i = ((Real.log (ws px pq pk 8320 (i 0).val (i 1).val) / Real.log 2 : ℝ) : EReal)
  hQ : ∀ i, Q i = (pq (i 0).val (i 1).val : EReal)
  hK : ∀ i, K i = (pk (i 0).val (i 2).val : EReal)

theorem index0 : ∀ t : Fin cfg0.N, win0_0.index t 0 = max (t.val % 13) (t.val / 13 % 13) ∧ win0_0.index t 1 = t.val / 169 :=
  (by change ∀ t : Fin grid0.N, _; decide +kernel)
theorem index1 : ∀ t : Fin cfg0.N, win0_1.index t 0 = t.val / 13 % 13 ∧ win0_1.index t 1 = 2 + t.val / 169 :=
  (by change ∀ t : Fin grid0.N, _; decide +kernel)
theorem index2 : ∀ t : Fin cfg0.N, win0_2.index t 0 = max (t.val % 13) (t.val / 13 % 13) ∧ win0_2.index t 1 = t.val / 169 :=
  (by change ∀ t : Fin grid0.N, _; decide +kernel)
theorem index3 : ∀ t : Fin cfg0.N, win0_3.index t 0 = max (t.val % 13) (t.val / 13 % 13) ∧ win0_3.index t 1 = t.val / 169 :=
  (by change ∀ t : Fin grid0.N, _; decide +kernel)
theorem index4 : ∀ t : Fin cfg0.N, win0_4.index t 0 = t.val / 169 ∧ win0_4.index t 1 = max (t.val % 13) (t.val / 13 % 13) :=
  (by change ∀ t : Fin grid0.N, _; decide +kernel)
theorem index5 : ∀ t : Fin cfg0.N, win0_5.index t 0 = t.val / 169 ∧ win0_5.index t 1 = max (t.val % 13) (t.val / 13 % 13) :=
  (by change ∀ t : Fin grid0.N, _; decide +kernel)
theorem index6 : ∀ t : Fin cfg0.N, win0_6.index t 0 = t.val / 169 ∧ win0_6.index t 2 = t.val / 13 % 13 :=
  (by change ∀ t : Fin grid0.N, _; decide +kernel)

variable {m : (ℓ : Loc nD τ Cert.Kernel21Ideal.sig) → Buf (Elt Ideal) ℓ} {c : Dev nD} {px pq pk pd : ℕ → ℕ → ℝ}

theorem two (p : ℕ → ℕ → ℝ) {a b x y : ℕ} (h : a = x) (k : b = y) : ((p a b : ℝ) : EReal) = ((p x y : ℝ) : EReal) := by rw [h, k]

theorem read0 (A : S8320x3072.Idx → EReal) (t : Fin cfg0.N) (y) : ((cfg0.win 0).blk t).view.read (Elt Ideal) A y = A (((cfg0.win 0).blk t).view.emb y) := rfl
theorem read1 (A : S8320x3072.Idx → EReal) (t : Fin cfg0.N) (y) : ((cfg0.win 1).blk t).view.read (Elt Ideal) A y = A (((cfg0.win 1).blk t).view.emb y) := rfl
theorem read2 (A : S8320x1024.Idx → EReal) (t : Fin cfg0.N) (y) : ((cfg0.win 2).blk t).view.read (Elt Ideal) A y = A (((cfg0.win 2).blk t).view.emb y) := rfl
theorem read3 (A : S8320x1024.Idx → EReal) (t : Fin cfg0.N) (y) : ((cfg0.win 3).blk t).view.read (Elt Ideal) A y = A (((cfg0.win 3).blk t).view.emb y) := rfl
theorem read4 (A : S8x8320x1.Idx → EReal) (t : Fin cfg0.N) (y) : ((cfg0.win 4).blk t).view.read (Elt Ideal) A y = A (((cfg0.win 4).blk t).view.emb y) := rfl
theorem read5 (A : S8x8320x1.Idx → EReal) (t : Fin cfg0.N) (y) : ((cfg0.win 5).blk t).view.read (Elt Ideal) A y = A (((cfg0.win 5).blk t).view.emb y) := rfl
theorem read6 (A : S8x1x8320.Idx → EReal) (t : Fin cfg0.N) (y) : ((cfg0.win 6).blk t).view.read (Elt Ideal) A y = A (((cfg0.win 6).blk t).view.emb y) := rfl

/-- The arrays of one run. -/
abbrev At (m : (ℓ : Loc nD τ Cert.Kernel21Ideal.sig) → Buf (Elt Ideal) ℓ) (c : Dev nD) (px pq pk pd : ℕ → ℕ → ℝ) : Prop :=
  Saved px pq pk pd (V m c main_arg0) (V m c main_v53) (V m c main_v43) (V m c main_v48) (V m c main_arg1) (V m c main_arg2)

/-- The blocks a point on or below the diagonal reads. -/
theorem blk (H : At m c px pq pk pd) (t : Fin cfg0.N) (hl : t.val / 13 % 13 ≤ t.val % 13) :
    Blk px pq pk pd (iblk m c 0 t) (iblk m c 1 t) (iblk m c 2 t) (iblk m c 3 t) (iblk m c 4 t) (iblk m c 5 t) (iblk m c 6 t) (t.val / 169) (t.val % 13) (t.val / 13 % 13) where
  h0 r e := by
    obtain ⟨e0, e1⟩ := index0 t
    rw [max_eq_left hl] at e0
    refine ((read0 _ t _).trans (H.hX _)).trans (two px ?_ ?_)
    · show win0_0.index t 0 * 640 + 1 * r.val = _
      omega
    · show win0_0.index t 1 * 256 + 1 * e.val = _
      omega
  h1 r e := by
    obtain ⟨e0, e1⟩ := index1 t
    refine ((read1 _ t _).trans (H.hX _)).trans (two px ?_ ?_)
    · show win0_1.index t 0 * 640 + 1 * r.val = _
      omega
    · show win0_1.index t 1 * 512 + 1 * e.val = _
      omega
  h2 r e := by
    obtain ⟨e0, e1⟩ := index2 t
    rw [max_eq_left hl] at e0
    refine ((read2 _ t _).trans (H.hD _)).trans (two (go pd) ?_ ?_)
    · show win0_2.index t 0 * 640 + 1 * r.val = _
      omega
    · show win0_2.index t 1 * 256 + 1 * e.val = _
      omega
  h3 r a d h := by
    obtain ⟨e0, e1⟩ := index3 t
    rw [max_eq_left hl] at e0
    have f0 : ((((cfg0.win 3).blk t).view.emb (ix2 r ⟨128 * a.val + d.val, h⟩) : S8320x1024.Idx) 0).val = 640 * (t.val % 13) + r.val := by
      show win0_3.index t 0 * 640 + 1 * r.val = _
      omega
    have f1 : ((((cfg0.win 3).blk t).view.emb (ix2 r ⟨128 * a.val + d.val, h⟩) : S8320x1024.Idx) 1).val = 128 * (2 * (t.val / 169) + a.val) + d.val := by
      show win0_3.index t 1 * 256 + 1 * (128 * a.val + d.val) = _
      omega
    refine ((read3 _ t _).trans (H.hO _)).trans ?_
    have hd := d.isLt
    rw [f0, f1, show (128 * (2 * (t.val / 169) + a.val) + d.val) / 128 = 2 * (t.val / 169) + a.val by omega, show (128 * (2 * (t.val / 169) + a.val) + d.val) % 128 = d.val by omega]
  h4 a r := by
    obtain ⟨e0, e1⟩ := index4 t
    rw [max_eq_left hl] at e1
    refine ((read4 _ t _).trans (H.hL _)).trans (two (fun x y => Real.log (ws px pq pk 8320 x y) / Real.log 2) ?_ ?_)
    · show win0_4.index t 0 * 2 + 1 * a.val = _
      omega
    · show win0_4.index t 1 * 640 + 1 * r.val = _
      omega
  h5 a r := by
    obtain ⟨e0, e1⟩ := index5 t
    rw [max_eq_left hl] at e1
    refine ((read5 _ t _).trans (H.hQ _)).trans (two pq ?_ ?_)
    · show win0_5.index t 0 * 2 + 1 * a.val = _
      omega
    · show win0_5.index t 1 * 640 + 1 * r.val = _
      omega
  h6 a r := by
    obtain ⟨e0, e1⟩ := index6 t
    refine ((read6 _ t _).trans (H.hK _)).trans (two pk ?_ ?_)
    · show win0_6.index t 0 * 2 + 1 * a.val = _
      omega
    · show win0_6.index t 2 * 640 + 1 * r.val = _
      omega

/-! ## The running sums -/

/-- The buffers after a point, by its number, with the sums they hold. -/
def Holds (px pq pk pd : ℕ → ℕ → ℝ) (m : (ℓ : Loc nD τ Cert.Kernel21Ideal.sig) → Buf (Elt Ideal) ℓ) (c : Dev nD) (n : ℕ) (hn : n < cfg0.N) (g i j : ℕ) : Prop :=
  Sums px pq pk pd g i j (outsAt0 m c n hn).2.2.2.2.1 (outsAt0 m c n hn).2.2.2.2.2.1 (outsAt0 m c n hn).2.2.2.2.2.2.1 (outsAt0 m c n hn).2.2.2.2.2.2.2 (outsAt0 m c n hn).2.2.2.1

theorem Sums.cast {g i j j' : ℕ} {K V : Vec Ideal S640x256 .f32} {Q : Vec Ideal S8320x256 .f32} {R : Vec Ideal S2x8320x1 .f32} {u : Vec Ideal S2x1x640 .f32} (S : Sums px pq pk pd g i j K V Q R u) (e : j = j') : Sums px pq pk pd g i j' K V Q R u := e ▸ S
theorem Sums.of {g i j i' : ℕ} {K V : Vec Ideal S640x256 .f32} {Q : Vec Ideal S8320x256 .f32} {R : Vec Ideal S2x8320x1 .f32} {u : Vec Ideal S2x1x640 .f32} (S : Sums px pq pk pd g i j K V Q R u) (e : i = i') : Sums px pq pk pd g i' j K V Q R u := e ▸ S

section Last

variable {g j : ℕ} {K V : Vec Ideal S640x256 .f32} {Q : Vec Ideal S8320x256 .f32} {R : Vec Ideal S2x8320x1 .f32} {u : Vec Ideal S2x1x640 .f32}
  {x0 : Vec Ideal S640x256 .bf16} {x1 : Vec Ideal S640x512 .bf16} {x2 x3 : Vec Ideal S640x256 .bf16} {x4 x5 : Vec Ideal S2x640x1 .f32} {x6 : Vec Ideal S2x1x640 .f32}
  {L : Vec Ideal S640x128 .bf16 → Vec Ideal S640x128 .bf16 → Vec Ideal S1x1x640 .f32 → FVec Ideal S640x640 .f32}
  (i : Fin 13) (B : Blk px pq pk pd x0 x1 x2 x3 x4 x5 x6 g i.val j) (hL : Masked L x0 x1 x6 i.val j) (S : Sums px pq pk pd g i.val j K V Q R u)
include B hL S

theorem last {s0 s1 s2 s3 o w} (e : s0 = gk L x0 x1 x2 x3 x4 x5 x6 K ∧ s1 = gv L x0 x1 x2 x4 x5 x6 V ∧ s2 = gq i L x0 x1 x2 x3 x4 x5 x6 Q ∧ s3 = gr i L x0 x1 x2 x3 x4 x5 x6 R ∧ o = gc L x0 x1 x2 x3 x4 x5 x6 u
      ∧ w = gw (gk L x0 x1 x2 x3 x4 x5 x6 K) (gv L x0 x1 x2 x4 x5 x6 V)) :
    Sums px pq pk pd g (i.val + 1) j s0 s1 s2 s3 o ∧ w = gw s0 s1 := by
  obtain ⟨rfl, rfl, rfl, rfl, rfl, rfl⟩ := e
  exact ⟨S.take i B hL ⟨rfl, rfl, rfl, rfl, rfl⟩, rfl⟩

theorem lastG {s0 s1 s2 s3 o w7 w8 w9} (e : s0 = gk L x0 x1 x2 x3 x4 x5 x6 K ∧ s1 = gv L x0 x1 x2 x4 x5 x6 V ∧ s2 = gq i L x0 x1 x2 x3 x4 x5 x6 Q ∧ s3 = gr i L x0 x1 x2 x3 x4 x5 x6 R ∧ o = gc L x0 x1 x2 x3 x4 x5 x6 u
      ∧ w7 = k0_pay19 (F := Ideal) (gq i L x0 x1 x2 x3 x4 x5 x6 Q) ∧ w8 = gw (gk L x0 x1 x2 x3 x4 x5 x6 K) (gv L x0 x1 x2 x4 x5 x6 V) ∧ w9 = gr i L x0 x1 x2 x3 x4 x5 x6 R) :
    Sums px pq pk pd g (i.val + 1) j s0 s1 s2 s3 o ∧ w8 = gw s0 s1 ∧ w7 = k0_pay19 (F := Ideal) s2 ∧ w9 = s3 := by
  obtain ⟨rfl, rfl, rfl, rfl, rfl, rfl, rfl, rfl⟩ := e
  exact ⟨S.take i B hL ⟨rfl, rfl, rfl, rfl, rfl⟩, rfl, rfl, rfl⟩

end Last

variable (H : At m c px pq pk pd) (t : Fin cfg0.N)

include H in
theorem doneA (h0 : t.val % 13 = 0) (h1 : t.val % 169 = 0) (h2 : ¬ t.val / 13 % 13 + 1 ≤ t.val % 13) (h3 : t.val / 13 % 13 = t.val % 13) (h4 : ¬ t.val % 13 = 12) (h5 : ¬ t.val % 169 = 168) :
    Holds px pq pk pd m c t.val t.isLt (t.val / 169) (t.val % 13 + 1) (t.val / 13 % 13) := by
  have B := blk H t (le_of_eq h3)
  unfold Holds
  rw [outsAt0_A m c t h0 h1 h2 h3 h4 h5]
  dsimp only
  exact Sums.take (⟨t.val % 13, Nat.mod_lt _ (by norm_num)⟩ : Fin 13) B (diag h3) ((Sums.of (start px pq pk pd _) h0.symm).cast (h3.trans h0).symm) (caseA c t _ rfl _ _ _ _ _ _ _ _ _ _ _ _ _ _ _ _ _ _ _ _ _ _ _ _ _ _ _ _)

theorem doneD (h0 : t.val % 13 = 0) (h1 : ¬ t.val % 169 = 0) (h2 : ¬ t.val / 13 % 13 + 1 ≤ t.val % 13) (h3 : ¬ t.val / 13 % 13 = t.val % 13) (h4 : ¬ t.val % 13 = 12) (h5 : ¬ t.val % 169 = 168)
    (hp : Holds px pq pk pd m c (t.val - 1) (Nat.lt_of_le_of_lt (Nat.sub_le _ _) t.isLt) (t.val / 169) 13 (t.val / 13 % 13 - 1)) :
    Holds px pq pk pd m c t.val t.isLt (t.val / 169) (t.val % 13 + 1) (t.val / 13 % 13) := by
  unfold Holds
  rw [outsAt0_D m c t h0 h1 h2 h3 h4 h5]
  dsimp only
  refine Sums.skip _ (by omega) (Sums.of (((Sums.col hp (caseD c t _ _ _ _ _ _ _ _ _ _ _ _ _ _ _ _ _ _ _ _ _ _ _ _ _ _ _ _ _ _)).cast (by omega))) h0.symm)

section Later

variable (hp : Holds px pq pk pd m c (t.val - 1) (Nat.lt_of_le_of_lt (Nat.sub_le _ _) t.isLt) (t.val / 169) (t.val % 13) (t.val / 13 % 13))

include hp

theorem doneF (h0 : ¬ t.val % 13 = 0) (h1 : ¬ t.val % 169 = 0) (h2 : ¬ t.val / 13 % 13 + 1 ≤ t.val % 13) (h3 : ¬ t.val / 13 % 13 = t.val % 13) (h4 : ¬ t.val % 13 = 12) (h5 : ¬ t.val % 169 = 168) :
    Holds px pq pk pd m c t.val t.isLt (t.val / 169) (t.val % 13 + 1) (t.val / 13 % 13) := by
  unfold Holds
  rw [outsAt0_F m c t h0 h1 h2 h3 h4 h5]
  exact Sums.skip _ (by omega) hp

include H in
theorem doneB (h0 : ¬ t.val % 13 = 0) (h1 : ¬ t.val % 169 = 0) (h2 : t.val / 13 % 13 + 1 ≤ t.val % 13) (h3 : ¬ t.val / 13 % 13 = t.val % 13) (h4 : ¬ t.val % 13 = 12) (h5 : ¬ t.val % 169 = 168) :
    Holds px pq pk pd m c t.val t.isLt (t.val / 169) (t.val % 13 + 1) (t.val / 13 % 13) := by
  have B := blk H t (by omega)
  unfold Holds
  rw [outsAt0_B m c t h0 h1 h2 h3 h4 h5]
  dsimp only
  exact Sums.take (⟨t.val % 13, Nat.mod_lt _ (by norm_num)⟩ : Fin 13) B (below (by dsimp only; omega)) hp (caseB c t _ rfl _ _ _ _ _ _ _ _ _ _ _ _ _ _ _ _ _ _ _ _ _ _ _ _ _ _ _ _ _ _ _ _ _)

include H in
theorem doneC (h0 : ¬ t.val % 13 = 0) (h1 : ¬ t.val % 169 = 0) (h2 : t.val / 13 % 13 + 1 ≤ t.val % 13) (h3 : ¬ t.val / 13 % 13 = t.val % 13) (h4 : t.val % 13 = 12) (h5 : ¬ t.val % 169 = 168) :
    Holds px pq pk pd m c t.val t.isLt (t.val / 169) (t.val % 13 + 1) (t.val / 13 % 13) ∧ (outsAt0 m c t.val t.isLt).2.1 = gw (outsAt0 m c t.val t.isLt).2.2.2.2.1 (outsAt0 m c t.val t.isLt).2.2.2.2.2.1 := by
  have B := blk H t (by omega)
  unfold Holds
  rw [outsAt0_C m c t h0 h1 h2 h3 h4 h5]
  dsimp only
  exact last (⟨t.val % 13, Nat.mod_lt _ (by norm_num)⟩ : Fin 13) B (below (by dsimp only; omega)) hp (caseC c t _ rfl _ _ _ _ _ _ _ _ _ _ _ _ _ _ _ _ _ _ _ _ _ _ _ _ _ _ _ _ _ _ _ _ _)

include H in
theorem doneE (h0 : ¬ t.val % 13 = 0) (h1 : ¬ t.val % 169 = 0) (h2 : ¬ t.val / 13 % 13 + 1 ≤ t.val % 13) (h3 : t.val / 13 % 13 = t.val % 13) (h4 : ¬ t.val % 13 = 12) (h5 : ¬ t.val % 169 = 168) :
    Holds px pq pk pd m c t.val t.isLt (t.val / 169) (t.val % 13 + 1) (t.val / 13 % 13) := by
  have B := blk H t (le_of_eq h3)
  unfold Holds
  rw [outsAt0_E m c t h0 h1 h2 h3 h4 h5]
  dsimp only
  exact Sums.take (⟨t.val % 13, Nat.mod_lt _ (by norm_num)⟩ : Fin 13) B (diag h3) hp (caseE c t _ rfl _ _ _ _ _ _ _ _ _ _ _ _ _ _ _ _ _ _ _ _ _ _ _ _ _ _ _ _ _ _ _ _ _)

include H in
theorem doneG (h0 : ¬ t.val % 13 = 0) (h1 : ¬ t.val % 169 = 0) (h2 : ¬ t.val / 13 % 13 + 1 ≤ t.val % 13) (h3 : t.val / 13 % 13 = t.val % 13) (h4 : t.val % 13 = 12) (h5 : t.val % 169 = 168) :
    Holds px pq pk pd m c t.val t.isLt (t.val / 169) (t.val % 13 + 1) (t.val / 13 % 13) ∧ (outsAt0 m c t.val t.isLt).2.1 = gw (outsAt0 m c t.val t.isLt).2.2.2.2.1 (outsAt0 m c t.val t.isLt).2.2.2.2.2.1
      ∧ (outsAt0 m c t.val t.isLt).1 = k0_pay19 (F := Ideal) (outsAt0 m c t.val t.isLt).2.2.2.2.2.2.1 ∧ (outsAt0 m c t.val t.isLt).2.2.1 = (outsAt0 m c t.val t.isLt).2.2.2.2.2.2.2 := by
  have B := blk H t (le_of_eq h3)
  unfold Holds
  rw [outsAt0_G m c t h0 h1 h2 h3 h4 h5]
  dsimp only
  exact lastG (⟨t.val % 13, Nat.mod_lt _ (by norm_num)⟩ : Fin 13) B (diag h3) hp (caseG c t _ rfl _ _ _ _ _ _ _ _ _ _ _ _ _ _ _ _ _ _ _ _ _ _ _ _ _ _ _ _ _ _ _ _ _)

end Later

/-- The running buffers after every point. -/
theorem done (H : At m c px pq pk pd) (n : ℕ) (hn : n < cfg0.N) : Holds px pq pk pd m c n hn (n / 169) (n % 13 + 1) (n / 13 % 13) := by
  induction n with
  | zero => exact doneA H ⟨0, hn⟩ rfl rfl (fun h : 0 / 13 % 13 + 1 ≤ 0 % 13 => by omega) (show 0 / 13 % 13 = 0 % 13 by omega) (fun h : 0 % 13 = 12 => by omega) (fun h : 0 % 169 = 168 => by omega)
  | succ n ih =>
    have hp := ih (by omega)
    by_cases h0 : (n + 1) % 13 = 0
    · by_cases h1 : (n + 1) % 169 = 0
      · exact doneA H ⟨n + 1, hn⟩ h0 h1 (fun h : (n + 1) / 13 % 13 + 1 ≤ (n + 1) % 13 => by omega) (show (n + 1) / 13 % 13 = (n + 1) % 13 by omega) (fun h : (n + 1) % 13 = 12 => by omega) (fun h : (n + 1) % 169 = 168 => by omega)
      · refine doneD ⟨n + 1, hn⟩ h0 h1 (fun h : (n + 1) / 13 % 13 + 1 ≤ (n + 1) % 13 => by omega) (fun h : (n + 1) / 13 % 13 = (n + 1) % 13 => by omega) (fun h : (n + 1) % 13 = 12 => by omega) (fun h : (n + 1) % 169 = 168 => by omega) ?_
        have e1 : n / 169 = (n + 1) / 169 := by omega
        have e2 : n % 13 + 1 = 13 := by omega
        have e3 : n / 13 % 13 = (n + 1) / 13 % 13 - 1 := by omega
        rw [e1, e2, e3] at hp
        exact hp
    · have h1 : ¬ (n + 1) % 169 = 0 := by omega
      have e1 : n / 169 = (n + 1) / 169 := by omega
      have e2 : n % 13 + 1 = (n + 1) % 13 := by omega
      have e3 : n / 13 % 13 = (n + 1) / 13 % 13 := by omega
      rw [e1, e2, e3] at hp
      by_cases h2 : (n + 1) / 13 % 13 + 1 ≤ (n + 1) % 13
      · have h3 : ¬ (n + 1) / 13 % 13 = (n + 1) % 13 := by omega
        have h5 : ¬ (n + 1) % 169 = 168 := by omega
        by_cases h4 : (n + 1) % 13 = 12
        · exact (doneC H ⟨n + 1, hn⟩ hp h0 h1 h2 h3 h4 h5).1
        · exact doneB H ⟨n + 1, hn⟩ hp h0 h1 h2 h3 h4 h5
      · by_cases h3 : (n + 1) / 13 % 13 = (n + 1) % 13
        · by_cases h4 : (n + 1) % 13 = 12
          · exact (doneG H ⟨n + 1, hn⟩ hp h0 h1 h2 h3 h4 (show (n + 1) % 169 = 168 by omega)).1
          · exact doneE H ⟨n + 1, hn⟩ hp h0 h1 h2 h3 h4 (fun h : (n + 1) % 169 = 168 => by omega)
        · have hl := Nat.mod_lt ((n + 1) / 13) (show 0 < 13 by norm_num)
          exact doneF ⟨n + 1, hn⟩ hp h0 h1 h2 h3 (fun h : (n + 1) % 13 = 12 => by omega) (fun h : (n + 1) % 169 = 168 => by omega)

/-- The point before one that is not the first of its column. -/
theorem prev (H : At m c px pq pk pd) (t : Fin cfg0.N) (h0 : ¬ t.val % 13 = 0) :
    Holds px pq pk pd m c (t.val - 1) (Nat.lt_of_le_of_lt (Nat.sub_le _ _) t.isLt) (t.val / 169) (t.val % 13) (t.val / 13 % 13) := by
  have h := done H (t.val - 1) (Nat.lt_of_le_of_lt (Nat.sub_le _ _) t.isLt)
  have e1 : (t.val - 1) / 169 = t.val / 169 := by omega
  have e2 : (t.val - 1) % 13 + 1 = t.val % 13 := by omega
  have e3 : (t.val - 1) / 13 % 13 = t.val / 13 % 13 := by omega
  rw [e1, e2, e3] at h
  exact h

include H in
/-- The last point of a column writes the scaled sums of its key block. -/
theorem written8 (h4 : t.val % 13 = 12) : (outsAt0 m c t.val t.isLt).2.1 = gw (outsAt0 m c t.val t.isLt).2.2.2.2.1 (outsAt0 m c t.val t.isLt).2.2.2.2.2.1 := by
  have hl := Nat.mod_lt (t.val / 13) (show 0 < 13 by norm_num)
  by_cases h3 : t.val / 13 % 13 = t.val % 13
  · exact (doneG H t (prev H t (by omega)) (by omega) (by omega) (by omega) h3 h4 (by omega)).2.1
  · exact (doneC H t (prev H t (by omega)) (by omega) (by omega) (by omega) h3 h4 (by omega)).2

include H in
/-- The last point of a group of heads writes the sums of its rows. -/
theorem written7 (h5 : t.val % 169 = 168) :
    (outsAt0 m c t.val t.isLt).1 = k0_pay19 (F := Ideal) (outsAt0 m c t.val t.isLt).2.2.2.2.2.2.1 ∧ (outsAt0 m c t.val t.isLt).2.2.1 = (outsAt0 m c t.val t.isLt).2.2.2.2.2.2.2 :=
  (doneG H t (prev H t (by omega)) (by omega) (by omega) (by omega) (by omega) (by omega) h5).2.2

end Cert.AttnB

end
-- ==== Proof.AttnB.Result.lean ====
/- The four arrays the kernel writes, entry by entry. -/
module

public import proofs.«01_k».proof.Proof.AttnB.Walk
public import proofs.«01_k».proof.Proof.AttnB.Goal
public import Idealize.ShloMosaic.Lib.Pipeline.Value

@[expose] public section

noncomputable section

namespace Cert.AttnB

open Finset Idealize.ShloMosaic Idealize.ShloMosaic.TcCoe Idealize.SL.Sem Cert.Products Cert.Kernel21Ideal Cert.Kernel21Ideal.Gen

section Run

variable {F : FTy → Type} [FloatOps F] [Named F] (m : (ℓ : Loc nD τ Cert.Kernel21Ideal.sig) → Buf (Elt F) ℓ) (ρ : Dev nD → PrngReg)

/-- After the run each result is its window's array, and the arguments are unchanged. -/
theorem run : θ_run defs (onTc (τ := τ) (main (F := F))) ⟨m, fun _ => 0, ρ⟩ fun r => ∀ c : Dev nD,
      r.2.mem ((c : Thread nD τ).loc main_v54_0) = (dats m 0 c).arrAt 7 cfg0.N
      ∧ r.2.mem ((c : Thread nD τ).loc main_v54_1) = (dats m 0 c).arrAt 8 cfg0.N
      ∧ r.2.mem ((c : Thread nD τ).loc main_v54_2) = (dats m 0 c).arrAt 9 cfg0.N
      ∧ r.2.mem ((c : Thread nD τ).loc main_v54_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 7, (h c).1 8, (h c).1 9, (h c).1 10,
      ((h c).1 1).trans (((dats m 0 c).arrAt_in 1 rfl _).trans ((A_eq m c 1).trans (V_main_arg0 m c))),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c))),
      ((h c).2 main_arg3 (Pipeline.mem_restRefs_of main_arg3 (by decide) (by decide))).trans (V_main_arg3 m c)⟩)
    (run_main m ρ)

end Run

theorem index7 : ∀ t : Fin cfg0.N, win0_7.index t 0 = 0 ∧ win0_7.index t 1 = t.val / 169 :=
  (by change ∀ t : Fin grid0.N, _; decide +kernel)
theorem index8 : ∀ t : Fin cfg0.N, win0_8.index t 0 = t.val / 13 % 13 ∧ win0_8.index t 1 = t.val / 169 :=
  (by change ∀ t : Fin grid0.N, _; decide +kernel)
theorem index9 : ∀ t : Fin cfg0.N, win0_9.index t 0 = t.val / 169 ∧ win0_9.index t 1 = 0 ∧ win0_9.index t 2 = 0 :=
  (by change ∀ t : Fin grid0.N, _; decide +kernel)
theorem index10 : ∀ t : Fin cfg0.N, win0_10.index t 0 = t.val / 169 ∧ win0_10.index t 1 = 0 ∧ win0_10.index t 2 = t.val / 13 % 13 :=
  (by change ∀ t : Fin grid0.N, _; decide +kernel)

variable {m : (ℓ : Loc nD τ Cert.Kernel21Ideal.sig) → Buf (Elt Ideal) ℓ} {c : Dev nD} {px pq pk pd : ℕ → ℕ → ℝ}

theorem points : cfg0.N = 676 := N_0

/-- At the last point of a column its sums are over all the rows. -/
theorem column (H : At m c px pq pk pd) (n : ℕ) (hn : n < cfg0.N) (hl : n % 13 = 12) : Holds px pq pk pd m c n hn (n / 169) 13 (n / 13 % 13) := by
  have h := done H n hn
  rw [hl] at h
  exact h

theorem block7 (H : At m c px pq pk pd) (n : ℕ) (hn : n < cfg0.N) (hl : n % 169 = 168) (R : Fin 8320) (e : Fin 256) :
    ((outsAt0 m c n hn).1 (ix2 R e) : EReal) = ((gQ px pq pk pd R.val (256 * (n / 169) + e.val) : ℝ) : EReal) := by
  have hR := R.isLt
  have he := e.isLt
  have h := (column H n hn (by omega)).q ⟨R.val / 640, by omega⟩ ⟨e.val / 128, by omega⟩ ⟨R.val % 640, by omega⟩ ⟨e.val % 128, by omega⟩
  dsimp only at h
  rw [if_pos (by omega), show n / 13 % 13 + 1 = 13 by omega, show 2 * (n / 169) + e.val / 128 = (256 * (n / 169) + e.val) / 128 by omega, show 640 * (R.val / 640) + R.val % 640 = R.val by omega] at h
  refine (congrFun (written7 H ⟨n, hn⟩ hl).1 _).trans ((out19 _ _).trans ?_)
  have e0 : bH (outsAt0 m c n hn).2.2.2.2.2.2.1 ⟨R.val / 640, by omega⟩ ⟨e.val / 128, by omega⟩ (ix2 ⟨R.val % 640, by omega⟩ ⟨e.val % 128, by omega⟩) = (outsAt0 m c n hn).2.2.2.2.2.2.1 (ix2 R e) :=
    congrArg (outsAt0 m c n hn).2.2.2.2.2.2.1 (at2 (x := R) (y := e) (show 640 * (R.val / 640) + R.val % 640 = R.val by omega) (show 128 * (e.val / 128) + e.val % 128 = e.val by omega))
  dsimp only
  rw [← e0, h]
  unfold gQ isw
  rw [show (256 * (n / 169) + e.val) % 128 = e.val % 128 by omega, EReal.coe_mul]

theorem block8 (H : At m c px pq pk pd) (n : ℕ) (hn : n < cfg0.N) (hl : n % 13 = 12) (x : Fin 640) (e : Fin 512) :
    ((outsAt0 m c n hn).2.1 (ix2 x e) : EReal) = ((gKV px pq pk pd (640 * (n / 13 % 13) + x.val) (512 * (n / 169) + e.val) : ℝ) : EReal) := by
  have he := e.isLt
  have S := column H n hn hl
  have hk := S.k ⟨e.val / 256, by omega⟩ x ⟨e.val % 128, by omega⟩
  have hv := S.v ⟨e.val / 256, by omega⟩ x ⟨e.val % 128, by omega⟩
  refine (congrFun (written8 H ⟨n, hn⟩ hl) _).trans ((out18 _ _ x e).trans ?_)
  dsimp only at hk hv ⊢
  rw [hk, hv]
  unfold gKV isw
  rw [show (512 * (n / 169) + e.val) % 256 = e.val % 256 by omega, show (512 * (n / 169) + e.val) % 128 = e.val % 128 by omega, show (512 * (n / 169) + e.val) / 256 = 2 * (n / 169) + e.val / 256 by omega]
  split
  · exact (EReal.coe_mul _ _).symm
  · rfl

theorem block9 (H : At m c px pq pk pd) (n : ℕ) (hn : n < cfg0.N) (hl : n % 169 = 168) (a : Fin 2) (R : Fin 8320) :
    ((outsAt0 m c n hn).2.2.1 (ix3 a R 0) : EReal) = ((sr px pq pk pd 8320 (2 * (n / 169) + a.val) R.val : ℝ) : EReal) := by
  have hR := R.isLt
  have h := (column H n hn (by omega)).r ⟨R.val / 640, by omega⟩ a ⟨R.val % 640, by omega⟩
  dsimp only at h
  rw [if_pos (by omega), show n / 13 % 13 + 1 = 13 by omega, show 640 * (R.val / 640) + R.val % 640 = R.val by omega] at h
  refine (congrFun (written7 H ⟨n, hn⟩ hl).2 _).trans (Eq.trans ?_ h)
  exact congrArg (outsAt0 m c n hn).2.2.2.2.2.2.2 (Cert.Attn.at3 (show a.val = a.val + 0 by omega) (show R.val = 640 * (R.val / 640) + R.val % 640 by omega) rfl)

theorem block10 (H : At m c px pq pk pd) (n : ℕ) (hn : n < cfg0.N) (hl : n % 13 = 12) (a : Fin 2) (x : Fin 640) :
    ((outsAt0 m c n hn).2.2.2.1 (ix3 a 0 x) : EReal) = ((-su px pq pk pd 8320 (2 * (n / 169) + a.val) (640 * (n / 13 % 13) + x.val) : ℝ) : EReal) :=
  (column H n hn hl).u a x

/-! ## The arrays -/

theorem result7 (H : At m c px pq pk pd) : (dats m 0 c).arrAt 7 cfg0.N = fun i : S8320x1024.Idx => ((gQ px pq pk pd (i 0).val (i 1).val : ℝ) : EReal) := by
  refine (dats m 0 c).arrAt_eq_of_cover 7 _ (fun t hf => ?_) (fun i => ?_)
  · have hm := (flush0_7 t).mp hf
    obtain ⟨e0, e1⟩ := index7 t
    show (cfg0.win 7).cut (grid0.coords t) ((dats m 0 c).after 7 t) = _
    rw [after0_7]
    funext y
    refine (congrArg (outsAt0 m c t.val t.isLt).1 (at2 (x := (y 0 : Fin 8320)) (y := (y 1 : Fin 256)) rfl rfl)).trans ((block7 H t.val t.isLt hm (y 0 : Fin 8320) (y 1 : Fin 256)).trans (two (gQ px pq pk pd) ?_ ?_))
    · show (y 0).val = win0_7.index t 0 * 8320 + 1 * (y 0).val
      omega
    · show _ = win0_7.index t 1 * 256 + 1 * (y 1).val
      omega
  · have h0 : (i 0).val < 8320 := (i 0).isLt
    have h1 : (i 1).val < 1024 := (i 1).isLt
    let t : Fin cfg0.N := ⟨169 * ((i 1).val / 256) + 168, by rw [points]; omega⟩
    obtain ⟨e0, e1⟩ := index7 t
    have et : t.val / 169 = (i 1).val / 256 := show (169 * ((i 1).val / 256) + 168) / 169 = _ by omega
    refine ⟨t, (flush0_7 t).mpr (show (169 * ((i 1).val / 256) + 168) % 169 = 168 by omega), ?_⟩
    show i ∈ ((View.whole main_v54_0).slice (win0_7.rect t)).set
    rw [View.set_slice_whole, Rect.mem_set_unit]
    intro a
    match a with
    | ⟨0, _⟩ => show win0_7.index t 0 * 8320 ≤ (i 0).val ∧ (i 0).val < win0_7.index t 0 * 8320 + 8320; omega
    | ⟨1, _⟩ => show win0_7.index t 1 * 256 ≤ (i 1).val ∧ (i 1).val < win0_7.index t 1 * 256 + 256; omega

theorem result8 (H : At m c px pq pk pd) : (dats m 0 c).arrAt 8 cfg0.N = fun i : S8320x2048.Idx => ((gKV px pq pk pd (i 0).val (i 1).val : ℝ) : EReal) := by
  refine (dats m 0 c).arrAt_eq_of_cover 8 _ (fun t hf => ?_) (fun i => ?_)
  · have hm := (flush0_8 t).mp hf
    obtain ⟨e0, e1⟩ := index8 t
    show (cfg0.win 8).cut (grid0.coords t) ((dats m 0 c).after 8 t) = _
    rw [after0_8]
    funext y
    refine (congrArg (outsAt0 m c t.val t.isLt).2.1 (at2 (x := (y 0 : Fin 640)) (y := (y 1 : Fin 512)) rfl rfl)).trans ((block8 H t.val t.isLt hm (y 0 : Fin 640) (y 1 : Fin 512)).trans (two (gKV px pq pk pd) ?_ ?_))
    · show _ = win0_8.index t 0 * 640 + 1 * (y 0).val
      omega
    · show _ = win0_8.index t 1 * 512 + 1 * (y 1).val
      omega
  · have h0 : (i 0).val < 8320 := (i 0).isLt
    have h1 : (i 1).val < 2048 := (i 1).isLt
    let t : Fin cfg0.N := ⟨13 * ((i 0).val / 640 + 13 * ((i 1).val / 512)) + 12, by rw [points]; omega⟩
    obtain ⟨e0, e1⟩ := index8 t
    have et : t.val = 13 * ((i 0).val / 640 + 13 * ((i 1).val / 512)) + 12 := rfl
    refine ⟨t, (flush0_8 t).mpr (by omega), ?_⟩
    show i ∈ ((View.whole main_v54_1).slice (win0_8.rect t)).set
    rw [View.set_slice_whole, Rect.mem_set_unit]
    intro a
    match a with
    | ⟨0, _⟩ => show win0_8.index t 0 * 640 ≤ (i 0).val ∧ (i 0).val < win0_8.index t 0 * 640 + 640; omega
    | ⟨1, _⟩ => show win0_8.index t 1 * 512 ≤ (i 1).val ∧ (i 1).val < win0_8.index t 1 * 512 + 512; omega

theorem result9 (H : At m c px pq pk pd) : (dats m 0 c).arrAt 9 cfg0.N = fun i : S8x8320x1.Idx => ((sr px pq pk pd 8320 (i 0).val (i 1).val : ℝ) : EReal) := by
  refine (dats m 0 c).arrAt_eq_of_cover 9 _ (fun t hf => ?_) (fun i => ?_)
  · have hm := (flush0_9 t).mp hf
    obtain ⟨e0, e1, e2⟩ := index9 t
    show (cfg0.win 9).cut (grid0.coords t) ((dats m 0 c).after 9 t) = _
    rw [after0_9]
    funext y
    have y2 : (y 2).val < 1 := (y 2).isLt
    refine (congrArg (outsAt0 m c t.val t.isLt).2.2.1 (Cert.Attn.at3 (x := (y 0 : Fin 2)) (y := (y 1 : Fin 8320)) (z := 0) rfl rfl (show (y 2).val = 0 by omega))).trans ((block9 H t.val t.isLt hm (y 0 : Fin 2) (y 1 : Fin 8320)).trans (two (sr px pq pk pd 8320) ?_ ?_))
    · show _ = win0_9.index t 0 * 2 + 1 * (y 0).val
      omega
    · show _ = win0_9.index t 1 * 8320 + 1 * (y 1).val
      omega
  · have h0 : (i 0).val < 8 := (i 0).isLt
    have h1 : (i 1).val < 8320 := (i 1).isLt
    have h2 : (i 2).val < 1 := (i 2).isLt
    let t : Fin cfg0.N := ⟨169 * ((i 0).val / 2) + 168, by rw [points]; omega⟩
    obtain ⟨e0, e1, e2⟩ := index9 t
    have et : t.val = 169 * ((i 0).val / 2) + 168 := rfl
    refine ⟨t, (flush0_9 t).mpr (by omega), ?_⟩
    show i ∈ ((View.whole main_v54_2).slice (win0_9.rect t)).set
    rw [View.set_slice_whole, Rect.mem_set_unit]
    intro a
    match a with
    | ⟨0, _⟩ => show win0_9.index t 0 * 2 ≤ (i 0).val ∧ (i 0).val < win0_9.index t 0 * 2 + 2; omega
    | ⟨1, _⟩ => show win0_9.index t 1 * 8320 ≤ (i 1).val ∧ (i 1).val < win0_9.index t 1 * 8320 + 8320; omega
    | ⟨2, _⟩ => show win0_9.index t 2 * 1 ≤ (i 2).val ∧ (i 2).val < win0_9.index t 2 * 1 + 1; omega

theorem result10 (H : At m c px pq pk pd) : (dats m 0 c).arrAt 10 cfg0.N = fun i : S8x1x8320.Idx => ((-su px pq pk pd 8320 (i 0).val (i 2).val : ℝ) : EReal) := by
  refine (dats m 0 c).arrAt_eq_of_cover 10 _ (fun t hf => ?_) (fun i => ?_)
  · have hm := (flush0_10 t).mp hf
    obtain ⟨e0, e1, e2⟩ := index10 t
    show (cfg0.win 10).cut (grid0.coords t) ((dats m 0 c).after 10 t) = _
    rw [after0_10]
    funext y
    have y1 : (y 1).val < 1 := (y 1).isLt
    refine (congrArg (outsAt0 m c t.val t.isLt).2.2.2.1 (Cert.Attn.at3 (x := (y 0 : Fin 2)) (y := 0) (z := (y 2 : Fin 640)) rfl (show (y 1).val = 0 by omega) rfl)).trans ((block10 H t.val t.isLt hm (y 0 : Fin 2) (y 2 : Fin 640)).trans (two (fun h C => -su px pq pk pd 8320 h C) ?_ ?_))
    · show _ = win0_10.index t 0 * 2 + 1 * (y 0).val
      omega
    · show _ = win0_10.index t 2 * 640 + 1 * (y 2).val
      omega
  · have h0 : (i 0).val < 8 := (i 0).isLt
    have h1 : (i 1).val < 1 := (i 1).isLt
    have h2 : (i 2).val < 8320 := (i 2).isLt
    let t : Fin cfg0.N := ⟨13 * (13 * ((i 0).val / 2) + (i 2).val / 640) + 12, by rw [points]; omega⟩
    obtain ⟨e0, e1, e2⟩ := index10 t
    have et : t.val = 13 * (13 * ((i 0).val / 2) + (i 2).val / 640) + 12 := rfl
    refine ⟨t, (flush0_10 t).mpr (by omega), ?_⟩
    show i ∈ ((View.whole main_v54_3).slice (win0_10.rect t)).set
    rw [View.set_slice_whole, Rect.mem_set_unit]
    intro a
    match a with
    | ⟨0, _⟩ => show win0_10.index t 0 * 2 ≤ (i 0).val ∧ (i 0).val < win0_10.index t 0 * 2 + 2; omega
    | ⟨1, _⟩ => show win0_10.index t 1 * 1 ≤ (i 1).val ∧ (i 1).val < win0_10.index t 1 * 1 + 1; omega
    | ⟨2, _⟩ => show win0_10.index t 2 * 640 ≤ (i 2).val ∧ (i 2).val < win0_10.index t 2 * 640 + 640; omega

end Cert.AttnB

end
-- ==== Proof.AttnB.Start.lean ====
/- What the arrays hold when the grid starts, in terms of the arguments. -/
module

public import proofs.«01_k».proof.Proof.AttnB.Walk
public import proofs.«01_k».proof.Proof.AttnB.RefA
public import proofs.«01_k».proof.Proof.Attn.Ref
public import Idealize.ShloMosaic.Lib.Claim

@[expose] public section

noncomputable section

namespace Cert.AttnB

open Finset Idealize.ShloMosaic Idealize.ShloMosaic.TcCoe Cert.Products Cert.Kernel21Ideal Cert.Kernel21Ideal.Gen

variable (m : (ℓ : Loc nD τ Cert.Kernel21Ideal.sig) → Buf (Elt Ideal) ℓ) (c : Dev nD)

set_option maxRecDepth 1000000 in
theorem entry_mean : V m c main_v43
    = Cert.Reference20Ideal.Read.val_main_v43 (F := Ideal) (m ⟨c, main_arg0⟩) (m ⟨c, main_arg1⟩) (m ⟨c, main_arg2⟩) := by
  simp only [V, List.flatten_cons, List.flatten_nil, List.append_nil, List.cons_append, List.nil_append]
  after_results_simp
  rfl

set_option maxRecDepth 1000000 in
theorem entry_level : V m c main_v48
    = Cert.Reference20Ideal.Read.val_main_v48 (F := Ideal) (m ⟨c, main_arg0⟩) (m ⟨c, main_arg1⟩) (m ⟨c, main_arg2⟩) := by
  simp only [V, List.flatten_cons, List.flatten_nil, List.append_nil, List.cons_append, List.nil_append]
  after_results_simp
  rfl

set_option maxRecDepth 1000000 in
theorem entry_given (i : S8320x1024.Idx) : (V m c main_v53 i : EReal) = kept (i 0).val (m ⟨c, main_arg3⟩ i) := by
  have h0 : (i 0).val < 8320 := (i 0).isLt
  refine Eq.trans ?_ (select_kept (i 0).val (by omega) (m ⟨c, main_arg3⟩ i))
  have e : V m c main_v53 = select (broadcastInDim S8320x1024 ![0, 1] bcast_S8320x1_S8320x1024_0_1 (cmpi .sge (broadcastInDim S8320x1 ![0] bcast_S8320_S8320x1_0 (iotaInDim S8320 32 0)) (broadcastInDim S8320x1 ![] bcast_S_S8320x1 (constantI S_ 32 112#32)))) (m ⟨c, main_arg3⟩) (broadcastInDim S8320x1024 ![] bcast_S_S8320x1024 (sitofp (F := Ideal) .bf16 (constantI S_ 32 0#32))) := by
    simp only [V, List.flatten_cons, List.flatten_nil, List.append_nil, List.cons_append, List.nil_append]
    after_results_simp
    rfl
  rw [e]
  exact congrArg (Scalar.select _ _) (by show ((((0#32 : BitVec 32).toInt : ℝ)) : EReal) = 0; simp)

variable {m c} {px pq pk pd : ℕ → ℕ → ℝ}

/-- The arrays hold the reals when the grid starts. -/
theorem entry (H : Cert.Attn.Args (m ⟨c, main_arg0⟩) (m ⟨c, main_arg1⟩) (m ⟨c, main_arg2⟩) px pq pk) (G : Ref.Given (m ⟨c, main_arg3⟩) pd) :
    At m c px pq pk pd where
  hX i := by rw [V_main_arg0 m c]; exact H.hX i
  hD i := by
    refine (entry_given m c i).trans ?_
    unfold kept go
    split
    · exact G i
    · rfl
  hO i := by
    rw [entry_mean]
    refine (Cert.Attn.Ref.first H i).trans ?_
    unfold Cert.Attn.mean kept om
    split
    · rfl
    · rfl
  hL i := by rw [entry_level]; exact Cert.Attn.Ref.second H i
  hQ i := by rw [V_main_arg1 m c]; exact H.hQ i
  hK i := by rw [V_main_arg2 m c]; exact H.hK i

end Cert.AttnB

end
-- ==== Proof.AttnB.Finite.lean ====
/- Arrays that the precondition calls finite hold reals. -/
module

public import proofs.«01_k».proof.Proof.Attn.Finite
public import proofs.«01_k».proof.Proof.AttnB.RefA
public import proofs.«01_k».proof.Pre_finite21

@[expose] public section

noncomputable section

namespace Cert.AttnB

open Idealize.ShloMosaic Cert.Reference20Ideal
open Cert.Gla (entryR)

variable [Cert.Pre_finite20.Facts] [Cert.Pre_finite21.Facts]
variable {x0 : FVec Ideal S8320x3072 .bf16} {x1 : FVec Ideal S8x8320x1 .f32} {x2 : FVec Ideal S8x1x8320 .f32} {x3 : FVec Ideal S8320x1024 .bf16}

/-- The projection and the two shifts hold reals. -/
theorem args_of (h0 : (Cert.Pre_finite21.fn (F := Ideal) x0 x1 x2 x3).1 = fun _ => 1#1)
    (h1 : (Cert.Pre_finite21.fn (F := Ideal) x0 x1 x2 x3).2.1 = fun _ => 1#1)
    (h2 : (Cert.Pre_finite21.fn (F := Ideal) x0 x1 x2 x3).2.2.1 = fun _ => 1#1) :
    Cert.Attn.Args x0 x1 x2 (entryR x0) (Cert.Attn.stackQ x1) (Cert.Attn.stackK x2) :=
  Cert.Attn.args_of h0 h1 h2

/-- The gradient handed in holds reals. -/
theorem given_of (h3 : (Cert.Pre_finite21.fn (F := Ideal) x0 x1 x2 x3).2.2.2 = fun _ => 1#1) : Ref.Given x3 (entryR x3) := fun i => by
  refine (Cert.Attn.real_of_below_narrow (x3 i) (congrFun h3 i)).trans (congrArg _ ?_)
  have e := Cert.Gla.entryR_of x3 (i 0) (i 1)
  exact (congrArg (fun j => (x3 j).toReal) (Cert.Products.at2 rfl rfl)).trans e.symm

end Cert.AttnB

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Gen.Kernel2.Frame
public import proofs.«01_k».proof.Proof.Gen.Reference2Ideal.Run
public import proofs.«01_k».proof.Proof.Gen.Kernel3.Frame
public import proofs.«01_k».proof.Proof.Gen.Reference3Ideal.Run
public import proofs.«01_k».proof.Proof.Gen.Kernel4.Frame
public import proofs.«01_k».proof.Proof.Gen.Reference4Ideal.Run
public import proofs.«01_k».proof.Proof.Gen.Kernel5.Frame
public import proofs.«01_k».proof.Proof.Gen.Reference5Ideal.Run
public import proofs.«01_k».proof.Proof.Gen.Kernel6.Frame
public import proofs.«01_k».proof.Proof.Gen.Reference6Ideal.Run
public import proofs.«01_k».proof.Proof.Gen.Kernel7.Frame
public import proofs.«01_k».proof.Proof.Gen.Reference7Ideal.Run
public import proofs.«01_k».proof.Proof.Gen.Kernel8.Frame
public import proofs.«01_k».proof.Proof.Gen.Reference8Ideal.Run
public import proofs.«01_k».proof.Proof.Gen.Kernel9.Frame
public import proofs.«01_k».proof.Proof.Gen.Reference9Ideal.Run
public import proofs.«01_k».proof.Proof.Gen.Kernel10.Frame
public import proofs.«01_k».proof.Proof.Gen.Reference10Ideal.Run
public import proofs.«01_k».proof.Proof.Gen.Kernel11.Frame
public import proofs.«01_k».proof.Proof.Gen.Reference11Ideal.Run
public import proofs.«01_k».proof.Proof.Gen.Kernel12.Frame
public import proofs.«01_k».proof.Proof.Gen.Reference12Ideal.Run
public import proofs.«01_k».proof.Proof.Gen.Kernel13.Frame
public import proofs.«01_k».proof.Proof.Gen.Reference13Ideal.Run
public import proofs.«01_k».proof.Proof.Gen.Kernel14.Frame
public import proofs.«01_k».proof.Proof.Gen.Reference14Ideal.Run
public import proofs.«01_k».proof.Proof.Gen.Kernel15.Frame
public import proofs.«01_k».proof.Proof.Gen.Reference15Ideal.Run
public import proofs.«01_k».proof.Proof.Gen.Kernel16.Frame
public import proofs.«01_k».proof.Proof.Gen.Reference16Ideal.Run
public import proofs.«01_k».proof.Proof.Gen.Kernel17.Frame
public import proofs.«01_k».proof.Proof.Gen.Reference17Ideal.Run
public import proofs.«01_k».proof.Proof.Gen.Kernel18.Frame
public import proofs.«01_k».proof.Proof.Gen.Reference18Ideal.Run
public import proofs.«01_k».proof.Proof.Gen.Kernel19.Frame
public import proofs.«01_k».proof.Proof.Gen.Reference19Ideal.Run
public import proofs.«01_k».proof.Proof.Products.Call2
public import proofs.«01_k».proof.Proof.Products.Call3
public import proofs.«01_k».proof.Proof.Products.Call4
public import proofs.«01_k».proof.Proof.Products.Call5
public import proofs.«01_k».proof.Proof.Products.Call6
public import proofs.«01_k».proof.Proof.Products.Call7
public import proofs.«01_k».proof.Proof.Products.Call8
public import proofs.«01_k».proof.Proof.Products.Call9
public import proofs.«01_k».proof.Proof.Products.Call10
public import proofs.«01_k».proof.Proof.Products.Call11
public import proofs.«01_k».proof.Proof.Products.Call12
public import proofs.«01_k».proof.Proof.Products.Call13
public import proofs.«01_k».proof.Proof.Products.Call14
public import proofs.«01_k».proof.Proof.Products.Call15
public import proofs.«01_k».proof.Proof.Products.Call16
public import proofs.«01_k».proof.Proof.Products.Call17
public import proofs.«01_k».proof.Proof.Products.Call18
public import proofs.«01_k».proof.Proof.Products.Call19
public import proofs.«01_k».proof.Proof.Gen.Pre_finite
public import proofs.«01_k».proof.Proof.Gla.Finish
public import proofs.«01_k».proof.Proof.Attn.Finite
public import proofs.«01_k».proof.Proof.AttnB.RefB
public import proofs.«01_k».proof.Proof.AttnB.Result
public import proofs.«01_k».proof.Proof.AttnB.Start
public import proofs.«01_k».proof.Proof.AttnB.Finite
public import proofs.«01_k».proof.Proof.Gen.Pre_finite20
public import proofs.«01_k».proof.Proof.Gen.Pre_finite21
public import proofs.«01_k».proof.Proof.Gla.Finite
public import Idealize.ShloMosaic.Adequacy
public import Idealize.ShloMosaic.Init

@[expose] public section

noncomputable section

namespace Cert.Proof

open Idealize.ShloMosaic Idealize.ShloMosaic.TcCoe Idealize.SL.Sem Cert.Gla

/-- The reference runs on the host alone: its arguments end unchanged, and it has no semaphores. -/
theorem frameReference : quiescent_ReferenceIdeal (hReferenceIdeal := ReferenceIdeal.Gen.facts) := fun m ρ _ =>
  (θ_run ReferenceIdeal.defs _ _).mono (fun r h => ⟨fun c => (h c).2.2.2, sem_eq_zero_of_no_sems (by decide) r.2⟩) (ReferenceIdeal.Value.run m ρ)

/-- Where the inputs are finite, the kernel's three results are the reference's. -/
theorem algebraic : algebraic_KernelIdeal_ReferenceIdeal_pre_finite (hKernelIdeal := KernelIdeal.Gen.facts)
    (hReferenceIdeal := ReferenceIdeal.Gen.facts) (hPre_finite := Pre_finite.Gen.facts) := by
  intro m g m' g' hpre hargs
  refine ⟨fun c => (KernelIdeal.Gen.dats m 0 c).arrAt 6 KernelIdeal.cfg0.N,
    fun c => (KernelIdeal.Gen.dats m 0 c).arrAt 7 KernelIdeal.cfg0.N,
    fun c => (KernelIdeal.Gen.dats m 0 c).arrAt 8 KernelIdeal.cfg0.N,
    KernelIdeal.Value.run_blocks m g, ?_⟩
  refine (θ_run (ReferenceIdeal.defs) _ _).mono (fun r h c => ?_) (ReferenceIdeal.Value.run m' g')
  obtain ⟨h0, h1, h2, hk⟩ := h c
  obtain ⟨a0, a1, a2, a3, a4⟩ := hargs c
  obtain ⟨p0, p1, p2, p3⟩ := hpre c
  have ha := args_of p0 p1
  have hb := rest_of p2 p3
  refine ⟨h0.trans ?_, h1.trans ?_, h2.trans ?_, hk⟩
  · refine (ReferenceIdeal.Read.val_main_v117_eq (StableHlo.launchContents m' c)).trans ?_
    refine Eq.trans ?_ (result6 ha hb).symm
    simp only [StableHlo.launchContents_devRef]
    rw [← a0, ← a1, ← a2, ← a3, ← a4]
  · refine (ReferenceIdeal.Read.val_main_v109_eq (StableHlo.launchContents m' c)).trans ?_
    refine Eq.trans ?_ (result7 ha hb).symm
    simp only [StableHlo.launchContents_devRef]
    rw [← a0, ← a1, ← a2, ← a3]
  · refine (ReferenceIdeal.Read.val_main_v65_eq (StableHlo.launchContents m' c)).trans ?_
    refine Eq.trans ?_ (result8 ha hb).symm
    simp only [StableHlo.launchContents_devRef]
    rw [← a0, ← a1, ← a3]

theorem frameReference2 : quiescent_Reference2Ideal (hReference2Ideal := Reference2Ideal.Gen.facts) := fun m ρ _ =>
  (θ_run Reference2Ideal.defs _ _).mono (fun r h => ⟨fun c => (h c).2, sem_eq_zero_of_no_sems (by decide) r.2⟩) (Reference2Ideal.Value.run m ρ)

/-- The gradient of the input projection's weights: the kernel's result is the reference's. -/
theorem algebraic2 : algebraic_Kernel2Ideal_Reference2Ideal (hKernel2Ideal := Kernel2Ideal.Gen.facts)
    (hReference2Ideal := Reference2Ideal.Gen.facts) := by
  intro m g m' g' _ hargs
  refine ⟨_, Kernel2Ideal.Value.run m g, (θ_run Reference2Ideal.defs _ _).mono (fun r h c => ?_) (Reference2Ideal.Value.run m' g')⟩
  obtain ⟨a0, a1⟩ := hargs c
  refine ⟨(h c).1.trans ((Reference2Ideal.Read.val_main_v6_eq _ _).trans (Eq.trans ?_ (Products.Call2.same m c).symm)), (h c).2⟩
  rw [Kernel2Ideal.Gen.V_main_arg0 m c, Kernel2Ideal.Gen.V_main_arg1 m c, ← a0, ← a1]

theorem frameReference3 : quiescent_Reference3Ideal (hReference3Ideal := Reference3Ideal.Gen.facts) := fun m ρ _ =>
  (θ_run Reference3Ideal.defs _ _).mono (fun r h => ⟨fun c => (h c).2, sem_eq_zero_of_no_sems (by decide) r.2⟩) (Reference3Ideal.Value.run m ρ)

/-- The gradient of the input projection's input: the kernel's result is the reference's. -/
theorem algebraic3 : algebraic_Kernel3Ideal_Reference3Ideal (hKernel3Ideal := Kernel3Ideal.Gen.facts)
    (hReference3Ideal := Reference3Ideal.Gen.facts) := by
  intro m g m' g' _ hargs
  refine ⟨_, Kernel3Ideal.Value.run m g, (θ_run Reference3Ideal.defs _ _).mono (fun r h c => ?_) (Reference3Ideal.Value.run m' g')⟩
  obtain ⟨a0, a1⟩ := hargs c
  refine ⟨(h c).1.trans ((Reference3Ideal.Read.val_main_v4_eq _ _).trans (Eq.trans ?_ (Products.Call3.same m c).symm)), (h c).2⟩
  rw [Kernel3Ideal.Gen.V_main_arg0 m c, Kernel3Ideal.Gen.V_main_arg1 m c, ← a0, ← a1]

theorem frameReference4 : quiescent_Reference4Ideal (hReference4Ideal := Reference4Ideal.Gen.facts) := fun m ρ _ =>
  (θ_run Reference4Ideal.defs _ _).mono (fun r h => ⟨fun c => (h c).2, sem_eq_zero_of_no_sems (by decide) r.2⟩) (Reference4Ideal.Value.run m ρ)

/-- The gradient of one half of the up projection's weights: the kernel's result is the reference's. -/
theorem algebraic4 : algebraic_Kernel4Ideal_Reference4Ideal (hKernel4Ideal := Kernel4Ideal.Gen.facts)
    (hReference4Ideal := Reference4Ideal.Gen.facts) := by
  intro m g m' g' _ hargs
  refine ⟨_, Kernel4Ideal.Value.run m g, (θ_run Reference4Ideal.defs _ _).mono (fun r h c => ?_) (Reference4Ideal.Value.run m' g')⟩
  obtain ⟨a0, a1⟩ := hargs c
  refine ⟨(h c).1.trans ((Reference4Ideal.Read.val_main_v6_eq _ _).trans (Eq.trans ?_ (Products.Call4.same m c).symm)), (h c).2⟩
  rw [Kernel4Ideal.Gen.V_main_arg0 m c, Kernel4Ideal.Gen.V_main_arg1 m c, ← a0, ← a1]

theorem frameReference5 : quiescent_Reference5Ideal (hReference5Ideal := Reference5Ideal.Gen.facts) := fun m ρ _ =>
  (θ_run Reference5Ideal.defs _ _).mono (fun r h => ⟨fun c => (h c).2, sem_eq_zero_of_no_sems (by decide) r.2⟩) (Reference5Ideal.Value.run m ρ)

/-- The gradient of the down projection's weights: the kernel's result is the reference's. -/
theorem algebraic5 : algebraic_Kernel5Ideal_Reference5Ideal (hKernel5Ideal := Kernel5Ideal.Gen.facts)
    (hReference5Ideal := Reference5Ideal.Gen.facts) := by
  intro m g m' g' _ hargs
  refine ⟨_, Kernel5Ideal.Value.run m g, (θ_run Reference5Ideal.defs _ _).mono (fun r h c => ?_) (Reference5Ideal.Value.run m' g')⟩
  obtain ⟨a0, a1⟩ := hargs c
  refine ⟨(h c).1.trans ((Reference5Ideal.Read.val_main_v5_eq _ _).trans (Eq.trans ?_ (Products.Call5.same m c).symm)), (h c).2⟩
  rw [Kernel5Ideal.Gen.V_main_arg0 m c, Kernel5Ideal.Gen.V_main_arg1 m c, ← a0, ← a1]

theorem frameReference6 : quiescent_Reference6Ideal (hReference6Ideal := Reference6Ideal.Gen.facts) := fun m ρ _ =>
  (θ_run Reference6Ideal.defs _ _).mono (fun r h => ⟨fun c => (h c).2, sem_eq_zero_of_no_sems (by decide) r.2⟩) (Reference6Ideal.Value.run m ρ)

/-- The gradient of the down projection's input: the kernel's result is the reference's. -/
theorem algebraic6 : algebraic_Kernel6Ideal_Reference6Ideal (hKernel6Ideal := Kernel6Ideal.Gen.facts)
    (hReference6Ideal := Reference6Ideal.Gen.facts) := by
  intro m g m' g' _ hargs
  refine ⟨_, Kernel6Ideal.Value.run_blocks m g, (θ_run Reference6Ideal.defs _ _).mono (fun r h c => ?_) (Reference6Ideal.Value.run m' g')⟩
  obtain ⟨a0, a1⟩ := hargs c
  refine ⟨(h c).1.trans ((Reference6Ideal.Read.val_main_v4_eq _ _).trans (Eq.trans ?_ (Products.Call6.same m c).symm)), (h c).2⟩
  rw [Kernel6Ideal.Gen.V_main_arg0 m c, Kernel6Ideal.Gen.V_main_arg1 m c, ← a0, ← a1]

theorem frameReference7 : quiescent_Reference7Ideal (hReference7Ideal := Reference7Ideal.Gen.facts) := fun m ρ _ =>
  (θ_run Reference7Ideal.defs _ _).mono (fun r h => ⟨fun c => (h c).2, sem_eq_zero_of_no_sems (by decide) r.2⟩) (Reference7Ideal.Value.run m ρ)

/-- The gradient of the up projection's input, the gate's half: the kernel's result is the reference's. -/
theorem algebraic7 : algebraic_Kernel7Ideal_Reference7Ideal (hKernel7Ideal := Kernel7Ideal.Gen.facts)
    (hReference7Ideal := Reference7Ideal.Gen.facts) := by
  intro m g m' g' _ hargs
  refine ⟨_, Kernel7Ideal.Value.run m g, (θ_run Reference7Ideal.defs _ _).mono (fun r h c => ?_) (Reference7Ideal.Value.run m' g')⟩
  obtain ⟨a0, a1⟩ := hargs c
  refine ⟨(h c).1.trans ((Reference7Ideal.Read.val_main_v5_eq _ _).trans (Eq.trans ?_ (Products.Call7.same m c).symm)), (h c).2⟩
  rw [Kernel7Ideal.Gen.V_main_arg0 m c, Kernel7Ideal.Gen.V_main_arg1 m c, ← a0, ← a1]

theorem frameReference8 : quiescent_Reference8Ideal (hReference8Ideal := Reference8Ideal.Gen.facts) := fun m ρ _ =>
  (θ_run Reference8Ideal.defs _ _).mono (fun r h => ⟨fun c => (h c).2, sem_eq_zero_of_no_sems (by decide) r.2⟩) (Reference8Ideal.Value.run m ρ)

/-- The gradient of the up projection's input, the other half added: the kernel's result is the reference's. -/
theorem algebraic8 : algebraic_Kernel8Ideal_Reference8Ideal (hKernel8Ideal := Kernel8Ideal.Gen.facts)
    (hReference8Ideal := Reference8Ideal.Gen.facts) := by
  intro m g m' g' _ hargs
  refine ⟨_, Kernel8Ideal.Value.run m g, (θ_run Reference8Ideal.defs _ _).mono (fun r h c => ?_) (Reference8Ideal.Value.run m' g')⟩
  obtain ⟨a0, a1, a2⟩ := hargs c
  refine ⟨(h c).1.trans ((Reference8Ideal.Read.val_main_v6_eq _ _ _).trans (Eq.trans ?_ (Products.Call8.same m c).symm)), (h c).2⟩
  rw [Kernel8Ideal.Gen.V_main_arg0 m c, Kernel8Ideal.Gen.V_main_arg1 m c, Kernel8Ideal.Gen.V_main_arg2 m c, ← a0, ← a1, ← a2]

theorem frameReference9 : quiescent_Reference9Ideal (hReference9Ideal := Reference9Ideal.Gen.facts) := fun m ρ _ =>
  (θ_run Reference9Ideal.defs _ _).mono (fun r h => ⟨fun c => (h c).2, sem_eq_zero_of_no_sems (by decide) r.2⟩) (Reference9Ideal.Value.run m ρ)

/-- The gradient of the output projection's weights: the kernel's result is the reference's. -/
theorem algebraic9 : algebraic_Kernel9Ideal_Reference9Ideal (hKernel9Ideal := Kernel9Ideal.Gen.facts)
    (hReference9Ideal := Reference9Ideal.Gen.facts) := by
  intro m g m' g' _ hargs
  refine ⟨_, Kernel9Ideal.Value.run m g, (θ_run Reference9Ideal.defs _ _).mono (fun r h c => ?_) (Reference9Ideal.Value.run m' g')⟩
  obtain ⟨a0, a1⟩ := hargs c
  refine ⟨(h c).1.trans ((Reference9Ideal.Read.val_main_v5_eq _ _).trans (Eq.trans ?_ (Products.Call9.same m c).symm)), (h c).2⟩
  rw [Kernel9Ideal.Gen.V_main_arg0 m c, Kernel9Ideal.Gen.V_main_arg1 m c, ← a0, ← a1]

theorem frameReference10 : quiescent_Reference10Ideal (hReference10Ideal := Reference10Ideal.Gen.facts) := fun m ρ _ =>
  (θ_run Reference10Ideal.defs _ _).mono (fun r h => ⟨fun c => (h c).2, sem_eq_zero_of_no_sems (by decide) r.2⟩) (Reference10Ideal.Value.run m ρ)

/-- The gradient of the output projection's input: the kernel's result is the reference's. -/
theorem algebraic10 : algebraic_Kernel10Ideal_Reference10Ideal (hKernel10Ideal := Kernel10Ideal.Gen.facts)
    (hReference10Ideal := Reference10Ideal.Gen.facts) := by
  intro m g m' g' _ hargs
  refine ⟨_, Kernel10Ideal.Value.run_blocks m g, (θ_run Reference10Ideal.defs _ _).mono (fun r h c => ?_) (Reference10Ideal.Value.run m' g')⟩
  obtain ⟨a0, a1⟩ := hargs c
  refine ⟨(h c).1.trans ((Reference10Ideal.Read.val_main_v4_eq _ _).trans (Eq.trans ?_ (Products.Call10.same m c).symm)), (h c).2⟩
  rw [Kernel10Ideal.Gen.V_main_arg0 m c, Kernel10Ideal.Gen.V_main_arg1 m c, ← a0, ← a1]

theorem frameReference11 : quiescent_Reference11Ideal (hReference11Ideal := Reference11Ideal.Gen.facts) := fun m ρ _ =>
  (θ_run Reference11Ideal.defs _ _).mono (fun r h => ⟨fun c => (h c).2, sem_eq_zero_of_no_sems (by decide) r.2⟩) (Reference11Ideal.Value.run m ρ)

/-- The gradient of a branch projection's weights: the kernel's result is the reference's. -/
theorem algebraic11 : algebraic_Kernel11Ideal_Reference11Ideal (hKernel11Ideal := Kernel11Ideal.Gen.facts)
    (hReference11Ideal := Reference11Ideal.Gen.facts) := by
  intro m g m' g' _ hargs
  refine ⟨_, Kernel11Ideal.Value.run m g, (θ_run Reference11Ideal.defs _ _).mono (fun r h c => ?_) (Reference11Ideal.Value.run m' g')⟩
  obtain ⟨a0, a1⟩ := hargs c
  refine ⟨(h c).1.trans ((Reference11Ideal.Read.val_main_v6_eq _ _).trans (Eq.trans ?_ (Products.Call11.same m c).symm)), (h c).2⟩
  rw [Kernel11Ideal.Gen.V_main_arg0 m c, Kernel11Ideal.Gen.V_main_arg1 m c, ← a0, ← a1]

theorem frameReference12 : quiescent_Reference12Ideal (hReference12Ideal := Reference12Ideal.Gen.facts) := fun m ρ _ =>
  (θ_run Reference12Ideal.defs _ _).mono (fun r h => ⟨fun c => (h c).2, sem_eq_zero_of_no_sems (by decide) r.2⟩) (Reference12Ideal.Value.run m ρ)

/-- The gradient of the first branch projection's input: the kernel's result is the reference's. -/
theorem algebraic12 : algebraic_Kernel12Ideal_Reference12Ideal (hKernel12Ideal := Kernel12Ideal.Gen.facts)
    (hReference12Ideal := Reference12Ideal.Gen.facts) := by
  intro m g m' g' _ hargs
  refine ⟨_, Kernel12Ideal.Value.run_blocks m g, (θ_run Reference12Ideal.defs _ _).mono (fun r h c => ?_) (Reference12Ideal.Value.run m' g')⟩
  obtain ⟨a0, a1⟩ := hargs c
  refine ⟨(h c).1.trans ((Reference12Ideal.Read.val_main_v5_eq _ _).trans (Eq.trans ?_ (Products.Call12.same m c).symm)), (h c).2⟩
  rw [Kernel12Ideal.Gen.V_main_arg0 m c, Kernel12Ideal.Gen.V_main_arg1 m c, ← a0, ← a1]

theorem frameReference13 : quiescent_Reference13Ideal (hReference13Ideal := Reference13Ideal.Gen.facts) := fun m ρ _ =>
  (θ_run Reference13Ideal.defs _ _).mono (fun r h => ⟨fun c => (h c).2, sem_eq_zero_of_no_sems (by decide) r.2⟩) (Reference13Ideal.Value.run m ρ)

/-- The gradient of the second and third branch projections' inputs: the kernel's result is the reference's. -/
theorem algebraic13 : algebraic_Kernel13Ideal_Reference13Ideal (hKernel13Ideal := Kernel13Ideal.Gen.facts)
    (hReference13Ideal := Reference13Ideal.Gen.facts) := by
  intro m g m' g' _ hargs
  refine ⟨_, Kernel13Ideal.Value.run_blocks m g, (θ_run Reference13Ideal.defs _ _).mono (fun r h c => ?_) (Reference13Ideal.Value.run m' g')⟩
  obtain ⟨a0, a1⟩ := hargs c
  refine ⟨(h c).1.trans ((Reference13Ideal.Read.val_main_v4_eq _ _).trans (Eq.trans ?_ (Products.Call13.same m c).symm)), (h c).2⟩
  rw [Kernel13Ideal.Gen.V_main_arg0 m c, Kernel13Ideal.Gen.V_main_arg1 m c, ← a0, ← a1]

theorem frameReference14 : quiescent_Reference14Ideal (hReference14Ideal := Reference14Ideal.Gen.facts) := fun m ρ _ =>
  (θ_run Reference14Ideal.defs _ _).mono (fun r h => ⟨fun c => (h c).2, sem_eq_zero_of_no_sems (by decide) r.2⟩) (Reference14Ideal.Value.run m ρ)

/-- The input projection's columns for the attention branch: the kernel's result is the reference's. -/
theorem algebraic14 : algebraic_Kernel14Ideal_Reference14Ideal (hKernel14Ideal := Kernel14Ideal.Gen.facts)
    (hReference14Ideal := Reference14Ideal.Gen.facts) := by
  intro m g m' g' _ hargs
  refine ⟨_, Kernel14Ideal.Value.run_blocks m g, (θ_run Reference14Ideal.defs _ _).mono (fun r h c => ?_) (Reference14Ideal.Value.run m' g')⟩
  obtain ⟨a0, a1⟩ := hargs c
  refine ⟨(h c).1.trans ((Reference14Ideal.Read.val_main_v4_eq _ _).trans (Eq.trans ?_ (Products.Call14.same m c).symm)), (h c).2⟩
  rw [Kernel14Ideal.Gen.V_main_arg0 m c, Kernel14Ideal.Gen.V_main_arg1 m c, ← a0, ← a1]

theorem frameReference15 : quiescent_Reference15Ideal (hReference15Ideal := Reference15Ideal.Gen.facts) := fun m ρ _ =>
  (θ_run Reference15Ideal.defs _ _).mono (fun r h => ⟨fun c => (h c).2, sem_eq_zero_of_no_sems (by decide) r.2⟩) (Reference15Ideal.Value.run m ρ)

/-- The input projection's other columns: the kernel's result is the reference's. -/
theorem algebraic15 : algebraic_Kernel15Ideal_Reference15Ideal (hKernel15Ideal := Kernel15Ideal.Gen.facts)
    (hReference15Ideal := Reference15Ideal.Gen.facts) := by
  intro m g m' g' _ hargs
  refine ⟨_, Kernel15Ideal.Value.run_blocks m g, (θ_run Reference15Ideal.defs _ _).mono (fun r h c => ?_) (Reference15Ideal.Value.run m' g')⟩
  obtain ⟨a0, a1⟩ := hargs c
  refine ⟨(h c).1.trans ((Reference15Ideal.Read.val_main_v3_eq _ _).trans (Eq.trans ?_ (Products.Call15.same m c).symm)), (h c).2⟩
  rw [Kernel15Ideal.Gen.V_main_arg0 m c, Kernel15Ideal.Gen.V_main_arg1 m c, ← a0, ← a1]

theorem frameReference16 : quiescent_Reference16Ideal (hReference16Ideal := Reference16Ideal.Gen.facts) := fun m ρ _ =>
  (θ_run Reference16Ideal.defs _ _).mono (fun r h => ⟨fun c => (h c).2, sem_eq_zero_of_no_sems (by decide) r.2⟩) (Reference16Ideal.Value.run m ρ)

/-- A branch projection: the kernel's result is the reference's. -/
theorem algebraic16 : algebraic_Kernel16Ideal_Reference16Ideal (hKernel16Ideal := Kernel16Ideal.Gen.facts)
    (hReference16Ideal := Reference16Ideal.Gen.facts) := by
  intro m g m' g' _ hargs
  refine ⟨_, Kernel16Ideal.Value.run_blocks m g, (θ_run Reference16Ideal.defs _ _).mono (fun r h c => ?_) (Reference16Ideal.Value.run m' g')⟩
  obtain ⟨a0, a1⟩ := hargs c
  refine ⟨(h c).1.trans ((Reference16Ideal.Read.val_main_v3_eq _ _).trans (Eq.trans ?_ (Products.Call16.same m c).symm)), (h c).2⟩
  rw [Kernel16Ideal.Gen.V_main_arg0 m c, Kernel16Ideal.Gen.V_main_arg1 m c, ← a0, ← a1]

theorem frameReference17 : quiescent_Reference17Ideal (hReference17Ideal := Reference17Ideal.Gen.facts) := fun m ρ _ =>
  (θ_run Reference17Ideal.defs _ _).mono (fun r h => ⟨fun c => (h c).2, sem_eq_zero_of_no_sems (by decide) r.2⟩) (Reference17Ideal.Value.run m ρ)

/-- The output projection, added to the residual stream: the kernel's result is the reference's. -/
theorem algebraic17 : algebraic_Kernel17Ideal_Reference17Ideal (hKernel17Ideal := Kernel17Ideal.Gen.facts)
    (hReference17Ideal := Reference17Ideal.Gen.facts) := by
  intro m g m' g' _ hargs
  refine ⟨_, Kernel17Ideal.Value.run_blocks m g, (θ_run Reference17Ideal.defs _ _).mono (fun r h c => ?_) (Reference17Ideal.Value.run m' g')⟩
  obtain ⟨a0, a1, a2⟩ := hargs c
  refine ⟨(h c).1.trans ((Reference17Ideal.Read.val_main_v8_eq _ _ _).trans (Eq.trans ?_ (Products.Call17.same m c).symm)), (h c).2⟩
  rw [Kernel17Ideal.Gen.V_main_arg0 m c, Kernel17Ideal.Gen.V_main_arg1 m c, Kernel17Ideal.Gen.V_main_arg2 m c, ← a0, ← a1, ← a2]

theorem frameReference18 : quiescent_Reference18Ideal (hReference18Ideal := Reference18Ideal.Gen.facts) := fun m ρ _ =>
  (θ_run Reference18Ideal.defs _ _).mono (fun r h => ⟨fun c => (h c).2, sem_eq_zero_of_no_sems (by decide) r.2⟩) (Reference18Ideal.Value.run m ρ)

/-- The up projection: the kernel's result is the reference's. -/
theorem algebraic18 : algebraic_Kernel18Ideal_Reference18Ideal (hKernel18Ideal := Kernel18Ideal.Gen.facts)
    (hReference18Ideal := Reference18Ideal.Gen.facts) := by
  intro m g m' g' _ hargs
  refine ⟨_, Kernel18Ideal.Value.run_blocks m g, (θ_run Reference18Ideal.defs _ _).mono (fun r h c => ?_) (Reference18Ideal.Value.run m' g')⟩
  obtain ⟨a0, a1⟩ := hargs c
  refine ⟨(h c).1.trans ((Reference18Ideal.Read.val_main_v3_eq _ _).trans (Eq.trans ?_ (Products.Call18.same m c).symm)), (h c).2⟩
  rw [Kernel18Ideal.Gen.V_main_arg0 m c, Kernel18Ideal.Gen.V_main_arg1 m c, ← a0, ← a1]

theorem frameReference19 : quiescent_Reference19Ideal (hReference19Ideal := Reference19Ideal.Gen.facts) := fun m ρ _ =>
  (θ_run Reference19Ideal.defs _ _).mono (fun r h => ⟨fun c => (h c).2, sem_eq_zero_of_no_sems (by decide) r.2⟩) (Reference19Ideal.Value.run m ρ)

/-- The down projection, added to the residual stream: the kernel's result is the reference's. -/
theorem algebraic19 : algebraic_Kernel19Ideal_Reference19Ideal (hKernel19Ideal := Kernel19Ideal.Gen.facts)
    (hReference19Ideal := Reference19Ideal.Gen.facts) := by
  intro m g m' g' _ hargs
  refine ⟨_, Kernel19Ideal.Value.run m g, (θ_run Reference19Ideal.defs _ _).mono (fun r h c => ?_) (Reference19Ideal.Value.run m' g')⟩
  obtain ⟨a0, a1, a2⟩ := hargs c
  refine ⟨(h c).1.trans ((Reference19Ideal.Read.val_main_v8_eq _ _ _).trans (Eq.trans ?_ (Products.Call19.same m c).symm)), (h c).2⟩
  rw [Kernel19Ideal.Gen.V_main_arg0 m c, Kernel19Ideal.Gen.V_main_arg1 m c, Kernel19Ideal.Gen.V_main_arg2 m c, ← a0, ← a1, ← a2]

theorem frameReference20 : quiescent_Reference20Ideal (hReference20Ideal := Reference20Ideal.Gen.facts) := fun m ρ _ =>
  (θ_run Reference20Ideal.defs _ _).mono (fun r h => ⟨fun c => (h c).2.2, sem_eq_zero_of_no_sems (by decide) r.2⟩) (Reference20Ideal.Value.run m ρ)

/-- The attention's named constants are the values they stand for. -/
theorem preserves20 : preserves_Kernel20_Kernel20Ideal :=
  ⟨IdealRules.named_const.statement _ _ _ _ _ rfl, IdealRules.named_const.statement _ _ _ _ _ rfl, IdealRules.named_const.statement _ _ _ _ _ rfl⟩

/-- Where the inputs are finite, the attention's two results are the reference's. -/
theorem algebraic20 : algebraic_Kernel20Ideal_Reference20Ideal_pre_finite20 (hKernel20Ideal := Kernel20Ideal.Gen.facts)
    (hReference20Ideal := Reference20Ideal.Gen.facts) (hPre_finite20 := Pre_finite20.Gen.facts) := by
  intro m g m' g' hpre hargs
  refine ⟨fun c => Kernel20Ideal.Value.G4 m c, fun c => Kernel20Ideal.Value.G5 m c, Kernel20Ideal.Value.run m g, ?_⟩
  refine (θ_run (Reference20Ideal.defs) _ _).mono (fun r h c => ?_) (Reference20Ideal.Value.run m' g')
  obtain ⟨h0, h1, hk⟩ := h c
  obtain ⟨a0, a1, a2⟩ := hargs c
  obtain ⟨p0, p1, p2⟩ := hpre c
  have ha := Attn.args_of p0 p1 p2
  have hv := ha
  rw [← Kernel20Ideal.Gen.V_main_arg0 m c, ← Kernel20Ideal.Gen.V_main_arg1 m c, ← Kernel20Ideal.Gen.V_main_arg2 m c] at hv
  refine ⟨h0.trans ?_, h1.trans ?_, hk⟩
  · refine (Reference20Ideal.Read.val_main_v43_eq _ _).trans ?_
    rw [a0, a1, a2]
    exact funext fun i => (Attn.Ref.first ha i).trans (Attn.result4 hv i).symm
  · refine (Reference20Ideal.Read.val_main_v48_eq _ _).trans ?_
    rw [a0, a1, a2]
    exact funext fun i => (Attn.Ref.second ha i).trans (Attn.result5 hv i).symm

theorem frameReference21 : quiescent_Reference21Ideal (hReference21Ideal := Reference21Ideal.Gen.facts) := fun m ρ _ =>
  (θ_run Reference21Ideal.defs _ _).mono (fun r h => ⟨fun c => (h c).2.2.2.2, sem_eq_zero_of_no_sems (by decide) r.2⟩) (Reference21Ideal.Value.run m ρ)

/-- The attention's gradient's named constants are the values they stand for. -/
theorem preserves21 : preserves_Kernel21_Kernel21Ideal :=
  ⟨IdealRules.named_const.statement _ _ _ _ _ rfl, IdealRules.named_const.statement _ _ _ _ _ rfl, IdealRules.named_const.statement _ _ _ _ _ rfl, IdealRules.named_const.statement _ _ _ _ _ rfl⟩

/-- Where the inputs are finite, the attention's four gradients are the reference's. -/
theorem algebraic21 : algebraic_Kernel21Ideal_Reference21Ideal_pre_finite21 (hKernel21Ideal := Kernel21Ideal.Gen.facts)
    (hReference21Ideal := Reference21Ideal.Gen.facts) (hPre_finite21 := Pre_finite21.Gen.facts) := by
  intro m g m' g' hpre hargs
  refine ⟨_, _, _, _, AttnB.run m g, ?_⟩
  refine (θ_run (Reference21Ideal.defs) _ _).mono (fun r h c => ?_) (Reference21Ideal.Value.run m' g')
  obtain ⟨h0, h1, h2, h3, hk⟩ := h c
  obtain ⟨a0, a1, a2, a3⟩ := hargs c
  obtain ⟨p0, p1, p2, p3⟩ := hpre c
  have H := AttnB.args_of p0 p1 p2
  have G := AttnB.given_of p3
  have E := AttnB.entry H G
  refine ⟨h0.trans ?_, h1.trans ?_, h2.trans ?_, h3.trans ?_, hk⟩
  · refine (Reference21Ideal.Read.val_main_v108_eq _ _).trans ?_
    rw [a0, a1, a2, a3]
    exact (funext fun i => AttnB.Ref.v108 H G i).trans (AttnB.result7 E).symm
  · refine (Reference21Ideal.Read.val_main_v109_eq _ _).trans ?_
    rw [a0, a1, a2, a3]
    exact (funext fun i => AttnB.Ref.v109 H G i).trans (AttnB.result8 E).symm
  · refine (Reference21Ideal.Read.val_main_v89_eq _ _).trans ?_
    rw [a0, a1, a2, a3]
    exact (funext fun i => AttnB.Ref.v89 H G i).trans (AttnB.result9 E).symm
  · refine (Reference21Ideal.Read.val_main_v87_eq _ _).trans ?_
    rw [a0, a1, a2, a3]
    exact (funext fun i => AttnB.Ref.v87 H G i).trans (AttnB.result10 E).symm

theorem claim : Claim :=
  ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel18.Gen.facts, Kernel18Ideal.Gen.facts, Reference18Ideal.Gen.facts, Kernel19.Gen.facts, Kernel19Ideal.Gen.facts, Reference19Ideal.Gen.facts, Kernel20.Gen.facts, Kernel20Ideal.Gen.facts, Reference20Ideal.Gen.facts, Kernel21.Gen.facts, Kernel21Ideal.Gen.facts, Reference21Ideal.Gen.facts, Pre_finite.Gen.facts, Pre_finite20.Gen.facts, Pre_finite21.Gen.facts,
    fun m ρ _ => Kernel.Gen.frame m ρ, fun m ρ _ => KernelIdeal.Gen.frame m ρ, fun m ρ _ => KernelIdeal.Gen.frame m ρ,
    frameReference, fun m ρ _ => frameReference m ρ trivial,
    fun m ρ _ => Kernel2.Gen.frame m ρ, fun m ρ _ => Kernel2Ideal.Gen.frame m ρ, frameReference2,
    fun m ρ _ => Kernel3.Gen.frame m ρ, fun m ρ _ => Kernel3Ideal.Gen.frame m ρ, frameReference3,
    fun m ρ _ => Kernel4.Gen.frame m ρ, fun m ρ _ => Kernel4Ideal.Gen.frame m ρ, frameReference4,
    fun m ρ _ => Kernel5.Gen.frame m ρ, fun m ρ _ => Kernel5Ideal.Gen.frame m ρ, frameReference5,
    fun m ρ _ => Kernel6.Gen.frame m ρ, fun m ρ _ => Kernel6Ideal.Gen.frame m ρ, frameReference6,
    fun m ρ _ => Kernel7.Gen.frame m ρ, fun m ρ _ => Kernel7Ideal.Gen.frame m ρ, frameReference7,
    fun m ρ _ => Kernel8.Gen.frame m ρ, fun m ρ _ => Kernel8Ideal.Gen.frame m ρ, frameReference8,
    fun m ρ _ => Kernel9.Gen.frame m ρ, fun m ρ _ => Kernel9Ideal.Gen.frame m ρ, frameReference9,
    fun m ρ _ => Kernel10.Gen.frame m ρ, fun m ρ _ => Kernel10Ideal.Gen.frame m ρ, frameReference10,
    fun m ρ _ => Kernel11.Gen.frame m ρ, fun m ρ _ => Kernel11Ideal.Gen.frame m ρ, frameReference11,
    fun m ρ _ => Kernel12.Gen.frame m ρ, fun m ρ _ => Kernel12Ideal.Gen.frame m ρ, frameReference12,
    fun m ρ _ => Kernel13.Gen.frame m ρ, fun m ρ _ => Kernel13Ideal.Gen.frame m ρ, frameReference13,
    fun m ρ _ => Kernel14.Gen.frame m ρ, fun m ρ _ => Kernel14Ideal.Gen.frame m ρ, frameReference14,
    fun m ρ _ => Kernel15.Gen.frame m ρ, fun m ρ _ => Kernel15Ideal.Gen.frame m ρ, frameReference15,
    fun m ρ _ => Kernel16.Gen.frame m ρ, fun m ρ _ => Kernel16Ideal.Gen.frame m ρ, frameReference16,
    fun m ρ _ => Kernel17.Gen.frame m ρ, fun m ρ _ => Kernel17Ideal.Gen.frame m ρ, frameReference17,
    fun m ρ _ => Kernel18.Gen.frame m ρ, fun m ρ _ => Kernel18Ideal.Gen.frame m ρ, frameReference18,
    fun m ρ _ => Kernel19.Gen.frame m ρ, fun m ρ _ => Kernel19Ideal.Gen.frame m ρ, frameReference19,
    fun m ρ _ => Kernel20.Gen.frame m ρ, fun m ρ _ => Kernel20Ideal.Gen.frame m ρ, fun m ρ _ => Kernel20Ideal.Gen.frame m ρ,
    frameReference20, fun m ρ _ => frameReference20 m ρ trivial,
    fun m ρ _ => Kernel21.Gen.frame m ρ, fun m ρ _ => Kernel21Ideal.Gen.frame m ρ, fun m ρ _ => Kernel21Ideal.Gen.frame m ρ,
    frameReference21, fun m ρ _ => frameReference21 m ρ trivial,
    trivial, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    preserves20, algebraic20,
    preserves21, algebraic21⟩

end Cert.Proof

end
